-- ==== Defs.lean ====
def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_Post (m : (ℓ : Loc Cert.Post.nD Cert.Post.τ Cert.Post.sig) → Buf (Elt Bits) ℓ) : Prop :=
  True

def Pre_PostIdeal (m : (ℓ : Loc Cert.PostIdeal.nD Cert.PostIdeal.τ Cert.PostIdeal.sig) → Buf (Elt Ideal) ℓ) : Prop :=
  True

def Pre_PostRefIdeal (m : (ℓ : Loc Cert.PostRefIdeal.nD Cert.PostRefIdeal.τ Cert.PostRefIdeal.sig) → Buf (Elt Ideal) ℓ) : Prop :=
  True

def Pre_ProjS (m : (ℓ : Loc Cert.ProjS.nD Cert.ProjS.τ Cert.ProjS.sig) → Buf (Elt Bits) ℓ) : Prop :=
  True

def Pre_ProjSIdeal (m : (ℓ : Loc Cert.ProjSIdeal.nD Cert.ProjSIdeal.τ Cert.ProjSIdeal.sig) → Buf (Elt Ideal) ℓ) : Prop :=
  True

def Pre_ProjSRefIdeal (m : (ℓ : Loc Cert.ProjSRefIdeal.nD Cert.ProjSRefIdeal.τ Cert.ProjSRefIdeal.sig) → Buf (Elt Ideal) ℓ) : Prop :=
  True

def Pre_PostS (m : (ℓ : Loc Cert.PostS.nD Cert.PostS.τ Cert.PostS.sig) → Buf (Elt Bits) ℓ) : Prop :=
  True

def Pre_PostSIdeal (m : (ℓ : Loc Cert.PostSIdeal.nD Cert.PostSIdeal.τ Cert.PostSIdeal.sig) → Buf (Elt Ideal) ℓ) : Prop :=
  True

def Pre_PostSRefIdeal (m : (ℓ : Loc Cert.PostSRefIdeal.nD Cert.PostSRefIdeal.τ Cert.PostSRefIdeal.sig) → Buf (Elt Ideal) ℓ) : Prop :=
  True

def Pre_SsmS (m : (ℓ : Loc Cert.SsmS.nD Cert.SsmS.τ Cert.SsmS.sig) → Buf (Elt Bits) ℓ) : Prop :=
  True

def Pre_SsmSIdeal (m : (ℓ : Loc Cert.SsmSIdeal.nD Cert.SsmSIdeal.τ Cert.SsmSIdeal.sig) → Buf (Elt Ideal) ℓ) : Prop :=
  True

def Pre_SsmSRefIdeal (m : (ℓ : Loc Cert.SsmSRefIdeal.nD Cert.SsmSRefIdeal.τ Cert.SsmSRefIdeal.sig) → Buf (Elt Ideal) ℓ) : Prop :=
  True

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3)
      ∧ r.2.mem ((c.tc : Thread Cert.Proj.nD Cert.Proj.τ).loc Cert.Proj.main_arg4) = m ((c.tc : Thread Cert.Proj.nD Cert.Proj.τ).loc Cert.Proj.main_arg4)
      ∧ r.2.mem ((c.tc : Thread Cert.Proj.nD Cert.Proj.τ).loc Cert.Proj.main_arg5) = m ((c.tc : Thread Cert.Proj.nD Cert.Proj.τ).loc Cert.Proj.main_arg5))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
      ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2)
      ∧ r.2.mem ((c.tc : Thread Cert.ProjRefIdeal.nD Cert.ProjRefIdeal.τ).loc Cert.ProjRefIdeal.main_arg3) = m ((c.tc : Thread Cert.ProjRefIdeal.nD Cert.ProjRefIdeal.τ).loc Cert.ProjRefIdeal.main_arg3)
      ∧ r.2.mem ((c.tc : Thread Cert.ProjRefIdeal.nD Cert.ProjRefIdeal.τ).loc Cert.ProjRefIdeal.main_arg4) = m ((c.tc : Thread Cert.ProjRefIdeal.nD Cert.ProjRefIdeal.τ).loc Cert.ProjRefIdeal.main_arg4)
      ∧ r.2.mem ((c.tc : Thread Cert.ProjRefIdeal.nD Cert.ProjRefIdeal.τ).loc Cert.ProjRefIdeal.main_arg5) = m ((c.tc : Thread Cert.ProjRefIdeal.nD Cert.ProjRefIdeal.τ).loc Cert.ProjRefIdeal.main_arg5))
      ∧ r.2.sem = fun _ => 0)

def quiescent_Post [hPost : Cert.Post.Facts] : Prop :=
  ∀ (m : (ℓ : Loc Cert.Post.nD Cert.Post.τ Cert.Post.sig) → Buf (Elt Bits) ℓ) (g : Dev Cert.Post.nD → PrngReg), Pre_Post m →
    θ_run (Cert.Post.defs (F := Bits)) (onTc (τ := Cert.Post.τ) (Cert.Post.main (F := Bits))) ⟨m, fun _ => 0, g⟩ (fun r => (∀ c : Dev Cert.Post.nD,
      r.2.mem ((c.tc : Thread Cert.Post.nD Cert.Post.τ).loc Cert.Post.main_arg0) = m ((c.tc : Thread Cert.Post.nD Cert.Post.τ).loc Cert.Post.main_arg0)
      ∧ r.2.mem ((c.tc : Thread Cert.Post.nD Cert.Post.τ).loc Cert.Post.main_arg1) = m ((c.tc : Thread Cert.Post.nD Cert.Post.τ).loc Cert.Post.main_arg1)
      ∧ r.2.mem ((c.tc : Thread Cert.Post.nD Cert.Post.τ).loc Cert.Post.main_arg2) = m ((c.tc : Thread Cert.Post.nD Cert.Post.τ).loc Cert.Post.main_arg2)
      ∧ r.2.mem ((c.tc : Thread Cert.Post.nD Cert.Post.τ).loc Cert.Post.main_arg3) = m ((c.tc : Thread Cert.Post.nD Cert.Post.τ).loc Cert.Post.main_arg3)
      ∧ r.2.mem ((c.tc : Thread Cert.Post.nD Cert.Post.τ).loc Cert.Post.main_arg4) = m ((c.tc : Thread Cert.Post.nD Cert.Post.τ).loc Cert.Post.main_arg4)
      ∧ r.2.mem ((c.tc : Thread Cert.Post.nD Cert.Post.τ).loc Cert.Post.main_arg5) = m ((c.tc : Thread Cert.Post.nD Cert.Post.τ).loc Cert.Post.main_arg5)
      ∧ r.2.mem ((c.tc : Thread Cert.Post.nD Cert.Post.τ).loc Cert.Post.main_arg6) = m ((c.tc : Thread Cert.Post.nD Cert.Post.τ).loc Cert.Post.main_arg6)
      ∧ r.2.mem ((c.tc : Thread Cert.Post.nD Cert.Post.τ).loc Cert.Post.main_arg7) = m ((c.tc : Thread Cert.Post.nD Cert.Post.τ).loc Cert.Post.main_arg7)
      ∧ r.2.mem ((c.tc : Thread Cert.Post.nD Cert.Post.τ).loc Cert.Post.main_arg8) = m ((c.tc : Thread Cert.Post.nD Cert.Post.τ).loc Cert.Post.main_arg8)
      ∧ r.2.mem ((c.tc : Thread Cert.Post.nD Cert.Post.τ).loc Cert.Post.main_arg9) = m ((c.tc : Thread Cert.Post.nD Cert.Post.τ).loc Cert.Post.main_arg9)
      ∧ r.2.mem ((c.tc : Thread Cert.Post.nD Cert.Post.τ).loc Cert.Post.main_arg10) = m ((c.tc : Thread Cert.Post.nD Cert.Post.τ).loc Cert.Post.main_arg10))
      ∧ r.2.sem = fun _ => 0)

def quiescent_PostIdeal [hPostIdeal : Cert.PostIdeal.Facts] : Prop :=
  ∀ (m : (ℓ : Loc Cert.PostIdeal.nD Cert.PostIdeal.τ Cert.PostIdeal.sig) → Buf (Elt Ideal) ℓ) (g : Dev Cert.PostIdeal.nD → PrngReg), Pre_PostIdeal m →
    θ_run (Cert.PostIdeal.defs (F := Ideal)) (onTc (τ := Cert.PostIdeal.τ) (Cert.PostIdeal.main (F := Ideal))) ⟨m, fun _ => 0, g⟩ (fun r => (∀ c : Dev Cert.PostIdeal.nD,
      r.2.mem ((c.tc : Thread Cert.PostIdeal.nD Cert.PostIdeal.τ).loc Cert.PostIdeal.main_arg0) = m ((c.tc : Thread Cert.PostIdeal.nD Cert.PostIdeal.τ).loc Cert.PostIdeal.main_arg0)
      ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
      ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
      ∧ r.2.mem ((c.tc : Thread Cert.PostIdeal.nD Cert.PostIdeal.τ).loc Cert.PostIdeal.main_arg3) = m ((c.tc : Thread Cert.PostIdeal.nD Cert.PostIdeal.τ).loc Cert.PostIdeal.main_arg3)
      ∧ r.2.mem ((c.tc : Thread Cert.PostIdeal.nD Cert.PostIdeal.τ).loc Cert.PostIdeal.main_arg4) = m ((c.tc : Thread Cert.PostIdeal.nD Cert.PostIdeal.τ).loc Cert.PostIdeal.main_arg4)
      ∧ r.2.mem ((c.tc : Thread Cert.PostIdeal.nD Cert.PostIdeal.τ).loc Cert.PostIdeal.main_arg5) = m ((c.tc : Thread Cert.PostIdeal.nD Cert.PostIdeal.τ).loc Cert.PostIdeal.main_arg5)
      ∧ r.2.mem ((c.tc : Thread Cert.PostIdeal.nD Cert.PostIdeal.τ).loc Cert.PostIdeal.main_arg6) = m ((c.tc : Thread Cert.PostIdeal.nD Cert.PostIdeal.τ).loc Cert.PostIdeal.main_arg6)
      ∧ r.2.mem ((c.tc : Thread Cert.PostIdeal.nD Cert.PostIdeal.τ).loc Cert.PostIdeal.main_arg7) = m ((c.tc : Thread Cert.PostIdeal.nD Cert.PostIdeal.τ).loc Cert.PostIdeal.main_arg7)
      ∧ r.2.mem ((c.tc : Thread Cert.PostIdeal.nD Cert.PostIdeal.τ).loc Cert.PostIdeal.main_arg8) = m ((c.tc : Thread Cert.PostIdeal.nD Cert.PostIdeal.τ).loc Cert.PostIdeal.main_arg8)
      ∧ r.2.mem ((c.tc : Thread Cert.PostIdeal.nD Cert.PostIdeal.τ).loc Cert.PostIdeal.main_arg9) = m ((c.tc : Thread Cert.PostIdeal.nD Cert.PostIdeal.τ).loc Cert.PostIdeal.main_arg9)
      ∧ r.2.mem ((c.tc : Thread Cert.PostIdeal.nD Cert.PostIdeal.τ).loc Cert.PostIdeal.main_arg10) = m ((c.tc : Thread Cert.PostIdeal.nD Cert.PostIdeal.τ).loc Cert.PostIdeal.main_arg10))
      ∧ r.2.sem = fun _ => 0)

def quiescent_PostRefIdeal [hPostRefIdeal : Cert.PostRefIdeal.Facts] : Prop :=
  ∀ (m : (ℓ : Loc Cert.PostRefIdeal.nD Cert.PostRefIdeal.τ Cert.PostRefIdeal.sig) → Buf (Elt Ideal) ℓ) (g : Dev Cert.PostRefIdeal.nD → PrngReg), Pre_PostRefIdeal m →
    θ_run (Cert.PostRefIdeal.defs (F := Ideal)) (onTc (τ := Cert.PostRefIdeal.τ) (Cert.PostRefIdeal.main (F := Ideal))) ⟨m, fun _ => 0, g⟩ (fun r => (∀ c : Dev Cert.PostRefIdeal.nD,
      r.2.mem ((c.tc : Thread Cert.PostRefIdeal.nD Cert.PostRefIdeal.τ).loc Cert.PostRefIdeal.main_arg0) = m ((c.tc : Thread Cert.PostRefIdeal.nD Cert.PostRefIdeal.τ).loc Cert.PostRefIdeal.main_arg0)
      ∧ r.2.mem ((c.tc : Thread Cert.PostRefIdeal.nD Cert.PostRefIdeal.τ).loc Cert.PostRefIdeal.main_arg1) = m ((c.tc : Thread Cert.PostRefIdeal.nD Cert.PostRefIdeal.τ).loc Cert.PostRefIdeal.main_arg1)
      ∧ r.2.mem ((c.tc : Thread Cert.PostRefIdeal.nD Cert.PostRefIdeal.τ).loc Cert.PostRefIdeal.main_arg2) = m ((c.tc : Thread Cert.PostRefIdeal.nD Cert.PostRefIdeal.τ).loc Cert.PostRefIdeal.main_arg2)
      ∧ r.2.mem ((c.tc : Thread Cert.PostRefIdeal.nD Cert.PostRefIdeal.τ).loc Cert.PostRefIdeal.main_arg3) = m ((c.tc : Thread Cert.PostRefIdeal.nD Cert.PostRefIdeal.τ).loc Cert.PostRefIdeal.main_arg3)
      ∧ r.2.mem ((c.tc : Thread Cert.PostRefIdeal.nD Cert.PostRefIdeal.τ).loc Cert.PostRefIdeal.main_arg4) = m ((c.tc : Thread Cert.PostRefIdeal.nD Cert.PostRefIdeal.τ).loc Cert.PostRefIdeal.main_arg4)
      ∧ r.2.mem ((c.tc : Thread Cert.PostRefIdeal.nD Cert.PostRefIdeal.τ).loc Cert.PostRefIdeal.main_arg5) = m ((c.tc : Thread Cert.PostRefIdeal.nD Cert.PostRefIdeal.τ).loc Cert.PostRefIdeal.main_arg5)
      ∧ r.2.mem ((c.tc : Thread Cert.PostRefIdeal.nD Cert.PostRefIdeal.τ).loc Cert.PostRefIdeal.main_arg6) = m ((c.tc : Thread Cert.PostRefIdeal.nD Cert.PostRefIdeal.τ).loc Cert.PostRefIdeal.main_arg6)
      ∧ r.2.mem ((c.tc : Thread Cert.PostRefIdeal.nD Cert.PostRefIdeal.τ).loc Cert.PostRefIdeal.main_arg7) = m ((c.tc : Thread Cert.PostRefIdeal.nD Cert.PostRefIdeal.τ).loc Cert.PostRefIdeal.main_arg7)
      ∧ r.2.mem ((c.tc : Thread Cert.PostRefIdeal.nD Cert.PostRefIdeal.τ).loc Cert.PostRefIdeal.main_arg8) = m ((c.tc : Thread Cert.PostRefIdeal.nD Cert.PostRefIdeal.τ).loc Cert.PostRefIdeal.main_arg8)
      ∧ r.2.mem ((c.tc : Thread Cert.PostRefIdeal.nD Cert.PostRefIdeal.τ).loc Cert.PostRefIdeal.main_arg9) = m ((c.tc : Thread Cert.PostRefIdeal.nD Cert.PostRefIdeal.τ).loc Cert.PostRefIdeal.main_arg9)
      ∧ r.2.mem ((c.tc : Thread Cert.PostRefIdeal.nD Cert.PostRefIdeal.τ).loc Cert.PostRefIdeal.main_arg10) = m ((c.tc : Thread Cert.PostRefIdeal.nD Cert.PostRefIdeal.τ).loc Cert.PostRefIdeal.main_arg10))
      ∧ r.2.sem = fun _ => 0)

def quiescent_ProjS [hProjS : Cert.ProjS.Facts] : Prop :=
  ∀ (m : (ℓ : Loc Cert.ProjS.nD Cert.ProjS.τ Cert.ProjS.sig) → Buf (Elt Bits) ℓ) (g : Dev Cert.ProjS.nD → PrngReg), Pre_ProjS m →
    θ_run (Cert.ProjS.defs (F := Bits)) (onTc (τ := Cert.ProjS.τ) (Cert.ProjS.main (F := Bits))) ⟨m, fun _ => 0, g⟩ (fun r => (∀ c : Dev Cert.ProjS.nD,
      r.2.mem ((c.tc : Thread Cert.ProjS.nD Cert.ProjS.τ).loc Cert.ProjS.main_arg0) = m ((c.tc : Thread Cert.ProjS.nD Cert.ProjS.τ).loc Cert.ProjS.main_arg0)
      ∧ r.2.mem ((c.tc : Thread Cert.ProjS.nD Cert.ProjS.τ).loc Cert.ProjS.main_arg1) = m ((c.tc : Thread Cert.ProjS.nD Cert.ProjS.τ).loc Cert.ProjS.main_arg1)
      ∧ r.2.mem ((c.tc : Thread Cert.ProjS.nD Cert.ProjS.τ).loc Cert.ProjS.main_arg2) = m ((c.tc : Thread Cert.ProjS.nD Cert.ProjS.τ).loc Cert.ProjS.main_arg2)
      ∧ r.2.mem ((c.tc : Thread Cert.ProjS.nD Cert.ProjS.τ).loc Cert.ProjS.main_arg3) = m ((c.tc : Thread Cert.ProjS.nD Cert.ProjS.τ).loc Cert.ProjS.main_arg3)
      ∧ r.2.mem ((c.tc : Thread Cert.ProjS.nD Cert.ProjS.τ).loc Cert.ProjS.main_arg4) = m ((c.tc : Thread Cert.ProjS.nD Cert.ProjS.τ).loc Cert.ProjS.main_arg4))
      ∧ r.2.sem = fun _ => 0)

def quiescent_ProjSIdeal [hProjSIdeal : Cert.ProjSIdeal.Facts] : Prop :=
  ∀ (m : (ℓ : Loc Cert.ProjSIdeal.nD Cert.ProjSIdeal.τ Cert.ProjSIdeal.sig) → Buf (Elt Ideal) ℓ) (g : Dev Cert.ProjSIdeal.nD → PrngReg), Pre_ProjSIdeal m →
    θ_run (Cert.ProjSIdeal.defs (F := Ideal)) (onTc (τ := Cert.ProjSIdeal.τ) (Cert.ProjSIdeal.main (F := Ideal))) ⟨m, fun _ => 0, g⟩ (fun r => (∀ c : Dev Cert.ProjSIdeal.nD,
      r.2.mem ((c.tc : Thread Cert.ProjSIdeal.nD Cert.ProjSIdeal.τ).loc Cert.ProjSIdeal.main_arg0) = m ((c.tc : Thread Cert.ProjSIdeal.nD Cert.ProjSIdeal.τ).loc Cert.ProjSIdeal.main_arg0)
      ∧ r.2.mem ((c.tc : Thread Cert.ProjSIdeal.nD Cert.ProjSIdeal.τ).loc Cert.ProjSIdeal.main_arg1) = m ((c.tc : Thread Cert.ProjSIdeal.nD Cert.ProjSIdeal.τ).loc Cert.ProjSIdeal.main_arg1)
      ∧ r.2.mem ((c.tc : Thread Cert.ProjSIdeal.nD Cert.ProjSIdeal.τ).loc Cert.ProjSIdeal.main_arg2) = m ((c.tc : Thread Cert.ProjSIdeal.nD Cert.ProjSIdeal.τ).loc Cert.ProjSIdeal.main_arg2)
      ∧ r.2.mem ((c.tc : Thread Cert.ProjSIdeal.nD Cert.ProjSIdeal.τ).loc Cert.ProjSIdeal.main_arg3) = m ((c.tc : Thread Cert.ProjSIdeal.nD Cert.ProjSIdeal.τ).loc Cert.ProjSIdeal.main_arg3)
      ∧ r.2.mem ((c.tc : Thread Cert.ProjSIdeal.nD Cert.ProjSIdeal.τ).loc Cert.ProjSIdeal.main_arg4) = m ((c.tc : Thread Cert.ProjSIdeal.nD Cert.ProjSIdeal.τ).loc Cert.ProjSIdeal.main_arg4))
      ∧ r.2.sem = fun _ => 0)

def quiescent_ProjSRefIdeal [hProjSRefIdeal : Cert.ProjSRefIdeal.Facts] : Prop :=
  ∀ (m : (ℓ : Loc Cert.ProjSRefIdeal.nD Cert.ProjSRefIdeal.τ Cert.ProjSRefIdeal.sig) → Buf (Elt Ideal) ℓ) (g : Dev Cert.ProjSRefIdeal.nD → PrngReg), Pre_ProjSRefIdeal m →
    θ_run (Cert.ProjSRefIdeal.defs (F := Ideal)) (onTc (τ := Cert.ProjSRefIdeal.τ) (Cert.ProjSRefIdeal.main (F := Ideal))) ⟨m, fun _ => 0, g⟩ (fun r => (∀ c : Dev Cert.ProjSRefIdeal.nD,
      r.2.mem ((c.tc : Thread Cert.ProjSRefIdeal.nD Cert.ProjSRefIdeal.τ).loc Cert.ProjSRefIdeal.main_arg0) = m ((c.tc : Thread Cert.ProjSRefIdeal.nD Cert.ProjSRefIdeal.τ).loc Cert.ProjSRefIdeal.main_arg0)
      ∧ r.2.mem ((c.tc : Thread Cert.ProjSRefIdeal.nD Cert.ProjSRefIdeal.τ).loc Cert.ProjSRefIdeal.main_arg1) = m ((c.tc : Thread Cert.ProjSRefIdeal.nD Cert.ProjSRefIdeal.τ).loc Cert.ProjSRefIdeal.main_arg1)
      ∧ r.2.mem ((c.tc : Thread Cert.ProjSRefIdeal.nD Cert.ProjSRefIdeal.τ).loc Cert.ProjSRefIdeal.main_arg2) = m ((c.tc : Thread Cert.ProjSRefIdeal.nD Cert.ProjSRefIdeal.τ).loc Cert.ProjSRefIdeal.main_arg2)
      ∧ r.2.mem ((c.tc : Thread Cert.ProjSRefIdeal.nD Cert.ProjSRefIdeal.τ).loc Cert.ProjSRefIdeal.main_arg3) = m ((c.tc : Thread Cert.ProjSRefIdeal.nD Cert.ProjSRefIdeal.τ).loc Cert.ProjSRefIdeal.main_arg3)
      ∧ r.2.mem ((c.tc : Thread Cert.ProjSRefIdeal.nD Cert.ProjSRefIdeal.τ).loc Cert.ProjSRefIdeal.main_arg4) = m ((c.tc : Thread Cert.ProjSRefIdeal.nD Cert.ProjSRefIdeal.τ).loc Cert.ProjSRefIdeal.main_arg4))
      ∧ r.2.sem = fun _ => 0)

def quiescent_PostS [hPostS : Cert.PostS.Facts] : Prop :=
  ∀ (m : (ℓ : Loc Cert.PostS.nD Cert.PostS.τ Cert.PostS.sig) → Buf (Elt Bits) ℓ) (g : Dev Cert.PostS.nD → PrngReg), Pre_PostS m →
    θ_run (Cert.PostS.defs (F := Bits)) (onTc (τ := Cert.PostS.τ) (Cert.PostS.main (F := Bits))) ⟨m, fun _ => 0, g⟩ (fun r => (∀ c : Dev Cert.PostS.nD,
      r.2.mem ((c.tc : Thread Cert.PostS.nD Cert.PostS.τ).loc Cert.PostS.main_arg0) = m ((c.tc : Thread Cert.PostS.nD Cert.PostS.τ).loc Cert.PostS.main_arg0)
      ∧ r.2.mem ((c.tc : Thread Cert.PostS.nD Cert.PostS.τ).loc Cert.PostS.main_arg1) = m ((c.tc : Thread Cert.PostS.nD Cert.PostS.τ).loc Cert.PostS.main_arg1)
      ∧ r.2.mem ((c.tc : Thread Cert.PostS.nD Cert.PostS.τ).loc Cert.PostS.main_arg2) = m ((c.tc : Thread Cert.PostS.nD Cert.PostS.τ).loc Cert.PostS.main_arg2)
      ∧ r.2.mem ((c.tc : Thread Cert.PostS.nD Cert.PostS.τ).loc Cert.PostS.main_arg3) = m ((c.tc : Thread Cert.PostS.nD Cert.PostS.τ).loc Cert.PostS.main_arg3)
      ∧ r.2.mem ((c.tc : Thread Cert.PostS.nD Cert.PostS.τ).loc Cert.PostS.main_arg4) = m ((c.tc : Thread Cert.PostS.nD Cert.PostS.τ).loc Cert.PostS.main_arg4)
      ∧ r.2.mem ((c.tc : Thread Cert.PostS.nD Cert.PostS.τ).loc Cert.PostS.main_arg5) = m ((c.tc : Thread Cert.PostS.nD Cert.PostS.τ).loc Cert.PostS.main_arg5)
      ∧ r.2.mem ((c.tc : Thread Cert.PostS.nD Cert.PostS.τ).loc Cert.PostS.main_arg6) = m ((c.tc : Thread Cert.PostS.nD Cert.PostS.τ).loc Cert.PostS.main_arg6)
      ∧ r.2.mem ((c.tc : Thread Cert.PostS.nD Cert.PostS.τ).loc Cert.PostS.main_arg7) = m ((c.tc : Thread Cert.PostS.nD Cert.PostS.τ).loc Cert.PostS.main_arg7)
      ∧ r.2.mem ((c.tc : Thread Cert.PostS.nD Cert.PostS.τ).loc Cert.PostS.main_arg8) = m ((c.tc : Thread Cert.PostS.nD Cert.PostS.τ).loc Cert.PostS.main_arg8)
      ∧ r.2.mem ((c.tc : Thread Cert.PostS.nD Cert.PostS.τ).loc Cert.PostS.main_arg9) = m ((c.tc : Thread Cert.PostS.nD Cert.PostS.τ).loc Cert.PostS.main_arg9)
      ∧ r.2.mem ((c.tc : Thread Cert.PostS.nD Cert.PostS.τ).loc Cert.PostS.main_arg10) = m ((c.tc : Thread Cert.PostS.nD Cert.PostS.τ).loc Cert.PostS.main_arg10))
      ∧ r.2.sem = fun _ => 0)

def quiescent_PostSIdeal [hPostSIdeal : Cert.PostSIdeal.Facts] : Prop :=
  ∀ (m : (ℓ : Loc Cert.PostSIdeal.nD Cert.PostSIdeal.τ Cert.PostSIdeal.sig) → Buf (Elt Ideal) ℓ) (g : Dev Cert.PostSIdeal.nD → PrngReg), Pre_PostSIdeal m →
    θ_run (Cert.PostSIdeal.defs (F := Ideal)) (onTc (τ := Cert.PostSIdeal.τ) (Cert.PostSIdeal.main (F := Ideal))) ⟨m, fun _ => 0, g⟩ (fun r => (∀ c : Dev Cert.PostSIdeal.nD,
      r.2.mem ((c.tc : Thread Cert.PostSIdeal.nD Cert.PostSIdeal.τ).loc Cert.PostSIdeal.main_arg0) = m ((c.tc : Thread Cert.PostSIdeal.nD Cert.PostSIdeal.τ).loc Cert.PostSIdeal.main_arg0)
      ∧ r.2.mem ((c.tc : Thread Cert.PostSIdeal.nD Cert.PostSIdeal.τ).loc Cert.PostSIdeal.main_arg1) = m ((c.tc : Thread Cert.PostSIdeal.nD Cert.PostSIdeal.τ).loc Cert.PostSIdeal.main_arg1)
      ∧ r.2.mem ((c.tc : Thread Cert.PostSIdeal.nD Cert.PostSIdeal.τ).loc Cert.PostSIdeal.main_arg2) = m ((c.tc : Thread Cert.PostSIdeal.nD Cert.PostSIdeal.τ).loc Cert.PostSIdeal.main_arg2)
      ∧ r.2.mem ((c.tc : Thread Cert.PostSIdeal.nD Cert.PostSIdeal.τ).loc Cert.PostSIdeal.main_arg3) = m ((c.tc : Thread Cert.PostSIdeal.nD Cert.PostSIdeal.τ).loc Cert.PostSIdeal.main_arg3)
      ∧ r.2.mem ((c.tc : Thread Cert.PostSIdeal.nD Cert.PostSIdeal.τ).loc Cert.PostSIdeal.main_arg4) = m ((c.tc : Thread Cert.PostSIdeal.nD Cert.PostSIdeal.τ).loc Cert.PostSIdeal.main_arg4)
      ∧ r.2.mem ((c.tc : Thread Cert.PostSIdeal.nD Cert.PostSIdeal.τ).loc Cert.PostSIdeal.main_arg5) = m ((c.tc : Thread Cert.PostSIdeal.nD Cert.PostSIdeal.τ).loc Cert.PostSIdeal.main_arg5)
      ∧ r.2.mem ((c.tc : Thread Cert.PostSIdeal.nD Cert.PostSIdeal.τ).loc Cert.PostSIdeal.main_arg6) = m ((c.tc : Thread Cert.PostSIdeal.nD Cert.PostSIdeal.τ).loc Cert.PostSIdeal.main_arg6)
      ∧ r.2.mem ((c.tc : Thread Cert.PostSIdeal.nD Cert.PostSIdeal.τ).loc Cert.PostSIdeal.main_arg7) = m ((c.tc : Thread Cert.PostSIdeal.nD Cert.PostSIdeal.τ).loc Cert.PostSIdeal.main_arg7)
      ∧ r.2.mem ((c.tc : Thread Cert.PostSIdeal.nD Cert.PostSIdeal.τ).loc Cert.PostSIdeal.main_arg8) = m ((c.tc : Thread Cert.PostSIdeal.nD Cert.PostSIdeal.τ).loc Cert.PostSIdeal.main_arg8)
      ∧ r.2.mem ((c.tc : Thread Cert.PostSIdeal.nD Cert.PostSIdeal.τ).loc Cert.PostSIdeal.main_arg9) = m ((c.tc : Thread Cert.PostSIdeal.nD Cert.PostSIdeal.τ).loc Cert.PostSIdeal.main_arg9)
      ∧ r.2.mem ((c.tc : Thread Cert.PostSIdeal.nD Cert.PostSIdeal.τ).loc Cert.PostSIdeal.main_arg10) = m ((c.tc : Thread Cert.PostSIdeal.nD Cert.PostSIdeal.τ).loc Cert.PostSIdeal.main_arg10))
      ∧ r.2.sem = fun _ => 0)

def quiescent_PostSRefIdeal [hPostSRefIdeal : Cert.PostSRefIdeal.Facts] : Prop :=
  ∀ (m : (ℓ : Loc Cert.PostSRefIdeal.nD Cert.PostSRefIdeal.τ Cert.PostSRefIdeal.sig) → Buf (Elt Ideal) ℓ) (g : Dev Cert.PostSRefIdeal.nD → PrngReg), Pre_PostSRefIdeal m →
    θ_run (Cert.PostSRefIdeal.defs (F := Ideal)) (onTc (τ := Cert.PostSRefIdeal.τ) (Cert.PostSRefIdeal.main (F := Ideal))) ⟨m, fun _ => 0, g⟩ (fun r => (∀ c : Dev Cert.PostSRefIdeal.nD,
      r.2.mem ((c.tc : Thread Cert.PostSRefIdeal.nD Cert.PostSRefIdeal.τ).loc Cert.PostSRefIdeal.main_arg0) = m ((c.tc : Thread Cert.PostSRefIdeal.nD Cert.PostSRefIdeal.τ).loc Cert.PostSRefIdeal.main_arg0)
      ∧ r.2.mem ((c.tc : Thread Cert.PostSRefIdeal.nD Cert.PostSRefIdeal.τ).loc Cert.PostSRefIdeal.main_arg1) = m ((c.tc : Thread Cert.PostSRefIdeal.nD Cert.PostSRefIdeal.τ).loc Cert.PostSRefIdeal.main_arg1)
      ∧ r.2.mem ((c.tc : Thread Cert.PostSRefIdeal.nD Cert.PostSRefIdeal.τ).loc Cert.PostSRefIdeal.main_arg2) = m ((c.tc : Thread Cert.PostSRefIdeal.nD Cert.PostSRefIdeal.τ).loc Cert.PostSRefIdeal.main_arg2)
      ∧ r.2.mem ((c.tc : Thread Cert.PostSRefIdeal.nD Cert.PostSRefIdeal.τ).loc Cert.PostSRefIdeal.main_arg3) = m ((c.tc : Thread Cert.PostSRefIdeal.nD Cert.PostSRefIdeal.τ).loc Cert.PostSRefIdeal.main_arg3)
      ∧ r.2.mem ((c.tc : Thread Cert.PostSRefIdeal.nD Cert.PostSRefIdeal.τ).loc Cert.PostSRefIdeal.main_arg4) = m ((c.tc : Thread Cert.PostSRefIdeal.nD Cert.PostSRefIdeal.τ).loc Cert.PostSRefIdeal.main_arg4)
      ∧ r.2.mem ((c.tc : Thread Cert.PostSRefIdeal.nD Cert.PostSRefIdeal.τ).loc Cert.PostSRefIdeal.main_arg5) = m ((c.tc : Thread Cert.PostSRefIdeal.nD Cert.PostSRefIdeal.τ).loc Cert.PostSRefIdeal.main_arg5)
      ∧ r.2.mem ((c.tc : Thread Cert.PostSRefIdeal.nD Cert.PostSRefIdeal.τ).loc Cert.PostSRefIdeal.main_arg6) = m ((c.tc : Thread Cert.PostSRefIdeal.nD Cert.PostSRefIdeal.τ).loc Cert.PostSRefIdeal.main_arg6)
      ∧ r.2.mem ((c.tc : Thread Cert.PostSRefIdeal.nD Cert.PostSRefIdeal.τ).loc Cert.PostSRefIdeal.main_arg7) = m ((c.tc : Thread Cert.PostSRefIdeal.nD Cert.PostSRefIdeal.τ).loc Cert.PostSRefIdeal.main_arg7)
      ∧ r.2.mem ((c.tc : Thread Cert.PostSRefIdeal.nD Cert.PostSRefIdeal.τ).loc Cert.PostSRefIdeal.main_arg8) = m ((c.tc : Thread Cert.PostSRefIdeal.nD Cert.PostSRefIdeal.τ).loc Cert.PostSRefIdeal.main_arg8)
      ∧ r.2.mem ((c.tc : Thread Cert.PostSRefIdeal.nD Cert.PostSRefIdeal.τ).loc Cert.PostSRefIdeal.main_arg9) = m ((c.tc : Thread Cert.PostSRefIdeal.nD Cert.PostSRefIdeal.τ).loc Cert.PostSRefIdeal.main_arg9)
      ∧ r.2.mem ((c.tc : Thread Cert.PostSRefIdeal.nD Cert.PostSRefIdeal.τ).loc Cert.PostSRefIdeal.main_arg10) = m ((c.tc : Thread Cert.PostSRefIdeal.nD Cert.PostSRefIdeal.τ).loc Cert.PostSRefIdeal.main_arg10))
      ∧ r.2.sem = fun _ => 0)

def quiescent_SsmS [hSsmS : Cert.SsmS.Facts] : Prop :=
  ∀ (m : (ℓ : Loc Cert.SsmS.nD Cert.SsmS.τ Cert.SsmS.sig) → Buf (Elt Bits) ℓ) (g : Dev Cert.SsmS.nD → PrngReg), Pre_SsmS m →
    θ_run (Cert.SsmS.defs (F := Bits)) (onTc (τ := Cert.SsmS.τ) (Cert.SsmS.main (F := Bits))) ⟨m, fun _ => 0, g⟩ (fun r => (∀ c : Dev Cert.SsmS.nD,
      r.2.mem ((c.tc : Thread Cert.SsmS.nD Cert.SsmS.τ).loc Cert.SsmS.main_arg0) = m ((c.tc : Thread Cert.SsmS.nD Cert.SsmS.τ).loc Cert.SsmS.main_arg0)
      ∧ r.2.mem ((c.tc : Thread Cert.SsmS.nD Cert.SsmS.τ).loc Cert.SsmS.main_arg1) = m ((c.tc : Thread Cert.SsmS.nD Cert.SsmS.τ).loc Cert.SsmS.main_arg1)
      ∧ r.2.mem ((c.tc : Thread Cert.SsmS.nD Cert.SsmS.τ).loc Cert.SsmS.main_arg2) = m ((c.tc : Thread Cert.SsmS.nD Cert.SsmS.τ).loc Cert.SsmS.main_arg2)
      ∧ r.2.mem ((c.tc : Thread Cert.SsmS.nD Cert.SsmS.τ).loc Cert.SsmS.main_arg3) = m ((c.tc : Thread Cert.SsmS.nD Cert.SsmS.τ).loc Cert.SsmS.main_arg3)
      ∧ r.2.mem ((c.tc : Thread Cert.SsmS.nD Cert.SsmS.τ).loc Cert.SsmS.main_arg4) = m ((c.tc : Thread Cert.SsmS.nD Cert.SsmS.τ).loc Cert.SsmS.main_arg4)
      ∧ r.2.mem ((c.tc : Thread Cert.SsmS.nD Cert.SsmS.τ).loc Cert.SsmS.main_arg5) = m ((c.tc : Thread Cert.SsmS.nD Cert.SsmS.τ).loc Cert.SsmS.main_arg5)
      ∧ r.2.mem ((c.tc : Thread Cert.SsmS.nD Cert.SsmS.τ).loc Cert.SsmS.main_arg6) = m ((c.tc : Thread Cert.SsmS.nD Cert.SsmS.τ).loc Cert.SsmS.main_arg6)
      ∧ r.2.mem ((c.tc : Thread Cert.SsmS.nD Cert.SsmS.τ).loc Cert.SsmS.main_arg7) = m ((c.tc : Thread Cert.SsmS.nD Cert.SsmS.τ).loc Cert.SsmS.main_arg7)
      ∧ r.2.mem ((c.tc : Thread Cert.SsmS.nD Cert.SsmS.τ).loc Cert.SsmS.main_arg8) = m ((c.tc : Thread Cert.SsmS.nD Cert.SsmS.τ).loc Cert.SsmS.main_arg8)
      ∧ r.2.mem ((c.tc : Thread Cert.SsmS.nD Cert.SsmS.τ).loc Cert.SsmS.main_arg9) = m ((c.tc : Thread Cert.SsmS.nD Cert.SsmS.τ).loc Cert.SsmS.main_arg9)
      ∧ r.2.mem ((c.tc : Thread Cert.SsmS.nD Cert.SsmS.τ).loc Cert.SsmS.main_arg10) = m ((c.tc : Thread Cert.SsmS.nD Cert.SsmS.τ).loc Cert.SsmS.main_arg10)
      ∧ r.2.mem ((c.tc : Thread Cert.SsmS.nD Cert.SsmS.τ).loc Cert.SsmS.main_arg11) = m ((c.tc : Thread Cert.SsmS.nD Cert.SsmS.τ).loc Cert.SsmS.main_arg11))
      ∧ r.2.sem = fun _ => 0)

def quiescent_SsmSIdeal [hSsmSIdeal : Cert.SsmSIdeal.Facts] : Prop :=
  ∀ (m : (ℓ : Loc Cert.SsmSIdeal.nD Cert.SsmSIdeal.τ Cert.SsmSIdeal.sig) → Buf (Elt Ideal) ℓ) (g : Dev Cert.SsmSIdeal.nD → PrngReg), Pre_SsmSIdeal m →
    θ_run (Cert.SsmSIdeal.defs (F := Ideal)) (onTc (τ := Cert.SsmSIdeal.τ) (Cert.SsmSIdeal.main (F := Ideal))) ⟨m, fun _ => 0, g⟩ (fun r => (∀ c : Dev Cert.SsmSIdeal.nD,
      r.2.mem ((c.tc : Thread Cert.SsmSIdeal.nD Cert.SsmSIdeal.τ).loc Cert.SsmSIdeal.main_arg0) = m ((c.tc : Thread Cert.SsmSIdeal.nD Cert.SsmSIdeal.τ).loc Cert.SsmSIdeal.main_arg0)
      ∧ r.2.mem ((c.tc : Thread Cert.SsmSIdeal.nD Cert.SsmSIdeal.τ).loc Cert.SsmSIdeal.main_arg1) = m ((c.tc : Thread Cert.SsmSIdeal.nD Cert.SsmSIdeal.τ).loc Cert.SsmSIdeal.main_arg1)
      ∧ r.2.mem ((c.tc : Thread Cert.SsmSIdeal.nD Cert.SsmSIdeal.τ).loc Cert.SsmSIdeal.main_arg2) = m ((c.tc : Thread Cert.SsmSIdeal.nD Cert.SsmSIdeal.τ).loc Cert.SsmSIdeal.main_arg2)
      ∧ r.2.mem ((c.tc : Thread Cert.SsmSIdeal.nD Cert.SsmSIdeal.τ).loc Cert.SsmSIdeal.main_arg3) = m ((c.tc : Thread Cert.SsmSIdeal.nD Cert.SsmSIdeal.τ).loc Cert.SsmSIdeal.main_arg3)
      ∧ r.2.mem ((c.tc : Thread Cert.SsmSIdeal.nD Cert.SsmSIdeal.τ).loc Cert.SsmSIdeal.main_arg4) = m ((c.tc : Thread Cert.SsmSIdeal.nD Cert.SsmSIdeal.τ).loc Cert.SsmSIdeal.main_arg4)
      ∧ r.2.mem ((c.tc : Thread Cert.SsmSIdeal.nD Cert.SsmSIdeal.τ).loc Cert.SsmSIdeal.main_arg5) = m ((c.tc : Thread Cert.SsmSIdeal.nD Cert.SsmSIdeal.τ).loc Cert.SsmSIdeal.main_arg5)
      ∧ r.2.mem ((c.tc : Thread Cert.SsmSIdeal.nD Cert.SsmSIdeal.τ).loc Cert.SsmSIdeal.main_arg6) = m ((c.tc : Thread Cert.SsmSIdeal.nD Cert.SsmSIdeal.τ).loc Cert.SsmSIdeal.main_arg6)
      ∧ r.2.mem ((c.tc : Thread Cert.SsmSIdeal.nD Cert.SsmSIdeal.τ).loc Cert.SsmSIdeal.main_arg7) = m ((c.tc : Thread Cert.SsmSIdeal.nD Cert.SsmSIdeal.τ).loc Cert.SsmSIdeal.main_arg7)
      ∧ r.2.mem ((c.tc : Thread Cert.SsmSIdeal.nD Cert.SsmSIdeal.τ).loc Cert.SsmSIdeal.main_arg8) = m ((c.tc : Thread Cert.SsmSIdeal.nD Cert.SsmSIdeal.τ).loc Cert.SsmSIdeal.main_arg8)
      ∧ r.2.mem ((c.tc : Thread Cert.SsmSIdeal.nD Cert.SsmSIdeal.τ).loc Cert.SsmSIdeal.main_arg9) = m ((c.tc : Thread Cert.SsmSIdeal.nD Cert.SsmSIdeal.τ).loc Cert.SsmSIdeal.main_arg9)
      ∧ r.2.mem ((c.tc : Thread Cert.SsmSIdeal.nD Cert.SsmSIdeal.τ).loc Cert.SsmSIdeal.main_arg10) = m ((c.tc : Thread Cert.SsmSIdeal.nD Cert.SsmSIdeal.τ).loc Cert.SsmSIdeal.main_arg10)
      ∧ r.2.mem ((c.tc : Thread Cert.SsmSIdeal.nD Cert.SsmSIdeal.τ).loc Cert.SsmSIdeal.main_arg11) = m ((c.tc : Thread Cert.SsmSIdeal.nD Cert.SsmSIdeal.τ).loc Cert.SsmSIdeal.main_arg11))
      ∧ r.2.sem = fun _ => 0)

def quiescent_SsmSRefIdeal [hSsmSRefIdeal : Cert.SsmSRefIdeal.Facts] : Prop :=
  ∀ (m : (ℓ : Loc Cert.SsmSRefIdeal.nD Cert.SsmSRefIdeal.τ Cert.SsmSRefIdeal.sig) → Buf (Elt Ideal) ℓ) (g : Dev Cert.SsmSRefIdeal.nD → PrngReg), Pre_SsmSRefIdeal m →
    θ_run (Cert.SsmSRefIdeal.defs (F := Ideal)) (onTc (τ := Cert.SsmSRefIdeal.τ) (Cert.SsmSRefIdeal.main (F := Ideal))) ⟨m, fun _ => 0, g⟩ (fun r => (∀ c : Dev Cert.SsmSRefIdeal.nD,
      r.2.mem ((c.tc : Thread Cert.SsmSRefIdeal.nD Cert.SsmSRefIdeal.τ).loc Cert.SsmSRefIdeal.main_arg0) = m ((c.tc : Thread Cert.SsmSRefIdeal.nD Cert.SsmSRefIdeal.τ).loc Cert.SsmSRefIdeal.main_arg0)
      ∧ r.2.mem ((c.tc : Thread Cert.SsmSRefIdeal.nD Cert.SsmSRefIdeal.τ).loc Cert.SsmSRefIdeal.main_arg1) = m ((c.tc : Thread Cert.SsmSRefIdeal.nD Cert.SsmSRefIdeal.τ).loc Cert.SsmSRefIdeal.main_arg1)
      ∧ r.2.mem ((c.tc : Thread Cert.SsmSRefIdeal.nD Cert.SsmSRefIdeal.τ).loc Cert.SsmSRefIdeal.main_arg2) = m ((c.tc : Thread Cert.SsmSRefIdeal.nD Cert.SsmSRefIdeal.τ).loc Cert.SsmSRefIdeal.main_arg2)
      ∧ r.2.mem ((c.tc : Thread Cert.SsmSRefIdeal.nD Cert.SsmSRefIdeal.τ).loc Cert.SsmSRefIdeal.main_arg3) = m ((c.tc : Thread Cert.SsmSRefIdeal.nD Cert.SsmSRefIdeal.τ).loc Cert.SsmSRefIdeal.main_arg3)
      ∧ r.2.mem ((c.tc : Thread Cert.SsmSRefIdeal.nD Cert.SsmSRefIdeal.τ).loc Cert.SsmSRefIdeal.main_arg4) = m ((c.tc : Thread Cert.SsmSRefIdeal.nD Cert.SsmSRefIdeal.τ).loc Cert.SsmSRefIdeal.main_arg4)
      ∧ r.2.mem ((c.tc : Thread Cert.SsmSRefIdeal.nD Cert.SsmSRefIdeal.τ).loc Cert.SsmSRefIdeal.main_arg5) = m ((c.tc : Thread Cert.SsmSRefIdeal.nD Cert.SsmSRefIdeal.τ).loc Cert.SsmSRefIdeal.main_arg5)
      ∧ r.2.mem ((c.tc : Thread Cert.SsmSRefIdeal.nD Cert.SsmSRefIdeal.τ).loc Cert.SsmSRefIdeal.main_arg6) = m ((c.tc : Thread Cert.SsmSRefIdeal.nD Cert.SsmSRefIdeal.τ).loc Cert.SsmSRefIdeal.main_arg6)
      ∧ r.2.mem ((c.tc : Thread Cert.SsmSRefIdeal.nD Cert.SsmSRefIdeal.τ).loc Cert.SsmSRefIdeal.main_arg7) = m ((c.tc : Thread Cert.SsmSRefIdeal.nD Cert.SsmSRefIdeal.τ).loc Cert.SsmSRefIdeal.main_arg7)
      ∧ r.2.mem ((c.tc : Thread Cert.SsmSRefIdeal.nD Cert.SsmSRefIdeal.τ).loc Cert.SsmSRefIdeal.main_arg8) = m ((c.tc : Thread Cert.SsmSRefIdeal.nD Cert.SsmSRefIdeal.τ).loc Cert.SsmSRefIdeal.main_arg8)
      ∧ r.2.mem ((c.tc : Thread Cert.SsmSRefIdeal.nD Cert.SsmSRefIdeal.τ).loc Cert.SsmSRefIdeal.main_arg9) = m ((c.tc : Thread Cert.SsmSRefIdeal.nD Cert.SsmSRefIdeal.τ).loc Cert.SsmSRefIdeal.main_arg9)
      ∧ r.2.mem ((c.tc : Thread Cert.SsmSRefIdeal.nD Cert.SsmSRefIdeal.τ).loc Cert.SsmSRefIdeal.main_arg10) = m ((c.tc : Thread Cert.SsmSRefIdeal.nD Cert.SsmSRefIdeal.τ).loc Cert.SsmSRefIdeal.main_arg10)
      ∧ r.2.mem ((c.tc : Thread Cert.SsmSRefIdeal.nD Cert.SsmSRefIdeal.τ).loc Cert.SsmSRefIdeal.main_arg11) = m ((c.tc : Thread Cert.SsmSRefIdeal.nD Cert.SsmSRefIdeal.τ).loc Cert.SsmSRefIdeal.main_arg11))
      ∧ r.2.sem = fun _ => 0)

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)
      ∧ m' ((c.tc : Thread Cert.ProjRefIdeal.nD Cert.ProjRefIdeal.τ).loc Cert.ProjRefIdeal.main_arg3) = m ((c.tc : Thread Cert.ProjIdeal.nD Cert.ProjIdeal.τ).loc Cert.ProjIdeal.main_arg3)
      ∧ m' ((c.tc : Thread Cert.ProjRefIdeal.nD Cert.ProjRefIdeal.τ).loc Cert.ProjRefIdeal.main_arg4) = m ((c.tc : Thread Cert.ProjIdeal.nD Cert.ProjIdeal.τ).loc Cert.ProjIdeal.main_arg4)
      ∧ m' ((c.tc : Thread Cert.ProjRefIdeal.nD Cert.ProjRefIdeal.τ).loc Cert.ProjRefIdeal.main_arg5) = m ((c.tc : Thread Cert.ProjIdeal.nD Cert.ProjIdeal.τ).loc Cert.ProjIdeal.main_arg5)) →
    ∃ (v0 : (c : Dev Cert.ProjIdeal.nD) → Buf (Elt Ideal) ((c.tc : Thread Cert.ProjIdeal.nD Cert.ProjIdeal.τ).loc Cert.ProjIdeal.main_v29_0)) (v1 : (c : Dev Cert.ProjIdeal.nD) → Buf (Elt Ideal) ((c.tc : Thread Cert.ProjIdeal.nD Cert.ProjIdeal.τ).loc Cert.ProjIdeal.main_v29_1)) (v2 : (c : Dev Cert.ProjIdeal.nD) → Buf (Elt Ideal) ((c.tc : Thread Cert.ProjIdeal.nD Cert.ProjIdeal.τ).loc Cert.ProjIdeal.main_v29_2)) (v3 : (c : Dev Cert.ProjIdeal.nD) → Buf (Elt Ideal) ((c.tc : Thread Cert.ProjIdeal.nD Cert.ProjIdeal.τ).loc Cert.ProjIdeal.main_v29_3)) (v4 : (c : Dev Cert.ProjIdeal.nD) → Buf (Elt Ideal) ((c.tc : Thread Cert.ProjIdeal.nD Cert.ProjIdeal.τ).loc Cert.ProjIdeal.main_v29_4)) (v5 : (c : Dev Cert.ProjIdeal.nD) → Buf (Elt Ideal) ((c.tc : Thread Cert.ProjIdeal.nD Cert.ProjIdeal.τ).loc Cert.ProjIdeal.main_v29_5)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v29_0) = v0 c
          ∧ r.2.mem ((c.tc : Thread Cert.ProjIdeal.nD Cert.ProjIdeal.τ).loc Cert.ProjIdeal.main_v29_1) = v1 c
          ∧ r.2.mem ((c.tc : Thread Cert.ProjIdeal.nD Cert.ProjIdeal.τ).loc Cert.ProjIdeal.main_v29_2) = v2 c
          ∧ r.2.mem ((c.tc : Thread Cert.ProjIdeal.nD Cert.ProjIdeal.τ).loc Cert.ProjIdeal.main_v29_3) = v3 c
          ∧ r.2.mem ((c.tc : Thread Cert.ProjIdeal.nD Cert.ProjIdeal.τ).loc Cert.ProjIdeal.main_v29_4) = v4 c
          ∧ r.2.mem ((c.tc : Thread Cert.ProjIdeal.nD Cert.ProjIdeal.τ).loc Cert.ProjIdeal.main_v29_5) = v5 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
          ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
          ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v59) = v0 c
          ∧ r.2.mem ((c.tc : Thread Cert.ProjRefIdeal.nD Cert.ProjRefIdeal.τ).loc Cert.ProjRefIdeal.main_v55) = v1 c
          ∧ r.2.mem ((c.tc : Thread Cert.ProjRefIdeal.nD Cert.ProjRefIdeal.τ).loc Cert.ProjRefIdeal.main_v60) = v2 c
          ∧ r.2.mem ((c.tc : Thread Cert.ProjRefIdeal.nD Cert.ProjRefIdeal.τ).loc Cert.ProjRefIdeal.main_v56) = v3 c
          ∧ r.2.mem ((c.tc : Thread Cert.ProjRefIdeal.nD Cert.ProjRefIdeal.τ).loc Cert.ProjRefIdeal.main_v61) = v4 c
          ∧ r.2.mem ((c.tc : Thread Cert.ProjRefIdeal.nD Cert.ProjRefIdeal.τ).loc Cert.ProjRefIdeal.main_v58) = v5 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2)
          ∧ r.2.mem ((c.tc : Thread Cert.ProjRefIdeal.nD Cert.ProjRefIdeal.τ).loc Cert.ProjRefIdeal.main_arg3) = m' ((c.tc : Thread Cert.ProjRefIdeal.nD Cert.ProjRefIdeal.τ).loc Cert.ProjRefIdeal.main_arg3)
          ∧ r.2.mem ((c.tc : Thread Cert.ProjRefIdeal.nD Cert.ProjRefIdeal.τ).loc Cert.ProjRefIdeal.main_arg4) = m' ((c.tc : Thread Cert.ProjRefIdeal.nD Cert.ProjRefIdeal.τ).loc Cert.ProjRefIdeal.main_arg4)
          ∧ r.2.mem ((c.tc : Thread Cert.ProjRefIdeal.nD Cert.ProjRefIdeal.τ).loc Cert.ProjRefIdeal.main_arg5) = m' ((c.tc : Thread Cert.ProjRefIdeal.nD Cert.ProjRefIdeal.τ).loc Cert.ProjRefIdeal.main_arg5))

def preserves_Post_PostIdeal : Prop :=
  True

def algebraic_PostIdeal_PostRefIdeal [hPostIdeal : Cert.PostIdeal.Facts] [hPostRefIdeal : Cert.PostRefIdeal.Facts] : Prop :=
  ∀ (m : (ℓ : Loc Cert.PostIdeal.nD Cert.PostIdeal.τ Cert.PostIdeal.sig) → Buf (Elt Ideal) ℓ) (g : Dev Cert.PostIdeal.nD → PrngReg)
    (m' : (ℓ : Loc Cert.PostRefIdeal.nD Cert.PostRefIdeal.τ Cert.PostRefIdeal.sig) → Buf (Elt Ideal) ℓ) (g' : Dev Cert.PostRefIdeal.nD → PrngReg), Pre_PostIdeal m →
    (∀ c : Dev Cert.PostIdeal.nD,
      m' ((c.tc : Thread Cert.PostRefIdeal.nD Cert.PostRefIdeal.τ).loc Cert.PostRefIdeal.main_arg0) = m ((c.tc : Thread Cert.PostIdeal.nD Cert.PostIdeal.τ).loc Cert.PostIdeal.main_arg0)
      ∧ m' ((c.tc : Thread Cert.PostRefIdeal.nD Cert.PostRefIdeal.τ).loc Cert.PostRefIdeal.main_arg1) = m ((c.tc : Thread Cert.PostIdeal.nD Cert.PostIdeal.τ).loc Cert.PostIdeal.main_arg1)
      ∧ m' ((c.tc : Thread Cert.PostRefIdeal.nD Cert.PostRefIdeal.τ).loc Cert.PostRefIdeal.main_arg2) = m ((c.tc : Thread Cert.PostIdeal.nD Cert.PostIdeal.τ).loc Cert.PostIdeal.main_arg2)
      ∧ m' ((c.tc : Thread Cert.PostRefIdeal.nD Cert.PostRefIdeal.τ).loc Cert.PostRefIdeal.main_arg3) = m ((c.tc : Thread Cert.PostIdeal.nD Cert.PostIdeal.τ).loc Cert.PostIdeal.main_arg3)
      ∧ m' ((c.tc : Thread Cert.PostRefIdeal.nD Cert.PostRefIdeal.τ).loc Cert.PostRefIdeal.main_arg4) = m ((c.tc : Thread Cert.PostIdeal.nD Cert.PostIdeal.τ).loc Cert.PostIdeal.main_arg4)
      ∧ m' ((c.tc : Thread Cert.PostRefIdeal.nD Cert.PostRefIdeal.τ).loc Cert.PostRefIdeal.main_arg5) = m ((c.tc : Thread Cert.PostIdeal.nD Cert.PostIdeal.τ).loc Cert.PostIdeal.main_arg5)
      ∧ m' ((c.tc : Thread Cert.PostRefIdeal.nD Cert.PostRefIdeal.τ).loc Cert.PostRefIdeal.main_arg6) = m ((c.tc : Thread Cert.PostIdeal.nD Cert.PostIdeal.τ).loc Cert.PostIdeal.main_arg6)
      ∧ m' ((c.tc : Thread Cert.PostRefIdeal.nD Cert.PostRefIdeal.τ).loc Cert.PostRefIdeal.main_arg7) = m ((c.tc : Thread Cert.PostIdeal.nD Cert.PostIdeal.τ).loc Cert.PostIdeal.main_arg7)
      ∧ m' ((c.tc : Thread Cert.PostRefIdeal.nD Cert.PostRefIdeal.τ).loc Cert.PostRefIdeal.main_arg8) = m ((c.tc : Thread Cert.PostIdeal.nD Cert.PostIdeal.τ).loc Cert.PostIdeal.main_arg8)
      ∧ m' ((c.tc : Thread Cert.PostRefIdeal.nD Cert.PostRefIdeal.τ).loc Cert.PostRefIdeal.main_arg9) = m ((c.tc : Thread Cert.PostIdeal.nD Cert.PostIdeal.τ).loc Cert.PostIdeal.main_arg9)
      ∧ m' ((c.tc : Thread Cert.PostRefIdeal.nD Cert.PostRefIdeal.τ).loc Cert.PostRefIdeal.main_arg10) = m ((c.tc : Thread Cert.PostIdeal.nD Cert.PostIdeal.τ).loc Cert.PostIdeal.main_arg10)) →
    ∃ (v0 : (c : Dev Cert.PostIdeal.nD) → Buf (Elt Ideal) ((c.tc : Thread Cert.PostIdeal.nD Cert.PostIdeal.τ).loc Cert.PostIdeal.main_v19_0)) (v1 : (c : Dev Cert.PostIdeal.nD) → Buf (Elt Ideal) ((c.tc : Thread Cert.PostIdeal.nD Cert.PostIdeal.τ).loc Cert.PostIdeal.main_v19_1)),
      θ_run (Cert.PostIdeal.defs (F := Ideal)) (onTc (τ := Cert.PostIdeal.τ) (Cert.PostIdeal.main (F := Ideal))) ⟨m, fun _ => 0, g⟩ (fun r => ∀ c : Dev Cert.PostIdeal.nD,
          r.2.mem ((c.tc : Thread Cert.PostIdeal.nD Cert.PostIdeal.τ).loc Cert.PostIdeal.main_v19_0) = v0 c
          ∧ r.2.mem ((c.tc : Thread Cert.PostIdeal.nD Cert.PostIdeal.τ).loc Cert.PostIdeal.main_v19_1) = v1 c
          ∧ r.2.mem ((c.tc : Thread Cert.PostIdeal.nD Cert.PostIdeal.τ).loc Cert.PostIdeal.main_arg0) = m ((c.tc : Thread Cert.PostIdeal.nD Cert.PostIdeal.τ).loc Cert.PostIdeal.main_arg0)
          ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
          ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
          ∧ r.2.mem ((c.tc : Thread Cert.PostIdeal.nD Cert.PostIdeal.τ).loc Cert.PostIdeal.main_arg3) = m ((c.tc : Thread Cert.PostIdeal.nD Cert.PostIdeal.τ).loc Cert.PostIdeal.main_arg3)
          ∧ r.2.mem ((c.tc : Thread Cert.PostIdeal.nD Cert.PostIdeal.τ).loc Cert.PostIdeal.main_arg4) = m ((c.tc : Thread Cert.PostIdeal.nD Cert.PostIdeal.τ).loc Cert.PostIdeal.main_arg4)
          ∧ r.2.mem ((c.tc : Thread Cert.PostIdeal.nD Cert.PostIdeal.τ).loc Cert.PostIdeal.main_arg5) = m ((c.tc : Thread Cert.PostIdeal.nD Cert.PostIdeal.τ).loc Cert.PostIdeal.main_arg5)
          ∧ r.2.mem ((c.tc : Thread Cert.PostIdeal.nD Cert.PostIdeal.τ).loc Cert.PostIdeal.main_arg6) = m ((c.tc : Thread Cert.PostIdeal.nD Cert.PostIdeal.τ).loc Cert.PostIdeal.main_arg6)
          ∧ r.2.mem ((c.tc : Thread Cert.PostIdeal.nD Cert.PostIdeal.τ).loc Cert.PostIdeal.main_arg7) = m ((c.tc : Thread Cert.PostIdeal.nD Cert.PostIdeal.τ).loc Cert.PostIdeal.main_arg7)
          ∧ r.2.mem ((c.tc : Thread Cert.PostIdeal.nD Cert.PostIdeal.τ).loc Cert.PostIdeal.main_arg8) = m ((c.tc : Thread Cert.PostIdeal.nD Cert.PostIdeal.τ).loc Cert.PostIdeal.main_arg8)
          ∧ r.2.mem ((c.tc : Thread Cert.PostIdeal.nD Cert.PostIdeal.τ).loc Cert.PostIdeal.main_arg9) = m ((c.tc : Thread Cert.PostIdeal.nD Cert.PostIdeal.τ).loc Cert.PostIdeal.main_arg9)
          ∧ r.2.mem ((c.tc : Thread Cert.PostIdeal.nD Cert.PostIdeal.τ).loc Cert.PostIdeal.main_arg10) = m ((c.tc : Thread Cert.PostIdeal.nD Cert.PostIdeal.τ).loc Cert.PostIdeal.main_arg10))
      ∧ θ_run (Cert.PostRefIdeal.defs (F := Ideal)) (onTc (τ := Cert.PostRefIdeal.τ) (Cert.PostRefIdeal.main (F := Ideal))) ⟨m', fun _ => 0, g'⟩ (fun r => ∀ c : Dev Cert.PostRefIdeal.nD,
          r.2.mem ((c.tc : Thread Cert.PostRefIdeal.nD Cert.PostRefIdeal.τ).loc Cert.PostRefIdeal.main_v74) = v0 c
          ∧ r.2.mem ((c.tc : Thread Cert.PostRefIdeal.nD Cert.PostRefIdeal.τ).loc Cert.PostRefIdeal.main_v75) = v1 c
          ∧ r.2.mem ((c.tc : Thread Cert.PostRefIdeal.nD Cert.PostRefIdeal.τ).loc Cert.PostRefIdeal.main_arg0) = m' ((c.tc : Thread Cert.PostRefIdeal.nD Cert.PostRefIdeal.τ).loc Cert.PostRefIdeal.main_arg0)
          ∧ r.2.mem ((c.tc : Thread Cert.PostRefIdeal.nD Cert.PostRefIdeal.τ).loc Cert.PostRefIdeal.main_arg1) = m' ((c.tc : Thread Cert.PostRefIdeal.nD Cert.PostRefIdeal.τ).loc Cert.PostRefIdeal.main_arg1)
          ∧ r.2.mem ((c.tc : Thread Cert.PostRefIdeal.nD Cert.PostRefIdeal.τ).loc Cert.PostRefIdeal.main_arg2) = m' ((c.tc : Thread Cert.PostRefIdeal.nD Cert.PostRefIdeal.τ).loc Cert.PostRefIdeal.main_arg2)
          ∧ r.2.mem ((c.tc : Thread Cert.PostRefIdeal.nD Cert.PostRefIdeal.τ).loc Cert.PostRefIdeal.main_arg3) = m' ((c.tc : Thread Cert.PostRefIdeal.nD Cert.PostRefIdeal.τ).loc Cert.PostRefIdeal.main_arg3)
          ∧ r.2.mem ((c.tc : Thread Cert.PostRefIdeal.nD Cert.PostRefIdeal.τ).loc Cert.PostRefIdeal.main_arg4) = m' ((c.tc : Thread Cert.PostRefIdeal.nD Cert.PostRefIdeal.τ).loc Cert.PostRefIdeal.main_arg4)
          ∧ r.2.mem ((c.tc : Thread Cert.PostRefIdeal.nD Cert.PostRefIdeal.τ).loc Cert.PostRefIdeal.main_arg5) = m' ((c.tc : Thread Cert.PostRefIdeal.nD Cert.PostRefIdeal.τ).loc Cert.PostRefIdeal.main_arg5)
          ∧ r.2.mem ((c.tc : Thread Cert.PostRefIdeal.nD Cert.PostRefIdeal.τ).loc Cert.PostRefIdeal.main_arg6) = m' ((c.tc : Thread Cert.PostRefIdeal.nD Cert.PostRefIdeal.τ).loc Cert.PostRefIdeal.main_arg6)
          ∧ r.2.mem ((c.tc : Thread Cert.PostRefIdeal.nD Cert.PostRefIdeal.τ).loc Cert.PostRefIdeal.main_arg7) = m' ((c.tc : Thread Cert.PostRefIdeal.nD Cert.PostRefIdeal.τ).loc Cert.PostRefIdeal.main_arg7)
          ∧ r.2.mem ((c.tc : Thread Cert.PostRefIdeal.nD Cert.PostRefIdeal.τ).loc Cert.PostRefIdeal.main_arg8) = m' ((c.tc : Thread Cert.PostRefIdeal.nD Cert.PostRefIdeal.τ).loc Cert.PostRefIdeal.main_arg8)
          ∧ r.2.mem ((c.tc : Thread Cert.PostRefIdeal.nD Cert.PostRefIdeal.τ).loc Cert.PostRefIdeal.main_arg9) = m' ((c.tc : Thread Cert.PostRefIdeal.nD Cert.PostRefIdeal.τ).loc Cert.PostRefIdeal.main_arg9)
          ∧ r.2.mem ((c.tc : Thread Cert.PostRefIdeal.nD Cert.PostRefIdeal.τ).loc Cert.PostRefIdeal.main_arg10) = m' ((c.tc : Thread Cert.PostRefIdeal.nD Cert.PostRefIdeal.τ).loc Cert.PostRefIdeal.main_arg10))

def preserves_ProjS_ProjSIdeal : Prop :=
  True

def algebraic_ProjSIdeal_ProjSRefIdeal [hProjSIdeal : Cert.ProjSIdeal.Facts] [hProjSRefIdeal : Cert.ProjSRefIdeal.Facts] : Prop :=
  ∀ (m : (ℓ : Loc Cert.ProjSIdeal.nD Cert.ProjSIdeal.τ Cert.ProjSIdeal.sig) → Buf (Elt Ideal) ℓ) (g : Dev Cert.ProjSIdeal.nD → PrngReg)
    (m' : (ℓ : Loc Cert.ProjSRefIdeal.nD Cert.ProjSRefIdeal.τ Cert.ProjSRefIdeal.sig) → Buf (Elt Ideal) ℓ) (g' : Dev Cert.ProjSRefIdeal.nD → PrngReg), Pre_ProjSIdeal m →
    (∀ c : Dev Cert.ProjSIdeal.nD,
      m' ((c.tc : Thread Cert.ProjSRefIdeal.nD Cert.ProjSRefIdeal.τ).loc Cert.ProjSRefIdeal.main_arg0) = m ((c.tc : Thread Cert.ProjSIdeal.nD Cert.ProjSIdeal.τ).loc Cert.ProjSIdeal.main_arg0)
      ∧ m' ((c.tc : Thread Cert.ProjSRefIdeal.nD Cert.ProjSRefIdeal.τ).loc Cert.ProjSRefIdeal.main_arg1) = m ((c.tc : Thread Cert.ProjSIdeal.nD Cert.ProjSIdeal.τ).loc Cert.ProjSIdeal.main_arg1)
      ∧ m' ((c.tc : Thread Cert.ProjSRefIdeal.nD Cert.ProjSRefIdeal.τ).loc Cert.ProjSRefIdeal.main_arg2) = m ((c.tc : Thread Cert.ProjSIdeal.nD Cert.ProjSIdeal.τ).loc Cert.ProjSIdeal.main_arg2)
      ∧ m' ((c.tc : Thread Cert.ProjSRefIdeal.nD Cert.ProjSRefIdeal.τ).loc Cert.ProjSRefIdeal.main_arg3) = m ((c.tc : Thread Cert.ProjSIdeal.nD Cert.ProjSIdeal.τ).loc Cert.ProjSIdeal.main_arg3)
      ∧ m' ((c.tc : Thread Cert.ProjSRefIdeal.nD Cert.ProjSRefIdeal.τ).loc Cert.ProjSRefIdeal.main_arg4) = m ((c.tc : Thread Cert.ProjSIdeal.nD Cert.ProjSIdeal.τ).loc Cert.ProjSIdeal.main_arg4)) →
    ∃ (v0 : (c : Dev Cert.ProjSIdeal.nD) → Buf (Elt Ideal) ((c.tc : Thread Cert.ProjSIdeal.nD Cert.ProjSIdeal.τ).loc Cert.ProjSIdeal.main_v28_0)) (v1 : (c : Dev Cert.ProjSIdeal.nD) → Buf (Elt Ideal) ((c.tc : Thread Cert.ProjSIdeal.nD Cert.ProjSIdeal.τ).loc Cert.ProjSIdeal.main_v28_1)) (v2 : (c : Dev Cert.ProjSIdeal.nD) → Buf (Elt Ideal) ((c.tc : Thread Cert.ProjSIdeal.nD Cert.ProjSIdeal.τ).loc Cert.ProjSIdeal.main_v28_2)) (v3 : (c : Dev Cert.ProjSIdeal.nD) → Buf (Elt Ideal) ((c.tc : Thread Cert.ProjSIdeal.nD Cert.ProjSIdeal.τ).loc Cert.ProjSIdeal.main_v28_3)) (v4 : (c : Dev Cert.ProjSIdeal.nD) → Buf (Elt Ideal) ((c.tc : Thread Cert.ProjSIdeal.nD Cert.ProjSIdeal.τ).loc Cert.ProjSIdeal.main_v28_4)) (v5 : (c : Dev Cert.ProjSIdeal.nD) → Buf (Elt Ideal) ((c.tc : Thread Cert.ProjSIdeal.nD Cert.ProjSIdeal.τ).loc Cert.ProjSIdeal.main_v28_5)),
      θ_run (Cert.ProjSIdeal.defs (F := Ideal)) (onTc (τ := Cert.ProjSIdeal.τ) (Cert.ProjSIdeal.main (F := Ideal))) ⟨m, fun _ => 0, g⟩ (fun r => ∀ c : Dev Cert.ProjSIdeal.nD,
          r.2.mem ((c.tc : Thread Cert.ProjSIdeal.nD Cert.ProjSIdeal.τ).loc Cert.ProjSIdeal.main_v28_0) = v0 c
          ∧ r.2.mem ((c.tc : Thread Cert.ProjSIdeal.nD Cert.ProjSIdeal.τ).loc Cert.ProjSIdeal.main_v28_1) = v1 c
          ∧ r.2.mem ((c.tc : Thread Cert.ProjSIdeal.nD Cert.ProjSIdeal.τ).loc Cert.ProjSIdeal.main_v28_2) = v2 c
          ∧ r.2.mem ((c.tc : Thread Cert.ProjSIdeal.nD Cert.ProjSIdeal.τ).loc Cert.ProjSIdeal.main_v28_3) = v3 c
          ∧ r.2.mem ((c.tc : Thread Cert.ProjSIdeal.nD Cert.ProjSIdeal.τ).loc Cert.ProjSIdeal.main_v28_4) = v4 c
          ∧ r.2.mem ((c.tc : Thread Cert.ProjSIdeal.nD Cert.ProjSIdeal.τ).loc Cert.ProjSIdeal.main_v28_5) = v5 c
          ∧ r.2.mem ((c.tc : Thread Cert.ProjSIdeal.nD Cert.ProjSIdeal.τ).loc Cert.ProjSIdeal.main_arg0) = m ((c.tc : Thread Cert.ProjSIdeal.nD Cert.ProjSIdeal.τ).loc Cert.ProjSIdeal.main_arg0)
          ∧ r.2.mem ((c.tc : Thread Cert.ProjSIdeal.nD Cert.ProjSIdeal.τ).loc Cert.ProjSIdeal.main_arg1) = m ((c.tc : Thread Cert.ProjSIdeal.nD Cert.ProjSIdeal.τ).loc Cert.ProjSIdeal.main_arg1)
          ∧ r.2.mem ((c.tc : Thread Cert.ProjSIdeal.nD Cert.ProjSIdeal.τ).loc Cert.ProjSIdeal.main_arg2) = m ((c.tc : Thread Cert.ProjSIdeal.nD Cert.ProjSIdeal.τ).loc Cert.ProjSIdeal.main_arg2)
          ∧ r.2.mem ((c.tc : Thread Cert.ProjSIdeal.nD Cert.ProjSIdeal.τ).loc Cert.ProjSIdeal.main_arg3) = m ((c.tc : Thread Cert.ProjSIdeal.nD Cert.ProjSIdeal.τ).loc Cert.ProjSIdeal.main_arg3)
          ∧ r.2.mem ((c.tc : Thread Cert.ProjSIdeal.nD Cert.ProjSIdeal.τ).loc Cert.ProjSIdeal.main_arg4) = m ((c.tc : Thread Cert.ProjSIdeal.nD Cert.ProjSIdeal.τ).loc Cert.ProjSIdeal.main_arg4))
      ∧ θ_run (Cert.ProjSRefIdeal.defs (F := Ideal)) (onTc (τ := Cert.ProjSRefIdeal.τ) (Cert.ProjSRefIdeal.main (F := Ideal))) ⟨m', fun _ => 0, g'⟩ (fun r => ∀ c : Dev Cert.ProjSRefIdeal.nD,
          r.2.mem ((c.tc : Thread Cert.ProjSRefIdeal.nD Cert.ProjSRefIdeal.τ).loc Cert.ProjSRefIdeal.main_v62) = v0 c
          ∧ r.2.mem ((c.tc : Thread Cert.ProjSRefIdeal.nD Cert.ProjSRefIdeal.τ).loc Cert.ProjSRefIdeal.main_v57) = v1 c
          ∧ r.2.mem ((c.tc : Thread Cert.ProjSRefIdeal.nD Cert.ProjSRefIdeal.τ).loc Cert.ProjSRefIdeal.main_v63) = v2 c
          ∧ r.2.mem ((c.tc : Thread Cert.ProjSRefIdeal.nD Cert.ProjSRefIdeal.τ).loc Cert.ProjSRefIdeal.main_v59) = v3 c
          ∧ r.2.mem ((c.tc : Thread Cert.ProjSRefIdeal.nD Cert.ProjSRefIdeal.τ).loc Cert.ProjSRefIdeal.main_v64) = v4 c
          ∧ r.2.mem ((c.tc : Thread Cert.ProjSRefIdeal.nD Cert.ProjSRefIdeal.τ).loc Cert.ProjSRefIdeal.main_v61) = v5 c
          ∧ r.2.mem ((c.tc : Thread Cert.ProjSRefIdeal.nD Cert.ProjSRefIdeal.τ).loc Cert.ProjSRefIdeal.main_arg0) = m' ((c.tc : Thread Cert.ProjSRefIdeal.nD Cert.ProjSRefIdeal.τ).loc Cert.ProjSRefIdeal.main_arg0)
          ∧ r.2.mem ((c.tc : Thread Cert.ProjSRefIdeal.nD Cert.ProjSRefIdeal.τ).loc Cert.ProjSRefIdeal.main_arg1) = m' ((c.tc : Thread Cert.ProjSRefIdeal.nD Cert.ProjSRefIdeal.τ).loc Cert.ProjSRefIdeal.main_arg1)
          ∧ r.2.mem ((c.tc : Thread Cert.ProjSRefIdeal.nD Cert.ProjSRefIdeal.τ).loc Cert.ProjSRefIdeal.main_arg2) = m' ((c.tc : Thread Cert.ProjSRefIdeal.nD Cert.ProjSRefIdeal.τ).loc Cert.ProjSRefIdeal.main_arg2)
          ∧ r.2.mem ((c.tc : Thread Cert.ProjSRefIdeal.nD Cert.ProjSRefIdeal.τ).loc Cert.ProjSRefIdeal.main_arg3) = m' ((c.tc : Thread Cert.ProjSRefIdeal.nD Cert.ProjSRefIdeal.τ).loc Cert.ProjSRefIdeal.main_arg3)
          ∧ r.2.mem ((c.tc : Thread Cert.ProjSRefIdeal.nD Cert.ProjSRefIdeal.τ).loc Cert.ProjSRefIdeal.main_arg4) = m' ((c.tc : Thread Cert.ProjSRefIdeal.nD Cert.ProjSRefIdeal.τ).loc Cert.ProjSRefIdeal.main_arg4))

def preserves_PostS_PostSIdeal : Prop :=
  True

def algebraic_PostSIdeal_PostSRefIdeal [hPostSIdeal : Cert.PostSIdeal.Facts] [hPostSRefIdeal : Cert.PostSRefIdeal.Facts] : Prop :=
  ∀ (m : (ℓ : Loc Cert.PostSIdeal.nD Cert.PostSIdeal.τ Cert.PostSIdeal.sig) → Buf (Elt Ideal) ℓ) (g : Dev Cert.PostSIdeal.nD → PrngReg)
    (m' : (ℓ : Loc Cert.PostSRefIdeal.nD Cert.PostSRefIdeal.τ Cert.PostSRefIdeal.sig) → Buf (Elt Ideal) ℓ) (g' : Dev Cert.PostSRefIdeal.nD → PrngReg), Pre_PostSIdeal m →
    (∀ c : Dev Cert.PostSIdeal.nD,
      m' ((c.tc : Thread Cert.PostSRefIdeal.nD Cert.PostSRefIdeal.τ).loc Cert.PostSRefIdeal.main_arg0) = m ((c.tc : Thread Cert.PostSIdeal.nD Cert.PostSIdeal.τ).loc Cert.PostSIdeal.main_arg0)
      ∧ m' ((c.tc : Thread Cert.PostSRefIdeal.nD Cert.PostSRefIdeal.τ).loc Cert.PostSRefIdeal.main_arg1) = m ((c.tc : Thread Cert.PostSIdeal.nD Cert.PostSIdeal.τ).loc Cert.PostSIdeal.main_arg1)
      ∧ m' ((c.tc : Thread Cert.PostSRefIdeal.nD Cert.PostSRefIdeal.τ).loc Cert.PostSRefIdeal.main_arg2) = m ((c.tc : Thread Cert.PostSIdeal.nD Cert.PostSIdeal.τ).loc Cert.PostSIdeal.main_arg2)
      ∧ m' ((c.tc : Thread Cert.PostSRefIdeal.nD Cert.PostSRefIdeal.τ).loc Cert.PostSRefIdeal.main_arg3) = m ((c.tc : Thread Cert.PostSIdeal.nD Cert.PostSIdeal.τ).loc Cert.PostSIdeal.main_arg3)
      ∧ m' ((c.tc : Thread Cert.PostSRefIdeal.nD Cert.PostSRefIdeal.τ).loc Cert.PostSRefIdeal.main_arg4) = m ((c.tc : Thread Cert.PostSIdeal.nD Cert.PostSIdeal.τ).loc Cert.PostSIdeal.main_arg4)
      ∧ m' ((c.tc : Thread Cert.PostSRefIdeal.nD Cert.PostSRefIdeal.τ).loc Cert.PostSRefIdeal.main_arg5) = m ((c.tc : Thread Cert.PostSIdeal.nD Cert.PostSIdeal.τ).loc Cert.PostSIdeal.main_arg5)
      ∧ m' ((c.tc : Thread Cert.PostSRefIdeal.nD Cert.PostSRefIdeal.τ).loc Cert.PostSRefIdeal.main_arg6) = m ((c.tc : Thread Cert.PostSIdeal.nD Cert.PostSIdeal.τ).loc Cert.PostSIdeal.main_arg6)
      ∧ m' ((c.tc : Thread Cert.PostSRefIdeal.nD Cert.PostSRefIdeal.τ).loc Cert.PostSRefIdeal.main_arg7) = m ((c.tc : Thread Cert.PostSIdeal.nD Cert.PostSIdeal.τ).loc Cert.PostSIdeal.main_arg7)
      ∧ m' ((c.tc : Thread Cert.PostSRefIdeal.nD Cert.PostSRefIdeal.τ).loc Cert.PostSRefIdeal.main_arg8) = m ((c.tc : Thread Cert.PostSIdeal.nD Cert.PostSIdeal.τ).loc Cert.PostSIdeal.main_arg8)
      ∧ m' ((c.tc : Thread Cert.PostSRefIdeal.nD Cert.PostSRefIdeal.τ).loc Cert.PostSRefIdeal.main_arg9) = m ((c.tc : Thread Cert.PostSIdeal.nD Cert.PostSIdeal.τ).loc Cert.PostSIdeal.main_arg9)
      ∧ m' ((c.tc : Thread Cert.PostSRefIdeal.nD Cert.PostSRefIdeal.τ).loc Cert.PostSRefIdeal.main_arg10) = m ((c.tc : Thread Cert.PostSIdeal.nD Cert.PostSIdeal.τ).loc Cert.PostSIdeal.main_arg10)) →
    ∃ (v0 : (c : Dev Cert.PostSIdeal.nD) → Buf (Elt Ideal) ((c.tc : Thread Cert.PostSIdeal.nD Cert.PostSIdeal.τ).loc Cert.PostSIdeal.main_v21_0)) (v1 : (c : Dev Cert.PostSIdeal.nD) → Buf (Elt Ideal) ((c.tc : Thread Cert.PostSIdeal.nD Cert.PostSIdeal.τ).loc Cert.PostSIdeal.main_v21_1)),
      θ_run (Cert.PostSIdeal.defs (F := Ideal)) (onTc (τ := Cert.PostSIdeal.τ) (Cert.PostSIdeal.main (F := Ideal))) ⟨m, fun _ => 0, g⟩ (fun r => ∀ c : Dev Cert.PostSIdeal.nD,
          r.2.mem ((c.tc : Thread Cert.PostSIdeal.nD Cert.PostSIdeal.τ).loc Cert.PostSIdeal.main_v21_0) = v0 c
          ∧ r.2.mem ((c.tc : Thread Cert.PostSIdeal.nD Cert.PostSIdeal.τ).loc Cert.PostSIdeal.main_v21_1) = v1 c
          ∧ r.2.mem ((c.tc : Thread Cert.PostSIdeal.nD Cert.PostSIdeal.τ).loc Cert.PostSIdeal.main_arg0) = m ((c.tc : Thread Cert.PostSIdeal.nD Cert.PostSIdeal.τ).loc Cert.PostSIdeal.main_arg0)
          ∧ r.2.mem ((c.tc : Thread Cert.PostSIdeal.nD Cert.PostSIdeal.τ).loc Cert.PostSIdeal.main_arg1) = m ((c.tc : Thread Cert.PostSIdeal.nD Cert.PostSIdeal.τ).loc Cert.PostSIdeal.main_arg1)
          ∧ r.2.mem ((c.tc : Thread Cert.PostSIdeal.nD Cert.PostSIdeal.τ).loc Cert.PostSIdeal.main_arg2) = m ((c.tc : Thread Cert.PostSIdeal.nD Cert.PostSIdeal.τ).loc Cert.PostSIdeal.main_arg2)
          ∧ r.2.mem ((c.tc : Thread Cert.PostSIdeal.nD Cert.PostSIdeal.τ).loc Cert.PostSIdeal.main_arg3) = m ((c.tc : Thread Cert.PostSIdeal.nD Cert.PostSIdeal.τ).loc Cert.PostSIdeal.main_arg3)
          ∧ r.2.mem ((c.tc : Thread Cert.PostSIdeal.nD Cert.PostSIdeal.τ).loc Cert.PostSIdeal.main_arg4) = m ((c.tc : Thread Cert.PostSIdeal.nD Cert.PostSIdeal.τ).loc Cert.PostSIdeal.main_arg4)
          ∧ r.2.mem ((c.tc : Thread Cert.PostSIdeal.nD Cert.PostSIdeal.τ).loc Cert.PostSIdeal.main_arg5) = m ((c.tc : Thread Cert.PostSIdeal.nD Cert.PostSIdeal.τ).loc Cert.PostSIdeal.main_arg5)
          ∧ r.2.mem ((c.tc : Thread Cert.PostSIdeal.nD Cert.PostSIdeal.τ).loc Cert.PostSIdeal.main_arg6) = m ((c.tc : Thread Cert.PostSIdeal.nD Cert.PostSIdeal.τ).loc Cert.PostSIdeal.main_arg6)
          ∧ r.2.mem ((c.tc : Thread Cert.PostSIdeal.nD Cert.PostSIdeal.τ).loc Cert.PostSIdeal.main_arg7) = m ((c.tc : Thread Cert.PostSIdeal.nD Cert.PostSIdeal.τ).loc Cert.PostSIdeal.main_arg7)
          ∧ r.2.mem ((c.tc : Thread Cert.PostSIdeal.nD Cert.PostSIdeal.τ).loc Cert.PostSIdeal.main_arg8) = m ((c.tc : Thread Cert.PostSIdeal.nD Cert.PostSIdeal.τ).loc Cert.PostSIdeal.main_arg8)
          ∧ r.2.mem ((c.tc : Thread Cert.PostSIdeal.nD Cert.PostSIdeal.τ).loc Cert.PostSIdeal.main_arg9) = m ((c.tc : Thread Cert.PostSIdeal.nD Cert.PostSIdeal.τ).loc Cert.PostSIdeal.main_arg9)
          ∧ r.2.mem ((c.tc : Thread Cert.PostSIdeal.nD Cert.PostSIdeal.τ).loc Cert.PostSIdeal.main_arg10) = m ((c.tc : Thread Cert.PostSIdeal.nD Cert.PostSIdeal.τ).loc Cert.PostSIdeal.main_arg10))
      ∧ θ_run (Cert.PostSRefIdeal.defs (F := Ideal)) (onTc (τ := Cert.PostSRefIdeal.τ) (Cert.PostSRefIdeal.main (F := Ideal))) ⟨m', fun _ => 0, g'⟩ (fun r => ∀ c : Dev Cert.PostSRefIdeal.nD,
          r.2.mem ((c.tc : Thread Cert.PostSRefIdeal.nD Cert.PostSRefIdeal.τ).loc Cert.PostSRefIdeal.main_v73) = v0 c
          ∧ r.2.mem ((c.tc : Thread Cert.PostSRefIdeal.nD Cert.PostSRefIdeal.τ).loc Cert.PostSRefIdeal.main_v76) = v1 c
          ∧ r.2.mem ((c.tc : Thread Cert.PostSRefIdeal.nD Cert.PostSRefIdeal.τ).loc Cert.PostSRefIdeal.main_arg0) = m' ((c.tc : Thread Cert.PostSRefIdeal.nD Cert.PostSRefIdeal.τ).loc Cert.PostSRefIdeal.main_arg0)
          ∧ r.2.mem ((c.tc : Thread Cert.PostSRefIdeal.nD Cert.PostSRefIdeal.τ).loc Cert.PostSRefIdeal.main_arg1) = m' ((c.tc : Thread Cert.PostSRefIdeal.nD Cert.PostSRefIdeal.τ).loc Cert.PostSRefIdeal.main_arg1)
          ∧ r.2.mem ((c.tc : Thread Cert.PostSRefIdeal.nD Cert.PostSRefIdeal.τ).loc Cert.PostSRefIdeal.main_arg2) = m' ((c.tc : Thread Cert.PostSRefIdeal.nD Cert.PostSRefIdeal.τ).loc Cert.PostSRefIdeal.main_arg2)
          ∧ r.2.mem ((c.tc : Thread Cert.PostSRefIdeal.nD Cert.PostSRefIdeal.τ).loc Cert.PostSRefIdeal.main_arg3) = m' ((c.tc : Thread Cert.PostSRefIdeal.nD Cert.PostSRefIdeal.τ).loc Cert.PostSRefIdeal.main_arg3)
          ∧ r.2.mem ((c.tc : Thread Cert.PostSRefIdeal.nD Cert.PostSRefIdeal.τ).loc Cert.PostSRefIdeal.main_arg4) = m' ((c.tc : Thread Cert.PostSRefIdeal.nD Cert.PostSRefIdeal.τ).loc Cert.PostSRefIdeal.main_arg4)
          ∧ r.2.mem ((c.tc : Thread Cert.PostSRefIdeal.nD Cert.PostSRefIdeal.τ).loc Cert.PostSRefIdeal.main_arg5) = m' ((c.tc : Thread Cert.PostSRefIdeal.nD Cert.PostSRefIdeal.τ).loc Cert.PostSRefIdeal.main_arg5)
          ∧ r.2.mem ((c.tc : Thread Cert.PostSRefIdeal.nD Cert.PostSRefIdeal.τ).loc Cert.PostSRefIdeal.main_arg6) = m' ((c.tc : Thread Cert.PostSRefIdeal.nD Cert.PostSRefIdeal.τ).loc Cert.PostSRefIdeal.main_arg6)
          ∧ r.2.mem ((c.tc : Thread Cert.PostSRefIdeal.nD Cert.PostSRefIdeal.τ).loc Cert.PostSRefIdeal.main_arg7) = m' ((c.tc : Thread Cert.PostSRefIdeal.nD Cert.PostSRefIdeal.τ).loc Cert.PostSRefIdeal.main_arg7)
          ∧ r.2.mem ((c.tc : Thread Cert.PostSRefIdeal.nD Cert.PostSRefIdeal.τ).loc Cert.PostSRefIdeal.main_arg8) = m' ((c.tc : Thread Cert.PostSRefIdeal.nD Cert.PostSRefIdeal.τ).loc Cert.PostSRefIdeal.main_arg8)
          ∧ r.2.mem ((c.tc : Thread Cert.PostSRefIdeal.nD Cert.PostSRefIdeal.τ).loc Cert.PostSRefIdeal.main_arg9) = m' ((c.tc : Thread Cert.PostSRefIdeal.nD Cert.PostSRefIdeal.τ).loc Cert.PostSRefIdeal.main_arg9)
          ∧ r.2.mem ((c.tc : Thread Cert.PostSRefIdeal.nD Cert.PostSRefIdeal.τ).loc Cert.PostSRefIdeal.main_arg10) = m' ((c.tc : Thread Cert.PostSRefIdeal.nD Cert.PostSRefIdeal.τ).loc Cert.PostSRefIdeal.main_arg10))

def preserves_SsmS_SsmSIdeal : Prop :=
  True

def algebraic_SsmSIdeal_SsmSRefIdeal [hSsmSIdeal : Cert.SsmSIdeal.Facts] [hSsmSRefIdeal : Cert.SsmSRefIdeal.Facts] : Prop :=
  ∀ (m : (ℓ : Loc Cert.SsmSIdeal.nD Cert.SsmSIdeal.τ Cert.SsmSIdeal.sig) → Buf (Elt Ideal) ℓ) (g : Dev Cert.SsmSIdeal.nD → PrngReg)
    (m' : (ℓ : Loc Cert.SsmSRefIdeal.nD Cert.SsmSRefIdeal.τ Cert.SsmSRefIdeal.sig) → Buf (Elt Ideal) ℓ) (g' : Dev Cert.SsmSRefIdeal.nD → PrngReg), Pre_SsmSIdeal m →
    (∀ c : Dev Cert.SsmSIdeal.nD,
      m' ((c.tc : Thread Cert.SsmSRefIdeal.nD Cert.SsmSRefIdeal.τ).loc Cert.SsmSRefIdeal.main_arg0) = m ((c.tc : Thread Cert.SsmSIdeal.nD Cert.SsmSIdeal.τ).loc Cert.SsmSIdeal.main_arg0)
      ∧ m' ((c.tc : Thread Cert.SsmSRefIdeal.nD Cert.SsmSRefIdeal.τ).loc Cert.SsmSRefIdeal.main_arg1) = m ((c.tc : Thread Cert.SsmSIdeal.nD Cert.SsmSIdeal.τ).loc Cert.SsmSIdeal.main_arg1)
      ∧ m' ((c.tc : Thread Cert.SsmSRefIdeal.nD Cert.SsmSRefIdeal.τ).loc Cert.SsmSRefIdeal.main_arg2) = m ((c.tc : Thread Cert.SsmSIdeal.nD Cert.SsmSIdeal.τ).loc Cert.SsmSIdeal.main_arg2)
      ∧ m' ((c.tc : Thread Cert.SsmSRefIdeal.nD Cert.SsmSRefIdeal.τ).loc Cert.SsmSRefIdeal.main_arg3) = m ((c.tc : Thread Cert.SsmSIdeal.nD Cert.SsmSIdeal.τ).loc Cert.SsmSIdeal.main_arg3)
      ∧ m' ((c.tc : Thread Cert.SsmSRefIdeal.nD Cert.SsmSRefIdeal.τ).loc Cert.SsmSRefIdeal.main_arg4) = m ((c.tc : Thread Cert.SsmSIdeal.nD Cert.SsmSIdeal.τ).loc Cert.SsmSIdeal.main_arg4)
      ∧ m' ((c.tc : Thread Cert.SsmSRefIdeal.nD Cert.SsmSRefIdeal.τ).loc Cert.SsmSRefIdeal.main_arg5) = m ((c.tc : Thread Cert.SsmSIdeal.nD Cert.SsmSIdeal.τ).loc Cert.SsmSIdeal.main_arg5)
      ∧ m' ((c.tc : Thread Cert.SsmSRefIdeal.nD Cert.SsmSRefIdeal.τ).loc Cert.SsmSRefIdeal.main_arg6) = m ((c.tc : Thread Cert.SsmSIdeal.nD Cert.SsmSIdeal.τ).loc Cert.SsmSIdeal.main_arg6)
      ∧ m' ((c.tc : Thread Cert.SsmSRefIdeal.nD Cert.SsmSRefIdeal.τ).loc Cert.SsmSRefIdeal.main_arg7) = m ((c.tc : Thread Cert.SsmSIdeal.nD Cert.SsmSIdeal.τ).loc Cert.SsmSIdeal.main_arg7)
      ∧ m' ((c.tc : Thread Cert.SsmSRefIdeal.nD Cert.SsmSRefIdeal.τ).loc Cert.SsmSRefIdeal.main_arg8) = m ((c.tc : Thread Cert.SsmSIdeal.nD Cert.SsmSIdeal.τ).loc Cert.SsmSIdeal.main_arg8)
      ∧ m' ((c.tc : Thread Cert.SsmSRefIdeal.nD Cert.SsmSRefIdeal.τ).loc Cert.SsmSRefIdeal.main_arg9) = m ((c.tc : Thread Cert.SsmSIdeal.nD Cert.SsmSIdeal.τ).loc Cert.SsmSIdeal.main_arg9)
      ∧ m' ((c.tc : Thread Cert.SsmSRefIdeal.nD Cert.SsmSRefIdeal.τ).loc Cert.SsmSRefIdeal.main_arg10) = m ((c.tc : Thread Cert.SsmSIdeal.nD Cert.SsmSIdeal.τ).loc Cert.SsmSIdeal.main_arg10)
      ∧ m' ((c.tc : Thread Cert.SsmSRefIdeal.nD Cert.SsmSRefIdeal.τ).loc Cert.SsmSRefIdeal.main_arg11) = m ((c.tc : Thread Cert.SsmSIdeal.nD Cert.SsmSIdeal.τ).loc Cert.SsmSIdeal.main_arg11)) →
    ∃ (v0 : (c : Dev Cert.SsmSIdeal.nD) → Buf (Elt Ideal) ((c.tc : Thread Cert.SsmSIdeal.nD Cert.SsmSIdeal.τ).loc Cert.SsmSIdeal.main_v63_1)) (v1 : (c : Dev Cert.SsmSIdeal.nD) → Buf (Elt Ideal) ((c.tc : Thread Cert.SsmSIdeal.nD Cert.SsmSIdeal.τ).loc Cert.SsmSIdeal.main_v63_2)),
      θ_run (Cert.SsmSIdeal.defs (F := Ideal)) (onTc (τ := Cert.SsmSIdeal.τ) (Cert.SsmSIdeal.main (F := Ideal))) ⟨m, fun _ => 0, g⟩ (fun r => ∀ c : Dev Cert.SsmSIdeal.nD,
          r.2.mem ((c.tc : Thread Cert.SsmSIdeal.nD Cert.SsmSIdeal.τ).loc Cert.SsmSIdeal.main_v63_1) = v0 c
          ∧ r.2.mem ((c.tc : Thread Cert.SsmSIdeal.nD Cert.SsmSIdeal.τ).loc Cert.SsmSIdeal.main_v63_2) = v1 c
          ∧ r.2.mem ((c.tc : Thread Cert.SsmSIdeal.nD Cert.SsmSIdeal.τ).loc Cert.SsmSIdeal.main_arg0) = m ((c.tc : Thread Cert.SsmSIdeal.nD Cert.SsmSIdeal.τ).loc Cert.SsmSIdeal.main_arg0)
          ∧ r.2.mem ((c.tc : Thread Cert.SsmSIdeal.nD Cert.SsmSIdeal.τ).loc Cert.SsmSIdeal.main_arg1) = m ((c.tc : Thread Cert.SsmSIdeal.nD Cert.SsmSIdeal.τ).loc Cert.SsmSIdeal.main_arg1)
          ∧ r.2.mem ((c.tc : Thread Cert.SsmSIdeal.nD Cert.SsmSIdeal.τ).loc Cert.SsmSIdeal.main_arg2) = m ((c.tc : Thread Cert.SsmSIdeal.nD Cert.SsmSIdeal.τ).loc Cert.SsmSIdeal.main_arg2)
          ∧ r.2.mem ((c.tc : Thread Cert.SsmSIdeal.nD Cert.SsmSIdeal.τ).loc Cert.SsmSIdeal.main_arg3) = m ((c.tc : Thread Cert.SsmSIdeal.nD Cert.SsmSIdeal.τ).loc Cert.SsmSIdeal.main_arg3)
          ∧ r.2.mem ((c.tc : Thread Cert.SsmSIdeal.nD Cert.SsmSIdeal.τ).loc Cert.SsmSIdeal.main_arg4) = m ((c.tc : Thread Cert.SsmSIdeal.nD Cert.SsmSIdeal.τ).loc Cert.SsmSIdeal.main_arg4)
          ∧ r.2.mem ((c.tc : Thread Cert.SsmSIdeal.nD Cert.SsmSIdeal.τ).loc Cert.SsmSIdeal.main_arg5) = m ((c.tc : Thread Cert.SsmSIdeal.nD Cert.SsmSIdeal.τ).loc Cert.SsmSIdeal.main_arg5)
          ∧ r.2.mem ((c.tc : Thread Cert.SsmSIdeal.nD Cert.SsmSIdeal.τ).loc Cert.SsmSIdeal.main_arg6) = m ((c.tc : Thread Cert.SsmSIdeal.nD Cert.SsmSIdeal.τ).loc Cert.SsmSIdeal.main_arg6)
          ∧ r.2.mem ((c.tc : Thread Cert.SsmSIdeal.nD Cert.SsmSIdeal.τ).loc Cert.SsmSIdeal.main_arg7) = m ((c.tc : Thread Cert.SsmSIdeal.nD Cert.SsmSIdeal.τ).loc Cert.SsmSIdeal.main_arg7)
          ∧ r.2.mem ((c.tc : Thread Cert.SsmSIdeal.nD Cert.SsmSIdeal.τ).loc Cert.SsmSIdeal.main_arg8) = m ((c.tc : Thread Cert.SsmSIdeal.nD Cert.SsmSIdeal.τ).loc Cert.SsmSIdeal.main_arg8)
          ∧ r.2.mem ((c.tc : Thread Cert.SsmSIdeal.nD Cert.SsmSIdeal.τ).loc Cert.SsmSIdeal.main_arg9) = m ((c.tc : Thread Cert.SsmSIdeal.nD Cert.SsmSIdeal.τ).loc Cert.SsmSIdeal.main_arg9)
          ∧ r.2.mem ((c.tc : Thread Cert.SsmSIdeal.nD Cert.SsmSIdeal.τ).loc Cert.SsmSIdeal.main_arg10) = m ((c.tc : Thread Cert.SsmSIdeal.nD Cert.SsmSIdeal.τ).loc Cert.SsmSIdeal.main_arg10)
          ∧ r.2.mem ((c.tc : Thread Cert.SsmSIdeal.nD Cert.SsmSIdeal.τ).loc Cert.SsmSIdeal.main_arg11) = m ((c.tc : Thread Cert.SsmSIdeal.nD Cert.SsmSIdeal.τ).loc Cert.SsmSIdeal.main_arg11))
      ∧ θ_run (Cert.SsmSRefIdeal.defs (F := Ideal)) (onTc (τ := Cert.SsmSRefIdeal.τ) (Cert.SsmSRefIdeal.main (F := Ideal))) ⟨m', fun _ => 0, g'⟩ (fun r => ∀ c : Dev Cert.SsmSRefIdeal.nD,
          r.2.mem ((c.tc : Thread Cert.SsmSRefIdeal.nD Cert.SsmSRefIdeal.τ).loc Cert.SsmSRefIdeal.main_v87) = v0 c
          ∧ r.2.mem ((c.tc : Thread Cert.SsmSRefIdeal.nD Cert.SsmSRefIdeal.τ).loc Cert.SsmSRefIdeal.main_v88) = v1 c
          ∧ r.2.mem ((c.tc : Thread Cert.SsmSRefIdeal.nD Cert.SsmSRefIdeal.τ).loc Cert.SsmSRefIdeal.main_arg0) = m' ((c.tc : Thread Cert.SsmSRefIdeal.nD Cert.SsmSRefIdeal.τ).loc Cert.SsmSRefIdeal.main_arg0)
          ∧ r.2.mem ((c.tc : Thread Cert.SsmSRefIdeal.nD Cert.SsmSRefIdeal.τ).loc Cert.SsmSRefIdeal.main_arg1) = m' ((c.tc : Thread Cert.SsmSRefIdeal.nD Cert.SsmSRefIdeal.τ).loc Cert.SsmSRefIdeal.main_arg1)
          ∧ r.2.mem ((c.tc : Thread Cert.SsmSRefIdeal.nD Cert.SsmSRefIdeal.τ).loc Cert.SsmSRefIdeal.main_arg2) = m' ((c.tc : Thread Cert.SsmSRefIdeal.nD Cert.SsmSRefIdeal.τ).loc Cert.SsmSRefIdeal.main_arg2)
          ∧ r.2.mem ((c.tc : Thread Cert.SsmSRefIdeal.nD Cert.SsmSRefIdeal.τ).loc Cert.SsmSRefIdeal.main_arg3) = m' ((c.tc : Thread Cert.SsmSRefIdeal.nD Cert.SsmSRefIdeal.τ).loc Cert.SsmSRefIdeal.main_arg3)
          ∧ r.2.mem ((c.tc : Thread Cert.SsmSRefIdeal.nD Cert.SsmSRefIdeal.τ).loc Cert.SsmSRefIdeal.main_arg4) = m' ((c.tc : Thread Cert.SsmSRefIdeal.nD Cert.SsmSRefIdeal.τ).loc Cert.SsmSRefIdeal.main_arg4)
          ∧ r.2.mem ((c.tc : Thread Cert.SsmSRefIdeal.nD Cert.SsmSRefIdeal.τ).loc Cert.SsmSRefIdeal.main_arg5) = m' ((c.tc : Thread Cert.SsmSRefIdeal.nD Cert.SsmSRefIdeal.τ).loc Cert.SsmSRefIdeal.main_arg5)
          ∧ r.2.mem ((c.tc : Thread Cert.SsmSRefIdeal.nD Cert.SsmSRefIdeal.τ).loc Cert.SsmSRefIdeal.main_arg6) = m' ((c.tc : Thread Cert.SsmSRefIdeal.nD Cert.SsmSRefIdeal.τ).loc Cert.SsmSRefIdeal.main_arg6)
          ∧ r.2.mem ((c.tc : Thread Cert.SsmSRefIdeal.nD Cert.SsmSRefIdeal.τ).loc Cert.SsmSRefIdeal.main_arg7) = m' ((c.tc : Thread Cert.SsmSRefIdeal.nD Cert.SsmSRefIdeal.τ).loc Cert.SsmSRefIdeal.main_arg7)
          ∧ r.2.mem ((c.tc : Thread Cert.SsmSRefIdeal.nD Cert.SsmSRefIdeal.τ).loc Cert.SsmSRefIdeal.main_arg8) = m' ((c.tc : Thread Cert.SsmSRefIdeal.nD Cert.SsmSRefIdeal.τ).loc Cert.SsmSRefIdeal.main_arg8)
          ∧ r.2.mem ((c.tc : Thread Cert.SsmSRefIdeal.nD Cert.SsmSRefIdeal.τ).loc Cert.SsmSRefIdeal.main_arg9) = m' ((c.tc : Thread Cert.SsmSRefIdeal.nD Cert.SsmSRefIdeal.τ).loc Cert.SsmSRefIdeal.main_arg9)
          ∧ r.2.mem ((c.tc : Thread Cert.SsmSRefIdeal.nD Cert.SsmSRefIdeal.τ).loc Cert.SsmSRefIdeal.main_arg10) = m' ((c.tc : Thread Cert.SsmSRefIdeal.nD Cert.SsmSRefIdeal.τ).loc Cert.SsmSRefIdeal.main_arg10)
          ∧ r.2.mem ((c.tc : Thread Cert.SsmSRefIdeal.nD Cert.SsmSRefIdeal.τ).loc Cert.SsmSRefIdeal.main_arg11) = m' ((c.tc : Thread Cert.SsmSRefIdeal.nD Cert.SsmSRefIdeal.τ).loc Cert.SsmSRefIdeal.main_arg11))

def Claim : Prop :=
  ∃ (hProj : Cert.Proj.Facts) (hProjIdeal : Cert.ProjIdeal.Facts) (hProjRefIdeal : Cert.ProjRefIdeal.Facts) (hPost : Cert.Post.Facts) (hPostIdeal : Cert.PostIdeal.Facts) (hPostRefIdeal : Cert.PostRefIdeal.Facts) (hProjS : Cert.ProjS.Facts) (hProjSIdeal : Cert.ProjSIdeal.Facts) (hProjSRefIdeal : Cert.ProjSRefIdeal.Facts) (hPostS : Cert.PostS.Facts) (hPostSIdeal : Cert.PostSIdeal.Facts) (hPostSRefIdeal : Cert.PostSRefIdeal.Facts) (hSsmS : Cert.SsmS.Facts) (hSsmSIdeal : Cert.SsmSIdeal.Facts) (hSsmSRefIdeal : Cert.SsmSRefIdeal.Facts),
    quiescent_Proj (hProj := hProj)
    ∧ quiescent_ProjIdeal (hProjIdeal := hProjIdeal)
    ∧ quiescent_ProjRefIdeal (hProjRefIdeal := hProjRefIdeal)
    ∧ quiescent_Post (hPost := hPost)
    ∧ quiescent_PostIdeal (hPostIdeal := hPostIdeal)
    ∧ quiescent_PostRefIdeal (hPostRefIdeal := hPostRefIdeal)
    ∧ quiescent_ProjS (hProjS := hProjS)
    ∧ quiescent_ProjSIdeal (hProjSIdeal := hProjSIdeal)
    ∧ quiescent_ProjSRefIdeal (hProjSRefIdeal := hProjSRefIdeal)
    ∧ quiescent_PostS (hPostS := hPostS)
    ∧ quiescent_PostSIdeal (hPostSIdeal := hPostSIdeal)
    ∧ quiescent_PostSRefIdeal (hPostSRefIdeal := hPostSRefIdeal)
    ∧ quiescent_SsmS (hSsmS := hSsmS)
    ∧ quiescent_SsmSIdeal (hSsmSIdeal := hSsmSIdeal)
    ∧ quiescent_SsmSRefIdeal (hSsmSRefIdeal := hSsmSRefIdeal)
    ∧ preserves_Proj_ProjIdeal
    ∧ algebraic_ProjIdeal_ProjRefIdeal (hProjIdeal := hProjIdeal) (hProjRefIdeal := hProjRefIdeal)
    ∧ preserves_Post_PostIdeal
    ∧ algebraic_PostIdeal_PostRefIdeal (hPostIdeal := hPostIdeal) (hPostRefIdeal := hPostRefIdeal)
    ∧ preserves_ProjS_ProjSIdeal
    ∧ algebraic_ProjSIdeal_ProjSRefIdeal (hProjSIdeal := hProjSIdeal) (hProjSRefIdeal := hProjSRefIdeal)
    ∧ preserves_PostS_PostSIdeal
    ∧ algebraic_PostSIdeal_PostSRefIdeal (hPostSIdeal := hPostSIdeal) (hPostSRefIdeal := hPostSRefIdeal)
    ∧ preserves_SsmS_SsmSIdeal
    ∧ algebraic_SsmSIdeal_SsmSRefIdeal (hSsmSIdeal := hSsmSIdeal) (hSsmSRefIdeal := hSsmSRefIdeal)
-- ==== Proj.lean ====
abbrev S8x2048x1024 : Shape := ⟨3, ![8, 2048, 1024]⟩
abbrev S16x1024 : Shape := ⟨2, ![16, 1024]⟩
abbrev S1x1024 : Shape := ⟨2, ![1, 1024]⟩
abbrev S1x1024x2048 : Shape := ⟨3, ![1, 1024, 2048]⟩
abbrev S1x2x64 : Shape := ⟨3, ![1, 2, 64]⟩
abbrev S256 : Shape := ⟨1, ![256]⟩
abbrev S_ : Shape := ⟨0, ![]⟩
abbrev S256x1 : Shape := ⟨2, ![256, 1]⟩
abbrev S1x256 : Shape := ⟨2, ![1, 256]⟩
abbrev S256x256 : Shape := ⟨2, ![256, 256]⟩
abbrev S1024 : Shape := ⟨1, ![1024]⟩
abbrev S1024x2048 : Shape := ⟨2, ![1024, 2048]⟩
abbrev S2x64 : Shape := ⟨2, ![2, 64]⟩
abbrev S128 : Shape := ⟨1, ![128]⟩
abbrev S1x128 : Shape := ⟨2, ![1, 128]⟩
abbrev S4x128 : Shape := ⟨2, ![4, 128]⟩
abbrev S512 : Shape := ⟨1, ![512]⟩
abbrev S1x512 : Shape := ⟨2, ![1, 512]⟩
abbrev S8x16x1024 : Shape := ⟨3, ![8, 16, 1024]⟩
abbrev S8x2064x1024 : Shape := ⟨3, ![8, 2064, 1024]⟩
abbrev S16512x1024 : Shape := ⟨2, ![16512, 1024]⟩
abbrev S16512x512 : Shape := ⟨2, ![16512, 512]⟩
abbrev S2064x4096 : Shape := ⟨2, ![2064, 4096]⟩
abbrev S688x1024 : Shape := ⟨2, ![688, 1024]⟩
abbrev S688x512 : Shape := ⟨2, ![688, 512]⟩
abbrev S688 : Shape := ⟨1, ![688]⟩
abbrev S688x1 : Shape := ⟨2, ![688, 1]⟩
abbrev S688x2048 : Shape := ⟨2, ![688, 2048]⟩
abbrev S688x256 : Shape := ⟨2, ![688, 256]⟩

abbrev nBuf : Space → Nat
  | .hbm => 59
  | .vmem => 19
  | .smem => 0
  | _ => 0

abbrev bufTy : (tb : Table) → Fin (tcTables nBuf tb) → BufTy
  | .hbm, ⟨0, _⟩ => ⟨S8x2048x1024, .f32⟩
  | .hbm, ⟨1, _⟩ => ⟨S16x1024, .f32⟩
  | .hbm, ⟨2, _⟩ => ⟨S1x1024, .f32⟩
  | .hbm, ⟨3, _⟩ => ⟨S1x1024x2048, .f32⟩
  | .hbm, ⟨4, _⟩ => ⟨S1x2x64, .f32⟩
  | .hbm, ⟨5, _⟩ => ⟨S1x2x64, .f32⟩
  | .hbm, ⟨6, _⟩ => ⟨S256, .i32⟩
  | .hbm, ⟨7, _⟩ => ⟨S_, .i32⟩
  | .hbm, ⟨8, _⟩ => ⟨S_, .i32⟩
  | .hbm, ⟨9, _⟩ => ⟨S256, .i32⟩
  | .hbm, ⟨10, _⟩ => ⟨S256, .i32⟩
  | .hbm, ⟨11, _⟩ => ⟨S256, .i32⟩
  | .hbm, ⟨12, _⟩ => ⟨S_, .i32⟩
  | .hbm, ⟨13, _⟩ => ⟨S256, .i32⟩
  | .hbm, ⟨14, _⟩ => ⟨S256, .i1⟩
  | .hbm, ⟨15, _⟩ => ⟨S256, .i32⟩
  | .hbm, ⟨16, _⟩ => ⟨S256, .i32⟩
  | .hbm, ⟨17, _⟩ => ⟨S_, .i32⟩
  | .hbm, ⟨18, _⟩ => ⟨S256, .i32⟩
  | .hbm, ⟨19, _⟩ => ⟨S256, .i1⟩
  | .hbm, ⟨20, _⟩ => ⟨S256, .i1⟩
  | .hbm, ⟨21, _⟩ => ⟨S_, .i32⟩
  | .hbm, ⟨22, _⟩ => ⟨S256, .i32⟩
  | .hbm, ⟨23, _⟩ => ⟨S256, .i32⟩
  | .hbm, ⟨24, _⟩ => ⟨S256, .i32⟩
  | .hbm, ⟨25, _⟩ => ⟨S256x1, .i32⟩
  | .hbm, ⟨26, _⟩ => ⟨S1x256, .i32⟩
  | .hbm, ⟨27, _⟩ => ⟨S256x256, .i32⟩
  | .hbm, ⟨28, _⟩ => ⟨S256x256, .i32⟩
  | .hbm, ⟨29, _⟩ => ⟨S256x256, .i1⟩
  | .hbm, ⟨30, _⟩ => ⟨S256x256, .bf16⟩
  | .hbm, ⟨31, _⟩ => ⟨S_, .bf16⟩
  | .hbm, ⟨32, _⟩ => ⟨S256x256, .bf16⟩
  | .hbm, ⟨33, _⟩ => ⟨S256x256, .bf16⟩
  | .hbm, ⟨34, _⟩ => ⟨S1024, .f32⟩
  | .hbm, ⟨35, _⟩ => ⟨S1x1024, .f32⟩
  | .hbm, ⟨36, _⟩ => ⟨S1024x2048, .f32⟩
  | .hbm, ⟨37, _⟩ => ⟨S1024x2048, .bf16⟩
  | .hbm, ⟨38, _⟩ => ⟨S2x64, .f32⟩
  | .hbm, ⟨39, _⟩ => ⟨S128, .f32⟩
  | .hbm, ⟨40, _⟩ => ⟨S1x128, .f32⟩
  | .hbm, ⟨41, _⟩ => ⟨S4x128, .f32⟩
  | .hbm, ⟨42, _⟩ => ⟨S512, .f32⟩
  | .hbm, ⟨43, _⟩ => ⟨S1x512, .f32⟩
  | .hbm, ⟨44, _⟩ => ⟨S2x64, .f32⟩
  | .hbm, ⟨45, _⟩ => ⟨S128, .f32⟩
  | .hbm, ⟨46, _⟩ => ⟨S1x128, .f32⟩
  | .hbm, ⟨47, _⟩ => ⟨S4x128, .f32⟩
  | .hbm, ⟨48, _⟩ => ⟨S512, .f32⟩
  | .hbm, ⟨49, _⟩ => ⟨S1x512, .f32⟩
  | .hbm, ⟨50, _⟩ => ⟨S8x16x1024, .f32⟩
  | .hbm, ⟨51, _⟩ => ⟨S8x2064x1024, .f32⟩
  | .hbm, ⟨52, _⟩ => ⟨S16512x1024, .f32⟩
  | .hbm, ⟨53, _⟩ => ⟨S16512x512, .bf16⟩
  | .hbm, ⟨54, _⟩ => ⟨S16512x512, .f32⟩
  | .hbm, ⟨55, _⟩ => ⟨S16512x512, .bf16⟩
  | .hbm, ⟨56, _⟩ => ⟨S16512x512, .f32⟩
  | .hbm, ⟨57, _⟩ => ⟨S16512x512, .bf16⟩
  | .hbm, ⟨58, _⟩ => ⟨S2064x4096, .f32⟩
  | .local _ .vmem, ⟨0, _⟩ => ⟨S688x1024, .f32⟩
  | .local _ .vmem, ⟨1, _⟩ => ⟨S688x1024, .f32⟩
  | .local _ .vmem, ⟨2, _⟩ => ⟨S1x1024, .f32⟩
  | .local _ .vmem, ⟨3, _⟩ => ⟨S1024x2048, .bf16⟩
  | .local _ .vmem, ⟨4, _⟩ => ⟨S1x512, .f32⟩
  | .local _ .vmem, ⟨5, _⟩ => ⟨S1x512, .f32⟩
  | .local _ .vmem, ⟨6, _⟩ => ⟨S256x256, .bf16⟩
  | .local _ .vmem, ⟨7, _⟩ => ⟨S688x512, .bf16⟩
  | .local _ .vmem, ⟨8, _⟩ => ⟨S688x512, .bf16⟩
  | .local _ .vmem, ⟨9, _⟩ => ⟨S688x512, .f32⟩
  | .local _ .vmem, ⟨10, _⟩ => ⟨S688x512, .f32⟩
  | .local _ .vmem, ⟨11, _⟩ => ⟨S688x512, .bf16⟩
  | .local _ .vmem, ⟨12, _⟩ => ⟨S688x512, .bf16⟩
  | .local _ .vmem, ⟨13, _⟩ => ⟨S688x512, .f32⟩
  | .local _ .vmem, ⟨14, _⟩ => ⟨S688x512, .f32⟩
  | .local _ .vmem, ⟨15, _⟩ => ⟨S688x512, .bf16⟩
  | .local _ .vmem, ⟨16, _⟩ => ⟨S688x512, .bf16⟩
  | .local _ .vmem, ⟨17, _⟩ => ⟨S688x512, .f32⟩
  | .local _ .vmem, ⟨18, _⟩ => ⟨S688x512, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_c : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_0 : Ref sig .tc := ⟨.hbm, 21, rfl⟩
abbrev main_call0_v12 : Ref sig .tc := ⟨.hbm, 22, rfl⟩
abbrev main_call0_v13 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_cst : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29_0 : Ref sig .tc := ⟨.hbm, 53, rfl⟩
abbrev main_v29_1 : Ref sig .tc := ⟨.hbm, 54, rfl⟩
abbrev main_v29_2 : Ref sig .tc := ⟨.hbm, 55, rfl⟩
abbrev main_v29_3 : Ref sig .tc := ⟨.hbm, 56, rfl⟩
abbrev main_v29_4 : Ref sig .tc := ⟨.hbm, 57, rfl⟩
abbrev main_v29_5 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18

abbrev nD : Nat := 1
abbrev τ : Topo := Topo.v7x

variable {F : FTy → Type} [FloatOps F]

abbrev grid0 : Pipeline.Grid := ⟨2, ![8, 3], ![false, false]⟩

def cc0_transform_0 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.muli arg0 c3_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.muli arg0 c3_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.muli arg0 c3_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.muli arg0 c3_i32
  let v1 : BitVec 32 := Scalar.addi v0 arg1
  let c0_i32 : BitVec 32 := 0#32
  let c0_i32_0 : BitVec 32 := 0#32
  ![v1.toNat, c0_i32.toNat]

def cc0_transform_9 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.muli arg0 c3_i32
  let v1 : BitVec 32 := Scalar.addi v0 arg1
  let c0_i32 : BitVec 32 := 0#32
  let c0_i32_0 : BitVec 32 := 0#32
  ![v1.toNat, c0_i32.toNat]

def cc0_transform_10 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.muli arg0 c3_i32
  let v1 : BitVec 32 := Scalar.addi v0 arg1
  let c0_i32 : BitVec 32 := 0#32
  let c0_i32_0 : BitVec 32 := 0#32
  ![v1.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S688x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S688x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S688x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S688x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S688x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S688x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S688x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== ProjRefIdeal.lean ====
abbrev S8x2048x1024 : Shape := ⟨3, ![8, 2048, 1024]⟩
abbrev S16x1024 : Shape := ⟨2, ![16, 1024]⟩
abbrev S1x1024 : Shape := ⟨2, ![1, 1024]⟩
abbrev S1x1024x2048 : Shape := ⟨3, ![1, 1024, 2048]⟩
abbrev S1x2x64 : Shape := ⟨3, ![1, 2, 64]⟩
abbrev S8x16x1024 : Shape := ⟨3, ![8, 16, 1024]⟩
abbrev S8x2064x1024 : Shape := ⟨3, ![8, 2064, 1024]⟩
abbrev S1024 : Shape := ⟨1, ![1024]⟩
abbrev S_ : Shape := ⟨0, ![]⟩
abbrev S8x2064 : Shape := ⟨2, ![8, 2064]⟩
abbrev S8x2064x1 : Shape := ⟨3, ![8, 2064, 1]⟩
abbrev S1x1x1024 : Shape := ⟨3, ![1, 1, 1024]⟩
abbrev S1024x2048 : Shape := ⟨2, ![1024, 2048]⟩
abbrev S8x2064x2048 : Shape := ⟨3, ![8, 2064, 2048]⟩
abbrev S8x2064x512 : Shape := ⟨3, ![8, 2064, 512]⟩
abbrev S8x2064x4x2x64 : Shape := ⟨5, ![8, 2064, 4, 2, 64]⟩
abbrev S2x64 : Shape := ⟨2, ![2, 64]⟩
abbrev S8x2064x4x2 : Shape := ⟨4, ![8, 2064, 4, 2]⟩
abbrev S8x2064x4x2x1 : Shape := ⟨5, ![8, 2064, 4, 2, 1]⟩
abbrev S1x1x1x2x64 : Shape := ⟨5, ![1, 1, 1, 2, 64]⟩
abbrev S16512x512 : Shape := ⟨2, ![16512, 512]⟩
abbrev S2064x8x512 : Shape := ⟨3, ![2064, 8, 512]⟩
abbrev S2064x4096 : Shape := ⟨2, ![2064, 4096]⟩

abbrev nBuf : Space → Nat
  | .hbm => 78
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S16x1024, .f32⟩
  | .hbm, ⟨2, _⟩ => ⟨S1x1024, .f32⟩
  | .hbm, ⟨3, _⟩ => ⟨S1x1024x2048, .f32⟩
  | .hbm, ⟨4, _⟩ => ⟨S1x2x64, .f32⟩
  | .hbm, ⟨5, _⟩ => ⟨S1x2x64, .f32⟩
  | .hbm, ⟨6, _⟩ => ⟨S8x16x1024, .f32⟩
  | .hbm, ⟨7, _⟩ => ⟨S8x2064x1024, .f32⟩
  | .hbm, ⟨8, _⟩ => ⟨S1024, .f32⟩
  | .hbm, ⟨9, _⟩ => ⟨S8x2064x1024, .f32⟩
  | .hbm, ⟨10, _⟩ => ⟨S_, .f32⟩
  | .hbm, ⟨11, _⟩ => ⟨S8x2064, .f32⟩
  | .hbm, ⟨12, _⟩ => ⟨S8x2064x1, .f32⟩
  | .hbm, ⟨13, _⟩ => ⟨S_, .f32⟩
  | .hbm, ⟨14, _⟩ => ⟨S8x2064x1, .f32⟩
  | .hbm, ⟨15, _⟩ => ⟨S8x2064x1, .f32⟩
  | .hbm, ⟨16, _⟩ => ⟨S_, .f32⟩
  | .hbm, ⟨17, _⟩ => ⟨S8x2064x1, .f32⟩
  | .hbm, ⟨18, _⟩ => ⟨S8x2064x1, .f32⟩
  | .hbm, ⟨19, _⟩ => ⟨S8x2064x1, .f32⟩
  | .hbm, ⟨20, _⟩ => ⟨S8x2064x1024, .f32⟩
  | .hbm, ⟨21, _⟩ => ⟨S8x2064x1024, .f32⟩
  | .hbm, ⟨22, _⟩ => ⟨S1x1x1024, .f32⟩
  | .hbm, ⟨23, _⟩ => ⟨S8x2064x1024, .f32⟩
  | .hbm, ⟨24, _⟩ => ⟨S8x2064x1024, .f32⟩
  | .hbm, ⟨25, _⟩ => ⟨S1024x2048, .f32⟩
  | .hbm, ⟨26, _⟩ => ⟨S8x2064x2048, .f32⟩
  | .hbm, ⟨27, _⟩ => ⟨S8x2064x512, .f32⟩
  | .hbm, ⟨28, _⟩ => ⟨S8x2064x512, .f32⟩
  | .hbm, ⟨29, _⟩ => ⟨S8x2064x512, .f32⟩
  | .hbm, ⟨30, _⟩ => ⟨S8x2064x512, .f32⟩
  | .hbm, ⟨31, _⟩ => ⟨S8x2064x4x2x64, .f32⟩
  | .hbm, ⟨32, _⟩ => ⟨S2x64, .f32⟩
  | .hbm, ⟨33, _⟩ => ⟨S8x2064x4x2x64, .f32⟩
  | .hbm, ⟨34, _⟩ => ⟨S_, .f32⟩
  | .hbm, ⟨35, _⟩ => ⟨S8x2064x4x2, .f32⟩
  | .hbm, ⟨36, _⟩ => ⟨S8x2064x4x2x1, .f32⟩
  | .hbm, ⟨37, _⟩ => ⟨S_, .f32⟩
  | .hbm, ⟨38, _⟩ => ⟨S8x2064x4x2x1, .f32⟩
  | .hbm, ⟨39, _⟩ => ⟨S8x2064x4x2x1, .f32⟩
  | .hbm, ⟨40, _⟩ => ⟨S_, .f32⟩
  | .hbm, ⟨41, _⟩ => ⟨S8x2064x4x2x1, .f32⟩
  | .hbm, ⟨42, _⟩ => ⟨S8x2064x4x2x1, .f32⟩
  | .hbm, ⟨43, _⟩ => ⟨S8x2064x4x2x1, .f32⟩
  | .hbm, ⟨44, _⟩ => ⟨S8x2064x4x2x64, .f32⟩
  | .hbm, ⟨45, _⟩ => ⟨S8x2064x4x2x64, .f32⟩
  | .hbm, ⟨46, _⟩ => ⟨S1x1x1x2x64, .f32⟩
  | .hbm, ⟨47, _⟩ => ⟨S8x2064x4x2x64, .f32⟩
  | .hbm, ⟨48, _⟩ => ⟨S8x2064x4x2x64, .f32⟩
  | .hbm, ⟨49, _⟩ => ⟨S8x2064x4x2x64, .f32⟩
  | .hbm, ⟨50, _⟩ => ⟨S2x64, .f32⟩
  | .hbm, ⟨51, _⟩ => ⟨S8x2064x4x2x64, .f32⟩
  | .hbm, ⟨52, _⟩ => ⟨S_, .f32⟩
  | .hbm, ⟨53, _⟩ => ⟨S8x2064x4x2, .f32⟩
  | .hbm, ⟨54, _⟩ => ⟨S8x2064x4x2x1, .f32⟩
  | .hbm, ⟨55, _⟩ => ⟨S_, .f32⟩
  | .hbm, ⟨56, _⟩ => ⟨S8x2064x4x2x1, .f32⟩
  | .hbm, ⟨57, _⟩ => ⟨S8x2064x4x2x1, .f32⟩
  | .hbm, ⟨58, _⟩ => ⟨S_, .f32⟩
  | .hbm, ⟨59, _⟩ => ⟨S8x2064x4x2x1, .f32⟩
  | .hbm, ⟨60, _⟩ => ⟨S8x2064x4x2x1, .f32⟩
  | .hbm, ⟨61, _⟩ => ⟨S8x2064x4x2x1, .f32⟩
  | .hbm, ⟨62, _⟩ => ⟨S8x2064x4x2x64, .f32⟩
  | .hbm, ⟨63, _⟩ => ⟨S8x2064x4x2x64, .f32⟩
  | .hbm, ⟨64, _⟩ => ⟨S1x1x1x2x64, .f32⟩
  | .hbm, ⟨65, _⟩ => ⟨S8x2064x4x2x64, .f32⟩
  | .hbm, ⟨66, _⟩ => ⟨S8x2064x4x2x64, .f32⟩
  | .hbm, ⟨67, _⟩ => ⟨S_, .f32⟩
  | .hbm, ⟨68, _⟩ => ⟨S8x2064x4x2x64, .f32⟩
  | .hbm, ⟨69, _⟩ => ⟨S8x2064x4x2x64, .f32⟩
  | .hbm, ⟨70, _⟩ => ⟨S16512x512, .f32⟩
  | .hbm, ⟨71, _⟩ => ⟨S16512x512, .f32⟩
  | .hbm, ⟨72, _⟩ => ⟨S16512x512, .f32⟩
  | .hbm, ⟨73, _⟩ => ⟨S2064x8x512, .f32⟩
  | .hbm, ⟨74, _⟩ => ⟨S2064x4096, .f32⟩
  | .hbm, ⟨75, _⟩ => ⟨S16512x512, .bf16⟩
  | .hbm, ⟨76, _⟩ => ⟨S16512x512, .bf16⟩
  | .hbm, ⟨77, _⟩ => ⟨S16512x512, .bf16⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_2 : Ref sig .tc := ⟨.hbm, 34, rfl⟩
abbrev main_v25 : Ref sig .tc := ⟨.hbm, 35, rfl⟩
abbrev main_v26 : Ref sig .tc := ⟨.hbm, 36, rfl⟩
abbrev main_cst_3 : Ref sig .tc := ⟨.hbm, 37, rfl⟩
abbrev main_v27 : Ref sig .tc := ⟨.hbm, 38, rfl⟩
abbrev main_v28 : Ref sig .tc := ⟨.hbm, 39, rfl⟩
abbrev main_cst_4 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_cst_5 : Ref sig .tc := ⟨.hbm, 52, rfl⟩
abbrev main_v40 : Ref sig .tc := ⟨.hbm, 53, rfl⟩
abbrev main_v41 : Ref sig .tc := ⟨.hbm, 54, rfl⟩
abbrev main_cst_6 : Ref sig .tc := ⟨.hbm, 55, rfl⟩
abbrev main_v42 : Ref sig .tc := ⟨.hbm, 56, rfl⟩
abbrev main_v43 : Ref sig .tc := ⟨.hbm, 57, rfl⟩
abbrev main_cst_7 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_cst_8 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩

abbrev nD : Nat := 1
abbrev τ : Topo := Topo.v7x

variable {F : FTy → Type} [FloatOps F]
-- ==== Post.lean ====
abbrev S8x2048x1024 : Shape := ⟨3, ![8, 2048, 1024]⟩
abbrev S16x1024 : Shape := ⟨2, ![16, 1024]⟩
abbrev S8x2064x512 : Shape := ⟨3, ![8, 2064, 512]⟩
abbrev S2064x8x512 : Shape := ⟨3, ![2064, 8, 512]⟩
abbrev S1x1024x1024 : Shape := ⟨3, ![1, 1024, 1024]⟩
abbrev S1x1024 : Shape := ⟨2, ![1, 1024]⟩
abbrev S1x1024x2816 : Shape := ⟨3, ![1, 1024, 2816]⟩
abbrev S1x3x2816 : Shape := ⟨3, ![1, 3, 2816]⟩
abbrev S1x2816 : Shape := ⟨2, ![1, 2816]⟩
abbrev S1x2816x1024 : Shape := ⟨3, ![1, 2816, 1024]⟩
abbrev S1024x1024 : Shape := ⟨2, ![1024, 1024]⟩
abbrev S1024 : Shape := ⟨1, ![1024]⟩
abbrev S1024x2816 : Shape := ⟨2, ![1024, 2816]⟩
abbrev S3x2816 : Shape := ⟨2, ![3, 2816]⟩
abbrev S2816 : Shape := ⟨1, ![2816]⟩
abbrev S2816x1024 : Shape := ⟨2, ![2816, 1024]⟩
abbrev S8x16x1024 : Shape := ⟨3, ![8, 16, 1024]⟩
abbrev S8x2064x1024 : Shape := ⟨3, ![8, 2064, 1024]⟩
abbrev S16512x1024 : Shape := ⟨2, ![16512, 1024]⟩
abbrev S16512x512 : Shape := ⟨2, ![16512, 512]⟩
abbrev S2064x4096 : Shape := ⟨2, ![2064, 4096]⟩
abbrev S_ : Shape := ⟨0, ![]⟩
abbrev S8x2x2816 : Shape := ⟨3, ![8, 2, 2816]⟩
abbrev S688x1024 : Shape := ⟨2, ![688, 1024]⟩
abbrev S688x512 : Shape := ⟨2, ![688, 512]⟩
abbrev S1x2x2816 : Shape := ⟨3, ![1, 2, 2816]⟩
abbrev S696x256 : Shape := ⟨2, ![696, 256]⟩
abbrev S2x2816 : Shape := ⟨2, ![2, 2816]⟩
abbrev S688 : Shape := ⟨1, ![688]⟩
abbrev S688x1 : Shape := ⟨2, ![688, 1]⟩
abbrev S1024x256 : Shape := ⟨2, ![1024, 256]⟩
abbrev S688x256 : Shape := ⟨2, ![688, 256]⟩
abbrev S2x256 : Shape := ⟨2, ![2, 256]⟩
abbrev S1x256 : Shape := ⟨2, ![1, 256]⟩
abbrev S256x1024 : Shape := ⟨2, ![256, 1024]⟩

abbrev nBuf : Space → Nat
  | .hbm => 33
  | .vmem => 22
  | .smem => 0
  | _ => 0

abbrev bufTy : (tb : Table) → Fin (tcTables nBuf tb) → BufTy
  | .hbm, ⟨0, _⟩ => ⟨S8x2048x1024, .f32⟩
  | .hbm, ⟨1, _⟩ => ⟨S16x1024, .f32⟩
  | .hbm, ⟨2, _⟩ => ⟨S8x2064x512, .bf16⟩
  | .hbm, ⟨3, _⟩ => ⟨S2064x8x512, .f32⟩
  | .hbm, ⟨4, _⟩ => ⟨S1x1024x1024, .f32⟩
  | .hbm, ⟨5, _⟩ => ⟨S1x1024, .f32⟩
  | .hbm, ⟨6, _⟩ => ⟨S1x1024x2816, .f32⟩
  | .hbm, ⟨7, _⟩ => ⟨S1x1024x2816, .f32⟩
  | .hbm, ⟨8, _⟩ => ⟨S1x3x2816, .f32⟩
  | .hbm, ⟨9, _⟩ => ⟨S1x2816, .f32⟩
  | .hbm, ⟨10, _⟩ => ⟨S1x2816x1024, .f32⟩
  | .hbm, ⟨11, _⟩ => ⟨S1024x1024, .f32⟩
  | .hbm, ⟨12, _⟩ => ⟨S1024x1024, .bf16⟩
  | .hbm, ⟨13, _⟩ => ⟨S1024, .f32⟩
  | .hbm, ⟨14, _⟩ => ⟨S1x1024, .f32⟩
  | .hbm, ⟨15, _⟩ => ⟨S1024x2816, .f32⟩
  | .hbm, ⟨16, _⟩ => ⟨S1024x2816, .bf16⟩
  | .hbm, ⟨17, _⟩ => ⟨S1024x2816, .f32⟩
  | .hbm, ⟨18, _⟩ => ⟨S1024x2816, .bf16⟩
  | .hbm, ⟨19, _⟩ => ⟨S3x2816, .f32⟩
  | .hbm, ⟨20, _⟩ => ⟨S2816, .f32⟩
  | .hbm, ⟨21, _⟩ => ⟨S1x2816, .f32⟩
  | .hbm, ⟨22, _⟩ => ⟨S2816x1024, .f32⟩
  | .hbm, ⟨23, _⟩ => ⟨S2816x1024, .bf16⟩
  | .hbm, ⟨24, _⟩ => ⟨S8x16x1024, .f32⟩
  | .hbm, ⟨25, _⟩ => ⟨S8x2064x1024, .f32⟩
  | .hbm, ⟨26, _⟩ => ⟨S16512x1024, .f32⟩
  | .hbm, ⟨27, _⟩ => ⟨S16512x512, .bf16⟩
  | .hbm, ⟨28, _⟩ => ⟨S2064x4096, .f32⟩
  | .hbm, ⟨29, _⟩ => ⟨S_, .f32⟩
  | .hbm, ⟨30, _⟩ => ⟨S8x2x2816, .f32⟩
  | .hbm, ⟨31, _⟩ => ⟨S16512x1024, .f32⟩
  | .hbm, ⟨32, _⟩ => ⟨S8x2x2816, .f32⟩
  | .local _ .vmem, ⟨0, _⟩ => ⟨S688x1024, .f32⟩
  | .local _ .vmem, ⟨1, _⟩ => ⟨S688x1024, .f32⟩
  | .local _ .vmem, ⟨2, _⟩ => ⟨S688x512, .bf16⟩
  | .local _ .vmem, ⟨3, _⟩ => ⟨S688x512, .bf16⟩
  | .local _ .vmem, ⟨4, _⟩ => ⟨S688x512, .f32⟩
  | .local _ .vmem, ⟨5, _⟩ => ⟨S688x512, .f32⟩
  | .local _ .vmem, ⟨6, _⟩ => ⟨S1x2x2816, .f32⟩
  | .local _ .vmem, ⟨7, _⟩ => ⟨S1x2x2816, .f32⟩
  | .local _ .vmem, ⟨8, _⟩ => ⟨S1024x1024, .bf16⟩
  | .local _ .vmem, ⟨9, _⟩ => ⟨S1x1024, .f32⟩
  | .local _ .vmem, ⟨10, _⟩ => ⟨S1024x2816, .bf16⟩
  | .local _ .vmem, ⟨11, _⟩ => ⟨S1024x2816, .bf16⟩
  | .local _ .vmem, ⟨12, _⟩ => ⟨S3x2816, .f32⟩
  | .local _ .vmem, ⟨13, _⟩ => ⟨S1x2816, .f32⟩
  | .local _ .vmem, ⟨14, _⟩ => ⟨S2816x1024, .bf16⟩
  | .local _ .vmem, ⟨15, _⟩ => ⟨S688x1024, .f32⟩
  | .local _ .vmem, ⟨16, _⟩ => ⟨S688x1024, .f32⟩
  | .local _ .vmem, ⟨17, _⟩ => ⟨S1x2x2816, .f32⟩
  | .local _ .vmem, ⟨18, _⟩ => ⟨S1x2x2816, .f32⟩
  | .local _ .vmem, ⟨19, _⟩ => ⟨S688x1024, .f32⟩
  | .local _ .vmem, ⟨20, _⟩ => ⟨S696x256, .f32⟩
  | .local _ .vmem, ⟨21, _⟩ => ⟨S2x2816, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst : Ref sig .tc := ⟨.hbm, 29, rfl⟩
abbrev main_v18 : Ref sig .tc := ⟨.hbm, 30, rfl⟩
abbrev main_v19_0 : Ref sig .tc := ⟨.hbm, 31, rfl⟩
abbrev main_v19_1 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_scratch0 : Ref sig .tc := ⟨.vmem, 19, rfl⟩
abbrev cc0_scratch1 : Ref sig .tc := ⟨.vmem, 20, rfl⟩
abbrev cc0_scratch2 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem11_1 : DmaSem sig := 16
abbrev cc0_sem12_0 : DmaSem sig := 17
abbrev cc0_sem12_1 : DmaSem sig := 18

abbrev nD : Nat := 1
abbrev τ : Topo := Topo.v7x

variable {F : FTy → Type} [FloatOps F]

abbrev grid0 : Pipeline.Grid := ⟨2, ![8, 3], ![false, false]⟩

def cc0_transform_0 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.muli arg0 c3_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.muli arg0 c3_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.muli arg0 c3_i32
  let v1 : BitVec 32 := Scalar.addi v0 arg1
  let c0_i32 : BitVec 32 := 0#32
  let c0_i32_0 : BitVec 32 := 0#32
  ![v1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S688x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S688x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S688x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2x2816 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x2816 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x2816 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S3x2816 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x2816 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S2816x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S688x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x2x2816 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]
-- ==== PostRefIdeal.lean ====
abbrev S8x2048x1024 : Shape := ⟨3, ![8, 2048, 1024]⟩
abbrev S16x1024 : Shape := ⟨2, ![16, 1024]⟩
abbrev S8x2064x512 : Shape := ⟨3, ![8, 2064, 512]⟩
abbrev S2064x8x512 : Shape := ⟨3, ![2064, 8, 512]⟩
abbrev S1x1024x1024 : Shape := ⟨3, ![1, 1024, 1024]⟩
abbrev S1x1024 : Shape := ⟨2, ![1, 1024]⟩
abbrev S1x1024x2816 : Shape := ⟨3, ![1, 1024, 2816]⟩
abbrev S1x3x2816 : Shape := ⟨3, ![1, 3, 2816]⟩
abbrev S1x2816 : Shape := ⟨2, ![1, 2816]⟩
abbrev S1x2816x1024 : Shape := ⟨3, ![1, 2816, 1024]⟩
abbrev S8x16x1024 : Shape := ⟨3, ![8, 16, 1024]⟩
abbrev S8x2064x1024 : Shape := ⟨3, ![8, 2064, 1024]⟩
abbrev S1024x1024 : Shape := ⟨2, ![1024, 1024]⟩
abbrev S1024 : Shape := ⟨1, ![1024]⟩
abbrev S_ : Shape := ⟨0, ![]⟩
abbrev S8x2064 : Shape := ⟨2, ![8, 2064]⟩
abbrev S8x2064x1 : Shape := ⟨3, ![8, 2064, 1]⟩
abbrev S1x1x1024 : Shape := ⟨3, ![1, 1, 1024]⟩
abbrev S1024x2816 : Shape := ⟨2, ![1024, 2816]⟩
abbrev S8x2064x2816 : Shape := ⟨3, ![8, 2064, 2816]⟩
abbrev S8x2x2816 : Shape := ⟨3, ![8, 2, 2816]⟩
abbrev S8x2066x2816 : Shape := ⟨3, ![8, 2066, 2816]⟩
abbrev S2816 : Shape := ⟨1, ![2816]⟩
abbrev S3x2816 : Shape := ⟨2, ![3, 2816]⟩
abbrev S1x1x2816 : Shape := ⟨3, ![1, 1, 2816]⟩
abbrev S2816x1024 : Shape := ⟨2, ![2816, 1024]⟩
abbrev S16512x1024 : Shape := ⟨2, ![16512, 1024]⟩

abbrev nBuf : Space → Nat
  | .hbm => 96
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S16x1024, .f32⟩
  | .hbm, ⟨2, _⟩ => ⟨S8x2064x512, .bf16⟩
  | .hbm, ⟨3, _⟩ => ⟨S2064x8x512, .f32⟩
  | .hbm, ⟨4, _⟩ => ⟨S1x1024x1024, .f32⟩
  | .hbm, ⟨5, _⟩ => ⟨S1x1024, .f32⟩
  | .hbm, ⟨6, _⟩ => ⟨S1x1024x2816, .f32⟩
  | .hbm, ⟨7, _⟩ => ⟨S1x1024x2816, .f32⟩
  | .hbm, ⟨8, _⟩ => ⟨S1x3x2816, .f32⟩
  | .hbm, ⟨9, _⟩ => ⟨S1x2816, .f32⟩
  | .hbm, ⟨10, _⟩ => ⟨S1x2816x1024, .f32⟩
  | .hbm, ⟨11, _⟩ => ⟨S8x16x1024, .f32⟩
  | .hbm, ⟨12, _⟩ => ⟨S8x2064x1024, .f32⟩
  | .hbm, ⟨13, _⟩ => ⟨S8x2064x512, .f32⟩
  | .hbm, ⟨14, _⟩ => ⟨S8x2064x512, .f32⟩
  | .hbm, ⟨15, _⟩ => ⟨S8x2064x1024, .f32⟩
  | .hbm, ⟨16, _⟩ => ⟨S1024x1024, .f32⟩
  | .hbm, ⟨17, _⟩ => ⟨S8x2064x1024, .f32⟩
  | .hbm, ⟨18, _⟩ => ⟨S8x2064x1024, .f32⟩
  | .hbm, ⟨19, _⟩ => ⟨S1024, .f32⟩
  | .hbm, ⟨20, _⟩ => ⟨S8x2064x1024, .f32⟩
  | .hbm, ⟨21, _⟩ => ⟨S_, .f32⟩
  | .hbm, ⟨22, _⟩ => ⟨S8x2064, .f32⟩
  | .hbm, ⟨23, _⟩ => ⟨S8x2064x1, .f32⟩
  | .hbm, ⟨24, _⟩ => ⟨S_, .f32⟩
  | .hbm, ⟨25, _⟩ => ⟨S8x2064x1, .f32⟩
  | .hbm, ⟨26, _⟩ => ⟨S8x2064x1, .f32⟩
  | .hbm, ⟨27, _⟩ => ⟨S_, .f32⟩
  | .hbm, ⟨28, _⟩ => ⟨S8x2064x1, .f32⟩
  | .hbm, ⟨29, _⟩ => ⟨S8x2064x1, .f32⟩
  | .hbm, ⟨30, _⟩ => ⟨S8x2064x1, .f32⟩
  | .hbm, ⟨31, _⟩ => ⟨S8x2064x1024, .f32⟩
  | .hbm, ⟨32, _⟩ => ⟨S8x2064x1024, .f32⟩
  | .hbm, ⟨33, _⟩ => ⟨S1x1x1024, .f32⟩
  | .hbm, ⟨34, _⟩ => ⟨S8x2064x1024, .f32⟩
  | .hbm, ⟨35, _⟩ => ⟨S8x2064x1024, .f32⟩
  | .hbm, ⟨36, _⟩ => ⟨S1024x2816, .f32⟩
  | .hbm, ⟨37, _⟩ => ⟨S8x2064x2816, .f32⟩
  | .hbm, ⟨38, _⟩ => ⟨S1024x2816, .f32⟩
  | .hbm, ⟨39, _⟩ => ⟨S8x2064x2816, .f32⟩
  | .hbm, ⟨40, _⟩ => ⟨S_, .f32⟩
  | .hbm, ⟨41, _⟩ => ⟨S8x2x2816, .f32⟩
  | .hbm, ⟨42, _⟩ => ⟨S8x2066x2816, .f32⟩
  | .hbm, ⟨43, _⟩ => ⟨S2816, .f32⟩
  | .hbm, ⟨44, _⟩ => ⟨S3x2816, .f32⟩
  | .hbm, ⟨45, _⟩ => ⟨S1x2816, .f32⟩
  | .hbm, ⟨46, _⟩ => ⟨S2816, .f32⟩
  | .hbm, ⟨47, _⟩ => ⟨S8x2064x2816, .f32⟩
  | .hbm, ⟨48, _⟩ => ⟨S1x1x2816, .f32⟩
  | .hbm, ⟨49, _⟩ => ⟨S8x2064x2816, .f32⟩
  | .hbm, ⟨50, _⟩ => ⟨S8x2064x2816, .f32⟩
  | .hbm, ⟨51, _⟩ => ⟨S_, .f32⟩
  | .hbm, ⟨52, _⟩ => ⟨S8x2064x2816, .f32⟩
  | .hbm, ⟨53, _⟩ => ⟨S8x2064x2816, .f32⟩
  | .hbm, ⟨54, _⟩ => ⟨S3x2816, .f32⟩
  | .hbm, ⟨55, _⟩ => ⟨S1x2816, .f32⟩
  | .hbm, ⟨56, _⟩ => ⟨S2816, .f32⟩
  | .hbm, ⟨57, _⟩ => ⟨S8x2064x2816, .f32⟩
  | .hbm, ⟨58, _⟩ => ⟨S1x1x2816, .f32⟩
  | .hbm, ⟨59, _⟩ => ⟨S8x2064x2816, .f32⟩
  | .hbm, ⟨60, _⟩ => ⟨S8x2064x2816, .f32⟩
  | .hbm, ⟨61, _⟩ => ⟨S8x2064x2816, .f32⟩
  | .hbm, ⟨62, _⟩ => ⟨S3x2816, .f32⟩
  | .hbm, ⟨63, _⟩ => ⟨S1x2816, .f32⟩
  | .hbm, ⟨64, _⟩ => ⟨S2816, .f32⟩
  | .hbm, ⟨65, _⟩ => ⟨S8x2064x2816, .f32⟩
  | .hbm, ⟨66, _⟩ => ⟨S1x1x2816, .f32⟩
  | .hbm, ⟨67, _⟩ => ⟨S8x2064x2816, .f32⟩
  | .hbm, ⟨68, _⟩ => ⟨S8x2064x2816, .f32⟩
  | .hbm, ⟨69, _⟩ => ⟨S8x2064x2816, .f32⟩
  | .hbm, ⟨70, _⟩ => ⟨S1x1x2816, .f32⟩
  | .hbm, ⟨71, _⟩ => ⟨S8x2064x2816, .f32⟩
  | .hbm, ⟨72, _⟩ => ⟨S8x2064x2816, .f32⟩
  | .hbm, ⟨73, _⟩ => ⟨S8x2064x2816, .f32⟩
  | .hbm, ⟨74, _⟩ => ⟨S8x2064x2816, .f32⟩
  | .hbm, ⟨75, _⟩ => ⟨S_, .f32⟩
  | .hbm, ⟨76, _⟩ => ⟨S8x2064x2816, .f32⟩
  | .hbm, ⟨77, _⟩ => ⟨S8x2064x2816, .f32⟩
  | .hbm, ⟨78, _⟩ => ⟨S8x2064x2816, .f32⟩
  | .hbm, ⟨79, _⟩ => ⟨S_, .f32⟩
  | .hbm, ⟨80, _⟩ => ⟨S8x2064x2816, .f32⟩
  | .hbm, ⟨81, _⟩ => ⟨S8x2064x2816, .f32⟩
  | .hbm, ⟨82, _⟩ => ⟨S8x2064x2816, .f32⟩
  | .hbm, ⟨83, _⟩ => ⟨S_, .f32⟩
  | .hbm, ⟨84, _⟩ => ⟨S8x2064x2816, .f32⟩
  | .hbm, ⟨85, _⟩ => ⟨S8x2064x2816, .f32⟩
  | .hbm, ⟨86, _⟩ => ⟨S_, .f32⟩
  | .hbm, ⟨87, _⟩ => ⟨S8x2064x2816, .f32⟩
  | .hbm, ⟨88, _⟩ => ⟨S8x2064x2816, .f32⟩
  | .hbm, ⟨89, _⟩ => ⟨S8x2064x2816, .f32⟩
  | .hbm, ⟨90, _⟩ => ⟨S8x2064x2816, .f32⟩
  | .hbm, ⟨91, _⟩ => ⟨S2816x1024, .f32⟩
  | .hbm, ⟨92, _⟩ => ⟨S8x2064x1024, .f32⟩
  | .hbm, ⟨93, _⟩ => ⟨S8x2064x1024, .f32⟩
  | .hbm, ⟨94, _⟩ => ⟨S16512x1024, .f32⟩
  | .hbm, ⟨95, _⟩ => ⟨S8x2x2816, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst : Ref sig .tc := ⟨.hbm, 21, rfl⟩
abbrev main_v10 : Ref sig .tc := ⟨.hbm, 22, rfl⟩
abbrev main_v11 : Ref sig .tc := ⟨.hbm, 23, rfl⟩
abbrev main_cst_0 : Ref sig .tc := ⟨.hbm, 24, rfl⟩
abbrev main_v12 : Ref sig .tc := ⟨.hbm, 25, rfl⟩
abbrev main_v13 : Ref sig .tc := ⟨.hbm, 26, rfl⟩
abbrev main_cst_1 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_2 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_3 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_cst_4 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_cst_5 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_cst_6 : Ref sig .tc := ⟨.hbm, 83, rfl⟩
abbrev main_v65 : Ref sig .tc := ⟨.hbm, 84, rfl⟩
abbrev main_v66 : Ref sig .tc := ⟨.hbm, 85, rfl⟩
abbrev main_cst_7 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩

abbrev nD : Nat := 1
abbrev τ : Topo := Topo.v7x

variable {F : FTy → Type} [FloatOps F]
-- ==== ProjS.lean ====
abbrev S128x4x1024 : Shape := ⟨3, ![128, 4, 1024]⟩
abbrev S1x1024 : Shape := ⟨2, ![1, 1024]⟩
abbrev S1x1024x2048 : Shape := ⟨3, ![1, 1024, 2048]⟩
abbrev S1x2x64 : Shape := ⟨3, ![1, 2, 64]⟩
abbrev S256 : Shape := ⟨1, ![256]⟩
abbrev S_ : Shape := ⟨0, ![]⟩
abbrev S256x1 : Shape := ⟨2, ![256, 1]⟩
abbrev S1x256 : Shape := ⟨2, ![1, 256]⟩
abbrev S256x256 : Shape := ⟨2, ![256, 256]⟩
abbrev S1024 : Shape := ⟨1, ![1024]⟩
abbrev S1024x2048 : Shape := ⟨2, ![1024, 2048]⟩
abbrev S2x64 : Shape := ⟨2, ![2, 64]⟩
abbrev S128 : Shape := ⟨1, ![128]⟩
abbrev S1x128 : Shape := ⟨2, ![1, 128]⟩
abbrev S4x128 : Shape := ⟨2, ![4, 128]⟩
abbrev S512 : Shape := ⟨1, ![512]⟩
abbrev S1x512 : Shape := ⟨2, ![1, 512]⟩
abbrev S4x128x1024 : Shape := ⟨3, ![4, 128, 1024]⟩
abbrev S512x1024 : Shape := ⟨2, ![512, 1024]⟩
abbrev S512x512 : Shape := ⟨2, ![512, 512]⟩
abbrev S512x1 : Shape := ⟨2, ![512, 1]⟩
abbrev S512x2048 : Shape := ⟨2, ![512, 2048]⟩
abbrev S512x256 : Shape := ⟨2, ![512, 256]⟩

abbrev nBuf : Space → Nat
  | .hbm => 57
  | .vmem => 12
  | .smem => 0
  | _ => 0

abbrev bufTy : (tb : Table) → Fin (tcTables nBuf tb) → BufTy
  | .hbm, ⟨0, _⟩ => ⟨S128x4x1024, .f32⟩
  | .hbm, ⟨1, _⟩ => ⟨S1x1024, .f32⟩
  | .hbm, ⟨2, _⟩ => ⟨S1x1024x2048, .f32⟩
  | .hbm, ⟨3, _⟩ => ⟨S1x2x64, .f32⟩
  | .hbm, ⟨4, _⟩ => ⟨S1x2x64, .f32⟩
  | .hbm, ⟨5, _⟩ => ⟨S256, .i32⟩
  | .hbm, ⟨6, _⟩ => ⟨S_, .i32⟩
  | .hbm, ⟨7, _⟩ => ⟨S_, .i32⟩
  | .hbm, ⟨8, _⟩ => ⟨S256, .i32⟩
  | .hbm, ⟨9, _⟩ => ⟨S256, .i32⟩
  | .hbm, ⟨10, _⟩ => ⟨S256, .i32⟩
  | .hbm, ⟨11, _⟩ => ⟨S_, .i32⟩
  | .hbm, ⟨12, _⟩ => ⟨S256, .i32⟩
  | .hbm, ⟨13, _⟩ => ⟨S256, .i1⟩
  | .hbm, ⟨14, _⟩ => ⟨S256, .i32⟩
  | .hbm, ⟨15, _⟩ => ⟨S256, .i32⟩
  | .hbm, ⟨16, _⟩ => ⟨S_, .i32⟩
  | .hbm, ⟨17, _⟩ => ⟨S256, .i32⟩
  | .hbm, ⟨18, _⟩ => ⟨S256, .i1⟩
  | .hbm, ⟨19, _⟩ => ⟨S256, .i1⟩
  | .hbm, ⟨20, _⟩ => ⟨S_, .i32⟩
  | .hbm, ⟨21, _⟩ => ⟨S256, .i32⟩
  | .hbm, ⟨22, _⟩ => ⟨S256, .i32⟩
  | .hbm, ⟨23, _⟩ => ⟨S256, .i32⟩
  | .hbm, ⟨24, _⟩ => ⟨S256x1, .i32⟩
  | .hbm, ⟨25, _⟩ => ⟨S1x256, .i32⟩
  | .hbm, ⟨26, _⟩ => ⟨S256x256, .i32⟩
  | .hbm, ⟨27, _⟩ => ⟨S256x256, .i32⟩
  | .hbm, ⟨28, _⟩ => ⟨S256x256, .i1⟩
  | .hbm, ⟨29, _⟩ => ⟨S256x256, .bf16⟩
  | .hbm, ⟨30, _⟩ => ⟨S_, .bf16⟩
  | .hbm, ⟨31, _⟩ => ⟨S256x256, .bf16⟩
  | .hbm, ⟨32, _⟩ => ⟨S256x256, .bf16⟩
  | .hbm, ⟨33, _⟩ => ⟨S1024, .f32⟩
  | .hbm, ⟨34, _⟩ => ⟨S1x1024, .f32⟩
  | .hbm, ⟨35, _⟩ => ⟨S1024x2048, .f32⟩
  | .hbm, ⟨36, _⟩ => ⟨S1024x2048, .bf16⟩
  | .hbm, ⟨37, _⟩ => ⟨S2x64, .f32⟩
  | .hbm, ⟨38, _⟩ => ⟨S128, .f32⟩
  | .hbm, ⟨39, _⟩ => ⟨S1x128, .f32⟩
  | .hbm, ⟨40, _⟩ => ⟨S4x128, .f32⟩
  | .hbm, ⟨41, _⟩ => ⟨S512, .f32⟩
  | .hbm, ⟨42, _⟩ => ⟨S1x512, .f32⟩
  | .hbm, ⟨43, _⟩ => ⟨S2x64, .f32⟩
  | .hbm, ⟨44, _⟩ => ⟨S128, .f32⟩
  | .hbm, ⟨45, _⟩ => ⟨S1x128, .f32⟩
  | .hbm, ⟨46, _⟩ => ⟨S4x128, .f32⟩
  | .hbm, ⟨47, _⟩ => ⟨S512, .f32⟩
  | .hbm, ⟨48, _⟩ => ⟨S1x512, .f32⟩
  | .hbm, ⟨49, _⟩ => ⟨S4x128x1024, .f32⟩
  | .hbm, ⟨50, _⟩ => ⟨S512x1024, .f32⟩
  | .hbm, ⟨51, _⟩ => ⟨S512x512, .bf16⟩
  | .hbm, ⟨52, _⟩ => ⟨S512x512, .f32⟩
  | .hbm, ⟨53, _⟩ => ⟨S512x512, .bf16⟩
  | .hbm, ⟨54, _⟩ => ⟨S512x512, .f32⟩
  | .hbm, ⟨55, _⟩ => ⟨S512x512, .bf16⟩
  | .hbm, ⟨56, _⟩ => ⟨S512x512, .f32⟩
  | .local _ .vmem, ⟨0, _⟩ => ⟨S512x1024, .f32⟩
  | .local _ .vmem, ⟨1, _⟩ => ⟨S1x1024, .f32⟩
  | .local _ .vmem, ⟨2, _⟩ => ⟨S1024x2048, .bf16⟩
  | .local _ .vmem, ⟨3, _⟩ => ⟨S1x512, .f32⟩
  | .local _ .vmem, ⟨4, _⟩ => ⟨S1x512, .f32⟩
  | .local _ .vmem, ⟨5, _⟩ => ⟨S256x256, .bf16⟩
  | .local _ .vmem, ⟨6, _⟩ => ⟨S512x512, .bf16⟩
  | .local _ .vmem, ⟨7, _⟩ => ⟨S512x512, .f32⟩
  | .local _ .vmem, ⟨8, _⟩ => ⟨S512x512, .bf16⟩
  | .local _ .vmem, ⟨9, _⟩ => ⟨S512x512, .f32⟩
  | .local _ .vmem, ⟨10, _⟩ => ⟨S512x512, .bf16⟩
  | .local _ .vmem, ⟨11, _⟩ => ⟨S512x512, .f32⟩
  | _, _ => ⟨S128x4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_c : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_0 : Ref sig .tc := ⟨.hbm, 20, rfl⟩
abbrev main_call0_v12 : Ref sig .tc := ⟨.hbm, 21, rfl⟩
abbrev main_call0_v13 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_cst : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28_0 : Ref sig .tc := ⟨.hbm, 51, rfl⟩
abbrev main_v28_1 : Ref sig .tc := ⟨.hbm, 52, rfl⟩
abbrev main_v28_2 : Ref sig .tc := ⟨.hbm, 53, rfl⟩
abbrev main_v28_3 : Ref sig .tc := ⟨.hbm, 54, rfl⟩
abbrev main_v28_4 : Ref sig .tc := ⟨.hbm, 55, rfl⟩
abbrev main_v28_5 : Ref sig .tc := ⟨.hbm, 56, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_9 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_10 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_11 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S512x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S512x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]

abbrev stage0_8 : Fin 1 → Memref sig .tc .vmem S512x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true, true]

abbrev stage0_9 : Fin 1 → Memref sig .tc .vmem S512x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true, true]

abbrev stage0_10 : Fin 1 → Memref sig .tc .vmem S512x512 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true, true]

abbrev stage0_11 : Fin 1 → Memref sig .tc .vmem S512x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true, true]
-- ==== ProjSRefIdeal.lean ====
abbrev S128x4x1024 : Shape := ⟨3, ![128, 4, 1024]⟩
abbrev S1x1024 : Shape := ⟨2, ![1, 1024]⟩
abbrev S1x1024x2048 : Shape := ⟨3, ![1, 1024, 2048]⟩
abbrev S1x2x64 : Shape := ⟨3, ![1, 2, 64]⟩
abbrev S1024 : Shape := ⟨1, ![1024]⟩
abbrev S_ : Shape := ⟨0, ![]⟩
abbrev S128x4 : Shape := ⟨2, ![128, 4]⟩
abbrev S128x4x1 : Shape := ⟨3, ![128, 4, 1]⟩
abbrev S1x1x1024 : Shape := ⟨3, ![1, 1, 1024]⟩
abbrev S1024x2048 : Shape := ⟨2, ![1024, 2048]⟩
abbrev S128x4x2048 : Shape := ⟨3, ![128, 4, 2048]⟩
abbrev S128x4x512 : Shape := ⟨3, ![128, 4, 512]⟩
abbrev S128x4x4x2x64 : Shape := ⟨5, ![128, 4, 4, 2, 64]⟩
abbrev S2x64 : Shape := ⟨2, ![2, 64]⟩
abbrev S128x4x4x2 : Shape := ⟨4, ![128, 4, 4, 2]⟩
abbrev S128x4x4x2x1 : Shape := ⟨5, ![128, 4, 4, 2, 1]⟩
abbrev S1x1x1x2x64 : Shape := ⟨5, ![1, 1, 1, 2, 64]⟩
abbrev S4x128x512 : Shape := ⟨3, ![4, 128, 512]⟩
abbrev S512x512 : Shape := ⟨2, ![512, 512]⟩

abbrev nBuf : Space → Nat
  | .hbm => 80
  | .vmem => 0
  | .smem => 0
  | _ => 0

abbrev bufTy : (tb : Table) → Fin (tcTables nBuf tb) → BufTy
  | .hbm, ⟨0, _⟩ => ⟨S128x4x1024, .f32⟩
  | .hbm, ⟨1, _⟩ => ⟨S1x1024, .f32⟩
  | .hbm, ⟨2, _⟩ => ⟨S1x1024x2048, .f32⟩
  | .hbm, ⟨3, _⟩ => ⟨S1x2x64, .f32⟩
  | .hbm, ⟨4, _⟩ => ⟨S1x2x64, .f32⟩
  | .hbm, ⟨5, _⟩ => ⟨S1024, .f32⟩
  | .hbm, ⟨6, _⟩ => ⟨S128x4x1024, .f32⟩
  | .hbm, ⟨7, _⟩ => ⟨S_, .f32⟩
  | .hbm, ⟨8, _⟩ => ⟨S128x4, .f32⟩
  | .hbm, ⟨9, _⟩ => ⟨S128x4x1, .f32⟩
  | .hbm, ⟨10, _⟩ => ⟨S_, .f32⟩
  | .hbm, ⟨11, _⟩ => ⟨S128x4x1, .f32⟩
  | .hbm, ⟨12, _⟩ => ⟨S128x4x1, .f32⟩
  | .hbm, ⟨13, _⟩ => ⟨S_, .f32⟩
  | .hbm, ⟨14, _⟩ => ⟨S128x4x1, .f32⟩
  | .hbm, ⟨15, _⟩ => ⟨S128x4x1, .f32⟩
  | .hbm, ⟨16, _⟩ => ⟨S128x4x1, .f32⟩
  | .hbm, ⟨17, _⟩ => ⟨S128x4x1024, .f32⟩
  | .hbm, ⟨18, _⟩ => ⟨S128x4x1024, .f32⟩
  | .hbm, ⟨19, _⟩ => ⟨S1x1x1024, .f32⟩
  | .hbm, ⟨20, _⟩ => ⟨S128x4x1024, .f32⟩
  | .hbm, ⟨21, _⟩ => ⟨S128x4x1024, .f32⟩
  | .hbm, ⟨22, _⟩ => ⟨S1024x2048, .f32⟩
  | .hbm, ⟨23, _⟩ => ⟨S128x4x2048, .f32⟩
  | .hbm, ⟨24, _⟩ => ⟨S128x4x512, .f32⟩
  | .hbm, ⟨25, _⟩ => ⟨S128x4x512, .f32⟩
  | .hbm, ⟨26, _⟩ => ⟨S128x4x512, .f32⟩
  | .hbm, ⟨27, _⟩ => ⟨S128x4x512, .f32⟩
  | .hbm, ⟨28, _⟩ => ⟨S128x4x4x2x64, .f32⟩
  | .hbm, ⟨29, _⟩ => ⟨S2x64, .f32⟩
  | .hbm, ⟨30, _⟩ => ⟨S128x4x4x2x64, .f32⟩
  | .hbm, ⟨31, _⟩ => ⟨S_, .f32⟩
  | .hbm, ⟨32, _⟩ => ⟨S128x4x4x2, .f32⟩
  | .hbm, ⟨33, _⟩ => ⟨S128x4x4x2x1, .f32⟩
  | .hbm, ⟨34, _⟩ => ⟨S_, .f32⟩
  | .hbm, ⟨35, _⟩ => ⟨S128x4x4x2x1, .f32⟩
  | .hbm, ⟨36, _⟩ => ⟨S128x4x4x2x1, .f32⟩
  | .hbm, ⟨37, _⟩ => ⟨S_, .f32⟩
  | .hbm, ⟨38, _⟩ => ⟨S128x4x4x2x1, .f32⟩
  | .hbm, ⟨39, _⟩ => ⟨S128x4x4x2x1, .f32⟩
  | .hbm, ⟨40, _⟩ => ⟨S128x4x4x2x1, .f32⟩
  | .hbm, ⟨41, _⟩ => ⟨S128x4x4x2x64, .f32⟩
  | .hbm, ⟨42, _⟩ => ⟨S128x4x4x2x64, .f32⟩
  | .hbm, ⟨43, _⟩ => ⟨S1x1x1x2x64, .f32⟩
  | .hbm, ⟨44, _⟩ => ⟨S128x4x4x2x64, .f32⟩
  | .hbm, ⟨45, _⟩ => ⟨S128x4x4x2x64, .f32⟩
  | .hbm, ⟨46, _⟩ => ⟨S_, .f32⟩
  | .hbm, ⟨47, _⟩ => ⟨S128x4x4x2x64, .f32⟩
  | .hbm, ⟨48, _⟩ => ⟨S128x4x4x2x64, .f32⟩
  | .hbm, ⟨49, _⟩ => ⟨S128x4x4x2x64, .f32⟩
  | .hbm, ⟨50, _⟩ => ⟨S2x64, .f32⟩
  | .hbm, ⟨51, _⟩ => ⟨S128x4x4x2x64, .f32⟩
  | .hbm, ⟨52, _⟩ => ⟨S_, .f32⟩
  | .hbm, ⟨53, _⟩ => ⟨S128x4x4x2, .f32⟩
  | .hbm, ⟨54, _⟩ => ⟨S128x4x4x2x1, .f32⟩
  | .hbm, ⟨55, _⟩ => ⟨S_, .f32⟩
  | .hbm, ⟨56, _⟩ => ⟨S128x4x4x2x1, .f32⟩
  | .hbm, ⟨57, _⟩ => ⟨S128x4x4x2x1, .f32⟩
  | .hbm, ⟨58, _⟩ => ⟨S_, .f32⟩
  | .hbm, ⟨59, _⟩ => ⟨S128x4x4x2x1, .f32⟩
  | .hbm, ⟨60, _⟩ => ⟨S128x4x4x2x1, .f32⟩
  | .hbm, ⟨61, _⟩ => ⟨S128x4x4x2x1, .f32⟩
  | .hbm, ⟨62, _⟩ => ⟨S128x4x4x2x64, .f32⟩
  | .hbm, ⟨63, _⟩ => ⟨S128x4x4x2x64, .f32⟩
  | .hbm, ⟨64, _⟩ => ⟨S1x1x1x2x64, .f32⟩
  | .hbm, ⟨65, _⟩ => ⟨S128x4x4x2x64, .f32⟩
  | .hbm, ⟨66, _⟩ => ⟨S128x4x4x2x64, .f32⟩
  | .hbm, ⟨67, _⟩ => ⟨S128x4x512, .f32⟩
  | .hbm, ⟨68, _⟩ => ⟨S4x128x512, .f32⟩
  | .hbm, ⟨69, _⟩ => ⟨S512x512, .f32⟩
  | .hbm, ⟨70, _⟩ => ⟨S128x4x512, .f32⟩
  | .hbm, ⟨71, _⟩ => ⟨S4x128x512, .f32⟩
  | .hbm, ⟨72, _⟩ => ⟨S512x512, .f32⟩
  | .hbm, ⟨73, _⟩ => ⟨S4x128x512, .f32⟩
  | .hbm, ⟨74, _⟩ => ⟨S512x512, .f32⟩
  | .hbm, ⟨75, _⟩ => ⟨S4x128x512, .f32⟩
  | .hbm, ⟨76, _⟩ => ⟨S512x512, .f32⟩
  | .hbm, ⟨77, _⟩ => ⟨S512x512, .bf16⟩
  | .hbm, ⟨78, _⟩ => ⟨S512x512, .bf16⟩
  | .hbm, ⟨79, _⟩ => ⟨S512x512, .bf16⟩
  | _, _ => ⟨S128x4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_2 : Ref sig .tc := ⟨.hbm, 31, rfl⟩
abbrev main_v23 : Ref sig .tc := ⟨.hbm, 32, rfl⟩
abbrev main_v24 : Ref sig .tc := ⟨.hbm, 33, rfl⟩
abbrev main_cst_3 : Ref sig .tc := ⟨.hbm, 34, rfl⟩
abbrev main_v25 : Ref sig .tc := ⟨.hbm, 35, rfl⟩
abbrev main_v26 : Ref sig .tc := ⟨.hbm, 36, rfl⟩
abbrev main_cst_4 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_cst_5 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_cst_6 : Ref sig .tc := ⟨.hbm, 52, rfl⟩
abbrev main_v40 : Ref sig .tc := ⟨.hbm, 53, rfl⟩
abbrev main_v41 : Ref sig .tc := ⟨.hbm, 54, rfl⟩
abbrev main_cst_7 : Ref sig .tc := ⟨.hbm, 55, rfl⟩
abbrev main_v42 : Ref sig .tc := ⟨.hbm, 56, rfl⟩
abbrev main_v43 : Ref sig .tc := ⟨.hbm, 57, rfl⟩
abbrev main_cst_8 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩

abbrev nD : Nat := 1
abbrev τ : Topo := Topo.v7x

variable {F : FTy → Type} [FloatOps F]
-- ==== PostS.lean ====
abbrev S128x4x1024 : Shape := ⟨3, ![128, 4, 1024]⟩
abbrev S128x4x512 : Shape := ⟨3, ![128, 4, 512]⟩
abbrev S4x128x512 : Shape := ⟨3, ![4, 128, 512]⟩
abbrev S1x128x2x2816 : Shape := ⟨4, ![1, 128, 2, 2816]⟩
abbrev S1x1024x1024 : Shape := ⟨3, ![1, 1024, 1024]⟩
abbrev S1x1024 : Shape := ⟨2, ![1, 1024]⟩
abbrev S1x1024x2816 : Shape := ⟨3, ![1, 1024, 2816]⟩
abbrev S1x3x2816 : Shape := ⟨3, ![1, 3, 2816]⟩
abbrev S1x2816 : Shape := ⟨2, ![1, 2816]⟩
abbrev S1x2816x1024 : Shape := ⟨3, ![1, 2816, 1024]⟩
abbrev S1024x1024 : Shape := ⟨2, ![1024, 1024]⟩
abbrev S1024 : Shape := ⟨1, ![1024]⟩
abbrev S1024x2816 : Shape := ⟨2, ![1024, 2816]⟩
abbrev S3x2816 : Shape := ⟨2, ![3, 2816]⟩
abbrev S2816 : Shape := ⟨1, ![2816]⟩
abbrev S2816x1024 : Shape := ⟨2, ![2816, 1024]⟩
abbrev S4x128x1024 : Shape := ⟨3, ![4, 128, 1024]⟩
abbrev S512x1024 : Shape := ⟨2, ![512, 1024]⟩
abbrev S512x512 : Shape := ⟨2, ![512, 512]⟩
abbrev S128x2x2816 : Shape := ⟨3, ![128, 2, 2816]⟩
abbrev S2x128x2816 : Shape := ⟨3, ![2, 128, 2816]⟩
abbrev S1x256x2816 : Shape := ⟨3, ![1, 256, 2816]⟩
abbrev S768x256 : Shape := ⟨2, ![768, 256]⟩
abbrev S256x2816 : Shape := ⟨2, ![256, 2816]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩
abbrev S256x256 : Shape := ⟨2, ![256, 256]⟩
abbrev S1x256 : Shape := ⟨2, ![1, 256]⟩
abbrev S256x1024 : Shape := ⟨2, ![256, 1024]⟩

abbrev nBuf : Space → Nat
  | .hbm => 34
  | .vmem => 16
  | .smem => 0
  | _ => 0

abbrev bufTy : (tb : Table) → Fin (tcTables nBuf tb) → BufTy
  | .hbm, ⟨0, _⟩ => ⟨S128x4x1024, .f32⟩
  | .hbm, ⟨1, _⟩ => ⟨S128x4x512, .bf16⟩
  | .hbm, ⟨2, _⟩ => ⟨S4x128x512, .f32⟩
  | .hbm, ⟨3, _⟩ => ⟨S1x128x2x2816, .f32⟩
  | .hbm, ⟨4, _⟩ => ⟨S1x1024x1024, .f32⟩
  | .hbm, ⟨5, _⟩ => ⟨S1x1024, .f32⟩
  | .hbm, ⟨6, _⟩ => ⟨S1x1024x2816, .f32⟩
  | .hbm, ⟨7, _⟩ => ⟨S1x1024x2816, .f32⟩
  | .hbm, ⟨8, _⟩ => ⟨S1x3x2816, .f32⟩
  | .hbm, ⟨9, _⟩ => ⟨S1x2816, .f32⟩
  | .hbm, ⟨10, _⟩ => ⟨S1x2816x1024, .f32⟩
  | .hbm, ⟨11, _⟩ => ⟨S1024x1024, .f32⟩
  | .hbm, ⟨12, _⟩ => ⟨S1024x1024, .bf16⟩
  | .hbm, ⟨13, _⟩ => ⟨S1024, .f32⟩
  | .hbm, ⟨14, _⟩ => ⟨S1x1024, .f32⟩
  | .hbm, ⟨15, _⟩ => ⟨S1024x2816, .f32⟩
  | .hbm, ⟨16, _⟩ => ⟨S1024x2816, .bf16⟩
  | .hbm, ⟨17, _⟩ => ⟨S1024x2816, .f32⟩
  | .hbm, ⟨18, _⟩ => ⟨S1024x2816, .bf16⟩
  | .hbm, ⟨19, _⟩ => ⟨S3x2816, .f32⟩
  | .hbm, ⟨20, _⟩ => ⟨S2816, .f32⟩
  | .hbm, ⟨21, _⟩ => ⟨S1x2816, .f32⟩
  | .hbm, ⟨22, _⟩ => ⟨S2816x1024, .f32⟩
  | .hbm, ⟨23, _⟩ => ⟨S2816x1024, .bf16⟩
  | .hbm, ⟨24, _⟩ => ⟨S4x128x1024, .f32⟩
  | .hbm, ⟨25, _⟩ => ⟨S512x1024, .f32⟩
  | .hbm, ⟨26, _⟩ => ⟨S4x128x512, .bf16⟩
  | .hbm, ⟨27, _⟩ => ⟨S512x512, .bf16⟩
  | .hbm, ⟨28, _⟩ => ⟨S128x2x2816, .f32⟩
  | .hbm, ⟨29, _⟩ => ⟨S2x128x2816, .f32⟩
  | .hbm, ⟨30, _⟩ => ⟨S1x256x2816, .f32⟩
  | .hbm, ⟨31, _⟩ => ⟨S512x512, .f32⟩
  | .hbm, ⟨32, _⟩ => ⟨S512x1024, .f32⟩
  | .hbm, ⟨33, _⟩ => ⟨S1x256x2816, .f32⟩
  | .local _ .vmem, ⟨0, _⟩ => ⟨S512x1024, .f32⟩
  | .local _ .vmem, ⟨1, _⟩ => ⟨S512x512, .bf16⟩
  | .local _ .vmem, ⟨2, _⟩ => ⟨S512x512, .f32⟩
  | .local _ .vmem, ⟨3, _⟩ => ⟨S1x256x2816, .f32⟩
  | .local _ .vmem, ⟨4, _⟩ => ⟨S1024x1024, .bf16⟩
  | .local _ .vmem, ⟨5, _⟩ => ⟨S1x1024, .f32⟩
  | .local _ .vmem, ⟨6, _⟩ => ⟨S1024x2816, .bf16⟩
  | .local _ .vmem, ⟨7, _⟩ => ⟨S1024x2816, .bf16⟩
  | .local _ .vmem, ⟨8, _⟩ => ⟨S3x2816, .f32⟩
  | .local _ .vmem, ⟨9, _⟩ => ⟨S1x2816, .f32⟩
  | .local _ .vmem, ⟨10, _⟩ => ⟨S2816x1024, .bf16⟩
  | .local _ .vmem, ⟨11, _⟩ => ⟨S512x1024, .f32⟩
  | .local _ .vmem, ⟨12, _⟩ => ⟨S1x256x2816, .f32⟩
  | .local _ .vmem, ⟨13, _⟩ => ⟨S512x1024, .f32⟩
  | .local _ .vmem, ⟨14, _⟩ => ⟨S768x256, .f32⟩
  | .local _ .vmem, ⟨15, _⟩ => ⟨S256x2816, .f32⟩
  | _, _ => ⟨S128x4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21_0 : Ref sig .tc := ⟨.hbm, 32, rfl⟩
abbrev main_v21_1 : Ref sig .tc := ⟨.hbm, 33, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x256x2816 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x2816 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x2816 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S3x2816 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x2816 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S2816x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S512x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true, true]

abbrev stage0_12 : Fin 1 → Memref sig .tc .vmem S1x256x2816 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true, false]
-- ==== PostSRefIdeal.lean ====
abbrev S128x4x1024 : Shape := ⟨3, ![128, 4, 1024]⟩
abbrev S128x4x512 : Shape := ⟨3, ![128, 4, 512]⟩
abbrev S4x128x512 : Shape := ⟨3, ![4, 128, 512]⟩
abbrev S1x128x2x2816 : Shape := ⟨4, ![1, 128, 2, 2816]⟩
abbrev S1x1024x1024 : Shape := ⟨3, ![1, 1024, 1024]⟩
abbrev S1x1024 : Shape := ⟨2, ![1, 1024]⟩
abbrev S1x1024x2816 : Shape := ⟨3, ![1, 1024, 2816]⟩
abbrev S1x3x2816 : Shape := ⟨3, ![1, 3, 2816]⟩
abbrev S1x2816 : Shape := ⟨2, ![1, 2816]⟩
abbrev S1x2816x1024 : Shape := ⟨3, ![1, 2816, 1024]⟩
abbrev S1024x1024 : Shape := ⟨2, ![1024, 1024]⟩
abbrev S1024 : Shape := ⟨1, ![1024]⟩
abbrev S_ : Shape := ⟨0, ![]⟩
abbrev S128x4 : Shape := ⟨2, ![128, 4]⟩
abbrev S128x4x1 : Shape := ⟨3, ![128, 4, 1]⟩
abbrev S1x1x1024 : Shape := ⟨3, ![1, 1, 1024]⟩
abbrev S1024x2816 : Shape := ⟨2, ![1024, 2816]⟩
abbrev S128x4x2816 : Shape := ⟨3, ![128, 4, 2816]⟩
abbrev S128x2x2816 : Shape := ⟨3, ![128, 2, 2816]⟩
abbrev S128x6x2816 : Shape := ⟨3, ![128, 6, 2816]⟩
abbrev S2816 : Shape := ⟨1, ![2816]⟩
abbrev S3x2816 : Shape := ⟨2, ![3, 2816]⟩
abbrev S1x1x2816 : Shape := ⟨3, ![1, 1, 2816]⟩
abbrev S2816x1024 : Shape := ⟨2, ![2816, 1024]⟩
abbrev S4x128x1024 : Shape := ⟨3, ![4, 128, 1024]⟩
abbrev S512x1024 : Shape := ⟨2, ![512, 1024]⟩
abbrev S2x128x2816 : Shape := ⟨3, ![2, 128, 2816]⟩
abbrev S1x256x2816 : Shape := ⟨3, ![1, 256, 2816]⟩

abbrev nBuf : Space → Nat
  | .hbm => 96
  | .vmem => 0
  | .smem => 0
  | _ => 0

abbrev bufTy : (tb : Table) → Fin (tcTables nBuf tb) → BufTy
  | .hbm, ⟨0, _⟩ => ⟨S128x4x1024, .f32⟩
  | .hbm, ⟨1, _⟩ => ⟨S128x4x512, .bf16⟩
  | .hbm, ⟨2, _⟩ => ⟨S4x128x512, .f32⟩
  | .hbm, ⟨3, _⟩ => ⟨S1x128x2x2816, .f32⟩
  | .hbm, ⟨4, _⟩ => ⟨S1x1024x1024, .f32⟩
  | .hbm, ⟨5, _⟩ => ⟨S1x1024, .f32⟩
  | .hbm, ⟨6, _⟩ => ⟨S1x1024x2816, .f32⟩
  | .hbm, ⟨7, _⟩ => ⟨S1x1024x2816, .f32⟩
  | .hbm, ⟨8, _⟩ => ⟨S1x3x2816, .f32⟩
  | .hbm, ⟨9, _⟩ => ⟨S1x2816, .f32⟩
  | .hbm, ⟨10, _⟩ => ⟨S1x2816x1024, .f32⟩
  | .hbm, ⟨11, _⟩ => ⟨S128x4x512, .f32⟩
  | .hbm, ⟨12, _⟩ => ⟨S128x4x512, .f32⟩
  | .hbm, ⟨13, _⟩ => ⟨S128x4x1024, .f32⟩
  | .hbm, ⟨14, _⟩ => ⟨S1024x1024, .f32⟩
  | .hbm, ⟨15, _⟩ => ⟨S128x4x1024, .f32⟩
  | .hbm, ⟨16, _⟩ => ⟨S128x4x1024, .f32⟩
  | .hbm, ⟨17, _⟩ => ⟨S1024, .f32⟩
  | .hbm, ⟨18, _⟩ => ⟨S128x4x1024, .f32⟩
  | .hbm, ⟨19, _⟩ => ⟨S_, .f32⟩
  | .hbm, ⟨20, _⟩ => ⟨S128x4, .f32⟩
  | .hbm, ⟨21, _⟩ => ⟨S128x4x1, .f32⟩
  | .hbm, ⟨22, _⟩ => ⟨S_, .f32⟩
  | .hbm, ⟨23, _⟩ => ⟨S128x4x1, .f32⟩
  | .hbm, ⟨24, _⟩ => ⟨S128x4x1, .f32⟩
  | .hbm, ⟨25, _⟩ => ⟨S_, .f32⟩
  | .hbm, ⟨26, _⟩ => ⟨S128x4x1, .f32⟩
  | .hbm, ⟨27, _⟩ => ⟨S128x4x1, .f32⟩
  | .hbm, ⟨28, _⟩ => ⟨S128x4x1, .f32⟩
  | .hbm, ⟨29, _⟩ => ⟨S128x4x1024, .f32⟩
  | .hbm, ⟨30, _⟩ => ⟨S128x4x1024, .f32⟩
  | .hbm, ⟨31, _⟩ => ⟨S1x1x1024, .f32⟩
  | .hbm, ⟨32, _⟩ => ⟨S128x4x1024, .f32⟩
  | .hbm, ⟨33, _⟩ => ⟨S128x4x1024, .f32⟩
  | .hbm, ⟨34, _⟩ => ⟨S1024x2816, .f32⟩
  | .hbm, ⟨35, _⟩ => ⟨S128x4x2816, .f32⟩
  | .hbm, ⟨36, _⟩ => ⟨S1024x2816, .f32⟩
  | .hbm, ⟨37, _⟩ => ⟨S128x4x2816, .f32⟩
  | .hbm, ⟨38, _⟩ => ⟨S128x2x2816, .f32⟩
  | .hbm, ⟨39, _⟩ => ⟨S128x6x2816, .f32⟩
  | .hbm, ⟨40, _⟩ => ⟨S2816, .f32⟩
  | .hbm, ⟨41, _⟩ => ⟨S3x2816, .f32⟩
  | .hbm, ⟨42, _⟩ => ⟨S1x2816, .f32⟩
  | .hbm, ⟨43, _⟩ => ⟨S2816, .f32⟩
  | .hbm, ⟨44, _⟩ => ⟨S128x4x2816, .f32⟩
  | .hbm, ⟨45, _⟩ => ⟨S1x1x2816, .f32⟩
  | .hbm, ⟨46, _⟩ => ⟨S128x4x2816, .f32⟩
  | .hbm, ⟨47, _⟩ => ⟨S128x4x2816, .f32⟩
  | .hbm, ⟨48, _⟩ => ⟨S_, .f32⟩
  | .hbm, ⟨49, _⟩ => ⟨S128x4x2816, .f32⟩
  | .hbm, ⟨50, _⟩ => ⟨S128x4x2816, .f32⟩
  | .hbm, ⟨51, _⟩ => ⟨S3x2816, .f32⟩
  | .hbm, ⟨52, _⟩ => ⟨S1x2816, .f32⟩
  | .hbm, ⟨53, _⟩ => ⟨S2816, .f32⟩
  | .hbm, ⟨54, _⟩ => ⟨S128x4x2816, .f32⟩
  | .hbm, ⟨55, _⟩ => ⟨S1x1x2816, .f32⟩
  | .hbm, ⟨56, _⟩ => ⟨S128x4x2816, .f32⟩
  | .hbm, ⟨57, _⟩ => ⟨S128x4x2816, .f32⟩
  | .hbm, ⟨58, _⟩ => ⟨S128x4x2816, .f32⟩
  | .hbm, ⟨59, _⟩ => ⟨S3x2816, .f32⟩
  | .hbm, ⟨60, _⟩ => ⟨S1x2816, .f32⟩
  | .hbm, ⟨61, _⟩ => ⟨S2816, .f32⟩
  | .hbm, ⟨62, _⟩ => ⟨S128x4x2816, .f32⟩
  | .hbm, ⟨63, _⟩ => ⟨S1x1x2816, .f32⟩
  | .hbm, ⟨64, _⟩ => ⟨S128x4x2816, .f32⟩
  | .hbm, ⟨65, _⟩ => ⟨S128x4x2816, .f32⟩
  | .hbm, ⟨66, _⟩ => ⟨S128x4x2816, .f32⟩
  | .hbm, ⟨67, _⟩ => ⟨S1x1x2816, .f32⟩
  | .hbm, ⟨68, _⟩ => ⟨S128x4x2816, .f32⟩
  | .hbm, ⟨69, _⟩ => ⟨S128x4x2816, .f32⟩
  | .hbm, ⟨70, _⟩ => ⟨S128x4x2816, .f32⟩
  | .hbm, ⟨71, _⟩ => ⟨S128x4x2816, .f32⟩
  | .hbm, ⟨72, _⟩ => ⟨S_, .f32⟩
  | .hbm, ⟨73, _⟩ => ⟨S128x4x2816, .f32⟩
  | .hbm, ⟨74, _⟩ => ⟨S128x4x2816, .f32⟩
  | .hbm, ⟨75, _⟩ => ⟨S128x4x2816, .f32⟩
  | .hbm, ⟨76, _⟩ => ⟨S_, .f32⟩
  | .hbm, ⟨77, _⟩ => ⟨S128x4x2816, .f32⟩
  | .hbm, ⟨78, _⟩ => ⟨S128x4x2816, .f32⟩
  | .hbm, ⟨79, _⟩ => ⟨S128x4x2816, .f32⟩
  | .hbm, ⟨80, _⟩ => ⟨S_, .f32⟩
  | .hbm, ⟨81, _⟩ => ⟨S128x4x2816, .f32⟩
  | .hbm, ⟨82, _⟩ => ⟨S128x4x2816, .f32⟩
  | .hbm, ⟨83, _⟩ => ⟨S_, .f32⟩
  | .hbm, ⟨84, _⟩ => ⟨S128x4x2816, .f32⟩
  | .hbm, ⟨85, _⟩ => ⟨S128x4x2816, .f32⟩
  | .hbm, ⟨86, _⟩ => ⟨S128x4x2816, .f32⟩
  | .hbm, ⟨87, _⟩ => ⟨S128x4x2816, .f32⟩
  | .hbm, ⟨88, _⟩ => ⟨S2816x1024, .f32⟩
  | .hbm, ⟨89, _⟩ => ⟨S128x4x1024, .f32⟩
  | .hbm, ⟨90, _⟩ => ⟨S128x4x1024, .f32⟩
  | .hbm, ⟨91, _⟩ => ⟨S4x128x1024, .f32⟩
  | .hbm, ⟨92, _⟩ => ⟨S512x1024, .f32⟩
  | .hbm, ⟨93, _⟩ => ⟨S128x2x2816, .f32⟩
  | .hbm, ⟨94, _⟩ => ⟨S2x128x2816, .f32⟩
  | .hbm, ⟨95, _⟩ => ⟨S1x256x2816, .f32⟩
  | _, _ => ⟨S128x4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst : Ref sig .tc := ⟨.hbm, 19, rfl⟩
abbrev main_v8 : Ref sig .tc := ⟨.hbm, 20, rfl⟩
abbrev main_v9 : Ref sig .tc := ⟨.hbm, 21, rfl⟩
abbrev main_cst_0 : Ref sig .tc := ⟨.hbm, 22, rfl⟩
abbrev main_v10 : Ref sig .tc := ⟨.hbm, 23, rfl⟩
abbrev main_v11 : Ref sig .tc := ⟨.hbm, 24, rfl⟩
abbrev main_cst_1 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_2 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_cst_3 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_cst_4 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_cst_5 : Ref sig .tc := ⟨.hbm, 80, rfl⟩
abbrev main_v63 : Ref sig .tc := ⟨.hbm, 81, rfl⟩
abbrev main_v64 : Ref sig .tc := ⟨.hbm, 82, rfl⟩
abbrev main_cst_6 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩

abbrev nD : Nat := 1
abbrev τ : Topo := Topo.v7x

variable {F : FTy → Type} [FloatOps F]
-- ==== SsmS.lean ====
abbrev S512x512 : Shape := ⟨2, ![512, 512]⟩
abbrev S1x128x32x64 : Shape := ⟨4, ![1, 128, 32, 64]⟩
abbrev S32x64 : Shape := ⟨2, ![32, 64]⟩
abbrev S16x32x64 : Shape := ⟨3, ![16, 32, 64]⟩
abbrev S1x32x16x64 : Shape := ⟨4, ![1, 32, 16, 64]⟩
abbrev S1x32x16 : Shape := ⟨3, ![1, 32, 16]⟩
abbrev S1x512x512 : Shape := ⟨3, ![1, 512, 512]⟩
abbrev S1x512 : Shape := ⟨2, ![1, 512]⟩
abbrev S8x8 : Shape := ⟨2, ![8, 8]⟩
abbrev S_ : Shape := ⟨0, ![]⟩
abbrev S16x16 : Shape := ⟨2, ![16, 16]⟩
abbrev S1x2048 : Shape := ⟨2, ![1, 2048]⟩
abbrev S32x16x64 : Shape := ⟨3, ![32, 16, 64]⟩
abbrev S4x8x16x64 : Shape := ⟨4, ![4, 8, 16, 64]⟩
abbrev S4x8x16x1x64 : Shape := ⟨5, ![4, 8, 16, 1, 64]⟩
abbrev S1x8x1x8x1 : Shape := ⟨5, ![1, 8, 1, 8, 1]⟩
abbrev S4x8x16x8x64 : Shape := ⟨5, ![4, 8, 16, 8, 64]⟩
abbrev S4x128x512 : Shape := ⟨3, ![4, 128, 512]⟩
abbrev S2x16x16x64 : Shape := ⟨4, ![2, 16, 16, 64]⟩
abbrev S2x16x64x16 : Shape := ⟨4, ![2, 16, 64, 16]⟩
abbrev S2x16x64x1x16 : Shape := ⟨5, ![2, 16, 64, 1, 16]⟩
abbrev S1x16x1x16x1 : Shape := ⟨5, ![1, 16, 1, 16, 1]⟩
abbrev S2x16x64x16x16 : Shape := ⟨5, ![2, 16, 64, 16, 16]⟩
abbrev S2x1024x256 : Shape := ⟨3, ![2, 1024, 256]⟩
abbrev S32x16 : Shape := ⟨2, ![32, 16]⟩
abbrev S512 : Shape := ⟨1, ![512]⟩
abbrev S128x32x64 : Shape := ⟨3, ![128, 32, 64]⟩
abbrev S128x2048 : Shape := ⟨2, ![128, 2048]⟩
abbrev S512x2048 : Shape := ⟨2, ![512, 2048]⟩
abbrev S512x128 : Shape := ⟨2, ![512, 128]⟩
abbrev S1x128x512 : Shape := ⟨3, ![1, 128, 512]⟩
abbrev S128x512 : Shape := ⟨2, ![128, 512]⟩
abbrev S512x1024 : Shape := ⟨2, ![512, 1024]⟩
abbrev S1x1024x256 : Shape := ⟨3, ![1, 1024, 256]⟩
abbrev S1024x256 : Shape := ⟨2, ![1024, 256]⟩
abbrev S512x256 : Shape := ⟨2, ![512, 256]⟩

abbrev nBuf : Space → Nat
  | .hbm => 80
  | .vmem => 17
  | .smem => 0
  | _ => 0

abbrev bufTy : (tb : Table) → Fin (tcTables nBuf tb) → BufTy
  | .hbm, ⟨0, _⟩ => ⟨S512x512, .f32⟩
  | .hbm, ⟨1, _⟩ => ⟨S1x128x32x64, .f32⟩
  | .hbm, ⟨2, _⟩ => ⟨S1x128x32x64, .f32⟩
  | .hbm, ⟨3, _⟩ => ⟨S32x64, .f32⟩
  | .hbm, ⟨4, _⟩ => ⟨S32x64, .f32⟩
  | .hbm, ⟨5, _⟩ => ⟨S16x32x64, .f32⟩
  | .hbm, ⟨6, _⟩ => ⟨S16x32x64, .f32⟩
  | .hbm, ⟨7, _⟩ => ⟨S1x32x16x64, .f32⟩
  | .hbm, ⟨8, _⟩ => ⟨S1x32x16x64, .f32⟩
  | .hbm, ⟨9, _⟩ => ⟨S1x32x16, .f32⟩
  | .hbm, ⟨10, _⟩ => ⟨S1x512x512, .f32⟩
  | .hbm, ⟨11, _⟩ => ⟨S1x512, .f32⟩
  | .hbm, ⟨12, _⟩ => ⟨S8x8, .i32⟩
  | .hbm, ⟨13, _⟩ => ⟨S8x8, .i32⟩
  | .hbm, ⟨14, _⟩ => ⟨S_, .i32⟩
  | .hbm, ⟨15, _⟩ => ⟨S8x8, .i32⟩
  | .hbm, ⟨16, _⟩ => ⟨S8x8, .i32⟩
  | .hbm, ⟨17, _⟩ => ⟨S8x8, .i1⟩
  | .hbm, ⟨18, _⟩ => ⟨S8x8, .f32⟩
  | .hbm, ⟨19, _⟩ => ⟨S16x16, .i32⟩
  | .hbm, ⟨20, _⟩ => ⟨S16x16, .i32⟩
  | .hbm, ⟨21, _⟩ => ⟨S_, .i32⟩
  | .hbm, ⟨22, _⟩ => ⟨S16x16, .i32⟩
  | .hbm, ⟨23, _⟩ => ⟨S16x16, .i32⟩
  | .hbm, ⟨24, _⟩ => ⟨S16x16, .i1⟩
  | .hbm, ⟨25, _⟩ => ⟨S16x16, .f32⟩
  | .hbm, ⟨26, _⟩ => ⟨S1x2048, .f32⟩
  | .hbm, ⟨27, _⟩ => ⟨S1x2048, .f32⟩
  | .hbm, ⟨28, _⟩ => ⟨S32x16x64, .f32⟩
  | .hbm, ⟨29, _⟩ => ⟨S4x8x16x64, .f32⟩
  | .hbm, ⟨30, _⟩ => ⟨S4x8x16x1x64, .f32⟩
  | .hbm, ⟨31, _⟩ => ⟨S1x8x1x8x1, .f32⟩
  | .hbm, ⟨32, _⟩ => ⟨S4x8x16x8x64, .f32⟩
  | .hbm, ⟨33, _⟩ => ⟨S4x8x16x8x64, .f32⟩
  | .hbm, ⟨34, _⟩ => ⟨S4x8x16x8x64, .f32⟩
  | .hbm, ⟨35, _⟩ => ⟨S4x128x512, .f32⟩
  | .hbm, ⟨36, _⟩ => ⟨S4x128x512, .bf16⟩
  | .hbm, ⟨37, _⟩ => ⟨S32x16x64, .f32⟩
  | .hbm, ⟨38, _⟩ => ⟨S4x8x16x64, .f32⟩
  | .hbm, ⟨39, _⟩ => ⟨S4x8x16x1x64, .f32⟩
  | .hbm, ⟨40, _⟩ => ⟨S1x8x1x8x1, .f32⟩
  | .hbm, ⟨41, _⟩ => ⟨S4x8x16x8x64, .f32⟩
  | .hbm, ⟨42, _⟩ => ⟨S4x8x16x8x64, .f32⟩
  | .hbm, ⟨43, _⟩ => ⟨S4x8x16x8x64, .f32⟩
  | .hbm, ⟨44, _⟩ => ⟨S4x128x512, .f32⟩
  | .hbm, ⟨45, _⟩ => ⟨S4x128x512, .bf16⟩
  | .hbm, ⟨46, _⟩ => ⟨S32x16x64, .f32⟩
  | .hbm, ⟨47, _⟩ => ⟨S2x16x16x64, .f32⟩
  | .hbm, ⟨48, _⟩ => ⟨S2x16x64x16, .f32⟩
  | .hbm, ⟨49, _⟩ => ⟨S2x16x64x1x16, .f32⟩
  | .hbm, ⟨50, _⟩ => ⟨S1x16x1x16x1, .f32⟩
  | .hbm, ⟨51, _⟩ => ⟨S2x16x64x16x16, .f32⟩
  | .hbm, ⟨52, _⟩ => ⟨S2x16x64x16x16, .f32⟩
  | .hbm, ⟨53, _⟩ => ⟨S2x16x64x16x16, .f32⟩
  | .hbm, ⟨54, _⟩ => ⟨S2x1024x256, .f32⟩
  | .hbm, ⟨55, _⟩ => ⟨S2x1024x256, .bf16⟩
  | .hbm, ⟨56, _⟩ => ⟨S32x16x64, .f32⟩
  | .hbm, ⟨57, _⟩ => ⟨S2x16x16x64, .f32⟩
  | .hbm, ⟨58, _⟩ => ⟨S2x16x64x16, .f32⟩
  | .hbm, ⟨59, _⟩ => ⟨S2x16x64x1x16, .f32⟩
  | .hbm, ⟨60, _⟩ => ⟨S1x16x1x16x1, .f32⟩
  | .hbm, ⟨61, _⟩ => ⟨S2x16x64x16x16, .f32⟩
  | .hbm, ⟨62, _⟩ => ⟨S2x16x64x16x16, .f32⟩
  | .hbm, ⟨63, _⟩ => ⟨S2x16x64x16x16, .f32⟩
  | .hbm, ⟨64, _⟩ => ⟨S2x1024x256, .f32⟩
  | .hbm, ⟨65, _⟩ => ⟨S2x1024x256, .bf16⟩
  | .hbm, ⟨66, _⟩ => ⟨S32x16, .f32⟩
  | .hbm, ⟨67, _⟩ => ⟨S1x512, .f32⟩
  | .hbm, ⟨68, _⟩ => ⟨S512x512, .f32⟩
  | .hbm, ⟨69, _⟩ => ⟨S512x512, .bf16⟩
  | .hbm, ⟨70, _⟩ => ⟨S512, .f32⟩
  | .hbm, ⟨71, _⟩ => ⟨S1x512, .f32⟩
  | .hbm, ⟨72, _⟩ => ⟨S4x128x512, .f32⟩
  | .hbm, ⟨73, _⟩ => ⟨S128x32x64, .f32⟩
  | .hbm, ⟨74, _⟩ => ⟨S128x2048, .f32⟩
  | .hbm, ⟨75, _⟩ => ⟨S128x32x64, .f32⟩
  | .hbm, ⟨76, _⟩ => ⟨S128x2048, .f32⟩
  | .hbm, ⟨77, _⟩ => ⟨S4x128x512, .f32⟩
  | .hbm, ⟨78, _⟩ => ⟨S128x2048, .f32⟩
  | .hbm, ⟨79, _⟩ => ⟨S128x2048, .f32⟩
  | .local _ .vmem, ⟨0, _⟩ => ⟨S4x128x512, .f32⟩
  | .local _ .vmem, ⟨1, _⟩ => ⟨S128x2048, .f32⟩
  | .local _ .vmem, ⟨2, _⟩ => ⟨S128x2048, .f32⟩
  | .local _ .vmem, ⟨3, _⟩ => ⟨S1x2048, .f32⟩
  | .local _ .vmem, ⟨4, _⟩ => ⟨S1x2048, .f32⟩
  | .local _ .vmem, ⟨5, _⟩ => ⟨S4x128x512, .bf16⟩
  | .local _ .vmem, ⟨6, _⟩ => ⟨S4x128x512, .bf16⟩
  | .local _ .vmem, ⟨7, _⟩ => ⟨S2x1024x256, .bf16⟩
  | .local _ .vmem, ⟨8, _⟩ => ⟨S2x1024x256, .bf16⟩
  | .local _ .vmem, ⟨9, _⟩ => ⟨S1x512, .f32⟩
  | .local _ .vmem, ⟨10, _⟩ => ⟨S512x512, .bf16⟩
  | .local _ .vmem, ⟨11, _⟩ => ⟨S1x512, .f32⟩
  | .local _ .vmem, ⟨12, _⟩ => ⟨S4x128x512, .f32⟩
  | .local _ .vmem, ⟨13, _⟩ => ⟨S128x2048, .f32⟩
  | .local _ .vmem, ⟨14, _⟩ => ⟨S128x2048, .f32⟩
  | .local _ .vmem, ⟨15, _⟩ => ⟨S512x2048, .f32⟩
  | .local _ .vmem, ⟨16, _⟩ => ⟨S512x2048, .f32⟩
  | _, _ => ⟨S512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_c : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_c_0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63_0 : Ref sig .tc := ⟨.hbm, 77, rfl⟩
abbrev main_v63_1 : Ref sig .tc := ⟨.hbm, 78, rfl⟩
abbrev main_v63_2 : Ref sig .tc := ⟨.hbm, 79, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_scratch0 : Ref sig .tc := ⟨.vmem, 15, rfl⟩
abbrev cc0_scratch1 : Ref sig .tc := ⟨.vmem, 16, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14

abbrev nD : Nat := 1
abbrev τ : Topo := Topo.v7x

variable {F : FTy → Type} [FloatOps F]

abbrev grid0 : Pipeline.Grid := ⟨1, ![1], ![false]⟩

@[reducible] def k0_t1_loop : Scf.Loop 32 :=
  let c0_i32_52 : BitVec 32 := 0#32
  let c4_i32 : BitVec 32 := 4#32
  let v71 : BitVec 32 := Scalar.addi c0_i32_52 c4_i32
  let c1_i32 : BitVec 32 := 1#32
  ⟨c0_i32_52, v71, c1_i32⟩
def k0_mult1 (k0_t1 : Fin k0_t1_loop.trips) : BitVec 32 :=
  let c0_i32_52 : BitVec 32 := 0#32
  let c1_i32 : BitVec 32 := 1#32
  let arg18 : BitVec 32 := Scf.iv c0_i32_52 c1_i32 k0_t1
  let c128_i32 : BitVec 32 := 128#32
  let v128 : BitVec 32 := Scalar.muli arg18 c128_i32
  v128
def k0_off1 (k0_t1 : Fin k0_t1_loop.trips) : Fin 2 → Nat :=
  let c0_i32_52 : BitVec 32 := 0#32
  let c1_i32 : BitVec 32 := 1#32
  let arg18 : BitVec 32 := Scf.iv c0_i32_52 c1_i32 k0_t1
  let c128_i32 : BitVec 32 := 128#32
  let v128 : BitVec 32 := Scalar.muli arg18 c128_i32
  let v129 : BitVec 32 := v128
  let v130 : Index := Scalar.indexCast v129
  let c0_96 : Index := 0#32
  ![v130.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S4x128x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x128x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x128x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2x1024x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2x1024x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S512x512 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S4x128x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true]

abbrev stage0_13 : Fin 1 → Memref sig .tc .vmem S128x2048 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S128x2048 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== SsmSRefIdeal.lean ====
abbrev S512x512 : Shape := ⟨2, ![512, 512]⟩
abbrev S1x128x32x64 : Shape := ⟨4, ![1, 128, 32, 64]⟩
abbrev S32x64 : Shape := ⟨2, ![32, 64]⟩
abbrev S16x32x64 : Shape := ⟨3, ![16, 32, 64]⟩
abbrev S1x32x16x64 : Shape := ⟨4, ![1, 32, 16, 64]⟩
abbrev S1x32x16 : Shape := ⟨3, ![1, 32, 16]⟩
abbrev S1x512x512 : Shape := ⟨3, ![1, 512, 512]⟩
abbrev S1x512 : Shape := ⟨2, ![1, 512]⟩
abbrev S4x128x32x16 : Shape := ⟨4, ![4, 128, 32, 16]⟩
abbrev S32x64x4x128 : Shape := ⟨4, ![32, 64, 4, 128]⟩
abbrev S4x128x32x64 : Shape := ⟨4, ![4, 128, 32, 64]⟩
abbrev S128x32x64 : Shape := ⟨3, ![128, 32, 64]⟩
abbrev S1x32x64 : Shape := ⟨3, ![1, 32, 64]⟩
abbrev S128x2048 : Shape := ⟨2, ![128, 2048]⟩

abbrev nBuf : Space → Nat
  | .hbm => 101
  | .vmem => 0
  | .smem => 0
  | _ => 0

abbrev bufTy : (tb : Table) → Fin (tcTables nBuf tb) → BufTy
  | .hbm, ⟨0, _⟩ => ⟨S512x512, .f32⟩
  | .hbm, ⟨1, _⟩ => ⟨S1x128x32x64, .f32⟩
  | .hbm, ⟨2, _⟩ => ⟨S1x128x32x64, .f32⟩
  | .hbm, ⟨3, _⟩ => ⟨S32x64, .f32⟩
  | .hbm, ⟨4, _⟩ => ⟨S32x64, .f32⟩
  | .hbm, ⟨5, _⟩ => ⟨S16x32x64, .f32⟩
  | .hbm, ⟨6, _⟩ => ⟨S16x32x64, .f32⟩
  | .hbm, ⟨7, _⟩ => ⟨S1x32x16x64, .f32⟩
  | .hbm, ⟨8, _⟩ => ⟨S1x32x16x64, .f32⟩
  | .hbm, ⟨9, _⟩ => ⟨S1x32x16, .f32⟩
  | .hbm, ⟨10, _⟩ => ⟨S1x512x512, .f32⟩
  | .hbm, ⟨11, _⟩ => ⟨S1x512, .f32⟩
  | .hbm, ⟨12, _⟩ => ⟨S4x128x32x16, .f32⟩
  | .hbm, ⟨13, _⟩ => ⟨S32x64x4x128, .f32⟩
  | .hbm, ⟨14, _⟩ => ⟨S4x128x32x64, .f32⟩
  | .hbm, ⟨15, _⟩ => ⟨S32x64x4x128, .f32⟩
  | .hbm, ⟨16, _⟩ => ⟨S4x128x32x64, .f32⟩
  | .hbm, ⟨17, _⟩ => ⟨S128x32x64, .f32⟩
  | .hbm, ⟨18, _⟩ => ⟨S128x32x64, .f32⟩
  | .hbm, ⟨19, _⟩ => ⟨S1x32x64, .f32⟩
  | .hbm, ⟨20, _⟩ => ⟨S128x32x64, .f32⟩
  | .hbm, ⟨21, _⟩ => ⟨S128x32x64, .f32⟩
  | .hbm, ⟨22, _⟩ => ⟨S1x32x64, .f32⟩
  | .hbm, ⟨23, _⟩ => ⟨S128x32x64, .f32⟩
  | .hbm, ⟨24, _⟩ => ⟨S128x32x64, .f32⟩
  | .hbm, ⟨25, _⟩ => ⟨S128x32x64, .f32⟩
  | .hbm, ⟨26, _⟩ => ⟨S1x128x32x64, .f32⟩
  | .hbm, ⟨27, _⟩ => ⟨S128x32x64, .f32⟩
  | .hbm, ⟨28, _⟩ => ⟨S128x32x64, .f32⟩
  | .hbm, ⟨29, _⟩ => ⟨S1x32x64, .f32⟩
  | .hbm, ⟨30, _⟩ => ⟨S128x32x64, .f32⟩
  | .hbm, ⟨31, _⟩ => ⟨S128x32x64, .f32⟩
  | .hbm, ⟨32, _⟩ => ⟨S1x32x64, .f32⟩
  | .hbm, ⟨33, _⟩ => ⟨S128x32x64, .f32⟩
  | .hbm, ⟨34, _⟩ => ⟨S128x32x64, .f32⟩
  | .hbm, ⟨35, _⟩ => ⟨S128x32x64, .f32⟩
  | .hbm, ⟨36, _⟩ => ⟨S1x128x32x64, .f32⟩
  | .hbm, ⟨37, _⟩ => ⟨S128x32x64, .f32⟩
  | .hbm, ⟨38, _⟩ => ⟨S128x32x64, .f32⟩
  | .hbm, ⟨39, _⟩ => ⟨S1x32x64, .f32⟩
  | .hbm, ⟨40, _⟩ => ⟨S128x32x64, .f32⟩
  | .hbm, ⟨41, _⟩ => ⟨S128x32x64, .f32⟩
  | .hbm, ⟨42, _⟩ => ⟨S1x32x64, .f32⟩
  | .hbm, ⟨43, _⟩ => ⟨S128x32x64, .f32⟩
  | .hbm, ⟨44, _⟩ => ⟨S128x32x64, .f32⟩
  | .hbm, ⟨45, _⟩ => ⟨S128x32x64, .f32⟩
  | .hbm, ⟨46, _⟩ => ⟨S1x128x32x64, .f32⟩
  | .hbm, ⟨47, _⟩ => ⟨S128x32x64, .f32⟩
  | .hbm, ⟨48, _⟩ => ⟨S128x32x64, .f32⟩
  | .hbm, ⟨49, _⟩ => ⟨S1x32x64, .f32⟩
  | .hbm, ⟨50, _⟩ => ⟨S128x32x64, .f32⟩
  | .hbm, ⟨51, _⟩ => ⟨S128x32x64, .f32⟩
  | .hbm, ⟨52, _⟩ => ⟨S1x32x64, .f32⟩
  | .hbm, ⟨53, _⟩ => ⟨S128x32x64, .f32⟩
  | .hbm, ⟨54, _⟩ => ⟨S128x32x64, .f32⟩
  | .hbm, ⟨55, _⟩ => ⟨S128x32x64, .f32⟩
  | .hbm, ⟨56, _⟩ => ⟨S1x128x32x64, .f32⟩
  | .hbm, ⟨57, _⟩ => ⟨S128x32x64, .f32⟩
  | .hbm, ⟨58, _⟩ => ⟨S128x32x64, .f32⟩
  | .hbm, ⟨59, _⟩ => ⟨S1x32x64, .f32⟩
  | .hbm, ⟨60, _⟩ => ⟨S128x32x64, .f32⟩
  | .hbm, ⟨61, _⟩ => ⟨S128x32x64, .f32⟩
  | .hbm, ⟨62, _⟩ => ⟨S1x32x64, .f32⟩
  | .hbm, ⟨63, _⟩ => ⟨S128x32x64, .f32⟩
  | .hbm, ⟨64, _⟩ => ⟨S128x32x64, .f32⟩
  | .hbm, ⟨65, _⟩ => ⟨S128x32x64, .f32⟩
  | .hbm, ⟨66, _⟩ => ⟨S1x128x32x64, .f32⟩
  | .hbm, ⟨67, _⟩ => ⟨S128x32x64, .f32⟩
  | .hbm, ⟨68, _⟩ => ⟨S128x32x64, .f32⟩
  | .hbm, ⟨69, _⟩ => ⟨S1x32x64, .f32⟩
  | .hbm, ⟨70, _⟩ => ⟨S128x32x64, .f32⟩
  | .hbm, ⟨71, _⟩ => ⟨S128x32x64, .f32⟩
  | .hbm, ⟨72, _⟩ => ⟨S1x32x64, .f32⟩
  | .hbm, ⟨73, _⟩ => ⟨S128x32x64, .f32⟩
  | .hbm, ⟨74, _⟩ => ⟨S128x32x64, .f32⟩
  | .hbm, ⟨75, _⟩ => ⟨S128x32x64, .f32⟩
  | .hbm, ⟨76, _⟩ => ⟨S1x128x32x64, .f32⟩
  | .hbm, ⟨77, _⟩ => ⟨S128x32x64, .f32⟩
  | .hbm, ⟨78, _⟩ => ⟨S128x32x64, .f32⟩
  | .hbm, ⟨79, _⟩ => ⟨S1x32x64, .f32⟩
  | .hbm, ⟨80, _⟩ => ⟨S128x32x64, .f32⟩
  | .hbm, ⟨81, _⟩ => ⟨S128x32x64, .f32⟩
  | .hbm, ⟨82, _⟩ => ⟨S1x32x64, .f32⟩
  | .hbm, ⟨83, _⟩ => ⟨S128x32x64, .f32⟩
  | .hbm, ⟨84, _⟩ => ⟨S128x32x64, .f32⟩
  | .hbm, ⟨85, _⟩ => ⟨S128x32x64, .f32⟩
  | .hbm, ⟨86, _⟩ => ⟨S1x128x32x64, .f32⟩
  | .hbm, ⟨87, _⟩ => ⟨S128x32x64, .f32⟩
  | .hbm, ⟨88, _⟩ => ⟨S128x32x64, .f32⟩
  | .hbm, ⟨89, _⟩ => ⟨S1x32x64, .f32⟩
  | .hbm, ⟨90, _⟩ => ⟨S128x32x64, .f32⟩
  | .hbm, ⟨91, _⟩ => ⟨S128x32x64, .f32⟩
  | .hbm, ⟨92, _⟩ => ⟨S1x32x64, .f32⟩
  | .hbm, ⟨93, _⟩ => ⟨S128x32x64, .f32⟩
  | .hbm, ⟨94, _⟩ => ⟨S128x32x64, .f32⟩
  | .hbm, ⟨95, _⟩ => ⟨S128x32x64, .f32⟩
  | .hbm, ⟨96, _⟩ => ⟨S1x128x32x64, .f32⟩
  | .hbm, ⟨97, _⟩ => ⟨S128x32x64, .f32⟩
  | .hbm, ⟨98, _⟩ => ⟨S128x32x64, .f32⟩
  | .hbm, ⟨99, _⟩ => ⟨S128x2048, .f32⟩
  | .hbm, ⟨100, _⟩ => ⟨S128x2048, .f32⟩
  | _, _ => ⟨S512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_v78 : Ref sig .tc := ⟨.hbm, 90, rfl⟩
abbrev main_v79 : Ref sig .tc := ⟨.hbm, 91, rfl⟩
abbrev main_v80 : Ref sig .tc := ⟨.hbm, 92, rfl⟩
abbrev main_v81 : Ref sig .tc := ⟨.hbm, 93, rfl⟩
abbrev main_v82 : Ref sig .tc := ⟨.hbm, 94, rfl⟩
abbrev main_v83 : Ref sig .tc := ⟨.hbm, 95, rfl⟩
abbrev main_v84 : Ref sig .tc := ⟨.hbm, 96, rfl⟩
abbrev main_v85 : Ref sig .tc := ⟨.hbm, 97, rfl⟩
abbrev main_v86 : Ref sig .tc := ⟨.hbm, 98, rfl⟩
abbrev main_v87 : Ref sig .tc := ⟨.hbm, 99, rfl⟩
abbrev main_v88 : Ref sig .tc := ⟨.hbm, 100, rfl⟩

abbrev nD : Nat := 1
abbrev τ : Topo := Topo.v7x

variable {F : FTy → Type} [FloatOps F]
-- ==== Proof.RowNorm.lean ====
/-
  The extended-real functions that the calls share: the reciprocal root of a row's mean square, and one entry of a
  normed row times a matrix.
-/
module

public import Idealize.ShloMosaic.Lib.Pointwise

@[expose] public section

noncomputable section

namespace Cert.RowNorm

open Idealize.ShloMosaic

/-- The reciprocal root of a 1024-entry row's mean square plus the epsilon. -/
def rowScale (x : Fin 1024 → EReal) : EReal :=
  Ideal.rsqrt (Ideal.div (∑ k : Fin 1024, x k * x k) (Ideal.ofBits .f32 0x44800000#32) + Ideal.ofBits .f32 0x358637BD#32)

/-- One entry of the normed row `x` with gains `g`, times the column `w`. -/
def normDot (x g w : Fin 1024 → EReal) : EReal := ∑ d : Fin 1024, x d * rowScale x * g d * w d

/-- The reciprocal root of the mean square of a 64-entry component plus the epsilon. -/
def compScale (z : Fin 64 → EReal) : EReal :=
  Ideal.rsqrt (Ideal.div (∑ k : Fin 64, z k * z k) (Ideal.ofBits .f32 0x42800000#32) + Ideal.ofBits .f32 0x358637BD#32)

/-- A row of the prompt with the meta tokens in front of it: position `t` of batch `b`. -/
def promptRow (x : Fin 8 → Fin 2048 → Fin 1024 → EReal) (metaTok : Fin 16 → Fin 1024 → EReal) (b : Fin 8) (t : Fin 2064) :
    Fin 1024 → EReal :=
  fun d => if h : t.val < 16 then metaTok ⟨t.val, h⟩ d else x b ⟨t.val - 16, by have := t.isLt; omega⟩ d

/-- Entry `j` of the 512 projected columns from `off` on, each 64-column component normed and scaled by its gains. -/
def compNorm (x g : Fin 1024 → EReal) (w : Fin 1024 → Fin 2048 → EReal) (q : Fin 2 → Fin 64 → EReal)
    (off : ℕ) (h : off + 512 ≤ 2048) (j : Fin 512) : EReal :=
  normDot x g (fun d => w d ⟨off + j.val, by have := j.isLt; omega⟩)
    * compScale (fun k => normDot x g (fun d => w d ⟨off + (j.val / 64 * 64 + k.val), by have := j.isLt; have := k.isLt; omega⟩))
    * q ⟨j.val / 64 % 2, by omega⟩ ⟨j.val % 64, by omega⟩

/-- Adding up scaled terms is scaling their sum, for a finite nonnegative scale. -/
theorem sum_mul_coe {n : ℕ} (f : Fin n → EReal) (r : ℝ) (hr : 0 ≤ r) :
    ∑ k : Fin n, f k * (r : EReal) = (∑ k : Fin n, f k) * (r : EReal) := by
  induction n with
  | zero => simp
  | succ n ih =>
    rw [Fin.sum_univ_castSucc, Fin.sum_univ_castSucc, ih]
    exact (EReal.right_distrib_of_nonneg_of_ne_top (by exact_mod_cast hr) (EReal.coe_ne_top r) _ _).symm

/-- The bf16 pattern `0x3C80` is one sixty-fourth. -/
theorem ofBits_64th : Ideal.ofBits .bf16 0x3C80#16 = (((1 : ℝ) / 64 : ℝ) : EReal) := by
  simp [Ideal.ofBits, Ideal.ieee, -EReal.coe_mul]; norm_num

/-- The f32 pattern `0x42800000` is sixty-four. -/
theorem ofBits_64 : Ideal.ofBits .f32 0x42800000#32 = ((64 : ℝ) : EReal) := by
  simp [Ideal.ofBits, Ideal.ieee, -EReal.coe_mul]; norm_num

/-- Squares against the block-diagonal matrix of sixty-fourths are the mean square of the column's component. -/
theorem blockMean (z : Fin 256 → EReal) (o : Fin 256 → EReal) (j : Fin 256)
    (ho : ∀ x : Fin 256, o x = (if x.val / 64 = j.val / 64 then 1 else 0) * Ideal.ofBits .bf16 0x3C80#16) :
    ∑ x : Fin 256, z x * z x * o x
      = Ideal.div (∑ k : Fin 64, z ⟨j.val / 64 * 64 + k.val, by have := j.isLt; have := k.isLt; omega⟩
          * z ⟨j.val / 64 * 64 + k.val, by have := j.isLt; have := k.isLt; omega⟩) (Ideal.ofBits .f32 0x42800000#32) := by
  rw [ofBits_64, Ideal.div_coe (by norm_num), Fin.sum_univ_tiles 4 64 rfl]
  have hj : j.val / 64 < 4 := by have := j.isLt; omega
  rw [Finset.sum_eq_single (⟨j.val / 64, hj⟩ : Fin 4)]
  · rw [← sum_mul_coe _ _ (by norm_num)]
    refine Finset.sum_congr rfl fun k _ => ?_
    rw [ho, if_pos (by have := k.isLt; simp only; omega), one_mul, ofBits_64th]
  · intro b _ hb
    refine Finset.sum_eq_zero fun k _ => ?_
    rw [ho, if_neg, zero_mul, mul_zero]
    intro h
    apply hb
    apply Fin.ext
    have := k.isLt
    simp only at h ⊢
    omega
  · intro h; exact absurd (Finset.mem_univ _) h

end Cert.RowNorm
-- ==== Proof.ProjPure.lean ====
/-
  The projection call's payloads, read at an index.
-/
module

public import proofs.«01_k».proof.Proof.RowNorm
public import proofs.«01_k».proof.Proof.Gen.ProjIdeal.Skeleton

@[expose] public section

set_option maxRecDepth 16384

noncomputable section

namespace Cert.ProjIdeal.Pure

open Cert.ProjIdeal Cert.ProjIdeal.Gen Cert.RowNorm Idealize.ShloMosaic Idealize.ShloMosaic.TcCoe Idealize.SL.Sem

/-- The projected block at row `i`, column `n`: the normed row times the column. -/
theorem pay1_at (v0 : FVec Ideal S688x1024 .f32) (v12 : FVec Ideal S1x1024 .f32) (v17 : FVec Ideal S1024x2048 .bf16)
    (i : Fin 688) (n : Fin 2048) :
    k0_pay1 (F := Ideal) v0 v12 v17 (ix2 i n)
      = normDot (fun d => v0 (ix2 i d)) (fun d => v12 (ix2 0 d)) (fun d => v17 (ix2 d n)) := by
  pointwise [k0_pay1, normDot, rowScale]

/-- One normed query before its scale. -/
theorem pay2_at (v0 : FVec Ideal S688x1024 .f32) (v12 : FVec Ideal S1x1024 .f32) (v17 : FVec Ideal S1024x2048 .bf16)
    (o : FVec Ideal S256x256 .bf16) (g : FVec Ideal S1x512 .f32) (q : Fin 2 → Fin 64 → EReal)
    (ho : ∀ x j : Fin 256, (o (ix2 x j) : EReal) = (if x.val / 64 = j.val / 64 then 1 else 0) * Ideal.ofBits .bf16 0x3C80#16)
    (hg : ∀ j : Fin 512, (g (ix2 0 j) : EReal) = q ⟨j.val / 64 % 2, by omega⟩ ⟨j.val % 64, by omega⟩) (i : Fin 688) (n : Fin 512) :
    (k0_pay2 (F := Ideal) v0 v12 v17 o o (ix2 i n) * g (ix2 0 n) : EReal)
      = compNorm (fun d => v0 (ix2 i d)) (fun d => v12 (ix2 0 d)) (fun d n => v17 (ix2 d n)) q 0 (by decide) n := by
  pointwise [k0_pay2]
  rw [hg]
  unfold compNorm compScale
  refine congrArg₂ (· * ·) (congrArg₂ (· * ·) ?_ (congrArg Ideal.rsqrt (congrArg (· + _) ?_))) rfl
  · simp only [pay1_at, Nat.zero_add]
  split
  · rename_i h
    refine (blockMean (fun x => k0_pay1 (F := Ideal) v0 v12 v17 (ix2 i ⟨x.val, by have := x.isLt; omega⟩))
      (fun x => o (ix2 x ⟨n.val, h⟩)) ⟨n.val, h⟩ (fun x => ho x _)).trans ?_
    simp only [pay1_at, Nat.zero_add]
  · rename_i h
    refine (blockMean (fun x => k0_pay1 (F := Ideal) v0 v12 v17 (ix2 i ⟨256 + x.val, by have := x.isLt; omega⟩))
      (fun x => o (ix2 x ⟨n.val - 256, by omega⟩)) ⟨n.val - 256, by omega⟩ (fun x => ho x _)).trans ?_
    have hk : ∀ k : Fin 64, 256 + ((n.val - 256) / 64 * 64 + k.val) = n.val / 64 * 64 + k.val := fun k => by omega
    simp only [pay1_at, hk, Nat.zero_add]

/-- One normed key. -/
theorem pay4_at (v0 : FVec Ideal S688x1024 .f32) (v12 : FVec Ideal S1x1024 .f32) (v17 : FVec Ideal S1024x2048 .bf16)
    (o : FVec Ideal S256x256 .bf16) (g : FVec Ideal S1x512 .f32) (q : Fin 2 → Fin 64 → EReal)
    (ho : ∀ x j : Fin 256, (o (ix2 x j) : EReal) = (if x.val / 64 = j.val / 64 then 1 else 0) * Ideal.ofBits .bf16 0x3C80#16)
    (hg : ∀ j : Fin 512, (g (ix2 0 j) : EReal) = q ⟨j.val / 64 % 2, by omega⟩ ⟨j.val % 64, by omega⟩) (i : Fin 688) (n : Fin 512) :
    (k0_pay4 (F := Ideal) (k0_pay1 v0 v12 v17) g o o (ix2 i n) : EReal)
      = compNorm (fun d => v0 (ix2 i d)) (fun d => v12 (ix2 0 d)) (fun d n => v17 (ix2 d n)) q 512 (by decide) n := by
  pointwise [k0_pay4]
  rw [hg]
  unfold compNorm compScale
  refine congrArg₂ (· * ·) (congrArg₂ (· * ·) ?_ (congrArg Ideal.rsqrt (congrArg (· + _) ?_))) rfl
  · simp only [pay1_at, Nat.zero_add]
  split
  · rename_i h
    refine (blockMean (fun x => k0_pay1 (F := Ideal) v0 v12 v17 (ix2 i ⟨512 + x.val, by have := x.isLt; omega⟩))
      (fun x => o (ix2 x ⟨n.val, h⟩)) ⟨n.val, h⟩ (fun x => ho x _)).trans ?_
    simp only [pay1_at, Nat.zero_add]
  · rename_i h
    refine (blockMean (fun x => k0_pay1 (F := Ideal) v0 v12 v17 (ix2 i ⟨512 + (256 + x.val), by have := x.isLt; omega⟩))
      (fun x => o (ix2 x ⟨n.val - 256, by omega⟩)) ⟨n.val - 256, by omega⟩ (fun x => ho x _)).trans ?_
    have hk : ∀ k : Fin 64, 256 + ((n.val - 256) / 64 * 64 + k.val) = n.val / 64 * 64 + k.val := fun k => by omega
    simp only [pay1_at, hk, Nat.zero_add]

/-- One scaled query. -/
theorem pay6_at (a : FVec Ideal S688x512 .f32) (g : FVec Ideal S1x512 .f32) (i : Fin 688) (n : Fin 512) :
    (k0_pay6 (F := Ideal) a (k0_pay3 g) (ix2 i n) : EReal) = a (ix2 i n) * g (ix2 0 n) * Ideal.ofBits .f32 0x3E000000#32 := by
  pointwise [k0_pay6, k0_pay3]

/-- One value. -/
theorem pay5_at (p : FVec Ideal S688x2048 .f32) (i : Fin 688) (n : Fin 512) :
    (k0_pay5 (F := Ideal) p (ix2 i n) : EReal) = p (ix2 i ⟨1024 + n.val, by omega⟩) := by
  pointwise [k0_pay5]

/-- One entry of the recurrence's input. -/
theorem pay9_at (p : FVec Ideal S688x2048 .f32) (i : Fin 688) (n : Fin 512) :
    (k0_pay9 (F := Ideal) p (ix2 i n) : EReal) = p (ix2 i ⟨1536 + n.val, by omega⟩) := by
  pointwise [k0_pay9]

/-- The cast keys are the keys. -/
theorem pay7_at (p : FVec Ideal S688x2048 .f32) (g : FVec Ideal S1x512 .f32) (o : FVec Ideal S256x256 .bf16) (i : Fin 688) (n : Fin 512) :
    (k0_pay7 (F := Ideal) p g o o (ix2 i n) : EReal) = k0_pay4 (F := Ideal) p g o o (ix2 i n) := by
  pointwise [k0_pay7]

/-- The cast values are the values. -/
theorem pay8_at (p : FVec Ideal S688x2048 .f32) (i : Fin 688) (n : Fin 512) :
    (k0_pay8 (F := Ideal) p (ix2 i n) : EReal) = p (ix2 i ⟨1024 + n.val, by omega⟩) := by
  pointwise [k0_pay8, k0_pay5]

end Cert.ProjIdeal.Pure
-- ==== Proof.ProjHost.lean ====
/-
  The projection call's operands as its host code prepares them, read at an index, and the arrays it computes.
-/
module

public import proofs.«01_k».proof.Proof.ProjPure
public import proofs.«01_k».proof.Proof.Gen.ProjIdeal.Value
public import Idealize.ShloMosaic.Lib.Pipeline.ValueKit

@[expose] public section

set_option maxRecDepth 16384

noncomputable section

namespace Cert.ProjIdeal.Pure

open Cert.ProjIdeal Cert.ProjIdeal.Gen Cert.RowNorm Idealize.ShloMosaic Idealize.ShloMosaic.TcCoe Idealize.SL.Sem

variable (m : (ℓ : Loc nD τ sig) → Buf (Elt Ideal) ℓ) (c : Dev nD)

/-- The number of the 64-column component of each of 256 columns, by the floor division the host computes. -/
def comp : IVec S256 32 :=
  select (andi (cmpi .ne (signi (iotaInDim S256 32 0)) (broadcastInDim S256 ![] bcast_S_S256 (signi (constantI S_ 32 64#32))))
      (cmpi .ne (Host.remsi (iotaInDim S256 32 0) (broadcastInDim S256 ![] bcast_S_S256 (constantI S_ 32 64#32)))
        (broadcastInDim S256 ![] bcast_S_S256 (constantI S_ 32 0#32))))
    (subi (Host.divsi (iotaInDim S256 32 0) (broadcastInDim S256 ![] bcast_S_S256 (constantI S_ 32 64#32)))
      (broadcastInDim S256 ![] bcast_S_S256 (constantI S_ 32 1#32)))
    (Host.divsi (iotaInDim S256 32 0) (broadcastInDim S256 ![] bcast_S_S256 (constantI S_ 32 64#32)))

theorem comp_eq : ∀ x : Fin 256, comp (ix1 x) = BitVec.ofNat 32 (x.val / 64) := by
  decide +kernel

/-- The component numbers as a column and as a row, compared, and scaled by one sixty-fourth. -/
def onesTerm : FVec Ideal S256x256 .bf16 :=
  mulf (uitofp .bf16 (cmpi .eq (broadcastInDim S256x256 ![0, 1] bcast_S256x1_S256x256_0_1 (broadcastInDim S256x1 ![0] bcast_S256_S256x1_0 comp))
      (broadcastInDim S256x256 ![0, 1] bcast_S1x256_S256x256_0_1 (broadcastInDim S1x256 ![1] bcast_S256_S1x256_1 comp))))
    (broadcastInDim S256x256 ![] bcast_S_S256x256 (constant S_ .bf16 0x3C80#16))

theorem ones_eq : V m c main_v9 = onesTerm := by
  simp only [V, hostOps0, hostOps0_1, hostOps0_2, List.flatten_cons, List.flatten_nil, List.append_nil, List.cons_append, List.nil_append]
  after_results
  rfl

theorem ones_at (x j : Fin 256) : ((V m c main_v9 : FVec Ideal S256x256 .bf16) (ix2 x j) : EReal)
    = (if x.val / 64 = j.val / 64 then 1 else 0) * Ideal.ofBits .bf16 0x3C80#16 := by
  rw [ones_eq]
  pointwise [onesTerm]
  simp only [comp_eq]
  congr 1
  have hx : x.val / 64 < 2 ^ 32 := by have := x.isLt; omega
  have hy : j.val / 64 < 2 ^ 32 := by have := j.isLt; omega
  by_cases h : x.val / 64 = j.val / 64
  · rw [h, if_pos rfl]
    simp [IntOp.cmpi, FloatOps.uitofp]
  · rw [if_neg h]
    have hn : ¬ (BitVec.ofNat 32 (x.val / 64) = BitVec.ofNat 32 (j.val / 64)) := by
      intro e
      apply h
      have e2 := congrArg BitVec.toNat e
      rwa [BitVec.toNat_ofNat, BitVec.toNat_ofNat, Nat.mod_eq_of_lt hx, Nat.mod_eq_of_lt hy] at e2
    simp [IntOp.cmpi, FloatOps.uitofp, hn]

theorem qg_at (j : Fin 512) : ((V m c main_v19 : FVec Ideal S1x512 .f32) (ix2 0 j) : EReal)
    = m ((c.tc : Thread nD τ).loc main_arg4) (ix3 0 ⟨j.val / 64 % 2, by omega⟩ ⟨j.val % 64, by omega⟩) := by
  simp only [V, hostOps0, hostOps0_1, hostOps0_2, List.flatten_cons, List.flatten_nil, List.append_nil, List.cons_append, List.nil_append]
  after_results
  pointwise
  have h1 : j.val % 128 / 64 = j.val / 64 % 2 := by omega
  have h2 : j.val % 128 % 64 = j.val % 64 := by omega
  simp only [h1, h2]

theorem kg_at (j : Fin 512) : ((V m c main_v25 : FVec Ideal S1x512 .f32) (ix2 0 j) : EReal)
    = m ((c.tc : Thread nD τ).loc main_arg5) (ix3 0 ⟨j.val / 64 % 2, by omega⟩ ⟨j.val % 64, by omega⟩) := by
  simp only [V, hostOps0, hostOps0_1, hostOps0_2, List.flatten_cons, List.flatten_nil, List.append_nil, List.cons_append, List.nil_append]
  after_results
  pointwise
  have h1 : j.val % 128 / 64 = j.val / 64 % 2 := by omega
  have h2 : j.val % 128 % 64 = j.val % 64 := by omega
  simp only [h1, h2]

theorem x_at (r : Fin 16512) (d : Fin 1024) : ((V m c main_v28 : FVec Ideal S16512x1024 .f32) (ix2 r d) : EReal)
    = promptRow (fun b t d => m ((c.tc : Thread nD τ).loc main_arg0) (ix3 b t d)) (fun t d => m ((c.tc : Thread nD τ).loc main_arg1) (ix2 t d))
        ⟨r.val / 2064, by omega⟩ ⟨r.val % 2064, by omega⟩ d := by
  simp only [V, hostOps0, hostOps0_1, hostOps0_2, List.flatten_cons, List.flatten_nil, List.append_nil, List.cons_append, List.nil_append]
  after_results
  pointwise [promptRow]

theorem g_at (d : Fin 1024) : ((V m c main_v11 : FVec Ideal S1x1024 .f32) (ix2 0 d) : EReal)
    = m ((c.tc : Thread nD τ).loc main_arg2) (ix2 0 d) := by
  simp only [V, hostOps0, hostOps0_1, hostOps0_2, List.flatten_cons, List.flatten_nil, List.append_nil, List.cons_append, List.nil_append]
  after_results
  pointwise

theorem w_at (d : Fin 1024) (n : Fin 2048) : ((V m c main_v13 : FVec Ideal S1024x2048 .bf16) (ix2 d n) : EReal)
    = m ((c.tc : Thread nD τ).loc main_arg3) (ix3 0 d n) := by
  simp only [V, hostOps0, hostOps0_1, hostOps0_2, List.flatten_cons, List.flatten_nil, List.append_nil, List.cons_append, List.nil_append]
  after_results
  pointwise

theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![0, 0]
    ∧ win0_6.index t = ![t.val, 0] ∧ win0_7.index t = ![t.val, 0] ∧ win0_8.index t = ![t.val, 0] ∧ win0_9.index t = ![t.val, 0]
    ∧ win0_10.index t = ![t.val, 0] ∧ win0_11.index t = ![t.val % 3, t.val / 3] :=
  (by decide +kernel : ∀ t : Fin grid0.N, _)

/-- A row of the rows' window at point `t`. -/
theorem blk0 (t : Fin cfg0.N) (i : Fin 688) (d : Fin 1024) :
    iblk m c 0 t (ix2 i d) = V m c main_v28 (ix2 ⟨t.val * 688 + i.val, by have : t.val < 24 := t.isLt; omega⟩ d) := by
  blk_ext [iblk, idx t]

theorem blk1 (t : Fin cfg0.N) (i : Fin 1) (d : Fin 1024) :
    iblk m c 1 t (ix2 i d) = V m c main_v11 (ix2 i d) := by
  blk_ext [iblk, idx t]

theorem blk2 (t : Fin cfg0.N) (i : Fin 1024) (d : Fin 2048) :
    iblk m c 2 t (ix2 i d) = V m c main_v13 (ix2 i d) := by
  blk_ext [iblk, idx t]

theorem blk3 (t : Fin cfg0.N) (i : Fin 1) (d : Fin 512) :
    iblk m c 3 t (ix2 i d) = V m c main_v19 (ix2 i d) := by
  blk_ext [iblk, idx t]

theorem blk4 (t : Fin cfg0.N) (i : Fin 1) (d : Fin 512) :
    iblk m c 4 t (ix2 i d) = V m c main_v25 (ix2 i d) := by
  blk_ext [iblk, idx t]

theorem blk5 (t : Fin cfg0.N) (i : Fin 256) (d : Fin 256) :
    iblk m c 5 t (ix2 i d) = V m c main_v9 (ix2 i d) := by
  blk_ext [iblk, idx t]

/-- The row of the prompt that row `r` of the flattened prompt is. -/
def row (r : Fin 16512) : Fin 1024 → EReal :=
  promptRow (fun b t d => m ((c.tc : Thread nD τ).loc main_arg0) (ix3 b t d)) (fun t d => m ((c.tc : Thread nD τ).loc main_arg1) (ix2 t d))
    ⟨r.val / 2064, by omega⟩ ⟨r.val % 2064, by omega⟩

/-- The gains of the rows' norm. -/
def gain (d : Fin 1024) : EReal := m ((c.tc : Thread nD τ).loc main_arg2) (ix2 0 d)

/-- The weights. -/
def wgt (d : Fin 1024) (n : Fin 2048) : EReal := m ((c.tc : Thread nD τ).loc main_arg3) (ix3 0 d n)

/-- The gains of the queries' norm. -/
def qgain (s : Fin 2) (k : Fin 64) : EReal := m ((c.tc : Thread nD τ).loc main_arg4) (ix3 0 s k)

/-- The gains of the keys' norm. -/
def kgain (s : Fin 2) (k : Fin 64) : EReal := m ((c.tc : Thread nD τ).loc main_arg5) (ix3 0 s k)

/-- The queries. -/
def Q (i : S16512x512.Idx) : EReal := compNorm (row m c (i 0)) (gain m c) (wgt m c) (qgain m c) 0 (by decide) (i 1) * Ideal.ofBits .f32 0x3E000000#32

/-- The keys. -/
def K (i : S16512x512.Idx) : EReal := compNorm (row m c (i 0)) (gain m c) (wgt m c) (kgain m c) 512 (by decide) (i 1)

/-- The values. -/
def Vl (i : S16512x512.Idx) : EReal := normDot (row m c (i 0)) (gain m c) fun d => wgt m c d ⟨1024 + (i 1).val, by have : (i 1).val < 512 := (i 1).isLt; omega⟩

/-- The recurrence's input, by time and then by batch and column. -/
def U (i : S2064x4096.Idx) : EReal :=
  normDot (row m c ⟨(i 1).val / 512 * 2064 + (i 0).val, by have : (i 0).val < 2064 := (i 0).isLt; have : (i 1).val < 4096 := (i 1).isLt; omega⟩)
    (gain m c) fun d => wgt m c d ⟨1536 + (i 1).val % 512, by omega⟩

end Cert.ProjIdeal.Pure
-- ==== Proof.ProjValue.lean ====
/-
  The projection call's output arrays.
-/
module

public import proofs.«01_k».proof.Proof.ProjHost
public import proofs.«01_k».proof.Proof.Gen.ProjIdeal.Value
public import Idealize.ShloMosaic.Lib.Pipeline.ValueKit

@[expose] public section

set_option maxRecDepth 16384

noncomputable section

namespace Cert.ProjIdeal.Pure

open Cert.ProjIdeal Cert.ProjIdeal.Gen Cert.RowNorm Idealize.ShloMosaic Idealize.ShloMosaic.TcCoe Idealize.SL.Sem

variable (m : (ℓ : Loc nD τ sig) → Buf (Elt Ideal) ℓ) (c : Dev nD)

/-- A row of the rows' window is a row of the prompt. -/
theorem row_blk (t : Fin cfg0.N) (i : Fin 688) (d : Fin 1024) :
    (iblk m c 0 t (ix2 i d) : EReal) = row m c ⟨t.val * 688 + i.val, by have : t.val < 24 := t.isLt; omega⟩ d :=
  (blk0 m c t i d).trans (x_at m c _ d)

theorem gain_blk (t : Fin cfg0.N) (d : Fin 1024) : (iblk m c 1 t (ix2 0 d) : EReal) = gain m c d :=
  (blk1 m c t 0 d).trans (g_at m c d)

theorem wgt_blk (t : Fin cfg0.N) (d : Fin 1024) (n : Fin 2048) : (iblk m c 2 t (ix2 d n) : EReal) = wgt m c d n :=
  (blk2 m c t d n).trans (w_at m c d n)

/-- The inputs of the row norm and the product, in the prompt's own terms. -/
theorem dot_at (t : Fin cfg0.N) (i : Fin 688) (n : Fin 2048) :
    normDot (fun d => iblk m c 0 t (ix2 i d)) (fun d => iblk m c 1 t (ix2 0 d)) (fun d => iblk m c 2 t (ix2 d n))
      = normDot (row m c ⟨t.val * 688 + i.val, by have : t.val < 24 := t.isLt; omega⟩) (gain m c) (fun d => wgt m c d n) :=
  congr (congr (congrArg normDot (funext fun d => row_blk m c t i d)) (funext fun d => gain_blk m c t d))
    (funext fun d => wgt_blk m c t d n)

theorem norm_at (t : Fin cfg0.N) (i : Fin 688) (q : Fin 2 → Fin 64 → EReal) (off : ℕ) (h : off + 512 ≤ 2048) (j : Fin 512) :
    compNorm (fun d => iblk m c 0 t (ix2 i d)) (fun d => iblk m c 1 t (ix2 0 d)) (fun d n => iblk m c 2 t (ix2 d n)) q off h j
      = compNorm (row m c ⟨t.val * 688 + i.val, by have : t.val < 24 := t.isLt; omega⟩) (gain m c) (wgt m c) q off h j :=
  congrArg (fun f => f q off h j)
    (congr (congr (congrArg compNorm (funext fun d => row_blk m c t i d)) (funext fun d => gain_blk m c t d))
      (funext fun d => funext fun n => wgt_blk m c t d n))

theorem ones_blk (t : Fin cfg0.N) (x j : Fin 256) :
    (iblk m c 5 t (ix2 x j) : EReal) = (if x.val / 64 = j.val / 64 then 1 else 0) * Ideal.ofBits .bf16 0x3C80#16 := by
  rw [blk5]; exact ones_at m c x j

theorem qg_blk (t : Fin cfg0.N) (j : Fin 512) :
    (iblk m c 3 t (ix2 0 j) : EReal) = qgain m c ⟨j.val / 64 % 2, by omega⟩ ⟨j.val % 64, by omega⟩ := by
  rw [blk3]; exact qg_at m c j

theorem kg_blk (t : Fin cfg0.N) (j : Fin 512) :
    (iblk m c 4 t (ix2 0 j) : EReal) = kgain m c ⟨j.val / 64 % 2, by omega⟩ ⟨j.val % 64, by omega⟩ := by
  rw [blk4]; exact kg_at m c j

theorem emb6 (t : Fin cfg0.N) (y0 : Fin 688) (y1 : Fin 512) :
    ((View.whole main_v29_0).slice (win0_6.rect t)).emb (ix2 y0 y1) = (ix2 ⟨t.val * 688 + y0.val, by have : t.val < 24 := t.isLt; omega⟩ y1 : S16512x512.Idx) := by
  blk_ext [idx t]

theorem emb7 (t : Fin cfg0.N) (y0 : Fin 688) (y1 : Fin 512) :
    ((View.whole main_v29_1).slice (win0_7.rect t)).emb (ix2 y0 y1) = (ix2 ⟨t.val * 688 + y0.val, by have : t.val < 24 := t.isLt; omega⟩ y1 : S16512x512.Idx) := by
  blk_ext [idx t]

theorem emb8 (t : Fin cfg0.N) (y0 : Fin 688) (y1 : Fin 512) :
    ((View.whole main_v29_2).slice (win0_8.rect t)).emb (ix2 y0 y1) = (ix2 ⟨t.val * 688 + y0.val, by have : t.val < 24 := t.isLt; omega⟩ y1 : S16512x512.Idx) := by
  blk_ext [idx t]

theorem emb9 (t : Fin cfg0.N) (y0 : Fin 688) (y1 : Fin 512) :
    ((View.whole main_v29_3).slice (win0_9.rect t)).emb (ix2 y0 y1) = (ix2 ⟨t.val * 688 + y0.val, by have : t.val < 24 := t.isLt; omega⟩ y1 : S16512x512.Idx) := by
  blk_ext [idx t]

theorem emb10 (t : Fin cfg0.N) (y0 : Fin 688) (y1 : Fin 512) :
    ((View.whole main_v29_4).slice (win0_10.rect t)).emb (ix2 y0 y1) = (ix2 ⟨t.val * 688 + y0.val, by have : t.val < 24 := t.isLt; omega⟩ y1 : S16512x512.Idx) := by
  blk_ext [idx t]

theorem emb11 (t : Fin cfg0.N) (y0 : Fin 688) (y1 : Fin 512) :
    ((View.whole main_v29_5).slice (win0_11.rect t)).emb (ix2 y0 y1)
      = (ix2 ⟨t.val % 3 * 688 + y0.val, by have := y0.isLt; omega⟩ ⟨t.val / 3 * 512 + y1.val, by have : t.val < 24 := t.isLt; have := y1.isLt; omega⟩ : S2064x4096.Idx) := by
  blk_ext [idx t]

/-- The queries' array. -/
theorem final6 (c : Dev nD) : (dats m 0 c).arrAt 6 (cfgs 0).N = Q m c := by
  refine (dats m 0 c).arrAt_eq_of_covers 6 _ (by decide +kernel) fun t _ y => ?_
  blk_simp
  rw [after0_6]
  frame_out
  idx_vars y
  rw [emb6]
  refine (pay6_at _ _ y0 y1).trans ?_
  rw [pay2_at _ _ _ _ _ (qgain m c) (ones_blk m c t) (qg_blk m c t), norm_at]
  rfl

/-- The keys' array. -/
theorem final7 (c : Dev nD) : (dats m 0 c).arrAt 7 (cfgs 0).N = K m c := by
  refine (dats m 0 c).arrAt_eq_of_covers 7 _ (by decide +kernel) fun t _ y => ?_
  blk_simp
  rw [after0_7]
  frame_out [k0_pay10]
  idx_vars y
  rw [emb7]
  refine (pay4_at _ _ _ _ _ (kgain m c) (ones_blk m c t) (kg_blk m c t) y0 y1).trans ?_
  rw [norm_at]
  rfl

/-- The cast keys' array. -/
theorem final8 (c : Dev nD) : (dats m 0 c).arrAt 8 (cfgs 0).N = K m c := by
  refine (dats m 0 c).arrAt_eq_of_covers 8 _ (by decide +kernel) fun t _ y => ?_
  blk_simp
  rw [after0_8]
  frame_out [k0_pay10]
  idx_vars y
  rw [emb8]
  refine (pay7_at _ _ _ y0 y1).trans ?_
  refine (pay4_at _ _ _ _ _ (kgain m c) (ones_blk m c t) (kg_blk m c t) y0 y1).trans ?_
  rw [norm_at]
  rfl

/-- The values' array. -/
theorem final9 (c : Dev nD) : (dats m 0 c).arrAt 9 (cfgs 0).N = Vl m c := by
  refine (dats m 0 c).arrAt_eq_of_covers 9 _ (by decide +kernel) fun t _ y => ?_
  blk_simp
  rw [after0_9]
  frame_out [k0_pay10]
  idx_vars y
  rw [emb9]
  refine (pay5_at _ y0 y1).trans ?_
  rw [pay1_at, dot_at]
  rfl

/-- The cast values' array. -/
theorem final10 (c : Dev nD) : (dats m 0 c).arrAt 10 (cfgs 0).N = Vl m c := by
  refine (dats m 0 c).arrAt_eq_of_covers 10 _ (by decide +kernel) fun t _ y => ?_
  blk_simp
  rw [after0_10]
  frame_out [k0_pay10]
  idx_vars y
  rw [emb10]
  refine (pay8_at _ y0 y1).trans ?_
  rw [pay1_at, dot_at]
  rfl

/-- The array of the recurrence's inputs. -/
theorem final11 (c : Dev nD) : (dats m 0 c).arrAt 11 (cfgs 0).N = U m c := by
  refine (dats m 0 c).arrAt_eq_of_covers 11 _ (by decide +kernel) fun t _ y => ?_
  blk_simp
  rw [after0_11]
  frame_out [k0_pay10]
  idx_vars y
  rw [emb11]
  refine (pay9_at _ y0 y1).trans ?_
  rw [pay1_at, dot_at]
  show _ = normDot (row m c ⟨(t.val / 3 * 512 + y1.val) / 512 * 2064 + (t.val % 3 * 688 + y0.val), _⟩) (gain m c)
    fun d => wgt m c d ⟨1536 + (t.val / 3 * 512 + y1.val) % 512, _⟩
  have h1 : (t.val / 3 * 512 + y1.val) / 512 * 2064 + (t.val % 3 * 688 + y0.val) = t.val * 688 + y0.val := by
    have := y1.isLt; omega
  have h2 : (t.val / 3 * 512 + y1.val) % 512 = y1.val := by have := y1.isLt; omega
  simp only [h1, h2]

end Cert.ProjIdeal.Pure
-- ==== Proof.ProjRef.lean ====
/-
  The projection's reference, read at an index, layer by layer.
-/
module

public import proofs.«01_k».proof.Proof.RowNorm
public import proofs.«01_k».proof.Proof.Gen.ProjRefIdeal.Run

@[expose] public section

set_option maxRecDepth 16384

noncomputable section

namespace Cert.ProjRefIdeal.Pure

open Cert.ProjRefIdeal Cert.ProjRefIdeal.Gen Cert.ProjRefIdeal.Value Cert.RowNorm Idealize.ShloMosaic Idealize.ShloMosaic.TcCoe Idealize.SL.Sem

/-- The prompt with the meta tokens in front. -/
def xp (a0 : FVec Ideal S8x2048x1024 .f32) (a1 : FVec Ideal S16x1024 .f32) : FVec Ideal S8x2064x1024 .f32 :=
  concatenate S8x2064x1024 1 [⟨S8x16x1024, (broadcastInDim S8x16x1024 ![1, 2] bcast_S16x1024_S8x16x1024_1_2 a1)⟩, ⟨S8x2048x1024, a0⟩] concatenates_S8x16x1024_S8x2048x1024_S8x2064x1024_d1

/-- The normed rows times the weights. -/
def pr (x : FVec Ideal S8x2064x1024 .f32) (a2 : FVec Ideal S1x1024 .f32) (a3 : FVec Ideal S1x1024x2048 .f32) :
    FVec Ideal S8x2064x2048 .f32 :=
  Host.dotGeneral dot_S8x2064x1024_S1024x2048_S8x2064x2048_2_0_01_1_n_n none (mulf (mulf x (broadcastInDim S8x2064x1024 ![0, 1, 2] bcast_S8x2064x1_S8x2064x1024_0_1_2 (Host.rsqrt (addf (Host.divf (broadcastInDim S8x2064x1 ![0, 1] bcast_S8x2064_S8x2064x1_0_1 (Host.reduceAdd (mulf x x) (constant S_ .f32 0x00000000#32) reducesTo_S8x2064x1024_S8x2064_d2 h_S_)) (broadcastInDim S8x2064x1 ![] bcast_S_S8x2064x1 (constant S_ .f32 0x44800000#32))) (broadcastInDim S8x2064x1 ![] bcast_S_S8x2064x1 (constant S_ .f32 0x358637BD#32)))))) (broadcastInDim S8x2064x1024 ![0, 1, 2] bcast_S1x1x1024_S8x2064x1024_0_1_2 (broadcastInDim S1x1x1024 ![2] bcast_S1024_S1x1x1024_2 (shapeCast _ a2 shapeCasts_S1x1024_S1024)))) (shapeCast _ a3 shapeCasts_S1x1024x2048_S1024x2048)

/-- The components of queries or keys, each normed and scaled by its gains. -/
def cn (z : FVec Ideal S8x2064x4x2x64 .f32) (a4 : FVec Ideal S1x2x64 .f32) : FVec Ideal S8x2064x4x2x64 .f32 :=
  mulf (mulf z (broadcastInDim S8x2064x4x2x64 ![0, 1, 2, 3, 4] bcast_S8x2064x4x2x1_S8x2064x4x2x64_0_1_2_3_4 (Host.rsqrt (addf (Host.divf (broadcastInDim S8x2064x4x2x1 ![0, 1, 2, 3] bcast_S8x2064x4x2_S8x2064x4x2x1_0_1_2_3 (Host.reduceAdd (mulf z z) (constant S_ .f32 0x00000000#32) reducesTo_S8x2064x4x2x64_S8x2064x4x2_d4 h_S_)) (broadcastInDim S8x2064x4x2x1 ![] bcast_S_S8x2064x4x2x1 (constant S_ .f32 0x42800000#32))) (broadcastInDim S8x2064x4x2x1 ![] bcast_S_S8x2064x4x2x1 (constant S_ .f32 0x358637BD#32)))))) (broadcastInDim S8x2064x4x2x64 ![0, 1, 2, 3, 4] bcast_S1x1x1x2x64_S8x2064x4x2x64_0_1_2_3_4 (broadcastInDim S1x1x1x2x64 ![3, 4] bcast_S2x64_S1x1x1x2x64_3_4 (shapeCast _ a4 shapeCasts_S1x2x64_S2x64)))

theorem xp_at (a0 : FVec Ideal S8x2048x1024 .f32) (a1 : FVec Ideal S16x1024 .f32) (b : Fin 8) (t : Fin 2064) (d : Fin 1024) :
    (xp a0 a1 (ix3 b t d) : EReal) = promptRow (fun b t d => a0 (ix3 b t d)) (fun t d => a1 (ix2 t d)) b t d := by
  pointwise [xp, promptRow]

theorem pr_at (x : FVec Ideal S8x2064x1024 .f32) (a2 : FVec Ideal S1x1024 .f32) (a3 : FVec Ideal S1x1024x2048 .f32)
    (b : Fin 8) (t : Fin 2064) (n : Fin 2048) :
    (pr x a2 a3 (ix3 b t n) : EReal)
      = normDot (fun d => x (ix3 b t d)) (fun d => a2 (ix2 0 d)) (fun d => a3 (ix3 0 d n)) := by
  pointwise [pr, normDot, rowScale]

theorem cn_at (z : FVec Ideal S8x2064x4x2x64 .f32) (a4 : FVec Ideal S1x2x64 .f32)
    (b : Fin 8) (t : Fin 2064) (h : Fin 4) (s : Fin 2) (k : Fin 64) :
    (cn z a4 (ix5 b t h s k) : EReal)
      = z (ix5 b t h s k) * compScale (fun k => z (ix5 b t h s k)) * a4 (ix3 0 s k) := by
  pointwise [cn, compScale]

/-- One normed key, at row `r` and column `j`. -/
theorem k_at (x : FVec Ideal S8x2064x1024 .f32) (a2 : FVec Ideal S1x1024 .f32) (a3 : FVec Ideal S1x1024x2048 .f32)
    (a4 : FVec Ideal S1x2x64 .f32) (r : Fin 16512) (j : Fin 512) :
    (shapeCast S16512x512 (cn (shapeCast S8x2064x4x2x64 (extractStridedSlice S8x2064x512 ![0, 0, 512] (pr x a2 a3) slices_S8x2064x2048_S8x2064x512_0_0_512) shapeCasts_S8x2064x512_S8x2064x4x2x64) a4) shapeCasts_S8x2064x4x2x64_S16512x512 (ix2 r j) : EReal)
      = compNorm (fun d => x (ix3 ⟨r.val / 2064, by omega⟩ ⟨r.val % 2064, by omega⟩ d)) (fun d => a2 (ix2 0 d))
          (fun d n => a3 (ix3 0 d n)) (fun s k => a4 (ix3 0 s k)) 512 (by decide) j := by
  pointwise
  simp only [cn_at]
  pointwise
  simp only [pr_at]
  unfold compNorm
  have hj : ∀ k : Fin 64, j.val / 128 * 128 + j.val / 64 % 2 * 64 + k.val = j.val / 64 * 64 + k.val := fun k => by omega
  simp only [hj]

/-- One normed query before its cast, at row `r` and column `j`. -/
theorem q_at (x : FVec Ideal S8x2064x1024 .f32) (a2 : FVec Ideal S1x1024 .f32) (a3 : FVec Ideal S1x1024x2048 .f32)
    (a4 : FVec Ideal S1x2x64 .f32) (r : Fin 16512) (j : Fin 512) :
    (shapeCast S16512x512 (mulf (cn (shapeCast S8x2064x4x2x64 (extractStridedSlice S8x2064x512 ![0, 0, 0] (pr x a2 a3) slices_S8x2064x2048_S8x2064x512_0_0_0) shapeCasts_S8x2064x512_S8x2064x4x2x64) a4) (broadcastInDim S8x2064x4x2x64 ![] bcast_S_S8x2064x4x2x64 (constant S_ .f32 0x3E000000#32))) shapeCasts_S8x2064x4x2x64_S16512x512 (ix2 r j) : EReal)
      = compNorm (fun d => x (ix3 ⟨r.val / 2064, by omega⟩ ⟨r.val % 2064, by omega⟩ d)) (fun d => a2 (ix2 0 d))
          (fun d n => a3 (ix3 0 d n)) (fun s k => a4 (ix3 0 s k)) 0 (by decide) j * Ideal.ofBits .f32 0x3E000000#32 := by
  pointwise
  simp only [cn_at]
  pointwise
  simp only [pr_at]
  unfold compNorm
  have hj : ∀ k : Fin 64, j.val / 128 * 128 + j.val / 64 % 2 * 64 + k.val = j.val / 64 * 64 + k.val := fun k => by omega
  simp only [hj, Nat.zero_add]

/-- One value, at row `r` and column `j`. -/
theorem v_at (p : FVec Ideal S8x2064x2048 .f32) (r : Fin 16512) (j : Fin 512) :
    (shapeCast S16512x512 (extractStridedSlice S8x2064x512 ![0, 0, 1024] p slices_S8x2064x2048_S8x2064x512_0_0_1024) shapeCasts_S8x2064x512_S16512x512 (ix2 r j) : EReal)
      = p (ix3 ⟨r.val / 2064, by omega⟩ ⟨r.val % 2064, by omega⟩ ⟨1024 + j.val, by omega⟩) := by
  pointwise

/-- One cast value, at row `r` and column `j`. -/
theorem vb_at (p : FVec Ideal S8x2064x2048 .f32) (r : Fin 16512) (j : Fin 512) :
    (truncf .bf16 (shapeCast S16512x512 (extractStridedSlice S8x2064x512 ![0, 0, 1024] p slices_S8x2064x2048_S8x2064x512_0_0_1024) shapeCasts_S8x2064x512_S16512x512) bitsLt_bf16_f32 (ix2 r j) : EReal)
      = p (ix3 ⟨r.val / 2064, by omega⟩ ⟨r.val % 2064, by omega⟩ ⟨1024 + j.val, by omega⟩) :=
  v_at p r j

/-- One entry of the recurrence's input, at time `t` and column `e`. -/
theorem u_at (p : FVec Ideal S8x2064x2048 .f32) (t : Fin 2064) (e : Fin 4096) :
    (shapeCast S2064x4096 (transpose S2064x8x512 [1, 0, 2] (extractStridedSlice S8x2064x512 ![0, 0, 1536] p slices_S8x2064x2048_S8x2064x512_0_0_1536) transposes_S8x2064x512_S2064x8x512_1_0_2) shapeCasts_S2064x8x512_S2064x4096 (ix2 t e) : EReal)
      = p (ix3 ⟨e.val / 512, by omega⟩ t ⟨1536 + e.val % 512, by omega⟩) := by
  pointwise

variable (m : (ℓ : Loc nD τ sig) → Buf (Elt Ideal) ℓ) (c : Dev nD)

/-- The keys the reference returns. -/
theorem k_eq : res_main_v55 m c = shapeCast S16512x512 (cn (shapeCast S8x2064x4x2x64 (extractStridedSlice S8x2064x512 ![0, 0, 512] (pr (xp (m ((c.tc : Thread nD τ).loc main_arg0)) (m ((c.tc : Thread nD τ).loc main_arg1))) (m ((c.tc : Thread nD τ).loc main_arg2)) (m ((c.tc : Thread nD τ).loc main_arg3))) slices_S8x2064x2048_S8x2064x512_0_0_512) shapeCasts_S8x2064x512_S8x2064x4x2x64) (m ((c.tc : Thread nD τ).loc main_arg5))) shapeCasts_S8x2064x4x2x64_S16512x512 := by
  unfold res_main_v55 cn pr xp; rfl

/-- The cast keys the reference returns. -/
theorem kb_eq : res_main_v60 m c = truncf .bf16 (shapeCast S16512x512 (cn (shapeCast S8x2064x4x2x64 (extractStridedSlice S8x2064x512 ![0, 0, 512] (pr (xp (m ((c.tc : Thread nD τ).loc main_arg0)) (m ((c.tc : Thread nD τ).loc main_arg1))) (m ((c.tc : Thread nD τ).loc main_arg2)) (m ((c.tc : Thread nD τ).loc main_arg3))) slices_S8x2064x2048_S8x2064x512_0_0_512) shapeCasts_S8x2064x512_S8x2064x4x2x64) (m ((c.tc : Thread nD τ).loc main_arg5))) shapeCasts_S8x2064x4x2x64_S16512x512) bitsLt_bf16_f32 := by
  unfold res_main_v60 cn pr xp; rfl

/-- The queries the reference returns. -/
theorem q_eq : res_main_v59 m c = truncf .bf16 (shapeCast S16512x512 (mulf (cn (shapeCast S8x2064x4x2x64 (extractStridedSlice S8x2064x512 ![0, 0, 0] (pr (xp (m ((c.tc : Thread nD τ).loc main_arg0)) (m ((c.tc : Thread nD τ).loc main_arg1))) (m ((c.tc : Thread nD τ).loc main_arg2)) (m ((c.tc : Thread nD τ).loc main_arg3))) slices_S8x2064x2048_S8x2064x512_0_0_0) shapeCasts_S8x2064x512_S8x2064x4x2x64) (m ((c.tc : Thread nD τ).loc main_arg4))) (broadcastInDim S8x2064x4x2x64 ![] bcast_S_S8x2064x4x2x64 (constant S_ .f32 0x3E000000#32))) shapeCasts_S8x2064x4x2x64_S16512x512) bitsLt_bf16_f32 := by
  unfold res_main_v59 cn pr xp; rfl

/-- The reference's run, its results over the layered terms. -/
theorem run' (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v59) = truncf .bf16 (shapeCast S16512x512 (mulf (cn (shapeCast S8x2064x4x2x64 (extractStridedSlice S8x2064x512 ![0, 0, 0] (pr (xp (m ((c.tc : Thread nD τ).loc main_arg0)) (m ((c.tc : Thread nD τ).loc main_arg1))) (m ((c.tc : Thread nD τ).loc main_arg2)) (m ((c.tc : Thread nD τ).loc main_arg3))) slices_S8x2064x2048_S8x2064x512_0_0_0) shapeCasts_S8x2064x512_S8x2064x4x2x64) (m ((c.tc : Thread nD τ).loc main_arg4))) (broadcastInDim S8x2064x4x2x64 ![] bcast_S_S8x2064x4x2x64 (constant S_ .f32 0x3E000000#32))) shapeCasts_S8x2064x4x2x64_S16512x512) bitsLt_bf16_f32
      ∧ r.2.mem ((c.tc : Thread nD τ).loc main_v55) = shapeCast S16512x512 (cn (shapeCast S8x2064x4x2x64 (extractStridedSlice S8x2064x512 ![0, 0, 512] (pr (xp (m ((c.tc : Thread nD τ).loc main_arg0)) (m ((c.tc : Thread nD τ).loc main_arg1))) (m ((c.tc : Thread nD τ).loc main_arg2)) (m ((c.tc : Thread nD τ).loc main_arg3))) slices_S8x2064x2048_S8x2064x512_0_0_512) shapeCasts_S8x2064x512_S8x2064x4x2x64) (m ((c.tc : Thread nD τ).loc main_arg5))) shapeCasts_S8x2064x4x2x64_S16512x512
      ∧ r.2.mem ((c.tc : Thread nD τ).loc main_v60) = truncf .bf16 (shapeCast S16512x512 (cn (shapeCast S8x2064x4x2x64 (extractStridedSlice S8x2064x512 ![0, 0, 512] (pr (xp (m ((c.tc : Thread nD τ).loc main_arg0)) (m ((c.tc : Thread nD τ).loc main_arg1))) (m ((c.tc : Thread nD τ).loc main_arg2)) (m ((c.tc : Thread nD τ).loc main_arg3))) slices_S8x2064x2048_S8x2064x512_0_0_512) shapeCasts_S8x2064x512_S8x2064x4x2x64) (m ((c.tc : Thread nD τ).loc main_arg5))) shapeCasts_S8x2064x4x2x64_S16512x512) bitsLt_bf16_f32
      ∧ r.2.mem ((c.tc : Thread nD τ).loc main_v56) = shapeCast S16512x512 (extractStridedSlice S8x2064x512 ![0, 0, 1024] (pr (xp (m ((c.tc : Thread nD τ).loc main_arg0)) (m ((c.tc : Thread nD τ).loc main_arg1))) (m ((c.tc : Thread nD τ).loc main_arg2)) (m ((c.tc : Thread nD τ).loc main_arg3))) slices_S8x2064x2048_S8x2064x512_0_0_1024) shapeCasts_S8x2064x512_S16512x512
      ∧ r.2.mem ((c.tc : Thread nD τ).loc main_v61) = truncf .bf16 (shapeCast S16512x512 (extractStridedSlice S8x2064x512 ![0, 0, 1024] (pr (xp (m ((c.tc : Thread nD τ).loc main_arg0)) (m ((c.tc : Thread nD τ).loc main_arg1))) (m ((c.tc : Thread nD τ).loc main_arg2)) (m ((c.tc : Thread nD τ).loc main_arg3))) slices_S8x2064x2048_S8x2064x512_0_0_1024) shapeCasts_S8x2064x512_S16512x512) bitsLt_bf16_f32
      ∧ r.2.mem ((c.tc : Thread nD τ).loc main_v58) = shapeCast S2064x4096 (transpose S2064x8x512 [1, 0, 2] (extractStridedSlice S8x2064x512 ![0, 0, 1536] (pr (xp (m ((c.tc : Thread nD τ).loc main_arg0)) (m ((c.tc : Thread nD τ).loc main_arg1))) (m ((c.tc : Thread nD τ).loc main_arg2)) (m ((c.tc : Thread nD τ).loc main_arg3))) slices_S8x2064x2048_S8x2064x512_0_0_1536) transposes_S8x2064x512_S2064x8x512_1_0_2) shapeCasts_S2064x8x512_S2064x4096
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
    := by
  refine (θ_run defs _ _).mono (fun r h c => ?_) (run m ρ)
  obtain ⟨h0, h1, h2, h3, h4, h5, ha⟩ := h c
  exact ⟨h0.trans (q_eq m c), h1.trans (k_eq m c), h2.trans (kb_eq m c), h3.trans (by unfold pr xp; rfl), h4.trans (by unfold pr xp; rfl),
    h5.trans (by unfold pr xp; rfl), ha⟩

end Cert.ProjRefIdeal.Pure
-- ==== Proof.ProjClaim.lean ====
/-
  The projection call against its reference.
-/
module

public import proofs.«01_k».proof.Defs
public import proofs.«01_k».proof.Proof.ProjValue
public import proofs.«01_k».proof.Proof.ProjRef
public import Idealize.ShloMosaic.Lib.Claim

@[expose] public section

set_option maxRecDepth 16384

noncomputable section

namespace Cert.ProjPair

open Cert.RowNorm Idealize.ShloMosaic Idealize.ShloMosaic.TcCoe Idealize.SL.Sem

variable (m : (ℓ : Loc Cert.ProjIdeal.nD Cert.ProjIdeal.τ Cert.ProjIdeal.sig) → Buf (Elt Ideal) ℓ) (c : Dev Cert.ProjIdeal.nD)

/-- The reference leaves its arguments alone and stops. -/
theorem refFrame : Cert.quiescent_ProjRefIdeal := by
  intro m ρ _
  refine (θ_run Cert.ProjRefIdeal.defs _ _).mono (fun r h => ⟨fun c => ?_, sem_eq_zero_of_no_sems (by decide) r.2⟩)
    (Cert.ProjRefIdeal.Pure.run' m ρ)
  obtain ⟨_, _, _, _, _, _, ha⟩ := h c
  exact ha

/-- The prompt's rows read through the reference's own concatenation. -/
theorem xrow (r : Fin 16512) (d : Fin 1024) :
    (Cert.ProjRefIdeal.Pure.xp (m ((c.tc : Thread Cert.ProjIdeal.nD Cert.ProjIdeal.τ).loc Cert.ProjIdeal.main_arg0))
      (m ((c.tc : Thread Cert.ProjIdeal.nD Cert.ProjIdeal.τ).loc Cert.ProjIdeal.main_arg1)) (ix3 ⟨r.val / 2064, by omega⟩ ⟨r.val % 2064, by omega⟩ d) : EReal)
      = Cert.ProjIdeal.Pure.row m c r d :=
  Cert.ProjRefIdeal.Pure.xp_at _ _ _ _ _

/-- Over the same arguments the two programs return the same six arrays. -/
theorem algebraic : Cert.algebraic_ProjIdeal_ProjRefIdeal := by
  intro m g m' g' hpre hagree
  refine ⟨fun c => Cert.ProjIdeal.Pure.Q m c, fun c => Cert.ProjIdeal.Pure.K m c, fun c => Cert.ProjIdeal.Pure.K m c,
    fun c => Cert.ProjIdeal.Pure.Vl m c, fun c => Cert.ProjIdeal.Pure.Vl m c, fun c => Cert.ProjIdeal.Pure.U m c, ?_, ?_⟩
  · refine (θ_run Cert.ProjIdeal.defs _ _).mono (fun r h c => ?_) (Cert.ProjIdeal.Value.run_blocks m g)
    obtain ⟨h0, h1, h2, h3, h4, h5, ha⟩ := h c
    exact ⟨h0.trans (Cert.ProjIdeal.Pure.final6 m c), h1.trans (Cert.ProjIdeal.Pure.final7 m c), h2.trans (Cert.ProjIdeal.Pure.final8 m c),
      h3.trans (Cert.ProjIdeal.Pure.final9 m c), h4.trans (Cert.ProjIdeal.Pure.final10 m c), h5.trans (Cert.ProjIdeal.Pure.final11 m c), ha⟩
  · refine (θ_run Cert.ProjRefIdeal.defs _ _).mono (fun r h c => ?_) (Cert.ProjRefIdeal.Pure.run' m' g')
    obtain ⟨h0, h1, h2, h3, h4, h5, ha⟩ := h c
    obtain ⟨a0, a1, a2, a3, a4, a5⟩ := hagree c
    rw [a0, a1, a2, a3, a4] at h0
    rw [a0, a1, a2, a3, a5] at h1 h2
    rw [a0, a1, a2, a3] at h3 h4 h5
    have hx := fun r => funext fun d => xrow m c r d
    refine ⟨h0.trans ?_, h1.trans ?_, h2.trans ?_, h3.trans ?_, h4.trans ?_, h5.trans ?_, ha⟩
    · funext i
      idx_vars i
      refine (Cert.ProjRefIdeal.Pure.q_at _ _ _ _ i0 i1).trans ?_
      rw [hx]
      rfl
    · funext i
      idx_vars i
      refine (Cert.ProjRefIdeal.Pure.k_at _ _ _ _ i0 i1).trans ?_
      rw [hx]
      rfl
    · funext i
      idx_vars i
      refine (Cert.ProjRefIdeal.Pure.k_at _ _ _ _ i0 i1).trans ?_
      rw [hx]
      rfl
    · funext i
      idx_vars i
      refine (Cert.ProjRefIdeal.Pure.v_at _ i0 i1).trans ?_
      rw [Cert.ProjRefIdeal.Pure.pr_at, hx]
      rfl
    · funext i
      idx_vars i
      refine (Cert.ProjRefIdeal.Pure.vb_at _ i0 i1).trans ?_
      rw [Cert.ProjRefIdeal.Pure.pr_at, hx]
      rfl
    · funext i
      idx_vars i
      refine (Cert.ProjRefIdeal.Pure.u_at _ i0 i1).trans ?_
      rw [Cert.ProjRefIdeal.Pure.pr_at]
      have hr := hx ⟨i1.val / 512 * 2064 + i0.val, by omega⟩
      have e1 : (i1.val / 512 * 2064 + i0.val) / 2064 = i1.val / 512 := by omega
      have e2 : (i1.val / 512 * 2064 + i0.val) % 2064 = i0.val := by omega
      simp only [e1, e2] at hr
      rw [hr]
      rfl

end Cert.ProjPair
-- ==== Proof.PostMath.lean ====
/-
  The mathematics of the output block: the mixed row, the gated feed-forward with its three-tap convolution along the
  positions, and the same sums cut into tiles of columns.
-/
module

public import proofs.«01_k».proof.Proof.RowNorm

@[expose] public section

noncomputable section

namespace Cert.PostMath

open Cert.RowNorm Idealize.ShloMosaic

/-- A row's 512 attention entries followed by its 512 recurrence entries. -/
def mixRow (a s : Fin 512 → EReal) (k : Fin 1024) : EReal :=
  if h : k.val < 512 then a ⟨k.val, h⟩ else s ⟨k.val - 512, by have := k.isLt; omega⟩

/-- A row `x` plus the mixed row `z` times the output weights. -/
def mixed (x z : Fin 1024 → EReal) (w : Fin 1024 → Fin 1024 → EReal) (d : Fin 1024) : EReal :=
  x d + ∑ k : Fin 1024, z k * w k d

/-- The convolution of three taps `p`, `q`, `r` with the weights `w0`, `w1`, `w2` and the bias `b`. -/
def conv (b w0 w1 w2 p q r : EReal) : EReal := b + w0 * p + w1 * q + w2 * r

/-- The activation: the tanh form of the Gaussian error linear unit. -/
def gelu (v : EReal) : EReal :=
  v * (Ideal.ofBits .f32 0x3F000000#32 * (Ideal.ofBits .f32 0x3F800000#32
    + Ideal.tanh (Ideal.ofBits .f32 0x3F4C422A#32 * (v + Ideal.ofBits .f32 0x3D372713#32 * (v * (v * v))))))

/-- Position `t + j` of a sequence `g` with two zeros in front of it. -/
def tap (g : Fin 2064 → EReal) (j : ℕ) (t : Fin 2064) : EReal :=
  if h : t.val + j < 2 ∨ 2066 ≤ t.val + j then 0 else g ⟨t.val + j - 2, by omega⟩

/-- The hidden entry at position `t` and column `n` of one batch whose mixed rows are `x`. -/
def hid (x : Fin 2064 → Fin 1024 → EReal) (g : Fin 1024 → EReal) (wg wu : Fin 1024 → Fin 2816 → EReal)
    (cw : Fin 3 → Fin 2816 → EReal) (cb : Fin 2816 → EReal) (t : Fin 2064) (n : Fin 2816) : EReal :=
  gelu (conv (cb n) (cw 0 n) (cw 1 n) (cw 2 n) (tap (fun t => normDot (x t) g (fun d => wg d n)) 0 t)
      (tap (fun t => normDot (x t) g (fun d => wg d n)) 1 t) (tap (fun t => normDot (x t) g (fun d => wg d n)) 2 t))
    * normDot (x t) g (fun d => wu d n)

/-- The output row at position `t` of one batch whose mixed rows are `x`, entry `d`. -/
def outRow (x : Fin 2064 → Fin 1024 → EReal) (g : Fin 1024 → EReal) (wg wu : Fin 1024 → Fin 2816 → EReal)
    (cw : Fin 3 → Fin 2816 → EReal) (cb : Fin 2816 → EReal) (wd : Fin 2816 → Fin 1024 → EReal) (t : Fin 2064) (d : Fin 1024) : EReal :=
  x t d + ∑ n : Fin 2816, hid x g wg wu cw cb t n * wd n d

end Cert.PostMath
-- ==== Proof.PostPure.lean ====
/-
  The output block's payloads: what its loads read of its stores, one column tile's step as one function, and that
  step at an index.
-/
module

public import proofs.«01_k».proof.Proof.PostMath
public import proofs.«01_k».proof.Proof.Gen.PostIdeal.Skeleton
public import Idealize.ShloMosaic.Lib.Pipeline.ValueKit

@[expose] public section

set_option maxRecDepth 16384

noncomputable section

namespace Cert.PostIdeal.Pure

open Cert.PostIdeal Cert.PostIdeal.Gen Cert.RowNorm Cert.PostMath Idealize.ShloMosaic Idealize.ShloMosaic.TcCoe Idealize.SL.Sem

/-- Columns `256 k …` of a matrix of 1024 rows. -/
def wcol (x : Vec Ideal S1024x2816 .bf16) (k : ℕ) (h : k < 11) : Vec Ideal S1024x256 .bf16 :=
  View.ld x (Rect.unit (s := S1024x2816) ![0, 256 * k] S1024x256.size (Fin.forall_fin_two.mpr ⟨by show 0 + 1024 ≤ 1024; omega, by show 256 * k + 256 ≤ 2816; omega⟩))

/-- Rows `256 k …` of a matrix of 1024 columns. -/
def drow (x : Vec Ideal S2816x1024 .bf16) (k : ℕ) (h : k < 11) : Vec Ideal S256x1024 .bf16 :=
  View.ld x (Rect.unit (s := S2816x1024) ![256 * k, 0] S256x1024.size (Fin.forall_fin_two.mpr ⟨by show 256 * k + 256 ≤ 2816; omega, by show 0 + 1024 ≤ 1024; omega⟩))

/-- Columns `256 k …` of a single row. -/
def bcol (x : Vec Ideal S1x2816 .f32) (k : ℕ) (h : k < 11) : Vec Ideal S1x256 .f32 :=
  View.ld x (Rect.unit (s := S1x2816) ![0, 256 * k] S1x256.size (Fin.forall_fin_two.mpr ⟨by show 0 + 1 ≤ 1; omega, by show 256 * k + 256 ≤ 2816; omega⟩))

/-- Columns `256 k …` of two rows. -/
def hcol (x : Vec Ideal S2x2816 .f32) (k : ℕ) (h : k < 11) : Vec Ideal S2x256 .f32 :=
  View.ld x (Rect.unit (s := S2x2816) ![0, 256 * k] S2x256.size (Fin.forall_fin_two.mpr ⟨by show 0 + 2 ≤ 2; omega, by show 256 * k + 256 ≤ 2816; omega⟩))

/-- Columns `256 k …` of row `a` of three. -/
def ccol (x : Vec Ideal S3x2816 .f32) (a : ℕ) (ha : a < 3) (k : ℕ) (h : k < 11) : Vec Ideal S1x256 .f32 :=
  View.ld x (Rect.unit (s := S3x2816) ![a, 256 * k] S1x256.size (Fin.forall_fin_two.mpr ⟨by show a + 1 ≤ 3; omega, by show 256 * k + 256 ≤ 2816; omega⟩))

/-- An entry of `wcol`. -/
theorem wcol_at (x : Vec Ideal S1024x2816 .bf16) (k : ℕ) (h : k < 11) (i : Fin 1024) (c : Fin 256) : (wcol x k h (ix2 i c) : EReal) = x (ix2 i ⟨256 * k + c.val, by have := c.isLt; omega⟩) := by
  unfold wcol View.ld
  refine congrArg x (funext fun a => Fin.ext ?_)
  have := i.isLt
  revert a
  refine Fin.forall_fin_two.mpr ⟨?_, ?_⟩
  · show _ + 1 * i.val = _; simp; try omega
  · show _ + 1 * c.val = _; simp

/-- An entry of `drow`. -/
theorem drow_at (x : Vec Ideal S2816x1024 .bf16) (k : ℕ) (h : k < 11) (i : Fin 256) (c : Fin 1024) : (drow x k h (ix2 i c) : EReal) = x (ix2 ⟨256 * k + i.val, by have := i.isLt; omega⟩ c) := by
  unfold drow View.ld
  refine congrArg x (funext fun a => Fin.ext ?_)
  have := i.isLt
  revert a
  refine Fin.forall_fin_two.mpr ⟨?_, ?_⟩
  · show _ + 1 * i.val = _; simp; try omega
  · show _ + 1 * c.val = _; simp

/-- An entry of `bcol`. -/
theorem bcol_at (x : Vec Ideal S1x2816 .f32) (k : ℕ) (h : k < 11) (i : Fin 1) (c : Fin 256) : (bcol x k h (ix2 i c) : EReal) = x (ix2 0 ⟨256 * k + c.val, by have := c.isLt; omega⟩) := by
  unfold bcol View.ld
  refine congrArg x (funext fun a => Fin.ext ?_)
  have := i.isLt
  revert a
  refine Fin.forall_fin_two.mpr ⟨?_, ?_⟩
  · show _ + 1 * i.val = _; simp; try omega
  · show _ + 1 * c.val = _; simp

/-- An entry of `hcol`. -/
theorem hcol_at (x : Vec Ideal S2x2816 .f32) (k : ℕ) (h : k < 11) (i : Fin 2) (c : Fin 256) : (hcol x k h (ix2 i c) : EReal) = x (ix2 i ⟨256 * k + c.val, by have := c.isLt; omega⟩) := by
  unfold hcol View.ld
  refine congrArg x (funext fun a => Fin.ext ?_)
  have := i.isLt
  revert a
  refine Fin.forall_fin_two.mpr ⟨?_, ?_⟩
  · show _ + 1 * i.val = _; simp; try omega
  · show _ + 1 * c.val = _; simp

/-- An entry of `ccol`. -/
theorem ccol_at (x : Vec Ideal S3x2816 .f32) (a : ℕ) (ha : a < 3) (k : ℕ) (h : k < 11) (i : Fin 1) (c : Fin 256) : (ccol x a ha k h (ix2 i c) : EReal) = x (ix2 ⟨a, ha⟩ ⟨256 * k + c.val, by have := c.isLt; omega⟩) := by
  unfold ccol View.ld
  refine congrArg x (funext fun a => Fin.ext ?_)
  have := i.isLt
  revert a
  refine Fin.forall_fin_two.mpr ⟨?_, ?_⟩
  · show _ + 1 * i.val = _; simp; try omega
  · show _ + 1 * c.val = _; simp

/-- Two index pairs with the same values are the same. -/
theorem ix2_congr {m n : ℕ} {a b : Fin m} {c d : Fin n} (h : a.val = b.val) (h' : c.val = d.val) :
    (ix2 a c : (⟨2, ![m, n]⟩ : Shape).Idx) = ix2 b d := by
  obtain rfl := Fin.ext h
  obtain rfl := Fin.ext h'
  rfl

/-- Two rows `q`, then all but the last two rows of `p`. -/
def sh2 (q : Vec Ideal S2x256 .f32) (p : Vec Ideal S688x256 .f32) : Vec Ideal S688x256 .f32 :=
  fun j => if h : (j 0).val < 2 then q (ix2 ⟨(j 0).val, h⟩ (j 1)) else p (ix2 ⟨(j 0).val - 2, Nat.lt_of_le_of_lt (Nat.sub_le _ _) (j 0).isLt⟩ (j 1))

/-- The second row of `q`, then all but the last row of `p`. -/
def sh1 (q : Vec Ideal S2x256 .f32) (p : Vec Ideal S688x256 .f32) : Vec Ideal S688x256 .f32 :=
  fun j => if h : (j 0).val < 1 then q (ix2 1 (j 1)) else p (ix2 ⟨(j 0).val - 1, Nat.lt_of_le_of_lt (Nat.sub_le _ _) (j 0).isLt⟩ (j 1))

/-- The last two rows of `p`. -/
def tl (p : Vec Ideal S688x256 .f32) : Vec Ideal S2x256 .f32 :=
  fun j => p (ix2 ⟨686 + (j 0).val, by have : (j 0).val < 2 := (j 0).isLt; omega⟩ (j 1))

/-- Rows 8 and on of the scratch hold the block stored last. -/
theorem scr_hi (inb) (P : Vec Ideal S688x256 .f32) (L : List (View.Piece (Elt Ideal) S696x256 .f32)) (y : S696x256.Idx)
    (h : 8 ≤ (y 0).val) :
    View.canon (Val := Elt Ideal) ((⟨Rect.unit (s := S696x256) ![8, 0] S688x256.size inb, P⟩ : View.Piece (Elt Ideal) S696x256 .f32) :: L) y
      = P (ix2 ⟨(y 0).val - 8, by have : (y 0).val < 696 := (y 0).isLt; omega⟩ (y 1)) := by
  have e : y = (Rect.unit (s := S696x256) ![8, 0] S688x256.size inb).emb
      (ix2 ⟨(y 0).val - 8, by have : (y 0).val < 696 := (y 0).isLt; omega⟩ (y 1)) := by
    refine funext fun a => Fin.ext ?_
    revert a
    refine Fin.forall_fin_two.mpr ⟨?_, ?_⟩
    · show (y 0).val = 8 + 1 * ((y 0).val - 8); omega
    · show (y 1).val = 0 + 1 * (y 1).val; omega
  exact (congrArg _ e).trans (View.canon_cons_emb _ _ _ _)

/-- Rows 6 and 7 hold the two rows stored before it. -/
theorem scr_lo (inb inb') (P : Vec Ideal S688x256 .f32) (Q : Vec Ideal S2x256 .f32)
    (L : List (View.Piece (Elt Ideal) S696x256 .f32)) (y : S696x256.Idx) (h : (y 0).val < 8) (h' : 6 ≤ (y 0).val) :
    View.canon (Val := Elt Ideal) ((⟨Rect.unit (s := S696x256) ![8, 0] S688x256.size inb, P⟩ : View.Piece (Elt Ideal) S696x256 .f32)
        :: ⟨Rect.unit (s := S696x256) ![6, 0] S2x256.size inb', Q⟩ :: L) y
      = Q (ix2 ⟨(y 0).val - 6, by omega⟩ (y 1)) := by
  rw [View.canon_cons_of_not_mem _ _ (by
    rw [Rect.mem_set_unit]; intro hh
    have := (hh 0).1
    have : 8 ≤ (y 0).val := this
    omega)]
  have e : y = (Rect.unit (s := S696x256) ![6, 0] S2x256.size inb').emb (ix2 ⟨(y 0).val - 6, by omega⟩ (y 1)) := by
    refine funext fun a => Fin.ext ?_
    revert a
    refine Fin.forall_fin_two.mpr ⟨?_, ?_⟩
    · show (y 0).val = 6 + 1 * ((y 0).val - 6); omega
    · show (y 1).val = 0 + 1 * (y 1).val; omega
  exact (congrArg _ e).trans (View.canon_cons_emb _ _ _ _)

/-- The scratch read from row 6: two rows back. -/
theorem rd6 (v : View sig .tc .vmem S696x256 .f32) (inb inb' inb'') (P : Vec Ideal S688x256 .f32) (Q : Vec Ideal S2x256 .f32)
    (L : List (View.Piece (Elt Ideal) S696x256 .f32)) :
    v.readCov (Val := Elt Ideal) ((⟨Rect.unit (s := S696x256) ![8, 0] (no_index S688x256.size) inb, P⟩ : View.Piece (Elt Ideal) S696x256 .f32)
        :: ⟨Rect.unit (s := S696x256) ![6, 0] (no_index S2x256.size) inb', Q⟩ :: L)
      (Rect.unit (s := S696x256) ![6, 0] (no_index S688x256.size) inb'').toLoadRect = sh2 Q P := by
  rw [View.readCov_eq_canon']
  funext j
  have e0 : ((Rect.unit (s := S696x256) ![6, 0] S688x256.size inb'').idx j 0).val = 6 + 1 * (j 0).val := rfl
  have e1 : ((Rect.unit (s := S696x256) ![6, 0] S688x256.size inb'').idx j 1).val = 0 + 1 * (j 1).val := rfl
  unfold sh2
  split
  · rename_i h
    refine (scr_lo inb inb' P Q L _ (by rw [e0]; omega) (by rw [e0]; omega)).trans ?_
    exact congrArg Q (ix2_congr (by show _ - 6 = (j 0).val; rw [e0]; omega) (by show _ = _; rw [e1]; omega))
  · rename_i h
    refine (scr_hi inb P _ _ (by rw [e0]; omega)).trans ?_
    exact congrArg P (ix2_congr (by show _ - 8 = _ - 2; rw [e0]; omega) (by show _ = _; rw [e1]; omega))

/-- The scratch read from row 7: one row back. -/
theorem rd7 (v : View sig .tc .vmem S696x256 .f32) (inb inb' inb'') (P : Vec Ideal S688x256 .f32) (Q : Vec Ideal S2x256 .f32)
    (L : List (View.Piece (Elt Ideal) S696x256 .f32)) :
    v.readCov (Val := Elt Ideal) ((⟨Rect.unit (s := S696x256) ![8, 0] (no_index S688x256.size) inb, P⟩ : View.Piece (Elt Ideal) S696x256 .f32)
        :: ⟨Rect.unit (s := S696x256) ![6, 0] (no_index S2x256.size) inb', Q⟩ :: L)
      (Rect.unit (s := S696x256) ![7, 0] (no_index S688x256.size) inb'').toLoadRect = sh1 Q P := by
  rw [View.readCov_eq_canon']
  funext j
  have e0 : ((Rect.unit (s := S696x256) ![7, 0] S688x256.size inb'').idx j 0).val = 7 + 1 * (j 0).val := rfl
  have e1 : ((Rect.unit (s := S696x256) ![7, 0] S688x256.size inb'').idx j 1).val = 0 + 1 * (j 1).val := rfl
  unfold sh1
  split
  · rename_i h
    refine (scr_lo inb inb' P Q L _ (by rw [e0]; omega) (by rw [e0]; omega)).trans ?_
    exact congrArg Q (ix2_congr (by show _ - 6 = 1; rw [e0]; omega) (by show _ = _; rw [e1]; omega))
  · rename_i h
    refine (scr_hi inb P _ _ (by rw [e0]; omega)).trans ?_
    exact congrArg P (ix2_congr (by show _ - 8 = _ - 1; rw [e0]; omega) (by show _ = _; rw [e1]; omega))

/-- The scratch's last two rows. -/
theorem rd694 (v : View sig .tc .vmem S696x256 .f32) (inb inb'') (P : Vec Ideal S688x256 .f32)
    (L : List (View.Piece (Elt Ideal) S696x256 .f32)) :
    v.readCov (Val := Elt Ideal) ((⟨Rect.unit (s := S696x256) ![8, 0] (no_index S688x256.size) inb, P⟩ : View.Piece (Elt Ideal) S696x256 .f32) :: L)
      (Rect.unit (s := S696x256) ![694, 0] (no_index S2x256.size) inb'').toLoadRect = tl P := by
  rw [View.readCov_eq_canon']
  funext j
  have e0 : ((Rect.unit (s := S696x256) ![694, 0] S2x256.size inb'').idx j 0).val = 694 + 1 * (j 0).val := rfl
  have e1 : ((Rect.unit (s := S696x256) ![694, 0] S2x256.size inb'').idx j 1).val = 0 + 1 * (j 1).val := rfl
  refine (scr_hi inb P _ _ (by rw [e0]; omega)).trans ?_
  exact congrArg P (ix2_congr (by show _ - 8 = 686 + _; rw [e0]; omega) (by show _ = _; rw [e1]; omega))

/-- Two-row tiles of other columns stored before are not what a later column tile reads. -/
theorem skip (v : View sig .tc .vmem S2x2816 .f32) (n m : ℕ) (hnm : m + 256 ≤ n) (inb inb') (w : Vec Ideal S2x256 .f32)
    (L : List (View.Piece (Elt Ideal) S2x2816 .f32)) :
    v.readCov (Val := Elt Ideal) ((⟨Rect.unit (s := S2x2816) ![0, m] (no_index S2x256.size) inb, w⟩ : View.Piece (Elt Ideal) S2x2816 .f32) :: L)
      (Rect.unit (s := S2x2816) ![0, n] (no_index S2x256.size) inb').toLoadRect
    = v.readCov (Val := Elt Ideal) L (Rect.unit (s := S2x2816) ![0, n] (no_index S2x256.size) inb').toLoadRect := by
  rw [View.readCov_eq_canon', View.readCov_eq_canon']
  funext j
  refine View.canon_cons_of_not_mem _ _ ?_
  rw [Rect.mem_set_unit]; intro hh
  have h2 : n + 1 * (j 1).val < m + 256 := (hh 1).2
  omega

/-- Two rows stored whole, read at a column tile. -/
theorem base (v : View sig .tc .vmem S2x2816 .f32) (n : ℕ) (inb inb') (w : Vec Ideal S2x2816 .f32) :
    v.readCov (Val := Elt Ideal) [(⟨Rect.unit (s := S2x2816) ![0, 0] (no_index S2x2816.size) inb, w⟩ : View.Piece (Elt Ideal) S2x2816 .f32)]
      (Rect.unit (s := S2x2816) ![0, n] (no_index S2x256.size) inb').toLoadRect
    = View.ld w (Rect.unit (s := S2x2816) ![0, n] (no_index S2x256.size) inb') := by
  rw [View.readCov_eq_canon', View.canon_cons_unit_lit' inb w [] (by decide)]

/-- Column tile `k`'s gate entries. -/
def gateT (xn : Vec Ideal S688x1024 .bf16) (x6 : Vec Ideal S1024x2816 .bf16) (k : ℕ) (h : k < 11) : Vec Ideal S688x256 .f32 :=
  k0_pay14 (F := Ideal) xn (wcol x6 k h)

/-- Column tile `k`'s step: the accumulated block plus the tile's hidden entries times its rows of the last matrix. -/
def step (k : ℕ) (h : k < 11) (xn : Vec Ideal S688x1024 .bf16) (x6 x7 : Vec Ideal S1024x2816 .bf16) (x8 : Vec Ideal S3x2816 .f32)
    (x9 : Vec Ideal S1x2816 .f32) (x10 : Vec Ideal S2816x1024 .bf16) (H : Vec Ideal S2x2816 .f32) (acc : Vec Ideal S688x1024 .f32) :
    Vec Ideal S688x1024 .f32 :=
  k0_pay13 (F := Ideal) (k0_pay15 (F := Ideal) xn (wcol x7 k h))
    (k0_pay18 (F := Ideal) (gateT xn x6 k h) (bcol x9 k h) (ccol x8 0 (by decide) k h) (sh2 (hcol H k h) (gateT xn x6 k h))
      (ccol x8 1 (by decide) k h) (sh1 (hcol H k h) (gateT xn x6 k h)) (ccol x8 2 (by decide) k h)) acc (drow x10 k h)

/-- Row `i` of the normed block times column `n`. -/
def rowDot (xn : Vec Ideal S688x1024 .bf16) (w : Vec Ideal S1024x2816 .bf16) (i : Fin 688) (n : Fin 2816) : EReal :=
  ∑ d : Fin 1024, (xn (ix2 i d) : EReal) * w (ix2 d n)

/-- The gate entry `a` rows before row `i` (`a ≤ 2`): from the two rows `H` where it lies before the block. -/
def back (a : ℕ) (ha : a ≤ 2) (H : Vec Ideal S2x2816 .f32) (xn : Vec Ideal S688x1024 .bf16) (w : Vec Ideal S1024x2816 .bf16)
    (i : Fin 688) (n : Fin 2816) : EReal :=
  if h : i.val < a then H (ix2 ⟨i.val + 2 - a, by omega⟩ n) else rowDot xn w ⟨i.val - a, by have := i.isLt; omega⟩ n

/-- `back` before the block. -/
theorem back_pos (a : ℕ) (ha : a ≤ 2) (H : Vec Ideal S2x2816 .f32) (xn : Vec Ideal S688x1024 .bf16) (w : Vec Ideal S1024x2816 .bf16)
    (i : Fin 688) (n : Fin 2816) (h : i.val < a) : back a ha H xn w i n = H (ix2 ⟨i.val + 2 - a, by omega⟩ n) := dif_pos h

/-- `back` inside the block. -/
theorem back_neg (a : ℕ) (ha : a ≤ 2) (H : Vec Ideal S2x2816 .f32) (xn : Vec Ideal S688x1024 .bf16) (w : Vec Ideal S1024x2816 .bf16)
    (i : Fin 688) (n : Fin 2816) (h : ¬ i.val < a) :
    back a ha H xn w i n = rowDot xn w ⟨i.val - a, by have := i.isLt; omega⟩ n := dif_neg h

/-- The hidden entry at row `i` of the block and column `n`. -/
def hidB (xn : Vec Ideal S688x1024 .bf16) (x6 x7 : Vec Ideal S1024x2816 .bf16) (x8 : Vec Ideal S3x2816 .f32)
    (x9 : Vec Ideal S1x2816 .f32) (H : Vec Ideal S2x2816 .f32) (i : Fin 688) (n : Fin 2816) : EReal :=
  gelu (conv (x9 (ix2 0 n)) (x8 (ix2 0 n)) (x8 (ix2 1 n)) (x8 (ix2 2 n)) (back 2 (by decide) H xn x6 i n)
    (back 1 (by decide) H xn x6 i n) (rowDot xn x6 i n)) * rowDot xn x7 i n

/-- A gate entry. -/
theorem gateT_at (xn : Vec Ideal S688x1024 .bf16) (x6 : Vec Ideal S1024x2816 .bf16) (k : ℕ) (h : k < 11) (i : Fin 688) (c : Fin 256) :
    (gateT xn x6 k h (ix2 i c) : EReal) = rowDot xn x6 i ⟨256 * k + c.val, by have := c.isLt; omega⟩ := by
  pointwise [gateT, k0_pay14, rowDot]
  simp only [wcol_at]

/-- An entry of the other product. -/
theorem up_at (xn : Vec Ideal S688x1024 .bf16) (x6 : Vec Ideal S1024x2816 .bf16) (k : ℕ) (h : k < 11) (i : Fin 688) (c : Fin 256) :
    (k0_pay15 (F := Ideal) xn (wcol x6 k h) (ix2 i c) : EReal) = rowDot xn x6 i ⟨256 * k + c.val, by have := c.isLt; omega⟩ := by
  pointwise [k0_pay15, rowDot]
  simp only [wcol_at]

/-- The convolution at an index. -/
theorem pay18_at (g : Vec Ideal S688x256 .f32) (b w0 : Vec Ideal S1x256 .f32) (p : Vec Ideal S688x256 .f32) (w1 : Vec Ideal S1x256 .f32)
    (q : Vec Ideal S688x256 .f32) (w2 : Vec Ideal S1x256 .f32) (i : Fin 688) (c : Fin 256) :
    (k0_pay18 (F := Ideal) g b w0 p w1 q w2 (ix2 i c) : EReal)
      = conv (b (ix2 0 c)) (w0 (ix2 0 c)) (w1 (ix2 0 c)) (w2 (ix2 0 c)) (p (ix2 i c)) (q (ix2 i c)) (g (ix2 i c)) := by
  pointwise [k0_pay18, conv]

/-- The accumulation at an index. -/
theorem pay13_at (u v : Vec Ideal S688x256 .f32) (acc : Vec Ideal S688x1024 .f32) (w : Vec Ideal S256x1024 .bf16) (i : Fin 688) (d : Fin 1024) :
    (k0_pay13 (F := Ideal) u v acc w (ix2 i d) : EReal)
      = acc (ix2 i d) + ∑ c : Fin 256, (gelu (v (ix2 i c)) * u (ix2 i c)) * w (ix2 c d) := by
  pointwise [k0_pay13, gelu]

/-- One column tile's step at an index. -/
theorem step_at (k : ℕ) (h : k < 11) (xn : Vec Ideal S688x1024 .bf16) (x6 x7 : Vec Ideal S1024x2816 .bf16) (x8 : Vec Ideal S3x2816 .f32)
    (x9 : Vec Ideal S1x2816 .f32) (x10 : Vec Ideal S2816x1024 .bf16) (H : Vec Ideal S2x2816 .f32) (acc : Vec Ideal S688x1024 .f32)
    (i : Fin 688) (d : Fin 1024) :
    (step k h xn x6 x7 x8 x9 x10 H acc (ix2 i d) : EReal)
      = acc (ix2 i d) + ∑ c : Fin 256, hidB xn x6 x7 x8 x9 H i ⟨256 * k + c.val, by have := c.isLt; omega⟩
          * x10 (ix2 ⟨256 * k + c.val, by have := c.isLt; omega⟩ d) := by
  unfold step
  refine (pay13_at _ _ _ _ i d).trans (congrArg _ (Finset.sum_congr rfl fun c _ => ?_))
  refine congrArg₂ (· * ·) (congrArg₂ (· * ·) (congrArg gelu ((pay18_at _ _ _ _ _ _ _ i c).trans ?_)) (up_at _ _ k h i c)) (drow_at x10 k h c d)
  rw [bcol_at, ccol_at, ccol_at, ccol_at, gateT_at]
  refine congrArg₂ (fun p q => conv _ _ _ _ p q _) ?_ ?_
  · by_cases hi : i.val < 2
    · refine Eq.trans ((dif_pos hi).trans (hcol_at H k h _ c)) (back_pos 2 (by decide) H xn x6 i _ hi).symm
    · refine Eq.trans ((dif_neg hi).trans (gateT_at xn x6 k h _ c)) (back_neg 2 (by decide) H xn x6 i _ hi).symm
  · by_cases hi : i.val < 1
    · refine Eq.trans ((dif_pos hi).trans (hcol_at H k h _ c)) (Eq.trans ?_ (back_pos 1 (by decide) H xn x6 i _ hi).symm)
      exact congrArg H (ix2_congr (by show 1 = i.val + 2 - 1; omega) rfl)
    · refine Eq.trans ((dif_neg hi).trans (gateT_at xn x6 k h _ c)) (back_neg 1 (by decide) H xn x6 i _ hi).symm

/-- The last two gate rows, stored tile by tile: one tile more. -/
theorem peel (xn : Vec Ideal S688x1024 .bf16) (x6 : Vec Ideal S1024x2816 .bf16) (k : ℕ) (h : k < 11) (n : ℕ) (hn : n = 256 * k) (inb)
    (L : List (View.Piece (Elt Ideal) S2x2816 .f32))
    (hL : ∀ (i : Fin 2) (c : Fin 2816), c.val < 256 * k → (View.canon (Val := Elt Ideal) L (ix2 i c) : EReal) = rowDot xn x6 ⟨686 + i.val, by have := i.isLt; omega⟩ c)
    (i : Fin 2) (c : Fin 2816) (hc : c.val < 256 * (k + 1)) :
    (View.canon (Val := Elt Ideal) ((⟨Rect.unit (s := S2x2816) ![0, n] S2x256.size inb, tl (gateT xn x6 k h)⟩ : View.Piece (Elt Ideal) S2x2816 .f32) :: L)
      (ix2 i c) : EReal) = rowDot xn x6 ⟨686 + i.val, by have := i.isLt; omega⟩ c := by
  subst hn
  by_cases h' : c.val < 256 * k
  · rw [View.canon_cons_of_not_mem _ _ (by
      rw [Rect.mem_set_unit]; intro hh
      have : 256 * k ≤ c.val := (hh 1).1
      omega)]
    exact hL i c h'
  · have e : (ix2 i c : S2x2816.Idx) = (Rect.unit (s := S2x2816) ![0, 256 * k] S2x256.size inb).emb (ix2 i ⟨c.val - 256 * k, by omega⟩) := by
      refine funext fun a => Fin.ext ?_
      revert a
      refine Fin.forall_fin_two.mpr ⟨?_, ?_⟩
      · show i.val = 0 + 1 * i.val; omega
      · show c.val = 256 * k + 1 * (c.val - 256 * k); omega
    refine ((congrArg _ e).trans (View.canon_cons_emb _ _ _ _)).trans ?_
    refine (gateT_at xn x6 k h ⟨686 + i.val, by have := i.isLt; omega⟩ ⟨c.val - 256 * k, by omega⟩).trans ?_
    exact congrArg (rowDot xn x6 _) (Fin.ext (by show 256 * k + (c.val - 256 * k) = c.val; omega))

/-- The mixed block at an index. -/
theorem pay3_at (a : Vec Ideal S688x512 .bf16) (s : Vec Ideal S688x512 .f32) (x : Vec Ideal S688x1024 .f32) (w : Vec Ideal S1024x1024 .bf16)
    (i : Fin 688) (d : Fin 1024) :
    (k0_pay3 (F := Ideal) a s x w (ix2 i d) : EReal)
      = mixed (fun e => x (ix2 i e)) (mixRow (fun k => a (ix2 i k)) (fun k => s (ix2 i k))) (fun k e => w (ix2 k e)) d := by
  pointwise [k0_pay3, mixed, mixRow]

/-- The normed block at an index, in the mixed block. -/
theorem pay4_dot (a : Vec Ideal S688x512 .bf16) (s : Vec Ideal S688x512 .f32) (x : Vec Ideal S688x1024 .f32) (w : Vec Ideal S1024x1024 .bf16)
    (g : Vec Ideal S1x1024 .f32) (v : Vec Ideal S1024x2816 .bf16) (i : Fin 688) (n : Fin 2816) :
    rowDot (k0_pay4 (F := Ideal) a s x w g) v i n
      = normDot (fun d => k0_pay3 (F := Ideal) a s x w (ix2 i d)) (fun d => g (ix2 0 d)) (fun d => v (ix2 d n)) := by
  pointwise [rowDot, k0_pay4, normDot, rowScale]

/-- Eleven column tiles, one after another, are all the columns. -/
theorem tiles (F : Fin 2816 → EReal) (b : EReal) :
    b + ∑ n : Fin 2816, F n = (((((((((((b + ∑ c : Fin 256, F ⟨256 * 0 + c.val, by have := c.isLt; omega⟩) + ∑ c : Fin 256, F ⟨256 * 1 + c.val, by have := c.isLt; omega⟩) + ∑ c : Fin 256, F ⟨256 * 2 + c.val, by have := c.isLt; omega⟩) + ∑ c : Fin 256, F ⟨256 * 3 + c.val, by have := c.isLt; omega⟩) + ∑ c : Fin 256, F ⟨256 * 4 + c.val, by have := c.isLt; omega⟩) + ∑ c : Fin 256, F ⟨256 * 5 + c.val, by have := c.isLt; omega⟩) + ∑ c : Fin 256, F ⟨256 * 6 + c.val, by have := c.isLt; omega⟩) + ∑ c : Fin 256, F ⟨256 * 7 + c.val, by have := c.isLt; omega⟩) + ∑ c : Fin 256, F ⟨256 * 8 + c.val, by have := c.isLt; omega⟩) + ∑ c : Fin 256, F ⟨256 * 9 + c.val, by have := c.isLt; omega⟩) + ∑ c : Fin 256, F ⟨256 * 10 + c.val, by have := c.isLt; omega⟩) := by
  rw [Fin.sum_univ_tiles 11 256 rfl]
  have e : ∀ G : Fin 11 → EReal, b + ∑ k, G k = b + G 0 + G 1 + G 2 + G 3 + G 4 + G 5 + G 6 + G 7 + G 8 + G 9 + G 10 := by
    intro G
    simp only [Fin.sum_univ_succ, Fin.sum_univ_zero, add_zero, ← add_assoc]
    rfl
  exact e _

/-- A reshape to the same shape. -/
theorem k0_pay5_id (v3 : Vec Ideal S688x512 .bf16) (v5 : Vec Ideal S688x512 .f32) (v9 : Vec Ideal S688x1024 .f32) (v11 : Vec Ideal S1024x1024 .bf16) : k0_pay5 (F := Ideal) v3 v5 v9 v11 = k0_pay3 (F := Ideal) v3 v5 v9 v11 := shapeCast_self _ _

/-- A reshape to the same shape. -/
theorem k0_pay9_id (v39 : Vec Ideal S2x256 .f32) : k0_pay9 (F := Ideal) v39 = v39 := shapeCast_self _ _

/-- A reshape to the same shape. -/
theorem k0_pay10_id (v29 : FVec Ideal S688x1024 .bf16) (v34 : FVec Ideal S1024x256 .bf16) (cst_17 : FVec Ideal S688x256 .f32) : k0_pay10 (F := Ideal) v29 v34 cst_17 = k0_pay7 (F := Ideal) v29 v34 cst_17 := shapeCast_self _ _

/-- A reshape to the same shape. -/
theorem k0_pay12_id (v66 : Vec Ideal S2x256 .f32) : k0_pay12 (F := Ideal) v66 = v66 := shapeCast_self _ _

/-- A reshape to the same shape. -/
theorem k0_pay16_id (v99 : Vec Ideal S2x256 .f32) : k0_pay16 (F := Ideal) v99 = v99 := shapeCast_self _ _

/-- A reshape to the same shape. -/
theorem k0_pay17_id (v95 : FVec Ideal S688x256 .f32) : k0_pay17 (F := Ideal) v95 = v95 := shapeCast_self _ _

/-- A reshape to the same shape. -/
theorem k0_pay19_id (v126 : Vec Ideal S2x256 .f32) : k0_pay19 (F := Ideal) v126 = v126 := shapeCast_self _ _

/-- A reshape to the same shape. -/
theorem k0_pay24_id (v159 : Vec Ideal S2x256 .f32) : k0_pay24 (F := Ideal) v159 = v159 := shapeCast_self _ _

/-- A reshape to the same shape. -/
theorem k0_pay25_id (v29 : FVec Ideal S688x1024 .bf16) (v153 : Vec Ideal S1024x256 .bf16) : k0_pay25 (F := Ideal) v29 v153 = k0_pay22 (F := Ideal) v29 v153 := shapeCast_self _ _

/-- A reshape to the same shape. -/
theorem k0_pay28_id (v186 : Vec Ideal S2x256 .f32) : k0_pay28 (F := Ideal) v186 = v186 := shapeCast_self _ _

/-- A reshape to the same shape. -/
theorem k0_pay33_id (v219 : Vec Ideal S2x256 .f32) : k0_pay33 (F := Ideal) v219 = v219 := shapeCast_self _ _

/-- A reshape to the same shape. -/
theorem k0_pay34_id (v29 : FVec Ideal S688x1024 .bf16) (v213 : Vec Ideal S1024x256 .bf16) : k0_pay34 (F := Ideal) v29 v213 = k0_pay31 (F := Ideal) v29 v213 := shapeCast_self _ _

/-- A reshape to the same shape. -/
theorem k0_pay37_id (v246 : Vec Ideal S2x256 .f32) : k0_pay37 (F := Ideal) v246 = v246 := shapeCast_self _ _

/-- A reshape to the same shape. -/
theorem k0_pay41_id (v279 : Vec Ideal S2x256 .f32) : k0_pay41 (F := Ideal) v279 = v279 := shapeCast_self _ _

/-- A reshape to the same shape. -/
theorem k0_pay42_id (v275 : FVec Ideal S688x256 .f32) : k0_pay42 (F := Ideal) v275 = v275 := shapeCast_self _ _

/-- A reshape to the same shape. -/
theorem k0_pay44_id (v306 : Vec Ideal S2x256 .f32) : k0_pay44 (F := Ideal) v306 = v306 := shapeCast_self _ _

/-- A reshape to the same shape. -/
theorem k0_pay49_id (v339 : Vec Ideal S2x256 .f32) : k0_pay49 (F := Ideal) v339 = v339 := shapeCast_self _ _

/-- A reshape to the same shape. -/
theorem k0_pay50_id (v29 : FVec Ideal S688x1024 .bf16) (v333 : Vec Ideal S1024x256 .bf16) : k0_pay50 (F := Ideal) v29 v333 = k0_pay47 (F := Ideal) v29 v333 := shapeCast_self _ _

/-- A reshape to the same shape. -/
theorem k0_pay51_id (v366 : Vec Ideal S2x256 .f32) : k0_pay51 (F := Ideal) v366 = v366 := shapeCast_self _ _

/-- A reshape to the same shape. -/
theorem k0_pay56_id (v399 : Vec Ideal S2x256 .f32) : k0_pay56 (F := Ideal) v399 = v399 := shapeCast_self _ _

/-- A reshape to the same shape. -/
theorem k0_pay57_id (v29 : FVec Ideal S688x1024 .bf16) (v393 : Vec Ideal S1024x256 .bf16) : k0_pay57 (F := Ideal) v29 v393 = k0_pay54 (F := Ideal) v29 v393 := shapeCast_self _ _

/-- A reshape to the same shape. -/
theorem k0_pay60_id (v426 : Vec Ideal S2x256 .f32) : k0_pay60 (F := Ideal) v426 = v426 := shapeCast_self _ _

/-- A reshape to the same shape. -/
theorem k0_pay65_id (v459 : Vec Ideal S2x256 .f32) : k0_pay65 (F := Ideal) v459 = v459 := shapeCast_self _ _

/-- A reshape to the same shape. -/
theorem k0_pay66_id (v29 : FVec Ideal S688x1024 .bf16) (v454 : FVec Ideal S1024x256 .bf16) : k0_pay66 (F := Ideal) v29 v454 = k0_pay63 (F := Ideal) v29 v454 := shapeCast_self _ _

/-- A reshape to the same shape. -/
theorem k0_pay68_id (v486 : Vec Ideal S2x256 .f32) : k0_pay68 (F := Ideal) v486 = v486 := shapeCast_self _ _

/-- A reshape to the same shape. -/
theorem k0_pay72_id (v519 : Vec Ideal S2x256 .f32) : k0_pay72 (F := Ideal) v519 = v519 := shapeCast_self _ _

/-- A reshape to the same shape. -/
theorem k0_pay73_id (v515 : FVec Ideal S688x256 .f32) : k0_pay73 (F := Ideal) v515 = v515 := shapeCast_self _ _

/-- A reshape to the same shape. -/
theorem k0_pay75_id (v546 : Vec Ideal S2x256 .f32) : k0_pay75 (F := Ideal) v546 = v546 := shapeCast_self _ _

/-- A reshape to the same shape. -/
theorem k0_pay80_id (v579 : Vec Ideal S2x256 .f32) : k0_pay80 (F := Ideal) v579 = v579 := shapeCast_self _ _

/-- A reshape to the same shape. -/
theorem k0_pay81_id (v29 : FVec Ideal S688x1024 .bf16) (v573 : Vec Ideal S1024x256 .bf16) : k0_pay81 (F := Ideal) v29 v573 = k0_pay78 (F := Ideal) v29 v573 := shapeCast_self _ _

/-- A reshape to the same shape. -/
theorem k0_pay84_id (v606 : Vec Ideal S2x256 .f32) : k0_pay84 (F := Ideal) v606 = v606 := shapeCast_self _ _

/-- A reshape to the same shape. -/
theorem k0_pay89_id (v639 : Vec Ideal S2x256 .f32) : k0_pay89 (F := Ideal) v639 = v639 := shapeCast_self _ _

/-- A reshape to the same shape. -/
theorem k0_pay90_id (v29 : FVec Ideal S688x1024 .bf16) (v633 : Vec Ideal S1024x256 .bf16) : k0_pay90 (F := Ideal) v29 v633 = k0_pay87 (F := Ideal) v29 v633 := shapeCast_self _ _

/-- A reshape to the same shape. -/
theorem k0_pay92_id (v666 : Vec Ideal S2x256 .f32) : k0_pay92 (F := Ideal) v666 = v666 := shapeCast_self _ _

end Cert.PostIdeal.Pure
-- ==== Proof.PostHost.lean ====
/-
  The output call's operands as its host code prepares them, and the blocks its windows hold at each point.
-/
module

public import proofs.«01_k».proof.Proof.PostPure
public import proofs.«01_k».proof.Proof.Gen.PostIdeal.Value
public import Idealize.ShloMosaic.Lib.Pipeline.ValueKit

@[expose] public section

set_option maxRecDepth 16384

noncomputable section

namespace Cert.PostIdeal.Pure

open Cert.PostIdeal Cert.PostIdeal.Gen Cert.RowNorm Cert.PostMath Idealize.ShloMosaic Idealize.ShloMosaic.TcCoe Idealize.SL.Sem

variable (m : (ℓ : Loc nD τ sig) → Buf (Elt Ideal) ℓ) (c : Dev nD)

/-- A row of the prompt. -/
theorem x_at (r : Fin 16512) (d : Fin 1024) : ((V m c main_v15 : FVec Ideal S16512x1024 .f32) (ix2 r d) : EReal)
    = promptRow (fun b t d => m ((c.tc : Thread nD τ).loc main_arg0) (ix3 b t d)) (fun t d => m ((c.tc : Thread nD τ).loc main_arg1) (ix2 t d))
        ⟨r.val / 2064, by omega⟩ ⟨r.val % 2064, by omega⟩ d := by
  simp only [V, hostOps0, List.flatten_cons, List.flatten_nil, List.append_nil, List.cons_append, List.nil_append]
  after_results
  pointwise [promptRow]

/-- A row of the attention's output. -/
theorem a_at (r : Fin 16512) (k : Fin 512) : ((V m c main_v16 : FVec Ideal S16512x512 .bf16) (ix2 r k) : EReal)
    = m ((c.tc : Thread nD τ).loc main_arg2) (ix3 ⟨r.val / 2064, by omega⟩ ⟨r.val % 2064, by omega⟩ k) := by
  simp only [V, hostOps0, List.flatten_cons, List.flatten_nil, List.append_nil, List.cons_append, List.nil_append]
  after_results
  pointwise

/-- A row of the recurrence's output. -/
theorem s_at (t : Fin 2064) (k : Fin 4096) : ((V m c main_v17 : FVec Ideal S2064x4096 .f32) (ix2 t k) : EReal)
    = m ((c.tc : Thread nD τ).loc main_arg3) (ix3 t ⟨k.val / 512, by omega⟩ ⟨k.val % 512, by omega⟩) := by
  simp only [V, hostOps0, List.flatten_cons, List.flatten_nil, List.append_nil, List.cons_append, List.nil_append]
  after_results
  pointwise

/-- The rows before the first position are zero. -/
theorem z_at (b : Fin 8) (i : Fin 2) (n : Fin 2816) : ((V m c main_v18 : FVec Ideal S8x2x2816 .f32) (ix3 b i n) : EReal) = (0 : EReal) := by
  simp only [V, hostOps0, List.flatten_cons, List.flatten_nil, List.append_nil, List.cons_append, List.nil_append]
  after_results
  pointwise

/-- The output weights. -/
theorem wo_at (k d : Fin 1024) : ((V m c main_v1 : FVec Ideal S1024x1024 .bf16) (ix2 k d) : EReal)
    = m ((c.tc : Thread nD τ).loc main_arg4) (ix3 0 k d) := by
  simp only [V, hostOps0, List.flatten_cons, List.flatten_nil, List.append_nil, List.cons_append, List.nil_append]
  after_results
  pointwise

/-- The gains. -/
theorem g_at (d : Fin 1024) : ((V m c main_v3 : FVec Ideal S1x1024 .f32) (ix2 0 d) : EReal)
    = m ((c.tc : Thread nD τ).loc main_arg5) (ix2 0 d) := by
  simp only [V, hostOps0, List.flatten_cons, List.flatten_nil, List.append_nil, List.cons_append, List.nil_append]
  after_results
  pointwise

/-- The gate's weights. -/
theorem wg_at (d : Fin 1024) (n : Fin 2816) : ((V m c main_v5 : FVec Ideal S1024x2816 .bf16) (ix2 d n) : EReal)
    = m ((c.tc : Thread nD τ).loc main_arg6) (ix3 0 d n) := by
  simp only [V, hostOps0, List.flatten_cons, List.flatten_nil, List.append_nil, List.cons_append, List.nil_append]
  after_results
  pointwise

/-- The other branch's weights. -/
theorem wu_at (d : Fin 1024) (n : Fin 2816) : ((V m c main_v7 : FVec Ideal S1024x2816 .bf16) (ix2 d n) : EReal)
    = m ((c.tc : Thread nD τ).loc main_arg7) (ix3 0 d n) := by
  simp only [V, hostOps0, List.flatten_cons, List.flatten_nil, List.append_nil, List.cons_append, List.nil_append]
  after_results
  pointwise

/-- The convolution's weights. -/
theorem cw_at (j : Fin 3) (n : Fin 2816) : ((V m c main_v8 : FVec Ideal S3x2816 .f32) (ix2 j n) : EReal)
    = m ((c.tc : Thread nD τ).loc main_arg8) (ix3 0 j n) := by
  simp only [V, hostOps0, List.flatten_cons, List.flatten_nil, List.append_nil, List.cons_append, List.nil_append]
  after_results
  pointwise

/-- The convolution's bias. -/
theorem cb_at (n : Fin 2816) : ((V m c main_v10 : FVec Ideal S1x2816 .f32) (ix2 0 n) : EReal)
    = m ((c.tc : Thread nD τ).loc main_arg9) (ix2 0 n) := by
  simp only [V, hostOps0, List.flatten_cons, List.flatten_nil, List.append_nil, List.cons_append, List.nil_append]
  after_results
  pointwise

/-- The last weights. -/
theorem wd_at (n : Fin 2816) (d : Fin 1024) : ((V m c main_v12 : FVec Ideal S2816x1024 .bf16) (ix2 n d) : EReal)
    = m ((c.tc : Thread nD τ).loc main_arg10) (ix3 0 n d) := by
  simp only [V, hostOps0, List.flatten_cons, List.flatten_nil, List.append_nil, List.cons_append, List.nil_append]
  after_results
  pointwise

/-- Where each window lies at each point. -/
theorem idx : ∀ t : Fin cfg0.N, win0_0.index t = ![t.val, 0] ∧ win0_1.index t = ![t.val, 0] ∧ win0_2.index t = ![t.val % 3, t.val / 3]
    ∧ win0_3.index t = ![t.val / 3, 0, 0] ∧ win0_4.index t = ![0, 0] ∧ win0_5.index t = ![0, 0]
    ∧ win0_6.index t = ![0, 0] ∧ win0_7.index t = ![0, 0] ∧ win0_8.index t = ![0, 0] ∧ win0_9.index t = ![0, 0]
    ∧ win0_10.index t = ![0, 0] ∧ win0_11.index t = ![t.val, 0] ∧ win0_12.index t = ![t.val / 3, 0, 0] :=
  (by decide +kernel : ∀ t : Fin grid0.N, _)

theorem blk0 (t : Fin cfg0.N) (i : Fin 688) (d : Fin 1024) :
    iblk m c 0 t (ix2 i d) = V m c main_v15 (ix2 ⟨t.val * 688 + i.val, by have : t.val < 24 := t.isLt; omega⟩ d) := by
  blk_ext [iblk, idx t]

theorem blk1 (t : Fin cfg0.N) (i : Fin 688) (d : Fin 512) :
    iblk m c 1 t (ix2 i d) = V m c main_v16 (ix2 ⟨t.val * 688 + i.val, by have : t.val < 24 := t.isLt; omega⟩ d) := by
  blk_ext [iblk, idx t]

theorem blk2 (t : Fin cfg0.N) (i : Fin 688) (d : Fin 512) :
    iblk m c 2 t (ix2 i d) = V m c main_v17 (ix2 ⟨t.val % 3 * 688 + i.val, by have := i.isLt; omega⟩
      ⟨t.val / 3 * 512 + d.val, by have : t.val < 24 := t.isLt; have := d.isLt; omega⟩) := by
  blk_ext [iblk, idx t]

theorem blk3 (t : Fin cfg0.N) (i : Fin 2) (n : Fin 2816) :
    iblk m c 3 t (ix3 0 i n) = V m c main_v18 (ix3 ⟨t.val / 3, by have : t.val < 24 := t.isLt; omega⟩ i n) := by
  blk_ext [iblk, idx t]

theorem blk4 (t : Fin cfg0.N) (i d : Fin 1024) : iblk m c 4 t (ix2 i d) = V m c main_v1 (ix2 i d) := by
  blk_ext [iblk, idx t]

theorem blk5 (t : Fin cfg0.N) (i : Fin 1) (d : Fin 1024) : iblk m c 5 t (ix2 i d) = V m c main_v3 (ix2 i d) := by
  blk_ext [iblk, idx t]

theorem blk6 (t : Fin cfg0.N) (i : Fin 1024) (d : Fin 2816) : iblk m c 6 t (ix2 i d) = V m c main_v5 (ix2 i d) := by
  blk_ext [iblk, idx t]

theorem blk7 (t : Fin cfg0.N) (i : Fin 1024) (d : Fin 2816) : iblk m c 7 t (ix2 i d) = V m c main_v7 (ix2 i d) := by
  blk_ext [iblk, idx t]

theorem blk8 (t : Fin cfg0.N) (i : Fin 3) (d : Fin 2816) : iblk m c 8 t (ix2 i d) = V m c main_v8 (ix2 i d) := by
  blk_ext [iblk, idx t]

theorem blk9 (t : Fin cfg0.N) (i : Fin 1) (d : Fin 2816) : iblk m c 9 t (ix2 i d) = V m c main_v10 (ix2 i d) := by
  blk_ext [iblk, idx t]

theorem blk10 (t : Fin cfg0.N) (i : Fin 2816) (d : Fin 1024) : iblk m c 10 t (ix2 i d) = V m c main_v12 (ix2 i d) := by
  blk_ext [iblk, idx t]

theorem emb11 (t : Fin cfg0.N) (y0 : Fin 688) (y1 : Fin 1024) :
    ((View.whole main_v19_0).slice (win0_11.rect t)).emb (ix2 y0 y1) = (ix2 ⟨t.val * 688 + y0.val, by have : t.val < 24 := t.isLt; omega⟩ y1 : S16512x1024.Idx) := by
  blk_ext [idx t]

theorem emb12 (t : Fin cfg0.N) (y1 : Fin 2) (y2 : Fin 2816) :
    ((View.whole main_v19_1).slice (win0_12.rect t)).emb (ix3 (0 : Fin 1) y1 y2) = (ix3 ⟨t.val / 3, by have : t.val < 24 := t.isLt; omega⟩ y1 y2 : S8x2x2816.Idx) := by
  blk_ext [idx t]

end Cert.PostIdeal.Pure
-- ==== Proof.PostRunA.lean ====
/-
  The output block's run, the case A: each column tile's step, the whole block and the rows carried on.
-/
module

public import proofs.«01_k».proof.Proof.PostPure
public import proofs.«01_k».proof.Proof.Gen.PostIdeal.Frame
public import Idealize.ShloMosaic.Lib.Pipeline.ValueKit

@[expose] public section

set_option maxRecDepth 16384

noncomputable section

namespace Cert.PostIdeal.Pure

open Cert.PostIdeal Cert.PostIdeal.Gen Cert.RowNorm Cert.PostMath Idealize.ShloMosaic Idealize.ShloMosaic.TcCoe Idealize.SL.Sem

/-- Column tile 0's step. -/
theorem accA0 (c : Dev nD) (arg2 : Memref sig .tc .vmem S688x1024 .f32) (harg2 : arg2.IsWhole) (arg3 : Memref sig .tc .vmem S688x512 .bf16) (harg3 : arg3.IsWhole) (arg4 : Memref sig .tc .vmem S688x512 .f32) (harg4 : arg4.IsWhole) (arg5 : Memref sig .tc .vmem S1x2x2816 .f32) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1024x2816 .bf16) (harg8 : arg8.IsWhole) (arg9 : Memref sig .tc .vmem S1024x2816 .bf16) (harg9 : arg9.IsWhole) (arg10 : Memref sig .tc .vmem S3x2816 .f32) (harg10 : arg10.IsWhole) (arg11 : Memref sig .tc .vmem S1x2816 .f32) (harg11 : arg11.IsWhole) (arg12 : Memref sig .tc .vmem S2816x1024 .bf16) (harg12 : arg12.IsWhole) (arg15 : Memref sig .tc .vmem S688x1024 .f32) (arg16 : Memref sig .tc .vmem S696x256 .f32) (arg17 : Memref sig .tc .vmem S2x2816 .f32) (x0 : Vec Ideal S688x1024 .f32) (x1 : Vec Ideal S688x512 .bf16) (x2 : Vec Ideal S688x512 .f32) (x3 : Vec Ideal S1x2x2816 .f32) (x4 : Vec Ideal S1024x1024 .bf16) (x5 : Vec Ideal S1x1024 .f32) (x6 : Vec Ideal S1024x2816 .bf16) (x7 : Vec Ideal S1024x2816 .bf16) (x8 : Vec Ideal S3x2816 .f32) (x9 : Vec Ideal S1x2816 .f32) (x10 : Vec Ideal S2816x1024 .bf16) :
    kernelRun0_A.sl.v145 (F := Ideal) c arg2 harg2 arg3 harg3 arg4 harg4 arg5 harg5 arg6 harg6 arg7 harg7 arg8 harg8 arg9 harg9 arg10 harg10 arg11 harg11 arg12 harg12 arg15 arg16 arg17 x0 x1 x2 x3 x4 x5 x6 x7 x8 x9 x10
      = step 0 (by decide) (kernelRun0_A.sl.r (F := Ideal) c arg2 harg2 arg3 harg3 arg4 harg4 arg6 harg6 arg7 harg7 x0 x1 x2 x4 x5) x6 x7 x8 x9 x10 (k0_pay2 (F := Ideal) x3)
        (kernelRun0_A.sl.v85 (F := Ideal) c arg2 harg2 arg3 harg3 arg4 harg4 arg6 harg6 arg15 x0 x1 x2 x4) := by
  unfold kernelRun0_A.sl.v145 kernelRun0_A.sl.HS0_2
  rw [View.readCov_cons_unit_lit' _ _ _ _ _ (by decide) (by decide)]
  simp (disch := decide) only [kernelRun0_A.sl.HS1_2, kernelRun0_A.sl.HS2_1, kernelRun0_A.sl.cst_17, kernelRun0_A.sl.r_1, kernelRun0_A.sl.r_2, kernelRun0_A.sl.r_3, kernelRun0_A.sl.v39, kernelRun0_A.sl.v50, kernelRun0_A.sl.v57, k0_pay9_id, k0_pay10_id, rd6, rd7, skip, base, View.readAt_eq_ld, Memref.IsWhole.read_unread, View.ld_unit_lit']
  rfl

/-- Column tile 0's last two gate rows. -/
theorem tlA0 (c : Dev nD) (arg2 : Memref sig .tc .vmem S688x1024 .f32) (harg2 : arg2.IsWhole) (arg3 : Memref sig .tc .vmem S688x512 .bf16) (harg3 : arg3.IsWhole) (arg4 : Memref sig .tc .vmem S688x512 .f32) (harg4 : arg4.IsWhole) (arg5 : Memref sig .tc .vmem S1x2x2816 .f32) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1024x2816 .bf16) (harg8 : arg8.IsWhole) (arg16 : Memref sig .tc .vmem S696x256 .f32) (arg17 : Memref sig .tc .vmem S2x2816 .f32) (x0 : Vec Ideal S688x1024 .f32) (x1 : Vec Ideal S688x512 .bf16) (x2 : Vec Ideal S688x512 .f32) (x3 : Vec Ideal S1x2x2816 .f32) (x4 : Vec Ideal S1024x1024 .bf16) (x5 : Vec Ideal S1x1024 .f32) (x6 : Vec Ideal S1024x2816 .bf16) :
    kernelRun0_A.sl.v66 (F := Ideal) c arg2 harg2 arg3 harg3 arg4 harg4 arg5 harg5 arg6 harg6 arg7 harg7 arg8 harg8 arg16 arg17 x0 x1 x2 x3 x4 x5 x6
      = tl (gateT (kernelRun0_A.sl.r (F := Ideal) c arg2 harg2 arg3 harg3 arg4 harg4 arg6 harg6 arg7 harg7 x0 x1 x2 x4 x5) x6 0 (by decide)) := by
  simp only [kernelRun0_A.sl.HS1_2, kernelRun0_A.sl.cst_17, kernelRun0_A.sl.r_1, kernelRun0_A.sl.v66, k0_pay9_id, k0_pay10_id, rd694, View.readAt_eq_ld, Memref.IsWhole.read_unread]
  rfl

/-- Column tile 1's step. -/
theorem accA1 (c : Dev nD) (arg2 : Memref sig .tc .vmem S688x1024 .f32) (harg2 : arg2.IsWhole) (arg3 : Memref sig .tc .vmem S688x512 .bf16) (harg3 : arg3.IsWhole) (arg4 : Memref sig .tc .vmem S688x512 .f32) (harg4 : arg4.IsWhole) (arg5 : Memref sig .tc .vmem S1x2x2816 .f32) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1024x2816 .bf16) (harg8 : arg8.IsWhole) (arg9 : Memref sig .tc .vmem S1024x2816 .bf16) (harg9 : arg9.IsWhole) (arg10 : Memref sig .tc .vmem S3x2816 .f32) (harg10 : arg10.IsWhole) (arg11 : Memref sig .tc .vmem S1x2816 .f32) (harg11 : arg11.IsWhole) (arg12 : Memref sig .tc .vmem S2816x1024 .bf16) (harg12 : arg12.IsWhole) (arg15 : Memref sig .tc .vmem S688x1024 .f32) (arg16 : Memref sig .tc .vmem S696x256 .f32) (arg17 : Memref sig .tc .vmem S2x2816 .f32) (x0 : Vec Ideal S688x1024 .f32) (x1 : Vec Ideal S688x512 .bf16) (x2 : Vec Ideal S688x512 .f32) (x3 : Vec Ideal S1x2x2816 .f32) (x4 : Vec Ideal S1024x1024 .bf16) (x5 : Vec Ideal S1x1024 .f32) (x6 : Vec Ideal S1024x2816 .bf16) (x7 : Vec Ideal S1024x2816 .bf16) (x8 : Vec Ideal S3x2816 .f32) (x9 : Vec Ideal S1x2816 .f32) (x10 : Vec Ideal S2816x1024 .bf16) :
    kernelRun0_A.sl.v205 (F := Ideal) c arg2 harg2 arg3 harg3 arg4 harg4 arg5 harg5 arg6 harg6 arg7 harg7 arg8 harg8 arg9 harg9 arg10 harg10 arg11 harg11 arg12 harg12 arg15 arg16 arg17 x0 x1 x2 x3 x4 x5 x6 x7 x8 x9 x10
      = step 1 (by decide) (kernelRun0_A.sl.r (F := Ideal) c arg2 harg2 arg3 harg3 arg4 harg4 arg6 harg6 arg7 harg7 x0 x1 x2 x4 x5) x6 x7 x8 x9 x10 (k0_pay2 (F := Ideal) x3)
        (kernelRun0_A.sl.v145 (F := Ideal) c arg2 harg2 arg3 harg3 arg4 harg4 arg5 harg5 arg6 harg6 arg7 harg7 arg8 harg8 arg9 harg9 arg10 harg10 arg11 harg11 arg12 harg12 arg15 arg16 arg17 x0 x1 x2 x3 x4 x5 x6 x7 x8 x9 x10) := by
  unfold kernelRun0_A.sl.v205 kernelRun0_A.sl.HS0_3
  rw [View.readCov_cons_unit_lit' _ _ _ _ _ (by decide) (by decide)]
  simp (disch := decide) only [kernelRun0_A.sl.HS1_4, kernelRun0_A.sl.HS2_1, kernelRun0_A.sl.HS2_2, kernelRun0_A.sl.cst_78, kernelRun0_A.sl.r_4, kernelRun0_A.sl.r_5, kernelRun0_A.sl.r_6, kernelRun0_A.sl.r_7, kernelRun0_A.sl.v110, kernelRun0_A.sl.v117, kernelRun0_A.sl.v99, k0_pay12_id, k0_pay16_id, k0_pay17_id, rd6, rd7, skip, base, View.readAt_eq_ld, Memref.IsWhole.read_unread, View.ld_unit_lit']
  rfl

/-- Column tile 1's last two gate rows. -/
theorem tlA1 (c : Dev nD) (arg2 : Memref sig .tc .vmem S688x1024 .f32) (harg2 : arg2.IsWhole) (arg3 : Memref sig .tc .vmem S688x512 .bf16) (harg3 : arg3.IsWhole) (arg4 : Memref sig .tc .vmem S688x512 .f32) (harg4 : arg4.IsWhole) (arg5 : Memref sig .tc .vmem S1x2x2816 .f32) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1024x2816 .bf16) (harg8 : arg8.IsWhole) (arg16 : Memref sig .tc .vmem S696x256 .f32) (arg17 : Memref sig .tc .vmem S2x2816 .f32) (x0 : Vec Ideal S688x1024 .f32) (x1 : Vec Ideal S688x512 .bf16) (x2 : Vec Ideal S688x512 .f32) (x3 : Vec Ideal S1x2x2816 .f32) (x4 : Vec Ideal S1024x1024 .bf16) (x5 : Vec Ideal S1x1024 .f32) (x6 : Vec Ideal S1024x2816 .bf16) :
    kernelRun0_A.sl.v126 (F := Ideal) c arg2 harg2 arg3 harg3 arg4 harg4 arg5 harg5 arg6 harg6 arg7 harg7 arg8 harg8 arg16 arg17 x0 x1 x2 x3 x4 x5 x6
      = tl (gateT (kernelRun0_A.sl.r (F := Ideal) c arg2 harg2 arg3 harg3 arg4 harg4 arg6 harg6 arg7 harg7 x0 x1 x2 x4 x5) x6 1 (by decide)) := by
  simp only [kernelRun0_A.sl.HS1_4, kernelRun0_A.sl.r_4, kernelRun0_A.sl.v126, k0_pay16_id, k0_pay17_id, rd694, View.readAt_eq_ld, Memref.IsWhole.read_unread]
  rfl

/-- Column tile 2's step. -/
theorem accA2 (c : Dev nD) (arg2 : Memref sig .tc .vmem S688x1024 .f32) (harg2 : arg2.IsWhole) (arg3 : Memref sig .tc .vmem S688x512 .bf16) (harg3 : arg3.IsWhole) (arg4 : Memref sig .tc .vmem S688x512 .f32) (harg4 : arg4.IsWhole) (arg5 : Memref sig .tc .vmem S1x2x2816 .f32) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1024x2816 .bf16) (harg8 : arg8.IsWhole) (arg9 : Memref sig .tc .vmem S1024x2816 .bf16) (harg9 : arg9.IsWhole) (arg10 : Memref sig .tc .vmem S3x2816 .f32) (harg10 : arg10.IsWhole) (arg11 : Memref sig .tc .vmem S1x2816 .f32) (harg11 : arg11.IsWhole) (arg12 : Memref sig .tc .vmem S2816x1024 .bf16) (harg12 : arg12.IsWhole) (arg15 : Memref sig .tc .vmem S688x1024 .f32) (arg16 : Memref sig .tc .vmem S696x256 .f32) (arg17 : Memref sig .tc .vmem S2x2816 .f32) (x0 : Vec Ideal S688x1024 .f32) (x1 : Vec Ideal S688x512 .bf16) (x2 : Vec Ideal S688x512 .f32) (x3 : Vec Ideal S1x2x2816 .f32) (x4 : Vec Ideal S1024x1024 .bf16) (x5 : Vec Ideal S1x1024 .f32) (x6 : Vec Ideal S1024x2816 .bf16) (x7 : Vec Ideal S1024x2816 .bf16) (x8 : Vec Ideal S3x2816 .f32) (x9 : Vec Ideal S1x2816 .f32) (x10 : Vec Ideal S2816x1024 .bf16) :
    kernelRun0_A.sl.v265 (F := Ideal) c arg2 harg2 arg3 harg3 arg4 harg4 arg5 harg5 arg6 harg6 arg7 harg7 arg8 harg8 arg9 harg9 arg10 harg10 arg11 harg11 arg12 harg12 arg15 arg16 arg17 x0 x1 x2 x3 x4 x5 x6 x7 x8 x9 x10
      = step 2 (by decide) (kernelRun0_A.sl.r (F := Ideal) c arg2 harg2 arg3 harg3 arg4 harg4 arg6 harg6 arg7 harg7 x0 x1 x2 x4 x5) x6 x7 x8 x9 x10 (k0_pay2 (F := Ideal) x3)
        (kernelRun0_A.sl.v205 (F := Ideal) c arg2 harg2 arg3 harg3 arg4 harg4 arg5 harg5 arg6 harg6 arg7 harg7 arg8 harg8 arg9 harg9 arg10 harg10 arg11 harg11 arg12 harg12 arg15 arg16 arg17 x0 x1 x2 x3 x4 x5 x6 x7 x8 x9 x10) := by
  unfold kernelRun0_A.sl.v265 kernelRun0_A.sl.HS0_4
  rw [View.readCov_cons_unit_lit' _ _ _ _ _ (by decide) (by decide)]
  simp (disch := decide) only [kernelRun0_A.sl.HS1_6, kernelRun0_A.sl.HS2_1, kernelRun0_A.sl.HS2_2, kernelRun0_A.sl.HS2_3, kernelRun0_A.sl.r_10, kernelRun0_A.sl.r_11, kernelRun0_A.sl.r_12, kernelRun0_A.sl.r_8, kernelRun0_A.sl.r_9, kernelRun0_A.sl.v159, kernelRun0_A.sl.v170, kernelRun0_A.sl.v177, k0_pay12_id, k0_pay19_id, k0_pay24_id, k0_pay25_id, rd6, rd7, skip, base, View.readAt_eq_ld, Memref.IsWhole.read_unread, View.ld_unit_lit']
  rfl

/-- Column tile 2's last two gate rows. -/
theorem tlA2 (c : Dev nD) (arg2 : Memref sig .tc .vmem S688x1024 .f32) (harg2 : arg2.IsWhole) (arg3 : Memref sig .tc .vmem S688x512 .bf16) (harg3 : arg3.IsWhole) (arg4 : Memref sig .tc .vmem S688x512 .f32) (harg4 : arg4.IsWhole) (arg5 : Memref sig .tc .vmem S1x2x2816 .f32) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1024x2816 .bf16) (harg8 : arg8.IsWhole) (arg16 : Memref sig .tc .vmem S696x256 .f32) (arg17 : Memref sig .tc .vmem S2x2816 .f32) (x0 : Vec Ideal S688x1024 .f32) (x1 : Vec Ideal S688x512 .bf16) (x2 : Vec Ideal S688x512 .f32) (x3 : Vec Ideal S1x2x2816 .f32) (x4 : Vec Ideal S1024x1024 .bf16) (x5 : Vec Ideal S1x1024 .f32) (x6 : Vec Ideal S1024x2816 .bf16) :
    kernelRun0_A.sl.v186 (F := Ideal) c arg2 harg2 arg3 harg3 arg4 harg4 arg5 harg5 arg6 harg6 arg7 harg7 arg8 harg8 arg16 arg17 x0 x1 x2 x3 x4 x5 x6
      = tl (gateT (kernelRun0_A.sl.r (F := Ideal) c arg2 harg2 arg3 harg3 arg4 harg4 arg6 harg6 arg7 harg7 x0 x1 x2 x4 x5) x6 2 (by decide)) := by
  simp only [kernelRun0_A.sl.HS1_6, kernelRun0_A.sl.v186, k0_pay24_id, k0_pay25_id, rd694, View.readAt_eq_ld, Memref.IsWhole.read_unread]
  rfl

/-- Column tile 3's step. -/
theorem accA3 (c : Dev nD) (arg2 : Memref sig .tc .vmem S688x1024 .f32) (harg2 : arg2.IsWhole) (arg3 : Memref sig .tc .vmem S688x512 .bf16) (harg3 : arg3.IsWhole) (arg4 : Memref sig .tc .vmem S688x512 .f32) (harg4 : arg4.IsWhole) (arg5 : Memref sig .tc .vmem S1x2x2816 .f32) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1024x2816 .bf16) (harg8 : arg8.IsWhole) (arg9 : Memref sig .tc .vmem S1024x2816 .bf16) (harg9 : arg9.IsWhole) (arg10 : Memref sig .tc .vmem S3x2816 .f32) (harg10 : arg10.IsWhole) (arg11 : Memref sig .tc .vmem S1x2816 .f32) (harg11 : arg11.IsWhole) (arg12 : Memref sig .tc .vmem S2816x1024 .bf16) (harg12 : arg12.IsWhole) (arg15 : Memref sig .tc .vmem S688x1024 .f32) (arg16 : Memref sig .tc .vmem S696x256 .f32) (arg17 : Memref sig .tc .vmem S2x2816 .f32) (x0 : Vec Ideal S688x1024 .f32) (x1 : Vec Ideal S688x512 .bf16) (x2 : Vec Ideal S688x512 .f32) (x3 : Vec Ideal S1x2x2816 .f32) (x4 : Vec Ideal S1024x1024 .bf16) (x5 : Vec Ideal S1x1024 .f32) (x6 : Vec Ideal S1024x2816 .bf16) (x7 : Vec Ideal S1024x2816 .bf16) (x8 : Vec Ideal S3x2816 .f32) (x9 : Vec Ideal S1x2816 .f32) (x10 : Vec Ideal S2816x1024 .bf16) :
    kernelRun0_A.sl.v325 (F := Ideal) c arg2 harg2 arg3 harg3 arg4 harg4 arg5 harg5 arg6 harg6 arg7 harg7 arg8 harg8 arg9 harg9 arg10 harg10 arg11 harg11 arg12 harg12 arg15 arg16 arg17 x0 x1 x2 x3 x4 x5 x6 x7 x8 x9 x10
      = step 3 (by decide) (kernelRun0_A.sl.r (F := Ideal) c arg2 harg2 arg3 harg3 arg4 harg4 arg6 harg6 arg7 harg7 x0 x1 x2 x4 x5) x6 x7 x8 x9 x10 (k0_pay2 (F := Ideal) x3)
        (kernelRun0_A.sl.v265 (F := Ideal) c arg2 harg2 arg3 harg3 arg4 harg4 arg5 harg5 arg6 harg6 arg7 harg7 arg8 harg8 arg9 harg9 arg10 harg10 arg11 harg11 arg12 harg12 arg15 arg16 arg17 x0 x1 x2 x3 x4 x5 x6 x7 x8 x9 x10) := by
  unfold kernelRun0_A.sl.v325 kernelRun0_A.sl.HS0_5
  rw [View.readCov_cons_unit_lit' _ _ _ _ _ (by decide) (by decide)]
  simp (disch := decide) only [kernelRun0_A.sl.HS1_8, kernelRun0_A.sl.HS2_1, kernelRun0_A.sl.HS2_2, kernelRun0_A.sl.HS2_3, kernelRun0_A.sl.HS2_4, kernelRun0_A.sl.r_13, kernelRun0_A.sl.r_14, kernelRun0_A.sl.r_15, kernelRun0_A.sl.r_16, kernelRun0_A.sl.v219, kernelRun0_A.sl.v230, kernelRun0_A.sl.v237, k0_pay12_id, k0_pay19_id, k0_pay28_id, k0_pay33_id, k0_pay34_id, rd6, rd7, skip, base, View.readAt_eq_ld, Memref.IsWhole.read_unread, View.ld_unit_lit']
  rfl

/-- Column tile 3's last two gate rows. -/
theorem tlA3 (c : Dev nD) (arg2 : Memref sig .tc .vmem S688x1024 .f32) (harg2 : arg2.IsWhole) (arg3 : Memref sig .tc .vmem S688x512 .bf16) (harg3 : arg3.IsWhole) (arg4 : Memref sig .tc .vmem S688x512 .f32) (harg4 : arg4.IsWhole) (arg5 : Memref sig .tc .vmem S1x2x2816 .f32) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1024x2816 .bf16) (harg8 : arg8.IsWhole) (arg16 : Memref sig .tc .vmem S696x256 .f32) (arg17 : Memref sig .tc .vmem S2x2816 .f32) (x0 : Vec Ideal S688x1024 .f32) (x1 : Vec Ideal S688x512 .bf16) (x2 : Vec Ideal S688x512 .f32) (x3 : Vec Ideal S1x2x2816 .f32) (x4 : Vec Ideal S1024x1024 .bf16) (x5 : Vec Ideal S1x1024 .f32) (x6 : Vec Ideal S1024x2816 .bf16) :
    kernelRun0_A.sl.v246 (F := Ideal) c arg2 harg2 arg3 harg3 arg4 harg4 arg5 harg5 arg6 harg6 arg7 harg7 arg8 harg8 arg16 arg17 x0 x1 x2 x3 x4 x5 x6
      = tl (gateT (kernelRun0_A.sl.r (F := Ideal) c arg2 harg2 arg3 harg3 arg4 harg4 arg6 harg6 arg7 harg7 x0 x1 x2 x4 x5) x6 3 (by decide)) := by
  simp only [kernelRun0_A.sl.HS1_8, kernelRun0_A.sl.v246, k0_pay33_id, k0_pay34_id, rd694, View.readAt_eq_ld, Memref.IsWhole.read_unread]
  rfl

/-- Column tile 4's step. -/
theorem accA4 (c : Dev nD) (arg2 : Memref sig .tc .vmem S688x1024 .f32) (harg2 : arg2.IsWhole) (arg3 : Memref sig .tc .vmem S688x512 .bf16) (harg3 : arg3.IsWhole) (arg4 : Memref sig .tc .vmem S688x512 .f32) (harg4 : arg4.IsWhole) (arg5 : Memref sig .tc .vmem S1x2x2816 .f32) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1024x2816 .bf16) (harg8 : arg8.IsWhole) (arg9 : Memref sig .tc .vmem S1024x2816 .bf16) (harg9 : arg9.IsWhole) (arg10 : Memref sig .tc .vmem S3x2816 .f32) (harg10 : arg10.IsWhole) (arg11 : Memref sig .tc .vmem S1x2816 .f32) (harg11 : arg11.IsWhole) (arg12 : Memref sig .tc .vmem S2816x1024 .bf16) (harg12 : arg12.IsWhole) (arg15 : Memref sig .tc .vmem S688x1024 .f32) (arg16 : Memref sig .tc .vmem S696x256 .f32) (arg17 : Memref sig .tc .vmem S2x2816 .f32) (x0 : Vec Ideal S688x1024 .f32) (x1 : Vec Ideal S688x512 .bf16) (x2 : Vec Ideal S688x512 .f32) (x3 : Vec Ideal S1x2x2816 .f32) (x4 : Vec Ideal S1024x1024 .bf16) (x5 : Vec Ideal S1x1024 .f32) (x6 : Vec Ideal S1024x2816 .bf16) (x7 : Vec Ideal S1024x2816 .bf16) (x8 : Vec Ideal S3x2816 .f32) (x9 : Vec Ideal S1x2816 .f32) (x10 : Vec Ideal S2816x1024 .bf16) :
    kernelRun0_A.sl.v385 (F := Ideal) c arg2 harg2 arg3 harg3 arg4 harg4 arg5 harg5 arg6 harg6 arg7 harg7 arg8 harg8 arg9 harg9 arg10 harg10 arg11 harg11 arg12 harg12 arg15 arg16 arg17 x0 x1 x2 x3 x4 x5 x6 x7 x8 x9 x10
      = step 4 (by decide) (kernelRun0_A.sl.r (F := Ideal) c arg2 harg2 arg3 harg3 arg4 harg4 arg6 harg6 arg7 harg7 x0 x1 x2 x4 x5) x6 x7 x8 x9 x10 (k0_pay2 (F := Ideal) x3)
        (kernelRun0_A.sl.v325 (F := Ideal) c arg2 harg2 arg3 harg3 arg4 harg4 arg5 harg5 arg6 harg6 arg7 harg7 arg8 harg8 arg9 harg9 arg10 harg10 arg11 harg11 arg12 harg12 arg15 arg16 arg17 x0 x1 x2 x3 x4 x5 x6 x7 x8 x9 x10) := by
  unfold kernelRun0_A.sl.v385 kernelRun0_A.sl.HS0_6
  rw [View.readCov_cons_unit_lit' _ _ _ _ _ (by decide) (by decide)]
  simp (disch := decide) only [kernelRun0_A.sl.HS1_10, kernelRun0_A.sl.HS2_1, kernelRun0_A.sl.HS2_2, kernelRun0_A.sl.HS2_3, kernelRun0_A.sl.HS2_4, kernelRun0_A.sl.HS2_5, kernelRun0_A.sl.r_17, kernelRun0_A.sl.r_18, kernelRun0_A.sl.r_19, kernelRun0_A.sl.r_20, kernelRun0_A.sl.v279, kernelRun0_A.sl.v290, kernelRun0_A.sl.v297, k0_pay12_id, k0_pay19_id, k0_pay28_id, k0_pay37_id, k0_pay41_id, k0_pay42_id, rd6, rd7, skip, base, View.readAt_eq_ld, Memref.IsWhole.read_unread, View.ld_unit_lit']
  rfl

/-- Column tile 4's last two gate rows. -/
theorem tlA4 (c : Dev nD) (arg2 : Memref sig .tc .vmem S688x1024 .f32) (harg2 : arg2.IsWhole) (arg3 : Memref sig .tc .vmem S688x512 .bf16) (harg3 : arg3.IsWhole) (arg4 : Memref sig .tc .vmem S688x512 .f32) (harg4 : arg4.IsWhole) (arg5 : Memref sig .tc .vmem S1x2x2816 .f32) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1024x2816 .bf16) (harg8 : arg8.IsWhole) (arg16 : Memref sig .tc .vmem S696x256 .f32) (arg17 : Memref sig .tc .vmem S2x2816 .f32) (x0 : Vec Ideal S688x1024 .f32) (x1 : Vec Ideal S688x512 .bf16) (x2 : Vec Ideal S688x512 .f32) (x3 : Vec Ideal S1x2x2816 .f32) (x4 : Vec Ideal S1024x1024 .bf16) (x5 : Vec Ideal S1x1024 .f32) (x6 : Vec Ideal S1024x2816 .bf16) :
    kernelRun0_A.sl.v306 (F := Ideal) c arg2 harg2 arg3 harg3 arg4 harg4 arg5 harg5 arg6 harg6 arg7 harg7 arg8 harg8 arg16 arg17 x0 x1 x2 x3 x4 x5 x6
      = tl (gateT (kernelRun0_A.sl.r (F := Ideal) c arg2 harg2 arg3 harg3 arg4 harg4 arg6 harg6 arg7 harg7 x0 x1 x2 x4 x5) x6 4 (by decide)) := by
  simp only [kernelRun0_A.sl.HS1_10, kernelRun0_A.sl.r_17, kernelRun0_A.sl.v306, k0_pay41_id, k0_pay42_id, rd694, View.readAt_eq_ld, Memref.IsWhole.read_unread]
  rfl

/-- Column tile 5's step. -/
theorem accA5 (c : Dev nD) (arg2 : Memref sig .tc .vmem S688x1024 .f32) (harg2 : arg2.IsWhole) (arg3 : Memref sig .tc .vmem S688x512 .bf16) (harg3 : arg3.IsWhole) (arg4 : Memref sig .tc .vmem S688x512 .f32) (harg4 : arg4.IsWhole) (arg5 : Memref sig .tc .vmem S1x2x2816 .f32) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1024x2816 .bf16) (harg8 : arg8.IsWhole) (arg9 : Memref sig .tc .vmem S1024x2816 .bf16) (harg9 : arg9.IsWhole) (arg10 : Memref sig .tc .vmem S3x2816 .f32) (harg10 : arg10.IsWhole) (arg11 : Memref sig .tc .vmem S1x2816 .f32) (harg11 : arg11.IsWhole) (arg12 : Memref sig .tc .vmem S2816x1024 .bf16) (harg12 : arg12.IsWhole) (arg15 : Memref sig .tc .vmem S688x1024 .f32) (arg16 : Memref sig .tc .vmem S696x256 .f32) (arg17 : Memref sig .tc .vmem S2x2816 .f32) (x0 : Vec Ideal S688x1024 .f32) (x1 : Vec Ideal S688x512 .bf16) (x2 : Vec Ideal S688x512 .f32) (x3 : Vec Ideal S1x2x2816 .f32) (x4 : Vec Ideal S1024x1024 .bf16) (x5 : Vec Ideal S1x1024 .f32) (x6 : Vec Ideal S1024x2816 .bf16) (x7 : Vec Ideal S1024x2816 .bf16) (x8 : Vec Ideal S3x2816 .f32) (x9 : Vec Ideal S1x2816 .f32) (x10 : Vec Ideal S2816x1024 .bf16) :
    kernelRun0_A.sl.v445 (F := Ideal) c arg2 harg2 arg3 harg3 arg4 harg4 arg5 harg5 arg6 harg6 arg7 harg7 arg8 harg8 arg9 harg9 arg10 harg10 arg11 harg11 arg12 harg12 arg15 arg16 arg17 x0 x1 x2 x3 x4 x5 x6 x7 x8 x9 x10
      = step 5 (by decide) (kernelRun0_A.sl.r (F := Ideal) c arg2 harg2 arg3 harg3 arg4 harg4 arg6 harg6 arg7 harg7 x0 x1 x2 x4 x5) x6 x7 x8 x9 x10 (k0_pay2 (F := Ideal) x3)
        (kernelRun0_A.sl.v385 (F := Ideal) c arg2 harg2 arg3 harg3 arg4 harg4 arg5 harg5 arg6 harg6 arg7 harg7 arg8 harg8 arg9 harg9 arg10 harg10 arg11 harg11 arg12 harg12 arg15 arg16 arg17 x0 x1 x2 x3 x4 x5 x6 x7 x8 x9 x10) := by
  unfold kernelRun0_A.sl.v445 kernelRun0_A.sl.HS0_7
  rw [View.readCov_cons_unit_lit' _ _ _ _ _ (by decide) (by decide)]
  simp (disch := decide) only [kernelRun0_A.sl.HS1_12, kernelRun0_A.sl.HS2_1, kernelRun0_A.sl.HS2_2, kernelRun0_A.sl.HS2_3, kernelRun0_A.sl.HS2_4, kernelRun0_A.sl.HS2_5, kernelRun0_A.sl.HS2_6, kernelRun0_A.sl.r_21, kernelRun0_A.sl.r_22, kernelRun0_A.sl.r_23, kernelRun0_A.sl.r_24, kernelRun0_A.sl.v339, kernelRun0_A.sl.v350, kernelRun0_A.sl.v357, k0_pay12_id, k0_pay19_id, k0_pay28_id, k0_pay37_id, k0_pay44_id, k0_pay49_id, k0_pay50_id, rd6, rd7, skip, base, View.readAt_eq_ld, Memref.IsWhole.read_unread, View.ld_unit_lit']
  rfl

/-- Column tile 5's last two gate rows. -/
theorem tlA5 (c : Dev nD) (arg2 : Memref sig .tc .vmem S688x1024 .f32) (harg2 : arg2.IsWhole) (arg3 : Memref sig .tc .vmem S688x512 .bf16) (harg3 : arg3.IsWhole) (arg4 : Memref sig .tc .vmem S688x512 .f32) (harg4 : arg4.IsWhole) (arg5 : Memref sig .tc .vmem S1x2x2816 .f32) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1024x2816 .bf16) (harg8 : arg8.IsWhole) (arg16 : Memref sig .tc .vmem S696x256 .f32) (arg17 : Memref sig .tc .vmem S2x2816 .f32) (x0 : Vec Ideal S688x1024 .f32) (x1 : Vec Ideal S688x512 .bf16) (x2 : Vec Ideal S688x512 .f32) (x3 : Vec Ideal S1x2x2816 .f32) (x4 : Vec Ideal S1024x1024 .bf16) (x5 : Vec Ideal S1x1024 .f32) (x6 : Vec Ideal S1024x2816 .bf16) :
    kernelRun0_A.sl.v366 (F := Ideal) c arg2 harg2 arg3 harg3 arg4 harg4 arg5 harg5 arg6 harg6 arg7 harg7 arg8 harg8 arg16 arg17 x0 x1 x2 x3 x4 x5 x6
      = tl (gateT (kernelRun0_A.sl.r (F := Ideal) c arg2 harg2 arg3 harg3 arg4 harg4 arg6 harg6 arg7 harg7 x0 x1 x2 x4 x5) x6 5 (by decide)) := by
  simp only [kernelRun0_A.sl.HS1_12, kernelRun0_A.sl.v366, k0_pay49_id, k0_pay50_id, rd694, View.readAt_eq_ld, Memref.IsWhole.read_unread]
  rfl

/-- Column tile 6's step. -/
theorem accA6 (c : Dev nD) (arg2 : Memref sig .tc .vmem S688x1024 .f32) (harg2 : arg2.IsWhole) (arg3 : Memref sig .tc .vmem S688x512 .bf16) (harg3 : arg3.IsWhole) (arg4 : Memref sig .tc .vmem S688x512 .f32) (harg4 : arg4.IsWhole) (arg5 : Memref sig .tc .vmem S1x2x2816 .f32) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1024x2816 .bf16) (harg8 : arg8.IsWhole) (arg9 : Memref sig .tc .vmem S1024x2816 .bf16) (harg9 : arg9.IsWhole) (arg10 : Memref sig .tc .vmem S3x2816 .f32) (harg10 : arg10.IsWhole) (arg11 : Memref sig .tc .vmem S1x2816 .f32) (harg11 : arg11.IsWhole) (arg12 : Memref sig .tc .vmem S2816x1024 .bf16) (harg12 : arg12.IsWhole) (arg15 : Memref sig .tc .vmem S688x1024 .f32) (arg16 : Memref sig .tc .vmem S696x256 .f32) (arg17 : Memref sig .tc .vmem S2x2816 .f32) (x0 : Vec Ideal S688x1024 .f32) (x1 : Vec Ideal S688x512 .bf16) (x2 : Vec Ideal S688x512 .f32) (x3 : Vec Ideal S1x2x2816 .f32) (x4 : Vec Ideal S1024x1024 .bf16) (x5 : Vec Ideal S1x1024 .f32) (x6 : Vec Ideal S1024x2816 .bf16) (x7 : Vec Ideal S1024x2816 .bf16) (x8 : Vec Ideal S3x2816 .f32) (x9 : Vec Ideal S1x2816 .f32) (x10 : Vec Ideal S2816x1024 .bf16) :
    kernelRun0_A.sl.v505 (F := Ideal) c arg2 harg2 arg3 harg3 arg4 harg4 arg5 harg5 arg6 harg6 arg7 harg7 arg8 harg8 arg9 harg9 arg10 harg10 arg11 harg11 arg12 harg12 arg15 arg16 arg17 x0 x1 x2 x3 x4 x5 x6 x7 x8 x9 x10
      = step 6 (by decide) (kernelRun0_A.sl.r (F := Ideal) c arg2 harg2 arg3 harg3 arg4 harg4 arg6 harg6 arg7 harg7 x0 x1 x2 x4 x5) x6 x7 x8 x9 x10 (k0_pay2 (F := Ideal) x3)
        (kernelRun0_A.sl.v445 (F := Ideal) c arg2 harg2 arg3 harg3 arg4 harg4 arg5 harg5 arg6 harg6 arg7 harg7 arg8 harg8 arg9 harg9 arg10 harg10 arg11 harg11 arg12 harg12 arg15 arg16 arg17 x0 x1 x2 x3 x4 x5 x6 x7 x8 x9 x10) := by
  unfold kernelRun0_A.sl.v505 kernelRun0_A.sl.HS0_8
  rw [View.readCov_cons_unit_lit' _ _ _ _ _ (by decide) (by decide)]
  simp (disch := decide) only [kernelRun0_A.sl.HS1_14, kernelRun0_A.sl.HS2_1, kernelRun0_A.sl.HS2_2, kernelRun0_A.sl.HS2_3, kernelRun0_A.sl.HS2_4, kernelRun0_A.sl.HS2_5, kernelRun0_A.sl.HS2_6, kernelRun0_A.sl.HS2_7, kernelRun0_A.sl.r_25, kernelRun0_A.sl.r_26, kernelRun0_A.sl.r_27, kernelRun0_A.sl.r_28, kernelRun0_A.sl.v399, kernelRun0_A.sl.v410, kernelRun0_A.sl.v417, k0_pay12_id, k0_pay19_id, k0_pay28_id, k0_pay37_id, k0_pay44_id, k0_pay51_id, k0_pay56_id, k0_pay57_id, rd6, rd7, skip, base, View.readAt_eq_ld, Memref.IsWhole.read_unread, View.ld_unit_lit']
  rfl

/-- Column tile 6's last two gate rows. -/
theorem tlA6 (c : Dev nD) (arg2 : Memref sig .tc .vmem S688x1024 .f32) (harg2 : arg2.IsWhole) (arg3 : Memref sig .tc .vmem S688x512 .bf16) (harg3 : arg3.IsWhole) (arg4 : Memref sig .tc .vmem S688x512 .f32) (harg4 : arg4.IsWhole) (arg5 : Memref sig .tc .vmem S1x2x2816 .f32) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1024x2816 .bf16) (harg8 : arg8.IsWhole) (arg16 : Memref sig .tc .vmem S696x256 .f32) (arg17 : Memref sig .tc .vmem S2x2816 .f32) (x0 : Vec Ideal S688x1024 .f32) (x1 : Vec Ideal S688x512 .bf16) (x2 : Vec Ideal S688x512 .f32) (x3 : Vec Ideal S1x2x2816 .f32) (x4 : Vec Ideal S1024x1024 .bf16) (x5 : Vec Ideal S1x1024 .f32) (x6 : Vec Ideal S1024x2816 .bf16) :
    kernelRun0_A.sl.v426 (F := Ideal) c arg2 harg2 arg3 harg3 arg4 harg4 arg5 harg5 arg6 harg6 arg7 harg7 arg8 harg8 arg16 arg17 x0 x1 x2 x3 x4 x5 x6
      = tl (gateT (kernelRun0_A.sl.r (F := Ideal) c arg2 harg2 arg3 harg3 arg4 harg4 arg6 harg6 arg7 harg7 x0 x1 x2 x4 x5) x6 6 (by decide)) := by
  simp only [kernelRun0_A.sl.HS1_14, kernelRun0_A.sl.v426, k0_pay56_id, k0_pay57_id, rd694, View.readAt_eq_ld, Memref.IsWhole.read_unread]
  rfl

/-- Column tile 7's step. -/
theorem accA7 (c : Dev nD) (arg2 : Memref sig .tc .vmem S688x1024 .f32) (harg2 : arg2.IsWhole) (arg3 : Memref sig .tc .vmem S688x512 .bf16) (harg3 : arg3.IsWhole) (arg4 : Memref sig .tc .vmem S688x512 .f32) (harg4 : arg4.IsWhole) (arg5 : Memref sig .tc .vmem S1x2x2816 .f32) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1024x2816 .bf16) (harg8 : arg8.IsWhole) (arg9 : Memref sig .tc .vmem S1024x2816 .bf16) (harg9 : arg9.IsWhole) (arg10 : Memref sig .tc .vmem S3x2816 .f32) (harg10 : arg10.IsWhole) (arg11 : Memref sig .tc .vmem S1x2816 .f32) (harg11 : arg11.IsWhole) (arg12 : Memref sig .tc .vmem S2816x1024 .bf16) (harg12 : arg12.IsWhole) (arg15 : Memref sig .tc .vmem S688x1024 .f32) (arg16 : Memref sig .tc .vmem S696x256 .f32) (arg17 : Memref sig .tc .vmem S2x2816 .f32) (x0 : Vec Ideal S688x1024 .f32) (x1 : Vec Ideal S688x512 .bf16) (x2 : Vec Ideal S688x512 .f32) (x3 : Vec Ideal S1x2x2816 .f32) (x4 : Vec Ideal S1024x1024 .bf16) (x5 : Vec Ideal S1x1024 .f32) (x6 : Vec Ideal S1024x2816 .bf16) (x7 : Vec Ideal S1024x2816 .bf16) (x8 : Vec Ideal S3x2816 .f32) (x9 : Vec Ideal S1x2816 .f32) (x10 : Vec Ideal S2816x1024 .bf16) :
    kernelRun0_A.sl.v565 (F := Ideal) c arg2 harg2 arg3 harg3 arg4 harg4 arg5 harg5 arg6 harg6 arg7 harg7 arg8 harg8 arg9 harg9 arg10 harg10 arg11 harg11 arg12 harg12 arg15 arg16 arg17 x0 x1 x2 x3 x4 x5 x6 x7 x8 x9 x10
      = step 7 (by decide) (kernelRun0_A.sl.r (F := Ideal) c arg2 harg2 arg3 harg3 arg4 harg4 arg6 harg6 arg7 harg7 x0 x1 x2 x4 x5) x6 x7 x8 x9 x10 (k0_pay2 (F := Ideal) x3)
        (kernelRun0_A.sl.v505 (F := Ideal) c arg2 harg2 arg3 harg3 arg4 harg4 arg5 harg5 arg6 harg6 arg7 harg7 arg8 harg8 arg9 harg9 arg10 harg10 arg11 harg11 arg12 harg12 arg15 arg16 arg17 x0 x1 x2 x3 x4 x5 x6 x7 x8 x9 x10) := by
  unfold kernelRun0_A.sl.v565 kernelRun0_A.sl.HS0_9
  rw [View.readCov_cons_unit_lit' _ _ _ _ _ (by decide) (by decide)]
  simp (disch := decide) only [kernelRun0_A.sl.HS1_16, kernelRun0_A.sl.HS2_1, kernelRun0_A.sl.HS2_2, kernelRun0_A.sl.HS2_3, kernelRun0_A.sl.HS2_4, kernelRun0_A.sl.HS2_5, kernelRun0_A.sl.HS2_6, kernelRun0_A.sl.HS2_7, kernelRun0_A.sl.HS2_8, kernelRun0_A.sl.r_29, kernelRun0_A.sl.r_30, kernelRun0_A.sl.r_31, kernelRun0_A.sl.v459, kernelRun0_A.sl.v470, kernelRun0_A.sl.v477, k0_pay12_id, k0_pay19_id, k0_pay28_id, k0_pay37_id, k0_pay44_id, k0_pay51_id, k0_pay60_id, k0_pay65_id, k0_pay66_id, rd6, rd7, skip, base, View.readAt_eq_ld, Memref.IsWhole.read_unread, View.ld_unit_lit']
  rfl

/-- Column tile 7's last two gate rows. -/
theorem tlA7 (c : Dev nD) (arg2 : Memref sig .tc .vmem S688x1024 .f32) (harg2 : arg2.IsWhole) (arg3 : Memref sig .tc .vmem S688x512 .bf16) (harg3 : arg3.IsWhole) (arg4 : Memref sig .tc .vmem S688x512 .f32) (harg4 : arg4.IsWhole) (arg5 : Memref sig .tc .vmem S1x2x2816 .f32) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1024x2816 .bf16) (harg8 : arg8.IsWhole) (arg16 : Memref sig .tc .vmem S696x256 .f32) (arg17 : Memref sig .tc .vmem S2x2816 .f32) (x0 : Vec Ideal S688x1024 .f32) (x1 : Vec Ideal S688x512 .bf16) (x2 : Vec Ideal S688x512 .f32) (x3 : Vec Ideal S1x2x2816 .f32) (x4 : Vec Ideal S1024x1024 .bf16) (x5 : Vec Ideal S1x1024 .f32) (x6 : Vec Ideal S1024x2816 .bf16) :
    kernelRun0_A.sl.v486 (F := Ideal) c arg2 harg2 arg3 harg3 arg4 harg4 arg5 harg5 arg6 harg6 arg7 harg7 arg8 harg8 arg16 arg17 x0 x1 x2 x3 x4 x5 x6
      = tl (gateT (kernelRun0_A.sl.r (F := Ideal) c arg2 harg2 arg3 harg3 arg4 harg4 arg6 harg6 arg7 harg7 x0 x1 x2 x4 x5) x6 7 (by decide)) := by
  simp only [kernelRun0_A.sl.HS1_16, kernelRun0_A.sl.r_29, kernelRun0_A.sl.v486, k0_pay65_id, k0_pay66_id, rd694, View.readAt_eq_ld, Memref.IsWhole.read_unread]
  rfl

/-- Column tile 8's step. -/
theorem accA8 (c : Dev nD) (arg2 : Memref sig .tc .vmem S688x1024 .f32) (harg2 : arg2.IsWhole) (arg3 : Memref sig .tc .vmem S688x512 .bf16) (harg3 : arg3.IsWhole) (arg4 : Memref sig .tc .vmem S688x512 .f32) (harg4 : arg4.IsWhole) (arg5 : Memref sig .tc .vmem S1x2x2816 .f32) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1024x2816 .bf16) (harg8 : arg8.IsWhole) (arg9 : Memref sig .tc .vmem S1024x2816 .bf16) (harg9 : arg9.IsWhole) (arg10 : Memref sig .tc .vmem S3x2816 .f32) (harg10 : arg10.IsWhole) (arg11 : Memref sig .tc .vmem S1x2816 .f32) (harg11 : arg11.IsWhole) (arg12 : Memref sig .tc .vmem S2816x1024 .bf16) (harg12 : arg12.IsWhole) (arg15 : Memref sig .tc .vmem S688x1024 .f32) (arg16 : Memref sig .tc .vmem S696x256 .f32) (arg17 : Memref sig .tc .vmem S2x2816 .f32) (x0 : Vec Ideal S688x1024 .f32) (x1 : Vec Ideal S688x512 .bf16) (x2 : Vec Ideal S688x512 .f32) (x3 : Vec Ideal S1x2x2816 .f32) (x4 : Vec Ideal S1024x1024 .bf16) (x5 : Vec Ideal S1x1024 .f32) (x6 : Vec Ideal S1024x2816 .bf16) (x7 : Vec Ideal S1024x2816 .bf16) (x8 : Vec Ideal S3x2816 .f32) (x9 : Vec Ideal S1x2816 .f32) (x10 : Vec Ideal S2816x1024 .bf16) :
    kernelRun0_A.sl.v625 (F := Ideal) c arg2 harg2 arg3 harg3 arg4 harg4 arg5 harg5 arg6 harg6 arg7 harg7 arg8 harg8 arg9 harg9 arg10 harg10 arg11 harg11 arg12 harg12 arg15 arg16 arg17 x0 x1 x2 x3 x4 x5 x6 x7 x8 x9 x10
      = step 8 (by decide) (kernelRun0_A.sl.r (F := Ideal) c arg2 harg2 arg3 harg3 arg4 harg4 arg6 harg6 arg7 harg7 x0 x1 x2 x4 x5) x6 x7 x8 x9 x10 (k0_pay2 (F := Ideal) x3)
        (kernelRun0_A.sl.v565 (F := Ideal) c arg2 harg2 arg3 harg3 arg4 harg4 arg5 harg5 arg6 harg6 arg7 harg7 arg8 harg8 arg9 harg9 arg10 harg10 arg11 harg11 arg12 harg12 arg15 arg16 arg17 x0 x1 x2 x3 x4 x5 x6 x7 x8 x9 x10) := by
  unfold kernelRun0_A.sl.v625 kernelRun0_A.sl.HS0_10
  rw [View.readCov_cons_unit_lit' _ _ _ _ _ (by decide) (by decide)]
  simp (disch := decide) only [kernelRun0_A.sl.HS1_18, kernelRun0_A.sl.HS2_1, kernelRun0_A.sl.HS2_2, kernelRun0_A.sl.HS2_3, kernelRun0_A.sl.HS2_4, kernelRun0_A.sl.HS2_5, kernelRun0_A.sl.HS2_6, kernelRun0_A.sl.HS2_7, kernelRun0_A.sl.HS2_8, kernelRun0_A.sl.HS2_9, kernelRun0_A.sl.r_32, kernelRun0_A.sl.r_33, kernelRun0_A.sl.r_34, kernelRun0_A.sl.r_35, kernelRun0_A.sl.v519, kernelRun0_A.sl.v530, kernelRun0_A.sl.v537, k0_pay12_id, k0_pay19_id, k0_pay28_id, k0_pay37_id, k0_pay44_id, k0_pay51_id, k0_pay60_id, k0_pay68_id, k0_pay72_id, k0_pay73_id, rd6, rd7, skip, base, View.readAt_eq_ld, Memref.IsWhole.read_unread, View.ld_unit_lit']
  rfl

/-- Column tile 8's last two gate rows. -/
theorem tlA8 (c : Dev nD) (arg2 : Memref sig .tc .vmem S688x1024 .f32) (harg2 : arg2.IsWhole) (arg3 : Memref sig .tc .vmem S688x512 .bf16) (harg3 : arg3.IsWhole) (arg4 : Memref sig .tc .vmem S688x512 .f32) (harg4 : arg4.IsWhole) (arg5 : Memref sig .tc .vmem S1x2x2816 .f32) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1024x2816 .bf16) (harg8 : arg8.IsWhole) (arg16 : Memref sig .tc .vmem S696x256 .f32) (arg17 : Memref sig .tc .vmem S2x2816 .f32) (x0 : Vec Ideal S688x1024 .f32) (x1 : Vec Ideal S688x512 .bf16) (x2 : Vec Ideal S688x512 .f32) (x3 : Vec Ideal S1x2x2816 .f32) (x4 : Vec Ideal S1024x1024 .bf16) (x5 : Vec Ideal S1x1024 .f32) (x6 : Vec Ideal S1024x2816 .bf16) :
    kernelRun0_A.sl.v546 (F := Ideal) c arg2 harg2 arg3 harg3 arg4 harg4 arg5 harg5 arg6 harg6 arg7 harg7 arg8 harg8 arg16 arg17 x0 x1 x2 x3 x4 x5 x6
      = tl (gateT (kernelRun0_A.sl.r (F := Ideal) c arg2 harg2 arg3 harg3 arg4 harg4 arg6 harg6 arg7 harg7 x0 x1 x2 x4 x5) x6 8 (by decide)) := by
  simp only [kernelRun0_A.sl.HS1_18, kernelRun0_A.sl.r_32, kernelRun0_A.sl.v546, k0_pay72_id, k0_pay73_id, rd694, View.readAt_eq_ld, Memref.IsWhole.read_unread]
  rfl

/-- Column tile 9's step. -/
theorem accA9 (c : Dev nD) (arg2 : Memref sig .tc .vmem S688x1024 .f32) (harg2 : arg2.IsWhole) (arg3 : Memref sig .tc .vmem S688x512 .bf16) (harg3 : arg3.IsWhole) (arg4 : Memref sig .tc .vmem S688x512 .f32) (harg4 : arg4.IsWhole) (arg5 : Memref sig .tc .vmem S1x2x2816 .f32) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1024x2816 .bf16) (harg8 : arg8.IsWhole) (arg9 : Memref sig .tc .vmem S1024x2816 .bf16) (harg9 : arg9.IsWhole) (arg10 : Memref sig .tc .vmem S3x2816 .f32) (harg10 : arg10.IsWhole) (arg11 : Memref sig .tc .vmem S1x2816 .f32) (harg11 : arg11.IsWhole) (arg12 : Memref sig .tc .vmem S2816x1024 .bf16) (harg12 : arg12.IsWhole) (arg15 : Memref sig .tc .vmem S688x1024 .f32) (arg16 : Memref sig .tc .vmem S696x256 .f32) (arg17 : Memref sig .tc .vmem S2x2816 .f32) (x0 : Vec Ideal S688x1024 .f32) (x1 : Vec Ideal S688x512 .bf16) (x2 : Vec Ideal S688x512 .f32) (x3 : Vec Ideal S1x2x2816 .f32) (x4 : Vec Ideal S1024x1024 .bf16) (x5 : Vec Ideal S1x1024 .f32) (x6 : Vec Ideal S1024x2816 .bf16) (x7 : Vec Ideal S1024x2816 .bf16) (x8 : Vec Ideal S3x2816 .f32) (x9 : Vec Ideal S1x2816 .f32) (x10 : Vec Ideal S2816x1024 .bf16) :
    kernelRun0_A.sl.v685 (F := Ideal) c arg2 harg2 arg3 harg3 arg4 harg4 arg5 harg5 arg6 harg6 arg7 harg7 arg8 harg8 arg9 harg9 arg10 harg10 arg11 harg11 arg12 harg12 arg15 arg16 arg17 x0 x1 x2 x3 x4 x5 x6 x7 x8 x9 x10
      = step 9 (by decide) (kernelRun0_A.sl.r (F := Ideal) c arg2 harg2 arg3 harg3 arg4 harg4 arg6 harg6 arg7 harg7 x0 x1 x2 x4 x5) x6 x7 x8 x9 x10 (k0_pay2 (F := Ideal) x3)
        (kernelRun0_A.sl.v625 (F := Ideal) c arg2 harg2 arg3 harg3 arg4 harg4 arg5 harg5 arg6 harg6 arg7 harg7 arg8 harg8 arg9 harg9 arg10 harg10 arg11 harg11 arg12 harg12 arg15 arg16 arg17 x0 x1 x2 x3 x4 x5 x6 x7 x8 x9 x10) := by
  unfold kernelRun0_A.sl.v685 kernelRun0_A.sl.HS0_11
  rw [View.readCov_cons_unit_lit' _ _ _ _ _ (by decide) (by decide)]
  simp (disch := decide) only [kernelRun0_A.sl.HS1_20, kernelRun0_A.sl.HS2_1, kernelRun0_A.sl.HS2_10, kernelRun0_A.sl.HS2_2, kernelRun0_A.sl.HS2_3, kernelRun0_A.sl.HS2_4, kernelRun0_A.sl.HS2_5, kernelRun0_A.sl.HS2_6, kernelRun0_A.sl.HS2_7, kernelRun0_A.sl.HS2_8, kernelRun0_A.sl.HS2_9, kernelRun0_A.sl.r_36, kernelRun0_A.sl.r_37, kernelRun0_A.sl.r_38, kernelRun0_A.sl.r_39, kernelRun0_A.sl.r_40, kernelRun0_A.sl.v579, kernelRun0_A.sl.v590, kernelRun0_A.sl.v597, k0_pay12_id, k0_pay19_id, k0_pay28_id, k0_pay37_id, k0_pay44_id, k0_pay51_id, k0_pay60_id, k0_pay68_id, k0_pay75_id, k0_pay80_id, k0_pay81_id, rd6, rd7, skip, base, View.readAt_eq_ld, Memref.IsWhole.read_unread, View.ld_unit_lit']
  rfl

/-- Column tile 9's last two gate rows. -/
theorem tlA9 (c : Dev nD) (arg2 : Memref sig .tc .vmem S688x1024 .f32) (harg2 : arg2.IsWhole) (arg3 : Memref sig .tc .vmem S688x512 .bf16) (harg3 : arg3.IsWhole) (arg4 : Memref sig .tc .vmem S688x512 .f32) (harg4 : arg4.IsWhole) (arg5 : Memref sig .tc .vmem S1x2x2816 .f32) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1024x2816 .bf16) (harg8 : arg8.IsWhole) (arg16 : Memref sig .tc .vmem S696x256 .f32) (arg17 : Memref sig .tc .vmem S2x2816 .f32) (x0 : Vec Ideal S688x1024 .f32) (x1 : Vec Ideal S688x512 .bf16) (x2 : Vec Ideal S688x512 .f32) (x3 : Vec Ideal S1x2x2816 .f32) (x4 : Vec Ideal S1024x1024 .bf16) (x5 : Vec Ideal S1x1024 .f32) (x6 : Vec Ideal S1024x2816 .bf16) :
    kernelRun0_A.sl.v606 (F := Ideal) c arg2 harg2 arg3 harg3 arg4 harg4 arg5 harg5 arg6 harg6 arg7 harg7 arg8 harg8 arg16 arg17 x0 x1 x2 x3 x4 x5 x6
      = tl (gateT (kernelRun0_A.sl.r (F := Ideal) c arg2 harg2 arg3 harg3 arg4 harg4 arg6 harg6 arg7 harg7 x0 x1 x2 x4 x5) x6 9 (by decide)) := by
  simp only [kernelRun0_A.sl.HS1_20, kernelRun0_A.sl.v606, k0_pay80_id, k0_pay81_id, rd694, View.readAt_eq_ld, Memref.IsWhole.read_unread]
  rfl

/-- Column tile 10's step. -/
theorem accA10 (c : Dev nD) (arg2 : Memref sig .tc .vmem S688x1024 .f32) (harg2 : arg2.IsWhole) (arg3 : Memref sig .tc .vmem S688x512 .bf16) (harg3 : arg3.IsWhole) (arg4 : Memref sig .tc .vmem S688x512 .f32) (harg4 : arg4.IsWhole) (arg5 : Memref sig .tc .vmem S1x2x2816 .f32) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1024x2816 .bf16) (harg8 : arg8.IsWhole) (arg9 : Memref sig .tc .vmem S1024x2816 .bf16) (harg9 : arg9.IsWhole) (arg10 : Memref sig .tc .vmem S3x2816 .f32) (harg10 : arg10.IsWhole) (arg11 : Memref sig .tc .vmem S1x2816 .f32) (harg11 : arg11.IsWhole) (arg12 : Memref sig .tc .vmem S2816x1024 .bf16) (harg12 : arg12.IsWhole) (arg15 : Memref sig .tc .vmem S688x1024 .f32) (arg16 : Memref sig .tc .vmem S696x256 .f32) (arg17 : Memref sig .tc .vmem S2x2816 .f32) (x0 : Vec Ideal S688x1024 .f32) (x1 : Vec Ideal S688x512 .bf16) (x2 : Vec Ideal S688x512 .f32) (x3 : Vec Ideal S1x2x2816 .f32) (x4 : Vec Ideal S1024x1024 .bf16) (x5 : Vec Ideal S1x1024 .f32) (x6 : Vec Ideal S1024x2816 .bf16) (x7 : Vec Ideal S1024x2816 .bf16) (x8 : Vec Ideal S3x2816 .f32) (x9 : Vec Ideal S1x2816 .f32) (x10 : Vec Ideal S2816x1024 .bf16) :
    kernelRun0_A.sl.v693 (F := Ideal) c arg2 harg2 arg3 harg3 arg4 harg4 arg5 harg5 arg6 harg6 arg7 harg7 arg8 harg8 arg9 harg9 arg10 harg10 arg11 harg11 arg12 harg12 arg15 arg16 arg17 x0 x1 x2 x3 x4 x5 x6 x7 x8 x9 x10
      = step 10 (by decide) (kernelRun0_A.sl.r (F := Ideal) c arg2 harg2 arg3 harg3 arg4 harg4 arg6 harg6 arg7 harg7 x0 x1 x2 x4 x5) x6 x7 x8 x9 x10 (k0_pay2 (F := Ideal) x3)
        (kernelRun0_A.sl.v685 (F := Ideal) c arg2 harg2 arg3 harg3 arg4 harg4 arg5 harg5 arg6 harg6 arg7 harg7 arg8 harg8 arg9 harg9 arg10 harg10 arg11 harg11 arg12 harg12 arg15 arg16 arg17 x0 x1 x2 x3 x4 x5 x6 x7 x8 x9 x10) := by
  unfold kernelRun0_A.sl.v693 kernelRun0_A.sl.HS0_12
  rw [View.readCov_cons_unit_lit' _ _ _ _ _ (by decide) (by decide)]
  simp (disch := decide) only [kernelRun0_A.sl.HS1_22, kernelRun0_A.sl.HS2_1, kernelRun0_A.sl.HS2_10, kernelRun0_A.sl.HS2_11, kernelRun0_A.sl.HS2_2, kernelRun0_A.sl.HS2_3, kernelRun0_A.sl.HS2_4, kernelRun0_A.sl.HS2_5, kernelRun0_A.sl.HS2_6, kernelRun0_A.sl.HS2_7, kernelRun0_A.sl.HS2_8, kernelRun0_A.sl.HS2_9, kernelRun0_A.sl.r_41, kernelRun0_A.sl.r_42, kernelRun0_A.sl.r_43, kernelRun0_A.sl.r_44, kernelRun0_A.sl.v639, kernelRun0_A.sl.v650, kernelRun0_A.sl.v657, k0_pay12_id, k0_pay19_id, k0_pay28_id, k0_pay37_id, k0_pay44_id, k0_pay51_id, k0_pay60_id, k0_pay68_id, k0_pay75_id, k0_pay84_id, k0_pay89_id, k0_pay90_id, rd6, rd7, skip, base, View.readAt_eq_ld, Memref.IsWhole.read_unread, View.ld_unit_lit']
  rfl

/-- Column tile 10's last two gate rows. -/
theorem tlA10 (c : Dev nD) (arg2 : Memref sig .tc .vmem S688x1024 .f32) (harg2 : arg2.IsWhole) (arg3 : Memref sig .tc .vmem S688x512 .bf16) (harg3 : arg3.IsWhole) (arg4 : Memref sig .tc .vmem S688x512 .f32) (harg4 : arg4.IsWhole) (arg5 : Memref sig .tc .vmem S1x2x2816 .f32) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1024x2816 .bf16) (harg8 : arg8.IsWhole) (arg16 : Memref sig .tc .vmem S696x256 .f32) (arg17 : Memref sig .tc .vmem S2x2816 .f32) (x0 : Vec Ideal S688x1024 .f32) (x1 : Vec Ideal S688x512 .bf16) (x2 : Vec Ideal S688x512 .f32) (x3 : Vec Ideal S1x2x2816 .f32) (x4 : Vec Ideal S1024x1024 .bf16) (x5 : Vec Ideal S1x1024 .f32) (x6 : Vec Ideal S1024x2816 .bf16) :
    kernelRun0_A.sl.v666 (F := Ideal) c arg2 harg2 arg3 harg3 arg4 harg4 arg5 harg5 arg6 harg6 arg7 harg7 arg8 harg8 arg16 arg17 x0 x1 x2 x3 x4 x5 x6
      = tl (gateT (kernelRun0_A.sl.r (F := Ideal) c arg2 harg2 arg3 harg3 arg4 harg4 arg6 harg6 arg7 harg7 x0 x1 x2 x4 x5) x6 10 (by decide)) := by
  simp only [kernelRun0_A.sl.HS1_22, kernelRun0_A.sl.v666, k0_pay89_id, k0_pay90_id, rd694, View.readAt_eq_ld, Memref.IsWhole.read_unread]
  rfl

/-- The normed block. -/
theorem xnA (c : Dev nD) (arg2 : Memref sig .tc .vmem S688x1024 .f32) (harg2 : arg2.IsWhole) (arg3 : Memref sig .tc .vmem S688x512 .bf16) (harg3 : arg3.IsWhole) (arg4 : Memref sig .tc .vmem S688x512 .f32) (harg4 : arg4.IsWhole) (arg6 : Memref sig .tc .vmem S1024x1024 .bf16) (harg6 : arg6.IsWhole) (arg7 : Memref sig .tc .vmem S1x1024 .f32) (harg7 : arg7.IsWhole) (x0 : Vec Ideal S688x1024 .f32) (x1 : Vec Ideal S688x512 .bf16) (x2 : Vec Ideal S688x512 .f32) (x4 : Vec Ideal S1024x1024 .bf16) (x5 : Vec Ideal S1x1024 .f32) :
    kernelRun0_A.sl.r (F := Ideal) c arg2 harg2 arg3 harg3 arg4 harg4 arg6 harg6 arg7 harg7 x0 x1 x2 x4 x5 = k0_pay4 (F := Ideal) x1 x2 x0 x4 x5 := by
  simp (disch := decide) only [kernelRun0_A.sl.r, View.readAt_eq_ld, Memref.IsWhole.read_unread, View.ld_unit_lit']

/-- The mixed block, stored first. -/
theorem acc0A (c : Dev nD) (arg2 : Memref sig .tc .vmem S688x1024 .f32) (harg2 : arg2.IsWhole) (arg3 : Memref sig .tc .vmem S688x512 .bf16) (harg3 : arg3.IsWhole) (arg4 : Memref sig .tc .vmem S688x512 .f32) (harg4 : arg4.IsWhole) (arg6 : Memref sig .tc .vmem S1024x1024 .bf16) (harg6 : arg6.IsWhole) (arg15 : Memref sig .tc .vmem S688x1024 .f32) (x0 : Vec Ideal S688x1024 .f32) (x1 : Vec Ideal S688x512 .bf16) (x2 : Vec Ideal S688x512 .f32) (x4 : Vec Ideal S1024x1024 .bf16) :
    kernelRun0_A.sl.v85 (F := Ideal) c arg2 harg2 arg3 harg3 arg4 harg4 arg6 harg6 arg15 x0 x1 x2 x4 = k0_pay3 (F := Ideal) x1 x2 x0 x4 := by
  simp (disch := decide) only [kernelRun0_A.sl.v85, kernelRun0_A.sl.HS0_1, View.readCov_unit_lit', k0_pay5_id, View.readAt_eq_ld, Memref.IsWhole.read_unread, View.ld_unit_lit']

/-- The whole block at an index. -/
theorem outA (c : Dev nD) (arg2 : Memref sig .tc .vmem S688x1024 .f32) (harg2 : arg2.IsWhole) (arg3 : Memref sig .tc .vmem S688x512 .bf16) (harg3 : arg3.IsWhole) (arg4 : Memref sig .tc .vmem S688x512 .f32) (harg4 : arg4.IsWhole) (arg5 : Memref sig .tc .vmem S1x2x2816 .f32) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1024x2816 .bf16) (harg8 : arg8.IsWhole) (arg9 : Memref sig .tc .vmem S1024x2816 .bf16) (harg9 : arg9.IsWhole) (arg10 : Memref sig .tc .vmem S3x2816 .f32) (harg10 : arg10.IsWhole) (arg11 : Memref sig .tc .vmem S1x2816 .f32) (harg11 : arg11.IsWhole) (arg12 : Memref sig .tc .vmem S2816x1024 .bf16) (harg12 : arg12.IsWhole) (arg15 : Memref sig .tc .vmem S688x1024 .f32) (arg16 : Memref sig .tc .vmem S696x256 .f32) (arg17 : Memref sig .tc .vmem S2x2816 .f32) (x0 : Vec Ideal S688x1024 .f32) (x1 : Vec Ideal S688x512 .bf16) (x2 : Vec Ideal S688x512 .f32) (x3 : Vec Ideal S1x2x2816 .f32) (x4 : Vec Ideal S1024x1024 .bf16) (x5 : Vec Ideal S1x1024 .f32) (x6 : Vec Ideal S1024x2816 .bf16) (x7 : Vec Ideal S1024x2816 .bf16) (x8 : Vec Ideal S3x2816 .f32) (x9 : Vec Ideal S1x2816 .f32) (x10 : Vec Ideal S2816x1024 .bf16) (i : Fin 688) (d : Fin 1024) :
    (kernelRun0_A.sl.v693 (F := Ideal) c arg2 harg2 arg3 harg3 arg4 harg4 arg5 harg5 arg6 harg6 arg7 harg7 arg8 harg8 arg9 harg9 arg10 harg10 arg11 harg11 arg12 harg12 arg15 arg16 arg17 x0 x1 x2 x3 x4 x5 x6 x7 x8 x9 x10 (ix2 i d) : EReal)
      = k0_pay3 (F := Ideal) x1 x2 x0 x4 (ix2 i d)
        + ∑ n : Fin 2816, hidB (k0_pay4 (F := Ideal) x1 x2 x0 x4 x5) x6 x7 x8 x9 (k0_pay2 (F := Ideal) x3) i n * x10 (ix2 n d) := by
  rw [tiles, accA10, step_at, accA9, step_at, accA8, step_at, accA7, step_at, accA6, step_at, accA5, step_at, accA4, step_at, accA3, step_at, accA2, step_at, accA1, step_at, accA0, step_at, acc0A, xnA]

/-- The two rows carried on, at an index. -/
theorem histA (c : Dev nD) (arg2 : Memref sig .tc .vmem S688x1024 .f32) (harg2 : arg2.IsWhole) (arg3 : Memref sig .tc .vmem S688x512 .bf16) (harg3 : arg3.IsWhole) (arg4 : Memref sig .tc .vmem S688x512 .f32) (harg4 : arg4.IsWhole) (arg5 : Memref sig .tc .vmem S1x2x2816 .f32) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1024x2816 .bf16) (harg8 : arg8.IsWhole) (arg16 : Memref sig .tc .vmem S696x256 .f32) (arg17 : Memref sig .tc .vmem S2x2816 .f32) (x0 : Vec Ideal S688x1024 .f32) (x1 : Vec Ideal S688x512 .bf16) (x2 : Vec Ideal S688x512 .f32) (x3 : Vec Ideal S1x2x2816 .f32) (x4 : Vec Ideal S1024x1024 .bf16) (x5 : Vec Ideal S1x1024 .f32) (x6 : Vec Ideal S1024x2816 .bf16) (i : Fin 2) (n : Fin 2816) :
    (kernelRun0_A.sl.v695 (F := Ideal) c arg2 harg2 arg3 harg3 arg4 harg4 arg5 harg5 arg6 harg6 arg7 harg7 arg8 harg8 arg16 arg17 x0 x1 x2 x3 x4 x5 x6 (ix2 i n) : EReal)
      = rowDot (k0_pay4 (F := Ideal) x1 x2 x0 x4 x5) x6 ⟨686 + i.val, by have := i.isLt; omega⟩ n := by
  rw [← xnA c arg2 harg2 arg3 harg3 arg4 harg4 arg6 harg6 arg7 harg7 x0 x1 x2 x4 x5]
  unfold kernelRun0_A.sl.v695 kernelRun0_A.sl.HS2_12 kernelRun0_A.sl.HS2_11 kernelRun0_A.sl.HS2_10 kernelRun0_A.sl.HS2_9 kernelRun0_A.sl.HS2_8 kernelRun0_A.sl.HS2_7 kernelRun0_A.sl.HS2_6 kernelRun0_A.sl.HS2_5 kernelRun0_A.sl.HS2_4 kernelRun0_A.sl.HS2_3 kernelRun0_A.sl.HS2_2
  rw [View.readCov_eq_canon']
  simp only [k0_pay12_id, k0_pay19_id, k0_pay28_id, k0_pay37_id, k0_pay44_id, k0_pay51_id, k0_pay60_id, k0_pay68_id, k0_pay75_id, k0_pay84_id, k0_pay92_id, tlA0, tlA1, tlA2, tlA3, tlA4, tlA5, tlA6, tlA7, tlA8, tlA9, tlA10]
  refine (congrArg _ (show (Rect.unit (s := S2x2816) ![0, 0] S2x2816.size inb_S2x2816_S2x2816_0_0).toLoadRect.idx (ix2 i n) = ix2 i n from
    funext fun a => Fin.ext (by revert a; exact Fin.forall_fin_two.mpr ⟨by show 0 + 1 * i.val = i.val; omega, by show 0 + 1 * n.val = n.val; omega⟩))).trans ?_
  exact peel _ x6 10 (by decide) 2560 (by decide) _ _
    (peel _ x6 9 (by decide) 2304 (by decide) _ _
    (peel _ x6 8 (by decide) 2048 (by decide) _ _
    (peel _ x6 7 (by decide) 1792 (by decide) _ _
    (peel _ x6 6 (by decide) 1536 (by decide) _ _
    (peel _ x6 5 (by decide) 1280 (by decide) _ _
    (peel _ x6 4 (by decide) 1024 (by decide) _ _
    (peel _ x6 3 (by decide) 768 (by decide) _ _
    (peel _ x6 2 (by decide) 512 (by decide) _ _
    (peel _ x6 1 (by decide) 256 (by decide) _ _
    (peel _ x6 0 (by decide) 0 (by decide) _ _
    (fun i c hc => absurd hc (by omega)))))))))))) i n (by have := n.isLt; omega)

end Cert.PostIdeal.Pure
-- ==== Proof.PostRunB.lean ====
/-
  The output block's run, the case B: each column tile's step, the whole block and the rows carried on.
-/
module

public import proofs.«01_k».proof.Proof.PostPure
public import proofs.«01_k».proof.Proof.Gen.PostIdeal.Frame
public import Idealize.ShloMosaic.Lib.Pipeline.ValueKit

@[expose] public section

set_option maxRecDepth 16384

noncomputable section

namespace Cert.PostIdeal.Pure

open Cert.PostIdeal Cert.PostIdeal.Gen Cert.RowNorm Cert.PostMath Idealize.ShloMosaic Idealize.ShloMosaic.TcCoe Idealize.SL.Sem

/-- Column tile 0's step. -/
theorem accB0 (c : Dev nD) (arg2 : Memref sig .tc .vmem S688x1024 .f32) (harg2 : arg2.IsWhole) (arg3 : Memref sig .tc .vmem S688x512 .bf16) (harg3 : arg3.IsWhole) (arg4 : Memref sig .tc .vmem S688x512 .f32) (harg4 : arg4.IsWhole) (arg6 : Memref sig .tc .vmem S1024x1024 .bf16) (harg6 : arg6.IsWhole) (arg7 : Memref sig .tc .vmem S1x1024 .f32) (harg7 : arg7.IsWhole) (arg8 : Memref sig .tc .vmem S1024x2816 .bf16) (harg8 : arg8.IsWhole) (arg9 : Memref sig .tc .vmem S1024x2816 .bf16) (harg9 : arg9.IsWhole) (arg10 : Memref sig .tc .vmem S3x2816 .f32) (harg10 : arg10.IsWhole) (arg11 : Memref sig .tc .vmem S1x2816 .f32) (harg11 : arg11.IsWhole) (arg12 : Memref sig .tc .vmem S2816x1024 .bf16) (harg12 : arg12.IsWhole) (arg15 : Memref sig .tc .vmem S688x1024 .f32) (arg16 : Memref sig .tc .vmem S696x256 .f32) (arg17 : Memref sig .tc .vmem S2x2816 .f32) (harg17 : arg17.IsWhole) (x0 : Vec Ideal S688x1024 .f32) (x1 : Vec Ideal S688x512 .bf16) (x2 : Vec Ideal S688x512 .f32) (x4 : Vec Ideal S1024x1024 .bf16) (x5 : Vec Ideal S1x1024 .f32) (x6 : Vec Ideal S1024x2816 .bf16) (x7 : Vec Ideal S1024x2816 .bf16) (x8 : Vec Ideal S3x2816 .f32) (x9 : Vec Ideal S1x2816 .f32) (x10 : Vec Ideal S2816x1024 .bf16) (xs2 : Vec Ideal S2x2816 .f32) :
    kernelRun0_B.sl.v145 (F := Ideal) c arg2 harg2 arg3 harg3 arg4 harg4 arg6 harg6 arg7 harg7 arg8 harg8 arg9 harg9 arg10 harg10 arg11 harg11 arg12 harg12 arg15 arg16 arg17 harg17 x0 x1 x2 x4 x5 x6 x7 x8 x9 x10 xs2
      = step 0 (by decide) (kernelRun0_B.sl.r (F := Ideal) c arg2 harg2 arg3 harg3 arg4 harg4 arg6 harg6 arg7 harg7 x0 x1 x2 x4 x5) x6 x7 x8 x9 x10 xs2
        (kernelRun0_B.sl.v85 (F := Ideal) c arg2 harg2 arg3 harg3 arg4 harg4 arg6 harg6 arg15 x0 x1 x2 x4) := by
  unfold kernelRun0_B.sl.v145 kernelRun0_B.sl.HS0_2
  rw [View.readCov_cons_unit_lit' _ _ _ _ _ (by decide) (by decide)]
  simp (disch := decide) only [kernelRun0_B.sl.HS1_2, kernelRun0_B.sl.cst_17, kernelRun0_B.sl.r_1, kernelRun0_B.sl.r_2, kernelRun0_B.sl.r_3, kernelRun0_B.sl.v50, kernelRun0_B.sl.v57, k0_pay9_id, k0_pay10_id, rd6, rd7, skip, base, View.readAt_eq_ld, Memref.IsWhole.read_unread, View.ld_unit_lit']
  rfl

/-- Column tile 0's last two gate rows. -/
theorem tlB0 (c : Dev nD) (arg2 : Memref sig .tc .vmem S688x1024 .f32) (harg2 : arg2.IsWhole) (arg3 : Memref sig .tc .vmem S688x512 .bf16) (harg3 : arg3.IsWhole) (arg4 : Memref sig .tc .vmem S688x512 .f32) (harg4 : arg4.IsWhole) (arg6 : Memref sig .tc .vmem S1024x1024 .bf16) (harg6 : arg6.IsWhole) (arg7 : Memref sig .tc .vmem S1x1024 .f32) (harg7 : arg7.IsWhole) (arg8 : Memref sig .tc .vmem S1024x2816 .bf16) (harg8 : arg8.IsWhole) (arg16 : Memref sig .tc .vmem S696x256 .f32) (arg17 : Memref sig .tc .vmem S2x2816 .f32) (harg17 : arg17.IsWhole) (x0 : Vec Ideal S688x1024 .f32) (x1 : Vec Ideal S688x512 .bf16) (x2 : Vec Ideal S688x512 .f32) (x4 : Vec Ideal S1024x1024 .bf16) (x5 : Vec Ideal S1x1024 .f32) (x6 : Vec Ideal S1024x2816 .bf16) (xs2 : Vec Ideal S2x2816 .f32) :
    kernelRun0_B.sl.v66 (F := Ideal) c arg2 harg2 arg3 harg3 arg4 harg4 arg6 harg6 arg7 harg7 arg8 harg8 arg16 arg17 harg17 x0 x1 x2 x4 x5 x6 xs2
      = tl (gateT (kernelRun0_B.sl.r (F := Ideal) c arg2 harg2 arg3 harg3 arg4 harg4 arg6 harg6 arg7 harg7 x0 x1 x2 x4 x5) x6 0 (by decide)) := by
  simp only [kernelRun0_B.sl.HS1_2, kernelRun0_B.sl.cst_17, kernelRun0_B.sl.r_1, kernelRun0_B.sl.v66, k0_pay9_id, k0_pay10_id, rd694, View.readAt_eq_ld, Memref.IsWhole.read_unread]
  rfl

/-- Column tile 1's step. -/
theorem accB1 (c : Dev nD) (arg2 : Memref sig .tc .vmem S688x1024 .f32) (harg2 : arg2.IsWhole) (arg3 : Memref sig .tc .vmem S688x512 .bf16) (harg3 : arg3.IsWhole) (arg4 : Memref sig .tc .vmem S688x512 .f32) (harg4 : arg4.IsWhole) (arg6 : Memref sig .tc .vmem S1024x1024 .bf16) (harg6 : arg6.IsWhole) (arg7 : Memref sig .tc .vmem S1x1024 .f32) (harg7 : arg7.IsWhole) (arg8 : Memref sig .tc .vmem S1024x2816 .bf16) (harg8 : arg8.IsWhole) (arg9 : Memref sig .tc .vmem S1024x2816 .bf16) (harg9 : arg9.IsWhole) (arg10 : Memref sig .tc .vmem S3x2816 .f32) (harg10 : arg10.IsWhole) (arg11 : Memref sig .tc .vmem S1x2816 .f32) (harg11 : arg11.IsWhole) (arg12 : Memref sig .tc .vmem S2816x1024 .bf16) (harg12 : arg12.IsWhole) (arg15 : Memref sig .tc .vmem S688x1024 .f32) (arg16 : Memref sig .tc .vmem S696x256 .f32) (arg17 : Memref sig .tc .vmem S2x2816 .f32) (harg17 : arg17.IsWhole) (x0 : Vec Ideal S688x1024 .f32) (x1 : Vec Ideal S688x512 .bf16) (x2 : Vec Ideal S688x512 .f32) (x4 : Vec Ideal S1024x1024 .bf16) (x5 : Vec Ideal S1x1024 .f32) (x6 : Vec Ideal S1024x2816 .bf16) (x7 : Vec Ideal S1024x2816 .bf16) (x8 : Vec Ideal S3x2816 .f32) (x9 : Vec Ideal S1x2816 .f32) (x10 : Vec Ideal S2816x1024 .bf16) (xs2 : Vec Ideal S2x2816 .f32) :
    kernelRun0_B.sl.v205 (F := Ideal) c arg2 harg2 arg3 harg3 arg4 harg4 arg6 harg6 arg7 harg7 arg8 harg8 arg9 harg9 arg10 harg10 arg11 harg11 arg12 harg12 arg15 arg16 arg17 harg17 x0 x1 x2 x4 x5 x6 x7 x8 x9 x10 xs2
      = step 1 (by decide) (kernelRun0_B.sl.r (F := Ideal) c arg2 harg2 arg3 harg3 arg4 harg4 arg6 harg6 arg7 harg7 x0 x1 x2 x4 x5) x6 x7 x8 x9 x10 xs2
        (kernelRun0_B.sl.v145 (F := Ideal) c arg2 harg2 arg3 harg3 arg4 harg4 arg6 harg6 arg7 harg7 arg8 harg8 arg9 harg9 arg10 harg10 arg11 harg11 arg12 harg12 arg15 arg16 arg17 harg17 x0 x1 x2 x4 x5 x6 x7 x8 x9 x10 xs2) := by
  unfold kernelRun0_B.sl.v205 kernelRun0_B.sl.HS0_3
  rw [View.readCov_cons_unit_lit' _ _ _ _ _ (by decide) (by decide)]
  simp (disch := decide) only [kernelRun0_B.sl.HS1_4, kernelRun0_B.sl.cst_78, kernelRun0_B.sl.r_5, kernelRun0_B.sl.r_6, kernelRun0_B.sl.r_7, kernelRun0_B.sl.r_8, kernelRun0_B.sl.v110, kernelRun0_B.sl.v117, kernelRun0_B.sl.v99, k0_pay16_id, k0_pay17_id, rd6, rd7, skip, base, View.readAt_eq_ld, Memref.IsWhole.read_unread, View.ld_unit_lit']
  rfl

/-- Column tile 1's last two gate rows. -/
theorem tlB1 (c : Dev nD) (arg2 : Memref sig .tc .vmem S688x1024 .f32) (harg2 : arg2.IsWhole) (arg3 : Memref sig .tc .vmem S688x512 .bf16) (harg3 : arg3.IsWhole) (arg4 : Memref sig .tc .vmem S688x512 .f32) (harg4 : arg4.IsWhole) (arg6 : Memref sig .tc .vmem S1024x1024 .bf16) (harg6 : arg6.IsWhole) (arg7 : Memref sig .tc .vmem S1x1024 .f32) (harg7 : arg7.IsWhole) (arg8 : Memref sig .tc .vmem S1024x2816 .bf16) (harg8 : arg8.IsWhole) (arg16 : Memref sig .tc .vmem S696x256 .f32) (arg17 : Memref sig .tc .vmem S2x2816 .f32) (harg17 : arg17.IsWhole) (x0 : Vec Ideal S688x1024 .f32) (x1 : Vec Ideal S688x512 .bf16) (x2 : Vec Ideal S688x512 .f32) (x4 : Vec Ideal S1024x1024 .bf16) (x5 : Vec Ideal S1x1024 .f32) (x6 : Vec Ideal S1024x2816 .bf16) (xs2 : Vec Ideal S2x2816 .f32) :
    kernelRun0_B.sl.v126 (F := Ideal) c arg2 harg2 arg3 harg3 arg4 harg4 arg6 harg6 arg7 harg7 arg8 harg8 arg16 arg17 harg17 x0 x1 x2 x4 x5 x6 xs2
      = tl (gateT (kernelRun0_B.sl.r (F := Ideal) c arg2 harg2 arg3 harg3 arg4 harg4 arg6 harg6 arg7 harg7 x0 x1 x2 x4 x5) x6 1 (by decide)) := by
  simp only [kernelRun0_B.sl.HS1_4, kernelRun0_B.sl.r_5, kernelRun0_B.sl.v126, k0_pay16_id, k0_pay17_id, rd694, View.readAt_eq_ld, Memref.IsWhole.read_unread]
  rfl

/-- Column tile 2's step. -/
theorem accB2 (c : Dev nD) (arg2 : Memref sig .tc .vmem S688x1024 .f32) (harg2 : arg2.IsWhole) (arg3 : Memref sig .tc .vmem S688x512 .bf16) (harg3 : arg3.IsWhole) (arg4 : Memref sig .tc .vmem S688x512 .f32) (harg4 : arg4.IsWhole) (arg6 : Memref sig .tc .vmem S1024x1024 .bf16) (harg6 : arg6.IsWhole) (arg7 : Memref sig .tc .vmem S1x1024 .f32) (harg7 : arg7.IsWhole) (arg8 : Memref sig .tc .vmem S1024x2816 .bf16) (harg8 : arg8.IsWhole) (arg9 : Memref sig .tc .vmem S1024x2816 .bf16) (harg9 : arg9.IsWhole) (arg10 : Memref sig .tc .vmem S3x2816 .f32) (harg10 : arg10.IsWhole) (arg11 : Memref sig .tc .vmem S1x2816 .f32) (harg11 : arg11.IsWhole) (arg12 : Memref sig .tc .vmem S2816x1024 .bf16) (harg12 : arg12.IsWhole) (arg15 : Memref sig .tc .vmem S688x1024 .f32) (arg16 : Memref sig .tc .vmem S696x256 .f32) (arg17 : Memref sig .tc .vmem S2x2816 .f32) (harg17 : arg17.IsWhole) (x0 : Vec Ideal S688x1024 .f32) (x1 : Vec Ideal S688x512 .bf16) (x2 : Vec Ideal S688x512 .f32) (x4 : Vec Ideal S1024x1024 .bf16) (x5 : Vec Ideal S1x1024 .f32) (x6 : Vec Ideal S1024x2816 .bf16) (x7 : Vec Ideal S1024x2816 .bf16) (x8 : Vec Ideal S3x2816 .f32) (x9 : Vec Ideal S1x2816 .f32) (x10 : Vec Ideal S2816x1024 .bf16) (xs2 : Vec Ideal S2x2816 .f32) :
    kernelRun0_B.sl.v265 (F := Ideal) c arg2 harg2 arg3 harg3 arg4 harg4 arg6 harg6 arg7 harg7 arg8 harg8 arg9 harg9 arg10 harg10 arg11 harg11 arg12 harg12 arg15 arg16 arg17 harg17 x0 x1 x2 x4 x5 x6 x7 x8 x9 x10 xs2
      = step 2 (by decide) (kernelRun0_B.sl.r (F := Ideal) c arg2 harg2 arg3 harg3 arg4 harg4 arg6 harg6 arg7 harg7 x0 x1 x2 x4 x5) x6 x7 x8 x9 x10 xs2
        (kernelRun0_B.sl.v205 (F := Ideal) c arg2 harg2 arg3 harg3 arg4 harg4 arg6 harg6 arg7 harg7 arg8 harg8 arg9 harg9 arg10 harg10 arg11 harg11 arg12 harg12 arg15 arg16 arg17 harg17 x0 x1 x2 x4 x5 x6 x7 x8 x9 x10 xs2) := by
  unfold kernelRun0_B.sl.v265 kernelRun0_B.sl.HS0_4
  rw [View.readCov_cons_unit_lit' _ _ _ _ _ (by decide) (by decide)]
  simp (disch := decide) only [kernelRun0_B.sl.HS1_6, kernelRun0_B.sl.r_10, kernelRun0_B.sl.r_11, kernelRun0_B.sl.r_12, kernelRun0_B.sl.r_13, kernelRun0_B.sl.r_9, kernelRun0_B.sl.v159, kernelRun0_B.sl.v170, kernelRun0_B.sl.v177, k0_pay24_id, k0_pay25_id, rd6, rd7, skip, base, View.readAt_eq_ld, Memref.IsWhole.read_unread, View.ld_unit_lit']
  rfl

/-- Column tile 2's last two gate rows. -/
theorem tlB2 (c : Dev nD) (arg2 : Memref sig .tc .vmem S688x1024 .f32) (harg2 : arg2.IsWhole) (arg3 : Memref sig .tc .vmem S688x512 .bf16) (harg3 : arg3.IsWhole) (arg4 : Memref sig .tc .vmem S688x512 .f32) (harg4 : arg4.IsWhole) (arg6 : Memref sig .tc .vmem S1024x1024 .bf16) (harg6 : arg6.IsWhole) (arg7 : Memref sig .tc .vmem S1x1024 .f32) (harg7 : arg7.IsWhole) (arg8 : Memref sig .tc .vmem S1024x2816 .bf16) (harg8 : arg8.IsWhole) (arg16 : Memref sig .tc .vmem S696x256 .f32) (arg17 : Memref sig .tc .vmem S2x2816 .f32) (harg17 : arg17.IsWhole) (x0 : Vec Ideal S688x1024 .f32) (x1 : Vec Ideal S688x512 .bf16) (x2 : Vec Ideal S688x512 .f32) (x4 : Vec Ideal S1024x1024 .bf16) (x5 : Vec Ideal S1x1024 .f32) (x6 : Vec Ideal S1024x2816 .bf16) (xs2 : Vec Ideal S2x2816 .f32) :
    kernelRun0_B.sl.v186 (F := Ideal) c arg2 harg2 arg3 harg3 arg4 harg4 arg6 harg6 arg7 harg7 arg8 harg8 arg16 arg17 harg17 x0 x1 x2 x4 x5 x6 xs2
      = tl (gateT (kernelRun0_B.sl.r (F := Ideal) c arg2 harg2 arg3 harg3 arg4 harg4 arg6 harg6 arg7 harg7 x0 x1 x2 x4 x5) x6 2 (by decide)) := by
  simp only [kernelRun0_B.sl.HS1_6, kernelRun0_B.sl.v186, k0_pay24_id, k0_pay25_id, rd694, View.readAt_eq_ld, Memref.IsWhole.read_unread]
  rfl

/-- Column tile 3's step. -/
theorem accB3 (c : Dev nD) (arg2 : Memref sig .tc .vmem S688x1024 .f32) (harg2 : arg2.IsWhole) (arg3 : Memref sig .tc .vmem S688x512 .bf16) (harg3 : arg3.IsWhole) (arg4 : Memref sig .tc .vmem S688x512 .f32) (harg4 : arg4.IsWhole) (arg6 : Memref sig .tc .vmem S1024x1024 .bf16) (harg6 : arg6.IsWhole) (arg7 : Memref sig .tc .vmem S1x1024 .f32) (harg7 : arg7.IsWhole) (arg8 : Memref sig .tc .vmem S1024x2816 .bf16) (harg8 : arg8.IsWhole) (arg9 : Memref sig .tc .vmem S1024x2816 .bf16) (harg9 : arg9.IsWhole) (arg10 : Memref sig .tc .vmem S3x2816 .f32) (harg10 : arg10.IsWhole) (arg11 : Memref sig .tc .vmem S1x2816 .f32) (harg11 : arg11.IsWhole) (arg12 : Memref sig .tc .vmem S2816x1024 .bf16) (harg12 : arg12.IsWhole) (arg15 : Memref sig .tc .vmem S688x1024 .f32) (arg16 : Memref sig .tc .vmem S696x256 .f32) (arg17 : Memref sig .tc .vmem S2x2816 .f32) (harg17 : arg17.IsWhole) (x0 : Vec Ideal S688x1024 .f32) (x1 : Vec Ideal S688x512 .bf16) (x2 : Vec Ideal S688x512 .f32) (x4 : Vec Ideal S1024x1024 .bf16) (x5 : Vec Ideal S1x1024 .f32) (x6 : Vec Ideal S1024x2816 .bf16) (x7 : Vec Ideal S1024x2816 .bf16) (x8 : Vec Ideal S3x2816 .f32) (x9 : Vec Ideal S1x2816 .f32) (x10 : Vec Ideal S2816x1024 .bf16) (xs2 : Vec Ideal S2x2816 .f32) :
    kernelRun0_B.sl.v325 (F := Ideal) c arg2 harg2 arg3 harg3 arg4 harg4 arg6 harg6 arg7 harg7 arg8 harg8 arg9 harg9 arg10 harg10 arg11 harg11 arg12 harg12 arg15 arg16 arg17 harg17 x0 x1 x2 x4 x5 x6 x7 x8 x9 x10 xs2
      = step 3 (by decide) (kernelRun0_B.sl.r (F := Ideal) c arg2 harg2 arg3 harg3 arg4 harg4 arg6 harg6 arg7 harg7 x0 x1 x2 x4 x5) x6 x7 x8 x9 x10 xs2
        (kernelRun0_B.sl.v265 (F := Ideal) c arg2 harg2 arg3 harg3 arg4 harg4 arg6 harg6 arg7 harg7 arg8 harg8 arg9 harg9 arg10 harg10 arg11 harg11 arg12 harg12 arg15 arg16 arg17 harg17 x0 x1 x2 x4 x5 x6 x7 x8 x9 x10 xs2) := by
  unfold kernelRun0_B.sl.v325 kernelRun0_B.sl.HS0_5
  rw [View.readCov_cons_unit_lit' _ _ _ _ _ (by decide) (by decide)]
  simp (disch := decide) only [kernelRun0_B.sl.HS1_8, kernelRun0_B.sl.r_14, kernelRun0_B.sl.r_15, kernelRun0_B.sl.r_16, kernelRun0_B.sl.r_17, kernelRun0_B.sl.v219, kernelRun0_B.sl.v230, kernelRun0_B.sl.v237, k0_pay33_id, k0_pay34_id, rd6, rd7, skip, base, View.readAt_eq_ld, Memref.IsWhole.read_unread, View.ld_unit_lit']
  rfl

/-- Column tile 3's last two gate rows. -/
theorem tlB3 (c : Dev nD) (arg2 : Memref sig .tc .vmem S688x1024 .f32) (harg2 : arg2.IsWhole) (arg3 : Memref sig .tc .vmem S688x512 .bf16) (harg3 : arg3.IsWhole) (arg4 : Memref sig .tc .vmem S688x512 .f32) (harg4 : arg4.IsWhole) (arg6 : Memref sig .tc .vmem S1024x1024 .bf16) (harg6 : arg6.IsWhole) (arg7 : Memref sig .tc .vmem S1x1024 .f32) (harg7 : arg7.IsWhole) (arg8 : Memref sig .tc .vmem S1024x2816 .bf16) (harg8 : arg8.IsWhole) (arg16 : Memref sig .tc .vmem S696x256 .f32) (arg17 : Memref sig .tc .vmem S2x2816 .f32) (harg17 : arg17.IsWhole) (x0 : Vec Ideal S688x1024 .f32) (x1 : Vec Ideal S688x512 .bf16) (x2 : Vec Ideal S688x512 .f32) (x4 : Vec Ideal S1024x1024 .bf16) (x5 : Vec Ideal S1x1024 .f32) (x6 : Vec Ideal S1024x2816 .bf16) (xs2 : Vec Ideal S2x2816 .f32) :
    kernelRun0_B.sl.v246 (F := Ideal) c arg2 harg2 arg3 harg3 arg4 harg4 arg6 harg6 arg7 harg7 arg8 harg8 arg16 arg17 harg17 x0 x1 x2 x4 x5 x6 xs2
      = tl (gateT (kernelRun0_B.sl.r (F := Ideal) c arg2 harg2 arg3 harg3 arg4 harg4 arg6 harg6 arg7 harg7 x0 x1 x2 x4 x5) x6 3 (by decide)) := by
  simp only [kernelRun0_B.sl.HS1_8, kernelRun0_B.sl.v246, k0_pay33_id, k0_pay34_id, rd694, View.readAt_eq_ld, Memref.IsWhole.read_unread]
  rfl

/-- Column tile 4's step. -/
theorem accB4 (c : Dev nD) (arg2 : Memref sig .tc .vmem S688x1024 .f32) (harg2 : arg2.IsWhole) (arg3 : Memref sig .tc .vmem S688x512 .bf16) (harg3 : arg3.IsWhole) (arg4 : Memref sig .tc .vmem S688x512 .f32) (harg4 : arg4.IsWhole) (arg6 : Memref sig .tc .vmem S1024x1024 .bf16) (harg6 : arg6.IsWhole) (arg7 : Memref sig .tc .vmem S1x1024 .f32) (harg7 : arg7.IsWhole) (arg8 : Memref sig .tc .vmem S1024x2816 .bf16) (harg8 : arg8.IsWhole) (arg9 : Memref sig .tc .vmem S1024x2816 .bf16) (harg9 : arg9.IsWhole) (arg10 : Memref sig .tc .vmem S3x2816 .f32) (harg10 : arg10.IsWhole) (arg11 : Memref sig .tc .vmem S1x2816 .f32) (harg11 : arg11.IsWhole) (arg12 : Memref sig .tc .vmem S2816x1024 .bf16) (harg12 : arg12.IsWhole) (arg15 : Memref sig .tc .vmem S688x1024 .f32) (arg16 : Memref sig .tc .vmem S696x256 .f32) (arg17 : Memref sig .tc .vmem S2x2816 .f32) (harg17 : arg17.IsWhole) (x0 : Vec Ideal S688x1024 .f32) (x1 : Vec Ideal S688x512 .bf16) (x2 : Vec Ideal S688x512 .f32) (x4 : Vec Ideal S1024x1024 .bf16) (x5 : Vec Ideal S1x1024 .f32) (x6 : Vec Ideal S1024x2816 .bf16) (x7 : Vec Ideal S1024x2816 .bf16) (x8 : Vec Ideal S3x2816 .f32) (x9 : Vec Ideal S1x2816 .f32) (x10 : Vec Ideal S2816x1024 .bf16) (xs2 : Vec Ideal S2x2816 .f32) :
    kernelRun0_B.sl.v385 (F := Ideal) c arg2 harg2 arg3 harg3 arg4 harg4 arg6 harg6 arg7 harg7 arg8 harg8 arg9 harg9 arg10 harg10 arg11 harg11 arg12 harg12 arg15 arg16 arg17 harg17 x0 x1 x2 x4 x5 x6 x7 x8 x9 x10 xs2
      = step 4 (by decide) (kernelRun0_B.sl.r (F := Ideal) c arg2 harg2 arg3 harg3 arg4 harg4 arg6 harg6 arg7 harg7 x0 x1 x2 x4 x5) x6 x7 x8 x9 x10 xs2
        (kernelRun0_B.sl.v325 (F := Ideal) c arg2 harg2 arg3 harg3 arg4 harg4 arg6 harg6 arg7 harg7 arg8 harg8 arg9 harg9 arg10 harg10 arg11 harg11 arg12 harg12 arg15 arg16 arg17 harg17 x0 x1 x2 x4 x5 x6 x7 x8 x9 x10 xs2) := by
  unfold kernelRun0_B.sl.v385 kernelRun0_B.sl.HS0_6
  rw [View.readCov_cons_unit_lit' _ _ _ _ _ (by decide) (by decide)]
  simp (disch := decide) only [kernelRun0_B.sl.HS1_10, kernelRun0_B.sl.r_18, kernelRun0_B.sl.r_19, kernelRun0_B.sl.r_20, kernelRun0_B.sl.r_21, kernelRun0_B.sl.v279, kernelRun0_B.sl.v290, kernelRun0_B.sl.v297, k0_pay41_id, k0_pay42_id, rd6, rd7, skip, base, View.readAt_eq_ld, Memref.IsWhole.read_unread, View.ld_unit_lit']
  rfl

/-- Column tile 4's last two gate rows. -/
theorem tlB4 (c : Dev nD) (arg2 : Memref sig .tc .vmem S688x1024 .f32) (harg2 : arg2.IsWhole) (arg3 : Memref sig .tc .vmem S688x512 .bf16) (harg3 : arg3.IsWhole) (arg4 : Memref sig .tc .vmem S688x512 .f32) (harg4 : arg4.IsWhole) (arg6 : Memref sig .tc .vmem S1024x1024 .bf16) (harg6 : arg6.IsWhole) (arg7 : Memref sig .tc .vmem S1x1024 .f32) (harg7 : arg7.IsWhole) (arg8 : Memref sig .tc .vmem S1024x2816 .bf16) (harg8 : arg8.IsWhole) (arg16 : Memref sig .tc .vmem S696x256 .f32) (arg17 : Memref sig .tc .vmem S2x2816 .f32) (harg17 : arg17.IsWhole) (x0 : Vec Ideal S688x1024 .f32) (x1 : Vec Ideal S688x512 .bf16) (x2 : Vec Ideal S688x512 .f32) (x4 : Vec Ideal S1024x1024 .bf16) (x5 : Vec Ideal S1x1024 .f32) (x6 : Vec Ideal S1024x2816 .bf16) (xs2 : Vec Ideal S2x2816 .f32) :
    kernelRun0_B.sl.v306 (F := Ideal) c arg2 harg2 arg3 harg3 arg4 harg4 arg6 harg6 arg7 harg7 arg8 harg8 arg16 arg17 harg17 x0 x1 x2 x4 x5 x6 xs2
      = tl (gateT (kernelRun0_B.sl.r (F := Ideal) c arg2 harg2 arg3 harg3 arg4 harg4 arg6 harg6 arg7 harg7 x0 x1 x2 x4 x5) x6 4 (by decide)) := by
  simp only [kernelRun0_B.sl.HS1_10, kernelRun0_B.sl.r_18, kernelRun0_B.sl.v306, k0_pay41_id, k0_pay42_id, rd694, View.readAt_eq_ld, Memref.IsWhole.read_unread]
  rfl

/-- Column tile 5's step. -/
theorem accB5 (c : Dev nD) (arg2 : Memref sig .tc .vmem S688x1024 .f32) (harg2 : arg2.IsWhole) (arg3 : Memref sig .tc .vmem S688x512 .bf16) (harg3 : arg3.IsWhole) (arg4 : Memref sig .tc .vmem S688x512 .f32) (harg4 : arg4.IsWhole) (arg6 : Memref sig .tc .vmem S1024x1024 .bf16) (harg6 : arg6.IsWhole) (arg7 : Memref sig .tc .vmem S1x1024 .f32) (harg7 : arg7.IsWhole) (arg8 : Memref sig .tc .vmem S1024x2816 .bf16) (harg8 : arg8.IsWhole) (arg9 : Memref sig .tc .vmem S1024x2816 .bf16) (harg9 : arg9.IsWhole) (arg10 : Memref sig .tc .vmem S3x2816 .f32) (harg10 : arg10.IsWhole) (arg11 : Memref sig .tc .vmem S1x2816 .f32) (harg11 : arg11.IsWhole) (arg12 : Memref sig .tc .vmem S2816x1024 .bf16) (harg12 : arg12.IsWhole) (arg15 : Memref sig .tc .vmem S688x1024 .f32) (arg16 : Memref sig .tc .vmem S696x256 .f32) (arg17 : Memref sig .tc .vmem S2x2816 .f32) (harg17 : arg17.IsWhole) (x0 : Vec Ideal S688x1024 .f32) (x1 : Vec Ideal S688x512 .bf16) (x2 : Vec Ideal S688x512 .f32) (x4 : Vec Ideal S1024x1024 .bf16) (x5 : Vec Ideal S1x1024 .f32) (x6 : Vec Ideal S1024x2816 .bf16) (x7 : Vec Ideal S1024x2816 .bf16) (x8 : Vec Ideal S3x2816 .f32) (x9 : Vec Ideal S1x2816 .f32) (x10 : Vec Ideal S2816x1024 .bf16) (xs2 : Vec Ideal S2x2816 .f32) :
    kernelRun0_B.sl.v445 (F := Ideal) c arg2 harg2 arg3 harg3 arg4 harg4 arg6 harg6 arg7 harg7 arg8 harg8 arg9 harg9 arg10 harg10 arg11 harg11 arg12 harg12 arg15 arg16 arg17 harg17 x0 x1 x2 x4 x5 x6 x7 x8 x9 x10 xs2
      = step 5 (by decide) (kernelRun0_B.sl.r (F := Ideal) c arg2 harg2 arg3 harg3 arg4 harg4 arg6 harg6 arg7 harg7 x0 x1 x2 x4 x5) x6 x7 x8 x9 x10 xs2
        (kernelRun0_B.sl.v385 (F := Ideal) c arg2 harg2 arg3 harg3 arg4 harg4 arg6 harg6 arg7 harg7 arg8 harg8 arg9 harg9 arg10 harg10 arg11 harg11 arg12 harg12 arg15 arg16 arg17 harg17 x0 x1 x2 x4 x5 x6 x7 x8 x9 x10 xs2) := by
  unfold kernelRun0_B.sl.v445 kernelRun0_B.sl.HS0_7
  rw [View.readCov_cons_unit_lit' _ _ _ _ _ (by decide) (by decide)]
  simp (disch := decide) only [kernelRun0_B.sl.HS1_12, kernelRun0_B.sl.r_22, kernelRun0_B.sl.r_23, kernelRun0_B.sl.r_24, kernelRun0_B.sl.r_25, kernelRun0_B.sl.v339, kernelRun0_B.sl.v350, kernelRun0_B.sl.v357, k0_pay49_id, k0_pay50_id, rd6, rd7, skip, base, View.readAt_eq_ld, Memref.IsWhole.read_unread, View.ld_unit_lit']
  rfl

/-- Column tile 5's last two gate rows. -/
theorem tlB5 (c : Dev nD) (arg2 : Memref sig .tc .vmem S688x1024 .f32) (harg2 : arg2.IsWhole) (arg3 : Memref sig .tc .vmem S688x512 .bf16) (harg3 : arg3.IsWhole) (arg4 : Memref sig .tc .vmem S688x512 .f32) (harg4 : arg4.IsWhole) (arg6 : Memref sig .tc .vmem S1024x1024 .bf16) (harg6 : arg6.IsWhole) (arg7 : Memref sig .tc .vmem S1x1024 .f32) (harg7 : arg7.IsWhole) (arg8 : Memref sig .tc .vmem S1024x2816 .bf16) (harg8 : arg8.IsWhole) (arg16 : Memref sig .tc .vmem S696x256 .f32) (arg17 : Memref sig .tc .vmem S2x2816 .f32) (harg17 : arg17.IsWhole) (x0 : Vec Ideal S688x1024 .f32) (x1 : Vec Ideal S688x512 .bf16) (x2 : Vec Ideal S688x512 .f32) (x4 : Vec Ideal S1024x1024 .bf16) (x5 : Vec Ideal S1x1024 .f32) (x6 : Vec Ideal S1024x2816 .bf16) (xs2 : Vec Ideal S2x2816 .f32) :
    kernelRun0_B.sl.v366 (F := Ideal) c arg2 harg2 arg3 harg3 arg4 harg4 arg6 harg6 arg7 harg7 arg8 harg8 arg16 arg17 harg17 x0 x1 x2 x4 x5 x6 xs2
      = tl (gateT (kernelRun0_B.sl.r (F := Ideal) c arg2 harg2 arg3 harg3 arg4 harg4 arg6 harg6 arg7 harg7 x0 x1 x2 x4 x5) x6 5 (by decide)) := by
  simp only [kernelRun0_B.sl.HS1_12, kernelRun0_B.sl.v366, k0_pay49_id, k0_pay50_id, rd694, View.readAt_eq_ld, Memref.IsWhole.read_unread]
  rfl

/-- Column tile 6's step. -/
theorem accB6 (c : Dev nD) (arg2 : Memref sig .tc .vmem S688x1024 .f32) (harg2 : arg2.IsWhole) (arg3 : Memref sig .tc .vmem S688x512 .bf16) (harg3 : arg3.IsWhole) (arg4 : Memref sig .tc .vmem S688x512 .f32) (harg4 : arg4.IsWhole) (arg6 : Memref sig .tc .vmem S1024x1024 .bf16) (harg6 : arg6.IsWhole) (arg7 : Memref sig .tc .vmem S1x1024 .f32) (harg7 : arg7.IsWhole) (arg8 : Memref sig .tc .vmem S1024x2816 .bf16) (harg8 : arg8.IsWhole) (arg9 : Memref sig .tc .vmem S1024x2816 .bf16) (harg9 : arg9.IsWhole) (arg10 : Memref sig .tc .vmem S3x2816 .f32) (harg10 : arg10.IsWhole) (arg11 : Memref sig .tc .vmem S1x2816 .f32) (harg11 : arg11.IsWhole) (arg12 : Memref sig .tc .vmem S2816x1024 .bf16) (harg12 : arg12.IsWhole) (arg15 : Memref sig .tc .vmem S688x1024 .f32) (arg16 : Memref sig .tc .vmem S696x256 .f32) (arg17 : Memref sig .tc .vmem S2x2816 .f32) (harg17 : arg17.IsWhole) (x0 : Vec Ideal S688x1024 .f32) (x1 : Vec Ideal S688x512 .bf16) (x2 : Vec Ideal S688x512 .f32) (x4 : Vec Ideal S1024x1024 .bf16) (x5 : Vec Ideal S1x1024 .f32) (x6 : Vec Ideal S1024x2816 .bf16) (x7 : Vec Ideal S1024x2816 .bf16) (x8 : Vec Ideal S3x2816 .f32) (x9 : Vec Ideal S1x2816 .f32) (x10 : Vec Ideal S2816x1024 .bf16) (xs2 : Vec Ideal S2x2816 .f32) :
    kernelRun0_B.sl.v505 (F := Ideal) c arg2 harg2 arg3 harg3 arg4 harg4 arg6 harg6 arg7 harg7 arg8 harg8 arg9 harg9 arg10 harg10 arg11 harg11 arg12 harg12 arg15 arg16 arg17 harg17 x0 x1 x2 x4 x5 x6 x7 x8 x9 x10 xs2
      = step 6 (by decide) (kernelRun0_B.sl.r (F := Ideal) c arg2 harg2 arg3 harg3 arg4 harg4 arg6 harg6 arg7 harg7 x0 x1 x2 x4 x5) x6 x7 x8 x9 x10 xs2
        (kernelRun0_B.sl.v445 (F := Ideal) c arg2 harg2 arg3 harg3 arg4 harg4 arg6 harg6 arg7 harg7 arg8 harg8 arg9 harg9 arg10 harg10 arg11 harg11 arg12 harg12 arg15 arg16 arg17 harg17 x0 x1 x2 x4 x5 x6 x7 x8 x9 x10 xs2) := by
  unfold kernelRun0_B.sl.v505 kernelRun0_B.sl.HS0_8
  rw [View.readCov_cons_unit_lit' _ _ _ _ _ (by decide) (by decide)]
  simp (disch := decide) only [kernelRun0_B.sl.HS1_14, kernelRun0_B.sl.r_26, kernelRun0_B.sl.r_27, kernelRun0_B.sl.r_28, kernelRun0_B.sl.r_29, kernelRun0_B.sl.v399, kernelRun0_B.sl.v410, kernelRun0_B.sl.v417, k0_pay56_id, k0_pay57_id, rd6, rd7, skip, base, View.readAt_eq_ld, Memref.IsWhole.read_unread, View.ld_unit_lit']
  rfl

/-- Column tile 6's last two gate rows. -/
theorem tlB6 (c : Dev nD) (arg2 : Memref sig .tc .vmem S688x1024 .f32) (harg2 : arg2.IsWhole) (arg3 : Memref sig .tc .vmem S688x512 .bf16) (harg3 : arg3.IsWhole) (arg4 : Memref sig .tc .vmem S688x512 .f32) (harg4 : arg4.IsWhole) (arg6 : Memref sig .tc .vmem S1024x1024 .bf16) (harg6 : arg6.IsWhole) (arg7 : Memref sig .tc .vmem S1x1024 .f32) (harg7 : arg7.IsWhole) (arg8 : Memref sig .tc .vmem S1024x2816 .bf16) (harg8 : arg8.IsWhole) (arg16 : Memref sig .tc .vmem S696x256 .f32) (arg17 : Memref sig .tc .vmem S2x2816 .f32) (harg17 : arg17.IsWhole) (x0 : Vec Ideal S688x1024 .f32) (x1 : Vec Ideal S688x512 .bf16) (x2 : Vec Ideal S688x512 .f32) (x4 : Vec Ideal S1024x1024 .bf16) (x5 : Vec Ideal S1x1024 .f32) (x6 : Vec Ideal S1024x2816 .bf16) (xs2 : Vec Ideal S2x2816 .f32) :
    kernelRun0_B.sl.v426 (F := Ideal) c arg2 harg2 arg3 harg3 arg4 harg4 arg6 harg6 arg7 harg7 arg8 harg8 arg16 arg17 harg17 x0 x1 x2 x4 x5 x6 xs2
      = tl (gateT (kernelRun0_B.sl.r (F := Ideal) c arg2 harg2 arg3 harg3 arg4 harg4 arg6 harg6 arg7 harg7 x0 x1 x2 x4 x5) x6 6 (by decide)) := by
  simp only [kernelRun0_B.sl.HS1_14, kernelRun0_B.sl.v426, k0_pay56_id, k0_pay57_id, rd694, View.readAt_eq_ld, Memref.IsWhole.read_unread]
  rfl

/-- Column tile 7's step. -/
theorem accB7 (c : Dev nD) (arg2 : Memref sig .tc .vmem S688x1024 .f32) (harg2 : arg2.IsWhole) (arg3 : Memref sig .tc .vmem S688x512 .bf16) (harg3 : arg3.IsWhole) (arg4 : Memref sig .tc .vmem S688x512 .f32) (harg4 : arg4.IsWhole) (arg6 : Memref sig .tc .vmem S1024x1024 .bf16) (harg6 : arg6.IsWhole) (arg7 : Memref sig .tc .vmem S1x1024 .f32) (harg7 : arg7.IsWhole) (arg8 : Memref sig .tc .vmem S1024x2816 .bf16) (harg8 : arg8.IsWhole) (arg9 : Memref sig .tc .vmem S1024x2816 .bf16) (harg9 : arg9.IsWhole) (arg10 : Memref sig .tc .vmem S3x2816 .f32) (harg10 : arg10.IsWhole) (arg11 : Memref sig .tc .vmem S1x2816 .f32) (harg11 : arg11.IsWhole) (arg12 : Memref sig .tc .vmem S2816x1024 .bf16) (harg12 : arg12.IsWhole) (arg15 : Memref sig .tc .vmem S688x1024 .f32) (arg16 : Memref sig .tc .vmem S696x256 .f32) (arg17 : Memref sig .tc .vmem S2x2816 .f32) (harg17 : arg17.IsWhole) (x0 : Vec Ideal S688x1024 .f32) (x1 : Vec Ideal S688x512 .bf16) (x2 : Vec Ideal S688x512 .f32) (x4 : Vec Ideal S1024x1024 .bf16) (x5 : Vec Ideal S1x1024 .f32) (x6 : Vec Ideal S1024x2816 .bf16) (x7 : Vec Ideal S1024x2816 .bf16) (x8 : Vec Ideal S3x2816 .f32) (x9 : Vec Ideal S1x2816 .f32) (x10 : Vec Ideal S2816x1024 .bf16) (xs2 : Vec Ideal S2x2816 .f32) :
    kernelRun0_B.sl.v565 (F := Ideal) c arg2 harg2 arg3 harg3 arg4 harg4 arg6 harg6 arg7 harg7 arg8 harg8 arg9 harg9 arg10 harg10 arg11 harg11 arg12 harg12 arg15 arg16 arg17 harg17 x0 x1 x2 x4 x5 x6 x7 x8 x9 x10 xs2
      = step 7 (by decide) (kernelRun0_B.sl.r (F := Ideal) c arg2 harg2 arg3 harg3 arg4 harg4 arg6 harg6 arg7 harg7 x0 x1 x2 x4 x5) x6 x7 x8 x9 x10 xs2
        (kernelRun0_B.sl.v505 (F := Ideal) c arg2 harg2 arg3 harg3 arg4 harg4 arg6 harg6 arg7 harg7 arg8 harg8 arg9 harg9 arg10 harg10 arg11 harg11 arg12 harg12 arg15 arg16 arg17 harg17 x0 x1 x2 x4 x5 x6 x7 x8 x9 x10 xs2) := by
  unfold kernelRun0_B.sl.v565 kernelRun0_B.sl.HS0_9
  rw [View.readCov_cons_unit_lit' _ _ _ _ _ (by decide) (by decide)]
  simp (disch := decide) only [kernelRun0_B.sl.HS1_16, kernelRun0_B.sl.r_30, kernelRun0_B.sl.r_31, kernelRun0_B.sl.r_32, kernelRun0_B.sl.v459, kernelRun0_B.sl.v470, kernelRun0_B.sl.v477, k0_pay65_id, k0_pay66_id, rd6, rd7, skip, base, View.readAt_eq_ld, Memref.IsWhole.read_unread, View.ld_unit_lit']
  rfl

/-- Column tile 7's last two gate rows. -/
theorem tlB7 (c : Dev nD) (arg2 : Memref sig .tc .vmem S688x1024 .f32) (harg2 : arg2.IsWhole) (arg3 : Memref sig .tc .vmem S688x512 .bf16) (harg3 : arg3.IsWhole) (arg4 : Memref sig .tc .vmem S688x512 .f32) (harg4 : arg4.IsWhole) (arg6 : Memref sig .tc .vmem S1024x1024 .bf16) (harg6 : arg6.IsWhole) (arg7 : Memref sig .tc .vmem S1x1024 .f32) (harg7 : arg7.IsWhole) (arg8 : Memref sig .tc .vmem S1024x2816 .bf16) (harg8 : arg8.IsWhole) (arg16 : Memref sig .tc .vmem S696x256 .f32) (arg17 : Memref sig .tc .vmem S2x2816 .f32) (harg17 : arg17.IsWhole) (x0 : Vec Ideal S688x1024 .f32) (x1 : Vec Ideal S688x512 .bf16) (x2 : Vec Ideal S688x512 .f32) (x4 : Vec Ideal S1024x1024 .bf16) (x5 : Vec Ideal S1x1024 .f32) (x6 : Vec Ideal S1024x2816 .bf16) (xs2 : Vec Ideal S2x2816 .f32) :
    kernelRun0_B.sl.v486 (F := Ideal) c arg2 harg2 arg3 harg3 arg4 harg4 arg6 harg6 arg7 harg7 arg8 harg8 arg16 arg17 harg17 x0 x1 x2 x4 x5 x6 xs2
      = tl (gateT (kernelRun0_B.sl.r (F := Ideal) c arg2 harg2 arg3 harg3 arg4 harg4 arg6 harg6 arg7 harg7 x0 x1 x2 x4 x5) x6 7 (by decide)) := by
  simp only [kernelRun0_B.sl.HS1_16, kernelRun0_B.sl.r_30, kernelRun0_B.sl.v486, k0_pay65_id, k0_pay66_id, rd694, View.readAt_eq_ld, Memref.IsWhole.read_unread]
  rfl

/-- Column tile 8's step. -/
theorem accB8 (c : Dev nD) (arg2 : Memref sig .tc .vmem S688x1024 .f32) (harg2 : arg2.IsWhole) (arg3 : Memref sig .tc .vmem S688x512 .bf16) (harg3 : arg3.IsWhole) (arg4 : Memref sig .tc .vmem S688x512 .f32) (harg4 : arg4.IsWhole) (arg6 : Memref sig .tc .vmem S1024x1024 .bf16) (harg6 : arg6.IsWhole) (arg7 : Memref sig .tc .vmem S1x1024 .f32) (harg7 : arg7.IsWhole) (arg8 : Memref sig .tc .vmem S1024x2816 .bf16) (harg8 : arg8.IsWhole) (arg9 : Memref sig .tc .vmem S1024x2816 .bf16) (harg9 : arg9.IsWhole) (arg10 : Memref sig .tc .vmem S3x2816 .f32) (harg10 : arg10.IsWhole) (arg11 : Memref sig .tc .vmem S1x2816 .f32) (harg11 : arg11.IsWhole) (arg12 : Memref sig .tc .vmem S2816x1024 .bf16) (harg12 : arg12.IsWhole) (arg15 : Memref sig .tc .vmem S688x1024 .f32) (arg16 : Memref sig .tc .vmem S696x256 .f32) (arg17 : Memref sig .tc .vmem S2x2816 .f32) (harg17 : arg17.IsWhole) (x0 : Vec Ideal S688x1024 .f32) (x1 : Vec Ideal S688x512 .bf16) (x2 : Vec Ideal S688x512 .f32) (x4 : Vec Ideal S1024x1024 .bf16) (x5 : Vec Ideal S1x1024 .f32) (x6 : Vec Ideal S1024x2816 .bf16) (x7 : Vec Ideal S1024x2816 .bf16) (x8 : Vec Ideal S3x2816 .f32) (x9 : Vec Ideal S1x2816 .f32) (x10 : Vec Ideal S2816x1024 .bf16) (xs2 : Vec Ideal S2x2816 .f32) :
    kernelRun0_B.sl.v625 (F := Ideal) c arg2 harg2 arg3 harg3 arg4 harg4 arg6 harg6 arg7 harg7 arg8 harg8 arg9 harg9 arg10 harg10 arg11 harg11 arg12 harg12 arg15 arg16 arg17 harg17 x0 x1 x2 x4 x5 x6 x7 x8 x9 x10 xs2
      = step 8 (by decide) (kernelRun0_B.sl.r (F := Ideal) c arg2 harg2 arg3 harg3 arg4 harg4 arg6 harg6 arg7 harg7 x0 x1 x2 x4 x5) x6 x7 x8 x9 x10 xs2
        (kernelRun0_B.sl.v565 (F := Ideal) c arg2 harg2 arg3 harg3 arg4 harg4 arg6 harg6 arg7 harg7 arg8 harg8 arg9 harg9 arg10 harg10 arg11 harg11 arg12 harg12 arg15 arg16 arg17 harg17 x0 x1 x2 x4 x5 x6 x7 x8 x9 x10 xs2) := by
  unfold kernelRun0_B.sl.v625 kernelRun0_B.sl.HS0_10
  rw [View.readCov_cons_unit_lit' _ _ _ _ _ (by decide) (by decide)]
  simp (disch := decide) only [kernelRun0_B.sl.HS1_18, kernelRun0_B.sl.r_33, kernelRun0_B.sl.r_34, kernelRun0_B.sl.r_35, kernelRun0_B.sl.r_36, kernelRun0_B.sl.v519, kernelRun0_B.sl.v530, kernelRun0_B.sl.v537, k0_pay72_id, k0_pay73_id, rd6, rd7, skip, base, View.readAt_eq_ld, Memref.IsWhole.read_unread, View.ld_unit_lit']
  rfl

/-- Column tile 8's last two gate rows. -/
theorem tlB8 (c : Dev nD) (arg2 : Memref sig .tc .vmem S688x1024 .f32) (harg2 : arg2.IsWhole) (arg3 : Memref sig .tc .vmem S688x512 .bf16) (harg3 : arg3.IsWhole) (arg4 : Memref sig .tc .vmem S688x512 .f32) (harg4 : arg4.IsWhole) (arg6 : Memref sig .tc .vmem S1024x1024 .bf16) (harg6 : arg6.IsWhole) (arg7 : Memref sig .tc .vmem S1x1024 .f32) (harg7 : arg7.IsWhole) (arg8 : Memref sig .tc .vmem S1024x2816 .bf16) (harg8 : arg8.IsWhole) (arg16 : Memref sig .tc .vmem S696x256 .f32) (arg17 : Memref sig .tc .vmem S2x2816 .f32) (harg17 : arg17.IsWhole) (x0 : Vec Ideal S688x1024 .f32) (x1 : Vec Ideal S688x512 .bf16) (x2 : Vec Ideal S688x512 .f32) (x4 : Vec Ideal S1024x1024 .bf16) (x5 : Vec Ideal S1x1024 .f32) (x6 : Vec Ideal S1024x2816 .bf16) (xs2 : Vec Ideal S2x2816 .f32) :
    kernelRun0_B.sl.v546 (F := Ideal) c arg2 harg2 arg3 harg3 arg4 harg4 arg6 harg6 arg7 harg7 arg8 harg8 arg16 arg17 harg17 x0 x1 x2 x4 x5 x6 xs2
      = tl (gateT (kernelRun0_B.sl.r (F := Ideal) c arg2 harg2 arg3 harg3 arg4 harg4 arg6 harg6 arg7 harg7 x0 x1 x2 x4 x5) x6 8 (by decide)) := by
  simp only [kernelRun0_B.sl.HS1_18, kernelRun0_B.sl.r_33, kernelRun0_B.sl.v546, k0_pay72_id, k0_pay73_id, rd694, View.readAt_eq_ld, Memref.IsWhole.read_unread]
  rfl

/-- Column tile 9's step. -/
theorem accB9 (c : Dev nD) (arg2 : Memref sig .tc .vmem S688x1024 .f32) (harg2 : arg2.IsWhole) (arg3 : Memref sig .tc .vmem S688x512 .bf16) (harg3 : arg3.IsWhole) (arg4 : Memref sig .tc .vmem S688x512 .f32) (harg4 : arg4.IsWhole) (arg6 : Memref sig .tc .vmem S1024x1024 .bf16) (harg6 : arg6.IsWhole) (arg7 : Memref sig .tc .vmem S1x1024 .f32) (harg7 : arg7.IsWhole) (arg8 : Memref sig .tc .vmem S1024x2816 .bf16) (harg8 : arg8.IsWhole) (arg9 : Memref sig .tc .vmem S1024x2816 .bf16) (harg9 : arg9.IsWhole) (arg10 : Memref sig .tc .vmem S3x2816 .f32) (harg10 : arg10.IsWhole) (arg11 : Memref sig .tc .vmem S1x2816 .f32) (harg11 : arg11.IsWhole) (arg12 : Memref sig .tc .vmem S2816x1024 .bf16) (harg12 : arg12.IsWhole) (arg15 : Memref sig .tc .vmem S688x1024 .f32) (arg16 : Memref sig .tc .vmem S696x256 .f32) (arg17 : Memref sig .tc .vmem S2x2816 .f32) (harg17 : arg17.IsWhole) (x0 : Vec Ideal S688x1024 .f32) (x1 : Vec Ideal S688x512 .bf16) (x2 : Vec Ideal S688x512 .f32) (x4 : Vec Ideal S1024x1024 .bf16) (x5 : Vec Ideal S1x1024 .f32) (x6 : Vec Ideal S1024x2816 .bf16) (x7 : Vec Ideal S1024x2816 .bf16) (x8 : Vec Ideal S3x2816 .f32) (x9 : Vec Ideal S1x2816 .f32) (x10 : Vec Ideal S2816x1024 .bf16) (xs2 : Vec Ideal S2x2816 .f32) :
    kernelRun0_B.sl.v685 (F := Ideal) c arg2 harg2 arg3 harg3 arg4 harg4 arg6 harg6 arg7 harg7 arg8 harg8 arg9 harg9 arg10 harg10 arg11 harg11 arg12 harg12 arg15 arg16 arg17 harg17 x0 x1 x2 x4 x5 x6 x7 x8 x9 x10 xs2
      = step 9 (by decide) (kernelRun0_B.sl.r (F := Ideal) c arg2 harg2 arg3 harg3 arg4 harg4 arg6 harg6 arg7 harg7 x0 x1 x2 x4 x5) x6 x7 x8 x9 x10 xs2
        (kernelRun0_B.sl.v625 (F := Ideal) c arg2 harg2 arg3 harg3 arg4 harg4 arg6 harg6 arg7 harg7 arg8 harg8 arg9 harg9 arg10 harg10 arg11 harg11 arg12 harg12 arg15 arg16 arg17 harg17 x0 x1 x2 x4 x5 x6 x7 x8 x9 x10 xs2) := by
  unfold kernelRun0_B.sl.v685 kernelRun0_B.sl.HS0_11
  rw [View.readCov_cons_unit_lit' _ _ _ _ _ (by decide) (by decide)]
  simp (disch := decide) only [kernelRun0_B.sl.HS1_20, kernelRun0_B.sl.r_37, kernelRun0_B.sl.r_38, kernelRun0_B.sl.r_39, kernelRun0_B.sl.r_40, kernelRun0_B.sl.r_41, kernelRun0_B.sl.v579, kernelRun0_B.sl.v590, kernelRun0_B.sl.v597, k0_pay80_id, k0_pay81_id, rd6, rd7, skip, base, View.readAt_eq_ld, Memref.IsWhole.read_unread, View.ld_unit_lit']
  rfl

/-- Column tile 9's last two gate rows. -/
theorem tlB9 (c : Dev nD) (arg2 : Memref sig .tc .vmem S688x1024 .f32) (harg2 : arg2.IsWhole) (arg3 : Memref sig .tc .vmem S688x512 .bf16) (harg3 : arg3.IsWhole) (arg4 : Memref sig .tc .vmem S688x512 .f32) (harg4 : arg4.IsWhole) (arg6 : Memref sig .tc .vmem S1024x1024 .bf16) (harg6 : arg6.IsWhole) (arg7 : Memref sig .tc .vmem S1x1024 .f32) (harg7 : arg7.IsWhole) (arg8 : Memref sig .tc .vmem S1024x2816 .bf16) (harg8 : arg8.IsWhole) (arg16 : Memref sig .tc .vmem S696x256 .f32) (arg17 : Memref sig .tc .vmem S2x2816 .f32) (harg17 : arg17.IsWhole) (x0 : Vec Ideal S688x1024 .f32) (x1 : Vec Ideal S688x512 .bf16) (x2 : Vec Ideal S688x512 .f32) (x4 : Vec Ideal S1024x1024 .bf16) (x5 : Vec Ideal S1x1024 .f32) (x6 : Vec Ideal S1024x2816 .bf16) (xs2 : Vec Ideal S2x2816 .f32) :
    kernelRun0_B.sl.v606 (F := Ideal) c arg2 harg2 arg3 harg3 arg4 harg4 arg6 harg6 arg7 harg7 arg8 harg8 arg16 arg17 harg17 x0 x1 x2 x4 x5 x6 xs2
      = tl (gateT (kernelRun0_B.sl.r (F := Ideal) c arg2 harg2 arg3 harg3 arg4 harg4 arg6 harg6 arg7 harg7 x0 x1 x2 x4 x5) x6 9 (by decide)) := by
  simp only [kernelRun0_B.sl.HS1_20, kernelRun0_B.sl.v606, k0_pay80_id, k0_pay81_id, rd694, View.readAt_eq_ld, Memref.IsWhole.read_unread]
  rfl

/-- Column tile 10's step. -/
theorem accB10 (c : Dev nD) (arg2 : Memref sig .tc .vmem S688x1024 .f32) (harg2 : arg2.IsWhole) (arg3 : Memref sig .tc .vmem S688x512 .bf16) (harg3 : arg3.IsWhole) (arg4 : Memref sig .tc .vmem S688x512 .f32) (harg4 : arg4.IsWhole) (arg6 : Memref sig .tc .vmem S1024x1024 .bf16) (harg6 : arg6.IsWhole) (arg7 : Memref sig .tc .vmem S1x1024 .f32) (harg7 : arg7.IsWhole) (arg8 : Memref sig .tc .vmem S1024x2816 .bf16) (harg8 : arg8.IsWhole) (arg9 : Memref sig .tc .vmem S1024x2816 .bf16) (harg9 : arg9.IsWhole) (arg10 : Memref sig .tc .vmem S3x2816 .f32) (harg10 : arg10.IsWhole) (arg11 : Memref sig .tc .vmem S1x2816 .f32) (harg11 : arg11.IsWhole) (arg12 : Memref sig .tc .vmem S2816x1024 .bf16) (harg12 : arg12.IsWhole) (arg15 : Memref sig .tc .vmem S688x1024 .f32) (arg16 : Memref sig .tc .vmem S696x256 .f32) (arg17 : Memref sig .tc .vmem S2x2816 .f32) (harg17 : arg17.IsWhole) (x0 : Vec Ideal S688x1024 .f32) (x1 : Vec Ideal S688x512 .bf16) (x2 : Vec Ideal S688x512 .f32) (x4 : Vec Ideal S1024x1024 .bf16) (x5 : Vec Ideal S1x1024 .f32) (x6 : Vec Ideal S1024x2816 .bf16) (x7 : Vec Ideal S1024x2816 .bf16) (x8 : Vec Ideal S3x2816 .f32) (x9 : Vec Ideal S1x2816 .f32) (x10 : Vec Ideal S2816x1024 .bf16) (xs2 : Vec Ideal S2x2816 .f32) :
    kernelRun0_B.sl.v693 (F := Ideal) c arg2 harg2 arg3 harg3 arg4 harg4 arg6 harg6 arg7 harg7 arg8 harg8 arg9 harg9 arg10 harg10 arg11 harg11 arg12 harg12 arg15 arg16 arg17 harg17 x0 x1 x2 x4 x5 x6 x7 x8 x9 x10 xs2
      = step 10 (by decide) (kernelRun0_B.sl.r (F := Ideal) c arg2 harg2 arg3 harg3 arg4 harg4 arg6 harg6 arg7 harg7 x0 x1 x2 x4 x5) x6 x7 x8 x9 x10 xs2
        (kernelRun0_B.sl.v685 (F := Ideal) c arg2 harg2 arg3 harg3 arg4 harg4 arg6 harg6 arg7 harg7 arg8 harg8 arg9 harg9 arg10 harg10 arg11 harg11 arg12 harg12 arg15 arg16 arg17 harg17 x0 x1 x2 x4 x5 x6 x7 x8 x9 x10 xs2) := by
  unfold kernelRun0_B.sl.v693 kernelRun0_B.sl.HS0_12
  rw [View.readCov_cons_unit_lit' _ _ _ _ _ (by decide) (by decide)]
  simp (disch := decide) only [kernelRun0_B.sl.HS1_22, kernelRun0_B.sl.r_42, kernelRun0_B.sl.r_43, kernelRun0_B.sl.r_44, kernelRun0_B.sl.r_45, kernelRun0_B.sl.v639, kernelRun0_B.sl.v650, kernelRun0_B.sl.v657, k0_pay89_id, k0_pay90_id, rd6, rd7, skip, base, View.readAt_eq_ld, Memref.IsWhole.read_unread, View.ld_unit_lit']
  rfl

/-- Column tile 10's last two gate rows. -/
theorem tlB10 (c : Dev nD) (arg2 : Memref sig .tc .vmem S688x1024 .f32) (harg2 : arg2.IsWhole) (arg3 : Memref sig .tc .vmem S688x512 .bf16) (harg3 : arg3.IsWhole) (arg4 : Memref sig .tc .vmem S688x512 .f32) (harg4 : arg4.IsWhole) (arg6 : Memref sig .tc .vmem S1024x1024 .bf16) (harg6 : arg6.IsWhole) (arg7 : Memref sig .tc .vmem S1x1024 .f32) (harg7 : arg7.IsWhole) (arg8 : Memref sig .tc .vmem S1024x2816 .bf16) (harg8 : arg8.IsWhole) (arg16 : Memref sig .tc .vmem S696x256 .f32) (arg17 : Memref sig .tc .vmem S2x2816 .f32) (harg17 : arg17.IsWhole) (x0 : Vec Ideal S688x1024 .f32) (x1 : Vec Ideal S688x512 .bf16) (x2 : Vec Ideal S688x512 .f32) (x4 : Vec Ideal S1024x1024 .bf16) (x5 : Vec Ideal S1x1024 .f32) (x6 : Vec Ideal S1024x2816 .bf16) (xs2 : Vec Ideal S2x2816 .f32) :
    kernelRun0_B.sl.v666 (F := Ideal) c arg2 harg2 arg3 harg3 arg4 harg4 arg6 harg6 arg7 harg7 arg8 harg8 arg16 arg17 harg17 x0 x1 x2 x4 x5 x6 xs2
      = tl (gateT (kernelRun0_B.sl.r (F := Ideal) c arg2 harg2 arg3 harg3 arg4 harg4 arg6 harg6 arg7 harg7 x0 x1 x2 x4 x5) x6 10 (by decide)) := by
  simp only [kernelRun0_B.sl.HS1_22, kernelRun0_B.sl.v666, k0_pay89_id, k0_pay90_id, rd694, View.readAt_eq_ld, Memref.IsWhole.read_unread]
  rfl

/-- The normed block. -/
theorem xnB (c : Dev nD) (arg2 : Memref sig .tc .vmem S688x1024 .f32) (harg2 : arg2.IsWhole) (arg3 : Memref sig .tc .vmem S688x512 .bf16) (harg3 : arg3.IsWhole) (arg4 : Memref sig .tc .vmem S688x512 .f32) (harg4 : arg4.IsWhole) (arg6 : Memref sig .tc .vmem S1024x1024 .bf16) (harg6 : arg6.IsWhole) (arg7 : Memref sig .tc .vmem S1x1024 .f32) (harg7 : arg7.IsWhole) (x0 : Vec Ideal S688x1024 .f32) (x1 : Vec Ideal S688x512 .bf16) (x2 : Vec Ideal S688x512 .f32) (x4 : Vec Ideal S1024x1024 .bf16) (x5 : Vec Ideal S1x1024 .f32) :
    kernelRun0_B.sl.r (F := Ideal) c arg2 harg2 arg3 harg3 arg4 harg4 arg6 harg6 arg7 harg7 x0 x1 x2 x4 x5 = k0_pay4 (F := Ideal) x1 x2 x0 x4 x5 := by
  simp (disch := decide) only [kernelRun0_B.sl.r, View.readAt_eq_ld, Memref.IsWhole.read_unread, View.ld_unit_lit']

/-- The mixed block, stored first. -/
theorem acc0B (c : Dev nD) (arg2 : Memref sig .tc .vmem S688x1024 .f32) (harg2 : arg2.IsWhole) (arg3 : Memref sig .tc .vmem S688x512 .bf16) (harg3 : arg3.IsWhole) (arg4 : Memref sig .tc .vmem S688x512 .f32) (harg4 : arg4.IsWhole) (arg6 : Memref sig .tc .vmem S1024x1024 .bf16) (harg6 : arg6.IsWhole) (arg15 : Memref sig .tc .vmem S688x1024 .f32) (x0 : Vec Ideal S688x1024 .f32) (x1 : Vec Ideal S688x512 .bf16) (x2 : Vec Ideal S688x512 .f32) (x4 : Vec Ideal S1024x1024 .bf16) :
    kernelRun0_B.sl.v85 (F := Ideal) c arg2 harg2 arg3 harg3 arg4 harg4 arg6 harg6 arg15 x0 x1 x2 x4 = k0_pay3 (F := Ideal) x1 x2 x0 x4 := by
  simp (disch := decide) only [kernelRun0_B.sl.v85, kernelRun0_B.sl.HS0_1, View.readCov_unit_lit', k0_pay5_id, View.readAt_eq_ld, Memref.IsWhole.read_unread, View.ld_unit_lit']

/-- The whole block at an index. -/
theorem outB (c : Dev nD) (arg2 : Memref sig .tc .vmem S688x1024 .f32) (harg2 : arg2.IsWhole) (arg3 : Memref sig .tc .vmem S688x512 .bf16) (harg3 : arg3.IsWhole) (arg4 : Memref sig .tc .vmem S688x512 .f32) (harg4 : arg4.IsWhole) (arg6 : Memref sig .tc .vmem S1024x1024 .bf16) (harg6 : arg6.IsWhole) (arg7 : Memref sig .tc .vmem S1x1024 .f32) (harg7 : arg7.IsWhole) (arg8 : Memref sig .tc .vmem S1024x2816 .bf16) (harg8 : arg8.IsWhole) (arg9 : Memref sig .tc .vmem S1024x2816 .bf16) (harg9 : arg9.IsWhole) (arg10 : Memref sig .tc .vmem S3x2816 .f32) (harg10 : arg10.IsWhole) (arg11 : Memref sig .tc .vmem S1x2816 .f32) (harg11 : arg11.IsWhole) (arg12 : Memref sig .tc .vmem S2816x1024 .bf16) (harg12 : arg12.IsWhole) (arg15 : Memref sig .tc .vmem S688x1024 .f32) (arg16 : Memref sig .tc .vmem S696x256 .f32) (arg17 : Memref sig .tc .vmem S2x2816 .f32) (harg17 : arg17.IsWhole) (x0 : Vec Ideal S688x1024 .f32) (x1 : Vec Ideal S688x512 .bf16) (x2 : Vec Ideal S688x512 .f32) (x4 : Vec Ideal S1024x1024 .bf16) (x5 : Vec Ideal S1x1024 .f32) (x6 : Vec Ideal S1024x2816 .bf16) (x7 : Vec Ideal S1024x2816 .bf16) (x8 : Vec Ideal S3x2816 .f32) (x9 : Vec Ideal S1x2816 .f32) (x10 : Vec Ideal S2816x1024 .bf16) (xs2 : Vec Ideal S2x2816 .f32) (i : Fin 688) (d : Fin 1024) :
    (kernelRun0_B.sl.v693 (F := Ideal) c arg2 harg2 arg3 harg3 arg4 harg4 arg6 harg6 arg7 harg7 arg8 harg8 arg9 harg9 arg10 harg10 arg11 harg11 arg12 harg12 arg15 arg16 arg17 harg17 x0 x1 x2 x4 x5 x6 x7 x8 x9 x10 xs2 (ix2 i d) : EReal)
      = k0_pay3 (F := Ideal) x1 x2 x0 x4 (ix2 i d)
        + ∑ n : Fin 2816, hidB (k0_pay4 (F := Ideal) x1 x2 x0 x4 x5) x6 x7 x8 x9 xs2 i n * x10 (ix2 n d) := by
  rw [tiles, accB10, step_at, accB9, step_at, accB8, step_at, accB7, step_at, accB6, step_at, accB5, step_at, accB4, step_at, accB3, step_at, accB2, step_at, accB1, step_at, accB0, step_at, acc0B, xnB]

/-- The two rows carried on, at an index. -/
theorem histB (c : Dev nD) (arg2 : Memref sig .tc .vmem S688x1024 .f32) (harg2 : arg2.IsWhole) (arg3 : Memref sig .tc .vmem S688x512 .bf16) (harg3 : arg3.IsWhole) (arg4 : Memref sig .tc .vmem S688x512 .f32) (harg4 : arg4.IsWhole) (arg6 : Memref sig .tc .vmem S1024x1024 .bf16) (harg6 : arg6.IsWhole) (arg7 : Memref sig .tc .vmem S1x1024 .f32) (harg7 : arg7.IsWhole) (arg8 : Memref sig .tc .vmem S1024x2816 .bf16) (harg8 : arg8.IsWhole) (arg16 : Memref sig .tc .vmem S696x256 .f32) (arg17 : Memref sig .tc .vmem S2x2816 .f32) (harg17 : arg17.IsWhole) (x0 : Vec Ideal S688x1024 .f32) (x1 : Vec Ideal S688x512 .bf16) (x2 : Vec Ideal S688x512 .f32) (x4 : Vec Ideal S1024x1024 .bf16) (x5 : Vec Ideal S1x1024 .f32) (x6 : Vec Ideal S1024x2816 .bf16) (xs2 : Vec Ideal S2x2816 .f32) (i : Fin 2) (n : Fin 2816) :
    (kernelRun0_B.sl.v695 (F := Ideal) c arg2 harg2 arg3 harg3 arg4 harg4 arg6 harg6 arg7 harg7 arg8 harg8 arg16 arg17 harg17 x0 x1 x2 x4 x5 x6 xs2 (ix2 i n) : EReal)
      = rowDot (k0_pay4 (F := Ideal) x1 x2 x0 x4 x5) x6 ⟨686 + i.val, by have := i.isLt; omega⟩ n := by
  rw [← xnB c arg2 harg2 arg3 harg3 arg4 harg4 arg6 harg6 arg7 harg7 x0 x1 x2 x4 x5]
  unfold kernelRun0_B.sl.v695 kernelRun0_B.sl.HS2_11
  rw [View.readCov_eq_canon']
  simp only [k0_pay12_id, k0_pay19_id, k0_pay28_id, k0_pay37_id, k0_pay44_id, k0_pay51_id, k0_pay60_id, k0_pay68_id, k0_pay75_id, k0_pay84_id, k0_pay92_id, tlB0, tlB1, tlB2, tlB3, tlB4, tlB5, tlB6, tlB7, tlB8, tlB9, tlB10]
  refine (congrArg _ (show (Rect.unit (s := S2x2816) ![0, 0] S2x2816.size inb_S2x2816_S2x2816_0_0).toLoadRect.idx (ix2 i n) = ix2 i n from
    funext fun a => Fin.ext (by revert a; exact Fin.forall_fin_two.mpr ⟨by show 0 + 1 * i.val = i.val; omega, by show 0 + 1 * n.val = n.val; omega⟩))).trans ?_
  exact peel _ x6 10 (by decide) 2560 (by decide) _ _
    (peel _ x6 9 (by decide) 2304 (by decide) _ _
    (peel _ x6 8 (by decide) 2048 (by decide) _ _
    (peel _ x6 7 (by decide) 1792 (by decide) _ _
    (peel _ x6 6 (by decide) 1536 (by decide) _ _
    (peel _ x6 5 (by decide) 1280 (by decide) _ _
    (peel _ x6 4 (by decide) 1024 (by decide) _ _
    (peel _ x6 3 (by decide) 768 (by decide) _ _
    (peel _ x6 2 (by decide) 512 (by decide) _ _
    (peel _ x6 1 (by decide) 256 (by decide) _ _
    (peel _ x6 0 (by decide) 0 (by decide) _ _
    (fun i c hc => absurd hc (by omega)))))))))))) i n (by have := n.isLt; omega)

end Cert.PostIdeal.Pure
-- ==== Proof.PostOuts.lean ====
/-
  What the output call's body leaves in each of its buffers, at an index, in both cases.
-/
module

public import proofs.«01_k».proof.Proof.PostRunA
public import proofs.«01_k».proof.Proof.PostRunB
public import proofs.«01_k».proof.Proof.Gen.PostIdeal.Frame
public import Idealize.ShloMosaic.Lib.Pipeline.ValueKit

@[expose] public section

set_option maxRecDepth 16384

noncomputable section

namespace Cert.PostIdeal.Pure

open Cert.PostIdeal Cert.PostIdeal.Gen Cert.RowNorm Cert.PostMath Idealize.ShloMosaic Idealize.ShloMosaic.TcCoe Idealize.SL.Sem

/-- The block stored, case A. -/
theorem blockA (c : Dev nD) (i : grid0.Coords) (arg2 : Memref sig .tc .vmem S688x1024 .f32) (harg2 : arg2.IsWhole) (arg3 : Memref sig .tc .vmem S688x512 .bf16) (harg3 : arg3.IsWhole) (arg4 : Memref sig .tc .vmem S688x512 .f32) (harg4 : arg4.IsWhole) (arg5 : Memref sig .tc .vmem S1x2x2816 .f32) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1024x2816 .bf16) (harg8 : arg8.IsWhole) (arg9 : Memref sig .tc .vmem S1024x2816 .bf16) (harg9 : arg9.IsWhole) (arg10 : Memref sig .tc .vmem S3x2816 .f32) (harg10 : arg10.IsWhole) (arg11 : Memref sig .tc .vmem S1x2816 .f32) (harg11 : arg11.IsWhole) (arg12 : Memref sig .tc .vmem S2816x1024 .bf16) (harg12 : arg12.IsWhole) (arg13 : Memref sig .tc .vmem S688x1024 .f32) (harg13 : arg13.IsWhole) (arg14 : Memref sig .tc .vmem S1x2x2816 .f32) (harg14 : arg14.IsWhole) (arg15 : Memref sig .tc .vmem S688x1024 .f32) (harg15 : arg15.IsWhole) (arg16 : Memref sig .tc .vmem S696x256 .f32) (harg16 : arg16.IsWhole) (arg17 : Memref sig .tc .vmem S2x2816 .f32) (harg17 : arg17.IsWhole) (hc0 : cond0_0 i) (x0 : Vec Ideal S688x1024 .f32) (x1 : Vec Ideal S688x512 .bf16) (x2 : Vec Ideal S688x512 .f32) (x3 : Vec Ideal S1x2x2816 .f32) (x4 : Vec Ideal S1024x1024 .bf16) (x5 : Vec Ideal S1x1024 .f32) (x6 : Vec Ideal S1024x2816 .bf16) (x7 : Vec Ideal S1024x2816 .bf16) (x8 : Vec Ideal S3x2816 .f32) (x9 : Vec Ideal S1x2816 .f32) (x10 : Vec Ideal S2816x1024 .bf16)
    (i' : Fin 688) (d : Fin 1024) :
    (out0_A_11 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 (ix2 i' d) : EReal)
      = k0_pay3 (F := Ideal) x1 x2 x0 x4 (ix2 i' d)
        + ∑ n : Fin 2816, hidB (k0_pay4 (F := Ideal) x1 x2 x0 x4 x5) x6 x7 x8 x9 (k0_pay2 (F := Ideal) x3) i' n * x10 (ix2 n d) := by
  unfold out0_A_11
  rw [View.read_writes_junk_eq_canon]
  unfold kernelRun0_A
  dsimp only
  rw [View.canon_cons_unit_lit' _ _ _ (by decide)]
  exact outA c arg2 harg2 arg3 harg3 arg4 harg4 arg5 harg5 arg6 harg6 arg7 harg7 arg8 harg8 arg9 harg9 arg10 harg10 arg11 harg11 arg12 harg12 arg15 arg16 arg17 x0 x1 x2 x3 x4 x5 x6 x7 x8 x9 x10 i' d

/-- The two rows carried to the next point, case A. -/
theorem carryA (c : Dev nD) (i : grid0.Coords) (arg2 : Memref sig .tc .vmem S688x1024 .f32) (harg2 : arg2.IsWhole) (arg3 : Memref sig .tc .vmem S688x512 .bf16) (harg3 : arg3.IsWhole) (arg4 : Memref sig .tc .vmem S688x512 .f32) (harg4 : arg4.IsWhole) (arg5 : Memref sig .tc .vmem S1x2x2816 .f32) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1024x2816 .bf16) (harg8 : arg8.IsWhole) (arg9 : Memref sig .tc .vmem S1024x2816 .bf16) (harg9 : arg9.IsWhole) (arg10 : Memref sig .tc .vmem S3x2816 .f32) (harg10 : arg10.IsWhole) (arg11 : Memref sig .tc .vmem S1x2816 .f32) (harg11 : arg11.IsWhole) (arg12 : Memref sig .tc .vmem S2816x1024 .bf16) (harg12 : arg12.IsWhole) (arg13 : Memref sig .tc .vmem S688x1024 .f32) (harg13 : arg13.IsWhole) (arg14 : Memref sig .tc .vmem S1x2x2816 .f32) (harg14 : arg14.IsWhole) (arg15 : Memref sig .tc .vmem S688x1024 .f32) (harg15 : arg15.IsWhole) (arg16 : Memref sig .tc .vmem S696x256 .f32) (harg16 : arg16.IsWhole) (arg17 : Memref sig .tc .vmem S2x2816 .f32) (harg17 : arg17.IsWhole) (hc0 : cond0_0 i) (x0 : Vec Ideal S688x1024 .f32) (x1 : Vec Ideal S688x512 .bf16) (x2 : Vec Ideal S688x512 .f32) (x3 : Vec Ideal S1x2x2816 .f32) (x4 : Vec Ideal S1024x1024 .bf16) (x5 : Vec Ideal S1x1024 .f32) (x6 : Vec Ideal S1024x2816 .bf16) (x7 : Vec Ideal S1024x2816 .bf16) (x8 : Vec Ideal S3x2816 .f32) (x9 : Vec Ideal S1x2816 .f32) (x10 : Vec Ideal S2816x1024 .bf16)
    (i' : Fin 2) (n : Fin 2816) :
    (sout0_A_2 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 (ix2 i' n) : EReal)
      = rowDot (k0_pay4 (F := Ideal) x1 x2 x0 x4 x5) x6 ⟨686 + i'.val, by have := i'.isLt; omega⟩ n := by
  refine Eq.trans ?_ (histA c arg2 harg2 arg3 harg3 arg4 harg4 arg5 harg5 arg6 harg6 arg7 harg7 arg8 harg8 arg16 arg17 x0 x1 x2 x3 x4 x5 x6 i' n)
  unfold sout0_A_2
  rw [View.read_writes_junk_eq_canon]
  unfold kernelRun0_A kernelRun0_A.sl.v695
  dsimp only
  rw [View.readCov_eq_canon']
  refine (congrArg _ ?_)
  exact (show (Rect.unit (s := S2x2816) ![0, 0] S2x2816.size inb_S2x2816_S2x2816_0_0).toLoadRect.idx (ix2 i' n) = ix2 i' n from
    funext fun a => Fin.ext (by revert a; exact Fin.forall_fin_two.mpr ⟨by show 0 + 1 * i'.val = i'.val; omega, by show 0 + 1 * n.val = n.val; omega⟩)).symm

/-- The two rows stored, case A. -/
theorem stateA (c : Dev nD) (i : grid0.Coords) (arg2 : Memref sig .tc .vmem S688x1024 .f32) (harg2 : arg2.IsWhole) (arg3 : Memref sig .tc .vmem S688x512 .bf16) (harg3 : arg3.IsWhole) (arg4 : Memref sig .tc .vmem S688x512 .f32) (harg4 : arg4.IsWhole) (arg5 : Memref sig .tc .vmem S1x2x2816 .f32) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1024x2816 .bf16) (harg8 : arg8.IsWhole) (arg9 : Memref sig .tc .vmem S1024x2816 .bf16) (harg9 : arg9.IsWhole) (arg10 : Memref sig .tc .vmem S3x2816 .f32) (harg10 : arg10.IsWhole) (arg11 : Memref sig .tc .vmem S1x2816 .f32) (harg11 : arg11.IsWhole) (arg12 : Memref sig .tc .vmem S2816x1024 .bf16) (harg12 : arg12.IsWhole) (arg13 : Memref sig .tc .vmem S688x1024 .f32) (harg13 : arg13.IsWhole) (arg14 : Memref sig .tc .vmem S1x2x2816 .f32) (harg14 : arg14.IsWhole) (arg15 : Memref sig .tc .vmem S688x1024 .f32) (harg15 : arg15.IsWhole) (arg16 : Memref sig .tc .vmem S696x256 .f32) (harg16 : arg16.IsWhole) (arg17 : Memref sig .tc .vmem S2x2816 .f32) (harg17 : arg17.IsWhole) (hc0 : cond0_0 i) (x0 : Vec Ideal S688x1024 .f32) (x1 : Vec Ideal S688x512 .bf16) (x2 : Vec Ideal S688x512 .f32) (x3 : Vec Ideal S1x2x2816 .f32) (x4 : Vec Ideal S1024x1024 .bf16) (x5 : Vec Ideal S1x1024 .f32) (x6 : Vec Ideal S1024x2816 .bf16) (x7 : Vec Ideal S1024x2816 .bf16) (x8 : Vec Ideal S3x2816 .f32) (x9 : Vec Ideal S1x2816 .f32) (x10 : Vec Ideal S2816x1024 .bf16)
    (i' : Fin 2) (n : Fin 2816) :
    (out0_A_12 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 (ix3 0 i' n) : EReal)
      = rowDot (k0_pay4 (F := Ideal) x1 x2 x0 x4 x5) x6 ⟨686 + i'.val, by have := i'.isLt; omega⟩ n := by
  refine Eq.trans ?_ (histA c arg2 harg2 arg3 harg3 arg4 harg4 arg5 harg5 arg6 harg6 arg7 harg7 arg8 harg8 arg16 arg17 x0 x1 x2 x3 x4 x5 x6 i' n)
  unfold out0_A_12
  rw [View.read_writes_junk_eq_canon]
  unfold kernelRun0_A
  dsimp only
  rw [View.canon_cons_unit_lit' _ _ _ (by decide)]
  pointwise [k0_pay1]

/-- The block stored, case B. -/
theorem blockB (c : Dev nD) (i : grid0.Coords) (arg2 : Memref sig .tc .vmem S688x1024 .f32) (harg2 : arg2.IsWhole) (arg3 : Memref sig .tc .vmem S688x512 .bf16) (harg3 : arg3.IsWhole) (arg4 : Memref sig .tc .vmem S688x512 .f32) (harg4 : arg4.IsWhole) (arg5 : Memref sig .tc .vmem S1x2x2816 .f32) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1024x2816 .bf16) (harg8 : arg8.IsWhole) (arg9 : Memref sig .tc .vmem S1024x2816 .bf16) (harg9 : arg9.IsWhole) (arg10 : Memref sig .tc .vmem S3x2816 .f32) (harg10 : arg10.IsWhole) (arg11 : Memref sig .tc .vmem S1x2816 .f32) (harg11 : arg11.IsWhole) (arg12 : Memref sig .tc .vmem S2816x1024 .bf16) (harg12 : arg12.IsWhole) (arg13 : Memref sig .tc .vmem S688x1024 .f32) (harg13 : arg13.IsWhole) (arg14 : Memref sig .tc .vmem S1x2x2816 .f32) (harg14 : arg14.IsWhole) (arg15 : Memref sig .tc .vmem S688x1024 .f32) (harg15 : arg15.IsWhole) (arg16 : Memref sig .tc .vmem S696x256 .f32) (harg16 : arg16.IsWhole) (arg17 : Memref sig .tc .vmem S2x2816 .f32) (harg17 : arg17.IsWhole) (hc0 : ¬cond0_0 i) (x0 : Vec Ideal S688x1024 .f32) (x1 : Vec Ideal S688x512 .bf16) (x2 : Vec Ideal S688x512 .f32) (x3 : Vec Ideal S1x2x2816 .f32) (x4 : Vec Ideal S1024x1024 .bf16) (x5 : Vec Ideal S1x1024 .f32) (x6 : Vec Ideal S1024x2816 .bf16) (x7 : Vec Ideal S1024x2816 .bf16) (x8 : Vec Ideal S3x2816 .f32) (x9 : Vec Ideal S1x2816 .f32) (x10 : Vec Ideal S2816x1024 .bf16) (xs2 : Vec Ideal S2x2816 .f32)
    (i' : Fin 688) (d : Fin 1024) :
    (out0_B_11 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 xs2 (ix2 i' d) : EReal)
      = k0_pay3 (F := Ideal) x1 x2 x0 x4 (ix2 i' d)
        + ∑ n : Fin 2816, hidB (k0_pay4 (F := Ideal) x1 x2 x0 x4 x5) x6 x7 x8 x9 xs2 i' n * x10 (ix2 n d) := by
  unfold out0_B_11
  rw [View.read_writes_junk_eq_canon]
  unfold kernelRun0_B
  dsimp only
  rw [View.canon_cons_unit_lit' _ _ _ (by decide)]
  exact outB c arg2 harg2 arg3 harg3 arg4 harg4 arg6 harg6 arg7 harg7 arg8 harg8 arg9 harg9 arg10 harg10 arg11 harg11 arg12 harg12 arg15 arg16 arg17 harg17 x0 x1 x2 x4 x5 x6 x7 x8 x9 x10 xs2 i' d

/-- The two rows carried to the next point, case B. -/
theorem carryB (c : Dev nD) (i : grid0.Coords) (arg2 : Memref sig .tc .vmem S688x1024 .f32) (harg2 : arg2.IsWhole) (arg3 : Memref sig .tc .vmem S688x512 .bf16) (harg3 : arg3.IsWhole) (arg4 : Memref sig .tc .vmem S688x512 .f32) (harg4 : arg4.IsWhole) (arg5 : Memref sig .tc .vmem S1x2x2816 .f32) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1024x2816 .bf16) (harg8 : arg8.IsWhole) (arg9 : Memref sig .tc .vmem S1024x2816 .bf16) (harg9 : arg9.IsWhole) (arg10 : Memref sig .tc .vmem S3x2816 .f32) (harg10 : arg10.IsWhole) (arg11 : Memref sig .tc .vmem S1x2816 .f32) (harg11 : arg11.IsWhole) (arg12 : Memref sig .tc .vmem S2816x1024 .bf16) (harg12 : arg12.IsWhole) (arg13 : Memref sig .tc .vmem S688x1024 .f32) (harg13 : arg13.IsWhole) (arg14 : Memref sig .tc .vmem S1x2x2816 .f32) (harg14 : arg14.IsWhole) (arg15 : Memref sig .tc .vmem S688x1024 .f32) (harg15 : arg15.IsWhole) (arg16 : Memref sig .tc .vmem S696x256 .f32) (harg16 : arg16.IsWhole) (arg17 : Memref sig .tc .vmem S2x2816 .f32) (harg17 : arg17.IsWhole) (hc0 : ¬cond0_0 i) (x0 : Vec Ideal S688x1024 .f32) (x1 : Vec Ideal S688x512 .bf16) (x2 : Vec Ideal S688x512 .f32) (x3 : Vec Ideal S1x2x2816 .f32) (x4 : Vec Ideal S1024x1024 .bf16) (x5 : Vec Ideal S1x1024 .f32) (x6 : Vec Ideal S1024x2816 .bf16) (x7 : Vec Ideal S1024x2816 .bf16) (x8 : Vec Ideal S3x2816 .f32) (x9 : Vec Ideal S1x2816 .f32) (x10 : Vec Ideal S2816x1024 .bf16) (xs2 : Vec Ideal S2x2816 .f32)
    (i' : Fin 2) (n : Fin 2816) :
    (sout0_B_2 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 xs2 (ix2 i' n) : EReal)
      = rowDot (k0_pay4 (F := Ideal) x1 x2 x0 x4 x5) x6 ⟨686 + i'.val, by have := i'.isLt; omega⟩ n := by
  refine Eq.trans ?_ (histB c arg2 harg2 arg3 harg3 arg4 harg4 arg6 harg6 arg7 harg7 arg8 harg8 arg16 arg17 harg17 x0 x1 x2 x4 x5 x6 xs2 i' n)
  unfold sout0_B_2
  rw [View.read_writes_junk_eq_canon]
  unfold kernelRun0_B kernelRun0_B.sl.v695
  dsimp only
  rw [View.readCov_eq_canon']
  refine (congrArg _ ?_)
  exact (show (Rect.unit (s := S2x2816) ![0, 0] S2x2816.size inb_S2x2816_S2x2816_0_0).toLoadRect.idx (ix2 i' n) = ix2 i' n from
    funext fun a => Fin.ext (by revert a; exact Fin.forall_fin_two.mpr ⟨by show 0 + 1 * i'.val = i'.val; omega, by show 0 + 1 * n.val = n.val; omega⟩)).symm

/-- The two rows stored, case B. -/
theorem stateB (c : Dev nD) (i : grid0.Coords) (arg2 : Memref sig .tc .vmem S688x1024 .f32) (harg2 : arg2.IsWhole) (arg3 : Memref sig .tc .vmem S688x512 .bf16) (harg3 : arg3.IsWhole) (arg4 : Memref sig .tc .vmem S688x512 .f32) (harg4 : arg4.IsWhole) (arg5 : Memref sig .tc .vmem S1x2x2816 .f32) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1024x2816 .bf16) (harg8 : arg8.IsWhole) (arg9 : Memref sig .tc .vmem S1024x2816 .bf16) (harg9 : arg9.IsWhole) (arg10 : Memref sig .tc .vmem S3x2816 .f32) (harg10 : arg10.IsWhole) (arg11 : Memref sig .tc .vmem S1x2816 .f32) (harg11 : arg11.IsWhole) (arg12 : Memref sig .tc .vmem S2816x1024 .bf16) (harg12 : arg12.IsWhole) (arg13 : Memref sig .tc .vmem S688x1024 .f32) (harg13 : arg13.IsWhole) (arg14 : Memref sig .tc .vmem S1x2x2816 .f32) (harg14 : arg14.IsWhole) (arg15 : Memref sig .tc .vmem S688x1024 .f32) (harg15 : arg15.IsWhole) (arg16 : Memref sig .tc .vmem S696x256 .f32) (harg16 : arg16.IsWhole) (arg17 : Memref sig .tc .vmem S2x2816 .f32) (harg17 : arg17.IsWhole) (hc0 : ¬cond0_0 i) (x0 : Vec Ideal S688x1024 .f32) (x1 : Vec Ideal S688x512 .bf16) (x2 : Vec Ideal S688x512 .f32) (x3 : Vec Ideal S1x2x2816 .f32) (x4 : Vec Ideal S1024x1024 .bf16) (x5 : Vec Ideal S1x1024 .f32) (x6 : Vec Ideal S1024x2816 .bf16) (x7 : Vec Ideal S1024x2816 .bf16) (x8 : Vec Ideal S3x2816 .f32) (x9 : Vec Ideal S1x2816 .f32) (x10 : Vec Ideal S2816x1024 .bf16) (xs2 : Vec Ideal S2x2816 .f32)
    (i' : Fin 2) (n : Fin 2816) :
    (out0_B_12 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 xs2 (ix3 0 i' n) : EReal)
      = rowDot (k0_pay4 (F := Ideal) x1 x2 x0 x4 x5) x6 ⟨686 + i'.val, by have := i'.isLt; omega⟩ n := by
  refine Eq.trans ?_ (histB c arg2 harg2 arg3 harg3 arg4 harg4 arg6 harg6 arg7 harg7 arg8 harg8 arg16 arg17 harg17 x0 x1 x2 x4 x5 x6 xs2 i' n)
  unfold out0_B_12
  rw [View.read_writes_junk_eq_canon]
  unfold kernelRun0_B
  dsimp only
  rw [View.canon_cons_unit_lit' _ _ _ (by decide)]
  pointwise [k0_pay1]

end Cert.PostIdeal.Pure
-- ==== Proof.PostValue.lean ====
/-
  The output call's arrays: the rows it returns and the convolution's state, in the arguments' own terms.
-/
module

public import proofs.«01_k».proof.Proof.PostHost
public import proofs.«01_k».proof.Proof.PostOuts
public import Idealize.ShloMosaic.Lib.Pipeline.ValueKit

@[expose] public section

set_option maxRecDepth 16384

noncomputable section

namespace Cert.PostIdeal.Pure

open Cert.PostIdeal Cert.PostIdeal.Gen Cert.RowNorm Cert.PostMath Idealize.ShloMosaic Idealize.ShloMosaic.TcCoe Idealize.SL.Sem

variable (m : (ℓ : Loc nD τ sig) → Buf (Elt Ideal) ℓ) (c : Dev nD)

/-- The mixed row of batch `b` at position `t`. -/
def mx (b : Fin 8) (t : Fin 2064) : Fin 1024 → EReal :=
  mixed (promptRow (fun b t d => m ((c.tc : Thread nD τ).loc main_arg0) (ix3 b t d)) (fun t d => m ((c.tc : Thread nD τ).loc main_arg1) (ix2 t d)) b t)
    (mixRow (fun k => m ((c.tc : Thread nD τ).loc main_arg2) (ix3 b t k)) (fun k => m ((c.tc : Thread nD τ).loc main_arg3) (ix3 t b k)))
    (fun k d => m ((c.tc : Thread nD τ).loc main_arg4) (ix3 0 k d))

/-- The gains. -/
def gn (d : Fin 1024) : EReal := m ((c.tc : Thread nD τ).loc main_arg5) (ix2 0 d)
/-- The gate's weights. -/
def wg (d : Fin 1024) (n : Fin 2816) : EReal := m ((c.tc : Thread nD τ).loc main_arg6) (ix3 0 d n)
/-- The other branch's weights. -/
def wu (d : Fin 1024) (n : Fin 2816) : EReal := m ((c.tc : Thread nD τ).loc main_arg7) (ix3 0 d n)
/-- The convolution's weights. -/
def cw (j : Fin 3) (n : Fin 2816) : EReal := m ((c.tc : Thread nD τ).loc main_arg8) (ix3 0 j n)
/-- The convolution's bias. -/
def cb (n : Fin 2816) : EReal := m ((c.tc : Thread nD τ).loc main_arg9) (ix2 0 n)
/-- The last weights. -/
def wd (n : Fin 2816) (d : Fin 1024) : EReal := m ((c.tc : Thread nD τ).loc main_arg10) (ix3 0 n d)

/-- The batch of a point. -/
def bt (t : Fin cfg0.N) : Fin 8 := ⟨t.val / 3, by have : t.val < 24 := t.isLt; omega⟩

/-- The position of row `i` of a point's block. -/
def ps (t : Fin cfg0.N) (i : Fin 688) : Fin 2064 := ⟨t.val % 3 * 688 + i.val, by have := i.isLt; omega⟩

/-- A gate entry. -/
def gt (b : Fin 8) (t : Fin 2064) (n : Fin 2816) : EReal := normDot (mx m c b t) (gn m c) (fun d => wg m c d n)

/-- The mixed rows of a point's block. -/
theorem mx_blk (t : Fin cfg0.N) (i : Fin 688) (d : Fin 1024) :
    (k0_pay3 (F := Ideal) (iblk m c 1 t) (iblk m c 2 t) (iblk m c 0 t) (iblk m c 4 t) (ix2 i d) : EReal) = mx m c (bt t) (ps t i) d := by
  refine (pay3_at _ _ _ _ i d).trans ?_
  have ht : t.val < 24 := t.isLt
  have hi := i.isLt
  have eb : (⟨(t.val * 688 + i.val) / 2064, by omega⟩ : Fin 8) = bt t := Fin.ext (by show _ = t.val / 3; simp only; omega)
  have ep : (⟨(t.val * 688 + i.val) % 2064, by omega⟩ : Fin 2064) = ps t i := Fin.ext (by show _ = t.val % 3 * 688 + i.val; simp only; omega)
  unfold mx
  refine congr (congr (congr (congrArg mixed ?_) ?_) ?_) rfl
  · funext e
    refine ((blk0 m c t i e).trans (x_at m c _ e)).trans ?_
    exact congrArg₂ (fun b p => promptRow _ _ b p e) eb ep
  · refine congr (congrArg mixRow ?_) ?_
    · funext k
      refine ((blk1 m c t i k).trans (a_at m c _ k)).trans ?_
      exact congrArg₂ (fun b p => m ((c.tc : Thread nD τ).loc main_arg2) (ix3 b p k)) eb ep
    · funext k
      refine ((blk2 m c t i k).trans (s_at m c _ _)).trans ?_
      have hk := k.isLt
      have eb' : (⟨(t.val / 3 * 512 + k.val) / 512, by omega⟩ : Fin 8) = bt t := Fin.ext (by show _ = t.val / 3; simp only; omega)
      have ek : (⟨(t.val / 3 * 512 + k.val) % 512, by omega⟩ : Fin 512) = k := Fin.ext (by show _ = k.val; simp only; omega)
      exact congrArg₂ (fun b k => m ((c.tc : Thread nD τ).loc main_arg3) (ix3 (ps t i) b k)) eb' ek
  · funext k e
    exact (blk4 m c t k e).trans (wo_at m c k e)

/-- The normed block of a point. -/
abbrev xnp (t : Fin cfg0.N) : Vec Ideal S688x1024 .bf16 :=
  k0_pay4 (F := Ideal) (iblk m c 1 t) (iblk m c 2 t) (iblk m c 0 t) (iblk m c 4 t) (iblk m c 5 t)

/-- A point's gate entries. -/
theorem gt_blk (t : Fin cfg0.N) (i : Fin 688) (n : Fin 2816) :
    rowDot (xnp m c t) (iblk m c 6 t) i n = gt m c (bt t) (ps t i) n := by
  refine (pay4_dot _ _ _ _ _ _ i n).trans ?_
  unfold gt
  exact congr (congr (congrArg normDot (funext fun d => mx_blk m c t i d)) (funext fun d => (blk5 m c t 0 d).trans (g_at m c d)))
    (funext fun d => (blk6 m c t d n).trans (wg_at m c d n))

/-- A point's entries of the other branch. -/
theorem up_blk (t : Fin cfg0.N) (i : Fin 688) (n : Fin 2816) :
    rowDot (xnp m c t) (iblk m c 7 t) i n = normDot (mx m c (bt t) (ps t i)) (gn m c) (fun d => wu m c d n) := by
  refine (pay4_dot _ _ _ _ _ _ i n).trans ?_
  exact congr (congr (congrArg normDot (funext fun d => mx_blk m c t i d)) (funext fun d => (blk5 m c t 0 d).trans (g_at m c d)))
    (funext fun d => (blk7 m c t d n).trans (wu_at m c d n))

/-- A first point: what it carries. -/
theorem carry_A (t : Fin cfg0.N) (h : t.val % 3 = 0) :
    (outsAt0 m c t.val t.isLt).2.2 = sout0_A_2 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) ((hcond0_0 t).mpr h) (iblk m c 0 t) (iblk m c 1 t) (iblk m c 2 t) (iblk m c 3 t) (iblk m c 4 t) (iblk m c 5 t) (iblk m c 6 t) (iblk m c 7 t) (iblk m c 8 t) (iblk m c 9 t) (iblk m c 10 t) := by
  simp only [outsAt0_A m c t h]

/-- A later point: what it carries. -/
theorem carry_B (t : Fin cfg0.N) (h : ¬ t.val % 3 = 0) :
    (outsAt0 m c t.val t.isLt).2.2 = sout0_B_2 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) (fun h0 => h ((hcond0_0 t).mp h0)) (iblk m c 0 t) (iblk m c 1 t) (iblk m c 2 t) (iblk m c 3 t) (iblk m c 4 t) (iblk m c 5 t) (iblk m c 6 t) (iblk m c 7 t) (iblk m c 8 t) (iblk m c 9 t) (iblk m c 10 t) (outsAt0 m c (t.val - 1) (Nat.lt_of_le_of_lt (Nat.sub_le _ _) t.isLt)).2.2 := by
  simp only [outsAt0_B m c t h]

/-- A first point: what it stores as state. -/
theorem state_A (t : Fin cfg0.N) (h : t.val % 3 = 0) :
    (outsAt0 m c t.val t.isLt).2.1 = out0_A_12 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) ((hcond0_0 t).mpr h) (iblk m c 0 t) (iblk m c 1 t) (iblk m c 2 t) (iblk m c 3 t) (iblk m c 4 t) (iblk m c 5 t) (iblk m c 6 t) (iblk m c 7 t) (iblk m c 8 t) (iblk m c 9 t) (iblk m c 10 t) := by
  simp only [outsAt0_A m c t h]

/-- A later point: what it stores as state. -/
theorem state_B (t : Fin cfg0.N) (h : ¬ t.val % 3 = 0) :
    (outsAt0 m c t.val t.isLt).2.1 = out0_B_12 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) (fun h0 => h ((hcond0_0 t).mp h0)) (iblk m c 0 t) (iblk m c 1 t) (iblk m c 2 t) (iblk m c 3 t) (iblk m c 4 t) (iblk m c 5 t) (iblk m c 6 t) (iblk m c 7 t) (iblk m c 8 t) (iblk m c 9 t) (iblk m c 10 t) (outsAt0 m c (t.val - 1) (Nat.lt_of_le_of_lt (Nat.sub_le _ _) t.isLt)).2.2 := by
  simp only [outsAt0_B m c t h]

/-- A first point: what it stores as rows. -/
theorem block_A (t : Fin cfg0.N) (h : t.val % 3 = 0) :
    (outsAt0 m c t.val t.isLt).1 = out0_A_11 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) ((hcond0_0 t).mpr h) (iblk m c 0 t) (iblk m c 1 t) (iblk m c 2 t) (iblk m c 3 t) (iblk m c 4 t) (iblk m c 5 t) (iblk m c 6 t) (iblk m c 7 t) (iblk m c 8 t) (iblk m c 9 t) (iblk m c 10 t) := by
  simp only [outsAt0_A m c t h]

/-- A later point: what it stores as rows. -/
theorem block_B (t : Fin cfg0.N) (h : ¬ t.val % 3 = 0) :
    (outsAt0 m c t.val t.isLt).1 = out0_B_11 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) (fun h0 => h ((hcond0_0 t).mp h0)) (iblk m c 0 t) (iblk m c 1 t) (iblk m c 2 t) (iblk m c 3 t) (iblk m c 4 t) (iblk m c 5 t) (iblk m c 6 t) (iblk m c 7 t) (iblk m c 8 t) (iblk m c 9 t) (iblk m c 10 t) (outsAt0 m c (t.val - 1) (Nat.lt_of_le_of_lt (Nat.sub_le _ _) t.isLt)).2.2 := by
  simp only [outsAt0_B m c t h]

/-- What a point hands to the next: its last two gate rows. -/
theorem carry_pt (t : Fin cfg0.N) (i : Fin 2) (n : Fin 2816) :
    ((outsAt0 m c t.val t.isLt).2.2 (ix2 i n) : EReal)
      = gt m c (bt t) (ps t ⟨686 + i.val, by have := i.isLt; omega⟩) n := by
  refine Eq.trans ?_ (gt_blk m c t _ n)
  by_cases h : t.val % 3 = 0
  · exact (congrFun (carry_A m c t h) (ix2 i n)).trans (carryA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) ((hcond0_0 t).mpr h) (iblk m c 0 t) (iblk m c 1 t) (iblk m c 2 t) (iblk m c 3 t) (iblk m c 4 t) (iblk m c 5 t) (iblk m c 6 t) (iblk m c 7 t) (iblk m c 8 t) (iblk m c 9 t) (iblk m c 10 t) i n)
  · exact (congrFun (carry_B m c t h) (ix2 i n)).trans (carryB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) (fun h0 => h ((hcond0_0 t).mp h0)) (iblk m c 0 t) (iblk m c 1 t) (iblk m c 2 t) (iblk m c 3 t) (iblk m c 4 t) (iblk m c 5 t) (iblk m c 6 t) (iblk m c 7 t) (iblk m c 8 t) (iblk m c 9 t) (iblk m c 10 t) (outsAt0 m c (t.val - 1) (Nat.lt_of_le_of_lt (Nat.sub_le _ _) t.isLt)).2.2 i n)

/-- What a point stores as the convolution's state: its last two gate rows. -/
theorem state_pt (t : Fin cfg0.N) (i : Fin 2) (n : Fin 2816) :
    ((outsAt0 m c t.val t.isLt).2.1 (ix3 0 i n) : EReal)
      = gt m c (bt t) (ps t ⟨686 + i.val, by have := i.isLt; omega⟩) n := by
  refine Eq.trans ?_ (gt_blk m c t _ n)
  by_cases h : t.val % 3 = 0
  · exact (congrFun (state_A m c t h) (ix3 0 i n)).trans (stateA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) ((hcond0_0 t).mpr h) (iblk m c 0 t) (iblk m c 1 t) (iblk m c 2 t) (iblk m c 3 t) (iblk m c 4 t) (iblk m c 5 t) (iblk m c 6 t) (iblk m c 7 t) (iblk m c 8 t) (iblk m c 9 t) (iblk m c 10 t) i n)
  · exact (congrFun (state_B m c t h) (ix3 0 i n)).trans (stateB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) (fun h0 => h ((hcond0_0 t).mp h0)) (iblk m c 0 t) (iblk m c 1 t) (iblk m c 2 t) (iblk m c 3 t) (iblk m c 4 t) (iblk m c 5 t) (iblk m c 6 t) (iblk m c 7 t) (iblk m c 8 t) (iblk m c 9 t) (iblk m c 10 t) (outsAt0 m c (t.val - 1) (Nat.lt_of_le_of_lt (Nat.sub_le _ _) t.isLt)).2.2 i n)

/-- The two gate rows before a point's block. -/
def Before (t : Fin cfg0.N) (H : Vec Ideal S2x2816 .f32) : Prop :=
  ∀ (i : Fin 2) (n : Fin 2816), (H (ix2 i n) : EReal)
    = if h : t.val % 3 = 0 then 0
      else gt m c (bt t) ⟨t.val % 3 * 688 + i.val - 2, by have := i.isLt; omega⟩ n

/-- The first point of a batch starts from zeros. -/
theorem before_A (t : Fin cfg0.N) (h : t.val % 3 = 0) : Before m c t (k0_pay2 (F := Ideal) (iblk m c 3 t)) := by
  intro i n
  rw [dif_pos h]
  refine Eq.trans ?_ ((blk3 m c t i n).trans (z_at m c _ i n))
  pointwise [k0_pay2]

/-- A later point starts from the rows carried to it. -/
theorem before_B (t : Fin cfg0.N) (h : ¬ t.val % 3 = 0) :
    Before m c t (outsAt0 m c (t.val - 1) (Nat.lt_of_le_of_lt (Nat.sub_le _ _) t.isLt)).2.2 := by
  intro i n
  rw [dif_neg h]
  refine (carry_pt m c ⟨t.val - 1, Nat.lt_of_le_of_lt (Nat.sub_le _ _) t.isLt⟩ i n).trans ?_
  have hi := i.isLt
  refine congrArg₂ (fun b p => gt m c b p n) (Fin.ext ?_) (Fin.ext ?_)
  · show (t.val - 1) / 3 = t.val / 3; omega
  · show (t.val - 1) % 3 * 688 + (686 + i.val) = t.val % 3 * 688 + i.val - 2; omega

/-- The gate entry `a` rows back, over the whole batch. -/
theorem back_tap (t : Fin cfg0.N) (H : Vec Ideal S2x2816 .f32) (hH : Before m c t H) (a j : ℕ) (ha : a ≤ 2) (hj : a + j = 2)
    (i : Fin 688) (n : Fin 2816) :
    back a ha H (xnp m c t) (iblk m c 6 t) i n = tap (fun p => gt m c (bt t) p n) j (ps t i) := by
  have hi := i.isLt
  have ep : (ps t i).val = t.val % 3 * 688 + i.val := rfl
  unfold tap
  by_cases h : i.val < a
  · rw [back_pos a ha H _ _ i n h, hH]
    by_cases h3 : t.val % 3 = 0
    · rw [dif_pos h3, dif_pos (by rw [ep]; omega)]
    · rw [dif_neg h3, dif_neg (by rw [ep]; omega)]
      refine congrArg (fun p => gt m c (bt t) p n) (Fin.ext ?_)
      show t.val % 3 * 688 + (i.val + 2 - a) - 2 = (ps t i).val + j - 2
      rw [ep]; omega
  · rw [back_neg a ha H _ _ i n h, gt_blk, dif_neg (by rw [ep]; omega)]
    refine congrArg (fun p => gt m c (bt t) p n) (Fin.ext ?_)
    show t.val % 3 * 688 + (i.val - a) = (ps t i).val + j - 2
    rw [ep]; omega

/-- A point's hidden entries. -/
theorem hid_blk (t : Fin cfg0.N) (H : Vec Ideal S2x2816 .f32) (hH : Before m c t H) (i : Fin 688) (n : Fin 2816) :
    hidB (xnp m c t) (iblk m c 6 t) (iblk m c 7 t) (iblk m c 8 t) (iblk m c 9 t) H i n
      = hid (mx m c (bt t)) (gn m c) (wg m c) (wu m c) (cw m c) (cb m c) (ps t i) n := by
  unfold hidB hid
  refine congrArg₂ (· * ·) (congrArg gelu ?_) (up_blk m c t i n)
  have e0 : rowDot (xnp m c t) (iblk m c 6 t) i n = tap (fun p => gt m c (bt t) p n) 2 (ps t i) := by
    rw [gt_blk]
    unfold tap
    rw [dif_neg (by have := (ps t i).isLt; omega)]
    rfl
  rw [back_tap m c t H hH 2 0 (by decide) rfl i n, back_tap m c t H hH 1 1 (by decide) rfl i n, e0]
  refine congr (congr (congr (congr (congr (congr (congrArg conv ?_) ?_) ?_) ?_) rfl) rfl) rfl
  · exact (blk9 m c t 0 n).trans (cb_at m c n)
  · exact (blk8 m c t 0 n).trans (cw_at m c 0 n)
  · exact (blk8 m c t 1 n).trans (cw_at m c 1 n)
  · exact (blk8 m c t 2 n).trans (cw_at m c 2 n)

/-- A point's rows. -/
theorem row_blk (t : Fin cfg0.N) (H : Vec Ideal S2x2816 .f32) (hH : Before m c t H) (i : Fin 688) (d : Fin 1024) :
    (k0_pay3 (F := Ideal) (iblk m c 1 t) (iblk m c 2 t) (iblk m c 0 t) (iblk m c 4 t) (ix2 i d) : EReal)
        + ∑ n : Fin 2816, hidB (xnp m c t) (iblk m c 6 t) (iblk m c 7 t) (iblk m c 8 t) (iblk m c 9 t) H i n * iblk m c 10 t (ix2 n d)
      = outRow (mx m c (bt t)) (gn m c) (wg m c) (wu m c) (cw m c) (cb m c) (wd m c) (ps t i) d := by
  unfold outRow
  refine congrArg₂ (· + ·) (mx_blk m c t i d) (Finset.sum_congr rfl fun n _ => ?_)
  exact congrArg₂ (· * ·) (hid_blk m c t H hH i n) ((blk10 m c t n d).trans (wd_at m c n d))

/-- What a point stores as its rows. -/
theorem block_pt (t : Fin cfg0.N) (i : Fin 688) (d : Fin 1024) :
    ((outsAt0 m c t.val t.isLt).1 (ix2 i d) : EReal)
      = outRow (mx m c (bt t)) (gn m c) (wg m c) (wu m c) (cw m c) (cb m c) (wd m c) (ps t i) d := by
  by_cases h : t.val % 3 = 0
  · exact (congrFun (block_A m c t h) (ix2 i d)).trans ((blockA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) ((hcond0_0 t).mpr h) (iblk m c 0 t) (iblk m c 1 t) (iblk m c 2 t) (iblk m c 3 t) (iblk m c 4 t) (iblk m c 5 t) (iblk m c 6 t) (iblk m c 7 t) (iblk m c 8 t) (iblk m c 9 t) (iblk m c 10 t) i d).trans (row_blk m c t _ (before_A m c t h) i d))
  · exact (congrFun (block_B m c t h) (ix2 i d)).trans ((blockB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) (fun h0 => h ((hcond0_0 t).mp h0)) (iblk m c 0 t) (iblk m c 1 t) (iblk m c 2 t) (iblk m c 3 t) (iblk m c 4 t) (iblk m c 5 t) (iblk m c 6 t) (iblk m c 7 t) (iblk m c 8 t) (iblk m c 9 t) (iblk m c 10 t) (outsAt0 m c (t.val - 1) (Nat.lt_of_le_of_lt (Nat.sub_le _ _) t.isLt)).2.2 i d).trans (row_blk m c t _ (before_B m c t h) i d))

/-- The rows returned. -/
def Yv : FVec Ideal S16512x1024 .f32 := fun j =>
  outRow (mx m c ⟨(j 0).val / 2064, by have : (j 0).val < 16512 := (j 0).isLt; omega⟩) (gn m c) (wg m c) (wu m c) (cw m c) (cb m c) (wd m c)
    ⟨(j 0).val % 2064, Nat.mod_lt _ (by decide)⟩ (j 1)

/-- The convolution's state returned. -/
def Sv : FVec Ideal S8x2x2816 .f32 := fun j =>
  gt m c (j 0) ⟨2062 + (j 1).val, by have : (j 1).val < 2 := (j 1).isLt; omega⟩ (j 2)

/-- The rows' array. -/
theorem final11 (c : Dev nD) : (dats m 0 c).arrAt 11 (cfgs 0).N = Yv m c := by
  refine (dats m 0 c).arrAt_eq_of_covers 11 _ (by decide +kernel) fun t _ y => ?_
  blk_simp
  rw [after0_11]
  idx_vars y
  rw [emb11]
  refine (block_pt m c t y0 y1).trans ?_
  have ht : t.val < 24 := t.isLt
  have hy := y0.isLt
  refine congrArg₂ (fun b p => outRow (mx m c b) (gn m c) (wg m c) (wu m c) (cw m c) (cb m c) (wd m c) p y1) (Fin.ext ?_) (Fin.ext ?_)
  · show t.val / 3 = (t.val * 688 + y0.val) / 2064; omega
  · show t.val % 3 * 688 + y0.val = (t.val * 688 + y0.val) % 2064; omega

theorem last : ∀ t : Fin cfg0.N, (cfg0.win 12).flush t = true → t.val % 3 = 2 :=
  (by decide +kernel : ∀ t : Fin grid0.N, _)

/-- The state's array. -/
theorem final12 (c : Dev nD) : (dats m 0 c).arrAt 12 (cfgs 0).N = Sv m c := by
  refine (dats m 0 c).arrAt_eq_of_covers 12 _ (by decide +kernel) fun t hf y => ?_
  have h2 := last t hf
  blk_simp
  rw [after0_12]
  idx_vars y
  obtain rfl : y0 = 0 := Subsingleton.elim _ _
  rw [emb12]
  refine (state_pt m c t y1 y2).trans ?_
  refine congrArg (fun p => gt m c (bt t) p y2) (Fin.ext ?_)
  show t.val % 3 * 688 + (686 + y1.val) = 2062 + y1.val
  omega

end Cert.PostIdeal.Pure
-- ==== Proof.PostRef.lean ====
/-
  The output block's reference, read at an index, layer by layer.
-/
module

public import proofs.«01_k».proof.Proof.PostMath
public import proofs.«01_k».proof.Proof.Gen.PostRefIdeal.Run

@[expose] public section

set_option maxRecDepth 16384

noncomputable section

namespace Cert.PostRefIdeal.Pure

open Cert.PostRefIdeal Cert.PostRefIdeal.Gen Cert.PostRefIdeal.Value Cert.RowNorm Cert.PostMath Idealize.ShloMosaic Idealize.ShloMosaic.TcCoe Idealize.SL.Sem

/-- The prompt with the meta tokens in front, plus the mixed rows times the output weights. -/
def xm (a0 : FVec Ideal S8x2048x1024 .f32) (a1 : FVec Ideal S16x1024 .f32) (a2 : FVec Ideal S8x2064x512 .bf16)
    (a3 : FVec Ideal S2064x8x512 .f32) (a4 : FVec Ideal S1x1024x1024 .f32) : FVec Ideal S8x2064x1024 .f32 :=
  addf (concatenate S8x2064x1024 1 [⟨S8x16x1024, (broadcastInDim S8x16x1024 ![1, 2] bcast_S16x1024_S8x16x1024_1_2 a1)⟩, ⟨S8x2048x1024, a0⟩] concatenates_S8x16x1024_S8x2048x1024_S8x2064x1024_d1) (Host.dotGeneral dot_S8x2064x1024_S1024x1024_S8x2064x1024_2_0_01_1_n_n none (concatenate S8x2064x1024 2 [⟨S8x2064x512, (extf .f32 a2 bitsLt_bf16_f32)⟩, ⟨S8x2064x512, (transpose S8x2064x512 [1, 0, 2] a3 transposes_S2064x8x512_S8x2064x512_1_0_2)⟩] concatenates_S8x2064x512_S8x2064x512_S8x2064x1024_d2) (shapeCast _ a4 shapeCasts_S1x1024x1024_S1024x1024))

/-- The normed rows times a matrix of the feed-forward. -/
def ff (x : FVec Ideal S8x2064x1024 .f32) (a5 : FVec Ideal S1x1024 .f32) (w : FVec Ideal S1x1024x2816 .f32) :
    FVec Ideal S8x2064x2816 .f32 :=
  Host.dotGeneral dot_S8x2064x1024_S1024x2816_S8x2064x2816_2_0_01_1_n_n none (mulf (mulf x (broadcastInDim S8x2064x1024 ![0, 1, 2] bcast_S8x2064x1_S8x2064x1024_0_1_2 (Host.rsqrt (addf (Host.divf (broadcastInDim S8x2064x1 ![0, 1] bcast_S8x2064_S8x2064x1_0_1 (Host.reduceAdd (mulf x x) (constant S_ .f32 0x00000000#32) reducesTo_S8x2064x1024_S8x2064_d2 h_S_)) (broadcastInDim S8x2064x1 ![] bcast_S_S8x2064x1 (constant S_ .f32 0x44800000#32))) (broadcastInDim S8x2064x1 ![] bcast_S_S8x2064x1 (constant S_ .f32 0x358637BD#32)))))) (broadcastInDim S8x2064x1024 ![0, 1, 2] bcast_S1x1x1024_S8x2064x1024_0_1_2 (broadcastInDim S1x1x1024 ![2] bcast_S1024_S1x1x1024_2 (shapeCast _ a5 shapeCasts_S1x1024_S1024)))) (shapeCast _ w shapeCasts_S1x1024x2816_S1024x2816)

/-- Two zero positions in front of the gates. -/
def padded (g : FVec Ideal S8x2064x2816 .f32) : FVec Ideal S8x2066x2816 .f32 :=
  concatenate S8x2066x2816 1 [⟨S8x2x2816, (broadcastInDim S8x2x2816 ![] bcast_S_S8x2x2816 (constant S_ .f32 0x00000000#32))⟩, ⟨S8x2064x2816, g⟩] concatenates_S8x2x2816_S8x2064x2816_S8x2066x2816_d1

/-- The convolution along the positions. -/
def cv (p : FVec Ideal S8x2066x2816 .f32) (a8 : FVec Ideal S1x3x2816 .f32) (a9 : FVec Ideal S1x2816 .f32) :
    FVec Ideal S8x2064x2816 .f32 :=
  addf (broadcastInDim S8x2064x2816 ![0, 1, 2] bcast_S1x1x2816_S8x2064x2816_0_1_2 (broadcastInDim S1x1x2816 ![2] bcast_S2816_S1x1x2816_2 (shapeCast _ a9 shapeCasts_S1x2816_S2816))) (addf (addf (addf (broadcastInDim S8x2064x2816 ![] bcast_S_S8x2064x2816 (constant S_ .f32 0x00000000#32)) (mulf (broadcastInDim S8x2064x2816 ![0, 1, 2] bcast_S1x1x2816_S8x2064x2816_0_1_2 (broadcastInDim S1x1x2816 ![2] bcast_S2816_S1x1x2816_2 (shapeCast _ (extractStridedSlice S1x2816 ![0, 0] (shapeCast _ a8 shapeCasts_S1x3x2816_S3x2816) slices_S3x2816_S1x2816_0_0) shapeCasts_S1x2816_S2816))) (extractStridedSlice S8x2064x2816 ![0, 0, 0] p slices_S8x2066x2816_S8x2064x2816_0_0_0))) (mulf (broadcastInDim S8x2064x2816 ![0, 1, 2] bcast_S1x1x2816_S8x2064x2816_0_1_2 (broadcastInDim S1x1x2816 ![2] bcast_S2816_S1x1x2816_2 (shapeCast _ (extractStridedSlice S1x2816 ![1, 0] (shapeCast _ a8 shapeCasts_S1x3x2816_S3x2816) slices_S3x2816_S1x2816_1_0) shapeCasts_S1x2816_S2816))) (extractStridedSlice S8x2064x2816 ![0, 1, 0] p slices_S8x2066x2816_S8x2064x2816_0_1_0))) (mulf (broadcastInDim S8x2064x2816 ![0, 1, 2] bcast_S1x1x2816_S8x2064x2816_0_1_2 (broadcastInDim S1x1x2816 ![2] bcast_S2816_S1x1x2816_2 (shapeCast _ (extractStridedSlice S1x2816 ![2, 0] (shapeCast _ a8 shapeCasts_S1x3x2816_S3x2816) slices_S3x2816_S1x2816_2_0) shapeCasts_S1x2816_S2816))) (extractStridedSlice S8x2064x2816 ![0, 2, 0] p slices_S8x2066x2816_S8x2064x2816_0_2_0)))

/-- The activated convolution times the up branch. -/
def act (v u : FVec Ideal S8x2064x2816 .f32) : FVec Ideal S8x2064x2816 .f32 :=
  mulf (mulf v (mulf (broadcastInDim S8x2064x2816 ![] bcast_S_S8x2064x2816 (constant S_ .f32 0x3F000000#32)) (addf (broadcastInDim S8x2064x2816 ![] bcast_S_S8x2064x2816 (constant S_ .f32 0x3F800000#32)) (Host.tanh (mulf (broadcastInDim S8x2064x2816 ![] bcast_S_S8x2064x2816 (constant S_ .f32 0x3F4C422A#32)) (addf v (mulf (broadcastInDim S8x2064x2816 ![] bcast_S_S8x2064x2816 (constant S_ .f32 0x3D372713#32)) (mulf (mulf v v) v)))))))) u

/-- The rows plus the feed-forward's result, laid out flat. -/
def out (x : FVec Ideal S8x2064x1024 .f32) (h : FVec Ideal S8x2064x2816 .f32) (a10 : FVec Ideal S1x2816x1024 .f32) :
    FVec Ideal S16512x1024 .f32 :=
  shapeCast _ (addf x (Host.dotGeneral dot_S8x2064x2816_S2816x1024_S8x2064x1024_2_0_01_1_n_n none h (shapeCast _ a10 shapeCasts_S1x2816x1024_S2816x1024))) shapeCasts_S8x2064x1024_S16512x1024

/-- One entry of the mixed rows. -/
theorem xm_at (a0 : FVec Ideal S8x2048x1024 .f32) (a1 : FVec Ideal S16x1024 .f32) (a2 : FVec Ideal S8x2064x512 .bf16)
    (a3 : FVec Ideal S2064x8x512 .f32) (a4 : FVec Ideal S1x1024x1024 .f32) (b : Fin 8) (t : Fin 2064) (d : Fin 1024) :
    (xm a0 a1 a2 a3 a4 (ix3 b t d) : EReal)
      = mixed (promptRow (fun b t d => a0 (ix3 b t d)) (fun t d => a1 (ix2 t d)) b t)
          (mixRow (fun k => a2 (ix3 b t k)) (fun k => a3 (ix3 t b k))) (fun k d => a4 (ix3 0 k d)) d := by
  pointwise [xm, mixed, mixRow, promptRow]

/-- One entry of a branch of the feed-forward. -/
theorem ff_at (x : FVec Ideal S8x2064x1024 .f32) (a5 : FVec Ideal S1x1024 .f32) (w : FVec Ideal S1x1024x2816 .f32)
    (b : Fin 8) (t : Fin 2064) (n : Fin 2816) :
    (ff x a5 w (ix3 b t n) : EReal)
      = normDot (fun d => x (ix3 b t d)) (fun d => a5 (ix2 0 d)) (fun d => w (ix3 0 d n)) := by
  pointwise [ff, normDot, rowScale]

/-- The padded gates, three positions at a time. -/
theorem padded_at (g : FVec Ideal S8x2064x2816 .f32) (b : Fin 8) (t : Fin 2064) (j : Fin 3) (n : Fin 2816) (s : Fin 2066)
    (hs : s.val = t.val + j.val) :
    (padded g (ix3 b s n) : EReal) = tap (fun t => g (ix3 b t n)) j.val t := by
  pointwise [padded, tap]
  have hj := j.isLt
  have ht := t.isLt
  by_cases h : s.val < 2
  · rw [dif_pos h, dif_pos (by omega)]
  · rw [dif_neg h, dif_neg (by omega)]
    simp only [hs]

/-- One entry of the convolution. -/
theorem cv_at (p : FVec Ideal S8x2066x2816 .f32) (a8 : FVec Ideal S1x3x2816 .f32) (a9 : FVec Ideal S1x2816 .f32)
    (b : Fin 8) (t : Fin 2064) (n : Fin 2816) :
    (cv p a8 a9 (ix3 b t n) : EReal)
      = conv (a9 (ix2 0 n)) (a8 (ix3 0 0 n)) (a8 (ix3 0 1 n)) (a8 (ix3 0 2 n))
          (p (ix3 b ⟨t.val, by omega⟩ n)) (p (ix3 b ⟨t.val + 1, by omega⟩ n)) (p (ix3 b ⟨t.val + 2, by omega⟩ n)) := by
  pointwise [cv, conv]
  simp only [Nat.add_comm 1, Nat.add_comm 2, add_assoc]

/-- One activated entry. -/
theorem act_at (v u : FVec Ideal S8x2064x2816 .f32) (i : S8x2064x2816.Idx) :
    (act v u i : EReal) = gelu (v i) * u i := by
  pointwise [act, gelu]
  rw [mul_comm (v i * v i) (v i)]

/-- One entry of the result. -/
theorem out_at (x : FVec Ideal S8x2064x1024 .f32) (h : FVec Ideal S8x2064x2816 .f32) (a10 : FVec Ideal S1x2816x1024 .f32)
    (r : Fin 16512) (d : Fin 1024) :
    (out x h a10 (ix2 r d) : EReal)
      = x (ix3 ⟨r.val / 2064, by omega⟩ ⟨r.val % 2064, by omega⟩ d)
        + ∑ n : Fin 2816, h (ix3 ⟨r.val / 2064, by omega⟩ ⟨r.val % 2064, by omega⟩ n) * a10 (ix3 0 n d) := by
  pointwise [out]

variable (m : (ℓ : Loc nD τ sig) → Buf (Elt Ideal) ℓ) (c : Dev nD)

/-- The rows the reference mixes. -/
def Xm : FVec Ideal S8x2064x1024 .f32 :=
  xm (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))

/-- The padded gates of the reference. -/
def Pd : FVec Ideal S8x2066x2816 .f32 :=
  padded (ff (Xm m c) (m ((c.tc : Thread nD τ).loc main_arg5)) (m ((c.tc : Thread nD τ).loc main_arg6)))

/-- The rows the reference returns. -/
theorem y_eq : res_main_v74 m c = out (Xm m c) (act (cv (Pd m c) (m ((c.tc : Thread nD τ).loc main_arg8)) (m ((c.tc : Thread nD τ).loc main_arg9)))
      (ff (Xm m c) (m ((c.tc : Thread nD τ).loc main_arg5)) (m ((c.tc : Thread nD τ).loc main_arg7)))) (m ((c.tc : Thread nD τ).loc main_arg10)) := by
  unfold res_main_v74 out act cv Pd padded ff Xm xm; rfl

/-- The convolution's state the reference returns. -/
def St : FVec Ideal S8x2x2816 .f32 := extractStridedSlice S8x2x2816 ![0, 2064, 0] (Pd m c) slices_S8x2066x2816_S8x2x2816_0_2064_0

/-- The reference's run, its results over the layered terms. -/
theorem run' (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v74) = out (Xm m c) (act (cv (Pd m c) (m ((c.tc : Thread nD τ).loc main_arg8)) (m ((c.tc : Thread nD τ).loc main_arg9)))
          (ff (Xm m c) (m ((c.tc : Thread nD τ).loc main_arg5)) (m ((c.tc : Thread nD τ).loc main_arg7)))) (m ((c.tc : Thread nD τ).loc main_arg10))
      ∧ r.2.mem ((c.tc : Thread nD τ).loc main_v75) = St m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
    := by
  refine (θ_run defs _ _).mono (fun r h c => ?_) (run m ρ)
  obtain ⟨h0, h1, ha⟩ := h c
  exact ⟨h0.trans (y_eq m c), h1.trans (by unfold St Pd padded ff Xm xm; rfl), ha⟩

/-- One entry of the padded gates, over the mixed rows. -/
theorem Pd_at (b : Fin 8) (t : Fin 2064) (j : Fin 3) (n : Fin 2816) (s : Fin 2066) (hs : s.val = t.val + j.val) :
    (Pd m c (ix3 b s n) : EReal)
      = tap (fun t => normDot (fun d => Xm m c (ix3 b t d)) (fun d => m ((c.tc : Thread nD τ).loc main_arg5) (ix2 0 d))
          (fun d => m ((c.tc : Thread nD τ).loc main_arg6) (ix3 0 d n))) j.val t := by
  unfold Pd
  rw [padded_at _ b t j n s hs]
  exact congrArg (fun f => tap f j.val t) (funext fun t => ff_at _ _ _ b t n)

/-- One entry of the state: the gate two positions before the end, or the last one. -/
theorem St_at (b : Fin 8) (i : Fin 2) (n : Fin 2816) :
    (St m c (ix3 b i n) : EReal)
      = normDot (fun d => Xm m c (ix3 b ⟨2062 + i.val, by omega⟩ d)) (fun d => m ((c.tc : Thread nD τ).loc main_arg5) (ix2 0 d))
          (fun d => m ((c.tc : Thread nD τ).loc main_arg6) (ix3 0 d n)) := by
  have e : (St m c (ix3 b i n) : EReal) = Pd m c (ix3 b ⟨2064 + i.val, by omega⟩ n) := by
    unfold St
    generalize Pd m c = p
    pointwise
  rw [e, Pd_at m c b ⟨2062 + i.val, by omega⟩ 2 n _ (by simp only [Fin.val_two]; omega)]
  unfold tap
  rw [dif_neg (by simp only [Fin.val_two]; omega)]
  simp only [Fin.val_two, Nat.add_sub_cancel]

/-- One entry of the returned rows. -/
theorem Y_at (r : Fin 16512) (d : Fin 1024) :
    (out (Xm m c) (act (cv (Pd m c) (m ((c.tc : Thread nD τ).loc main_arg8)) (m ((c.tc : Thread nD τ).loc main_arg9)))
          (ff (Xm m c) (m ((c.tc : Thread nD τ).loc main_arg5)) (m ((c.tc : Thread nD τ).loc main_arg7)))) (m ((c.tc : Thread nD τ).loc main_arg10)) (ix2 r d) : EReal)
      = outRow (fun t d => Xm m c (ix3 ⟨r.val / 2064, by omega⟩ t d)) (fun d => m ((c.tc : Thread nD τ).loc main_arg5) (ix2 0 d))
          (fun d n => m ((c.tc : Thread nD τ).loc main_arg6) (ix3 0 d n)) (fun d n => m ((c.tc : Thread nD τ).loc main_arg7) (ix3 0 d n))
          (fun j n => m ((c.tc : Thread nD τ).loc main_arg8) (ix3 0 j n)) (fun n => m ((c.tc : Thread nD τ).loc main_arg9) (ix2 0 n))
          (fun n d => m ((c.tc : Thread nD τ).loc main_arg10) (ix3 0 n d)) ⟨r.val % 2064, by omega⟩ d := by
  refine (out_at _ _ _ r d).trans ?_
  unfold outRow hid
  refine congrArg (_ + ·) (Finset.sum_congr rfl fun n _ => congrArg (· * _) ?_)
  refine (act_at _ _ _).trans (congrArg₂ (· * ·) (congrArg gelu ?_) (ff_at _ _ _ _ _ n))
  refine (cv_at _ _ _ _ _ n).trans ?_
  rw [Pd_at m c _ ⟨r.val % 2064, by omega⟩ 0 n _ rfl, Pd_at m c _ ⟨r.val % 2064, by omega⟩ 1 n _ rfl, Pd_at m c _ ⟨r.val % 2064, by omega⟩ 2 n _ rfl]
  rfl

end Cert.PostRefIdeal.Pure
-- ==== Proof.PostClaim.lean ====
/-
  The output call against its reference.
-/
module

public import proofs.«01_k».proof.Defs
public import proofs.«01_k».proof.Proof.PostValue
public import proofs.«01_k».proof.Proof.PostRef
public import Idealize.ShloMosaic.Lib.Claim

@[expose] public section

set_option maxRecDepth 16384

noncomputable section

namespace Cert.PostPair

open Cert.RowNorm Cert.PostMath Idealize.ShloMosaic Idealize.ShloMosaic.TcCoe Idealize.SL.Sem

variable (m : (ℓ : Loc Cert.PostIdeal.nD Cert.PostIdeal.τ Cert.PostIdeal.sig) → Buf (Elt Ideal) ℓ) (c : Dev Cert.PostIdeal.nD)

/-- The reference leaves its arguments alone and stops. -/
theorem refFrame : Cert.quiescent_PostRefIdeal := by
  intro m ρ _
  refine (θ_run Cert.PostRefIdeal.defs _ _).mono (fun r h => ⟨fun c => ?_, sem_eq_zero_of_no_sems (by decide) r.2⟩)
    (Cert.PostRefIdeal.Pure.run' m ρ)
  obtain ⟨_, _, ha⟩ := h c
  exact ha

variable (m' : (ℓ : Loc Cert.PostRefIdeal.nD Cert.PostRefIdeal.τ Cert.PostRefIdeal.sig) → Buf (Elt Ideal) ℓ)

/-- The mixed rows of the two programs agree where their arguments do. -/
theorem mixed_row
    (a0 : m' ((c.tc : Thread Cert.PostRefIdeal.nD Cert.PostRefIdeal.τ).loc Cert.PostRefIdeal.main_arg0) = m ((c.tc : Thread Cert.PostIdeal.nD Cert.PostIdeal.τ).loc Cert.PostIdeal.main_arg0))
    (a1 : m' ((c.tc : Thread Cert.PostRefIdeal.nD Cert.PostRefIdeal.τ).loc Cert.PostRefIdeal.main_arg1) = m ((c.tc : Thread Cert.PostIdeal.nD Cert.PostIdeal.τ).loc Cert.PostIdeal.main_arg1))
    (a2 : m' ((c.tc : Thread Cert.PostRefIdeal.nD Cert.PostRefIdeal.τ).loc Cert.PostRefIdeal.main_arg2) = m ((c.tc : Thread Cert.PostIdeal.nD Cert.PostIdeal.τ).loc Cert.PostIdeal.main_arg2))
    (a3 : m' ((c.tc : Thread Cert.PostRefIdeal.nD Cert.PostRefIdeal.τ).loc Cert.PostRefIdeal.main_arg3) = m ((c.tc : Thread Cert.PostIdeal.nD Cert.PostIdeal.τ).loc Cert.PostIdeal.main_arg3))
    (a4 : m' ((c.tc : Thread Cert.PostRefIdeal.nD Cert.PostRefIdeal.τ).loc Cert.PostRefIdeal.main_arg4) = m ((c.tc : Thread Cert.PostIdeal.nD Cert.PostIdeal.τ).loc Cert.PostIdeal.main_arg4))
    (b : Fin 8) (t : Fin 2064) :
    (fun d => Cert.PostRefIdeal.Pure.Xm m' c (ix3 b t d)) = Cert.PostIdeal.Pure.mx m c b t := by
  funext d
  unfold Cert.PostRefIdeal.Pure.Xm
  rw [a0, a1, a2, a3, a4]
  exact Cert.PostRefIdeal.Pure.xm_at _ _ _ _ _ b t d

/-- Over the same arguments the two programs return the same rows and the same state. -/
theorem algebraic : Cert.algebraic_PostIdeal_PostRefIdeal := by
  intro m g m' g' hpre hagree
  refine ⟨fun c => Cert.PostIdeal.Pure.Yv m c, fun c => Cert.PostIdeal.Pure.Sv m c, ?_, ?_⟩
  · refine (θ_run Cert.PostIdeal.defs _ _).mono (fun r h c => ?_) (Cert.PostIdeal.Value.run_blocks m g)
    obtain ⟨h0, h1, ha⟩ := h c
    exact ⟨h0.trans (Cert.PostIdeal.Pure.final11 m c), h1.trans (Cert.PostIdeal.Pure.final12 m c), ha⟩
  · refine (θ_run Cert.PostRefIdeal.defs _ _).mono (fun r h c => ?_) (Cert.PostRefIdeal.Pure.run' m' g')
    obtain ⟨h0, h1, ha⟩ := h c
    obtain ⟨a0, a1, a2, a3, a4, a5, a6, a7, a8, a9, a10⟩ := hagree c
    have hx := fun b t => mixed_row m c m' a0 a1 a2 a3 a4 b t
    refine ⟨h0.trans ?_, h1.trans ?_, ha⟩
    · funext i
      idx_vars i
      refine (Cert.PostRefIdeal.Pure.Y_at m' c i0 i1).trans ?_
      have hb : ∀ b, (fun t d => Cert.PostRefIdeal.Pure.Xm m' c (ix3 b t d)) = Cert.PostIdeal.Pure.mx m c b := fun b => funext fun t => hx b t
      rw [hb, a5, a6, a7, a8, a9, a10]
      rfl
    · funext i
      idx_vars i
      refine (Cert.PostRefIdeal.Pure.St_at m' c i0 i1 i2).trans ?_
      rw [hx, a5, a6]
      rfl

end Cert.PostPair
-- ==== Proof.ProjSPure.lean ====
/-
  The sample batch's projection call: payloads, read at an index.
-/
module

public import proofs.«01_k».proof.Proof.RowNorm
public import proofs.«01_k».proof.Proof.Gen.ProjSIdeal.Skeleton

@[expose] public section

set_option maxRecDepth 16384

noncomputable section

namespace Cert.ProjSIdeal.Pure

open Cert.ProjSIdeal Cert.ProjSIdeal.Gen Cert.RowNorm Idealize.ShloMosaic Idealize.ShloMosaic.TcCoe Idealize.SL.Sem

/-- The projected block at row `i`, column `n`: the normed row times the column. -/
theorem pay1_at (v0 : FVec Ideal S512x1024 .f32) (v12 : FVec Ideal S1x1024 .f32) (v17 : FVec Ideal S1024x2048 .bf16)
    (i : Fin 512) (n : Fin 2048) :
    k0_pay1 (F := Ideal) v0 v12 v17 (ix2 i n)
      = normDot (fun d => v0 (ix2 i d)) (fun d => v12 (ix2 0 d)) (fun d => v17 (ix2 d n)) := by
  pointwise [k0_pay1, normDot, rowScale]

/-- One normed query before its scale. -/
theorem pay2_at (v0 : FVec Ideal S512x1024 .f32) (v12 : FVec Ideal S1x1024 .f32) (v17 : FVec Ideal S1024x2048 .bf16)
    (o : FVec Ideal S256x256 .bf16) (g : FVec Ideal S1x512 .f32) (q : Fin 2 → Fin 64 → EReal)
    (ho : ∀ x j : Fin 256, (o (ix2 x j) : EReal) = (if x.val / 64 = j.val / 64 then 1 else 0) * Ideal.ofBits .bf16 0x3C80#16)
    (hg : ∀ j : Fin 512, (g (ix2 0 j) : EReal) = q ⟨j.val / 64 % 2, by omega⟩ ⟨j.val % 64, by omega⟩) (i : Fin 512) (n : Fin 512) :
    (k0_pay2 (F := Ideal) v0 v12 v17 o o (ix2 i n) * g (ix2 0 n) : EReal)
      = compNorm (fun d => v0 (ix2 i d)) (fun d => v12 (ix2 0 d)) (fun d n => v17 (ix2 d n)) q 0 (by decide) n := by
  pointwise [k0_pay2]
  rw [hg]
  unfold compNorm compScale
  refine congrArg₂ (· * ·) (congrArg₂ (· * ·) ?_ (congrArg Ideal.rsqrt (congrArg (· + _) ?_))) rfl
  · simp only [pay1_at, Nat.zero_add]
  split
  · rename_i h
    refine (blockMean (fun x => k0_pay1 (F := Ideal) v0 v12 v17 (ix2 i ⟨x.val, by have := x.isLt; omega⟩))
      (fun x => o (ix2 x ⟨n.val, h⟩)) ⟨n.val, h⟩ (fun x => ho x _)).trans ?_
    simp only [pay1_at, Nat.zero_add]
  · rename_i h
    refine (blockMean (fun x => k0_pay1 (F := Ideal) v0 v12 v17 (ix2 i ⟨256 + x.val, by have := x.isLt; omega⟩))
      (fun x => o (ix2 x ⟨n.val - 256, by omega⟩)) ⟨n.val - 256, by omega⟩ (fun x => ho x _)).trans ?_
    have hk : ∀ k : Fin 64, 256 + ((n.val - 256) / 64 * 64 + k.val) = n.val / 64 * 64 + k.val := fun k => by omega
    simp only [pay1_at, hk, Nat.zero_add]

/-- One normed key. -/
theorem pay4_at (v0 : FVec Ideal S512x1024 .f32) (v12 : FVec Ideal S1x1024 .f32) (v17 : FVec Ideal S1024x2048 .bf16)
    (o : FVec Ideal S256x256 .bf16) (g : FVec Ideal S1x512 .f32) (q : Fin 2 → Fin 64 → EReal)
    (ho : ∀ x j : Fin 256, (o (ix2 x j) : EReal) = (if x.val / 64 = j.val / 64 then 1 else 0) * Ideal.ofBits .bf16 0x3C80#16)
    (hg : ∀ j : Fin 512, (g (ix2 0 j) : EReal) = q ⟨j.val / 64 % 2, by omega⟩ ⟨j.val % 64, by omega⟩) (i : Fin 512) (n : Fin 512) :
    (k0_pay4 (F := Ideal) (k0_pay1 v0 v12 v17) g o o (ix2 i n) : EReal)
      = compNorm (fun d => v0 (ix2 i d)) (fun d => v12 (ix2 0 d)) (fun d n => v17 (ix2 d n)) q 512 (by decide) n := by
  pointwise [k0_pay4]
  rw [hg]
  unfold compNorm compScale
  refine congrArg₂ (· * ·) (congrArg₂ (· * ·) ?_ (congrArg Ideal.rsqrt (congrArg (· + _) ?_))) rfl
  · simp only [pay1_at, Nat.zero_add]
  split
  · rename_i h
    refine (blockMean (fun x => k0_pay1 (F := Ideal) v0 v12 v17 (ix2 i ⟨512 + x.val, by have := x.isLt; omega⟩))
      (fun x => o (ix2 x ⟨n.val, h⟩)) ⟨n.val, h⟩ (fun x => ho x _)).trans ?_
    simp only [pay1_at, Nat.zero_add]
  · rename_i h
    refine (blockMean (fun x => k0_pay1 (F := Ideal) v0 v12 v17 (ix2 i ⟨512 + (256 + x.val), by have := x.isLt; omega⟩))
      (fun x => o (ix2 x ⟨n.val - 256, by omega⟩)) ⟨n.val - 256, by omega⟩ (fun x => ho x _)).trans ?_
    have hk : ∀ k : Fin 64, 256 + ((n.val - 256) / 64 * 64 + k.val) = n.val / 64 * 64 + k.val := fun k => by omega
    simp only [pay1_at, hk, Nat.zero_add]

/-- One scaled query. -/
theorem pay6_at (a : FVec Ideal S512x512 .f32) (g : FVec Ideal S1x512 .f32) (i : Fin 512) (n : Fin 512) :
    (k0_pay6 (F := Ideal) a (k0_pay3 g) (ix2 i n) : EReal) = a (ix2 i n) * g (ix2 0 n) * Ideal.ofBits .f32 0x3E000000#32 := by
  pointwise [k0_pay6, k0_pay3]

/-- One value. -/
theorem pay5_at (p : FVec Ideal S512x2048 .f32) (i : Fin 512) (n : Fin 512) :
    (k0_pay5 (F := Ideal) p (ix2 i n) : EReal) = p (ix2 i ⟨1024 + n.val, by omega⟩) := by
  pointwise [k0_pay5]

/-- One entry of the recurrence's input. -/
theorem pay9_at (p : FVec Ideal S512x2048 .f32) (i : Fin 512) (n : Fin 512) :
    (k0_pay9 (F := Ideal) p (ix2 i n) : EReal) = p (ix2 i ⟨1536 + n.val, by omega⟩) := by
  pointwise [k0_pay9]

/-- The cast keys are the keys. -/
theorem pay7_at (p : FVec Ideal S512x2048 .f32) (g : FVec Ideal S1x512 .f32) (o : FVec Ideal S256x256 .bf16) (i : Fin 512) (n : Fin 512) :
    (k0_pay7 (F := Ideal) p g o o (ix2 i n) : EReal) = k0_pay4 (F := Ideal) p g o o (ix2 i n) := by
  pointwise [k0_pay7]

/-- The cast values are the values. -/
theorem pay8_at (p : FVec Ideal S512x2048 .f32) (i : Fin 512) (n : Fin 512) :
    (k0_pay8 (F := Ideal) p (ix2 i n) : EReal) = p (ix2 i ⟨1024 + n.val, by omega⟩) := by
  pointwise [k0_pay8, k0_pay5]

end Cert.ProjSIdeal.Pure
-- ==== Proof.ProjSHost.lean ====
/-
  The sample batch's projection call: its operands as its host code prepares them, read at an index, and the arrays it computes.
-/
module

public import proofs.«01_k».proof.Proof.ProjSPure
public import proofs.«01_k».proof.Proof.Gen.ProjSIdeal.Value
public import Idealize.ShloMosaic.Lib.Pipeline.ValueKit

@[expose] public section

set_option maxRecDepth 16384

noncomputable section

namespace Cert.ProjSIdeal.Pure

open Cert.ProjSIdeal Cert.ProjSIdeal.Gen Cert.RowNorm Idealize.ShloMosaic Idealize.ShloMosaic.TcCoe Idealize.SL.Sem

variable (m : (ℓ : Loc nD τ sig) → Buf (Elt Ideal) ℓ) (c : Dev nD)

/-- The number of the 64-column component of each of 256 columns, by the floor division the host computes. -/
def comp : IVec S256 32 :=
  select (andi (cmpi .ne (signi (iotaInDim S256 32 0)) (broadcastInDim S256 ![] bcast_S_S256 (signi (constantI S_ 32 64#32))))
      (cmpi .ne (Host.remsi (iotaInDim S256 32 0) (broadcastInDim S256 ![] bcast_S_S256 (constantI S_ 32 64#32)))
        (broadcastInDim S256 ![] bcast_S_S256 (constantI S_ 32 0#32))))
    (subi (Host.divsi (iotaInDim S256 32 0) (broadcastInDim S256 ![] bcast_S_S256 (constantI S_ 32 64#32)))
      (broadcastInDim S256 ![] bcast_S_S256 (constantI S_ 32 1#32)))
    (Host.divsi (iotaInDim S256 32 0) (broadcastInDim S256 ![] bcast_S_S256 (constantI S_ 32 64#32)))

theorem comp_eq : ∀ x : Fin 256, comp (ix1 x) = BitVec.ofNat 32 (x.val / 64) := by
  decide +kernel

/-- The component numbers as a column and as a row, compared, and scaled by one sixty-fourth. -/
def onesTerm : FVec Ideal S256x256 .bf16 :=
  mulf (uitofp .bf16 (cmpi .eq (broadcastInDim S256x256 ![0, 1] bcast_S256x1_S256x256_0_1 (broadcastInDim S256x1 ![0] bcast_S256_S256x1_0 comp))
      (broadcastInDim S256x256 ![0, 1] bcast_S1x256_S256x256_0_1 (broadcastInDim S1x256 ![1] bcast_S256_S1x256_1 comp))))
    (broadcastInDim S256x256 ![] bcast_S_S256x256 (constant S_ .bf16 0x3C80#16))

theorem ones_eq : V m c main_v9 = onesTerm := by
  simp only [V, hostOps0, hostOps0_1, hostOps0_2, List.flatten_cons, List.flatten_nil, List.append_nil, List.cons_append, List.nil_append]
  after_results
  rfl

theorem ones_at (x j : Fin 256) : ((V m c main_v9 : FVec Ideal S256x256 .bf16) (ix2 x j) : EReal)
    = (if x.val / 64 = j.val / 64 then 1 else 0) * Ideal.ofBits .bf16 0x3C80#16 := by
  rw [ones_eq]
  pointwise [onesTerm]
  simp only [comp_eq]
  congr 1
  have hx : x.val / 64 < 2 ^ 32 := by have := x.isLt; omega
  have hy : j.val / 64 < 2 ^ 32 := by have := j.isLt; omega
  by_cases h : x.val / 64 = j.val / 64
  · rw [h, if_pos rfl]
    simp [IntOp.cmpi, FloatOps.uitofp]
  · rw [if_neg h]
    have hn : ¬ (BitVec.ofNat 32 (x.val / 64) = BitVec.ofNat 32 (j.val / 64)) := by
      intro e
      apply h
      have e2 := congrArg BitVec.toNat e
      rwa [BitVec.toNat_ofNat, BitVec.toNat_ofNat, Nat.mod_eq_of_lt hx, Nat.mod_eq_of_lt hy] at e2
    simp [IntOp.cmpi, FloatOps.uitofp, hn]

theorem qg_at (j : Fin 512) : ((V m c main_v19 : FVec Ideal S1x512 .f32) (ix2 0 j) : EReal)
    = m ((c.tc : Thread nD τ).loc main_arg3) (ix3 0 ⟨j.val / 64 % 2, by omega⟩ ⟨j.val % 64, by omega⟩) := by
  simp only [V, hostOps0, hostOps0_1, hostOps0_2, List.flatten_cons, List.flatten_nil, List.append_nil, List.cons_append, List.nil_append]
  after_results
  pointwise
  have h1 : j.val % 128 / 64 = j.val / 64 % 2 := by omega
  have h2 : j.val % 128 % 64 = j.val % 64 := by omega
  simp only [h1, h2]

theorem kg_at (j : Fin 512) : ((V m c main_v25 : FVec Ideal S1x512 .f32) (ix2 0 j) : EReal)
    = m ((c.tc : Thread nD τ).loc main_arg4) (ix3 0 ⟨j.val / 64 % 2, by omega⟩ ⟨j.val % 64, by omega⟩) := by
  simp only [V, hostOps0, hostOps0_1, hostOps0_2, List.flatten_cons, List.flatten_nil, List.append_nil, List.cons_append, List.nil_append]
  after_results
  pointwise
  have h1 : j.val % 128 / 64 = j.val / 64 % 2 := by omega
  have h2 : j.val % 128 % 64 = j.val % 64 := by omega
  simp only [h1, h2]

/-- Row `r` of the flattened batch is position `r / 128` of sequence `r % 128`. -/
theorem x_at (r : Fin 512) (d : Fin 1024) : ((V m c main_v27 : FVec Ideal S512x1024 .f32) (ix2 r d) : EReal)
    = m ((c.tc : Thread nD τ).loc main_arg0) (ix3 ⟨r.val % 128, by omega⟩ ⟨r.val / 128, by omega⟩ d) := by
  simp only [V, hostOps0, hostOps0_1, hostOps0_2, List.flatten_cons, List.flatten_nil, List.append_nil, List.cons_append, List.nil_append]
  after_results
  pointwise

theorem g_at (d : Fin 1024) : ((V m c main_v11 : FVec Ideal S1x1024 .f32) (ix2 0 d) : EReal)
    = m ((c.tc : Thread nD τ).loc main_arg1) (ix2 0 d) := by
  simp only [V, hostOps0, hostOps0_1, hostOps0_2, List.flatten_cons, List.flatten_nil, List.append_nil, List.cons_append, List.nil_append]
  after_results
  pointwise

theorem w_at (d : Fin 1024) (n : Fin 2048) : ((V m c main_v13 : FVec Ideal S1024x2048 .bf16) (ix2 d n) : EReal)
    = m ((c.tc : Thread nD τ).loc main_arg2) (ix3 0 d n) := by
  simp only [V, hostOps0, hostOps0_1, hostOps0_2, List.flatten_cons, List.flatten_nil, List.append_nil, List.cons_append, List.nil_append]
  after_results
  pointwise

theorem idx : ∀ t : Fin cfg0.N, win0_0.index t = ![0, 0] ∧ win0_1.index t = ![0, 0] ∧ win0_2.index t = ![0, 0] ∧ win0_3.index t = ![0, 0]
    ∧ win0_4.index t = ![0, 0] ∧ win0_5.index t = ![0, 0] ∧ win0_6.index t = ![0, 0] ∧ win0_7.index t = ![0, 0]
    ∧ win0_8.index t = ![0, 0] ∧ win0_9.index t = ![0, 0] ∧ win0_10.index t = ![0, 0] ∧ win0_11.index t = ![0, 0] :=
  (by decide +kernel : ∀ t : Fin grid0.N, _)

theorem blk0 (t : Fin cfg0.N) (i : Fin 512) (d : Fin 1024) :
    iblk m c 0 t (ix2 i d) = V m c main_v27 (ix2 i d) := by
  blk_ext [iblk, idx t]

theorem blk1 (t : Fin cfg0.N) (i : Fin 1) (d : Fin 1024) :
    iblk m c 1 t (ix2 i d) = V m c main_v11 (ix2 i d) := by
  blk_ext [iblk, idx t]

theorem blk2 (t : Fin cfg0.N) (i : Fin 1024) (d : Fin 2048) :
    iblk m c 2 t (ix2 i d) = V m c main_v13 (ix2 i d) := by
  blk_ext [iblk, idx t]

theorem blk3 (t : Fin cfg0.N) (i : Fin 1) (d : Fin 512) :
    iblk m c 3 t (ix2 i d) = V m c main_v19 (ix2 i d) := by
  blk_ext [iblk, idx t]

theorem blk4 (t : Fin cfg0.N) (i : Fin 1) (d : Fin 512) :
    iblk m c 4 t (ix2 i d) = V m c main_v25 (ix2 i d) := by
  blk_ext [iblk, idx t]

theorem blk5 (t : Fin cfg0.N) (i : Fin 256) (d : Fin 256) :
    iblk m c 5 t (ix2 i d) = V m c main_v9 (ix2 i d) := by
  blk_ext [iblk, idx t]

/-- Row `r` of the flattened batch. -/
def row (r : Fin 512) : Fin 1024 → EReal :=
  fun d => m ((c.tc : Thread nD τ).loc main_arg0) (ix3 ⟨r.val % 128, by omega⟩ ⟨r.val / 128, by omega⟩ d)

/-- The gains of the rows' norm. -/
def gain (d : Fin 1024) : EReal := m ((c.tc : Thread nD τ).loc main_arg1) (ix2 0 d)

/-- The weights. -/
def wgt (d : Fin 1024) (n : Fin 2048) : EReal := m ((c.tc : Thread nD τ).loc main_arg2) (ix3 0 d n)

/-- The gains of the queries' norm. -/
def qgain (s : Fin 2) (k : Fin 64) : EReal := m ((c.tc : Thread nD τ).loc main_arg3) (ix3 0 s k)

/-- The gains of the keys' norm. -/
def kgain (s : Fin 2) (k : Fin 64) : EReal := m ((c.tc : Thread nD τ).loc main_arg4) (ix3 0 s k)

/-- The queries. -/
def Q (i : S512x512.Idx) : EReal := compNorm (row m c (i 0)) (gain m c) (wgt m c) (qgain m c) 0 (by decide) (i 1) * Ideal.ofBits .f32 0x3E000000#32

/-- The keys. -/
def K (i : S512x512.Idx) : EReal := compNorm (row m c (i 0)) (gain m c) (wgt m c) (kgain m c) 512 (by decide) (i 1)

/-- The values. -/
def Vl (i : S512x512.Idx) : EReal := normDot (row m c (i 0)) (gain m c) fun d => wgt m c d ⟨1024 + (i 1).val, by have : (i 1).val < 512 := (i 1).isLt; omega⟩

/-- The recurrence's input. -/
def U (i : S512x512.Idx) : EReal := normDot (row m c (i 0)) (gain m c) fun d => wgt m c d ⟨1536 + (i 1).val, by have : (i 1).val < 512 := (i 1).isLt; omega⟩

end Cert.ProjSIdeal.Pure
-- ==== Proof.ProjSValue.lean ====
/-
  The sample batch's projection call: its output arrays.
-/
module

public import proofs.«01_k».proof.Proof.ProjSHost
public import proofs.«01_k».proof.Proof.Gen.ProjSIdeal.Value
public import Idealize.ShloMosaic.Lib.Pipeline.ValueKit

@[expose] public section

set_option maxRecDepth 16384

noncomputable section

namespace Cert.ProjSIdeal.Pure

open Cert.ProjSIdeal Cert.ProjSIdeal.Gen Cert.RowNorm Idealize.ShloMosaic Idealize.ShloMosaic.TcCoe Idealize.SL.Sem

variable (m : (ℓ : Loc nD τ sig) → Buf (Elt Ideal) ℓ) (c : Dev nD)

/-- A row of the rows' window is a row of the batch. -/
theorem row_blk (t : Fin cfg0.N) (i : Fin 512) (d : Fin 1024) :
    (iblk m c 0 t (ix2 i d) : EReal) = row m c i d :=
  (blk0 m c t i d).trans (x_at m c _ d)

theorem gain_blk (t : Fin cfg0.N) (d : Fin 1024) : (iblk m c 1 t (ix2 0 d) : EReal) = gain m c d :=
  (blk1 m c t 0 d).trans (g_at m c d)

theorem wgt_blk (t : Fin cfg0.N) (d : Fin 1024) (n : Fin 2048) : (iblk m c 2 t (ix2 d n) : EReal) = wgt m c d n :=
  (blk2 m c t d n).trans (w_at m c d n)

/-- The inputs of the row norm and the product, in the batch's own terms. -/
theorem dot_at (t : Fin cfg0.N) (i : Fin 512) (n : Fin 2048) :
    normDot (fun d => iblk m c 0 t (ix2 i d)) (fun d => iblk m c 1 t (ix2 0 d)) (fun d => iblk m c 2 t (ix2 d n))
      = normDot (row m c i) (gain m c) (fun d => wgt m c d n) :=
  congr (congr (congrArg normDot (funext fun d => row_blk m c t i d)) (funext fun d => gain_blk m c t d))
    (funext fun d => wgt_blk m c t d n)

theorem norm_at (t : Fin cfg0.N) (i : Fin 512) (q : Fin 2 → Fin 64 → EReal) (off : ℕ) (h : off + 512 ≤ 2048) (j : Fin 512) :
    compNorm (fun d => iblk m c 0 t (ix2 i d)) (fun d => iblk m c 1 t (ix2 0 d)) (fun d n => iblk m c 2 t (ix2 d n)) q off h j
      = compNorm (row m c i) (gain m c) (wgt m c) q off h j :=
  congrArg (fun f => f q off h j)
    (congr (congr (congrArg compNorm (funext fun d => row_blk m c t i d)) (funext fun d => gain_blk m c t d))
      (funext fun d => funext fun n => wgt_blk m c t d n))

theorem ones_blk (t : Fin cfg0.N) (x j : Fin 256) :
    (iblk m c 5 t (ix2 x j) : EReal) = (if x.val / 64 = j.val / 64 then 1 else 0) * Ideal.ofBits .bf16 0x3C80#16 := by
  rw [blk5]; exact ones_at m c x j

theorem qg_blk (t : Fin cfg0.N) (j : Fin 512) :
    (iblk m c 3 t (ix2 0 j) : EReal) = qgain m c ⟨j.val / 64 % 2, by omega⟩ ⟨j.val % 64, by omega⟩ := by
  rw [blk3]; exact qg_at m c j

theorem kg_blk (t : Fin cfg0.N) (j : Fin 512) :
    (iblk m c 4 t (ix2 0 j) : EReal) = kgain m c ⟨j.val / 64 % 2, by omega⟩ ⟨j.val % 64, by omega⟩ := by
  rw [blk4]; exact kg_at m c j

theorem emb6 (t : Fin cfg0.N) (y0 : Fin 512) (y1 : Fin 512) :
    ((View.whole main_v28_0).slice (win0_6.rect t)).emb (ix2 y0 y1) = (ix2 y0 y1 : S512x512.Idx) := by
  blk_ext [idx t]

theorem emb7 (t : Fin cfg0.N) (y0 : Fin 512) (y1 : Fin 512) :
    ((View.whole main_v28_1).slice (win0_7.rect t)).emb (ix2 y0 y1) = (ix2 y0 y1 : S512x512.Idx) := by
  blk_ext [idx t]

theorem emb8 (t : Fin cfg0.N) (y0 : Fin 512) (y1 : Fin 512) :
    ((View.whole main_v28_2).slice (win0_8.rect t)).emb (ix2 y0 y1) = (ix2 y0 y1 : S512x512.Idx) := by
  blk_ext [idx t]

theorem emb9 (t : Fin cfg0.N) (y0 : Fin 512) (y1 : Fin 512) :
    ((View.whole main_v28_3).slice (win0_9.rect t)).emb (ix2 y0 y1) = (ix2 y0 y1 : S512x512.Idx) := by
  blk_ext [idx t]

theorem emb10 (t : Fin cfg0.N) (y0 : Fin 512) (y1 : Fin 512) :
    ((View.whole main_v28_4).slice (win0_10.rect t)).emb (ix2 y0 y1) = (ix2 y0 y1 : S512x512.Idx) := by
  blk_ext [idx t]

theorem emb11 (t : Fin cfg0.N) (y0 : Fin 512) (y1 : Fin 512) :
    ((View.whole main_v28_5).slice (win0_11.rect t)).emb (ix2 y0 y1) = (ix2 y0 y1 : S512x512.Idx) := by
  blk_ext [idx t]

/-- The queries' array. -/
theorem final6 (c : Dev nD) : (dats m 0 c).arrAt 6 (cfgs 0).N = Q m c := by
  refine (dats m 0 c).arrAt_eq_of_covers 6 _ (by decide +kernel) fun t _ y => ?_
  blk_simp
  rw [after0_6]
  frame_out
  idx_vars y
  rw [emb6]
  refine (pay6_at _ _ y0 y1).trans ?_
  rw [pay2_at _ _ _ _ _ (qgain m c) (ones_blk m c t) (qg_blk m c t), norm_at]
  rfl

/-- The keys' array. -/
theorem final7 (c : Dev nD) : (dats m 0 c).arrAt 7 (cfgs 0).N = K m c := by
  refine (dats m 0 c).arrAt_eq_of_covers 7 _ (by decide +kernel) fun t _ y => ?_
  blk_simp
  rw [after0_7]
  frame_out [k0_pay10]
  idx_vars y
  rw [emb7]
  refine (pay4_at _ _ _ _ _ (kgain m c) (ones_blk m c t) (kg_blk m c t) y0 y1).trans ?_
  rw [norm_at]
  rfl

/-- The cast keys' array. -/
theorem final8 (c : Dev nD) : (dats m 0 c).arrAt 8 (cfgs 0).N = K m c := by
  refine (dats m 0 c).arrAt_eq_of_covers 8 _ (by decide +kernel) fun t _ y => ?_
  blk_simp
  rw [after0_8]
  frame_out [k0_pay10]
  idx_vars y
  rw [emb8]
  refine (pay7_at _ _ _ y0 y1).trans ?_
  refine (pay4_at _ _ _ _ _ (kgain m c) (ones_blk m c t) (kg_blk m c t) y0 y1).trans ?_
  rw [norm_at]
  rfl

/-- The values' array. -/
theorem final9 (c : Dev nD) : (dats m 0 c).arrAt 9 (cfgs 0).N = Vl m c := by
  refine (dats m 0 c).arrAt_eq_of_covers 9 _ (by decide +kernel) fun t _ y => ?_
  blk_simp
  rw [after0_9]
  frame_out [k0_pay10]
  idx_vars y
  rw [emb9]
  refine (pay5_at _ y0 y1).trans ?_
  rw [pay1_at, dot_at]
  rfl

/-- The cast values' array. -/
theorem final10 (c : Dev nD) : (dats m 0 c).arrAt 10 (cfgs 0).N = Vl m c := by
  refine (dats m 0 c).arrAt_eq_of_covers 10 _ (by decide +kernel) fun t _ y => ?_
  blk_simp
  rw [after0_10]
  frame_out [k0_pay10]
  idx_vars y
  rw [emb10]
  refine (pay8_at _ y0 y1).trans ?_
  rw [pay1_at, dot_at]
  rfl

/-- The array of the recurrence's inputs. -/
theorem final11 (c : Dev nD) : (dats m 0 c).arrAt 11 (cfgs 0).N = U m c := by
  refine (dats m 0 c).arrAt_eq_of_covers 11 _ (by decide +kernel) fun t _ y => ?_
  blk_simp
  rw [after0_11]
  frame_out [k0_pay10]
  idx_vars y
  rw [emb11]
  refine (pay9_at _ y0 y1).trans ?_
  rw [pay1_at, dot_at]
  rfl

end Cert.ProjSIdeal.Pure
-- ==== Proof.ProjSRef.lean ====
/-
  The sample batch's projection reference, read at an index, layer by layer.
-/
module

public import proofs.«01_k».proof.Proof.RowNorm
public import proofs.«01_k».proof.Proof.Gen.ProjSRefIdeal.Run

@[expose] public section

set_option maxRecDepth 16384

noncomputable section

namespace Cert.ProjSRefIdeal.Pure

open Cert.ProjSRefIdeal Cert.ProjSRefIdeal.Gen Cert.ProjSRefIdeal.Value Cert.RowNorm Idealize.ShloMosaic Idealize.ShloMosaic.TcCoe Idealize.SL.Sem

/-- The normed rows times the weights. -/
def pr (x : FVec Ideal S128x4x1024 .f32) (a2 : FVec Ideal S1x1024 .f32) (a3 : FVec Ideal S1x1024x2048 .f32) :
    FVec Ideal S128x4x2048 .f32 :=
  Host.dotGeneral dot_S128x4x1024_S1024x2048_S128x4x2048_2_0_01_1_n_n none (mulf (mulf x (broadcastInDim S128x4x1024 ![0, 1, 2] bcast_S128x4x1_S128x4x1024_0_1_2 (Host.rsqrt (addf (Host.divf (broadcastInDim S128x4x1 ![0, 1] bcast_S128x4_S128x4x1_0_1 (Host.reduceAdd (mulf x x) (constant S_ .f32 0x00000000#32) reducesTo_S128x4x1024_S128x4_d2 h_S_)) (broadcastInDim S128x4x1 ![] bcast_S_S128x4x1 (constant S_ .f32 0x44800000#32))) (broadcastInDim S128x4x1 ![] bcast_S_S128x4x1 (constant S_ .f32 0x358637BD#32)))))) (broadcastInDim S128x4x1024 ![0, 1, 2] bcast_S1x1x1024_S128x4x1024_0_1_2 (broadcastInDim S1x1x1024 ![2] bcast_S1024_S1x1x1024_2 (shapeCast _ a2 shapeCasts_S1x1024_S1024)))) (shapeCast _ a3 shapeCasts_S1x1024x2048_S1024x2048)

/-- The components of queries or keys, each normed and scaled by its gains. -/
def cn (z : FVec Ideal S128x4x4x2x64 .f32) (a4 : FVec Ideal S1x2x64 .f32) : FVec Ideal S128x4x4x2x64 .f32 :=
  mulf (mulf z (broadcastInDim S128x4x4x2x64 ![0, 1, 2, 3, 4] bcast_S128x4x4x2x1_S128x4x4x2x64_0_1_2_3_4 (Host.rsqrt (addf (Host.divf (broadcastInDim S128x4x4x2x1 ![0, 1, 2, 3] bcast_S128x4x4x2_S128x4x4x2x1_0_1_2_3 (Host.reduceAdd (mulf z z) (constant S_ .f32 0x00000000#32) reducesTo_S128x4x4x2x64_S128x4x4x2_d4 h_S_)) (broadcastInDim S128x4x4x2x1 ![] bcast_S_S128x4x4x2x1 (constant S_ .f32 0x42800000#32))) (broadcastInDim S128x4x4x2x1 ![] bcast_S_S128x4x4x2x1 (constant S_ .f32 0x358637BD#32)))))) (broadcastInDim S128x4x4x2x64 ![0, 1, 2, 3, 4] bcast_S1x1x1x2x64_S128x4x4x2x64_0_1_2_3_4 (broadcastInDim S1x1x1x2x64 ![3, 4] bcast_S2x64_S1x1x1x2x64_3_4 (shapeCast _ a4 shapeCasts_S1x2x64_S2x64)))

theorem pr_at (x : FVec Ideal S128x4x1024 .f32) (a2 : FVec Ideal S1x1024 .f32) (a3 : FVec Ideal S1x1024x2048 .f32)
    (b : Fin 128) (t : Fin 4) (n : Fin 2048) :
    (pr x a2 a3 (ix3 b t n) : EReal)
      = normDot (fun d => x (ix3 b t d)) (fun d => a2 (ix2 0 d)) (fun d => a3 (ix3 0 d n)) := by
  pointwise [pr, normDot, rowScale]

theorem cn_at (z : FVec Ideal S128x4x4x2x64 .f32) (a4 : FVec Ideal S1x2x64 .f32)
    (b : Fin 128) (t : Fin 4) (h : Fin 4) (s : Fin 2) (k : Fin 64) :
    (cn z a4 (ix5 b t h s k) : EReal)
      = z (ix5 b t h s k) * compScale (fun k => z (ix5 b t h s k)) * a4 (ix3 0 s k) := by
  pointwise [cn, compScale]

/-- One normed key, at row `r` and column `j`. -/
theorem k_at (x : FVec Ideal S128x4x1024 .f32) (a2 : FVec Ideal S1x1024 .f32) (a3 : FVec Ideal S1x1024x2048 .f32)
    (a4 : FVec Ideal S1x2x64 .f32) (r : Fin 512) (j : Fin 512) :
    (shapeCast S512x512 (transpose S4x128x512 [1, 0, 2] (shapeCast S128x4x512 (cn (shapeCast S128x4x4x2x64 (extractStridedSlice S128x4x512 ![0, 0, 512] (pr x a2 a3) slices_S128x4x2048_S128x4x512_0_0_512) shapeCasts_S128x4x512_S128x4x4x2x64) a4) shapeCasts_S128x4x4x2x64_S128x4x512) transposes_S128x4x512_S4x128x512_1_0_2) shapeCasts_S4x128x512_S512x512 (ix2 r j) : EReal)
      = compNorm (fun d => x (ix3 ⟨r.val % 128, by omega⟩ ⟨r.val / 128, by omega⟩ d)) (fun d => a2 (ix2 0 d))
          (fun d n => a3 (ix3 0 d n)) (fun s k => a4 (ix3 0 s k)) 512 (by decide) j := by
  pointwise
  simp only [cn_at]
  pointwise
  simp only [pr_at]
  unfold compNorm
  have hj : ∀ k : Fin 64, j.val / 128 * 128 + j.val / 64 % 2 * 64 + k.val = j.val / 64 * 64 + k.val := fun k => by omega
  simp only [hj]

/-- One normed query before its cast, at row `r` and column `j`. -/
theorem q_at (x : FVec Ideal S128x4x1024 .f32) (a2 : FVec Ideal S1x1024 .f32) (a3 : FVec Ideal S1x1024x2048 .f32)
    (a4 : FVec Ideal S1x2x64 .f32) (r : Fin 512) (j : Fin 512) :
    (shapeCast S512x512 (transpose S4x128x512 [1, 0, 2] (shapeCast S128x4x512 (mulf (cn (shapeCast S128x4x4x2x64 (extractStridedSlice S128x4x512 ![0, 0, 0] (pr x a2 a3) slices_S128x4x2048_S128x4x512_0_0_0) shapeCasts_S128x4x512_S128x4x4x2x64) a4) (broadcastInDim S128x4x4x2x64 ![] bcast_S_S128x4x4x2x64 (constant S_ .f32 0x3E000000#32))) shapeCasts_S128x4x4x2x64_S128x4x512) transposes_S128x4x512_S4x128x512_1_0_2) shapeCasts_S4x128x512_S512x512 (ix2 r j) : EReal)
      = compNorm (fun d => x (ix3 ⟨r.val % 128, by omega⟩ ⟨r.val / 128, by omega⟩ d)) (fun d => a2 (ix2 0 d))
          (fun d n => a3 (ix3 0 d n)) (fun s k => a4 (ix3 0 s k)) 0 (by decide) j * Ideal.ofBits .f32 0x3E000000#32 := by
  pointwise
  simp only [cn_at]
  pointwise
  simp only [pr_at]
  unfold compNorm
  have hj : ∀ k : Fin 64, j.val / 128 * 128 + j.val / 64 % 2 * 64 + k.val = j.val / 64 * 64 + k.val := fun k => by omega
  simp only [hj, Nat.zero_add]

/-- One value, at row `r` and column `j`. -/
theorem v_at (p : FVec Ideal S128x4x2048 .f32) (r : Fin 512) (j : Fin 512) :
    (shapeCast S512x512 (transpose S4x128x512 [1, 0, 2] (extractStridedSlice S128x4x512 ![0, 0, 1024] p slices_S128x4x2048_S128x4x512_0_0_1024) transposes_S128x4x512_S4x128x512_1_0_2) shapeCasts_S4x128x512_S512x512 (ix2 r j) : EReal)
      = p (ix3 ⟨r.val % 128, by omega⟩ ⟨r.val / 128, by omega⟩ ⟨1024 + j.val, by omega⟩) := by
  pointwise

/-- One cast value, at row `r` and column `j`. -/
theorem vb_at (p : FVec Ideal S128x4x2048 .f32) (r : Fin 512) (j : Fin 512) :
    (truncf .bf16 (shapeCast S512x512 (transpose S4x128x512 [1, 0, 2] (extractStridedSlice S128x4x512 ![0, 0, 1024] p slices_S128x4x2048_S128x4x512_0_0_1024) transposes_S128x4x512_S4x128x512_1_0_2) shapeCasts_S4x128x512_S512x512) bitsLt_bf16_f32 (ix2 r j) : EReal)
      = p (ix3 ⟨r.val % 128, by omega⟩ ⟨r.val / 128, by omega⟩ ⟨1024 + j.val, by omega⟩) :=
  v_at p r j

/-- One entry of the recurrence's input, at row `r` and column `j`. -/
theorem u_at (p : FVec Ideal S128x4x2048 .f32) (r : Fin 512) (j : Fin 512) :
    (shapeCast S512x512 (transpose S4x128x512 [1, 0, 2] (extractStridedSlice S128x4x512 ![0, 0, 1536] p slices_S128x4x2048_S128x4x512_0_0_1536) transposes_S128x4x512_S4x128x512_1_0_2) shapeCasts_S4x128x512_S512x512 (ix2 r j) : EReal)
      = p (ix3 ⟨r.val % 128, by omega⟩ ⟨r.val / 128, by omega⟩ ⟨1536 + j.val, by omega⟩) := by
  pointwise

variable (m : (ℓ : Loc nD τ sig) → Buf (Elt Ideal) ℓ) (c : Dev nD)

/-- The keys the reference returns. -/
theorem k_eq : res_main_v57 m c = shapeCast S512x512 (transpose S4x128x512 [1, 0, 2] (shapeCast S128x4x512 (cn (shapeCast S128x4x4x2x64 (extractStridedSlice S128x4x512 ![0, 0, 512] (pr (m ((c.tc : Thread nD τ).loc main_arg0)) (m ((c.tc : Thread nD τ).loc main_arg1)) (m ((c.tc : Thread nD τ).loc main_arg2))) slices_S128x4x2048_S128x4x512_0_0_512) shapeCasts_S128x4x512_S128x4x4x2x64) (m ((c.tc : Thread nD τ).loc main_arg4))) shapeCasts_S128x4x4x2x64_S128x4x512) transposes_S128x4x512_S4x128x512_1_0_2) shapeCasts_S4x128x512_S512x512 := by
  unfold res_main_v57 cn pr; rfl

/-- The cast keys the reference returns. -/
theorem kb_eq : res_main_v63 m c = truncf .bf16 (shapeCast S512x512 (transpose S4x128x512 [1, 0, 2] (shapeCast S128x4x512 (cn (shapeCast S128x4x4x2x64 (extractStridedSlice S128x4x512 ![0, 0, 512] (pr (m ((c.tc : Thread nD τ).loc main_arg0)) (m ((c.tc : Thread nD τ).loc main_arg1)) (m ((c.tc : Thread nD τ).loc main_arg2))) slices_S128x4x2048_S128x4x512_0_0_512) shapeCasts_S128x4x512_S128x4x4x2x64) (m ((c.tc : Thread nD τ).loc main_arg4))) shapeCasts_S128x4x4x2x64_S128x4x512) transposes_S128x4x512_S4x128x512_1_0_2) shapeCasts_S4x128x512_S512x512) bitsLt_bf16_f32 := by
  unfold res_main_v63 cn pr; rfl

/-- The queries the reference returns. -/
theorem q_eq : res_main_v62 m c = truncf .bf16 (shapeCast S512x512 (transpose S4x128x512 [1, 0, 2] (shapeCast S128x4x512 (mulf (cn (shapeCast S128x4x4x2x64 (extractStridedSlice S128x4x512 ![0, 0, 0] (pr (m ((c.tc : Thread nD τ).loc main_arg0)) (m ((c.tc : Thread nD τ).loc main_arg1)) (m ((c.tc : Thread nD τ).loc main_arg2))) slices_S128x4x2048_S128x4x512_0_0_0) shapeCasts_S128x4x512_S128x4x4x2x64) (m ((c.tc : Thread nD τ).loc main_arg3))) (broadcastInDim S128x4x4x2x64 ![] bcast_S_S128x4x4x2x64 (constant S_ .f32 0x3E000000#32))) shapeCasts_S128x4x4x2x64_S128x4x512) transposes_S128x4x512_S4x128x512_1_0_2) shapeCasts_S4x128x512_S512x512) bitsLt_bf16_f32 := by
  unfold res_main_v62 cn pr; rfl

/-- The reference's run, its results over the layered terms. -/
theorem run' (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v62) = truncf .bf16 (shapeCast S512x512 (transpose S4x128x512 [1, 0, 2] (shapeCast S128x4x512 (mulf (cn (shapeCast S128x4x4x2x64 (extractStridedSlice S128x4x512 ![0, 0, 0] (pr (m ((c.tc : Thread nD τ).loc main_arg0)) (m ((c.tc : Thread nD τ).loc main_arg1)) (m ((c.tc : Thread nD τ).loc main_arg2))) slices_S128x4x2048_S128x4x512_0_0_0) shapeCasts_S128x4x512_S128x4x4x2x64) (m ((c.tc : Thread nD τ).loc main_arg3))) (broadcastInDim S128x4x4x2x64 ![] bcast_S_S128x4x4x2x64 (constant S_ .f32 0x3E000000#32))) shapeCasts_S128x4x4x2x64_S128x4x512) transposes_S128x4x512_S4x128x512_1_0_2) shapeCasts_S4x128x512_S512x512) bitsLt_bf16_f32
      ∧ r.2.mem ((c.tc : Thread nD τ).loc main_v57) = shapeCast S512x512 (transpose S4x128x512 [1, 0, 2] (shapeCast S128x4x512 (cn (shapeCast S128x4x4x2x64 (extractStridedSlice S128x4x512 ![0, 0, 512] (pr (m ((c.tc : Thread nD τ).loc main_arg0)) (m ((c.tc : Thread nD τ).loc main_arg1)) (m ((c.tc : Thread nD τ).loc main_arg2))) slices_S128x4x2048_S128x4x512_0_0_512) shapeCasts_S128x4x512_S128x4x4x2x64) (m ((c.tc : Thread nD τ).loc main_arg4))) shapeCasts_S128x4x4x2x64_S128x4x512) transposes_S128x4x512_S4x128x512_1_0_2) shapeCasts_S4x128x512_S512x512
      ∧ r.2.mem ((c.tc : Thread nD τ).loc main_v63) = truncf .bf16 (shapeCast S512x512 (transpose S4x128x512 [1, 0, 2] (shapeCast S128x4x512 (cn (shapeCast S128x4x4x2x64 (extractStridedSlice S128x4x512 ![0, 0, 512] (pr (m ((c.tc : Thread nD τ).loc main_arg0)) (m ((c.tc : Thread nD τ).loc main_arg1)) (m ((c.tc : Thread nD τ).loc main_arg2))) slices_S128x4x2048_S128x4x512_0_0_512) shapeCasts_S128x4x512_S128x4x4x2x64) (m ((c.tc : Thread nD τ).loc main_arg4))) shapeCasts_S128x4x4x2x64_S128x4x512) transposes_S128x4x512_S4x128x512_1_0_2) shapeCasts_S4x128x512_S512x512) bitsLt_bf16_f32
      ∧ r.2.mem ((c.tc : Thread nD τ).loc main_v59) = shapeCast S512x512 (transpose S4x128x512 [1, 0, 2] (extractStridedSlice S128x4x512 ![0, 0, 1024] (pr (m ((c.tc : Thread nD τ).loc main_arg0)) (m ((c.tc : Thread nD τ).loc main_arg1)) (m ((c.tc : Thread nD τ).loc main_arg2))) slices_S128x4x2048_S128x4x512_0_0_1024) transposes_S128x4x512_S4x128x512_1_0_2) shapeCasts_S4x128x512_S512x512
      ∧ r.2.mem ((c.tc : Thread nD τ).loc main_v64) = truncf .bf16 (shapeCast S512x512 (transpose S4x128x512 [1, 0, 2] (extractStridedSlice S128x4x512 ![0, 0, 1024] (pr (m ((c.tc : Thread nD τ).loc main_arg0)) (m ((c.tc : Thread nD τ).loc main_arg1)) (m ((c.tc : Thread nD τ).loc main_arg2))) slices_S128x4x2048_S128x4x512_0_0_1024) transposes_S128x4x512_S4x128x512_1_0_2) shapeCasts_S4x128x512_S512x512) bitsLt_bf16_f32
      ∧ r.2.mem ((c.tc : Thread nD τ).loc main_v61) = shapeCast S512x512 (transpose S4x128x512 [1, 0, 2] (extractStridedSlice S128x4x512 ![0, 0, 1536] (pr (m ((c.tc : Thread nD τ).loc main_arg0)) (m ((c.tc : Thread nD τ).loc main_arg1)) (m ((c.tc : Thread nD τ).loc main_arg2))) slices_S128x4x2048_S128x4x512_0_0_1536) transposes_S128x4x512_S4x128x512_1_0_2) shapeCasts_S4x128x512_S512x512
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
    := by
  refine (θ_run defs _ _).mono (fun r h c => ?_) (run m ρ)
  obtain ⟨h0, h1, h2, h3, h4, h5, ha⟩ := h c
  exact ⟨h0.trans (q_eq m c), h1.trans (k_eq m c), h2.trans (kb_eq m c), h3.trans (by unfold pr; rfl), h4.trans (by unfold pr; rfl),
    h5.trans (by unfold pr; rfl), ha⟩

end Cert.ProjSRefIdeal.Pure
-- ==== Proof.ProjSClaim.lean ====
/-
  The sample batch's projection call against its reference.
-/
module

public import proofs.«01_k».proof.Defs
public import proofs.«01_k».proof.Proof.ProjSValue
public import proofs.«01_k».proof.Proof.ProjSRef
public import Idealize.ShloMosaic.Lib.Claim

@[expose] public section

set_option maxRecDepth 16384

noncomputable section

namespace Cert.ProjSPair

open Cert.RowNorm Idealize.ShloMosaic Idealize.ShloMosaic.TcCoe Idealize.SL.Sem

variable (m : (ℓ : Loc Cert.ProjSIdeal.nD Cert.ProjSIdeal.τ Cert.ProjSIdeal.sig) → Buf (Elt Ideal) ℓ) (c : Dev Cert.ProjSIdeal.nD)

/-- The reference leaves its arguments alone and stops. -/
theorem refFrame : Cert.quiescent_ProjSRefIdeal := by
  intro m ρ _
  refine (θ_run Cert.ProjSRefIdeal.defs _ _).mono (fun r h => ⟨fun c => ?_, sem_eq_zero_of_no_sems (by decide) r.2⟩)
    (Cert.ProjSRefIdeal.Pure.run' m ρ)
  obtain ⟨_, _, _, _, _, _, ha⟩ := h c
  exact ha

/-- Over the same arguments the two programs return the same six arrays. -/
theorem algebraic : Cert.algebraic_ProjSIdeal_ProjSRefIdeal := by
  intro m g m' g' hpre hagree
  refine ⟨fun c => Cert.ProjSIdeal.Pure.Q m c, fun c => Cert.ProjSIdeal.Pure.K m c, fun c => Cert.ProjSIdeal.Pure.K m c,
    fun c => Cert.ProjSIdeal.Pure.Vl m c, fun c => Cert.ProjSIdeal.Pure.Vl m c, fun c => Cert.ProjSIdeal.Pure.U m c, ?_, ?_⟩
  · refine (θ_run Cert.ProjSIdeal.defs _ _).mono (fun r h c => ?_) (Cert.ProjSIdeal.Value.run_blocks m g)
    obtain ⟨h0, h1, h2, h3, h4, h5, ha⟩ := h c
    exact ⟨h0.trans (Cert.ProjSIdeal.Pure.final6 m c), h1.trans (Cert.ProjSIdeal.Pure.final7 m c), h2.trans (Cert.ProjSIdeal.Pure.final8 m c),
      h3.trans (Cert.ProjSIdeal.Pure.final9 m c), h4.trans (Cert.ProjSIdeal.Pure.final10 m c), h5.trans (Cert.ProjSIdeal.Pure.final11 m c), ha⟩
  · refine (θ_run Cert.ProjSRefIdeal.defs _ _).mono (fun r h c => ?_) (Cert.ProjSRefIdeal.Pure.run' m' g')
    obtain ⟨h0, h1, h2, h3, h4, h5, ha⟩ := h c
    obtain ⟨a0, a1, a2, a3, a4⟩ := hagree c
    rw [a0, a1, a2, a3] at h0
    rw [a0, a1, a2, a4] at h1 h2
    rw [a0, a1, a2] at h3 h4 h5
    refine ⟨h0.trans ?_, h1.trans ?_, h2.trans ?_, h3.trans ?_, h4.trans ?_, h5.trans ?_, ha⟩
    · funext i
      idx_vars i
      refine (Cert.ProjSRefIdeal.Pure.q_at _ _ _ _ i0 i1).trans ?_
      rfl
    · funext i
      idx_vars i
      refine (Cert.ProjSRefIdeal.Pure.k_at _ _ _ _ i0 i1).trans ?_
      rfl
    · funext i
      idx_vars i
      refine (Cert.ProjSRefIdeal.Pure.k_at _ _ _ _ i0 i1).trans ?_
      rfl
    · funext i
      idx_vars i
      refine (Cert.ProjSRefIdeal.Pure.v_at _ i0 i1).trans ?_
      rw [Cert.ProjSRefIdeal.Pure.pr_at]
      rfl
    · funext i
      idx_vars i
      refine (Cert.ProjSRefIdeal.Pure.vb_at _ i0 i1).trans ?_
      rw [Cert.ProjSRefIdeal.Pure.pr_at]
      rfl
    · funext i
      idx_vars i
      refine (Cert.ProjSRefIdeal.Pure.u_at _ i0 i1).trans ?_
      rw [Cert.ProjSRefIdeal.Pure.pr_at]
      rfl

end Cert.ProjSPair
-- ==== Proof.PostSMath.lean ====
/-
  The mathematics of the output block on a batch of short sequences that carry two earlier gate rows each.
-/
module

public import proofs.«01_k».proof.Proof.PostMath

@[expose] public section

noncomputable section

namespace Cert.PostMath

open Cert.RowNorm Idealize.ShloMosaic

/-- Position `t + j` of the sequence `h` of two earlier entries followed by `g`. -/
def tapS (h : Fin 2 → EReal) (g : Fin 4 → EReal) (j : Fin 3) (t : Fin 4) : EReal :=
  if hh : t.val + j.val < 2 then h ⟨t.val + j.val, hh⟩ else g ⟨t.val + j.val - 2, by have := t.isLt; have := j.isLt; omega⟩

/-- The hidden entry at position `t` and column `n` of one sequence whose mixed rows are `x` and whose earlier gate rows are `hs`. -/
def hidS (hs : Fin 2 → Fin 2816 → EReal) (x : Fin 4 → Fin 1024 → EReal) (g : Fin 1024 → EReal) (wg wu : Fin 1024 → Fin 2816 → EReal)
    (cw : Fin 3 → Fin 2816 → EReal) (cb : Fin 2816 → EReal) (t : Fin 4) (n : Fin 2816) : EReal :=
  gelu (conv (cb n) (cw 0 n) (cw 1 n) (cw 2 n) (tapS (fun i => hs i n) (fun t => normDot (x t) g (fun d => wg d n)) 0 t)
      (tapS (fun i => hs i n) (fun t => normDot (x t) g (fun d => wg d n)) 1 t)
      (tapS (fun i => hs i n) (fun t => normDot (x t) g (fun d => wg d n)) 2 t))
    * normDot (x t) g (fun d => wu d n)

/-- The output row at position `t` of one sequence, entry `d`. -/
def outRowS (hs : Fin 2 → Fin 2816 → EReal) (x : Fin 4 → Fin 1024 → EReal) (g : Fin 1024 → EReal) (wg wu : Fin 1024 → Fin 2816 → EReal)
    (cw : Fin 3 → Fin 2816 → EReal) (cb : Fin 2816 → EReal) (wd : Fin 2816 → Fin 1024 → EReal) (t : Fin 4) (d : Fin 1024) : EReal :=
  x t d + ∑ n : Fin 2816, hidS hs x g wg wu cw cb t n * wd n d

end Cert.PostMath
-- ==== Proof.PostSPure.lean ====
/-
  The sample batch's output block, its payloads: what its loads read of its stores, one column tile's step as one function, and that
  step at an index.
-/
module

public import proofs.«01_k».proof.Proof.PostSMath
public import proofs.«01_k».proof.Proof.Gen.PostSIdeal.Skeleton
public import Idealize.ShloMosaic.Lib.Pipeline.ValueKit

@[expose] public section

set_option maxRecDepth 16384

noncomputable section

namespace Cert.PostSIdeal.Pure

open Cert.PostSIdeal Cert.PostSIdeal.Gen Cert.RowNorm Cert.PostMath Idealize.ShloMosaic Idealize.ShloMosaic.TcCoe Idealize.SL.Sem

/-- Columns `256 k …` of a matrix of 1024 rows. -/
def wcol (x : Vec Ideal S1024x2816 .bf16) (k : ℕ) (h : k < 11) : Vec Ideal S1024x256 .bf16 :=
  View.ld x (Rect.unit (s := S1024x2816) ![0, 256 * k] S1024x256.size (Fin.forall_fin_two.mpr ⟨by show 0 + 1024 ≤ 1024; omega, by show 256 * k + 256 ≤ 2816; omega⟩))

/-- Rows `256 k …` of a matrix of 1024 columns. -/
def drow (x : Vec Ideal S2816x1024 .bf16) (k : ℕ) (h : k < 11) : Vec Ideal S256x1024 .bf16 :=
  View.ld x (Rect.unit (s := S2816x1024) ![256 * k, 0] S256x1024.size (Fin.forall_fin_two.mpr ⟨by show 256 * k + 256 ≤ 2816; omega, by show 0 + 1024 ≤ 1024; omega⟩))

/-- Columns `256 k …` of a single row. -/
def bcol (x : Vec Ideal S1x2816 .f32) (k : ℕ) (h : k < 11) : Vec Ideal S1x256 .f32 :=
  View.ld x (Rect.unit (s := S1x2816) ![0, 256 * k] S1x256.size (Fin.forall_fin_two.mpr ⟨by show 0 + 1 ≤ 1; omega, by show 256 * k + 256 ≤ 2816; omega⟩))

/-- Columns `256 k …` of the 256 history rows. -/
def hcol (x : Vec Ideal S256x2816 .f32) (k : ℕ) (h : k < 11) : Vec Ideal S256x256 .f32 :=
  View.ld x (Rect.unit (s := S256x2816) ![0, 256 * k] S256x256.size (Fin.forall_fin_two.mpr ⟨by show 0 + 256 ≤ 256; omega, by show 256 * k + 256 ≤ 2816; omega⟩))

/-- Columns `256 k …` of row `a` of three. -/
def ccol (x : Vec Ideal S3x2816 .f32) (a : ℕ) (ha : a < 3) (k : ℕ) (h : k < 11) : Vec Ideal S1x256 .f32 :=
  View.ld x (Rect.unit (s := S3x2816) ![a, 256 * k] S1x256.size (Fin.forall_fin_two.mpr ⟨by show a + 1 ≤ 3; omega, by show 256 * k + 256 ≤ 2816; omega⟩))

/-- An entry of `wcol`. -/
theorem wcol_at (x : Vec Ideal S1024x2816 .bf16) (k : ℕ) (h : k < 11) (i : Fin 1024) (c : Fin 256) : (wcol x k h (ix2 i c) : EReal) = x (ix2 i ⟨256 * k + c.val, by have := c.isLt; omega⟩) := by
  unfold wcol View.ld
  refine congrArg x (funext fun a => Fin.ext ?_)
  have := i.isLt
  revert a
  refine Fin.forall_fin_two.mpr ⟨?_, ?_⟩
  · show _ + 1 * i.val = _; simp; try omega
  · show _ + 1 * c.val = _; simp

/-- An entry of `drow`. -/
theorem drow_at (x : Vec Ideal S2816x1024 .bf16) (k : ℕ) (h : k < 11) (i : Fin 256) (c : Fin 1024) : (drow x k h (ix2 i c) : EReal) = x (ix2 ⟨256 * k + i.val, by have := i.isLt; omega⟩ c) := by
  unfold drow View.ld
  refine congrArg x (funext fun a => Fin.ext ?_)
  have := i.isLt
  revert a
  refine Fin.forall_fin_two.mpr ⟨?_, ?_⟩
  · show _ + 1 * i.val = _; simp; try omega
  · show _ + 1 * c.val = _; simp

/-- An entry of `bcol`. -/
theorem bcol_at (x : Vec Ideal S1x2816 .f32) (k : ℕ) (h : k < 11) (i : Fin 1) (c : Fin 256) : (bcol x k h (ix2 i c) : EReal) = x (ix2 0 ⟨256 * k + c.val, by have := c.isLt; omega⟩) := by
  unfold bcol View.ld
  refine congrArg x (funext fun a => Fin.ext ?_)
  have := i.isLt
  revert a
  refine Fin.forall_fin_two.mpr ⟨?_, ?_⟩
  · show _ + 1 * i.val = _; simp; try omega
  · show _ + 1 * c.val = _; simp

/-- An entry of `hcol`. -/
theorem hcol_at (x : Vec Ideal S256x2816 .f32) (k : ℕ) (h : k < 11) (i : Fin 256) (c : Fin 256) : (hcol x k h (ix2 i c) : EReal) = x (ix2 i ⟨256 * k + c.val, by have := c.isLt; omega⟩) := by
  unfold hcol View.ld
  refine congrArg x (funext fun a => Fin.ext ?_)
  have := i.isLt
  revert a
  refine Fin.forall_fin_two.mpr ⟨?_, ?_⟩
  · show _ + 1 * i.val = _; simp; try omega
  · show _ + 1 * c.val = _; simp

/-- An entry of `ccol`. -/
theorem ccol_at (x : Vec Ideal S3x2816 .f32) (a : ℕ) (ha : a < 3) (k : ℕ) (h : k < 11) (i : Fin 1) (c : Fin 256) : (ccol x a ha k h (ix2 i c) : EReal) = x (ix2 ⟨a, ha⟩ ⟨256 * k + c.val, by have := c.isLt; omega⟩) := by
  unfold ccol View.ld
  refine congrArg x (funext fun a => Fin.ext ?_)
  have := i.isLt
  revert a
  refine Fin.forall_fin_two.mpr ⟨?_, ?_⟩
  · show _ + 1 * i.val = _; simp; try omega
  · show _ + 1 * c.val = _; simp

/-- Two index pairs with the same values are the same. -/
theorem ix2_congr {m n : ℕ} {a b : Fin m} {c d : Fin n} (h : a.val = b.val) (h' : c.val = d.val) :
    (ix2 a c : (⟨2, ![m, n]⟩ : Shape).Idx) = ix2 b d := by
  obtain rfl := Fin.ext h
  obtain rfl := Fin.ext h'
  rfl

/-- The rows `q`, then all but the last 256 rows of `p`. -/
def sh2 (q : Vec Ideal S256x256 .f32) (p : Vec Ideal S512x256 .f32) : Vec Ideal S512x256 .f32 :=
  fun j => if h : (j 0).val < 256 then q (ix2 ⟨(j 0).val, h⟩ (j 1)) else p (ix2 ⟨(j 0).val - 256, Nat.lt_of_le_of_lt (Nat.sub_le _ _) (j 0).isLt⟩ (j 1))

/-- The last 128 rows of `q`, then all but the last 128 rows of `p`. -/
def sh1 (q : Vec Ideal S256x256 .f32) (p : Vec Ideal S512x256 .f32) : Vec Ideal S512x256 .f32 :=
  fun j => if h : (j 0).val < 128 then q (ix2 ⟨128 + (j 0).val, by omega⟩ (j 1)) else p (ix2 ⟨(j 0).val - 128, Nat.lt_of_le_of_lt (Nat.sub_le _ _) (j 0).isLt⟩ (j 1))

/-- The last 256 rows of `p`. -/
def tl (p : Vec Ideal S512x256 .f32) : Vec Ideal S256x256 .f32 :=
  fun j => p (ix2 ⟨256 + (j 0).val, by have : (j 0).val < 256 := (j 0).isLt; omega⟩ (j 1))

/-- Rows 256 and on of the scratch hold the block stored last. -/
theorem scr_hi (inb) (P : Vec Ideal S512x256 .f32) (L : List (View.Piece (Elt Ideal) S768x256 .f32)) (y : S768x256.Idx)
    (h : 256 ≤ (y 0).val) :
    View.canon (Val := Elt Ideal) ((⟨Rect.unit (s := S768x256) ![256, 0] S512x256.size inb, P⟩ : View.Piece (Elt Ideal) S768x256 .f32) :: L) y
      = P (ix2 ⟨(y 0).val - 256, by have : (y 0).val < 768 := (y 0).isLt; omega⟩ (y 1)) := by
  have e : y = (Rect.unit (s := S768x256) ![256, 0] S512x256.size inb).emb
      (ix2 ⟨(y 0).val - 256, by have : (y 0).val < 768 := (y 0).isLt; omega⟩ (y 1)) := by
    refine funext fun a => Fin.ext ?_
    revert a
    refine Fin.forall_fin_two.mpr ⟨?_, ?_⟩
    · show (y 0).val = 256 + 1 * ((y 0).val - 256); omega
    · show (y 1).val = 0 + 1 * (y 1).val; omega
  exact (congrArg _ e).trans (View.canon_cons_emb _ _ _ _)

/-- The rows before them hold the rows stored before it. -/
theorem scr_lo (inb inb') (P : Vec Ideal S512x256 .f32) (Q : Vec Ideal S256x256 .f32)
    (L : List (View.Piece (Elt Ideal) S768x256 .f32)) (y : S768x256.Idx) (h : (y 0).val < 256) :
    View.canon (Val := Elt Ideal) ((⟨Rect.unit (s := S768x256) ![256, 0] S512x256.size inb, P⟩ : View.Piece (Elt Ideal) S768x256 .f32)
        :: ⟨Rect.unit (s := S768x256) ![0, 0] S256x256.size inb', Q⟩ :: L) y
      = Q (ix2 ⟨(y 0).val, h⟩ (y 1)) := by
  rw [View.canon_cons_of_not_mem _ _ (by
    rw [Rect.mem_set_unit]; intro hh
    have := (hh 0).1
    have : 256 ≤ (y 0).val := this
    omega)]
  have e : y = (Rect.unit (s := S768x256) ![0, 0] S256x256.size inb').emb (ix2 ⟨(y 0).val, h⟩ (y 1)) := by
    refine funext fun a => Fin.ext ?_
    revert a
    refine Fin.forall_fin_two.mpr ⟨?_, ?_⟩
    · show (y 0).val = 0 + 1 * (y 0).val; omega
    · show (y 1).val = 0 + 1 * (y 1).val; omega
  exact (congrArg _ e).trans (View.canon_cons_emb _ _ _ _)

/-- The scratch read from its first row: 256 rows back. -/
theorem rd0 (v : View sig .tc .vmem S768x256 .f32) (inb inb' inb'') (P : Vec Ideal S512x256 .f32) (Q : Vec Ideal S256x256 .f32)
    (L : List (View.Piece (Elt Ideal) S768x256 .f32)) :
    v.readCov (Val := Elt Ideal) ((⟨Rect.unit (s := S768x256) ![256, 0] (no_index S512x256.size) inb, P⟩ : View.Piece (Elt Ideal) S768x256 .f32)
        :: ⟨Rect.unit (s := S768x256) ![0, 0] (no_index S256x256.size) inb', Q⟩ :: L)
      (Rect.unit (s := S768x256) ![0, 0] (no_index S512x256.size) inb'').toLoadRect = sh2 Q P := by
  rw [View.readCov_eq_canon']
  funext j
  have e0 : ((Rect.unit (s := S768x256) ![0, 0] S512x256.size inb'').idx j 0).val = 0 + 1 * (j 0).val := rfl
  have e1 : ((Rect.unit (s := S768x256) ![0, 0] S512x256.size inb'').idx j 1).val = 0 + 1 * (j 1).val := rfl
  unfold sh2
  split
  · rename_i h
    refine (scr_lo inb inb' P Q L _ (by rw [e0]; omega)).trans ?_
    exact congrArg Q (ix2_congr (by show _ = (j 0).val; rw [e0]; omega) (by show _ = _; rw [e1]; omega))
  · rename_i h
    refine (scr_hi inb P _ _ (by rw [e0]; omega)).trans ?_
    exact congrArg P (ix2_congr (by show _ - 256 = _ - 256; rw [e0]; omega) (by show _ = _; rw [e1]; omega))

/-- The scratch read from row 128: 128 rows back. -/
theorem rd128 (v : View sig .tc .vmem S768x256 .f32) (inb inb' inb'') (P : Vec Ideal S512x256 .f32) (Q : Vec Ideal S256x256 .f32)
    (L : List (View.Piece (Elt Ideal) S768x256 .f32)) :
    v.readCov (Val := Elt Ideal) ((⟨Rect.unit (s := S768x256) ![256, 0] (no_index S512x256.size) inb, P⟩ : View.Piece (Elt Ideal) S768x256 .f32)
        :: ⟨Rect.unit (s := S768x256) ![0, 0] (no_index S256x256.size) inb', Q⟩ :: L)
      (Rect.unit (s := S768x256) ![128, 0] (no_index S512x256.size) inb'').toLoadRect = sh1 Q P := by
  rw [View.readCov_eq_canon']
  funext j
  have e0 : ((Rect.unit (s := S768x256) ![128, 0] S512x256.size inb'').idx j 0).val = 128 + 1 * (j 0).val := rfl
  have e1 : ((Rect.unit (s := S768x256) ![128, 0] S512x256.size inb'').idx j 1).val = 0 + 1 * (j 1).val := rfl
  unfold sh1
  split
  · rename_i h
    refine (scr_lo inb inb' P Q L _ (by rw [e0]; omega)).trans ?_
    exact congrArg Q (ix2_congr (by show _ = 128 + (j 0).val; rw [e0]; omega) (by show _ = _; rw [e1]; omega))
  · rename_i h
    refine (scr_hi inb P _ _ (by rw [e0]; omega)).trans ?_
    exact congrArg P (ix2_congr (by show _ - 256 = _ - 128; rw [e0]; omega) (by show _ = _; rw [e1]; omega))

/-- The scratch's last 256 rows. -/
theorem rd512 (v : View sig .tc .vmem S768x256 .f32) (inb inb'') (P : Vec Ideal S512x256 .f32)
    (L : List (View.Piece (Elt Ideal) S768x256 .f32)) :
    v.readCov (Val := Elt Ideal) ((⟨Rect.unit (s := S768x256) ![256, 0] (no_index S512x256.size) inb, P⟩ : View.Piece (Elt Ideal) S768x256 .f32) :: L)
      (Rect.unit (s := S768x256) ![512, 0] (no_index S256x256.size) inb'').toLoadRect = tl P := by
  rw [View.readCov_eq_canon']
  funext j
  have e0 : ((Rect.unit (s := S768x256) ![512, 0] S256x256.size inb'').idx j 0).val = 512 + 1 * (j 0).val := rfl
  have e1 : ((Rect.unit (s := S768x256) ![512, 0] S256x256.size inb'').idx j 1).val = 0 + 1 * (j 1).val := rfl
  refine (scr_hi inb P _ _ (by rw [e0]; omega)).trans ?_
  exact congrArg P (ix2_congr (by show _ - 256 = 256 + _; rw [e0]; omega) (by show _ = _; rw [e1]; omega))

/-- Tiles of other columns stored before are not what a later column tile reads. -/
theorem skip (v : View sig .tc .vmem S256x2816 .f32) (n m : ℕ) (hnm : m + 256 ≤ n) (inb inb') (w : Vec Ideal S256x256 .f32)
    (L : List (View.Piece (Elt Ideal) S256x2816 .f32)) :
    v.readCov (Val := Elt Ideal) ((⟨Rect.unit (s := S256x2816) ![0, m] (no_index S256x256.size) inb, w⟩ : View.Piece (Elt Ideal) S256x2816 .f32) :: L)
      (Rect.unit (s := S256x2816) ![0, n] (no_index S256x256.size) inb').toLoadRect
    = v.readCov (Val := Elt Ideal) L (Rect.unit (s := S256x2816) ![0, n] (no_index S256x256.size) inb').toLoadRect := by
  rw [View.readCov_eq_canon', View.readCov_eq_canon']
  funext j
  refine View.canon_cons_of_not_mem _ _ ?_
  rw [Rect.mem_set_unit]; intro hh
  have h2 : n + 1 * (j 1).val < m + 256 := (hh 1).2
  omega

/-- Rows stored whole, read at a column tile. -/
theorem base (v : View sig .tc .vmem S256x2816 .f32) (n : ℕ) (inb inb') (w : Vec Ideal S256x2816 .f32) :
    v.readCov (Val := Elt Ideal) [(⟨Rect.unit (s := S256x2816) ![0, 0] (no_index S256x2816.size) inb, w⟩ : View.Piece (Elt Ideal) S256x2816 .f32)]
      (Rect.unit (s := S256x2816) ![0, n] (no_index S256x256.size) inb').toLoadRect
    = View.ld w (Rect.unit (s := S256x2816) ![0, n] (no_index S256x256.size) inb') := by
  rw [View.readCov_eq_canon', View.canon_cons_unit_lit' inb w [] (by decide)]

/-- Column tile `k`'s gate entries. -/
def gateT (xn : Vec Ideal S512x1024 .bf16) (x6 : Vec Ideal S1024x2816 .bf16) (k : ℕ) (h : k < 11) : Vec Ideal S512x256 .f32 :=
  k0_pay14 (F := Ideal) xn (wcol x6 k h)

/-- Column tile `k`'s step: the accumulated block plus the tile's hidden entries times its rows of the last matrix. -/
def step (k : ℕ) (h : k < 11) (xn : Vec Ideal S512x1024 .bf16) (x6 x7 : Vec Ideal S1024x2816 .bf16) (x8 : Vec Ideal S3x2816 .f32)
    (x9 : Vec Ideal S1x2816 .f32) (x10 : Vec Ideal S2816x1024 .bf16) (H : Vec Ideal S256x2816 .f32) (acc : Vec Ideal S512x1024 .f32) :
    Vec Ideal S512x1024 .f32 :=
  k0_pay13 (F := Ideal) (k0_pay15 (F := Ideal) xn (wcol x7 k h))
    (k0_pay18 (F := Ideal) (gateT xn x6 k h) (bcol x9 k h) (ccol x8 0 (by decide) k h) (sh2 (hcol H k h) (gateT xn x6 k h))
      (ccol x8 1 (by decide) k h) (sh1 (hcol H k h) (gateT xn x6 k h)) (ccol x8 2 (by decide) k h)) acc (drow x10 k h)

/-- Row `i` of the normed block times column `n`. -/
def rowDot (xn : Vec Ideal S512x1024 .bf16) (w : Vec Ideal S1024x2816 .bf16) (i : Fin 512) (n : Fin 2816) : EReal :=
  ∑ d : Fin 1024, (xn (ix2 i d) : EReal) * w (ix2 d n)

/-- The gate entry `a` rows before row `i` (`a ≤ 256`): from the rows `H` where it lies before the block. -/
def back (a : ℕ) (ha : a ≤ 256) (H : Vec Ideal S256x2816 .f32) (xn : Vec Ideal S512x1024 .bf16) (w : Vec Ideal S1024x2816 .bf16)
    (i : Fin 512) (n : Fin 2816) : EReal :=
  if h : i.val < a then H (ix2 ⟨i.val + 256 - a, by omega⟩ n) else rowDot xn w ⟨i.val - a, by have := i.isLt; omega⟩ n

/-- `back` before the block. -/
theorem back_pos (a : ℕ) (ha : a ≤ 256) (H : Vec Ideal S256x2816 .f32) (xn : Vec Ideal S512x1024 .bf16) (w : Vec Ideal S1024x2816 .bf16)
    (i : Fin 512) (n : Fin 2816) (h : i.val < a) : back a ha H xn w i n = H (ix2 ⟨i.val + 256 - a, by omega⟩ n) := dif_pos h

/-- `back` inside the block. -/
theorem back_neg (a : ℕ) (ha : a ≤ 256) (H : Vec Ideal S256x2816 .f32) (xn : Vec Ideal S512x1024 .bf16) (w : Vec Ideal S1024x2816 .bf16)
    (i : Fin 512) (n : Fin 2816) (h : ¬ i.val < a) :
    back a ha H xn w i n = rowDot xn w ⟨i.val - a, by have := i.isLt; omega⟩ n := dif_neg h

/-- The hidden entry at row `i` of the block and column `n`. -/
def hidB (xn : Vec Ideal S512x1024 .bf16) (x6 x7 : Vec Ideal S1024x2816 .bf16) (x8 : Vec Ideal S3x2816 .f32)
    (x9 : Vec Ideal S1x2816 .f32) (H : Vec Ideal S256x2816 .f32) (i : Fin 512) (n : Fin 2816) : EReal :=
  gelu (conv (x9 (ix2 0 n)) (x8 (ix2 0 n)) (x8 (ix2 1 n)) (x8 (ix2 2 n)) (back 256 (by decide) H xn x6 i n)
    (back 128 (by decide) H xn x6 i n) (rowDot xn x6 i n)) * rowDot xn x7 i n

/-- A gate entry. -/
theorem gateT_at (xn : Vec Ideal S512x1024 .bf16) (x6 : Vec Ideal S1024x2816 .bf16) (k : ℕ) (h : k < 11) (i : Fin 512) (c : Fin 256) :
    (gateT xn x6 k h (ix2 i c) : EReal) = rowDot xn x6 i ⟨256 * k + c.val, by have := c.isLt; omega⟩ := by
  pointwise [gateT, k0_pay14, rowDot]
  simp only [wcol_at]

/-- An entry of the other product. -/
theorem up_at (xn : Vec Ideal S512x1024 .bf16) (x6 : Vec Ideal S1024x2816 .bf16) (k : ℕ) (h : k < 11) (i : Fin 512) (c : Fin 256) :
    (k0_pay15 (F := Ideal) xn (wcol x6 k h) (ix2 i c) : EReal) = rowDot xn x6 i ⟨256 * k + c.val, by have := c.isLt; omega⟩ := by
  pointwise [k0_pay15, rowDot]
  simp only [wcol_at]

/-- The convolution at an index. -/
theorem pay18_at (g : Vec Ideal S512x256 .f32) (b w0 : Vec Ideal S1x256 .f32) (p : Vec Ideal S512x256 .f32) (w1 : Vec Ideal S1x256 .f32)
    (q : Vec Ideal S512x256 .f32) (w2 : Vec Ideal S1x256 .f32) (i : Fin 512) (c : Fin 256) :
    (k0_pay18 (F := Ideal) g b w0 p w1 q w2 (ix2 i c) : EReal)
      = conv (b (ix2 0 c)) (w0 (ix2 0 c)) (w1 (ix2 0 c)) (w2 (ix2 0 c)) (p (ix2 i c)) (q (ix2 i c)) (g (ix2 i c)) := by
  pointwise [k0_pay18, conv]

/-- The accumulation at an index. -/
theorem pay13_at (u v : Vec Ideal S512x256 .f32) (acc : Vec Ideal S512x1024 .f32) (w : Vec Ideal S256x1024 .bf16) (i : Fin 512) (d : Fin 1024) :
    (k0_pay13 (F := Ideal) u v acc w (ix2 i d) : EReal)
      = acc (ix2 i d) + ∑ c : Fin 256, (gelu (v (ix2 i c)) * u (ix2 i c)) * w (ix2 c d) := by
  pointwise [k0_pay13, gelu]

/-- One column tile's step at an index. -/
theorem step_at (k : ℕ) (h : k < 11) (xn : Vec Ideal S512x1024 .bf16) (x6 x7 : Vec Ideal S1024x2816 .bf16) (x8 : Vec Ideal S3x2816 .f32)
    (x9 : Vec Ideal S1x2816 .f32) (x10 : Vec Ideal S2816x1024 .bf16) (H : Vec Ideal S256x2816 .f32) (acc : Vec Ideal S512x1024 .f32)
    (i : Fin 512) (d : Fin 1024) :
    (step k h xn x6 x7 x8 x9 x10 H acc (ix2 i d) : EReal)
      = acc (ix2 i d) + ∑ c : Fin 256, hidB xn x6 x7 x8 x9 H i ⟨256 * k + c.val, by have := c.isLt; omega⟩
          * x10 (ix2 ⟨256 * k + c.val, by have := c.isLt; omega⟩ d) := by
  unfold step
  refine (pay13_at _ _ _ _ i d).trans (congrArg _ (Finset.sum_congr rfl fun c _ => ?_))
  refine congrArg₂ (· * ·) (congrArg₂ (· * ·) (congrArg gelu ((pay18_at _ _ _ _ _ _ _ i c).trans ?_)) (up_at _ _ k h i c)) (drow_at x10 k h c d)
  rw [bcol_at, ccol_at, ccol_at, ccol_at, gateT_at]
  refine congrArg₂ (fun p q => conv _ _ _ _ p q _) ?_ ?_
  · by_cases hi : i.val < 256
    · refine Eq.trans ((dif_pos hi).trans (hcol_at H k h _ c)) (back_pos 256 (by decide) H xn x6 i _ hi).symm
    · refine Eq.trans ((dif_neg hi).trans (gateT_at xn x6 k h _ c)) (back_neg 256 (by decide) H xn x6 i _ hi).symm
  · by_cases hi : i.val < 128
    · refine Eq.trans ((dif_pos hi).trans (hcol_at H k h _ c)) (Eq.trans ?_ (back_pos 128 (by decide) H xn x6 i _ hi).symm)
      exact congrArg H (ix2_congr (by show 128 + i.val = i.val + 256 - 128; omega) rfl)
    · refine Eq.trans ((dif_neg hi).trans (gateT_at xn x6 k h _ c)) (back_neg 128 (by decide) H xn x6 i _ hi).symm

/-- The last 256 gate rows, stored tile by tile: one tile more. -/
theorem peel (xn : Vec Ideal S512x1024 .bf16) (x6 : Vec Ideal S1024x2816 .bf16) (k : ℕ) (h : k < 11) (n : ℕ) (hn : n = 256 * k) (inb)
    (L : List (View.Piece (Elt Ideal) S256x2816 .f32))
    (hL : ∀ (i : Fin 256) (c : Fin 2816), c.val < 256 * k → (View.canon (Val := Elt Ideal) L (ix2 i c) : EReal) = rowDot xn x6 ⟨256 + i.val, by have := i.isLt; omega⟩ c)
    (i : Fin 256) (c : Fin 2816) (hc : c.val < 256 * (k + 1)) :
    (View.canon (Val := Elt Ideal) ((⟨Rect.unit (s := S256x2816) ![0, n] S256x256.size inb, tl (gateT xn x6 k h)⟩ : View.Piece (Elt Ideal) S256x2816 .f32) :: L)
      (ix2 i c) : EReal) = rowDot xn x6 ⟨256 + i.val, by have := i.isLt; omega⟩ c := by
  subst hn
  by_cases h' : c.val < 256 * k
  · rw [View.canon_cons_of_not_mem _ _ (by
      rw [Rect.mem_set_unit]; intro hh
      have : 256 * k ≤ c.val := (hh 1).1
      omega)]
    exact hL i c h'
  · have e : (ix2 i c : S256x2816.Idx) = (Rect.unit (s := S256x2816) ![0, 256 * k] S256x256.size inb).emb (ix2 i ⟨c.val - 256 * k, by omega⟩) := by
      refine funext fun a => Fin.ext ?_
      revert a
      refine Fin.forall_fin_two.mpr ⟨?_, ?_⟩
      · show i.val = 0 + 1 * i.val; omega
      · show c.val = 256 * k + 1 * (c.val - 256 * k); omega
    refine ((congrArg _ e).trans (View.canon_cons_emb _ _ _ _)).trans ?_
    refine (gateT_at xn x6 k h ⟨256 + i.val, by have := i.isLt; omega⟩ ⟨c.val - 256 * k, by omega⟩).trans ?_
    exact congrArg (rowDot xn x6 _) (Fin.ext (by show 256 * k + (c.val - 256 * k) = c.val; omega))

/-- The mixed block at an index. -/
theorem pay3_at (a : Vec Ideal S512x512 .bf16) (s : Vec Ideal S512x512 .f32) (x : Vec Ideal S512x1024 .f32) (w : Vec Ideal S1024x1024 .bf16)
    (i : Fin 512) (d : Fin 1024) :
    (k0_pay3 (F := Ideal) a s x w (ix2 i d) : EReal)
      = mixed (fun e => x (ix2 i e)) (mixRow (fun k => a (ix2 i k)) (fun k => s (ix2 i k))) (fun k e => w (ix2 k e)) d := by
  pointwise [k0_pay3, mixed, mixRow]

/-- The normed block at an index, in the mixed block. -/
theorem pay4_dot (a : Vec Ideal S512x512 .bf16) (s : Vec Ideal S512x512 .f32) (x : Vec Ideal S512x1024 .f32) (w : Vec Ideal S1024x1024 .bf16)
    (g : Vec Ideal S1x1024 .f32) (v : Vec Ideal S1024x2816 .bf16) (i : Fin 512) (n : Fin 2816) :
    rowDot (k0_pay4 (F := Ideal) a s x w g) v i n
      = normDot (fun d => k0_pay3 (F := Ideal) a s x w (ix2 i d)) (fun d => g (ix2 0 d)) (fun d => v (ix2 d n)) := by
  pointwise [rowDot, k0_pay4, normDot, rowScale]

/-- Eleven column tiles, one after another, are all the columns. -/
theorem tiles (F : Fin 2816 → EReal) (b : EReal) :
    b + ∑ n : Fin 2816, F n = (((((((((((b + ∑ c : Fin 256, F ⟨256 * 0 + c.val, by have := c.isLt; omega⟩) + ∑ c : Fin 256, F ⟨256 * 1 + c.val, by have := c.isLt; omega⟩) + ∑ c : Fin 256, F ⟨256 * 2 + c.val, by have := c.isLt; omega⟩) + ∑ c : Fin 256, F ⟨256 * 3 + c.val, by have := c.isLt; omega⟩) + ∑ c : Fin 256, F ⟨256 * 4 + c.val, by have := c.isLt; omega⟩) + ∑ c : Fin 256, F ⟨256 * 5 + c.val, by have := c.isLt; omega⟩) + ∑ c : Fin 256, F ⟨256 * 6 + c.val, by have := c.isLt; omega⟩) + ∑ c : Fin 256, F ⟨256 * 7 + c.val, by have := c.isLt; omega⟩) + ∑ c : Fin 256, F ⟨256 * 8 + c.val, by have := c.isLt; omega⟩) + ∑ c : Fin 256, F ⟨256 * 9 + c.val, by have := c.isLt; omega⟩) + ∑ c : Fin 256, F ⟨256 * 10 + c.val, by have := c.isLt; omega⟩) := by
  rw [Fin.sum_univ_tiles 11 256 rfl]
  have e : ∀ G : Fin 11 → EReal, b + ∑ k, G k = b + G 0 + G 1 + G 2 + G 3 + G 4 + G 5 + G 6 + G 7 + G 8 + G 9 + G 10 := by
    intro G
    simp only [Fin.sum_univ_succ, Fin.sum_univ_zero, add_zero, ← add_assoc]
    rfl
  exact e _

/-- A reshape to the same shape. -/
theorem k0_pay5_id (v3 : Vec Ideal S512x512 .bf16) (v5 : Vec Ideal S512x512 .f32) (v9 : Vec Ideal S512x1024 .f32) (v11 : Vec Ideal S1024x1024 .bf16) : k0_pay5 (F := Ideal) v3 v5 v9 v11 = k0_pay3 (F := Ideal) v3 v5 v9 v11 := shapeCast_self _ _

/-- A reshape to the same shape. -/
theorem k0_pay9_id (v39 : Vec Ideal S256x256 .f32) : k0_pay9 (F := Ideal) v39 = v39 := shapeCast_self _ _

/-- A reshape to the same shape. -/
theorem k0_pay10_id (v29 : FVec Ideal S512x1024 .bf16) (v34 : FVec Ideal S1024x256 .bf16) (cst_17 : FVec Ideal S512x256 .f32) : k0_pay10 (F := Ideal) v29 v34 cst_17 = k0_pay7 (F := Ideal) v29 v34 cst_17 := shapeCast_self _ _

/-- A reshape to the same shape. -/
theorem k0_pay12_id (v66 : Vec Ideal S256x256 .f32) : k0_pay12 (F := Ideal) v66 = v66 := shapeCast_self _ _

/-- A reshape to the same shape. -/
theorem k0_pay16_id (v99 : Vec Ideal S256x256 .f32) : k0_pay16 (F := Ideal) v99 = v99 := shapeCast_self _ _

/-- A reshape to the same shape. -/
theorem k0_pay17_id (v95 : FVec Ideal S512x256 .f32) : k0_pay17 (F := Ideal) v95 = v95 := shapeCast_self _ _

/-- A reshape to the same shape. -/
theorem k0_pay19_id (v126 : Vec Ideal S256x256 .f32) : k0_pay19 (F := Ideal) v126 = v126 := shapeCast_self _ _

/-- A reshape to the same shape. -/
theorem k0_pay24_id (v159 : Vec Ideal S256x256 .f32) : k0_pay24 (F := Ideal) v159 = v159 := shapeCast_self _ _

/-- A reshape to the same shape. -/
theorem k0_pay25_id (v29 : FVec Ideal S512x1024 .bf16) (v153 : Vec Ideal S1024x256 .bf16) : k0_pay25 (F := Ideal) v29 v153 = k0_pay22 (F := Ideal) v29 v153 := shapeCast_self _ _

/-- A reshape to the same shape. -/
theorem k0_pay28_id (v186 : Vec Ideal S256x256 .f32) : k0_pay28 (F := Ideal) v186 = v186 := shapeCast_self _ _

/-- A reshape to the same shape. -/
theorem k0_pay33_id (v219 : Vec Ideal S256x256 .f32) : k0_pay33 (F := Ideal) v219 = v219 := shapeCast_self _ _

/-- A reshape to the same shape. -/
theorem k0_pay34_id (v29 : FVec Ideal S512x1024 .bf16) (v213 : Vec Ideal S1024x256 .bf16) : k0_pay34 (F := Ideal) v29 v213 = k0_pay31 (F := Ideal) v29 v213 := shapeCast_self _ _

/-- A reshape to the same shape. -/
theorem k0_pay37_id (v246 : Vec Ideal S256x256 .f32) : k0_pay37 (F := Ideal) v246 = v246 := shapeCast_self _ _

/-- A reshape to the same shape. -/
theorem k0_pay41_id (v279 : Vec Ideal S256x256 .f32) : k0_pay41 (F := Ideal) v279 = v279 := shapeCast_self _ _

/-- A reshape to the same shape. -/
theorem k0_pay42_id (v275 : FVec Ideal S512x256 .f32) : k0_pay42 (F := Ideal) v275 = v275 := shapeCast_self _ _

/-- A reshape to the same shape. -/
theorem k0_pay44_id (v306 : Vec Ideal S256x256 .f32) : k0_pay44 (F := Ideal) v306 = v306 := shapeCast_self _ _

/-- A reshape to the same shape. -/
theorem k0_pay49_id (v339 : Vec Ideal S256x256 .f32) : k0_pay49 (F := Ideal) v339 = v339 := shapeCast_self _ _

/-- A reshape to the same shape. -/
theorem k0_pay50_id (v29 : FVec Ideal S512x1024 .bf16) (v333 : Vec Ideal S1024x256 .bf16) : k0_pay50 (F := Ideal) v29 v333 = k0_pay47 (F := Ideal) v29 v333 := shapeCast_self _ _

/-- A reshape to the same shape. -/
theorem k0_pay51_id (v366 : Vec Ideal S256x256 .f32) : k0_pay51 (F := Ideal) v366 = v366 := shapeCast_self _ _

/-- A reshape to the same shape. -/
theorem k0_pay56_id (v399 : Vec Ideal S256x256 .f32) : k0_pay56 (F := Ideal) v399 = v399 := shapeCast_self _ _

/-- A reshape to the same shape. -/
theorem k0_pay57_id (v29 : FVec Ideal S512x1024 .bf16) (v393 : Vec Ideal S1024x256 .bf16) : k0_pay57 (F := Ideal) v29 v393 = k0_pay54 (F := Ideal) v29 v393 := shapeCast_self _ _

/-- A reshape to the same shape. -/
theorem k0_pay60_id (v426 : Vec Ideal S256x256 .f32) : k0_pay60 (F := Ideal) v426 = v426 := shapeCast_self _ _

/-- A reshape to the same shape. -/
theorem k0_pay65_id (v459 : Vec Ideal S256x256 .f32) : k0_pay65 (F := Ideal) v459 = v459 := shapeCast_self _ _

/-- A reshape to the same shape. -/
theorem k0_pay66_id (v29 : FVec Ideal S512x1024 .bf16) (v454 : FVec Ideal S1024x256 .bf16) : k0_pay66 (F := Ideal) v29 v454 = k0_pay63 (F := Ideal) v29 v454 := shapeCast_self _ _

/-- A reshape to the same shape. -/
theorem k0_pay68_id (v486 : Vec Ideal S256x256 .f32) : k0_pay68 (F := Ideal) v486 = v486 := shapeCast_self _ _

/-- A reshape to the same shape. -/
theorem k0_pay72_id (v519 : Vec Ideal S256x256 .f32) : k0_pay72 (F := Ideal) v519 = v519 := shapeCast_self _ _

/-- A reshape to the same shape. -/
theorem k0_pay73_id (v515 : FVec Ideal S512x256 .f32) : k0_pay73 (F := Ideal) v515 = v515 := shapeCast_self _ _

/-- A reshape to the same shape. -/
theorem k0_pay75_id (v546 : Vec Ideal S256x256 .f32) : k0_pay75 (F := Ideal) v546 = v546 := shapeCast_self _ _

/-- A reshape to the same shape. -/
theorem k0_pay80_id (v579 : Vec Ideal S256x256 .f32) : k0_pay80 (F := Ideal) v579 = v579 := shapeCast_self _ _

/-- A reshape to the same shape. -/
theorem k0_pay81_id (v29 : FVec Ideal S512x1024 .bf16) (v573 : Vec Ideal S1024x256 .bf16) : k0_pay81 (F := Ideal) v29 v573 = k0_pay78 (F := Ideal) v29 v573 := shapeCast_self _ _

/-- A reshape to the same shape. -/
theorem k0_pay84_id (v606 : Vec Ideal S256x256 .f32) : k0_pay84 (F := Ideal) v606 = v606 := shapeCast_self _ _

/-- A reshape to the same shape. -/
theorem k0_pay89_id (v639 : Vec Ideal S256x256 .f32) : k0_pay89 (F := Ideal) v639 = v639 := shapeCast_self _ _

/-- A reshape to the same shape. -/
theorem k0_pay90_id (v29 : FVec Ideal S512x1024 .bf16) (v633 : Vec Ideal S1024x256 .bf16) : k0_pay90 (F := Ideal) v29 v633 = k0_pay87 (F := Ideal) v29 v633 := shapeCast_self _ _

/-- A reshape to the same shape. -/
theorem k0_pay92_id (v666 : Vec Ideal S256x256 .f32) : k0_pay92 (F := Ideal) v666 = v666 := shapeCast_self _ _

end Cert.PostSIdeal.Pure
-- ==== Proof.PostSHost.lean ====
/-
  The sample batch's operands of the output call as its host code prepares them, and the blocks its windows hold at each point.
-/
module

public import proofs.«01_k».proof.Proof.PostSPure
public import proofs.«01_k».proof.Proof.Gen.PostSIdeal.Value
public import Idealize.ShloMosaic.Lib.Pipeline.ValueKit

@[expose] public section

set_option maxRecDepth 16384

noncomputable section

namespace Cert.PostSIdeal.Pure

open Cert.PostSIdeal Cert.PostSIdeal.Gen Cert.RowNorm Cert.PostMath Idealize.ShloMosaic Idealize.ShloMosaic.TcCoe Idealize.SL.Sem

variable (m : (ℓ : Loc nD τ sig) → Buf (Elt Ideal) ℓ) (c : Dev nD)

/-- Row `r` of the flattened batch is position `r / 128` of sequence `r % 128`. -/
theorem x_at (r : Fin 512) (d : Fin 1024) : ((V m c main_v14 : FVec Ideal S512x1024 .f32) (ix2 r d) : EReal)
    = m ((c.tc : Thread nD τ).loc main_arg0) (ix3 ⟨r.val % 128, by omega⟩ ⟨r.val / 128, by omega⟩ d) := by
  simp only [V, hostOps0, List.flatten_cons, List.flatten_nil, List.append_nil, List.cons_append, List.nil_append]
  after_results
  pointwise

/-- A row of the attention's output. -/
theorem a_at (r : Fin 512) (k : Fin 512) : ((V m c main_v16 : FVec Ideal S512x512 .bf16) (ix2 r k) : EReal)
    = m ((c.tc : Thread nD τ).loc main_arg1) (ix3 ⟨r.val % 128, by omega⟩ ⟨r.val / 128, by omega⟩ k) := by
  simp only [V, hostOps0, List.flatten_cons, List.flatten_nil, List.append_nil, List.cons_append, List.nil_append]
  after_results
  pointwise

/-- A row of the recurrence's output. -/
theorem s_at (r : Fin 512) (k : Fin 512) : ((V m c main_v20 : FVec Ideal S512x512 .f32) (ix2 r k) : EReal)
    = m ((c.tc : Thread nD τ).loc main_arg2) (ix3 ⟨r.val / 128, by omega⟩ ⟨r.val % 128, by omega⟩ k) := by
  simp only [V, hostOps0, List.flatten_cons, List.flatten_nil, List.append_nil, List.cons_append, List.nil_append]
  after_results
  pointwise

/-- Row `i` of the earlier gates is entry `i / 128` of sequence `i % 128`. -/
theorem h_at (i : Fin 256) (n : Fin 2816) : ((V m c main_v19 : FVec Ideal S1x256x2816 .f32) (ix3 0 i n) : EReal)
    = m ((c.tc : Thread nD τ).loc main_arg3) (ix4 0 ⟨i.val % 128, by omega⟩ ⟨i.val / 128, by omega⟩ n) := by
  simp only [V, hostOps0, List.flatten_cons, List.flatten_nil, List.append_nil, List.cons_append, List.nil_append]
  after_results
  pointwise

/-- The output weights. -/
theorem wo_at (k d : Fin 1024) : ((V m c main_v1 : FVec Ideal S1024x1024 .bf16) (ix2 k d) : EReal)
    = m ((c.tc : Thread nD τ).loc main_arg4) (ix3 0 k d) := by
  simp only [V, hostOps0, List.flatten_cons, List.flatten_nil, List.append_nil, List.cons_append, List.nil_append]
  after_results
  pointwise

/-- The gains. -/
theorem g_at (d : Fin 1024) : ((V m c main_v3 : FVec Ideal S1x1024 .f32) (ix2 0 d) : EReal)
    = m ((c.tc : Thread nD τ).loc main_arg5) (ix2 0 d) := by
  simp only [V, hostOps0, List.flatten_cons, List.flatten_nil, List.append_nil, List.cons_append, List.nil_append]
  after_results
  pointwise

/-- The gate's weights. -/
theorem wg_at (d : Fin 1024) (n : Fin 2816) : ((V m c main_v5 : FVec Ideal S1024x2816 .bf16) (ix2 d n) : EReal)
    = m ((c.tc : Thread nD τ).loc main_arg6) (ix3 0 d n) := by
  simp only [V, hostOps0, List.flatten_cons, List.flatten_nil, List.append_nil, List.cons_append, List.nil_append]
  after_results
  pointwise

/-- The other branch's weights. -/
theorem wu_at (d : Fin 1024) (n : Fin 2816) : ((V m c main_v7 : FVec Ideal S1024x2816 .bf16) (ix2 d n) : EReal)
    = m ((c.tc : Thread nD τ).loc main_arg7) (ix3 0 d n) := by
  simp only [V, hostOps0, List.flatten_cons, List.flatten_nil, List.append_nil, List.cons_append, List.nil_append]
  after_results
  pointwise

/-- The convolution's weights. -/
theorem cw_at (j : Fin 3) (n : Fin 2816) : ((V m c main_v8 : FVec Ideal S3x2816 .f32) (ix2 j n) : EReal)
    = m ((c.tc : Thread nD τ).loc main_arg8) (ix3 0 j n) := by
  simp only [V, hostOps0, List.flatten_cons, List.flatten_nil, List.append_nil, List.cons_append, List.nil_append]
  after_results
  pointwise

/-- The convolution's bias. -/
theorem cb_at (n : Fin 2816) : ((V m c main_v10 : FVec Ideal S1x2816 .f32) (ix2 0 n) : EReal)
    = m ((c.tc : Thread nD τ).loc main_arg9) (ix2 0 n) := by
  simp only [V, hostOps0, List.flatten_cons, List.flatten_nil, List.append_nil, List.cons_append, List.nil_append]
  after_results
  pointwise

/-- The last weights. -/
theorem wd_at (n : Fin 2816) (d : Fin 1024) : ((V m c main_v12 : FVec Ideal S2816x1024 .bf16) (ix2 n d) : EReal)
    = m ((c.tc : Thread nD τ).loc main_arg10) (ix3 0 n d) := by
  simp only [V, hostOps0, List.flatten_cons, List.flatten_nil, List.append_nil, List.cons_append, List.nil_append]
  after_results
  pointwise

/-- Where each window lies at each point. -/
theorem idx : ∀ t : Fin cfg0.N, win0_0.index t = ![0, 0] ∧ win0_1.index t = ![0, 0] ∧ win0_2.index t = ![0, 0]
    ∧ win0_3.index t = ![0, 0, 0] ∧ win0_4.index t = ![0, 0] ∧ win0_5.index t = ![0, 0]
    ∧ win0_6.index t = ![0, 0] ∧ win0_7.index t = ![0, 0] ∧ win0_8.index t = ![0, 0] ∧ win0_9.index t = ![0, 0]
    ∧ win0_10.index t = ![0, 0] ∧ win0_11.index t = ![0, 0] ∧ win0_12.index t = ![0, 0, 0] :=
  (by decide +kernel : ∀ t : Fin grid0.N, _)

theorem blk0 (t : Fin cfg0.N) (i : Fin 512) (d : Fin 1024) : iblk m c 0 t (ix2 i d) = V m c main_v14 (ix2 i d) := by
  blk_ext [iblk, idx t]

theorem blk1 (t : Fin cfg0.N) (i : Fin 512) (d : Fin 512) : iblk m c 1 t (ix2 i d) = V m c main_v16 (ix2 i d) := by
  blk_ext [iblk, idx t]

theorem blk2 (t : Fin cfg0.N) (i : Fin 512) (d : Fin 512) : iblk m c 2 t (ix2 i d) = V m c main_v20 (ix2 i d) := by
  blk_ext [iblk, idx t]

theorem blk3 (t : Fin cfg0.N) (i : Fin 256) (n : Fin 2816) : iblk m c 3 t (ix3 0 i n) = V m c main_v19 (ix3 0 i n) := by
  blk_ext [iblk, idx t]

theorem blk4 (t : Fin cfg0.N) (i d : Fin 1024) : iblk m c 4 t (ix2 i d) = V m c main_v1 (ix2 i d) := by
  blk_ext [iblk, idx t]

theorem blk5 (t : Fin cfg0.N) (i : Fin 1) (d : Fin 1024) : iblk m c 5 t (ix2 i d) = V m c main_v3 (ix2 i d) := by
  blk_ext [iblk, idx t]

theorem blk6 (t : Fin cfg0.N) (i : Fin 1024) (d : Fin 2816) : iblk m c 6 t (ix2 i d) = V m c main_v5 (ix2 i d) := by
  blk_ext [iblk, idx t]

theorem blk7 (t : Fin cfg0.N) (i : Fin 1024) (d : Fin 2816) : iblk m c 7 t (ix2 i d) = V m c main_v7 (ix2 i d) := by
  blk_ext [iblk, idx t]

theorem blk8 (t : Fin cfg0.N) (i : Fin 3) (d : Fin 2816) : iblk m c 8 t (ix2 i d) = V m c main_v8 (ix2 i d) := by
  blk_ext [iblk, idx t]

theorem blk9 (t : Fin cfg0.N) (i : Fin 1) (d : Fin 2816) : iblk m c 9 t (ix2 i d) = V m c main_v10 (ix2 i d) := by
  blk_ext [iblk, idx t]

theorem blk10 (t : Fin cfg0.N) (i : Fin 2816) (d : Fin 1024) : iblk m c 10 t (ix2 i d) = V m c main_v12 (ix2 i d) := by
  blk_ext [iblk, idx t]

theorem emb11 (t : Fin cfg0.N) (y0 : Fin 512) (y1 : Fin 1024) :
    ((View.whole main_v21_0).slice (win0_11.rect t)).emb (ix2 y0 y1) = (ix2 y0 y1 : S512x1024.Idx) := by
  blk_ext [idx t]

theorem emb12 (t : Fin cfg0.N) (y1 : Fin 256) (y2 : Fin 2816) :
    ((View.whole main_v21_1).slice (win0_12.rect t)).emb (ix3 (0 : Fin 1) y1 y2) = (ix3 0 y1 y2 : S1x256x2816.Idx) := by
  blk_ext [idx t]

end Cert.PostSIdeal.Pure
-- ==== Proof.PostSRun.lean ====
/-
  The sample batch's output block: each column tile's step, the whole block and the rows carried on.
-/
module

public import proofs.«01_k».proof.Proof.PostSPure
public import proofs.«01_k».proof.Proof.Gen.PostSIdeal.Frame
public import Idealize.ShloMosaic.Lib.Pipeline.ValueKit

@[expose] public section

set_option maxRecDepth 16384

noncomputable section

namespace Cert.PostSIdeal.Pure

open Cert.PostSIdeal Cert.PostSIdeal.Gen Cert.RowNorm Cert.PostMath Idealize.ShloMosaic Idealize.ShloMosaic.TcCoe Idealize.SL.Sem

/-- Column tile 0's step. -/
theorem accA0 (c : Dev nD) (arg2 : Memref sig .tc .vmem S512x1024 .f32) (harg2 : arg2.IsWhole) (arg3 : Memref sig .tc .vmem S512x512 .bf16) (harg3 : arg3.IsWhole) (arg4 : Memref sig .tc .vmem S512x512 .f32) (harg4 : arg4.IsWhole) (arg5 : Memref sig .tc .vmem S1x256x2816 .f32) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1024x2816 .bf16) (harg8 : arg8.IsWhole) (arg9 : Memref sig .tc .vmem S1024x2816 .bf16) (harg9 : arg9.IsWhole) (arg10 : Memref sig .tc .vmem S3x2816 .f32) (harg10 : arg10.IsWhole) (arg11 : Memref sig .tc .vmem S1x2816 .f32) (harg11 : arg11.IsWhole) (arg12 : Memref sig .tc .vmem S2816x1024 .bf16) (harg12 : arg12.IsWhole) (arg15 : Memref sig .tc .vmem S512x1024 .f32) (arg16 : Memref sig .tc .vmem S768x256 .f32) (arg17 : Memref sig .tc .vmem S256x2816 .f32) (x0 : Vec Ideal S512x1024 .f32) (x1 : Vec Ideal S512x512 .bf16) (x2 : Vec Ideal S512x512 .f32) (x3 : Vec Ideal S1x256x2816 .f32) (x4 : Vec Ideal S1024x1024 .bf16) (x5 : Vec Ideal S1x1024 .f32) (x6 : Vec Ideal S1024x2816 .bf16) (x7 : Vec Ideal S1024x2816 .bf16) (x8 : Vec Ideal S3x2816 .f32) (x9 : Vec Ideal S1x2816 .f32) (x10 : Vec Ideal S2816x1024 .bf16) :
    kernelRun0_A.sl.v145 (F := Ideal) c arg2 harg2 arg3 harg3 arg4 harg4 arg5 harg5 arg6 harg6 arg7 harg7 arg8 harg8 arg9 harg9 arg10 harg10 arg11 harg11 arg12 harg12 arg15 arg16 arg17 x0 x1 x2 x3 x4 x5 x6 x7 x8 x9 x10
      = step 0 (by decide) (kernelRun0_A.sl.r (F := Ideal) c arg2 harg2 arg3 harg3 arg4 harg4 arg6 harg6 arg7 harg7 x0 x1 x2 x4 x5) x6 x7 x8 x9 x10 (k0_pay2 (F := Ideal) x3)
        (kernelRun0_A.sl.v85 (F := Ideal) c arg2 harg2 arg3 harg3 arg4 harg4 arg6 harg6 arg15 x0 x1 x2 x4) := by
  unfold kernelRun0_A.sl.v145 kernelRun0_A.sl.HS0_2
  rw [View.readCov_cons_unit_lit' _ _ _ _ _ (by decide) (by decide)]
  simp (disch := decide) only [kernelRun0_A.sl.HS1_2, kernelRun0_A.sl.HS2_1, kernelRun0_A.sl.cst_17, kernelRun0_A.sl.r_1, kernelRun0_A.sl.r_2, kernelRun0_A.sl.r_3, kernelRun0_A.sl.v39, kernelRun0_A.sl.v50, kernelRun0_A.sl.v57, k0_pay9_id, k0_pay10_id, rd0, rd128, skip, base, View.readAt_eq_ld, Memref.IsWhole.read_unread, View.ld_unit_lit']
  rfl

/-- Column tile 0's last 256 gate rows. -/
theorem tlA0 (c : Dev nD) (arg2 : Memref sig .tc .vmem S512x1024 .f32) (harg2 : arg2.IsWhole) (arg3 : Memref sig .tc .vmem S512x512 .bf16) (harg3 : arg3.IsWhole) (arg4 : Memref sig .tc .vmem S512x512 .f32) (harg4 : arg4.IsWhole) (arg5 : Memref sig .tc .vmem S1x256x2816 .f32) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1024x2816 .bf16) (harg8 : arg8.IsWhole) (arg16 : Memref sig .tc .vmem S768x256 .f32) (arg17 : Memref sig .tc .vmem S256x2816 .f32) (x0 : Vec Ideal S512x1024 .f32) (x1 : Vec Ideal S512x512 .bf16) (x2 : Vec Ideal S512x512 .f32) (x3 : Vec Ideal S1x256x2816 .f32) (x4 : Vec Ideal S1024x1024 .bf16) (x5 : Vec Ideal S1x1024 .f32) (x6 : Vec Ideal S1024x2816 .bf16) :
    kernelRun0_A.sl.v66 (F := Ideal) c arg2 harg2 arg3 harg3 arg4 harg4 arg5 harg5 arg6 harg6 arg7 harg7 arg8 harg8 arg16 arg17 x0 x1 x2 x3 x4 x5 x6
      = tl (gateT (kernelRun0_A.sl.r (F := Ideal) c arg2 harg2 arg3 harg3 arg4 harg4 arg6 harg6 arg7 harg7 x0 x1 x2 x4 x5) x6 0 (by decide)) := by
  simp only [kernelRun0_A.sl.HS1_2, kernelRun0_A.sl.cst_17, kernelRun0_A.sl.r_1, kernelRun0_A.sl.v66, k0_pay9_id, k0_pay10_id, rd512, View.readAt_eq_ld, Memref.IsWhole.read_unread]
  rfl

/-- Column tile 1's step. -/
theorem accA1 (c : Dev nD) (arg2 : Memref sig .tc .vmem S512x1024 .f32) (harg2 : arg2.IsWhole) (arg3 : Memref sig .tc .vmem S512x512 .bf16) (harg3 : arg3.IsWhole) (arg4 : Memref sig .tc .vmem S512x512 .f32) (harg4 : arg4.IsWhole) (arg5 : Memref sig .tc .vmem S1x256x2816 .f32) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1024x2816 .bf16) (harg8 : arg8.IsWhole) (arg9 : Memref sig .tc .vmem S1024x2816 .bf16) (harg9 : arg9.IsWhole) (arg10 : Memref sig .tc .vmem S3x2816 .f32) (harg10 : arg10.IsWhole) (arg11 : Memref sig .tc .vmem S1x2816 .f32) (harg11 : arg11.IsWhole) (arg12 : Memref sig .tc .vmem S2816x1024 .bf16) (harg12 : arg12.IsWhole) (arg15 : Memref sig .tc .vmem S512x1024 .f32) (arg16 : Memref sig .tc .vmem S768x256 .f32) (arg17 : Memref sig .tc .vmem S256x2816 .f32) (x0 : Vec Ideal S512x1024 .f32) (x1 : Vec Ideal S512x512 .bf16) (x2 : Vec Ideal S512x512 .f32) (x3 : Vec Ideal S1x256x2816 .f32) (x4 : Vec Ideal S1024x1024 .bf16) (x5 : Vec Ideal S1x1024 .f32) (x6 : Vec Ideal S1024x2816 .bf16) (x7 : Vec Ideal S1024x2816 .bf16) (x8 : Vec Ideal S3x2816 .f32) (x9 : Vec Ideal S1x2816 .f32) (x10 : Vec Ideal S2816x1024 .bf16) :
    kernelRun0_A.sl.v205 (F := Ideal) c arg2 harg2 arg3 harg3 arg4 harg4 arg5 harg5 arg6 harg6 arg7 harg7 arg8 harg8 arg9 harg9 arg10 harg10 arg11 harg11 arg12 harg12 arg15 arg16 arg17 x0 x1 x2 x3 x4 x5 x6 x7 x8 x9 x10
      = step 1 (by decide) (kernelRun0_A.sl.r (F := Ideal) c arg2 harg2 arg3 harg3 arg4 harg4 arg6 harg6 arg7 harg7 x0 x1 x2 x4 x5) x6 x7 x8 x9 x10 (k0_pay2 (F := Ideal) x3)
        (kernelRun0_A.sl.v145 (F := Ideal) c arg2 harg2 arg3 harg3 arg4 harg4 arg5 harg5 arg6 harg6 arg7 harg7 arg8 harg8 arg9 harg9 arg10 harg10 arg11 harg11 arg12 harg12 arg15 arg16 arg17 x0 x1 x2 x3 x4 x5 x6 x7 x8 x9 x10) := by
  unfold kernelRun0_A.sl.v205 kernelRun0_A.sl.HS0_3
  rw [View.readCov_cons_unit_lit' _ _ _ _ _ (by decide) (by decide)]
  simp (disch := decide) only [kernelRun0_A.sl.HS1_4, kernelRun0_A.sl.HS2_1, kernelRun0_A.sl.HS2_2, kernelRun0_A.sl.cst_80, kernelRun0_A.sl.r_4, kernelRun0_A.sl.r_5, kernelRun0_A.sl.r_6, kernelRun0_A.sl.r_7, kernelRun0_A.sl.v110, kernelRun0_A.sl.v117, kernelRun0_A.sl.v99, k0_pay12_id, k0_pay16_id, k0_pay17_id, rd0, rd128, skip, base, View.readAt_eq_ld, Memref.IsWhole.read_unread, View.ld_unit_lit']
  rfl

/-- Column tile 1's last 256 gate rows. -/
theorem tlA1 (c : Dev nD) (arg2 : Memref sig .tc .vmem S512x1024 .f32) (harg2 : arg2.IsWhole) (arg3 : Memref sig .tc .vmem S512x512 .bf16) (harg3 : arg3.IsWhole) (arg4 : Memref sig .tc .vmem S512x512 .f32) (harg4 : arg4.IsWhole) (arg5 : Memref sig .tc .vmem S1x256x2816 .f32) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1024x2816 .bf16) (harg8 : arg8.IsWhole) (arg16 : Memref sig .tc .vmem S768x256 .f32) (arg17 : Memref sig .tc .vmem S256x2816 .f32) (x0 : Vec Ideal S512x1024 .f32) (x1 : Vec Ideal S512x512 .bf16) (x2 : Vec Ideal S512x512 .f32) (x3 : Vec Ideal S1x256x2816 .f32) (x4 : Vec Ideal S1024x1024 .bf16) (x5 : Vec Ideal S1x1024 .f32) (x6 : Vec Ideal S1024x2816 .bf16) :
    kernelRun0_A.sl.v126 (F := Ideal) c arg2 harg2 arg3 harg3 arg4 harg4 arg5 harg5 arg6 harg6 arg7 harg7 arg8 harg8 arg16 arg17 x0 x1 x2 x3 x4 x5 x6
      = tl (gateT (kernelRun0_A.sl.r (F := Ideal) c arg2 harg2 arg3 harg3 arg4 harg4 arg6 harg6 arg7 harg7 x0 x1 x2 x4 x5) x6 1 (by decide)) := by
  simp only [kernelRun0_A.sl.HS1_4, kernelRun0_A.sl.r_4, kernelRun0_A.sl.v126, k0_pay16_id, k0_pay17_id, rd512, View.readAt_eq_ld, Memref.IsWhole.read_unread]
  rfl

/-- Column tile 2's step. -/
theorem accA2 (c : Dev nD) (arg2 : Memref sig .tc .vmem S512x1024 .f32) (harg2 : arg2.IsWhole) (arg3 : Memref sig .tc .vmem S512x512 .bf16) (harg3 : arg3.IsWhole) (arg4 : Memref sig .tc .vmem S512x512 .f32) (harg4 : arg4.IsWhole) (arg5 : Memref sig .tc .vmem S1x256x2816 .f32) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1024x2816 .bf16) (harg8 : arg8.IsWhole) (arg9 : Memref sig .tc .vmem S1024x2816 .bf16) (harg9 : arg9.IsWhole) (arg10 : Memref sig .tc .vmem S3x2816 .f32) (harg10 : arg10.IsWhole) (arg11 : Memref sig .tc .vmem S1x2816 .f32) (harg11 : arg11.IsWhole) (arg12 : Memref sig .tc .vmem S2816x1024 .bf16) (harg12 : arg12.IsWhole) (arg15 : Memref sig .tc .vmem S512x1024 .f32) (arg16 : Memref sig .tc .vmem S768x256 .f32) (arg17 : Memref sig .tc .vmem S256x2816 .f32) (x0 : Vec Ideal S512x1024 .f32) (x1 : Vec Ideal S512x512 .bf16) (x2 : Vec Ideal S512x512 .f32) (x3 : Vec Ideal S1x256x2816 .f32) (x4 : Vec Ideal S1024x1024 .bf16) (x5 : Vec Ideal S1x1024 .f32) (x6 : Vec Ideal S1024x2816 .bf16) (x7 : Vec Ideal S1024x2816 .bf16) (x8 : Vec Ideal S3x2816 .f32) (x9 : Vec Ideal S1x2816 .f32) (x10 : Vec Ideal S2816x1024 .bf16) :
    kernelRun0_A.sl.v265 (F := Ideal) c arg2 harg2 arg3 harg3 arg4 harg4 arg5 harg5 arg6 harg6 arg7 harg7 arg8 harg8 arg9 harg9 arg10 harg10 arg11 harg11 arg12 harg12 arg15 arg16 arg17 x0 x1 x2 x3 x4 x5 x6 x7 x8 x9 x10
      = step 2 (by decide) (kernelRun0_A.sl.r (F := Ideal) c arg2 harg2 arg3 harg3 arg4 harg4 arg6 harg6 arg7 harg7 x0 x1 x2 x4 x5) x6 x7 x8 x9 x10 (k0_pay2 (F := Ideal) x3)
        (kernelRun0_A.sl.v205 (F := Ideal) c arg2 harg2 arg3 harg3 arg4 harg4 arg5 harg5 arg6 harg6 arg7 harg7 arg8 harg8 arg9 harg9 arg10 harg10 arg11 harg11 arg12 harg12 arg15 arg16 arg17 x0 x1 x2 x3 x4 x5 x6 x7 x8 x9 x10) := by
  unfold kernelRun0_A.sl.v265 kernelRun0_A.sl.HS0_4
  rw [View.readCov_cons_unit_lit' _ _ _ _ _ (by decide) (by decide)]
  simp (disch := decide) only [kernelRun0_A.sl.HS1_6, kernelRun0_A.sl.HS2_1, kernelRun0_A.sl.HS2_2, kernelRun0_A.sl.HS2_3, kernelRun0_A.sl.r_10, kernelRun0_A.sl.r_11, kernelRun0_A.sl.r_12, kernelRun0_A.sl.r_8, kernelRun0_A.sl.r_9, kernelRun0_A.sl.v159, kernelRun0_A.sl.v170, kernelRun0_A.sl.v177, k0_pay12_id, k0_pay19_id, k0_pay24_id, k0_pay25_id, rd0, rd128, skip, base, View.readAt_eq_ld, Memref.IsWhole.read_unread, View.ld_unit_lit']
  rfl

/-- Column tile 2's last 256 gate rows. -/
theorem tlA2 (c : Dev nD) (arg2 : Memref sig .tc .vmem S512x1024 .f32) (harg2 : arg2.IsWhole) (arg3 : Memref sig .tc .vmem S512x512 .bf16) (harg3 : arg3.IsWhole) (arg4 : Memref sig .tc .vmem S512x512 .f32) (harg4 : arg4.IsWhole) (arg5 : Memref sig .tc .vmem S1x256x2816 .f32) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1024x2816 .bf16) (harg8 : arg8.IsWhole) (arg16 : Memref sig .tc .vmem S768x256 .f32) (arg17 : Memref sig .tc .vmem S256x2816 .f32) (x0 : Vec Ideal S512x1024 .f32) (x1 : Vec Ideal S512x512 .bf16) (x2 : Vec Ideal S512x512 .f32) (x3 : Vec Ideal S1x256x2816 .f32) (x4 : Vec Ideal S1024x1024 .bf16) (x5 : Vec Ideal S1x1024 .f32) (x6 : Vec Ideal S1024x2816 .bf16) :
    kernelRun0_A.sl.v186 (F := Ideal) c arg2 harg2 arg3 harg3 arg4 harg4 arg5 harg5 arg6 harg6 arg7 harg7 arg8 harg8 arg16 arg17 x0 x1 x2 x3 x4 x5 x6
      = tl (gateT (kernelRun0_A.sl.r (F := Ideal) c arg2 harg2 arg3 harg3 arg4 harg4 arg6 harg6 arg7 harg7 x0 x1 x2 x4 x5) x6 2 (by decide)) := by
  simp only [kernelRun0_A.sl.HS1_6, kernelRun0_A.sl.v186, k0_pay24_id, k0_pay25_id, rd512, View.readAt_eq_ld, Memref.IsWhole.read_unread]
  rfl

/-- Column tile 3's step. -/
theorem accA3 (c : Dev nD) (arg2 : Memref sig .tc .vmem S512x1024 .f32) (harg2 : arg2.IsWhole) (arg3 : Memref sig .tc .vmem S512x512 .bf16) (harg3 : arg3.IsWhole) (arg4 : Memref sig .tc .vmem S512x512 .f32) (harg4 : arg4.IsWhole) (arg5 : Memref sig .tc .vmem S1x256x2816 .f32) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1024x2816 .bf16) (harg8 : arg8.IsWhole) (arg9 : Memref sig .tc .vmem S1024x2816 .bf16) (harg9 : arg9.IsWhole) (arg10 : Memref sig .tc .vmem S3x2816 .f32) (harg10 : arg10.IsWhole) (arg11 : Memref sig .tc .vmem S1x2816 .f32) (harg11 : arg11.IsWhole) (arg12 : Memref sig .tc .vmem S2816x1024 .bf16) (harg12 : arg12.IsWhole) (arg15 : Memref sig .tc .vmem S512x1024 .f32) (arg16 : Memref sig .tc .vmem S768x256 .f32) (arg17 : Memref sig .tc .vmem S256x2816 .f32) (x0 : Vec Ideal S512x1024 .f32) (x1 : Vec Ideal S512x512 .bf16) (x2 : Vec Ideal S512x512 .f32) (x3 : Vec Ideal S1x256x2816 .f32) (x4 : Vec Ideal S1024x1024 .bf16) (x5 : Vec Ideal S1x1024 .f32) (x6 : Vec Ideal S1024x2816 .bf16) (x7 : Vec Ideal S1024x2816 .bf16) (x8 : Vec Ideal S3x2816 .f32) (x9 : Vec Ideal S1x2816 .f32) (x10 : Vec Ideal S2816x1024 .bf16) :
    kernelRun0_A.sl.v325 (F := Ideal) c arg2 harg2 arg3 harg3 arg4 harg4 arg5 harg5 arg6 harg6 arg7 harg7 arg8 harg8 arg9 harg9 arg10 harg10 arg11 harg11 arg12 harg12 arg15 arg16 arg17 x0 x1 x2 x3 x4 x5 x6 x7 x8 x9 x10
      = step 3 (by decide) (kernelRun0_A.sl.r (F := Ideal) c arg2 harg2 arg3 harg3 arg4 harg4 arg6 harg6 arg7 harg7 x0 x1 x2 x4 x5) x6 x7 x8 x9 x10 (k0_pay2 (F := Ideal) x3)
        (kernelRun0_A.sl.v265 (F := Ideal) c arg2 harg2 arg3 harg3 arg4 harg4 arg5 harg5 arg6 harg6 arg7 harg7 arg8 harg8 arg9 harg9 arg10 harg10 arg11 harg11 arg12 harg12 arg15 arg16 arg17 x0 x1 x2 x3 x4 x5 x6 x7 x8 x9 x10) := by
  unfold kernelRun0_A.sl.v325 kernelRun0_A.sl.HS0_5
  rw [View.readCov_cons_unit_lit' _ _ _ _ _ (by decide) (by decide)]
  simp (disch := decide) only [kernelRun0_A.sl.HS1_8, kernelRun0_A.sl.HS2_1, kernelRun0_A.sl.HS2_2, kernelRun0_A.sl.HS2_3, kernelRun0_A.sl.HS2_4, kernelRun0_A.sl.r_13, kernelRun0_A.sl.r_14, kernelRun0_A.sl.r_15, kernelRun0_A.sl.r_16, kernelRun0_A.sl.v219, kernelRun0_A.sl.v230, kernelRun0_A.sl.v237, k0_pay12_id, k0_pay19_id, k0_pay28_id, k0_pay33_id, k0_pay34_id, rd0, rd128, skip, base, View.readAt_eq_ld, Memref.IsWhole.read_unread, View.ld_unit_lit']
  rfl

/-- Column tile 3's last 256 gate rows. -/
theorem tlA3 (c : Dev nD) (arg2 : Memref sig .tc .vmem S512x1024 .f32) (harg2 : arg2.IsWhole) (arg3 : Memref sig .tc .vmem S512x512 .bf16) (harg3 : arg3.IsWhole) (arg4 : Memref sig .tc .vmem S512x512 .f32) (harg4 : arg4.IsWhole) (arg5 : Memref sig .tc .vmem S1x256x2816 .f32) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1024x2816 .bf16) (harg8 : arg8.IsWhole) (arg16 : Memref sig .tc .vmem S768x256 .f32) (arg17 : Memref sig .tc .vmem S256x2816 .f32) (x0 : Vec Ideal S512x1024 .f32) (x1 : Vec Ideal S512x512 .bf16) (x2 : Vec Ideal S512x512 .f32) (x3 : Vec Ideal S1x256x2816 .f32) (x4 : Vec Ideal S1024x1024 .bf16) (x5 : Vec Ideal S1x1024 .f32) (x6 : Vec Ideal S1024x2816 .bf16) :
    kernelRun0_A.sl.v246 (F := Ideal) c arg2 harg2 arg3 harg3 arg4 harg4 arg5 harg5 arg6 harg6 arg7 harg7 arg8 harg8 arg16 arg17 x0 x1 x2 x3 x4 x5 x6
      = tl (gateT (kernelRun0_A.sl.r (F := Ideal) c arg2 harg2 arg3 harg3 arg4 harg4 arg6 harg6 arg7 harg7 x0 x1 x2 x4 x5) x6 3 (by decide)) := by
  simp only [kernelRun0_A.sl.HS1_8, kernelRun0_A.sl.v246, k0_pay33_id, k0_pay34_id, rd512, View.readAt_eq_ld, Memref.IsWhole.read_unread]
  rfl

/-- Column tile 4's step. -/
theorem accA4 (c : Dev nD) (arg2 : Memref sig .tc .vmem S512x1024 .f32) (harg2 : arg2.IsWhole) (arg3 : Memref sig .tc .vmem S512x512 .bf16) (harg3 : arg3.IsWhole) (arg4 : Memref sig .tc .vmem S512x512 .f32) (harg4 : arg4.IsWhole) (arg5 : Memref sig .tc .vmem S1x256x2816 .f32) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1024x2816 .bf16) (harg8 : arg8.IsWhole) (arg9 : Memref sig .tc .vmem S1024x2816 .bf16) (harg9 : arg9.IsWhole) (arg10 : Memref sig .tc .vmem S3x2816 .f32) (harg10 : arg10.IsWhole) (arg11 : Memref sig .tc .vmem S1x2816 .f32) (harg11 : arg11.IsWhole) (arg12 : Memref sig .tc .vmem S2816x1024 .bf16) (harg12 : arg12.IsWhole) (arg15 : Memref sig .tc .vmem S512x1024 .f32) (arg16 : Memref sig .tc .vmem S768x256 .f32) (arg17 : Memref sig .tc .vmem S256x2816 .f32) (x0 : Vec Ideal S512x1024 .f32) (x1 : Vec Ideal S512x512 .bf16) (x2 : Vec Ideal S512x512 .f32) (x3 : Vec Ideal S1x256x2816 .f32) (x4 : Vec Ideal S1024x1024 .bf16) (x5 : Vec Ideal S1x1024 .f32) (x6 : Vec Ideal S1024x2816 .bf16) (x7 : Vec Ideal S1024x2816 .bf16) (x8 : Vec Ideal S3x2816 .f32) (x9 : Vec Ideal S1x2816 .f32) (x10 : Vec Ideal S2816x1024 .bf16) :
    kernelRun0_A.sl.v385 (F := Ideal) c arg2 harg2 arg3 harg3 arg4 harg4 arg5 harg5 arg6 harg6 arg7 harg7 arg8 harg8 arg9 harg9 arg10 harg10 arg11 harg11 arg12 harg12 arg15 arg16 arg17 x0 x1 x2 x3 x4 x5 x6 x7 x8 x9 x10
      = step 4 (by decide) (kernelRun0_A.sl.r (F := Ideal) c arg2 harg2 arg3 harg3 arg4 harg4 arg6 harg6 arg7 harg7 x0 x1 x2 x4 x5) x6 x7 x8 x9 x10 (k0_pay2 (F := Ideal) x3)
        (kernelRun0_A.sl.v325 (F := Ideal) c arg2 harg2 arg3 harg3 arg4 harg4 arg5 harg5 arg6 harg6 arg7 harg7 arg8 harg8 arg9 harg9 arg10 harg10 arg11 harg11 arg12 harg12 arg15 arg16 arg17 x0 x1 x2 x3 x4 x5 x6 x7 x8 x9 x10) := by
  unfold kernelRun0_A.sl.v385 kernelRun0_A.sl.HS0_6
  rw [View.readCov_cons_unit_lit' _ _ _ _ _ (by decide) (by decide)]
  simp (disch := decide) only [kernelRun0_A.sl.HS1_10, kernelRun0_A.sl.HS2_1, kernelRun0_A.sl.HS2_2, kernelRun0_A.sl.HS2_3, kernelRun0_A.sl.HS2_4, kernelRun0_A.sl.HS2_5, kernelRun0_A.sl.r_17, kernelRun0_A.sl.r_18, kernelRun0_A.sl.r_19, kernelRun0_A.sl.r_20, kernelRun0_A.sl.v279, kernelRun0_A.sl.v290, kernelRun0_A.sl.v297, k0_pay12_id, k0_pay19_id, k0_pay28_id, k0_pay37_id, k0_pay41_id, k0_pay42_id, rd0, rd128, skip, base, View.readAt_eq_ld, Memref.IsWhole.read_unread, View.ld_unit_lit']
  rfl

/-- Column tile 4's last 256 gate rows. -/
theorem tlA4 (c : Dev nD) (arg2 : Memref sig .tc .vmem S512x1024 .f32) (harg2 : arg2.IsWhole) (arg3 : Memref sig .tc .vmem S512x512 .bf16) (harg3 : arg3.IsWhole) (arg4 : Memref sig .tc .vmem S512x512 .f32) (harg4 : arg4.IsWhole) (arg5 : Memref sig .tc .vmem S1x256x2816 .f32) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1024x2816 .bf16) (harg8 : arg8.IsWhole) (arg16 : Memref sig .tc .vmem S768x256 .f32) (arg17 : Memref sig .tc .vmem S256x2816 .f32) (x0 : Vec Ideal S512x1024 .f32) (x1 : Vec Ideal S512x512 .bf16) (x2 : Vec Ideal S512x512 .f32) (x3 : Vec Ideal S1x256x2816 .f32) (x4 : Vec Ideal S1024x1024 .bf16) (x5 : Vec Ideal S1x1024 .f32) (x6 : Vec Ideal S1024x2816 .bf16) :
    kernelRun0_A.sl.v306 (F := Ideal) c arg2 harg2 arg3 harg3 arg4 harg4 arg5 harg5 arg6 harg6 arg7 harg7 arg8 harg8 arg16 arg17 x0 x1 x2 x3 x4 x5 x6
      = tl (gateT (kernelRun0_A.sl.r (F := Ideal) c arg2 harg2 arg3 harg3 arg4 harg4 arg6 harg6 arg7 harg7 x0 x1 x2 x4 x5) x6 4 (by decide)) := by
  simp only [kernelRun0_A.sl.HS1_10, kernelRun0_A.sl.r_17, kernelRun0_A.sl.v306, k0_pay41_id, k0_pay42_id, rd512, View.readAt_eq_ld, Memref.IsWhole.read_unread]
  rfl

/-- Column tile 5's step. -/
theorem accA5 (c : Dev nD) (arg2 : Memref sig .tc .vmem S512x1024 .f32) (harg2 : arg2.IsWhole) (arg3 : Memref sig .tc .vmem S512x512 .bf16) (harg3 : arg3.IsWhole) (arg4 : Memref sig .tc .vmem S512x512 .f32) (harg4 : arg4.IsWhole) (arg5 : Memref sig .tc .vmem S1x256x2816 .f32) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1024x2816 .bf16) (harg8 : arg8.IsWhole) (arg9 : Memref sig .tc .vmem S1024x2816 .bf16) (harg9 : arg9.IsWhole) (arg10 : Memref sig .tc .vmem S3x2816 .f32) (harg10 : arg10.IsWhole) (arg11 : Memref sig .tc .vmem S1x2816 .f32) (harg11 : arg11.IsWhole) (arg12 : Memref sig .tc .vmem S2816x1024 .bf16) (harg12 : arg12.IsWhole) (arg15 : Memref sig .tc .vmem S512x1024 .f32) (arg16 : Memref sig .tc .vmem S768x256 .f32) (arg17 : Memref sig .tc .vmem S256x2816 .f32) (x0 : Vec Ideal S512x1024 .f32) (x1 : Vec Ideal S512x512 .bf16) (x2 : Vec Ideal S512x512 .f32) (x3 : Vec Ideal S1x256x2816 .f32) (x4 : Vec Ideal S1024x1024 .bf16) (x5 : Vec Ideal S1x1024 .f32) (x6 : Vec Ideal S1024x2816 .bf16) (x7 : Vec Ideal S1024x2816 .bf16) (x8 : Vec Ideal S3x2816 .f32) (x9 : Vec Ideal S1x2816 .f32) (x10 : Vec Ideal S2816x1024 .bf16) :
    kernelRun0_A.sl.v445 (F := Ideal) c arg2 harg2 arg3 harg3 arg4 harg4 arg5 harg5 arg6 harg6 arg7 harg7 arg8 harg8 arg9 harg9 arg10 harg10 arg11 harg11 arg12 harg12 arg15 arg16 arg17 x0 x1 x2 x3 x4 x5 x6 x7 x8 x9 x10
      = step 5 (by decide) (kernelRun0_A.sl.r (F := Ideal) c arg2 harg2 arg3 harg3 arg4 harg4 arg6 harg6 arg7 harg7 x0 x1 x2 x4 x5) x6 x7 x8 x9 x10 (k0_pay2 (F := Ideal) x3)
        (kernelRun0_A.sl.v385 (F := Ideal) c arg2 harg2 arg3 harg3 arg4 harg4 arg5 harg5 arg6 harg6 arg7 harg7 arg8 harg8 arg9 harg9 arg10 harg10 arg11 harg11 arg12 harg12 arg15 arg16 arg17 x0 x1 x2 x3 x4 x5 x6 x7 x8 x9 x10) := by
  unfold kernelRun0_A.sl.v445 kernelRun0_A.sl.HS0_7
  rw [View.readCov_cons_unit_lit' _ _ _ _ _ (by decide) (by decide)]
  simp (disch := decide) only [kernelRun0_A.sl.HS1_12, kernelRun0_A.sl.HS2_1, kernelRun0_A.sl.HS2_2, kernelRun0_A.sl.HS2_3, kernelRun0_A.sl.HS2_4, kernelRun0_A.sl.HS2_5, kernelRun0_A.sl.HS2_6, kernelRun0_A.sl.r_21, kernelRun0_A.sl.r_22, kernelRun0_A.sl.r_23, kernelRun0_A.sl.r_24, kernelRun0_A.sl.v339, kernelRun0_A.sl.v350, kernelRun0_A.sl.v357, k0_pay12_id, k0_pay19_id, k0_pay28_id, k0_pay37_id, k0_pay44_id, k0_pay49_id, k0_pay50_id, rd0, rd128, skip, base, View.readAt_eq_ld, Memref.IsWhole.read_unread, View.ld_unit_lit']
  rfl

/-- Column tile 5's last 256 gate rows. -/
theorem tlA5 (c : Dev nD) (arg2 : Memref sig .tc .vmem S512x1024 .f32) (harg2 : arg2.IsWhole) (arg3 : Memref sig .tc .vmem S512x512 .bf16) (harg3 : arg3.IsWhole) (arg4 : Memref sig .tc .vmem S512x512 .f32) (harg4 : arg4.IsWhole) (arg5 : Memref sig .tc .vmem S1x256x2816 .f32) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1024x2816 .bf16) (harg8 : arg8.IsWhole) (arg16 : Memref sig .tc .vmem S768x256 .f32) (arg17 : Memref sig .tc .vmem S256x2816 .f32) (x0 : Vec Ideal S512x1024 .f32) (x1 : Vec Ideal S512x512 .bf16) (x2 : Vec Ideal S512x512 .f32) (x3 : Vec Ideal S1x256x2816 .f32) (x4 : Vec Ideal S1024x1024 .bf16) (x5 : Vec Ideal S1x1024 .f32) (x6 : Vec Ideal S1024x2816 .bf16) :
    kernelRun0_A.sl.v366 (F := Ideal) c arg2 harg2 arg3 harg3 arg4 harg4 arg5 harg5 arg6 harg6 arg7 harg7 arg8 harg8 arg16 arg17 x0 x1 x2 x3 x4 x5 x6
      = tl (gateT (kernelRun0_A.sl.r (F := Ideal) c arg2 harg2 arg3 harg3 arg4 harg4 arg6 harg6 arg7 harg7 x0 x1 x2 x4 x5) x6 5 (by decide)) := by
  simp only [kernelRun0_A.sl.HS1_12, kernelRun0_A.sl.v366, k0_pay49_id, k0_pay50_id, rd512, View.readAt_eq_ld, Memref.IsWhole.read_unread]
  rfl

/-- Column tile 6's step. -/
theorem accA6 (c : Dev nD) (arg2 : Memref sig .tc .vmem S512x1024 .f32) (harg2 : arg2.IsWhole) (arg3 : Memref sig .tc .vmem S512x512 .bf16) (harg3 : arg3.IsWhole) (arg4 : Memref sig .tc .vmem S512x512 .f32) (harg4 : arg4.IsWhole) (arg5 : Memref sig .tc .vmem S1x256x2816 .f32) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1024x2816 .bf16) (harg8 : arg8.IsWhole) (arg9 : Memref sig .tc .vmem S1024x2816 .bf16) (harg9 : arg9.IsWhole) (arg10 : Memref sig .tc .vmem S3x2816 .f32) (harg10 : arg10.IsWhole) (arg11 : Memref sig .tc .vmem S1x2816 .f32) (harg11 : arg11.IsWhole) (arg12 : Memref sig .tc .vmem S2816x1024 .bf16) (harg12 : arg12.IsWhole) (arg15 : Memref sig .tc .vmem S512x1024 .f32) (arg16 : Memref sig .tc .vmem S768x256 .f32) (arg17 : Memref sig .tc .vmem S256x2816 .f32) (x0 : Vec Ideal S512x1024 .f32) (x1 : Vec Ideal S512x512 .bf16) (x2 : Vec Ideal S512x512 .f32) (x3 : Vec Ideal S1x256x2816 .f32) (x4 : Vec Ideal S1024x1024 .bf16) (x5 : Vec Ideal S1x1024 .f32) (x6 : Vec Ideal S1024x2816 .bf16) (x7 : Vec Ideal S1024x2816 .bf16) (x8 : Vec Ideal S3x2816 .f32) (x9 : Vec Ideal S1x2816 .f32) (x10 : Vec Ideal S2816x1024 .bf16) :
    kernelRun0_A.sl.v505 (F := Ideal) c arg2 harg2 arg3 harg3 arg4 harg4 arg5 harg5 arg6 harg6 arg7 harg7 arg8 harg8 arg9 harg9 arg10 harg10 arg11 harg11 arg12 harg12 arg15 arg16 arg17 x0 x1 x2 x3 x4 x5 x6 x7 x8 x9 x10
      = step 6 (by decide) (kernelRun0_A.sl.r (F := Ideal) c arg2 harg2 arg3 harg3 arg4 harg4 arg6 harg6 arg7 harg7 x0 x1 x2 x4 x5) x6 x7 x8 x9 x10 (k0_pay2 (F := Ideal) x3)
        (kernelRun0_A.sl.v445 (F := Ideal) c arg2 harg2 arg3 harg3 arg4 harg4 arg5 harg5 arg6 harg6 arg7 harg7 arg8 harg8 arg9 harg9 arg10 harg10 arg11 harg11 arg12 harg12 arg15 arg16 arg17 x0 x1 x2 x3 x4 x5 x6 x7 x8 x9 x10) := by
  unfold kernelRun0_A.sl.v505 kernelRun0_A.sl.HS0_8
  rw [View.readCov_cons_unit_lit' _ _ _ _ _ (by decide) (by decide)]
  simp (disch := decide) only [kernelRun0_A.sl.HS1_14, kernelRun0_A.sl.HS2_1, kernelRun0_A.sl.HS2_2, kernelRun0_A.sl.HS2_3, kernelRun0_A.sl.HS2_4, kernelRun0_A.sl.HS2_5, kernelRun0_A.sl.HS2_6, kernelRun0_A.sl.HS2_7, kernelRun0_A.sl.r_25, kernelRun0_A.sl.r_26, kernelRun0_A.sl.r_27, kernelRun0_A.sl.r_28, kernelRun0_A.sl.v399, kernelRun0_A.sl.v410, kernelRun0_A.sl.v417, k0_pay12_id, k0_pay19_id, k0_pay28_id, k0_pay37_id, k0_pay44_id, k0_pay51_id, k0_pay56_id, k0_pay57_id, rd0, rd128, skip, base, View.readAt_eq_ld, Memref.IsWhole.read_unread, View.ld_unit_lit']
  rfl

/-- Column tile 6's last 256 gate rows. -/
theorem tlA6 (c : Dev nD) (arg2 : Memref sig .tc .vmem S512x1024 .f32) (harg2 : arg2.IsWhole) (arg3 : Memref sig .tc .vmem S512x512 .bf16) (harg3 : arg3.IsWhole) (arg4 : Memref sig .tc .vmem S512x512 .f32) (harg4 : arg4.IsWhole) (arg5 : Memref sig .tc .vmem S1x256x2816 .f32) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1024x2816 .bf16) (harg8 : arg8.IsWhole) (arg16 : Memref sig .tc .vmem S768x256 .f32) (arg17 : Memref sig .tc .vmem S256x2816 .f32) (x0 : Vec Ideal S512x1024 .f32) (x1 : Vec Ideal S512x512 .bf16) (x2 : Vec Ideal S512x512 .f32) (x3 : Vec Ideal S1x256x2816 .f32) (x4 : Vec Ideal S1024x1024 .bf16) (x5 : Vec Ideal S1x1024 .f32) (x6 : Vec Ideal S1024x2816 .bf16) :
    kernelRun0_A.sl.v426 (F := Ideal) c arg2 harg2 arg3 harg3 arg4 harg4 arg5 harg5 arg6 harg6 arg7 harg7 arg8 harg8 arg16 arg17 x0 x1 x2 x3 x4 x5 x6
      = tl (gateT (kernelRun0_A.sl.r (F := Ideal) c arg2 harg2 arg3 harg3 arg4 harg4 arg6 harg6 arg7 harg7 x0 x1 x2 x4 x5) x6 6 (by decide)) := by
  simp only [kernelRun0_A.sl.HS1_14, kernelRun0_A.sl.v426, k0_pay56_id, k0_pay57_id, rd512, View.readAt_eq_ld, Memref.IsWhole.read_unread]
  rfl

/-- Column tile 7's step. -/
theorem accA7 (c : Dev nD) (arg2 : Memref sig .tc .vmem S512x1024 .f32) (harg2 : arg2.IsWhole) (arg3 : Memref sig .tc .vmem S512x512 .bf16) (harg3 : arg3.IsWhole) (arg4 : Memref sig .tc .vmem S512x512 .f32) (harg4 : arg4.IsWhole) (arg5 : Memref sig .tc .vmem S1x256x2816 .f32) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1024x2816 .bf16) (harg8 : arg8.IsWhole) (arg9 : Memref sig .tc .vmem S1024x2816 .bf16) (harg9 : arg9.IsWhole) (arg10 : Memref sig .tc .vmem S3x2816 .f32) (harg10 : arg10.IsWhole) (arg11 : Memref sig .tc .vmem S1x2816 .f32) (harg11 : arg11.IsWhole) (arg12 : Memref sig .tc .vmem S2816x1024 .bf16) (harg12 : arg12.IsWhole) (arg15 : Memref sig .tc .vmem S512x1024 .f32) (arg16 : Memref sig .tc .vmem S768x256 .f32) (arg17 : Memref sig .tc .vmem S256x2816 .f32) (x0 : Vec Ideal S512x1024 .f32) (x1 : Vec Ideal S512x512 .bf16) (x2 : Vec Ideal S512x512 .f32) (x3 : Vec Ideal S1x256x2816 .f32) (x4 : Vec Ideal S1024x1024 .bf16) (x5 : Vec Ideal S1x1024 .f32) (x6 : Vec Ideal S1024x2816 .bf16) (x7 : Vec Ideal S1024x2816 .bf16) (x8 : Vec Ideal S3x2816 .f32) (x9 : Vec Ideal S1x2816 .f32) (x10 : Vec Ideal S2816x1024 .bf16) :
    kernelRun0_A.sl.v565 (F := Ideal) c arg2 harg2 arg3 harg3 arg4 harg4 arg5 harg5 arg6 harg6 arg7 harg7 arg8 harg8 arg9 harg9 arg10 harg10 arg11 harg11 arg12 harg12 arg15 arg16 arg17 x0 x1 x2 x3 x4 x5 x6 x7 x8 x9 x10
      = step 7 (by decide) (kernelRun0_A.sl.r (F := Ideal) c arg2 harg2 arg3 harg3 arg4 harg4 arg6 harg6 arg7 harg7 x0 x1 x2 x4 x5) x6 x7 x8 x9 x10 (k0_pay2 (F := Ideal) x3)
        (kernelRun0_A.sl.v505 (F := Ideal) c arg2 harg2 arg3 harg3 arg4 harg4 arg5 harg5 arg6 harg6 arg7 harg7 arg8 harg8 arg9 harg9 arg10 harg10 arg11 harg11 arg12 harg12 arg15 arg16 arg17 x0 x1 x2 x3 x4 x5 x6 x7 x8 x9 x10) := by
  unfold kernelRun0_A.sl.v565 kernelRun0_A.sl.HS0_9
  rw [View.readCov_cons_unit_lit' _ _ _ _ _ (by decide) (by decide)]
  simp (disch := decide) only [kernelRun0_A.sl.HS1_16, kernelRun0_A.sl.HS2_1, kernelRun0_A.sl.HS2_2, kernelRun0_A.sl.HS2_3, kernelRun0_A.sl.HS2_4, kernelRun0_A.sl.HS2_5, kernelRun0_A.sl.HS2_6, kernelRun0_A.sl.HS2_7, kernelRun0_A.sl.HS2_8, kernelRun0_A.sl.r_29, kernelRun0_A.sl.r_30, kernelRun0_A.sl.r_31, kernelRun0_A.sl.v459, kernelRun0_A.sl.v470, kernelRun0_A.sl.v477, k0_pay12_id, k0_pay19_id, k0_pay28_id, k0_pay37_id, k0_pay44_id, k0_pay51_id, k0_pay60_id, k0_pay65_id, k0_pay66_id, rd0, rd128, skip, base, View.readAt_eq_ld, Memref.IsWhole.read_unread, View.ld_unit_lit']
  rfl

/-- Column tile 7's last 256 gate rows. -/
theorem tlA7 (c : Dev nD) (arg2 : Memref sig .tc .vmem S512x1024 .f32) (harg2 : arg2.IsWhole) (arg3 : Memref sig .tc .vmem S512x512 .bf16) (harg3 : arg3.IsWhole) (arg4 : Memref sig .tc .vmem S512x512 .f32) (harg4 : arg4.IsWhole) (arg5 : Memref sig .tc .vmem S1x256x2816 .f32) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1024x2816 .bf16) (harg8 : arg8.IsWhole) (arg16 : Memref sig .tc .vmem S768x256 .f32) (arg17 : Memref sig .tc .vmem S256x2816 .f32) (x0 : Vec Ideal S512x1024 .f32) (x1 : Vec Ideal S512x512 .bf16) (x2 : Vec Ideal S512x512 .f32) (x3 : Vec Ideal S1x256x2816 .f32) (x4 : Vec Ideal S1024x1024 .bf16) (x5 : Vec Ideal S1x1024 .f32) (x6 : Vec Ideal S1024x2816 .bf16) :
    kernelRun0_A.sl.v486 (F := Ideal) c arg2 harg2 arg3 harg3 arg4 harg4 arg5 harg5 arg6 harg6 arg7 harg7 arg8 harg8 arg16 arg17 x0 x1 x2 x3 x4 x5 x6
      = tl (gateT (kernelRun0_A.sl.r (F := Ideal) c arg2 harg2 arg3 harg3 arg4 harg4 arg6 harg6 arg7 harg7 x0 x1 x2 x4 x5) x6 7 (by decide)) := by
  simp only [kernelRun0_A.sl.HS1_16, kernelRun0_A.sl.r_29, kernelRun0_A.sl.v486, k0_pay65_id, k0_pay66_id, rd512, View.readAt_eq_ld, Memref.IsWhole.read_unread]
  rfl

/-- Column tile 8's step. -/
theorem accA8 (c : Dev nD) (arg2 : Memref sig .tc .vmem S512x1024 .f32) (harg2 : arg2.IsWhole) (arg3 : Memref sig .tc .vmem S512x512 .bf16) (harg3 : arg3.IsWhole) (arg4 : Memref sig .tc .vmem S512x512 .f32) (harg4 : arg4.IsWhole) (arg5 : Memref sig .tc .vmem S1x256x2816 .f32) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1024x2816 .bf16) (harg8 : arg8.IsWhole) (arg9 : Memref sig .tc .vmem S1024x2816 .bf16) (harg9 : arg9.IsWhole) (arg10 : Memref sig .tc .vmem S3x2816 .f32) (harg10 : arg10.IsWhole) (arg11 : Memref sig .tc .vmem S1x2816 .f32) (harg11 : arg11.IsWhole) (arg12 : Memref sig .tc .vmem S2816x1024 .bf16) (harg12 : arg12.IsWhole) (arg15 : Memref sig .tc .vmem S512x1024 .f32) (arg16 : Memref sig .tc .vmem S768x256 .f32) (arg17 : Memref sig .tc .vmem S256x2816 .f32) (x0 : Vec Ideal S512x1024 .f32) (x1 : Vec Ideal S512x512 .bf16) (x2 : Vec Ideal S512x512 .f32) (x3 : Vec Ideal S1x256x2816 .f32) (x4 : Vec Ideal S1024x1024 .bf16) (x5 : Vec Ideal S1x1024 .f32) (x6 : Vec Ideal S1024x2816 .bf16) (x7 : Vec Ideal S1024x2816 .bf16) (x8 : Vec Ideal S3x2816 .f32) (x9 : Vec Ideal S1x2816 .f32) (x10 : Vec Ideal S2816x1024 .bf16) :
    kernelRun0_A.sl.v625 (F := Ideal) c arg2 harg2 arg3 harg3 arg4 harg4 arg5 harg5 arg6 harg6 arg7 harg7 arg8 harg8 arg9 harg9 arg10 harg10 arg11 harg11 arg12 harg12 arg15 arg16 arg17 x0 x1 x2 x3 x4 x5 x6 x7 x8 x9 x10
      = step 8 (by decide) (kernelRun0_A.sl.r (F := Ideal) c arg2 harg2 arg3 harg3 arg4 harg4 arg6 harg6 arg7 harg7 x0 x1 x2 x4 x5) x6 x7 x8 x9 x10 (k0_pay2 (F := Ideal) x3)
        (kernelRun0_A.sl.v565 (F := Ideal) c arg2 harg2 arg3 harg3 arg4 harg4 arg5 harg5 arg6 harg6 arg7 harg7 arg8 harg8 arg9 harg9 arg10 harg10 arg11 harg11 arg12 harg12 arg15 arg16 arg17 x0 x1 x2 x3 x4 x5 x6 x7 x8 x9 x10) := by
  unfold kernelRun0_A.sl.v625 kernelRun0_A.sl.HS0_10
  rw [View.readCov_cons_unit_lit' _ _ _ _ _ (by decide) (by decide)]
  simp (disch := decide) only [kernelRun0_A.sl.HS1_18, kernelRun0_A.sl.HS2_1, kernelRun0_A.sl.HS2_2, kernelRun0_A.sl.HS2_3, kernelRun0_A.sl.HS2_4, kernelRun0_A.sl.HS2_5, kernelRun0_A.sl.HS2_6, kernelRun0_A.sl.HS2_7, kernelRun0_A.sl.HS2_8, kernelRun0_A.sl.HS2_9, kernelRun0_A.sl.r_32, kernelRun0_A.sl.r_33, kernelRun0_A.sl.r_34, kernelRun0_A.sl.r_35, kernelRun0_A.sl.v519, kernelRun0_A.sl.v530, kernelRun0_A.sl.v537, k0_pay12_id, k0_pay19_id, k0_pay28_id, k0_pay37_id, k0_pay44_id, k0_pay51_id, k0_pay60_id, k0_pay68_id, k0_pay72_id, k0_pay73_id, rd0, rd128, skip, base, View.readAt_eq_ld, Memref.IsWhole.read_unread, View.ld_unit_lit']
  rfl

/-- Column tile 8's last 256 gate rows. -/
theorem tlA8 (c : Dev nD) (arg2 : Memref sig .tc .vmem S512x1024 .f32) (harg2 : arg2.IsWhole) (arg3 : Memref sig .tc .vmem S512x512 .bf16) (harg3 : arg3.IsWhole) (arg4 : Memref sig .tc .vmem S512x512 .f32) (harg4 : arg4.IsWhole) (arg5 : Memref sig .tc .vmem S1x256x2816 .f32) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1024x2816 .bf16) (harg8 : arg8.IsWhole) (arg16 : Memref sig .tc .vmem S768x256 .f32) (arg17 : Memref sig .tc .vmem S256x2816 .f32) (x0 : Vec Ideal S512x1024 .f32) (x1 : Vec Ideal S512x512 .bf16) (x2 : Vec Ideal S512x512 .f32) (x3 : Vec Ideal S1x256x2816 .f32) (x4 : Vec Ideal S1024x1024 .bf16) (x5 : Vec Ideal S1x1024 .f32) (x6 : Vec Ideal S1024x2816 .bf16) :
    kernelRun0_A.sl.v546 (F := Ideal) c arg2 harg2 arg3 harg3 arg4 harg4 arg5 harg5 arg6 harg6 arg7 harg7 arg8 harg8 arg16 arg17 x0 x1 x2 x3 x4 x5 x6
      = tl (gateT (kernelRun0_A.sl.r (F := Ideal) c arg2 harg2 arg3 harg3 arg4 harg4 arg6 harg6 arg7 harg7 x0 x1 x2 x4 x5) x6 8 (by decide)) := by
  simp only [kernelRun0_A.sl.HS1_18, kernelRun0_A.sl.r_32, kernelRun0_A.sl.v546, k0_pay72_id, k0_pay73_id, rd512, View.readAt_eq_ld, Memref.IsWhole.read_unread]
  rfl

/-- Column tile 9's step. -/
theorem accA9 (c : Dev nD) (arg2 : Memref sig .tc .vmem S512x1024 .f32) (harg2 : arg2.IsWhole) (arg3 : Memref sig .tc .vmem S512x512 .bf16) (harg3 : arg3.IsWhole) (arg4 : Memref sig .tc .vmem S512x512 .f32) (harg4 : arg4.IsWhole) (arg5 : Memref sig .tc .vmem S1x256x2816 .f32) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1024x2816 .bf16) (harg8 : arg8.IsWhole) (arg9 : Memref sig .tc .vmem S1024x2816 .bf16) (harg9 : arg9.IsWhole) (arg10 : Memref sig .tc .vmem S3x2816 .f32) (harg10 : arg10.IsWhole) (arg11 : Memref sig .tc .vmem S1x2816 .f32) (harg11 : arg11.IsWhole) (arg12 : Memref sig .tc .vmem S2816x1024 .bf16) (harg12 : arg12.IsWhole) (arg15 : Memref sig .tc .vmem S512x1024 .f32) (arg16 : Memref sig .tc .vmem S768x256 .f32) (arg17 : Memref sig .tc .vmem S256x2816 .f32) (x0 : Vec Ideal S512x1024 .f32) (x1 : Vec Ideal S512x512 .bf16) (x2 : Vec Ideal S512x512 .f32) (x3 : Vec Ideal S1x256x2816 .f32) (x4 : Vec Ideal S1024x1024 .bf16) (x5 : Vec Ideal S1x1024 .f32) (x6 : Vec Ideal S1024x2816 .bf16) (x7 : Vec Ideal S1024x2816 .bf16) (x8 : Vec Ideal S3x2816 .f32) (x9 : Vec Ideal S1x2816 .f32) (x10 : Vec Ideal S2816x1024 .bf16) :
    kernelRun0_A.sl.v685 (F := Ideal) c arg2 harg2 arg3 harg3 arg4 harg4 arg5 harg5 arg6 harg6 arg7 harg7 arg8 harg8 arg9 harg9 arg10 harg10 arg11 harg11 arg12 harg12 arg15 arg16 arg17 x0 x1 x2 x3 x4 x5 x6 x7 x8 x9 x10
      = step 9 (by decide) (kernelRun0_A.sl.r (F := Ideal) c arg2 harg2 arg3 harg3 arg4 harg4 arg6 harg6 arg7 harg7 x0 x1 x2 x4 x5) x6 x7 x8 x9 x10 (k0_pay2 (F := Ideal) x3)
        (kernelRun0_A.sl.v625 (F := Ideal) c arg2 harg2 arg3 harg3 arg4 harg4 arg5 harg5 arg6 harg6 arg7 harg7 arg8 harg8 arg9 harg9 arg10 harg10 arg11 harg11 arg12 harg12 arg15 arg16 arg17 x0 x1 x2 x3 x4 x5 x6 x7 x8 x9 x10) := by
  unfold kernelRun0_A.sl.v685 kernelRun0_A.sl.HS0_11
  rw [View.readCov_cons_unit_lit' _ _ _ _ _ (by decide) (by decide)]
  simp (disch := decide) only [kernelRun0_A.sl.HS1_20, kernelRun0_A.sl.HS2_1, kernelRun0_A.sl.HS2_10, kernelRun0_A.sl.HS2_2, kernelRun0_A.sl.HS2_3, kernelRun0_A.sl.HS2_4, kernelRun0_A.sl.HS2_5, kernelRun0_A.sl.HS2_6, kernelRun0_A.sl.HS2_7, kernelRun0_A.sl.HS2_8, kernelRun0_A.sl.HS2_9, kernelRun0_A.sl.r_36, kernelRun0_A.sl.r_37, kernelRun0_A.sl.r_38, kernelRun0_A.sl.r_39, kernelRun0_A.sl.r_40, kernelRun0_A.sl.v579, kernelRun0_A.sl.v590, kernelRun0_A.sl.v597, k0_pay12_id, k0_pay19_id, k0_pay28_id, k0_pay37_id, k0_pay44_id, k0_pay51_id, k0_pay60_id, k0_pay68_id, k0_pay75_id, k0_pay80_id, k0_pay81_id, rd0, rd128, skip, base, View.readAt_eq_ld, Memref.IsWhole.read_unread, View.ld_unit_lit']
  rfl

/-- Column tile 9's last 256 gate rows. -/
theorem tlA9 (c : Dev nD) (arg2 : Memref sig .tc .vmem S512x1024 .f32) (harg2 : arg2.IsWhole) (arg3 : Memref sig .tc .vmem S512x512 .bf16) (harg3 : arg3.IsWhole) (arg4 : Memref sig .tc .vmem S512x512 .f32) (harg4 : arg4.IsWhole) (arg5 : Memref sig .tc .vmem S1x256x2816 .f32) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1024x2816 .bf16) (harg8 : arg8.IsWhole) (arg16 : Memref sig .tc .vmem S768x256 .f32) (arg17 : Memref sig .tc .vmem S256x2816 .f32) (x0 : Vec Ideal S512x1024 .f32) (x1 : Vec Ideal S512x512 .bf16) (x2 : Vec Ideal S512x512 .f32) (x3 : Vec Ideal S1x256x2816 .f32) (x4 : Vec Ideal S1024x1024 .bf16) (x5 : Vec Ideal S1x1024 .f32) (x6 : Vec Ideal S1024x2816 .bf16) :
    kernelRun0_A.sl.v606 (F := Ideal) c arg2 harg2 arg3 harg3 arg4 harg4 arg5 harg5 arg6 harg6 arg7 harg7 arg8 harg8 arg16 arg17 x0 x1 x2 x3 x4 x5 x6
      = tl (gateT (kernelRun0_A.sl.r (F := Ideal) c arg2 harg2 arg3 harg3 arg4 harg4 arg6 harg6 arg7 harg7 x0 x1 x2 x4 x5) x6 9 (by decide)) := by
  simp only [kernelRun0_A.sl.HS1_20, kernelRun0_A.sl.v606, k0_pay80_id, k0_pay81_id, rd512, View.readAt_eq_ld, Memref.IsWhole.read_unread]
  rfl

/-- Column tile 10's step. -/
theorem accA10 (c : Dev nD) (arg2 : Memref sig .tc .vmem S512x1024 .f32) (harg2 : arg2.IsWhole) (arg3 : Memref sig .tc .vmem S512x512 .bf16) (harg3 : arg3.IsWhole) (arg4 : Memref sig .tc .vmem S512x512 .f32) (harg4 : arg4.IsWhole) (arg5 : Memref sig .tc .vmem S1x256x2816 .f32) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1024x2816 .bf16) (harg8 : arg8.IsWhole) (arg9 : Memref sig .tc .vmem S1024x2816 .bf16) (harg9 : arg9.IsWhole) (arg10 : Memref sig .tc .vmem S3x2816 .f32) (harg10 : arg10.IsWhole) (arg11 : Memref sig .tc .vmem S1x2816 .f32) (harg11 : arg11.IsWhole) (arg12 : Memref sig .tc .vmem S2816x1024 .bf16) (harg12 : arg12.IsWhole) (arg15 : Memref sig .tc .vmem S512x1024 .f32) (arg16 : Memref sig .tc .vmem S768x256 .f32) (arg17 : Memref sig .tc .vmem S256x2816 .f32) (x0 : Vec Ideal S512x1024 .f32) (x1 : Vec Ideal S512x512 .bf16) (x2 : Vec Ideal S512x512 .f32) (x3 : Vec Ideal S1x256x2816 .f32) (x4 : Vec Ideal S1024x1024 .bf16) (x5 : Vec Ideal S1x1024 .f32) (x6 : Vec Ideal S1024x2816 .bf16) (x7 : Vec Ideal S1024x2816 .bf16) (x8 : Vec Ideal S3x2816 .f32) (x9 : Vec Ideal S1x2816 .f32) (x10 : Vec Ideal S2816x1024 .bf16) :
    kernelRun0_A.sl.v693 (F := Ideal) c arg2 harg2 arg3 harg3 arg4 harg4 arg5 harg5 arg6 harg6 arg7 harg7 arg8 harg8 arg9 harg9 arg10 harg10 arg11 harg11 arg12 harg12 arg15 arg16 arg17 x0 x1 x2 x3 x4 x5 x6 x7 x8 x9 x10
      = step 10 (by decide) (kernelRun0_A.sl.r (F := Ideal) c arg2 harg2 arg3 harg3 arg4 harg4 arg6 harg6 arg7 harg7 x0 x1 x2 x4 x5) x6 x7 x8 x9 x10 (k0_pay2 (F := Ideal) x3)
        (kernelRun0_A.sl.v685 (F := Ideal) c arg2 harg2 arg3 harg3 arg4 harg4 arg5 harg5 arg6 harg6 arg7 harg7 arg8 harg8 arg9 harg9 arg10 harg10 arg11 harg11 arg12 harg12 arg15 arg16 arg17 x0 x1 x2 x3 x4 x5 x6 x7 x8 x9 x10) := by
  unfold kernelRun0_A.sl.v693 kernelRun0_A.sl.HS0_12
  rw [View.readCov_cons_unit_lit' _ _ _ _ _ (by decide) (by decide)]
  simp (disch := decide) only [kernelRun0_A.sl.HS1_22, kernelRun0_A.sl.HS2_1, kernelRun0_A.sl.HS2_10, kernelRun0_A.sl.HS2_11, kernelRun0_A.sl.HS2_2, kernelRun0_A.sl.HS2_3, kernelRun0_A.sl.HS2_4, kernelRun0_A.sl.HS2_5, kernelRun0_A.sl.HS2_6, kernelRun0_A.sl.HS2_7, kernelRun0_A.sl.HS2_8, kernelRun0_A.sl.HS2_9, kernelRun0_A.sl.r_41, kernelRun0_A.sl.r_42, kernelRun0_A.sl.r_43, kernelRun0_A.sl.r_44, kernelRun0_A.sl.v639, kernelRun0_A.sl.v650, kernelRun0_A.sl.v657, k0_pay12_id, k0_pay19_id, k0_pay28_id, k0_pay37_id, k0_pay44_id, k0_pay51_id, k0_pay60_id, k0_pay68_id, k0_pay75_id, k0_pay84_id, k0_pay89_id, k0_pay90_id, rd0, rd128, skip, base, View.readAt_eq_ld, Memref.IsWhole.read_unread, View.ld_unit_lit']
  rfl

/-- Column tile 10's last 256 gate rows. -/
theorem tlA10 (c : Dev nD) (arg2 : Memref sig .tc .vmem S512x1024 .f32) (harg2 : arg2.IsWhole) (arg3 : Memref sig .tc .vmem S512x512 .bf16) (harg3 : arg3.IsWhole) (arg4 : Memref sig .tc .vmem S512x512 .f32) (harg4 : arg4.IsWhole) (arg5 : Memref sig .tc .vmem S1x256x2816 .f32) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1024x2816 .bf16) (harg8 : arg8.IsWhole) (arg16 : Memref sig .tc .vmem S768x256 .f32) (arg17 : Memref sig .tc .vmem S256x2816 .f32) (x0 : Vec Ideal S512x1024 .f32) (x1 : Vec Ideal S512x512 .bf16) (x2 : Vec Ideal S512x512 .f32) (x3 : Vec Ideal S1x256x2816 .f32) (x4 : Vec Ideal S1024x1024 .bf16) (x5 : Vec Ideal S1x1024 .f32) (x6 : Vec Ideal S1024x2816 .bf16) :
    kernelRun0_A.sl.v666 (F := Ideal) c arg2 harg2 arg3 harg3 arg4 harg4 arg5 harg5 arg6 harg6 arg7 harg7 arg8 harg8 arg16 arg17 x0 x1 x2 x3 x4 x5 x6
      = tl (gateT (kernelRun0_A.sl.r (F := Ideal) c arg2 harg2 arg3 harg3 arg4 harg4 arg6 harg6 arg7 harg7 x0 x1 x2 x4 x5) x6 10 (by decide)) := by
  simp only [kernelRun0_A.sl.HS1_22, kernelRun0_A.sl.v666, k0_pay89_id, k0_pay90_id, rd512, View.readAt_eq_ld, Memref.IsWhole.read_unread]
  rfl

/-- The normed block. -/
theorem xnA (c : Dev nD) (arg2 : Memref sig .tc .vmem S512x1024 .f32) (harg2 : arg2.IsWhole) (arg3 : Memref sig .tc .vmem S512x512 .bf16) (harg3 : arg3.IsWhole) (arg4 : Memref sig .tc .vmem S512x512 .f32) (harg4 : arg4.IsWhole) (arg6 : Memref sig .tc .vmem S1024x1024 .bf16) (harg6 : arg6.IsWhole) (arg7 : Memref sig .tc .vmem S1x1024 .f32) (harg7 : arg7.IsWhole) (x0 : Vec Ideal S512x1024 .f32) (x1 : Vec Ideal S512x512 .bf16) (x2 : Vec Ideal S512x512 .f32) (x4 : Vec Ideal S1024x1024 .bf16) (x5 : Vec Ideal S1x1024 .f32) :
    kernelRun0_A.sl.r (F := Ideal) c arg2 harg2 arg3 harg3 arg4 harg4 arg6 harg6 arg7 harg7 x0 x1 x2 x4 x5 = k0_pay4 (F := Ideal) x1 x2 x0 x4 x5 := by
  simp (disch := decide) only [kernelRun0_A.sl.r, View.readAt_eq_ld, Memref.IsWhole.read_unread, View.ld_unit_lit']

/-- The mixed block, stored first. -/
theorem acc0A (c : Dev nD) (arg2 : Memref sig .tc .vmem S512x1024 .f32) (harg2 : arg2.IsWhole) (arg3 : Memref sig .tc .vmem S512x512 .bf16) (harg3 : arg3.IsWhole) (arg4 : Memref sig .tc .vmem S512x512 .f32) (harg4 : arg4.IsWhole) (arg6 : Memref sig .tc .vmem S1024x1024 .bf16) (harg6 : arg6.IsWhole) (arg15 : Memref sig .tc .vmem S512x1024 .f32) (x0 : Vec Ideal S512x1024 .f32) (x1 : Vec Ideal S512x512 .bf16) (x2 : Vec Ideal S512x512 .f32) (x4 : Vec Ideal S1024x1024 .bf16) :
    kernelRun0_A.sl.v85 (F := Ideal) c arg2 harg2 arg3 harg3 arg4 harg4 arg6 harg6 arg15 x0 x1 x2 x4 = k0_pay3 (F := Ideal) x1 x2 x0 x4 := by
  simp (disch := decide) only [kernelRun0_A.sl.v85, kernelRun0_A.sl.HS0_1, View.readCov_unit_lit', k0_pay5_id, View.readAt_eq_ld, Memref.IsWhole.read_unread, View.ld_unit_lit']

/-- The whole block at an index. -/
theorem outA (c : Dev nD) (arg2 : Memref sig .tc .vmem S512x1024 .f32) (harg2 : arg2.IsWhole) (arg3 : Memref sig .tc .vmem S512x512 .bf16) (harg3 : arg3.IsWhole) (arg4 : Memref sig .tc .vmem S512x512 .f32) (harg4 : arg4.IsWhole) (arg5 : Memref sig .tc .vmem S1x256x2816 .f32) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1024x2816 .bf16) (harg8 : arg8.IsWhole) (arg9 : Memref sig .tc .vmem S1024x2816 .bf16) (harg9 : arg9.IsWhole) (arg10 : Memref sig .tc .vmem S3x2816 .f32) (harg10 : arg10.IsWhole) (arg11 : Memref sig .tc .vmem S1x2816 .f32) (harg11 : arg11.IsWhole) (arg12 : Memref sig .tc .vmem S2816x1024 .bf16) (harg12 : arg12.IsWhole) (arg15 : Memref sig .tc .vmem S512x1024 .f32) (arg16 : Memref sig .tc .vmem S768x256 .f32) (arg17 : Memref sig .tc .vmem S256x2816 .f32) (x0 : Vec Ideal S512x1024 .f32) (x1 : Vec Ideal S512x512 .bf16) (x2 : Vec Ideal S512x512 .f32) (x3 : Vec Ideal S1x256x2816 .f32) (x4 : Vec Ideal S1024x1024 .bf16) (x5 : Vec Ideal S1x1024 .f32) (x6 : Vec Ideal S1024x2816 .bf16) (x7 : Vec Ideal S1024x2816 .bf16) (x8 : Vec Ideal S3x2816 .f32) (x9 : Vec Ideal S1x2816 .f32) (x10 : Vec Ideal S2816x1024 .bf16) (i : Fin 512) (d : Fin 1024) :
    (kernelRun0_A.sl.v693 (F := Ideal) c arg2 harg2 arg3 harg3 arg4 harg4 arg5 harg5 arg6 harg6 arg7 harg7 arg8 harg8 arg9 harg9 arg10 harg10 arg11 harg11 arg12 harg12 arg15 arg16 arg17 x0 x1 x2 x3 x4 x5 x6 x7 x8 x9 x10 (ix2 i d) : EReal)
      = k0_pay3 (F := Ideal) x1 x2 x0 x4 (ix2 i d)
        + ∑ n : Fin 2816, hidB (k0_pay4 (F := Ideal) x1 x2 x0 x4 x5) x6 x7 x8 x9 (k0_pay2 (F := Ideal) x3) i n * x10 (ix2 n d) := by
  rw [tiles, accA10, step_at, accA9, step_at, accA8, step_at, accA7, step_at, accA6, step_at, accA5, step_at, accA4, step_at, accA3, step_at, accA2, step_at, accA1, step_at, accA0, step_at, acc0A, xnA]

/-- The rows carried on, at an index. -/
theorem histA (c : Dev nD) (arg2 : Memref sig .tc .vmem S512x1024 .f32) (harg2 : arg2.IsWhole) (arg3 : Memref sig .tc .vmem S512x512 .bf16) (harg3 : arg3.IsWhole) (arg4 : Memref sig .tc .vmem S512x512 .f32) (harg4 : arg4.IsWhole) (arg5 : Memref sig .tc .vmem S1x256x2816 .f32) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1024x2816 .bf16) (harg8 : arg8.IsWhole) (arg16 : Memref sig .tc .vmem S768x256 .f32) (arg17 : Memref sig .tc .vmem S256x2816 .f32) (x0 : Vec Ideal S512x1024 .f32) (x1 : Vec Ideal S512x512 .bf16) (x2 : Vec Ideal S512x512 .f32) (x3 : Vec Ideal S1x256x2816 .f32) (x4 : Vec Ideal S1024x1024 .bf16) (x5 : Vec Ideal S1x1024 .f32) (x6 : Vec Ideal S1024x2816 .bf16) (i : Fin 256) (n : Fin 2816) :
    (kernelRun0_A.sl.v695 (F := Ideal) c arg2 harg2 arg3 harg3 arg4 harg4 arg5 harg5 arg6 harg6 arg7 harg7 arg8 harg8 arg16 arg17 x0 x1 x2 x3 x4 x5 x6 (ix2 i n) : EReal)
      = rowDot (k0_pay4 (F := Ideal) x1 x2 x0 x4 x5) x6 ⟨256 + i.val, by have := i.isLt; omega⟩ n := by
  rw [← xnA c arg2 harg2 arg3 harg3 arg4 harg4 arg6 harg6 arg7 harg7 x0 x1 x2 x4 x5]
  unfold kernelRun0_A.sl.v695 kernelRun0_A.sl.HS2_12 kernelRun0_A.sl.HS2_11 kernelRun0_A.sl.HS2_10 kernelRun0_A.sl.HS2_9 kernelRun0_A.sl.HS2_8 kernelRun0_A.sl.HS2_7 kernelRun0_A.sl.HS2_6 kernelRun0_A.sl.HS2_5 kernelRun0_A.sl.HS2_4 kernelRun0_A.sl.HS2_3 kernelRun0_A.sl.HS2_2
  rw [View.readCov_eq_canon']
  simp only [k0_pay12_id, k0_pay19_id, k0_pay28_id, k0_pay37_id, k0_pay44_id, k0_pay51_id, k0_pay60_id, k0_pay68_id, k0_pay75_id, k0_pay84_id, k0_pay92_id, tlA0, tlA1, tlA2, tlA3, tlA4, tlA5, tlA6, tlA7, tlA8, tlA9, tlA10]
  refine (congrArg _ (show (Rect.unit (s := S256x2816) ![0, 0] S256x2816.size inb_S256x2816_S256x2816_0_0).toLoadRect.idx (ix2 i n) = ix2 i n from
    funext fun a => Fin.ext (by revert a; exact Fin.forall_fin_two.mpr ⟨by show 0 + 1 * i.val = i.val; omega, by show 0 + 1 * n.val = n.val; omega⟩))).trans ?_
  exact peel _ x6 10 (by decide) 2560 (by decide) _ _
    (peel _ x6 9 (by decide) 2304 (by decide) _ _
    (peel _ x6 8 (by decide) 2048 (by decide) _ _
    (peel _ x6 7 (by decide) 1792 (by decide) _ _
    (peel _ x6 6 (by decide) 1536 (by decide) _ _
    (peel _ x6 5 (by decide) 1280 (by decide) _ _
    (peel _ x6 4 (by decide) 1024 (by decide) _ _
    (peel _ x6 3 (by decide) 768 (by decide) _ _
    (peel _ x6 2 (by decide) 512 (by decide) _ _
    (peel _ x6 1 (by decide) 256 (by decide) _ _
    (peel _ x6 0 (by decide) 0 (by decide) _ _
    (fun i c hc => absurd hc (by omega)))))))))))) i n (by have := n.isLt; omega)

end Cert.PostSIdeal.Pure
-- ==== Proof.PostSOuts.lean ====
/-
  What the output call's body leaves in each of its buffers, at an index, for the sample batch.
-/
module

public import proofs.«01_k».proof.Proof.PostSRun
public import proofs.«01_k».proof.Proof.Gen.PostSIdeal.Frame
public import Idealize.ShloMosaic.Lib.Pipeline.ValueKit

@[expose] public section

set_option maxRecDepth 16384

noncomputable section

namespace Cert.PostSIdeal.Pure

open Cert.PostSIdeal Cert.PostSIdeal.Gen Cert.RowNorm Cert.PostMath Idealize.ShloMosaic Idealize.ShloMosaic.TcCoe Idealize.SL.Sem

/-- The block stored. -/
theorem blockA (c : Dev nD) (i : grid0.Coords) (arg2 : Memref sig .tc .vmem S512x1024 .f32) (harg2 : arg2.IsWhole) (arg3 : Memref sig .tc .vmem S512x512 .bf16) (harg3 : arg3.IsWhole) (arg4 : Memref sig .tc .vmem S512x512 .f32) (harg4 : arg4.IsWhole) (arg5 : Memref sig .tc .vmem S1x256x2816 .f32) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1024x2816 .bf16) (harg8 : arg8.IsWhole) (arg9 : Memref sig .tc .vmem S1024x2816 .bf16) (harg9 : arg9.IsWhole) (arg10 : Memref sig .tc .vmem S3x2816 .f32) (harg10 : arg10.IsWhole) (arg11 : Memref sig .tc .vmem S1x2816 .f32) (harg11 : arg11.IsWhole) (arg12 : Memref sig .tc .vmem S2816x1024 .bf16) (harg12 : arg12.IsWhole) (arg13 : Memref sig .tc .vmem S512x1024 .f32) (harg13 : arg13.IsWhole) (arg14 : Memref sig .tc .vmem S1x256x2816 .f32) (harg14 : arg14.IsWhole) (arg15 : Memref sig .tc .vmem S512x1024 .f32) (harg15 : arg15.IsWhole) (arg16 : Memref sig .tc .vmem S768x256 .f32) (harg16 : arg16.IsWhole) (arg17 : Memref sig .tc .vmem S256x2816 .f32) (harg17 : arg17.IsWhole) (hc0 : cond0_0 i) (x0 : Vec Ideal S512x1024 .f32) (x1 : Vec Ideal S512x512 .bf16) (x2 : Vec Ideal S512x512 .f32) (x3 : Vec Ideal S1x256x2816 .f32) (x4 : Vec Ideal S1024x1024 .bf16) (x5 : Vec Ideal S1x1024 .f32) (x6 : Vec Ideal S1024x2816 .bf16) (x7 : Vec Ideal S1024x2816 .bf16) (x8 : Vec Ideal S3x2816 .f32) (x9 : Vec Ideal S1x2816 .f32) (x10 : Vec Ideal S2816x1024 .bf16)
    (i' : Fin 512) (d : Fin 1024) :
    (out0_A_11 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 (ix2 i' d) : EReal)
      = k0_pay3 (F := Ideal) x1 x2 x0 x4 (ix2 i' d)
        + ∑ n : Fin 2816, hidB (k0_pay4 (F := Ideal) x1 x2 x0 x4 x5) x6 x7 x8 x9 (k0_pay2 (F := Ideal) x3) i' n * x10 (ix2 n d) := by
  unfold out0_A_11
  rw [View.read_writes_junk_eq_canon]
  unfold kernelRun0_A
  dsimp only
  rw [View.canon_cons_unit_lit' _ _ _ (by decide)]
  exact outA c arg2 harg2 arg3 harg3 arg4 harg4 arg5 harg5 arg6 harg6 arg7 harg7 arg8 harg8 arg9 harg9 arg10 harg10 arg11 harg11 arg12 harg12 arg15 arg16 arg17 x0 x1 x2 x3 x4 x5 x6 x7 x8 x9 x10 i' d

/-- The rows stored. -/
theorem stateA (c : Dev nD) (i : grid0.Coords) (arg2 : Memref sig .tc .vmem S512x1024 .f32) (harg2 : arg2.IsWhole) (arg3 : Memref sig .tc .vmem S512x512 .bf16) (harg3 : arg3.IsWhole) (arg4 : Memref sig .tc .vmem S512x512 .f32) (harg4 : arg4.IsWhole) (arg5 : Memref sig .tc .vmem S1x256x2816 .f32) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1024x2816 .bf16) (harg8 : arg8.IsWhole) (arg9 : Memref sig .tc .vmem S1024x2816 .bf16) (harg9 : arg9.IsWhole) (arg10 : Memref sig .tc .vmem S3x2816 .f32) (harg10 : arg10.IsWhole) (arg11 : Memref sig .tc .vmem S1x2816 .f32) (harg11 : arg11.IsWhole) (arg12 : Memref sig .tc .vmem S2816x1024 .bf16) (harg12 : arg12.IsWhole) (arg13 : Memref sig .tc .vmem S512x1024 .f32) (harg13 : arg13.IsWhole) (arg14 : Memref sig .tc .vmem S1x256x2816 .f32) (harg14 : arg14.IsWhole) (arg15 : Memref sig .tc .vmem S512x1024 .f32) (harg15 : arg15.IsWhole) (arg16 : Memref sig .tc .vmem S768x256 .f32) (harg16 : arg16.IsWhole) (arg17 : Memref sig .tc .vmem S256x2816 .f32) (harg17 : arg17.IsWhole) (hc0 : cond0_0 i) (x0 : Vec Ideal S512x1024 .f32) (x1 : Vec Ideal S512x512 .bf16) (x2 : Vec Ideal S512x512 .f32) (x3 : Vec Ideal S1x256x2816 .f32) (x4 : Vec Ideal S1024x1024 .bf16) (x5 : Vec Ideal S1x1024 .f32) (x6 : Vec Ideal S1024x2816 .bf16) (x7 : Vec Ideal S1024x2816 .bf16) (x8 : Vec Ideal S3x2816 .f32) (x9 : Vec Ideal S1x2816 .f32) (x10 : Vec Ideal S2816x1024 .bf16)
    (i' : Fin 256) (n : Fin 2816) :
    (out0_A_12 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 (ix3 0 i' n) : EReal)
      = rowDot (k0_pay4 (F := Ideal) x1 x2 x0 x4 x5) x6 ⟨256 + i'.val, by have := i'.isLt; omega⟩ n := by
  refine Eq.trans ?_ (histA c arg2 harg2 arg3 harg3 arg4 harg4 arg5 harg5 arg6 harg6 arg7 harg7 arg8 harg8 arg16 arg17 x0 x1 x2 x3 x4 x5 x6 i' n)
  unfold out0_A_12
  rw [View.read_writes_junk_eq_canon]
  unfold kernelRun0_A
  dsimp only
  rw [View.canon_cons_unit_lit' _ _ _ (by decide)]
  pointwise [k0_pay1]

end Cert.PostSIdeal.Pure
-- ==== Proof.PostSValue.lean ====
/-
  The sample batch's arrays of the output call: the rows it returns and the convolution's state, in the arguments' own terms.
-/
module

public import proofs.«01_k».proof.Proof.PostSHost
public import proofs.«01_k».proof.Proof.PostSOuts
public import Idealize.ShloMosaic.Lib.Pipeline.ValueKit

@[expose] public section

set_option maxRecDepth 16384

noncomputable section

namespace Cert.PostSIdeal.Pure

open Cert.PostSIdeal Cert.PostSIdeal.Gen Cert.RowNorm Cert.PostMath Idealize.ShloMosaic Idealize.ShloMosaic.TcCoe Idealize.SL.Sem

variable (m : (ℓ : Loc nD τ sig) → Buf (Elt Ideal) ℓ) (c : Dev nD)

/-- The mixed row of sequence `b` at position `t`. -/
def mx (b : Fin 128) (t : Fin 4) : Fin 1024 → EReal :=
  mixed (fun d => m ((c.tc : Thread nD τ).loc main_arg0) (ix3 b t d))
    (mixRow (fun k => m ((c.tc : Thread nD τ).loc main_arg1) (ix3 b t k)) (fun k => m ((c.tc : Thread nD τ).loc main_arg2) (ix3 t b k)))
    (fun k d => m ((c.tc : Thread nD τ).loc main_arg4) (ix3 0 k d))

/-- The earlier gate entries of sequence `b`. -/
def hs (b : Fin 128) (i : Fin 2) (n : Fin 2816) : EReal := m ((c.tc : Thread nD τ).loc main_arg3) (ix4 0 b i n)

/-- The gains. -/
def gn (d : Fin 1024) : EReal := m ((c.tc : Thread nD τ).loc main_arg5) (ix2 0 d)
/-- The gate's weights. -/
def wg (d : Fin 1024) (n : Fin 2816) : EReal := m ((c.tc : Thread nD τ).loc main_arg6) (ix3 0 d n)
/-- The other branch's weights. -/
def wu (d : Fin 1024) (n : Fin 2816) : EReal := m ((c.tc : Thread nD τ).loc main_arg7) (ix3 0 d n)
/-- The convolution's weights. -/
def cw (j : Fin 3) (n : Fin 2816) : EReal := m ((c.tc : Thread nD τ).loc main_arg8) (ix3 0 j n)
/-- The convolution's bias. -/
def cb (n : Fin 2816) : EReal := m ((c.tc : Thread nD τ).loc main_arg9) (ix2 0 n)
/-- The last weights. -/
def wd (n : Fin 2816) (d : Fin 1024) : EReal := m ((c.tc : Thread nD τ).loc main_arg10) (ix3 0 n d)

/-- The sequence of row `i`. -/
def sq (i : Fin 512) : Fin 128 := ⟨i.val % 128, Nat.mod_lt _ (by decide)⟩

/-- The position of row `i`. -/
def ps (i : Fin 512) : Fin 4 := ⟨i.val / 128, by have := i.isLt; omega⟩

/-- A gate entry. -/
def gt (b : Fin 128) (t : Fin 4) (n : Fin 2816) : EReal := normDot (mx m c b t) (gn m c) (fun d => wg m c d n)

/-- The mixed rows of the block. -/
theorem mx_blk (t : Fin cfg0.N) (i : Fin 512) (d : Fin 1024) :
    (k0_pay3 (F := Ideal) (iblk m c 1 t) (iblk m c 2 t) (iblk m c 0 t) (iblk m c 4 t) (ix2 i d) : EReal) = mx m c (sq i) (ps i) d := by
  refine (pay3_at _ _ _ _ i d).trans ?_
  unfold mx
  refine congr (congr (congr (congrArg mixed ?_) ?_) ?_) rfl
  · funext e
    exact (blk0 m c t i e).trans (x_at m c i e)
  · refine congr (congrArg mixRow ?_) ?_
    · funext k
      exact (blk1 m c t i k).trans (a_at m c i k)
    · funext k
      exact (blk2 m c t i k).trans (s_at m c i k)
  · funext k e
    exact (blk4 m c t k e).trans (wo_at m c k e)

/-- The normed block. -/
abbrev xnp (t : Fin cfg0.N) : Vec Ideal S512x1024 .bf16 :=
  k0_pay4 (F := Ideal) (iblk m c 1 t) (iblk m c 2 t) (iblk m c 0 t) (iblk m c 4 t) (iblk m c 5 t)

/-- The block's gate entries. -/
theorem gt_blk (t : Fin cfg0.N) (i : Fin 512) (n : Fin 2816) :
    rowDot (xnp m c t) (iblk m c 6 t) i n = gt m c (sq i) (ps i) n := by
  refine (pay4_dot _ _ _ _ _ _ i n).trans ?_
  unfold gt
  exact congr (congr (congrArg normDot (funext fun d => mx_blk m c t i d)) (funext fun d => (blk5 m c t 0 d).trans (g_at m c d)))
    (funext fun d => (blk6 m c t d n).trans (wg_at m c d n))

/-- The block's entries of the other branch. -/
theorem up_blk (t : Fin cfg0.N) (i : Fin 512) (n : Fin 2816) :
    rowDot (xnp m c t) (iblk m c 7 t) i n = normDot (mx m c (sq i) (ps i)) (gn m c) (fun d => wu m c d n) := by
  refine (pay4_dot _ _ _ _ _ _ i n).trans ?_
  exact congr (congr (congrArg normDot (funext fun d => mx_blk m c t i d)) (funext fun d => (blk5 m c t 0 d).trans (g_at m c d)))
    (funext fun d => (blk7 m c t d n).trans (wu_at m c d n))

/-- The earlier gate rows. -/
theorem hs_blk (t : Fin cfg0.N) (i : Fin 256) (n : Fin 2816) :
    (k0_pay2 (F := Ideal) (iblk m c 3 t) (ix2 i n) : EReal)
      = hs m c ⟨i.val % 128, Nat.mod_lt _ (by decide)⟩ ⟨i.val / 128, by have := i.isLt; omega⟩ n := by
  refine Eq.trans ?_ ((blk3 m c t i n).trans (h_at m c i n))
  pointwise [k0_pay2]

/-- The gate entry `a` rows back, over each sequence. -/
theorem back_tap (t : Fin cfg0.N) (a : ℕ) (j : Fin 3) (ha : a ≤ 256) (hj : a + 128 * j.val = 256) (i : Fin 512) (n : Fin 2816) :
    back a ha (k0_pay2 (F := Ideal) (iblk m c 3 t)) (xnp m c t) (iblk m c 6 t) i n
      = tapS (fun k => hs m c (sq i) k n) (fun p => gt m c (sq i) p n) j (ps i) := by
  have hi := i.isLt
  have ep : (ps i).val = i.val / 128 := rfl
  unfold tapS
  by_cases h : i.val < a
  · rw [back_pos a ha _ _ _ i n h, hs_blk, dif_pos (by rw [ep]; omega)]
    refine congrArg₂ (fun b k => hs m c b k n) (Fin.ext ?_) (Fin.ext ?_)
    · show (i.val + 256 - a) % 128 = i.val % 128; omega
    · show (i.val + 256 - a) / 128 = i.val / 128 + j.val; omega
  · rw [back_neg a ha _ _ _ i n h, gt_blk, dif_neg (by rw [ep]; omega)]
    refine congrArg₂ (fun b p => gt m c b p n) (Fin.ext ?_) (Fin.ext ?_)
    · show (i.val - a) % 128 = i.val % 128; omega
    · show (i.val - a) / 128 = i.val / 128 + j.val - 2; omega

/-- The block's hidden entries. -/
theorem hid_blk (t : Fin cfg0.N) (i : Fin 512) (n : Fin 2816) :
    hidB (xnp m c t) (iblk m c 6 t) (iblk m c 7 t) (iblk m c 8 t) (iblk m c 9 t) (k0_pay2 (F := Ideal) (iblk m c 3 t)) i n
      = hidS (hs m c (sq i)) (mx m c (sq i)) (gn m c) (wg m c) (wu m c) (cw m c) (cb m c) (ps i) n := by
  unfold hidB hidS
  refine congrArg₂ (· * ·) (congrArg gelu ?_) (up_blk m c t i n)
  have e0 : rowDot (xnp m c t) (iblk m c 6 t) i n = tapS (fun k => hs m c (sq i) k n) (fun p => gt m c (sq i) p n) 2 (ps i) := by
    rw [gt_blk]
    unfold tapS
    rw [dif_neg (by simp only [Fin.val_two]; omega)]
    rfl
  rw [back_tap m c t 256 0 (by decide) rfl i n, back_tap m c t 128 1 (by decide) rfl i n, e0]
  refine congr (congr (congr (congr (congr (congr (congrArg conv ?_) ?_) ?_) ?_) rfl) rfl) rfl
  · exact (blk9 m c t 0 n).trans (cb_at m c n)
  · exact (blk8 m c t 0 n).trans (cw_at m c 0 n)
  · exact (blk8 m c t 1 n).trans (cw_at m c 1 n)
  · exact (blk8 m c t 2 n).trans (cw_at m c 2 n)

/-- The block's rows. -/
theorem row_blk (t : Fin cfg0.N) (i : Fin 512) (d : Fin 1024) :
    (k0_pay3 (F := Ideal) (iblk m c 1 t) (iblk m c 2 t) (iblk m c 0 t) (iblk m c 4 t) (ix2 i d) : EReal)
        + ∑ n : Fin 2816, hidB (xnp m c t) (iblk m c 6 t) (iblk m c 7 t) (iblk m c 8 t) (iblk m c 9 t) (k0_pay2 (F := Ideal) (iblk m c 3 t)) i n * iblk m c 10 t (ix2 n d)
      = outRowS (hs m c (sq i)) (mx m c (sq i)) (gn m c) (wg m c) (wu m c) (cw m c) (cb m c) (wd m c) (ps i) d := by
  unfold outRowS
  refine congrArg₂ (· + ·) (mx_blk m c t i d) (Finset.sum_congr rfl fun n _ => ?_)
  exact congrArg₂ (· * ·) (hid_blk m c t i n) ((blk10 m c t n d).trans (wd_at m c n d))

/-- The block stored, as the body leaves it. -/
theorem block_A (t : Fin cfg0.N) :
    (outsAt0 m c t).1 = out0_A_11 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) (hcond0_0 t) (iblk m c 0 t) (iblk m c 1 t) (iblk m c 2 t) (iblk m c 3 t) (iblk m c 4 t) (iblk m c 5 t) (iblk m c 6 t) (iblk m c 7 t) (iblk m c 8 t) (iblk m c 9 t) (iblk m c 10 t) := by
  simp only [outsAt0]

/-- The state stored, as the body leaves it. -/
theorem state_A (t : Fin cfg0.N) :
    (outsAt0 m c t).2 = out0_A_12 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) (hcond0_0 t) (iblk m c 0 t) (iblk m c 1 t) (iblk m c 2 t) (iblk m c 3 t) (iblk m c 4 t) (iblk m c 5 t) (iblk m c 6 t) (iblk m c 7 t) (iblk m c 8 t) (iblk m c 9 t) (iblk m c 10 t) := by
  simp only [outsAt0]

/-- The rows stored. -/
theorem block_pt (t : Fin cfg0.N) (i : Fin 512) (d : Fin 1024) :
    ((outsAt0 m c t).1 (ix2 i d) : EReal)
      = outRowS (hs m c (sq i)) (mx m c (sq i)) (gn m c) (wg m c) (wu m c) (cw m c) (cb m c) (wd m c) (ps i) d :=
  (congrFun (block_A m c t) (ix2 i d)).trans ((blockA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) (hcond0_0 t) (iblk m c 0 t) (iblk m c 1 t) (iblk m c 2 t) (iblk m c 3 t) (iblk m c 4 t) (iblk m c 5 t) (iblk m c 6 t) (iblk m c 7 t) (iblk m c 8 t) (iblk m c 9 t) (iblk m c 10 t) i d).trans (row_blk m c t i d))

/-- The state stored: the gate rows of the last two positions. -/
theorem state_pt (t : Fin cfg0.N) (i : Fin 256) (n : Fin 2816) :
    ((outsAt0 m c t).2 (ix3 0 i n) : EReal)
      = gt m c (sq ⟨256 + i.val, by have := i.isLt; omega⟩) (ps ⟨256 + i.val, by have := i.isLt; omega⟩) n :=
  ((congrFun (state_A m c t) (ix3 0 i n)).trans (stateA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) (hcond0_0 t) (iblk m c 0 t) (iblk m c 1 t) (iblk m c 2 t) (iblk m c 3 t) (iblk m c 4 t) (iblk m c 5 t) (iblk m c 6 t) (iblk m c 7 t) (iblk m c 8 t) (iblk m c 9 t) (iblk m c 10 t) i n)).trans (gt_blk m c t _ n)

/-- The rows returned. -/
def Yv : FVec Ideal S512x1024 .f32 := fun j =>
  outRowS (hs m c (sq (j 0))) (mx m c (sq (j 0))) (gn m c) (wg m c) (wu m c) (cw m c) (cb m c) (wd m c) (ps (j 0)) (j 1)

/-- The convolution's state returned. -/
def Sv : FVec Ideal S1x256x2816 .f32 := fun j =>
  gt m c ⟨(j 1).val % 128, Nat.mod_lt _ (by decide)⟩ ⟨2 + (j 1).val / 128, by have : (j 1).val < 256 := (j 1).isLt; omega⟩ (j 2)

/-- The rows' array. -/
theorem final11 (c : Dev nD) : (dats m 0 c).arrAt 11 (cfgs 0).N = Yv m c := by
  refine (dats m 0 c).arrAt_eq_of_covers 11 _ (by decide +kernel) fun t _ y => ?_
  blk_simp
  rw [after0_11]
  idx_vars y
  rw [emb11]
  exact block_pt m c t y0 y1

/-- The state's array. -/
theorem final12 (c : Dev nD) : (dats m 0 c).arrAt 12 (cfgs 0).N = Sv m c := by
  refine (dats m 0 c).arrAt_eq_of_covers 12 _ (by decide +kernel) fun t _ y => ?_
  blk_simp
  rw [after0_12]
  idx_vars y
  obtain rfl : y0 = 0 := Subsingleton.elim _ _
  rw [emb12]
  refine (state_pt m c t y1 y2).trans ?_
  have hy := y1.isLt
  refine congrArg₂ (fun b p => gt m c b p y2) (Fin.ext ?_) (Fin.ext ?_)
  · show (256 + y1.val) % 128 = y1.val % 128; omega
  · show (256 + y1.val) / 128 = 2 + y1.val / 128; omega

end Cert.PostSIdeal.Pure
-- ==== Proof.PostSRef.lean ====
/-
  The sample batch's reference of the output block, read at an index, layer by layer.
-/
module

public import proofs.«01_k».proof.Proof.PostSMath
public import proofs.«01_k».proof.Proof.Gen.PostSRefIdeal.Run

@[expose] public section

set_option maxRecDepth 16384

noncomputable section

namespace Cert.PostSRefIdeal.Pure

open Cert.PostSRefIdeal Cert.PostSRefIdeal.Gen Cert.PostSRefIdeal.Value Cert.RowNorm Cert.PostMath Idealize.ShloMosaic Idealize.ShloMosaic.TcCoe Idealize.SL.Sem

/-- The batch plus the mixed rows times the output weights. -/
def xm (a0 : FVec Ideal S128x4x1024 .f32) (a1 : FVec Ideal S128x4x512 .bf16)
    (a2 : FVec Ideal S4x128x512 .f32) (a4 : FVec Ideal S1x1024x1024 .f32) : FVec Ideal S128x4x1024 .f32 :=
  addf a0 (Host.dotGeneral dot_S128x4x1024_S1024x1024_S128x4x1024_2_0_01_1_n_n none (concatenate S128x4x1024 2 [⟨S128x4x512, (extf .f32 a1 bitsLt_bf16_f32)⟩, ⟨S128x4x512, (transpose S128x4x512 [1, 0, 2] a2 transposes_S4x128x512_S128x4x512_1_0_2)⟩] concatenates_S128x4x512_S128x4x512_S128x4x1024_d2) (shapeCast _ a4 shapeCasts_S1x1024x1024_S1024x1024))

/-- The normed rows times a matrix of the feed-forward. -/
def ff (x : FVec Ideal S128x4x1024 .f32) (a5 : FVec Ideal S1x1024 .f32) (w : FVec Ideal S1x1024x2816 .f32) :
    FVec Ideal S128x4x2816 .f32 :=
  Host.dotGeneral dot_S128x4x1024_S1024x2816_S128x4x2816_2_0_01_1_n_n none (mulf (mulf x (broadcastInDim S128x4x1024 ![0, 1, 2] bcast_S128x4x1_S128x4x1024_0_1_2 (Host.rsqrt (addf (Host.divf (broadcastInDim S128x4x1 ![0, 1] bcast_S128x4_S128x4x1_0_1 (Host.reduceAdd (mulf x x) (constant S_ .f32 0x00000000#32) reducesTo_S128x4x1024_S128x4_d2 h_S_)) (broadcastInDim S128x4x1 ![] bcast_S_S128x4x1 (constant S_ .f32 0x44800000#32))) (broadcastInDim S128x4x1 ![] bcast_S_S128x4x1 (constant S_ .f32 0x358637BD#32)))))) (broadcastInDim S128x4x1024 ![0, 1, 2] bcast_S1x1x1024_S128x4x1024_0_1_2 (broadcastInDim S1x1x1024 ![2] bcast_S1024_S1x1x1024_2 (shapeCast _ a5 shapeCasts_S1x1024_S1024)))) (shapeCast _ w shapeCasts_S1x1024x2816_S1024x2816)

/-- The two earlier gates of each sequence in front of its gates. -/
def padded (a3 : FVec Ideal S1x128x2x2816 .f32) (g : FVec Ideal S128x4x2816 .f32) : FVec Ideal S128x6x2816 .f32 :=
  concatenate S128x6x2816 1 [⟨S128x2x2816, (shapeCast _ a3 shapeCasts_S1x128x2x2816_S128x2x2816)⟩, ⟨S128x4x2816, g⟩] concatenates_S128x2x2816_S128x4x2816_S128x6x2816_d1

/-- The convolution along the positions. -/
def cv (p : FVec Ideal S128x6x2816 .f32) (a8 : FVec Ideal S1x3x2816 .f32) (a9 : FVec Ideal S1x2816 .f32) :
    FVec Ideal S128x4x2816 .f32 :=
  addf (broadcastInDim S128x4x2816 ![0, 1, 2] bcast_S1x1x2816_S128x4x2816_0_1_2 (broadcastInDim S1x1x2816 ![2] bcast_S2816_S1x1x2816_2 (shapeCast _ a9 shapeCasts_S1x2816_S2816))) (addf (addf (addf (broadcastInDim S128x4x2816 ![] bcast_S_S128x4x2816 (constant S_ .f32 0x00000000#32)) (mulf (broadcastInDim S128x4x2816 ![0, 1, 2] bcast_S1x1x2816_S128x4x2816_0_1_2 (broadcastInDim S1x1x2816 ![2] bcast_S2816_S1x1x2816_2 (shapeCast _ (extractStridedSlice S1x2816 ![0, 0] (shapeCast _ a8 shapeCasts_S1x3x2816_S3x2816) slices_S3x2816_S1x2816_0_0) shapeCasts_S1x2816_S2816))) (extractStridedSlice S128x4x2816 ![0, 0, 0] p slices_S128x6x2816_S128x4x2816_0_0_0))) (mulf (broadcastInDim S128x4x2816 ![0, 1, 2] bcast_S1x1x2816_S128x4x2816_0_1_2 (broadcastInDim S1x1x2816 ![2] bcast_S2816_S1x1x2816_2 (shapeCast _ (extractStridedSlice S1x2816 ![1, 0] (shapeCast _ a8 shapeCasts_S1x3x2816_S3x2816) slices_S3x2816_S1x2816_1_0) shapeCasts_S1x2816_S2816))) (extractStridedSlice S128x4x2816 ![0, 1, 0] p slices_S128x6x2816_S128x4x2816_0_1_0))) (mulf (broadcastInDim S128x4x2816 ![0, 1, 2] bcast_S1x1x2816_S128x4x2816_0_1_2 (broadcastInDim S1x1x2816 ![2] bcast_S2816_S1x1x2816_2 (shapeCast _ (extractStridedSlice S1x2816 ![2, 0] (shapeCast _ a8 shapeCasts_S1x3x2816_S3x2816) slices_S3x2816_S1x2816_2_0) shapeCasts_S1x2816_S2816))) (extractStridedSlice S128x4x2816 ![0, 2, 0] p slices_S128x6x2816_S128x4x2816_0_2_0)))

/-- The activated convolution times the up branch. -/
def act (v u : FVec Ideal S128x4x2816 .f32) : FVec Ideal S128x4x2816 .f32 :=
  mulf (mulf v (mulf (broadcastInDim S128x4x2816 ![] bcast_S_S128x4x2816 (constant S_ .f32 0x3F000000#32)) (addf (broadcastInDim S128x4x2816 ![] bcast_S_S128x4x2816 (constant S_ .f32 0x3F800000#32)) (Host.tanh (mulf (broadcastInDim S128x4x2816 ![] bcast_S_S128x4x2816 (constant S_ .f32 0x3F4C422A#32)) (addf v (mulf (broadcastInDim S128x4x2816 ![] bcast_S_S128x4x2816 (constant S_ .f32 0x3D372713#32)) (mulf (mulf v v) v)))))))) u

/-- The rows plus the feed-forward's result, laid out by time. -/
def out (x : FVec Ideal S128x4x1024 .f32) (h : FVec Ideal S128x4x2816 .f32) (a10 : FVec Ideal S1x2816x1024 .f32) :
    FVec Ideal S512x1024 .f32 :=
  shapeCast _ (transpose S4x128x1024 [1, 0, 2] (addf x (Host.dotGeneral dot_S128x4x2816_S2816x1024_S128x4x1024_2_0_01_1_n_n none h (shapeCast _ a10 shapeCasts_S1x2816x1024_S2816x1024))) transposes_S128x4x1024_S4x128x1024_1_0_2) shapeCasts_S4x128x1024_S512x1024

/-- One entry of the mixed rows. -/
theorem xm_at (a0 : FVec Ideal S128x4x1024 .f32) (a1 : FVec Ideal S128x4x512 .bf16)
    (a2 : FVec Ideal S4x128x512 .f32) (a4 : FVec Ideal S1x1024x1024 .f32) (b : Fin 128) (t : Fin 4) (d : Fin 1024) :
    (xm a0 a1 a2 a4 (ix3 b t d) : EReal)
      = mixed (fun d => a0 (ix3 b t d)) (mixRow (fun k => a1 (ix3 b t k)) (fun k => a2 (ix3 t b k))) (fun k d => a4 (ix3 0 k d)) d := by
  pointwise [xm, mixed, mixRow]

/-- One entry of a branch of the feed-forward. -/
theorem ff_at (x : FVec Ideal S128x4x1024 .f32) (a5 : FVec Ideal S1x1024 .f32) (w : FVec Ideal S1x1024x2816 .f32)
    (b : Fin 128) (t : Fin 4) (n : Fin 2816) :
    (ff x a5 w (ix3 b t n) : EReal)
      = normDot (fun d => x (ix3 b t d)) (fun d => a5 (ix2 0 d)) (fun d => w (ix3 0 d n)) := by
  pointwise [ff, normDot, rowScale]

/-- The padded gates, three positions at a time. -/
theorem padded_at (a3 : FVec Ideal S1x128x2x2816 .f32) (g : FVec Ideal S128x4x2816 .f32) (b : Fin 128) (t : Fin 4) (j : Fin 3) (n : Fin 2816)
    (s : Fin 6) (hs : s.val = t.val + j.val) :
    (padded a3 g (ix3 b s n) : EReal) = tapS (fun i => a3 (ix4 0 b i n)) (fun t => g (ix3 b t n)) j t := by
  pointwise [padded, tapS]
  have hj := j.isLt
  have ht := t.isLt
  by_cases h : s.val < 2
  · rw [dif_pos h, dif_pos (by omega)]
    simp only [hs]
  · rw [dif_neg h, dif_neg (by omega)]
    simp only [hs]

/-- One entry of the convolution. -/
theorem cv_at (p : FVec Ideal S128x6x2816 .f32) (a8 : FVec Ideal S1x3x2816 .f32) (a9 : FVec Ideal S1x2816 .f32)
    (b : Fin 128) (t : Fin 4) (n : Fin 2816) :
    (cv p a8 a9 (ix3 b t n) : EReal)
      = conv (a9 (ix2 0 n)) (a8 (ix3 0 0 n)) (a8 (ix3 0 1 n)) (a8 (ix3 0 2 n))
          (p (ix3 b ⟨t.val, by omega⟩ n)) (p (ix3 b ⟨t.val + 1, by omega⟩ n)) (p (ix3 b ⟨t.val + 2, by omega⟩ n)) := by
  pointwise [cv, conv]
  simp only [Nat.add_comm 1, Nat.add_comm 2, add_assoc]

/-- One activated entry. -/
theorem act_at (v u : FVec Ideal S128x4x2816 .f32) (i : S128x4x2816.Idx) :
    (act v u i : EReal) = gelu (v i) * u i := by
  pointwise [act, gelu]
  rw [mul_comm (v i * v i) (v i)]

/-- One entry of the result. -/
theorem out_at (x : FVec Ideal S128x4x1024 .f32) (h : FVec Ideal S128x4x2816 .f32) (a10 : FVec Ideal S1x2816x1024 .f32)
    (r : Fin 512) (d : Fin 1024) :
    (out x h a10 (ix2 r d) : EReal)
      = x (ix3 ⟨r.val % 128, by omega⟩ ⟨r.val / 128, by omega⟩ d)
        + ∑ n : Fin 2816, h (ix3 ⟨r.val % 128, by omega⟩ ⟨r.val / 128, by omega⟩ n) * a10 (ix3 0 n d) := by
  pointwise [out]

variable (m : (ℓ : Loc nD τ sig) → Buf (Elt Ideal) ℓ) (c : Dev nD)

/-- The rows the reference mixes. -/
def Xm : FVec Ideal S128x4x1024 .f32 :=
  xm (m ((c.tc : Thread nD τ).loc main_arg0)) (m ((c.tc : Thread nD τ).loc main_arg1)) (m ((c.tc : Thread nD τ).loc main_arg2)) (m ((c.tc : Thread nD τ).loc main_arg4))

/-- The padded gates of the reference. -/
def Pd : FVec Ideal S128x6x2816 .f32 :=
  padded (m ((c.tc : Thread nD τ).loc main_arg3)) (ff (Xm m c) (m ((c.tc : Thread nD τ).loc main_arg5)) (m ((c.tc : Thread nD τ).loc main_arg6)))

/-- The rows the reference returns. -/
theorem y_eq : res_main_v73 m c = out (Xm m c) (act (cv (Pd m c) (m ((c.tc : Thread nD τ).loc main_arg8)) (m ((c.tc : Thread nD τ).loc main_arg9)))
      (ff (Xm m c) (m ((c.tc : Thread nD τ).loc main_arg5)) (m ((c.tc : Thread nD τ).loc main_arg7)))) (m ((c.tc : Thread nD τ).loc main_arg10)) := by
  unfold res_main_v73 out act cv Pd padded ff Xm xm; rfl

/-- The convolution's state the reference returns. -/
def St : FVec Ideal S1x256x2816 .f32 :=
  shapeCast _ (transpose S2x128x2816 [1, 0, 2] (extractStridedSlice S128x2x2816 ![0, 4, 0] (Pd m c) slices_S128x6x2816_S128x2x2816_0_4_0) transposes_S128x2x2816_S2x128x2816_1_0_2) shapeCasts_S2x128x2816_S1x256x2816

/-- The reference's run, its results over the layered terms. -/
theorem run' (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v73) = out (Xm m c) (act (cv (Pd m c) (m ((c.tc : Thread nD τ).loc main_arg8)) (m ((c.tc : Thread nD τ).loc main_arg9)))
          (ff (Xm m c) (m ((c.tc : Thread nD τ).loc main_arg5)) (m ((c.tc : Thread nD τ).loc main_arg7)))) (m ((c.tc : Thread nD τ).loc main_arg10))
      ∧ r.2.mem ((c.tc : Thread nD τ).loc main_v76) = St m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
    := by
  refine (θ_run defs _ _).mono (fun r h c => ?_) (run m ρ)
  obtain ⟨h0, h1, ha⟩ := h c
  exact ⟨h0.trans (y_eq m c), h1.trans (by unfold St Pd padded ff Xm xm; rfl), ha⟩

/-- One entry of the padded gates, over the mixed rows. -/
theorem Pd_at (b : Fin 128) (t : Fin 4) (j : Fin 3) (n : Fin 2816) (s : Fin 6) (hs : s.val = t.val + j.val) :
    (Pd m c (ix3 b s n) : EReal)
      = tapS (fun i => m ((c.tc : Thread nD τ).loc main_arg3) (ix4 0 b i n))
          (fun t => normDot (fun d => Xm m c (ix3 b t d)) (fun d => m ((c.tc : Thread nD τ).loc main_arg5) (ix2 0 d))
          (fun d => m ((c.tc : Thread nD τ).loc main_arg6) (ix3 0 d n))) j t := by
  unfold Pd
  rw [padded_at _ _ b t j n s hs]
  exact congrArg (fun f => tapS _ f j t) (funext fun t => ff_at _ _ _ b t n)

/-- One entry of the state: the gate at one of the last two positions. -/
theorem St_at (z : Fin 1) (i : Fin 256) (n : Fin 2816) :
    (St m c (ix3 z i n) : EReal)
      = normDot (fun d => Xm m c (ix3 ⟨i.val % 128, by omega⟩ ⟨2 + i.val / 128, by omega⟩ d)) (fun d => m ((c.tc : Thread nD τ).loc main_arg5) (ix2 0 d))
          (fun d => m ((c.tc : Thread nD τ).loc main_arg6) (ix3 0 d n)) := by
  obtain rfl : z = 0 := Subsingleton.elim _ _
  have e : (St m c (ix3 0 i n) : EReal) = Pd m c (ix3 ⟨i.val % 128, by omega⟩ ⟨4 + i.val / 128, by omega⟩ n) := by
    unfold St
    generalize Pd m c = p
    pointwise
  rw [e, Pd_at m c _ ⟨2 + i.val / 128, by omega⟩ 2 n _ (by simp only [Fin.val_two]; omega)]
  unfold tapS
  rw [dif_neg (by simp only [Fin.val_two]; omega)]
  simp only [Fin.val_two, Nat.add_sub_cancel]

/-- One entry of the returned rows. -/
theorem Y_at (r : Fin 512) (d : Fin 1024) :
    (out (Xm m c) (act (cv (Pd m c) (m ((c.tc : Thread nD τ).loc main_arg8)) (m ((c.tc : Thread nD τ).loc main_arg9)))
          (ff (Xm m c) (m ((c.tc : Thread nD τ).loc main_arg5)) (m ((c.tc : Thread nD τ).loc main_arg7)))) (m ((c.tc : Thread nD τ).loc main_arg10)) (ix2 r d) : EReal)
      = outRowS (fun i n => m ((c.tc : Thread nD τ).loc main_arg3) (ix4 0 ⟨r.val % 128, by omega⟩ i n)) (fun t d => Xm m c (ix3 ⟨r.val % 128, by omega⟩ t d)) (fun d => m ((c.tc : Thread nD τ).loc main_arg5) (ix2 0 d))
          (fun d n => m ((c.tc : Thread nD τ).loc main_arg6) (ix3 0 d n)) (fun d n => m ((c.tc : Thread nD τ).loc main_arg7) (ix3 0 d n))
          (fun j n => m ((c.tc : Thread nD τ).loc main_arg8) (ix3 0 j n)) (fun n => m ((c.tc : Thread nD τ).loc main_arg9) (ix2 0 n))
          (fun n d => m ((c.tc : Thread nD τ).loc main_arg10) (ix3 0 n d)) ⟨r.val / 128, by omega⟩ d := by
  refine (out_at _ _ _ r d).trans ?_
  unfold outRowS hidS
  refine congrArg (_ + ·) (Finset.sum_congr rfl fun n _ => congrArg (· * _) ?_)
  refine (act_at _ _ _).trans (congrArg₂ (· * ·) (congrArg gelu ?_) (ff_at _ _ _ _ _ n))
  refine (cv_at _ _ _ _ _ n).trans ?_
  rw [Pd_at m c _ ⟨r.val / 128, by omega⟩ 0 n _ rfl, Pd_at m c _ ⟨r.val / 128, by omega⟩ 1 n _ rfl, Pd_at m c _ ⟨r.val / 128, by omega⟩ 2 n _ rfl]

end Cert.PostSRefIdeal.Pure
-- ==== Proof.PostSClaim.lean ====
/-
  The sample batch's output call against its reference.
-/
module

public import proofs.«01_k».proof.Defs
public import proofs.«01_k».proof.Proof.PostSValue
public import proofs.«01_k».proof.Proof.PostSRef
public import Idealize.ShloMosaic.Lib.Claim

@[expose] public section

set_option maxRecDepth 16384

noncomputable section

namespace Cert.PostSPair

open Cert.RowNorm Cert.PostMath Idealize.ShloMosaic Idealize.ShloMosaic.TcCoe Idealize.SL.Sem

variable (m : (ℓ : Loc Cert.PostSIdeal.nD Cert.PostSIdeal.τ Cert.PostSIdeal.sig) → Buf (Elt Ideal) ℓ) (c : Dev Cert.PostSIdeal.nD)

/-- The reference leaves its arguments alone and stops. -/
theorem refFrame : Cert.quiescent_PostSRefIdeal := by
  intro m ρ _
  refine (θ_run Cert.PostSRefIdeal.defs _ _).mono (fun r h => ⟨fun c => ?_, sem_eq_zero_of_no_sems (by decide) r.2⟩)
    (Cert.PostSRefIdeal.Pure.run' m ρ)
  obtain ⟨_, _, ha⟩ := h c
  exact ha

variable (m' : (ℓ : Loc Cert.PostSRefIdeal.nD Cert.PostSRefIdeal.τ Cert.PostSRefIdeal.sig) → Buf (Elt Ideal) ℓ)

/-- The mixed rows of the two programs agree where their arguments do. -/
theorem mixed_row
    (a0 : m' ((c.tc : Thread Cert.PostSRefIdeal.nD Cert.PostSRefIdeal.τ).loc Cert.PostSRefIdeal.main_arg0) = m ((c.tc : Thread Cert.PostSIdeal.nD Cert.PostSIdeal.τ).loc Cert.PostSIdeal.main_arg0))
    (a1 : m' ((c.tc : Thread Cert.PostSRefIdeal.nD Cert.PostSRefIdeal.τ).loc Cert.PostSRefIdeal.main_arg1) = m ((c.tc : Thread Cert.PostSIdeal.nD Cert.PostSIdeal.τ).loc Cert.PostSIdeal.main_arg1))
    (a2 : m' ((c.tc : Thread Cert.PostSRefIdeal.nD Cert.PostSRefIdeal.τ).loc Cert.PostSRefIdeal.main_arg2) = m ((c.tc : Thread Cert.PostSIdeal.nD Cert.PostSIdeal.τ).loc Cert.PostSIdeal.main_arg2))
    (a4 : m' ((c.tc : Thread Cert.PostSRefIdeal.nD Cert.PostSRefIdeal.τ).loc Cert.PostSRefIdeal.main_arg4) = m ((c.tc : Thread Cert.PostSIdeal.nD Cert.PostSIdeal.τ).loc Cert.PostSIdeal.main_arg4))
    (b : Fin 128) (t : Fin 4) :
    (fun d => Cert.PostSRefIdeal.Pure.Xm m' c (ix3 b t d)) = Cert.PostSIdeal.Pure.mx m c b t := by
  funext d
  unfold Cert.PostSRefIdeal.Pure.Xm
  rw [a0, a1, a2, a4]
  exact Cert.PostSRefIdeal.Pure.xm_at _ _ _ _ b t d

/-- Over the same arguments the two programs return the same rows and the same state. -/
theorem algebraic : Cert.algebraic_PostSIdeal_PostSRefIdeal := by
  intro m g m' g' hpre hagree
  refine ⟨fun c => Cert.PostSIdeal.Pure.Yv m c, fun c => Cert.PostSIdeal.Pure.Sv m c, ?_, ?_⟩
  · refine (θ_run Cert.PostSIdeal.defs _ _).mono (fun r h c => ?_) (Cert.PostSIdeal.Value.run_blocks m g)
    obtain ⟨h0, h1, ha⟩ := h c
    exact ⟨h0.trans (Cert.PostSIdeal.Pure.final11 m c), h1.trans (Cert.PostSIdeal.Pure.final12 m c), ha⟩
  · refine (θ_run Cert.PostSRefIdeal.defs _ _).mono (fun r h c => ?_) (Cert.PostSRefIdeal.Pure.run' m' g')
    obtain ⟨h0, h1, ha⟩ := h c
    obtain ⟨a0, a1, a2, a3, a4, a5, a6, a7, a8, a9, a10⟩ := hagree c
    have hx := fun b t => mixed_row m c m' a0 a1 a2 a4 b t
    refine ⟨h0.trans ?_, h1.trans ?_, ha⟩
    · funext i
      idx_vars i
      refine (Cert.PostSRefIdeal.Pure.Y_at m' c i0 i1).trans ?_
      have hb : ∀ b, (fun t d => Cert.PostSRefIdeal.Pure.Xm m' c (ix3 b t d)) = Cert.PostSIdeal.Pure.mx m c b := fun b => funext fun t => hx b t
      rw [hb, a3, a5, a6, a7, a8, a9, a10]
      rfl
    · funext i
      idx_vars i
      refine (Cert.PostSRefIdeal.Pure.St_at m' c i0 i1 i2).trans ?_
      rw [hx, a5, a6]
      rfl

end Cert.PostSPair
-- ==== Proof.SsmSMath.lean ====
/-
  The recurrence of one state entry over the four sampled positions.
-/
module

public import proofs.«01_k».proof.Proof.RowNorm

@[expose] public section

noncomputable section

namespace Cert.SsmMath

/-- One step of a complex state: the state times `a + i b`, plus `x + i y`. -/
def adv (a b : EReal) (r : EReal × EReal) (x y : EReal) : EReal × EReal :=
  (a * r.1 - b * r.2 + x, a * r.2 + b * r.1 + y)

/-- Four steps of a complex state. -/
def four (a b : EReal) (r : EReal × EReal) (x y : Fin 4 → EReal) : EReal × EReal :=
  adv a b (adv a b (adv a b (adv a b r (x 0) (y 0)) (x 1) (y 1)) (x 2) (y 2)) (x 3) (y 3)

/-- A value where two numbers agree, zero elsewhere. -/
def keep (x : EReal) (a b : ℕ) : EReal := x * (if a = b then 1 else 0)

/-- Where the numbers agree, the value itself. -/
theorem keep_same (x : EReal) (a : ℕ) : keep x a a = x := by unfold keep; rw [if_pos rfl, mul_one]

/-- Where the numbers differ, zero. -/
theorem keep_other (x : EReal) (a b : ℕ) (h : a ≠ b) : keep x a b = 0 := by unfold keep; rw [if_neg h, mul_zero]

/-- A sum over the entries of eight blocks of sixteen, all but one block zero, is the sum over that block. -/
theorem sum_block (f : Fin 128 → EReal) (g : Fin 8) (h : ∀ k : Fin 128, k.val / 16 ≠ g.val → f k = 0) :
    ∑ k : Fin 128, f k = ∑ c : Fin 16, f ⟨g.val * 16 + c.val, by omega⟩ := by
  symm
  refine Finset.sum_of_injOn (fun c : Fin 16 => (⟨g.val * 16 + c.val, by omega⟩ : Fin 128)) ?_ ?_ ?_ ?_
  · intro a _ b _ hab
    have := congrArg Fin.val hab
    simp only at this
    exact Fin.ext (by omega)
  · intro a _; exact Finset.mem_coe.mpr (Finset.mem_univ _)
  · intro k _ hk
    refine h k fun e => hk ⟨⟨k.val % 16, Nat.mod_lt _ (by decide)⟩, Finset.mem_coe.mpr (Finset.mem_univ _), Fin.ext ?_⟩
    show g.val * 16 + k.val % 16 = k.val
    omega
  · intro a _; rfl

end Cert.SsmMath
-- ==== Proof.SsmSHost.lean ====
/-
  The operands of the sample batch's recurrence as the host code prepares them, and the blocks its windows hold.
-/
module

public import proofs.«01_k».proof.Proof.SsmSMath
public import proofs.«01_k».proof.Proof.Gen.SsmSIdeal.Value
public import Idealize.ShloMosaic.Lib.Pipeline.ValueKit

@[expose] public section

set_option maxRecDepth 16384

noncomputable section

namespace Cert.SsmSIdeal.Pure

open Cert.SsmSIdeal Cert.SsmSIdeal.Gen Cert.SsmMath Idealize.ShloMosaic Idealize.ShloMosaic.TcCoe Idealize.SL.Sem

variable (m : (ℓ : Loc nD τ sig) → Buf (Elt Ideal) ℓ) (c : Dev nD)

/-- The recurrence's inputs, by position and sequence. -/
theorem u_at (t : Fin 4) (b : Fin 128) (k : Fin 512) : ((V m c main_v58 : FVec Ideal S4x128x512 .f32) (ix3 t b k) : EReal)
    = m ((c.tc : Thread nD τ).loc main_arg0) (ix2 ⟨t.val * 128 + b.val, by omega⟩ k) := by
  simp only [V, hostOps0, List.flatten_cons, List.flatten_nil, List.append_nil, List.cons_append, List.nil_append]
  after_results
  pointwise

/-- The real part of the state given. -/
theorem h0_at (b : Fin 128) (n : Fin 2048) : ((V m c main_v60 : FVec Ideal S128x2048 .f32) (ix2 b n) : EReal)
    = m ((c.tc : Thread nD τ).loc main_arg1) (ix4 0 b ⟨n.val / 64, by omega⟩ ⟨n.val % 64, by omega⟩) := by
  simp only [V, hostOps0, List.flatten_cons, List.flatten_nil, List.append_nil, List.cons_append, List.nil_append]
  after_results
  pointwise

/-- The imaginary part of the state given. -/
theorem h1_at (b : Fin 128) (n : Fin 2048) : ((V m c main_v62 : FVec Ideal S128x2048 .f32) (ix2 b n) : EReal)
    = m ((c.tc : Thread nD τ).loc main_arg2) (ix4 0 b ⟨n.val / 64, by omega⟩ ⟨n.val % 64, by omega⟩) := by
  simp only [V, hostOps0, List.flatten_cons, List.flatten_nil, List.append_nil, List.cons_append, List.nil_append]
  after_results
  pointwise

/-- The real part of the coefficients. -/
theorem a_at (n : Fin 2048) : ((V m c main_v12 : FVec Ideal S1x2048 .f32) (ix2 0 n) : EReal)
    = m ((c.tc : Thread nD τ).loc main_arg3) (ix2 ⟨n.val / 64, by omega⟩ ⟨n.val % 64, by omega⟩) := by
  simp only [V, hostOps0, List.flatten_cons, List.flatten_nil, List.append_nil, List.cons_append, List.nil_append]
  after_results
  pointwise

/-- The imaginary part of the coefficients. -/
theorem b_at (n : Fin 2048) : ((V m c main_v13 : FVec Ideal S1x2048 .f32) (ix2 0 n) : EReal)
    = m ((c.tc : Thread nD τ).loc main_arg4) (ix2 ⟨n.val / 64, by omega⟩ ⟨n.val % 64, by omega⟩) := by
  simp only [V, hostOps0, List.flatten_cons, List.flatten_nil, List.append_nil, List.cons_append, List.nil_append]
  after_results
  pointwise

/-- Whether two numbers below eight agree, as a number. -/
theorem same_at (a b : ℕ) (ha : a < 8) (hb : b < 8) :
    (FloatOps.uitofp (F := Ideal) FTy.f32 (IntOp.cmpi CmpIPredicate.eq (IntOp.addi (BitVec.ofNat 32 a) 0#32) (BitVec.ofNat 32 b)) : EReal)
      = if a = b then 1 else 0 := by
  have h : ∀ a b : Fin 8, IntOp.cmpi CmpIPredicate.eq (IntOp.addi (BitVec.ofNat 32 a.val) 0#32) (BitVec.ofNat 32 b.val)
      = if a.val = b.val then 1#1 else 0#1 := by decide +kernel
  rw [h ⟨a, ha⟩ ⟨b, hb⟩]
  have e : ∀ x : BitVec 1, (FloatOps.uitofp (F := Ideal) FTy.f32 x : EReal) = ((x.toNat : ℝ) : EReal) := fun x => rfl
  rw [e]
  by_cases hab : a = b
  · simp [hab]
  · simp [hab]

/-- The real input matrices, eight groups in each block. -/
theorem br_at (q : Fin 4) (k : Fin 128) (n : Fin 512) : ((V m c main_v22 : FVec Ideal S4x128x512 .bf16) (ix3 q k n) : EReal)
    = keep (m ((c.tc : Thread nD τ).loc main_arg5) (ix3 ⟨k.val % 16, by omega⟩ ⟨q.val * 8 + k.val / 16, by omega⟩ ⟨n.val % 64, by omega⟩)) (k.val / 16) (n.val / 64) := by
  simp only [V, hostOps0, List.flatten_cons, List.flatten_nil, List.append_nil, List.cons_append, List.nil_append]
  after_results
  unfold keep
  rw [← same_at (k.val / 16) (n.val / 64) (by omega) (by omega)]
  pointwise

/-- The imaginary input matrices, eight groups in each block. -/
theorem bi_at (q : Fin 4) (k : Fin 128) (n : Fin 512) : ((V m c main_v31 : FVec Ideal S4x128x512 .bf16) (ix3 q k n) : EReal)
    = keep (m ((c.tc : Thread nD τ).loc main_arg6) (ix3 ⟨k.val % 16, by omega⟩ ⟨q.val * 8 + k.val / 16, by omega⟩ ⟨n.val % 64, by omega⟩)) (k.val / 16) (n.val / 64) := by
  simp only [V, hostOps0, List.flatten_cons, List.flatten_nil, List.append_nil, List.cons_append, List.nil_append]
  after_results
  unfold keep
  rw [← same_at (k.val / 16) (n.val / 64) (by omega) (by omega)]
  pointwise

/-- The one grid point reads each array whole. -/
theorem idx : ∀ t : Fin cfg0.N, win0_0.index t = ![0, 0, 0] ∧ win0_1.index t = ![0, 0] ∧ win0_2.index t = ![0, 0]
    ∧ win0_3.index t = ![0, 0] ∧ win0_4.index t = ![0, 0] ∧ win0_5.index t = ![0, 0, 0] ∧ win0_6.index t = ![0, 0, 0]
    ∧ win0_13.index t = ![0, 0] ∧ win0_14.index t = ![0, 0] :=
  (by decide +kernel : ∀ t : Fin grid0.N, _)

theorem blk0 (t : Fin cfg0.N) (i : Fin 4) (j : Fin 128) (k : Fin 512) : iblk m c 0 t (ix3 i j k) = V m c main_v58 (ix3 i j k) := by
  blk_ext [iblk, idx t]
theorem blk1 (t : Fin cfg0.N) (i : Fin 128) (j : Fin 2048) : iblk m c 1 t (ix2 i j) = V m c main_v60 (ix2 i j) := by
  blk_ext [iblk, idx t]
theorem blk2 (t : Fin cfg0.N) (i : Fin 128) (j : Fin 2048) : iblk m c 2 t (ix2 i j) = V m c main_v62 (ix2 i j) := by
  blk_ext [iblk, idx t]
theorem blk3 (t : Fin cfg0.N) (i : Fin 1) (j : Fin 2048) : iblk m c 3 t (ix2 i j) = V m c main_v12 (ix2 i j) := by
  blk_ext [iblk, idx t]
theorem blk4 (t : Fin cfg0.N) (i : Fin 1) (j : Fin 2048) : iblk m c 4 t (ix2 i j) = V m c main_v13 (ix2 i j) := by
  blk_ext [iblk, idx t]
theorem blk5 (t : Fin cfg0.N) (i : Fin 4) (j : Fin 128) (k : Fin 512) : iblk m c 5 t (ix3 i j k) = V m c main_v22 (ix3 i j k) := by
  blk_ext [iblk, idx t]
theorem blk6 (t : Fin cfg0.N) (i : Fin 4) (j : Fin 128) (k : Fin 512) : iblk m c 6 t (ix3 i j k) = V m c main_v31 (ix3 i j k) := by
  blk_ext [iblk, idx t]
theorem emb13 (t : Fin cfg0.N) (y0 : Fin 128) (y1 : Fin 2048) :
    ((View.whole main_v63_1).slice (win0_13.rect t)).emb (ix2 y0 y1) = (ix2 y0 y1 : S128x2048.Idx) := by
  blk_ext [idx t]
theorem emb14 (t : Fin cfg0.N) (y0 : Fin 128) (y1 : Fin 2048) :
    ((View.whole main_v63_2).slice (win0_14.rect t)).emb (ix2 y0 y1) = (ix2 y0 y1 : S128x2048.Idx) := by
  blk_ext [idx t]

end Cert.SsmSIdeal.Pure
-- ==== Proof.SsmSLoop.lean ====
/-
  The loop of the recurrence: what it carries after its four trips.
-/
module

public import proofs.«01_k».proof.Proof.SsmSMath
public import proofs.«01_k».proof.Proof.Gen.SsmSIdeal.Frame
public import Idealize.ShloMosaic.Lib.Pipeline.ValueKit
public import Idealize.ShloMosaic.Lib.WritesUnit

@[expose] public section

set_option maxRecDepth 16384

noncomputable section

namespace Cert.SsmSIdeal.Pure

open Cert.SsmSIdeal Cert.SsmSIdeal.Gen Cert.SsmMath Idealize.ShloMosaic Idealize.ShloMosaic.TcCoe Idealize.SL.Sem

/-- The rows a trip works on. -/
theorem off_eq : ∀ k : Fin k0_t1_loop.trips, k0_off1 k = ![128 * k.val, 0] := by decide +kernel

/-- The loop makes four trips. -/
theorem trips_eq : k0_t1_loop.trips = 4 := by decide +kernel

/-- One entry of the real part a trip yields. -/
theorem p24_at (a b : Vec Ideal S1x2048 .f32) (h g x : FVec Ideal S128x2048 .f32) (s : Fin 128) (n : Fin 2048) :
    (k0_pay24 a b h g x (ix2 s n) : EReal) = a (ix2 0 n) * h (ix2 s n) - b (ix2 0 n) * g (ix2 s n) + x (ix2 s n) := by
  pointwise [k0_pay24, k0_pay20, k0_pay21]

/-- One entry of the imaginary part a trip yields. -/
theorem p25_at (a b : Vec Ideal S1x2048 .f32) (h g x : FVec Ideal S128x2048 .f32) (s : Fin 128) (n : Fin 2048) :
    (k0_pay25 a b h g x (ix2 s n) : EReal) = a (ix2 0 n) * g (ix2 s n) + b (ix2 0 n) * h (ix2 s n) + x (ix2 s n) := by
  pointwise [k0_pay25, k0_pay20, k0_pay21]

/-- One entry of a trip's rows. -/
theorem rows_at (X : S512x2048.Idx → Elt Ideal .f32) (k : Fin k0_t1_loop.trips) (inb) (s : Fin 128) (n : Fin 2048) (r : Fin 512) (hr : r.val = 128 * k.val + s.val) :
    View.ld (Val := Elt Ideal) X (Rect.unit (s := S512x2048) (k0_off1 k) ![128, 2048] inb) (ix2 s n) = X (ix2 r n) := by
  refine View.ld_unit_apply_of X _ _ inb _ _ fun a => ?_
  refine Eq.trans ?_ (congrArg (fun z => z + _) (congrFun (off_eq k) a).symm)
  match a with
  | 0 => exact hr
  | 1 => exact (Nat.zero_add _).symm

/-- The real part a trip yields. -/
theorem trip_re  (𝒱 : Variants) (c : Dev nD) (bd : Option 𝒱.V) (i : grid0.Coords) (arg1 : Memref sig .tc .vmem S4x128x512 .f32) (harg1 : arg1.IsWhole) (arg2 : Memref sig .tc .vmem S128x2048 .f32) (harg2 : arg2.IsWhole) (arg3 : Memref sig .tc .vmem S128x2048 .f32) (harg3 : arg3.IsWhole) (arg4 : Memref sig .tc .vmem S1x2048 .f32) (harg4 : arg4.IsWhole) (arg5 : Memref sig .tc .vmem S1x2048 .f32) (harg5 : arg5.IsWhole) (arg6 : Memref sig .tc .vmem S4x128x512 .bf16) (harg6 : arg6.IsWhole) (arg7 : Memref sig .tc .vmem S4x128x512 .bf16) (harg7 : arg7.IsWhole) (arg8 : Memref sig .tc .vmem S2x1024x256 .bf16) (harg8 : arg8.IsWhole) (arg9 : Memref sig .tc .vmem S2x1024x256 .bf16) (harg9 : arg9.IsWhole) (arg10 : Memref sig .tc .vmem S1x512 .f32) (harg10 : arg10.IsWhole) (arg11 : Memref sig .tc .vmem S512x512 .bf16) (harg11 : arg11.IsWhole) (arg12 : Memref sig .tc .vmem S1x512 .f32) (harg12 : arg12.IsWhole) (arg13 : Memref sig .tc .vmem S4x128x512 .f32) (harg13 : arg13.IsWhole) (arg14 : Memref sig .tc .vmem S128x2048 .f32) (harg14 : arg14.IsWhole) (arg15 : Memref sig .tc .vmem S128x2048 .f32) (harg15 : arg15.IsWhole) (arg16 : Memref sig .tc .vmem S512x2048 .f32) (harg16 : arg16.IsWhole) (arg17 : Memref sig .tc .vmem S512x2048 .f32) (harg17 : arg17.IsWhole) (v55 : FVec Ideal S512x512 .f32) (v59 : Vec Ideal S1x2048 .f32) (v63 : Vec Ideal S1x2048 .f32) (k : Fin k0_t1_loop.trips)  (acc : FVec Ideal S128x2048 .f32 × FVec Ideal S128x2048 .f32) (f g) (s : Fin 128) (n : Fin 2048) (r : Fin 512) (hr : r.val = 128 * k.val + s.val) :
    ((tripR_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v55 v59 v63 k acc f g).1 (ix2 s n) : EReal)
      = (adv (v59 (ix2 0 n)) (v63 (ix2 0 n)) (acc.1 (ix2 s n), acc.2 (ix2 s n)) (arg16.view.read (Elt Ideal) f (ix2 r n)) (arg17.view.read (Elt Ideal) g (ix2 r n))).1 := by
  unfold tripR_k0_t1 trip_k0_t1
  dsimp only
  refine (p24_at _ _ _ _ _ s n).trans ?_
  rw [View.readAt_eq_ld]
  exact congrArg _ (rows_at _ k _ s n r hr)

/-- The imaginary part a trip yields. -/
theorem trip_im  (𝒱 : Variants) (c : Dev nD) (bd : Option 𝒱.V) (i : grid0.Coords) (arg1 : Memref sig .tc .vmem S4x128x512 .f32) (harg1 : arg1.IsWhole) (arg2 : Memref sig .tc .vmem S128x2048 .f32) (harg2 : arg2.IsWhole) (arg3 : Memref sig .tc .vmem S128x2048 .f32) (harg3 : arg3.IsWhole) (arg4 : Memref sig .tc .vmem S1x2048 .f32) (harg4 : arg4.IsWhole) (arg5 : Memref sig .tc .vmem S1x2048 .f32) (harg5 : arg5.IsWhole) (arg6 : Memref sig .tc .vmem S4x128x512 .bf16) (harg6 : arg6.IsWhole) (arg7 : Memref sig .tc .vmem S4x128x512 .bf16) (harg7 : arg7.IsWhole) (arg8 : Memref sig .tc .vmem S2x1024x256 .bf16) (harg8 : arg8.IsWhole) (arg9 : Memref sig .tc .vmem S2x1024x256 .bf16) (harg9 : arg9.IsWhole) (arg10 : Memref sig .tc .vmem S1x512 .f32) (harg10 : arg10.IsWhole) (arg11 : Memref sig .tc .vmem S512x512 .bf16) (harg11 : arg11.IsWhole) (arg12 : Memref sig .tc .vmem S1x512 .f32) (harg12 : arg12.IsWhole) (arg13 : Memref sig .tc .vmem S4x128x512 .f32) (harg13 : arg13.IsWhole) (arg14 : Memref sig .tc .vmem S128x2048 .f32) (harg14 : arg14.IsWhole) (arg15 : Memref sig .tc .vmem S128x2048 .f32) (harg15 : arg15.IsWhole) (arg16 : Memref sig .tc .vmem S512x2048 .f32) (harg16 : arg16.IsWhole) (arg17 : Memref sig .tc .vmem S512x2048 .f32) (harg17 : arg17.IsWhole) (v55 : FVec Ideal S512x512 .f32) (v59 : Vec Ideal S1x2048 .f32) (v63 : Vec Ideal S1x2048 .f32) (k : Fin k0_t1_loop.trips)  (acc : FVec Ideal S128x2048 .f32 × FVec Ideal S128x2048 .f32) (f g) (s : Fin 128) (n : Fin 2048) (r : Fin 512) (hr : r.val = 128 * k.val + s.val) :
    ((tripR_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v55 v59 v63 k acc f g).2 (ix2 s n) : EReal)
      = (adv (v59 (ix2 0 n)) (v63 (ix2 0 n)) (acc.1 (ix2 s n), acc.2 (ix2 s n)) (arg16.view.read (Elt Ideal) f (ix2 r n)) (arg17.view.read (Elt Ideal) g (ix2 r n))).2 := by
  unfold tripR_k0_t1 trip_k0_t1
  dsimp only
  refine (p25_at _ _ _ _ _ s n).trans ?_
  rw [View.readAt_eq_ld]
  exact congrArg _ (rows_at _ k _ s n r hr)

/-- What a trip stores lies in its own rows. -/
theorem trip_st  (𝒱 : Variants) (c : Dev nD) (bd : Option 𝒱.V) (i : grid0.Coords) (arg1 : Memref sig .tc .vmem S4x128x512 .f32) (harg1 : arg1.IsWhole) (arg2 : Memref sig .tc .vmem S128x2048 .f32) (harg2 : arg2.IsWhole) (arg3 : Memref sig .tc .vmem S128x2048 .f32) (harg3 : arg3.IsWhole) (arg4 : Memref sig .tc .vmem S1x2048 .f32) (harg4 : arg4.IsWhole) (arg5 : Memref sig .tc .vmem S1x2048 .f32) (harg5 : arg5.IsWhole) (arg6 : Memref sig .tc .vmem S4x128x512 .bf16) (harg6 : arg6.IsWhole) (arg7 : Memref sig .tc .vmem S4x128x512 .bf16) (harg7 : arg7.IsWhole) (arg8 : Memref sig .tc .vmem S2x1024x256 .bf16) (harg8 : arg8.IsWhole) (arg9 : Memref sig .tc .vmem S2x1024x256 .bf16) (harg9 : arg9.IsWhole) (arg10 : Memref sig .tc .vmem S1x512 .f32) (harg10 : arg10.IsWhole) (arg11 : Memref sig .tc .vmem S512x512 .bf16) (harg11 : arg11.IsWhole) (arg12 : Memref sig .tc .vmem S1x512 .f32) (harg12 : arg12.IsWhole) (arg13 : Memref sig .tc .vmem S4x128x512 .f32) (harg13 : arg13.IsWhole) (arg14 : Memref sig .tc .vmem S128x2048 .f32) (harg14 : arg14.IsWhole) (arg15 : Memref sig .tc .vmem S128x2048 .f32) (harg15 : arg15.IsWhole) (arg16 : Memref sig .tc .vmem S512x2048 .f32) (harg16 : arg16.IsWhole) (arg17 : Memref sig .tc .vmem S512x2048 .f32) (harg17 : arg17.IsWhole) (v55 : FVec Ideal S512x512 .f32) (v59 : Vec Ideal S1x2048 .f32) (v63 : Vec Ideal S1x2048 .f32) (k : Fin k0_t1_loop.trips)  (acc : FVec Ideal S128x2048 .f32 × FVec Ideal S128x2048 .f32) (f g) :
    (∃ inb w, (tripL_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v55 v59 v63 k acc f g).1 = [⟨Rect.unit (s := S512x2048) (k0_off1 k) ![128, 2048] inb, w⟩])
      ∧ (∃ inb w, (tripL_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v55 v59 v63 k acc f g).2 = [⟨Rect.unit (s := S512x2048) (k0_off1 k) ![128, 2048] inb, w⟩]) := by
  unfold tripL_k0_t1 trip_k0_t1
  exact ⟨⟨_, _, rfl⟩, ⟨_, _, rfl⟩⟩

/-- The rows the loop has not reached are as they were. -/
theorem rest  (𝒱 : Variants) (c : Dev nD) (bd : Option 𝒱.V) (i : grid0.Coords) (arg1 : Memref sig .tc .vmem S4x128x512 .f32) (harg1 : arg1.IsWhole) (arg2 : Memref sig .tc .vmem S128x2048 .f32) (harg2 : arg2.IsWhole) (arg3 : Memref sig .tc .vmem S128x2048 .f32) (harg3 : arg3.IsWhole) (arg4 : Memref sig .tc .vmem S1x2048 .f32) (harg4 : arg4.IsWhole) (arg5 : Memref sig .tc .vmem S1x2048 .f32) (harg5 : arg5.IsWhole) (arg6 : Memref sig .tc .vmem S4x128x512 .bf16) (harg6 : arg6.IsWhole) (arg7 : Memref sig .tc .vmem S4x128x512 .bf16) (harg7 : arg7.IsWhole) (arg8 : Memref sig .tc .vmem S2x1024x256 .bf16) (harg8 : arg8.IsWhole) (arg9 : Memref sig .tc .vmem S2x1024x256 .bf16) (harg9 : arg9.IsWhole) (arg10 : Memref sig .tc .vmem S1x512 .f32) (harg10 : arg10.IsWhole) (arg11 : Memref sig .tc .vmem S512x512 .bf16) (harg11 : arg11.IsWhole) (arg12 : Memref sig .tc .vmem S1x512 .f32) (harg12 : arg12.IsWhole) (arg13 : Memref sig .tc .vmem S4x128x512 .f32) (harg13 : arg13.IsWhole) (arg14 : Memref sig .tc .vmem S128x2048 .f32) (harg14 : arg14.IsWhole) (arg15 : Memref sig .tc .vmem S128x2048 .f32) (harg15 : arg15.IsWhole) (arg16 : Memref sig .tc .vmem S512x2048 .f32) (harg16 : arg16.IsWhole) (arg17 : Memref sig .tc .vmem S512x2048 .f32) (harg17 : arg17.IsWhole) (v55 : FVec Ideal S512x512 .f32) (v59 : Vec Ideal S1x2048 .f32) (v63 : Vec Ideal S1x2048 .f32)   (G : BufTy.Contents (Elt Ideal) arg16.view.ty) (K : BufTy.Contents (Elt Ideal) arg17.view.ty) (ini : FVec Ideal S128x2048 .f32 × FVec Ideal S128x2048 .f32) (k : ℕ) (hk : k ≤ 4) (r : Fin 512) (n : Fin 2048) (hr : 128 * k ≤ r.val) :
    arg16.view.read (Elt Ideal) (arg16.view.writes (Elt Ideal) G (st_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v55 v59 v63 G K ini k).2.1) (ix2 r n) = arg16.view.read (Elt Ideal) G (ix2 r n)
      ∧ arg17.view.read (Elt Ideal) (arg17.view.writes (Elt Ideal) K (st_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v55 v59 v63 G K ini k).2.2) (ix2 r n) = arg17.view.read (Elt Ideal) K (ix2 r n) := by
  induction k with
  | zero => exact ⟨rfl, rfl⟩
  | succ k ih =>
    have hk' : k < k0_t1_loop.trips := by rw [trips_eq]; omega
    obtain ⟨i1, i2⟩ := ih (by omega) (by omega)
    have e := st_k0_t1_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v55 v59 v63 G K ini ⟨k, hk'⟩
    have o := off_eq ⟨k, hk'⟩
    obtain ⟨⟨inb, w, e1⟩, ⟨inb', w', e2⟩⟩ := trip_st 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v55 v59 v63 ⟨k, hk'⟩ (st_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v55 v59 v63 G K ini k).1
      (arg16.view.writes (Elt Ideal) G (st_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v55 v59 v63 G K ini k).2.1) (arg17.view.writes (Elt Ideal) K (st_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v55 v59 v63 G K ini k).2.2)
    have s1 : (st_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v55 v59 v63 G K ini (k + 1)).2.1 = ⟨Rect.unit (s := S512x2048) (k0_off1 ⟨k, hk'⟩) ![128, 2048] inb, w⟩ :: (st_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v55 v59 v63 G K ini k).2.1 :=
      (congrArg (fun z => z.2.1) e).trans (congrArg (fun z => z ++ (st_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v55 v59 v63 G K ini k).2.1) e1)
    have s2 : (st_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v55 v59 v63 G K ini (k + 1)).2.2 = ⟨Rect.unit (s := S512x2048) (k0_off1 ⟨k, hk'⟩) ![128, 2048] inb', w'⟩ :: (st_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v55 v59 v63 G K ini k).2.2 :=
      (congrArg (fun z => z.2.2) e).trans (congrArg (fun z => z ++ (st_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v55 v59 v63 G K ini k).2.2) e2)
    rw [s1, s2]
    constructor
    · refine (View.read_writes_cons_rows_of_not_mem arg16.view G inb w _ (ix2 r n) o rfl (Or.inr ?_)).trans i1
      show 128 * k + 128 ≤ r.val
      omega
    · refine (View.read_writes_cons_rows_of_not_mem arg17.view K inb' w' _ (ix2 r n) o rfl (Or.inr ?_)).trans i2
      show 128 * k + 128 ≤ r.val
      omega

/-- One step of what the loop carries. -/
theorem step  (𝒱 : Variants) (c : Dev nD) (bd : Option 𝒱.V) (i : grid0.Coords) (arg1 : Memref sig .tc .vmem S4x128x512 .f32) (harg1 : arg1.IsWhole) (arg2 : Memref sig .tc .vmem S128x2048 .f32) (harg2 : arg2.IsWhole) (arg3 : Memref sig .tc .vmem S128x2048 .f32) (harg3 : arg3.IsWhole) (arg4 : Memref sig .tc .vmem S1x2048 .f32) (harg4 : arg4.IsWhole) (arg5 : Memref sig .tc .vmem S1x2048 .f32) (harg5 : arg5.IsWhole) (arg6 : Memref sig .tc .vmem S4x128x512 .bf16) (harg6 : arg6.IsWhole) (arg7 : Memref sig .tc .vmem S4x128x512 .bf16) (harg7 : arg7.IsWhole) (arg8 : Memref sig .tc .vmem S2x1024x256 .bf16) (harg8 : arg8.IsWhole) (arg9 : Memref sig .tc .vmem S2x1024x256 .bf16) (harg9 : arg9.IsWhole) (arg10 : Memref sig .tc .vmem S1x512 .f32) (harg10 : arg10.IsWhole) (arg11 : Memref sig .tc .vmem S512x512 .bf16) (harg11 : arg11.IsWhole) (arg12 : Memref sig .tc .vmem S1x512 .f32) (harg12 : arg12.IsWhole) (arg13 : Memref sig .tc .vmem S4x128x512 .f32) (harg13 : arg13.IsWhole) (arg14 : Memref sig .tc .vmem S128x2048 .f32) (harg14 : arg14.IsWhole) (arg15 : Memref sig .tc .vmem S128x2048 .f32) (harg15 : arg15.IsWhole) (arg16 : Memref sig .tc .vmem S512x2048 .f32) (harg16 : arg16.IsWhole) (arg17 : Memref sig .tc .vmem S512x2048 .f32) (harg17 : arg17.IsWhole) (v55 : FVec Ideal S512x512 .f32) (v59 : Vec Ideal S1x2048 .f32) (v63 : Vec Ideal S1x2048 .f32)   (G : BufTy.Contents (Elt Ideal) arg16.view.ty) (K : BufTy.Contents (Elt Ideal) arg17.view.ty) (ini : FVec Ideal S128x2048 .f32 × FVec Ideal S128x2048 .f32) (k : ℕ) (hk : k < 4) (s : Fin 128) (n : Fin 2048) :
    (((st_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v55 v59 v63 G K ini (k + 1)).1.1 (ix2 s n), (st_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v55 v59 v63 G K ini (k + 1)).1.2 (ix2 s n)) : EReal × EReal)
      = adv (v59 (ix2 0 n)) (v63 (ix2 0 n)) ((st_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v55 v59 v63 G K ini k).1.1 (ix2 s n), (st_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v55 v59 v63 G K ini k).1.2 (ix2 s n))
          (arg16.view.read (Elt Ideal) G (ix2 ⟨128 * k + s.val, by omega⟩ n)) (arg17.view.read (Elt Ideal) K (ix2 ⟨128 * k + s.val, by omega⟩ n)) := by
  have hk' : k < k0_t1_loop.trips := by rw [trips_eq]; omega
  have e := st_k0_t1_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v55 v59 v63 G K ini ⟨k, hk'⟩
  obtain ⟨i1, i2⟩ := rest 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v55 v59 v63 G K ini k (by omega) ⟨128 * k + s.val, by omega⟩ n (by show 128 * k ≤ 128 * k + s.val; omega)
  rw [e, ← i1, ← i2]
  exact Prod.ext (trip_re 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v55 v59 v63 ⟨k, hk'⟩ _ _ _ s n _ rfl) (trip_im 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v55 v59 v63 ⟨k, hk'⟩ _ _ _ s n _ rfl)

/-- What the loop carries at its end. -/
theorem loop_at  (𝒱 : Variants) (c : Dev nD) (bd : Option 𝒱.V) (i : grid0.Coords) (arg1 : Memref sig .tc .vmem S4x128x512 .f32) (harg1 : arg1.IsWhole) (arg2 : Memref sig .tc .vmem S128x2048 .f32) (harg2 : arg2.IsWhole) (arg3 : Memref sig .tc .vmem S128x2048 .f32) (harg3 : arg3.IsWhole) (arg4 : Memref sig .tc .vmem S1x2048 .f32) (harg4 : arg4.IsWhole) (arg5 : Memref sig .tc .vmem S1x2048 .f32) (harg5 : arg5.IsWhole) (arg6 : Memref sig .tc .vmem S4x128x512 .bf16) (harg6 : arg6.IsWhole) (arg7 : Memref sig .tc .vmem S4x128x512 .bf16) (harg7 : arg7.IsWhole) (arg8 : Memref sig .tc .vmem S2x1024x256 .bf16) (harg8 : arg8.IsWhole) (arg9 : Memref sig .tc .vmem S2x1024x256 .bf16) (harg9 : arg9.IsWhole) (arg10 : Memref sig .tc .vmem S1x512 .f32) (harg10 : arg10.IsWhole) (arg11 : Memref sig .tc .vmem S512x512 .bf16) (harg11 : arg11.IsWhole) (arg12 : Memref sig .tc .vmem S1x512 .f32) (harg12 : arg12.IsWhole) (arg13 : Memref sig .tc .vmem S4x128x512 .f32) (harg13 : arg13.IsWhole) (arg14 : Memref sig .tc .vmem S128x2048 .f32) (harg14 : arg14.IsWhole) (arg15 : Memref sig .tc .vmem S128x2048 .f32) (harg15 : arg15.IsWhole) (arg16 : Memref sig .tc .vmem S512x2048 .f32) (harg16 : arg16.IsWhole) (arg17 : Memref sig .tc .vmem S512x2048 .f32) (harg17 : arg17.IsWhole) (v55 : FVec Ideal S512x512 .f32) (v59 : Vec Ideal S1x2048 .f32) (v63 : Vec Ideal S1x2048 .f32)   (G : BufTy.Contents (Elt Ideal) arg16.view.ty) (K : BufTy.Contents (Elt Ideal) arg17.view.ty) (ini : FVec Ideal S128x2048 .f32 × FVec Ideal S128x2048 .f32) (s : Fin 128) (n : Fin 2048) :
    (((st_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v55 v59 v63 G K ini 4).1.1 (ix2 s n), (st_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v55 v59 v63 G K ini 4).1.2 (ix2 s n)) : EReal × EReal)
      = four (v59 (ix2 0 n)) (v63 (ix2 0 n)) (ini.1 (ix2 s n), ini.2 (ix2 s n))
          (fun t => arg16.view.read (Elt Ideal) G (ix2 ⟨128 * t.val + s.val, by omega⟩ n)) (fun t => arg17.view.read (Elt Ideal) K (ix2 ⟨128 * t.val + s.val, by omega⟩ n)) := by
  rw [step 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v55 v59 v63 G K ini 3 (by decide), step 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v55 v59 v63 G K ini 2 (by decide), step 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v55 v59 v63 G K ini 1 (by decide), step 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v55 v59 v63 G K ini 0 (by decide)]
  rfl

/-- The real part the loop carries at its end. -/
theorem loop_re  (𝒱 : Variants) (c : Dev nD) (bd : Option 𝒱.V) (i : grid0.Coords) (arg1 : Memref sig .tc .vmem S4x128x512 .f32) (harg1 : arg1.IsWhole) (arg2 : Memref sig .tc .vmem S128x2048 .f32) (harg2 : arg2.IsWhole) (arg3 : Memref sig .tc .vmem S128x2048 .f32) (harg3 : arg3.IsWhole) (arg4 : Memref sig .tc .vmem S1x2048 .f32) (harg4 : arg4.IsWhole) (arg5 : Memref sig .tc .vmem S1x2048 .f32) (harg5 : arg5.IsWhole) (arg6 : Memref sig .tc .vmem S4x128x512 .bf16) (harg6 : arg6.IsWhole) (arg7 : Memref sig .tc .vmem S4x128x512 .bf16) (harg7 : arg7.IsWhole) (arg8 : Memref sig .tc .vmem S2x1024x256 .bf16) (harg8 : arg8.IsWhole) (arg9 : Memref sig .tc .vmem S2x1024x256 .bf16) (harg9 : arg9.IsWhole) (arg10 : Memref sig .tc .vmem S1x512 .f32) (harg10 : arg10.IsWhole) (arg11 : Memref sig .tc .vmem S512x512 .bf16) (harg11 : arg11.IsWhole) (arg12 : Memref sig .tc .vmem S1x512 .f32) (harg12 : arg12.IsWhole) (arg13 : Memref sig .tc .vmem S4x128x512 .f32) (harg13 : arg13.IsWhole) (arg14 : Memref sig .tc .vmem S128x2048 .f32) (harg14 : arg14.IsWhole) (arg15 : Memref sig .tc .vmem S128x2048 .f32) (harg15 : arg15.IsWhole) (arg16 : Memref sig .tc .vmem S512x2048 .f32) (harg16 : arg16.IsWhole) (arg17 : Memref sig .tc .vmem S512x2048 .f32) (harg17 : arg17.IsWhole) (v55 : FVec Ideal S512x512 .f32) (v59 : Vec Ideal S1x2048 .f32) (v63 : Vec Ideal S1x2048 .f32)   (G : BufTy.Contents (Elt Ideal) arg16.view.ty) (K : BufTy.Contents (Elt Ideal) arg17.view.ty) (ini : FVec Ideal S128x2048 .f32 × FVec Ideal S128x2048 .f32) (s : Fin 128) (n : Fin 2048) :
    ((st_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v55 v59 v63 G K ini 4).1.1 (ix2 s n) : EReal)
      = (four (v59 (ix2 0 n)) (v63 (ix2 0 n)) (ini.1 (ix2 s n), ini.2 (ix2 s n))
          (fun t => arg16.view.read (Elt Ideal) G (ix2 ⟨128 * t.val + s.val, by omega⟩ n)) (fun t => arg17.view.read (Elt Ideal) K (ix2 ⟨128 * t.val + s.val, by omega⟩ n))).1 :=
  congrArg Prod.fst (loop_at 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v55 v59 v63 G K ini s n)

/-- The imaginary part the loop carries at its end. -/
theorem loop_im  (𝒱 : Variants) (c : Dev nD) (bd : Option 𝒱.V) (i : grid0.Coords) (arg1 : Memref sig .tc .vmem S4x128x512 .f32) (harg1 : arg1.IsWhole) (arg2 : Memref sig .tc .vmem S128x2048 .f32) (harg2 : arg2.IsWhole) (arg3 : Memref sig .tc .vmem S128x2048 .f32) (harg3 : arg3.IsWhole) (arg4 : Memref sig .tc .vmem S1x2048 .f32) (harg4 : arg4.IsWhole) (arg5 : Memref sig .tc .vmem S1x2048 .f32) (harg5 : arg5.IsWhole) (arg6 : Memref sig .tc .vmem S4x128x512 .bf16) (harg6 : arg6.IsWhole) (arg7 : Memref sig .tc .vmem S4x128x512 .bf16) (harg7 : arg7.IsWhole) (arg8 : Memref sig .tc .vmem S2x1024x256 .bf16) (harg8 : arg8.IsWhole) (arg9 : Memref sig .tc .vmem S2x1024x256 .bf16) (harg9 : arg9.IsWhole) (arg10 : Memref sig .tc .vmem S1x512 .f32) (harg10 : arg10.IsWhole) (arg11 : Memref sig .tc .vmem S512x512 .bf16) (harg11 : arg11.IsWhole) (arg12 : Memref sig .tc .vmem S1x512 .f32) (harg12 : arg12.IsWhole) (arg13 : Memref sig .tc .vmem S4x128x512 .f32) (harg13 : arg13.IsWhole) (arg14 : Memref sig .tc .vmem S128x2048 .f32) (harg14 : arg14.IsWhole) (arg15 : Memref sig .tc .vmem S128x2048 .f32) (harg15 : arg15.IsWhole) (arg16 : Memref sig .tc .vmem S512x2048 .f32) (harg16 : arg16.IsWhole) (arg17 : Memref sig .tc .vmem S512x2048 .f32) (harg17 : arg17.IsWhole) (v55 : FVec Ideal S512x512 .f32) (v59 : Vec Ideal S1x2048 .f32) (v63 : Vec Ideal S1x2048 .f32)   (G : BufTy.Contents (Elt Ideal) arg16.view.ty) (K : BufTy.Contents (Elt Ideal) arg17.view.ty) (ini : FVec Ideal S128x2048 .f32 × FVec Ideal S128x2048 .f32) (s : Fin 128) (n : Fin 2048) :
    ((st_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v55 v59 v63 G K ini 4).1.2 (ix2 s n) : EReal)
      = (four (v59 (ix2 0 n)) (v63 (ix2 0 n)) (ini.1 (ix2 s n), ini.2 (ix2 s n))
          (fun t => arg16.view.read (Elt Ideal) G (ix2 ⟨128 * t.val + s.val, by omega⟩ n)) (fun t => arg17.view.read (Elt Ideal) K (ix2 ⟨128 * t.val + s.val, by omega⟩ n))).2 :=
  congrArg Prod.snd (loop_at 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v55 v59 v63 G K ini s n)

end Cert.SsmSIdeal.Pure
-- ==== Proof.SsmSRun.lean ====
/-
  What the body leaves of the state, in its arguments' terms.
-/
module

public import proofs.«01_k».proof.Proof.SsmSLoop
public import Idealize.ShloMosaic.Lib.Pipeline.ValueKit
public import Idealize.ShloMosaic.Lib.WritesUnit

@[expose] public section

set_option maxRecDepth 16384

noncomputable section

namespace Cert.SsmSIdeal.Pure

open Cert.SsmSIdeal Cert.SsmSIdeal.Gen Cert.SsmMath Idealize.ShloMosaic Idealize.ShloMosaic.TcCoe Idealize.SL.Sem

/-- One input: a row's block of columns times a column of the block's matrix. -/
def part (x : Vec Ideal S4x128x512 .f32) (w : Vec Ideal S1x128x512 .bf16) (q : Fin 4) (r n : Fin 512) : EReal :=
  ∑ k : Fin 128, x (ix3 ⟨r.val / 128, by omega⟩ ⟨r.val % 128, by omega⟩ ⟨q.val * 128 + k.val, by omega⟩) * w (ix3 0 k n)

/-- One input, over the four blocks of matrices. -/
def inp (x : Vec Ideal S4x128x512 .f32) (w : Vec Ideal S4x128x512 .bf16) (t : Fin 4) (s : Fin 128) (n : Fin 2048) : EReal :=
  ∑ k : Fin 128, x (ix3 t s ⟨n.val / 512 * 128 + k.val, by omega⟩) * w (ix3 ⟨n.val / 512, by omega⟩ k ⟨n.val % 512, by omega⟩)

/-- Block 0 of the inputs' columns. -/
theorem p7_at (x : Vec Ideal S4x128x512 .f32) (w : Vec Ideal S1x128x512 .bf16) (r n : Fin 512) :
    (k0_pay7 x w (ix2 r n) : EReal) = part x w 0 r n := by
  unfold part
  pointwise [k0_pay7, k0_pay6, k0_pay5, k0_pay4]

/-- Block 0 of the inputs' columns. -/
theorem p8_at (x : Vec Ideal S4x128x512 .f32) (w : Vec Ideal S1x128x512 .bf16) (r n : Fin 512) :
    (k0_pay8 x w (ix2 r n) : EReal) = part x w 0 r n := by
  unfold part
  pointwise [k0_pay8, k0_pay6, k0_pay5, k0_pay4]

/-- Block 1 of the inputs' columns. -/
theorem p10_at (x : Vec Ideal S4x128x512 .f32) (w : Vec Ideal S1x128x512 .bf16) (r n : Fin 512) :
    (k0_pay10 x w (ix2 r n) : EReal) = part x w 1 r n := by
  unfold part
  pointwise [k0_pay10, k0_pay9, k0_pay5, k0_pay4]

/-- Block 1 of the inputs' columns. -/
theorem p12_at (x : Vec Ideal S4x128x512 .f32) (w : Vec Ideal S1x128x512 .bf16) (r n : Fin 512) :
    (k0_pay12 (k0_pay9 x) (k0_pay11 w) (ix2 r n) : EReal) = part x w 1 r n := by
  unfold part
  pointwise [k0_pay12, k0_pay11, k0_pay9, k0_pay5, k0_pay4]

/-- Block 2 of the inputs' columns. -/
theorem p14_at (x : Vec Ideal S4x128x512 .f32) (w : Vec Ideal S1x128x512 .bf16) (r n : Fin 512) :
    (k0_pay14 (k0_pay5 x) w (ix2 r n) : EReal) = part x w 2 r n := by
  unfold part
  pointwise [k0_pay14, k0_pay13, k0_pay5, k0_pay4]

/-- Block 2 of the inputs' columns. -/
theorem p15_at (x : Vec Ideal S4x128x512 .f32) (w : Vec Ideal S1x128x512 .bf16) (r n : Fin 512) :
    (k0_pay15 (k0_pay5 x) w (ix2 r n) : EReal) = part x w 2 r n := by
  unfold part
  pointwise [k0_pay15, k0_pay13, k0_pay5, k0_pay4]

/-- Block 3 of the inputs' columns. -/
theorem p17_at (x : Vec Ideal S4x128x512 .f32) (w : Vec Ideal S1x128x512 .bf16) (r n : Fin 512) :
    (k0_pay17 (k0_pay5 x) w (ix2 r n) : EReal) = part x w 3 r n := by
  unfold part
  pointwise [k0_pay17, k0_pay16, k0_pay5, k0_pay4]

/-- Block 3 of the inputs' columns. -/
theorem p19_at (x : Vec Ideal S4x128x512 .f32) (w : Vec Ideal S1x128x512 .bf16) (r n : Fin 512) :
    (k0_pay19 (k0_pay18 (k0_pay5 x) w) (ix2 r n) : EReal) = part x w 3 r n := by
  unfold part
  pointwise [k0_pay19, k0_pay18, k0_pay16, k0_pay5, k0_pay4]

/-- One entry of a block of matrices. -/
theorem mat_at (W : Vec Ideal S4x128x512 .bf16) (off : Fin 3 → ℕ) (q : Fin 4) (ho : off = ![q.val, 0, 0]) (inb) (k : Fin 128) (n : Fin 512) :
    View.ld (Val := Elt Ideal) W (Rect.unit (s := S4x128x512) off S1x128x512.size inb) (ix3 0 k n) = W (ix3 q k n) := by
  subst ho
  refine View.ld_unit_apply_of W _ _ inb _ _ fun a => ?_
  match a with
  | 0 => exact (Nat.add_zero _).symm
  | 1 => exact (Nat.zero_add _).symm
  | 2 => exact (Nat.zero_add _).symm

/-- A block of columns is the block of matrices' input. -/
theorem part_at (x : Vec Ideal S4x128x512 .f32) (W : Vec Ideal S4x128x512 .bf16) (off : Fin 3 → ℕ) (q : Fin 4) (ho : off = ![q.val, 0, 0]) (inb)
    (t : Fin 4) (s : Fin 128) (r : Fin 512) (hr : r.val = 128 * t.val + s.val) (n : Fin 2048) (j : Fin 512) (hn : n.val = q.val * 512 + j.val) :
    part x (View.ld (Val := Elt Ideal) W (Rect.unit (s := S4x128x512) off S1x128x512.size inb)) q r j = inp x W t s n := by
  unfold part inp
  refine Finset.sum_congr rfl fun k _ => ?_
  rw [mat_at W off q ho inb k j]
  have h1 : (⟨r.val / 128, by omega⟩ : Fin 4) = t := Fin.ext (by show r.val / 128 = t.val; omega)
  have h2 : (⟨r.val % 128, by omega⟩ : Fin 128) = s := Fin.ext (by show r.val % 128 = s.val; omega)
  have h3 : (⟨n.val / 512, by omega⟩ : Fin 4) = q := Fin.ext (by show n.val / 512 = q.val; omega)
  have h4 : (⟨n.val % 512, by omega⟩ : Fin 512) = j := Fin.ext (by show n.val % 512 = j.val; omega)
  have h5 : (⟨n.val / 512 * 128 + k.val, by omega⟩ : Fin 512) = ⟨q.val * 128 + k.val, by omega⟩ := Fin.ext (by show n.val / 512 * 128 + k.val = q.val * 128 + k.val; omega)
  rw [h1, h2, h3, h4, h5]

/-- Four blocks of columns, stored side by side. -/
theorem cols_at {sp : Space} (v : View sig .tc sp S512x2048 .f32) (f : v.ty.Contents (Elt Ideal)) (P0 P1 P2 P3 : FVec Ideal S512x512 .f32) (r : Fin 512) (n : Fin 2048) (z : EReal)
    (i0 i1 i2 i3)
    (h0 : ∀ j : Fin 512, n.val = 0 * 512 + j.val → P0 (ix2 r j) = z) (h1 : ∀ j : Fin 512, n.val = 1 * 512 + j.val → P1 (ix2 r j) = z)
    (h2 : ∀ j : Fin 512, n.val = 2 * 512 + j.val → P2 (ix2 r j) = z) (h3 : ∀ j : Fin 512, n.val = 3 * 512 + j.val → P3 (ix2 r j) = z) :
    v.read (Elt Ideal) (v.writes (Elt Ideal) f
      [⟨Rect.unit (s := S512x2048) ![0, 1536] S512x512.size i3, P3⟩, ⟨Rect.unit (s := S512x2048) ![0, 1024] S512x512.size i2, P2⟩,
       ⟨Rect.unit (s := S512x2048) ![0, 512] S512x512.size i1, P1⟩, ⟨Rect.unit (s := S512x2048) ![0, 0] S512x512.size i0, P0⟩]) (ix2 r n) = z := by
  have hn := n.isLt
  by_cases c3 : 1536 ≤ n.val
  · refine (View.read_writes_cons_unit_of_mem v f i3 P3 _ (ix2 r n) (ix2 r ⟨n.val - 1536, by omega⟩) rfl fun a => ?_).trans (h3 _ (by show n.val = 3 * 512 + (n.val - 1536); omega))
    match a with
    | 0 => exact (Nat.zero_add _).symm
    | 1 => show n.val = 1536 + (n.val - 1536); omega
  refine (View.read_writes_cons_unit_of_not_mem v f i3 P3 _ (ix2 r n) rfl 1 (Or.inl (by show n.val < 1536; omega))).trans ?_
  by_cases c2 : 1024 ≤ n.val
  · refine (View.read_writes_cons_unit_of_mem v f i2 P2 _ (ix2 r n) (ix2 r ⟨n.val - 1024, by omega⟩) rfl fun a => ?_).trans (h2 _ (by show n.val = 2 * 512 + (n.val - 1024); omega))
    match a with
    | 0 => exact (Nat.zero_add _).symm
    | 1 => show n.val = 1024 + (n.val - 1024); omega
  refine (View.read_writes_cons_unit_of_not_mem v f i2 P2 _ (ix2 r n) rfl 1 (Or.inl (by show n.val < 1024; omega))).trans ?_
  by_cases c1 : 512 ≤ n.val
  · refine (View.read_writes_cons_unit_of_mem v f i1 P1 _ (ix2 r n) (ix2 r ⟨n.val - 512, by omega⟩) rfl fun a => ?_).trans (h1 _ (by show n.val = 1 * 512 + (n.val - 512); omega))
    match a with
    | 0 => exact (Nat.zero_add _).symm
    | 1 => show n.val = 512 + (n.val - 512); omega
  refine (View.read_writes_cons_unit_of_not_mem v f i1 P1 _ (ix2 r n) rfl 1 (Or.inl (by show n.val < 512; omega))).trans ?_
  refine (View.read_writes_cons_unit_of_mem v f i0 P0 _ (ix2 r n) (ix2 r ⟨n.val, by omega⟩) rfl fun a => ?_).trans (h0 _ (by show n.val = 0 * 512 + n.val; omega))
  match a with
  | 0 => exact (Nat.zero_add _).symm
  | 1 => exact (Nat.zero_add _).symm

/-- A reshape to the same shape. -/
theorem p2_id (x : Vec Ideal S128x2048 .f32) : k0_pay2 (F := Ideal) x = x := shapeCast_self _ _
/-- A reshape to the same shape. -/
theorem p3_id (x : Vec Ideal S128x2048 .f32) : k0_pay3 (F := Ideal) x = x := shapeCast_self _ _
/-- A reshape to the same shape. -/
theorem p22_id (x : Vec Ideal S128x2048 .f32) : k0_pay22 (F := Ideal) x = x := shapeCast_self _ _
/-- A reshape to the same shape. -/
theorem p23_id (x : Vec Ideal S128x2048 .f32) : k0_pay23 (F := Ideal) x = x := shapeCast_self _ _

/-- A load of the whole gives the whole. -/
theorem whole3 (x : Vec Ideal S4x128x512 .f32) (inb) : View.ld (Val := Elt Ideal) x (Rect.unit (s := S4x128x512) ![0, 0, 0] ![4, 128, 512] inb) = x :=
  View.ld_unit_lit' inb x (by decide)

/-- A load of the whole gives the whole. -/
theorem whole1 (x : Vec Ideal S1x2048 .f32) (inb) : View.ld (Val := Elt Ideal) x (Rect.unit (s := S1x2048) ![0, 0] ![1, 2048] inb) = x :=
  View.ld_unit_lit' inb x (by decide)

/-- A load of the whole gives the whole. -/
theorem whole2 (x : Vec Ideal S128x2048 .f32) (inb) : View.ld (Val := Elt Ideal) x (Rect.unit (s := S128x2048) ![0, 0] S128x2048.size inb) = x :=
  View.ld_unit_lit' inb x (by decide)

/-- One entry of the real part the body leaves. -/
theorem hr_at  (c : Dev nD) (i : grid0.Coords) (arg1 : Memref sig .tc .vmem S4x128x512 .f32) (harg1 : arg1.IsWhole) (arg2 : Memref sig .tc .vmem S128x2048 .f32) (harg2 : arg2.IsWhole) (arg3 : Memref sig .tc .vmem S128x2048 .f32) (harg3 : arg3.IsWhole) (arg4 : Memref sig .tc .vmem S1x2048 .f32) (harg4 : arg4.IsWhole) (arg5 : Memref sig .tc .vmem S1x2048 .f32) (harg5 : arg5.IsWhole) (arg6 : Memref sig .tc .vmem S4x128x512 .bf16) (harg6 : arg6.IsWhole) (arg7 : Memref sig .tc .vmem S4x128x512 .bf16) (harg7 : arg7.IsWhole) (arg8 : Memref sig .tc .vmem S2x1024x256 .bf16) (harg8 : arg8.IsWhole) (arg9 : Memref sig .tc .vmem S2x1024x256 .bf16) (harg9 : arg9.IsWhole) (arg10 : Memref sig .tc .vmem S1x512 .f32) (harg10 : arg10.IsWhole) (arg11 : Memref sig .tc .vmem S512x512 .bf16) (harg11 : arg11.IsWhole) (arg12 : Memref sig .tc .vmem S1x512 .f32) (harg12 : arg12.IsWhole) (arg13 : Memref sig .tc .vmem S4x128x512 .f32) (harg13 : arg13.IsWhole) (arg14 : Memref sig .tc .vmem S128x2048 .f32) (harg14 : arg14.IsWhole) (arg15 : Memref sig .tc .vmem S128x2048 .f32) (harg15 : arg15.IsWhole) (arg16 : Memref sig .tc .vmem S512x2048 .f32) (harg16 : arg16.IsWhole) (arg17 : Memref sig .tc .vmem S512x2048 .f32) (harg17 : arg17.IsWhole) (hc0 : cond0_0 i)
    (x0 : Vec Ideal S4x128x512 .f32) (x1 : Vec Ideal S128x2048 .f32) (x2 : Vec Ideal S128x2048 .f32) (x3 : Vec Ideal S1x2048 .f32) (x4 : Vec Ideal S1x2048 .f32) (x5 : Vec Ideal S4x128x512 .bf16) (x6 : Vec Ideal S4x128x512 .bf16) (x7 : Vec Ideal S2x1024x256 .bf16) (x8 : Vec Ideal S2x1024x256 .bf16) (x9 : Vec Ideal S1x512 .f32) (x10 : Vec Ideal S512x512 .bf16) (x11 : Vec Ideal S1x512 .f32)  (s : Fin 128) (n : Fin 2048) :
    (out0_A_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 (ix2 s n) : EReal)
      = (four (x3 (ix2 0 n)) (x4 (ix2 0 n)) (x1 (ix2 s n), x2 (ix2 s n)) (fun t => inp x0 x5 t s n) (fun t => inp x0 x6 t s n)).1 := by
  unfold out0_A_13
  rw [View.read_writes_junk_eq_canon]
  unfold kernelRun0_A
  dsimp only
  rw [View.canon_cons_unit_lit' _ _ _ (by decide)]
  rw [show Scf.trips (0#32) (Scalar.addi 0#32 4#32) 1#32 = 4 from trips_eq]
  refine (loop_re (s := s) (n := n) ..).trans ?_
  refine congrArg (fun z => z.1) (congr (congr (congr (congr (congrArg four ?_) ?_) ?_) ?_) ?_)
  · rw [View.readAt_eq_ld, Memref.IsWhole.read_unread, whole1]
  · rw [View.readAt_eq_ld, Memref.IsWhole.read_unread, whole1]
  · unfold kernelRun0_A.sl.v67 kernelRun0_A.sl.v69 kernelRun0_A.sl.H13_1 kernelRun0_A.sl.H14_1
    dsimp only
    rw [p22_id, p23_id, View.readCov_cons_unit_lit' _ _ _ _ _ (by decide) (by decide), View.readCov_cons_unit_lit' _ _ _ _ _ (by decide) (by decide), p2_id, p3_id,
      View.readAt_eq_ld, View.readAt_eq_ld, Memref.IsWhole.read_unread, Memref.IsWhole.read_unread, whole2, whole2]
  · funext t
    unfold kernelRun0_A.sl.HS0_4 kernelRun0_A.sl.r_1
    simp only [View.readAt_eq_ld, Memref.IsWhole.read_unread, whole3]
    refine cols_at arg16.view _ _ _ _ _ _ n _ _ _ _ _ (fun j hj => ?_) (fun j hj => ?_) (fun j hj => ?_) (fun j hj => ?_)
    · exact (p7_at _ _ _ _).trans (part_at x0 x5 _ 0 rfl _ t s ⟨128 * t.val + s.val, by omega⟩ rfl n j hj)
    · exact (p10_at _ _ _ _).trans (part_at x0 x5 _ 1 rfl _ t s ⟨128 * t.val + s.val, by omega⟩ rfl n j hj)
    · exact (p14_at _ _ _ _).trans (part_at x0 x5 _ 2 rfl _ t s ⟨128 * t.val + s.val, by omega⟩ rfl n j hj)
    · exact (p17_at _ _ _ _).trans (part_at x0 x5 _ 3 rfl _ t s ⟨128 * t.val + s.val, by omega⟩ rfl n j hj)
  · funext t
    unfold kernelRun0_A.sl.HS1_4 kernelRun0_A.sl.r_1 kernelRun0_A.sl.r_2 kernelRun0_A.sl.r_3 kernelRun0_A.sl.r_4
    simp only [kernelRun0_A.sl.r_1, View.readAt_eq_ld, Memref.IsWhole.read_unread, whole3]
    refine cols_at arg17.view _ _ _ _ _ _ n _ _ _ _ _ (fun j hj => ?_) (fun j hj => ?_) (fun j hj => ?_) (fun j hj => ?_)
    · exact (p8_at _ _ _ _).trans (part_at x0 x6 _ 0 rfl _ t s ⟨128 * t.val + s.val, by omega⟩ rfl n j hj)
    · exact (p12_at _ _ _ _).trans (part_at x0 x6 _ 1 rfl _ t s ⟨128 * t.val + s.val, by omega⟩ rfl n j hj)
    · exact (p15_at _ _ _ _).trans (part_at x0 x6 _ 2 rfl _ t s ⟨128 * t.val + s.val, by omega⟩ rfl n j hj)
    · exact (p19_at _ _ _ _).trans (part_at x0 x6 _ 3 rfl _ t s ⟨128 * t.val + s.val, by omega⟩ rfl n j hj)

/-- One entry of the imaginary part the body leaves. -/
theorem hi_at  (c : Dev nD) (i : grid0.Coords) (arg1 : Memref sig .tc .vmem S4x128x512 .f32) (harg1 : arg1.IsWhole) (arg2 : Memref sig .tc .vmem S128x2048 .f32) (harg2 : arg2.IsWhole) (arg3 : Memref sig .tc .vmem S128x2048 .f32) (harg3 : arg3.IsWhole) (arg4 : Memref sig .tc .vmem S1x2048 .f32) (harg4 : arg4.IsWhole) (arg5 : Memref sig .tc .vmem S1x2048 .f32) (harg5 : arg5.IsWhole) (arg6 : Memref sig .tc .vmem S4x128x512 .bf16) (harg6 : arg6.IsWhole) (arg7 : Memref sig .tc .vmem S4x128x512 .bf16) (harg7 : arg7.IsWhole) (arg8 : Memref sig .tc .vmem S2x1024x256 .bf16) (harg8 : arg8.IsWhole) (arg9 : Memref sig .tc .vmem S2x1024x256 .bf16) (harg9 : arg9.IsWhole) (arg10 : Memref sig .tc .vmem S1x512 .f32) (harg10 : arg10.IsWhole) (arg11 : Memref sig .tc .vmem S512x512 .bf16) (harg11 : arg11.IsWhole) (arg12 : Memref sig .tc .vmem S1x512 .f32) (harg12 : arg12.IsWhole) (arg13 : Memref sig .tc .vmem S4x128x512 .f32) (harg13 : arg13.IsWhole) (arg14 : Memref sig .tc .vmem S128x2048 .f32) (harg14 : arg14.IsWhole) (arg15 : Memref sig .tc .vmem S128x2048 .f32) (harg15 : arg15.IsWhole) (arg16 : Memref sig .tc .vmem S512x2048 .f32) (harg16 : arg16.IsWhole) (arg17 : Memref sig .tc .vmem S512x2048 .f32) (harg17 : arg17.IsWhole) (hc0 : cond0_0 i)
    (x0 : Vec Ideal S4x128x512 .f32) (x1 : Vec Ideal S128x2048 .f32) (x2 : Vec Ideal S128x2048 .f32) (x3 : Vec Ideal S1x2048 .f32) (x4 : Vec Ideal S1x2048 .f32) (x5 : Vec Ideal S4x128x512 .bf16) (x6 : Vec Ideal S4x128x512 .bf16) (x7 : Vec Ideal S2x1024x256 .bf16) (x8 : Vec Ideal S2x1024x256 .bf16) (x9 : Vec Ideal S1x512 .f32) (x10 : Vec Ideal S512x512 .bf16) (x11 : Vec Ideal S1x512 .f32)  (s : Fin 128) (n : Fin 2048) :
    (out0_A_14 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 (ix2 s n) : EReal)
      = (four (x3 (ix2 0 n)) (x4 (ix2 0 n)) (x1 (ix2 s n), x2 (ix2 s n)) (fun t => inp x0 x5 t s n) (fun t => inp x0 x6 t s n)).2 := by
  unfold out0_A_14
  rw [View.read_writes_junk_eq_canon]
  unfold kernelRun0_A
  dsimp only
  rw [View.canon_cons_unit_lit' _ _ _ (by decide)]
  rw [show Scf.trips (0#32) (Scalar.addi 0#32 4#32) 1#32 = 4 from trips_eq]
  refine (loop_im (s := s) (n := n) ..).trans ?_
  refine congrArg (fun z => z.2) (congr (congr (congr (congr (congrArg four ?_) ?_) ?_) ?_) ?_)
  · rw [View.readAt_eq_ld, Memref.IsWhole.read_unread, whole1]
  · rw [View.readAt_eq_ld, Memref.IsWhole.read_unread, whole1]
  · unfold kernelRun0_A.sl.v67 kernelRun0_A.sl.v69 kernelRun0_A.sl.H13_1 kernelRun0_A.sl.H14_1
    dsimp only
    rw [p22_id, p23_id, View.readCov_cons_unit_lit' _ _ _ _ _ (by decide) (by decide), View.readCov_cons_unit_lit' _ _ _ _ _ (by decide) (by decide), p2_id, p3_id,
      View.readAt_eq_ld, View.readAt_eq_ld, Memref.IsWhole.read_unread, Memref.IsWhole.read_unread, whole2, whole2]
  · funext t
    unfold kernelRun0_A.sl.HS0_4 kernelRun0_A.sl.r_1
    simp only [View.readAt_eq_ld, Memref.IsWhole.read_unread, whole3]
    refine cols_at arg16.view _ _ _ _ _ _ n _ _ _ _ _ (fun j hj => ?_) (fun j hj => ?_) (fun j hj => ?_) (fun j hj => ?_)
    · exact (p7_at _ _ _ _).trans (part_at x0 x5 _ 0 rfl _ t s ⟨128 * t.val + s.val, by omega⟩ rfl n j hj)
    · exact (p10_at _ _ _ _).trans (part_at x0 x5 _ 1 rfl _ t s ⟨128 * t.val + s.val, by omega⟩ rfl n j hj)
    · exact (p14_at _ _ _ _).trans (part_at x0 x5 _ 2 rfl _ t s ⟨128 * t.val + s.val, by omega⟩ rfl n j hj)
    · exact (p17_at _ _ _ _).trans (part_at x0 x5 _ 3 rfl _ t s ⟨128 * t.val + s.val, by omega⟩ rfl n j hj)
  · funext t
    unfold kernelRun0_A.sl.HS1_4 kernelRun0_A.sl.r_1 kernelRun0_A.sl.r_2 kernelRun0_A.sl.r_3 kernelRun0_A.sl.r_4
    simp only [kernelRun0_A.sl.r_1, View.readAt_eq_ld, Memref.IsWhole.read_unread, whole3]
    refine cols_at arg17.view _ _ _ _ _ _ n _ _ _ _ _ (fun j hj => ?_) (fun j hj => ?_) (fun j hj => ?_) (fun j hj => ?_)
    · exact (p8_at _ _ _ _).trans (part_at x0 x6 _ 0 rfl _ t s ⟨128 * t.val + s.val, by omega⟩ rfl n j hj)
    · exact (p12_at _ _ _ _).trans (part_at x0 x6 _ 1 rfl _ t s ⟨128 * t.val + s.val, by omega⟩ rfl n j hj)
    · exact (p15_at _ _ _ _).trans (part_at x0 x6 _ 2 rfl _ t s ⟨128 * t.val + s.val, by omega⟩ rfl n j hj)
    · exact (p19_at _ _ _ _).trans (part_at x0 x6 _ 3 rfl _ t s ⟨128 * t.val + s.val, by omega⟩ rfl n j hj)

end Cert.SsmSIdeal.Pure
-- ==== Proof.SsmSValue.lean ====
/-
  The state the sample batch's recurrence returns, in the arguments' own terms.
-/
module

public import proofs.«01_k».proof.Proof.SsmSHost
public import proofs.«01_k».proof.Proof.SsmSRun
public import Idealize.ShloMosaic.Lib.Pipeline.ValueKit

@[expose] public section

set_option maxRecDepth 16384

noncomputable section

namespace Cert.SsmSIdeal.Pure

open Cert.SsmSIdeal Cert.SsmSIdeal.Gen Cert.SsmMath Idealize.ShloMosaic Idealize.ShloMosaic.TcCoe Idealize.SL.Sem

variable (m : (ℓ : Loc nD τ sig) → Buf (Elt Ideal) ℓ) (c : Dev nD)

/-- The group of state entry `n`. -/
def gr (n : Fin 2048) : Fin 32 := ⟨n.val / 64, by omega⟩

/-- The place of state entry `n` in its group. -/
def pl (n : Fin 2048) : Fin 64 := ⟨n.val % 64, by omega⟩

/-- One input of the recurrence: the group's channels times a column of its matrix. -/
def xi (W : FVec Ideal S16x32x64 .f32) (U : FVec Ideal S512x512 .f32) (t : Fin 4) (b : Fin 128) (g : Fin 32) (p : Fin 64) : EReal :=
  ∑ k : Fin 16, W (ix3 k g p) * U (ix2 ⟨t.val * 128 + b.val, by omega⟩ ⟨g.val * 16 + k.val, by omega⟩)

/-- Both parts of a state entry after the four steps. -/
def fin4 (b : Fin 128) (n : Fin 2048) : EReal × EReal :=
  four (m ((c.tc : Thread nD τ).loc main_arg3) (ix2 (gr n) (pl n))) (m ((c.tc : Thread nD τ).loc main_arg4) (ix2 (gr n) (pl n)))
    (m ((c.tc : Thread nD τ).loc main_arg1) (ix4 0 b (gr n) (pl n)), m ((c.tc : Thread nD τ).loc main_arg2) (ix4 0 b (gr n) (pl n)))
    (fun t => xi (m ((c.tc : Thread nD τ).loc main_arg5)) (m ((c.tc : Thread nD τ).loc main_arg0)) t b (gr n) (pl n))
    (fun t => xi (m ((c.tc : Thread nD τ).loc main_arg6)) (m ((c.tc : Thread nD τ).loc main_arg0)) t b (gr n) (pl n))

/-- The body's sum over a block's 128 columns is the group's sum over its sixteen channels. -/
theorem inp_keep (x : Vec Ideal S4x128x512 .f32) (w : Vec Ideal S4x128x512 .bf16) (W : FVec Ideal S16x32x64 .f32) (U : FVec Ideal S512x512 .f32)
    (hx : ∀ (t : Fin 4) (b : Fin 128) (k : Fin 512), (x (ix3 t b k) : EReal) = U (ix2 ⟨t.val * 128 + b.val, by omega⟩ k))
    (hw : ∀ (q : Fin 4) (k : Fin 128) (n : Fin 512), (w (ix3 q k n) : EReal)
      = keep (W (ix3 ⟨k.val % 16, by omega⟩ ⟨q.val * 8 + k.val / 16, by omega⟩ ⟨n.val % 64, by omega⟩)) (k.val / 16) (n.val / 64))
    (t : Fin 4) (s : Fin 128) (n : Fin 2048) : inp x w t s n = xi W U t s (gr n) (pl n) := by
  unfold inp xi gr pl
  refine (sum_block _ ⟨n.val % 512 / 64, by omega⟩ fun k hk => ?_).trans (Finset.sum_congr rfl fun k _ => ?_)
  · rw [hw, keep_other _ _ _ hk, mul_zero]
  · dsimp only
    rw [hw, hx]
    have hk := k.isLt
    have h1 : (n.val % 512 / 64 * 16 + k.val) / 16 = n.val % 512 / 64 := by omega
    have h2 : (⟨(n.val % 512 / 64 * 16 + k.val) % 16, by omega⟩ : Fin 16) = k := Fin.ext (by show (n.val % 512 / 64 * 16 + k.val) % 16 = k.val; omega)
    have h3 : (⟨n.val / 512 * 8 + (n.val % 512 / 64 * 16 + k.val) / 16, by omega⟩ : Fin 32) = ⟨n.val / 64, by omega⟩ :=
      Fin.ext (by show n.val / 512 * 8 + (n.val % 512 / 64 * 16 + k.val) / 16 = n.val / 64; omega)
    have h4 : (⟨n.val % 512 % 64, by omega⟩ : Fin 64) = ⟨n.val % 64, by omega⟩ := Fin.ext (by show n.val % 512 % 64 = n.val % 64; omega)
    have h5 : (⟨n.val / 512 * 128 + (n.val % 512 / 64 * 16 + k.val), by omega⟩ : Fin 512) = ⟨n.val / 64 * 16 + k.val, by omega⟩ :=
      Fin.ext (by show n.val / 512 * 128 + (n.val % 512 / 64 * 16 + k.val) = n.val / 64 * 16 + k.val; omega)
    dsimp only
    rw [h2, h3, h4, h5, h1, keep_same, mul_comm]

/-- The body's four steps are the four steps of the arguments. -/
theorem fin4_blk (t : Fin cfg0.N) (b : Fin 128) (n : Fin 2048) :
    four (iblk m c 3 t (ix2 0 n)) (iblk m c 4 t (ix2 0 n)) (iblk m c 1 t (ix2 b n), iblk m c 2 t (ix2 b n))
        (fun s => inp (iblk m c 0 t) (iblk m c 5 t) s b n) (fun s => inp (iblk m c 0 t) (iblk m c 6 t) s b n)
      = fin4 m c b n := by
  unfold fin4
  refine congr (congr (congr (congr (congrArg four ?_) ?_) ?_) ?_) ?_
  · exact (blk3 m c t 0 n).trans (a_at m c n)
  · exact (blk4 m c t 0 n).trans (b_at m c n)
  · exact Prod.ext ((blk1 m c t b n).trans (h0_at m c b n)) ((blk2 m c t b n).trans (h1_at m c b n))
  · funext s
    exact inp_keep _ _ _ _ (fun t' b' k => (blk0 m c t t' b' k).trans (u_at m c t' b' k)) (fun q k j => (blk5 m c t q k j).trans (br_at m c q k j)) s b n
  · funext s
    exact inp_keep _ _ _ _ (fun t' b' k => (blk0 m c t t' b' k).trans (u_at m c t' b' k)) (fun q k j => (blk6 m c t q k j).trans (bi_at m c q k j)) s b n

/-- The real part stored, as the body leaves it. -/
theorem hr_A (t : Fin cfg0.N) :
    (outsAt0 m c t).2.1 = out0_A_13 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) (hcond0_0 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) := by
  simp only [outsAt0]

/-- The real part stored. -/
theorem hr_pt (t : Fin cfg0.N) (b : Fin 128) (n : Fin 2048) :
    ((outsAt0 m c t).2.1 (ix2 b n) : EReal) = (fin4 m c b n).1 :=
  (congrFun (hr_A m c t) (ix2 b n)).trans ((hr_at c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) (hcond0_0 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) b n).trans (congrArg (fun z => z.1) (fin4_blk m c t b n)))

/-- The real part returned. -/
def Hr : FVec Ideal S128x2048 .f32 := fun j => (fin4 m c (j 0) (j 1)).1

/-- The real part's array. -/
theorem final13 : (dats m 0 c).arrAt 13 (cfgs 0).N = Hr m c := by
  refine (dats m 0 c).arrAt_eq_of_covers 13 _ (by decide +kernel) fun t _ y => ?_
  blk_simp
  rw [after0_13]
  idx_vars y
  rw [emb13]
  exact hr_pt m c t y0 y1

/-- The imaginary part stored, as the body leaves it. -/
theorem hi_A (t : Fin cfg0.N) :
    (outsAt0 m c t).2.2 = out0_A_14 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) (hcond0_0 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) := by
  simp only [outsAt0]

/-- The imaginary part stored. -/
theorem hi_pt (t : Fin cfg0.N) (b : Fin 128) (n : Fin 2048) :
    ((outsAt0 m c t).2.2 (ix2 b n) : EReal) = (fin4 m c b n).2 :=
  (congrFun (hi_A m c t) (ix2 b n)).trans ((hi_at c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) (hcond0_0 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) b n).trans (congrArg (fun z => z.2) (fin4_blk m c t b n)))

/-- The imaginary part returned. -/
def Hi : FVec Ideal S128x2048 .f32 := fun j => (fin4 m c (j 0) (j 1)).2

/-- The imaginary part's array. -/
theorem final14 : (dats m 0 c).arrAt 14 (cfgs 0).N = Hi m c := by
  refine (dats m 0 c).arrAt_eq_of_covers 14 _ (by decide +kernel) fun t _ y => ?_
  blk_simp
  rw [after0_14]
  idx_vars y
  rw [emb14]
  exact hi_pt m c t y0 y1

end Cert.SsmSIdeal.Pure
-- ==== Proof.SsmSRef.lean ====
/-
  The reference of the sample batch's recurrence, read at an index, step by step.
-/
module

public import proofs.«01_k».proof.Proof.SsmSMath
public import proofs.«01_k».proof.Proof.Gen.SsmSRefIdeal.Run
public import Idealize.ShloMosaic.Lib.Pipeline.ValueKit

@[expose] public section

set_option maxRecDepth 16384

noncomputable section

namespace Cert.SsmSRefIdeal.Pure

open Cert.SsmSRefIdeal Cert.SsmSRefIdeal.Gen Cert.SsmSRefIdeal.Value Cert.SsmMath Idealize.ShloMosaic Idealize.ShloMosaic.TcCoe Idealize.SL.Sem

/-- The inputs of the recurrence: each group's channels times its input matrix. -/
def xin (a5 : FVec Ideal S16x32x64 .f32) (a0 : FVec Ideal S512x512 .f32) : FVec Ideal S4x128x32x64 .f32 :=
  transpose S4x128x32x64 [2, 3, 0, 1] (Host.dotGeneral dot_S16x32x64_S4x128x32x16_S32x64x4x128_0_3_2_01_1_2 none a5 (shapeCast _ a0 shapeCasts_S512x512_S4x128x32x16)) transposes_S32x64x4x128_S4x128x32x64_2_3_0_1

/-- A group's coefficients, for every sequence. -/
def spread (a : FVec Ideal S32x64 .f32) : FVec Ideal S128x32x64 .f32 :=
  broadcastInDim S128x32x64 ![0, 1, 2] bcast_S1x32x64_S128x32x64_0_1_2 (broadcastInDim S1x32x64 ![1, 2] bcast_S32x64_S1x32x64_1_2 a)

/-- The inputs at position 0. -/
def at0 (X : FVec Ideal S4x128x32x64 .f32) : FVec Ideal S128x32x64 .f32 :=
  shapeCast _ (extractStridedSlice S1x128x32x64 ![0, 0, 0, 0] X slices_S4x128x32x64_S1x128x32x64_0_0_0_0) shapeCasts_S1x128x32x64_S128x32x64
/-- The inputs at position 1. -/
def at1 (X : FVec Ideal S4x128x32x64 .f32) : FVec Ideal S128x32x64 .f32 :=
  shapeCast _ (extractStridedSlice S1x128x32x64 ![1, 0, 0, 0] X slices_S4x128x32x64_S1x128x32x64_1_0_0_0) shapeCasts_S1x128x32x64_S128x32x64
/-- The inputs at position 2. -/
def at2 (X : FVec Ideal S4x128x32x64 .f32) : FVec Ideal S128x32x64 .f32 :=
  shapeCast _ (extractStridedSlice S1x128x32x64 ![2, 0, 0, 0] X slices_S4x128x32x64_S1x128x32x64_2_0_0_0) shapeCasts_S1x128x32x64_S128x32x64
/-- The inputs at position 3. -/
def at3 (X : FVec Ideal S4x128x32x64 .f32) : FVec Ideal S128x32x64 .f32 :=
  shapeCast _ (extractStridedSlice S1x128x32x64 ![3, 0, 0, 0] X slices_S4x128x32x64_S1x128x32x64_3_0_0_0) shapeCasts_S1x128x32x64_S128x32x64

/-- The real part after a step. -/
def re (a3 a4 : FVec Ideal S32x64 .f32) (hr hi x : FVec Ideal S128x32x64 .f32) : FVec Ideal S128x32x64 .f32 :=
  addf (subf (mulf (spread a3) hr) (mulf (spread a4) hi)) x

/-- The imaginary part after a step. -/
def im (a3 a4 : FVec Ideal S32x64 .f32) (hr hi x : FVec Ideal S128x32x64 .f32) : FVec Ideal S128x32x64 .f32 :=
  addf (addf (mulf (spread a3) hi) (mulf (spread a4) hr)) x

variable (m : (ℓ : Loc nD τ sig) → Buf (Elt Ideal) ℓ) (c : Dev nD)

/-- The real inputs. -/
def X : FVec Ideal S4x128x32x64 .f32 := xin (m ((c.tc : Thread nD τ).loc main_arg5)) (m ((c.tc : Thread nD τ).loc main_arg0))
/-- The imaginary inputs. -/
def Y : FVec Ideal S4x128x32x64 .f32 := xin (m ((c.tc : Thread nD τ).loc main_arg6)) (m ((c.tc : Thread nD τ).loc main_arg0))
/-- The real part of the state given. -/
def R0 : FVec Ideal S128x32x64 .f32 := shapeCast S128x32x64 (m ((c.tc : Thread nD τ).loc main_arg1) : FVec Ideal S1x128x32x64 .f32) shapeCasts_S1x128x32x64_S128x32x64
/-- The imaginary part of the state given. -/
def I0 : FVec Ideal S128x32x64 .f32 := shapeCast S128x32x64 (m ((c.tc : Thread nD τ).loc main_arg2) : FVec Ideal S1x128x32x64 .f32) shapeCasts_S1x128x32x64_S128x32x64
/-- The real part after one step. -/
def R1 : FVec Ideal S128x32x64 .f32 := re (m ((c.tc : Thread nD τ).loc main_arg3)) (m ((c.tc : Thread nD τ).loc main_arg4)) (R0 m c) (I0 m c) (at0 (X m c))
/-- The imaginary part after one step. -/
def I1 : FVec Ideal S128x32x64 .f32 := im (m ((c.tc : Thread nD τ).loc main_arg3)) (m ((c.tc : Thread nD τ).loc main_arg4)) (R0 m c) (I0 m c) (at0 (Y m c))
/-- The real part after two steps. -/
def R2 : FVec Ideal S128x32x64 .f32 := re (m ((c.tc : Thread nD τ).loc main_arg3)) (m ((c.tc : Thread nD τ).loc main_arg4)) (R1 m c) (I1 m c) (at1 (X m c))
/-- The imaginary part after two steps. -/
def I2 : FVec Ideal S128x32x64 .f32 := im (m ((c.tc : Thread nD τ).loc main_arg3)) (m ((c.tc : Thread nD τ).loc main_arg4)) (R1 m c) (I1 m c) (at1 (Y m c))
/-- The real part after three steps. -/
def R3 : FVec Ideal S128x32x64 .f32 := re (m ((c.tc : Thread nD τ).loc main_arg3)) (m ((c.tc : Thread nD τ).loc main_arg4)) (R2 m c) (I2 m c) (at2 (X m c))
/-- The imaginary part after three steps. -/
def I3 : FVec Ideal S128x32x64 .f32 := im (m ((c.tc : Thread nD τ).loc main_arg3)) (m ((c.tc : Thread nD τ).loc main_arg4)) (R2 m c) (I2 m c) (at2 (Y m c))
/-- The real part after four steps. -/
def R4 : FVec Ideal S128x32x64 .f32 := re (m ((c.tc : Thread nD τ).loc main_arg3)) (m ((c.tc : Thread nD τ).loc main_arg4)) (R3 m c) (I3 m c) (at3 (X m c))
/-- The imaginary part after four steps. -/
def I4 : FVec Ideal S128x32x64 .f32 := im (m ((c.tc : Thread nD τ).loc main_arg3)) (m ((c.tc : Thread nD τ).loc main_arg4)) (R3 m c) (I3 m c) (at3 (Y m c))

/-- The real part returned. -/
theorem r_eq : res_main_v87 m c = shapeCast S128x2048 (R4 m c) shapeCasts_S128x32x64_S128x2048 := by
  unfold res_main_v87 R4 R3 R2 R1 I3 I2 I1 R0 I0 re im at0 at1 at2 at3 X Y xin spread; rfl

/-- The imaginary part returned. -/
theorem i_eq : res_main_v88 m c = shapeCast S128x2048 (I4 m c) shapeCasts_S128x32x64_S128x2048 := by
  unfold res_main_v88 I4 R3 R2 R1 I3 I2 I1 R0 I0 re im at0 at1 at2 at3 X Y xin spread; rfl

/-- One input: a sum over the group's sixteen channels. -/
theorem xin_at (a5 : FVec Ideal S16x32x64 .f32) (a0 : FVec Ideal S512x512 .f32) (t : Fin 4) (b : Fin 128) (g : Fin 32) (p : Fin 64) :
    (xin a5 a0 (ix4 t b g p) : EReal)
      = ∑ k : Fin 16, a5 (ix3 k g p) * a0 (ix2 ⟨t.val * 128 + b.val, by omega⟩ ⟨g.val * 16 + k.val, by omega⟩) := by
  pointwise [xin]

/-- One entry of the inputs at position 0. -/
theorem at0_at (X : FVec Ideal S4x128x32x64 .f32) (b : Fin 128) (g : Fin 32) (p : Fin 64) : (at0 X (ix3 b g p) : EReal) = X (ix4 0 b g p) := by
  pointwise [at0]
/-- One entry of the inputs at position 1. -/
theorem at1_at (X : FVec Ideal S4x128x32x64 .f32) (b : Fin 128) (g : Fin 32) (p : Fin 64) : (at1 X (ix3 b g p) : EReal) = X (ix4 1 b g p) := by
  pointwise [at1]
/-- One entry of the inputs at position 2. -/
theorem at2_at (X : FVec Ideal S4x128x32x64 .f32) (b : Fin 128) (g : Fin 32) (p : Fin 64) : (at2 X (ix3 b g p) : EReal) = X (ix4 2 b g p) := by
  pointwise [at2]
/-- One entry of the inputs at position 3. -/
theorem at3_at (X : FVec Ideal S4x128x32x64 .f32) (b : Fin 128) (g : Fin 32) (p : Fin 64) : (at3 X (ix3 b g p) : EReal) = X (ix4 3 b g p) := by
  pointwise [at3]

/-- One entry of the real part after a step. -/
theorem re_at (a3 a4 : FVec Ideal S32x64 .f32) (hr hi x : FVec Ideal S128x32x64 .f32) (b : Fin 128) (g : Fin 32) (p : Fin 64) :
    (re a3 a4 hr hi x (ix3 b g p) : EReal)
      = a3 (ix2 g p) * hr (ix3 b g p) - a4 (ix2 g p) * hi (ix3 b g p) + x (ix3 b g p) := by
  pointwise [re, spread]

/-- One entry of the imaginary part after a step. -/
theorem im_at (a3 a4 : FVec Ideal S32x64 .f32) (hr hi x : FVec Ideal S128x32x64 .f32) (b : Fin 128) (g : Fin 32) (p : Fin 64) :
    (im a3 a4 hr hi x (ix3 b g p) : EReal)
      = a3 (ix2 g p) * hi (ix3 b g p) + a4 (ix2 g p) * hr (ix3 b g p) + x (ix3 b g p) := by
  pointwise [im, spread]

/-- One entry of a state, its leading axis dropped. -/
theorem lead_at (z : FVec Ideal S1x128x32x64 .f32) (b : Fin 128) (g : Fin 32) (p : Fin 64) :
    (shapeCast S128x32x64 z shapeCasts_S1x128x32x64_S128x32x64 (ix3 b g p) : EReal) = z (ix4 0 b g p) := by
  pointwise

/-- One entry of the real part given. -/
theorem R0_at (b : Fin 128) (g : Fin 32) (p : Fin 64) : (R0 m c (ix3 b g p) : EReal) = m ((c.tc : Thread nD τ).loc main_arg1) (ix4 0 b g p) :=
  lead_at _ b g p
/-- One entry of the imaginary part given. -/
theorem I0_at (b : Fin 128) (g : Fin 32) (p : Fin 64) : (I0 m c (ix3 b g p) : EReal) = m ((c.tc : Thread nD τ).loc main_arg2) (ix4 0 b g p) :=
  lead_at _ b g p

/-- One entry of both parts after the four steps. -/
theorem four_at (b : Fin 128) (g : Fin 32) (p : Fin 64) :
    ((R4 m c (ix3 b g p), I4 m c (ix3 b g p)) : EReal × EReal)
      = four (m ((c.tc : Thread nD τ).loc main_arg3) (ix2 g p)) (m ((c.tc : Thread nD τ).loc main_arg4) (ix2 g p))
          (m ((c.tc : Thread nD τ).loc main_arg1) (ix4 0 b g p), m ((c.tc : Thread nD τ).loc main_arg2) (ix4 0 b g p))
          (fun t => X m c (ix4 t b g p)) (fun t => Y m c (ix4 t b g p)) := by
  simp only [four, adv, R4, I4, R3, I3, R2, I2, R1, I1, re_at, im_at, at0_at, at1_at, at2_at, at3_at, R0_at, I0_at]

/-- One entry of the real part returned. -/
theorem r_at (b : Fin 128) (n : Fin 2048) : (res_main_v87 m c (ix2 b n) : EReal) = R4 m c (ix3 b ⟨n.val / 64, by omega⟩ ⟨n.val % 64, by omega⟩) := by
  rw [r_eq]
  generalize R4 m c = z
  pointwise

/-- One entry of the imaginary part returned. -/
theorem i_at (b : Fin 128) (n : Fin 2048) : (res_main_v88 m c (ix2 b n) : EReal) = I4 m c (ix3 b ⟨n.val / 64, by omega⟩ ⟨n.val % 64, by omega⟩) := by
  rw [i_eq]
  generalize I4 m c = z
  pointwise

end Cert.SsmSRefIdeal.Pure
-- ==== Proof.SsmSClaim.lean ====
/-
  The sample batch's recurrence against its reference.
-/
module

public import proofs.«01_k».proof.Defs
public import proofs.«01_k».proof.Proof.SsmSValue
public import proofs.«01_k».proof.Proof.SsmSRef
public import Idealize.ShloMosaic.Lib.Claim

@[expose] public section

set_option maxRecDepth 16384

noncomputable section

namespace Cert.SsmSPair

open Cert.SsmMath Idealize.ShloMosaic Idealize.ShloMosaic.TcCoe Idealize.SL.Sem

/-- The reference leaves its arguments alone and stops. -/
theorem refFrame : Cert.quiescent_SsmSRefIdeal := by
  intro m ρ _
  refine (θ_run Cert.SsmSRefIdeal.defs _ _).mono (fun r h => ⟨fun c => ?_, sem_eq_zero_of_no_sems (by decide) r.2⟩)
    (Cert.SsmSRefIdeal.Value.run m ρ)
  obtain ⟨_, _, ha⟩ := h c
  exact ha

variable (m : (ℓ : Loc Cert.SsmSIdeal.nD Cert.SsmSIdeal.τ Cert.SsmSIdeal.sig) → Buf (Elt Ideal) ℓ) (c : Dev Cert.SsmSIdeal.nD)
variable (m' : (ℓ : Loc Cert.SsmSRefIdeal.nD Cert.SsmSRefIdeal.τ Cert.SsmSRefIdeal.sig) → Buf (Elt Ideal) ℓ)

/-- The reference's state entry is the call's, where their arguments agree. -/
theorem entry
    (a0 : m' ((c.tc : Thread Cert.SsmSRefIdeal.nD Cert.SsmSRefIdeal.τ).loc Cert.SsmSRefIdeal.main_arg0) = m ((c.tc : Thread Cert.SsmSIdeal.nD Cert.SsmSIdeal.τ).loc Cert.SsmSIdeal.main_arg0))
    (a1 : m' ((c.tc : Thread Cert.SsmSRefIdeal.nD Cert.SsmSRefIdeal.τ).loc Cert.SsmSRefIdeal.main_arg1) = m ((c.tc : Thread Cert.SsmSIdeal.nD Cert.SsmSIdeal.τ).loc Cert.SsmSIdeal.main_arg1))
    (a2 : m' ((c.tc : Thread Cert.SsmSRefIdeal.nD Cert.SsmSRefIdeal.τ).loc Cert.SsmSRefIdeal.main_arg2) = m ((c.tc : Thread Cert.SsmSIdeal.nD Cert.SsmSIdeal.τ).loc Cert.SsmSIdeal.main_arg2))
    (a3 : m' ((c.tc : Thread Cert.SsmSRefIdeal.nD Cert.SsmSRefIdeal.τ).loc Cert.SsmSRefIdeal.main_arg3) = m ((c.tc : Thread Cert.SsmSIdeal.nD Cert.SsmSIdeal.τ).loc Cert.SsmSIdeal.main_arg3))
    (a4 : m' ((c.tc : Thread Cert.SsmSRefIdeal.nD Cert.SsmSRefIdeal.τ).loc Cert.SsmSRefIdeal.main_arg4) = m ((c.tc : Thread Cert.SsmSIdeal.nD Cert.SsmSIdeal.τ).loc Cert.SsmSIdeal.main_arg4))
    (a5 : m' ((c.tc : Thread Cert.SsmSRefIdeal.nD Cert.SsmSRefIdeal.τ).loc Cert.SsmSRefIdeal.main_arg5) = m ((c.tc : Thread Cert.SsmSIdeal.nD Cert.SsmSIdeal.τ).loc Cert.SsmSIdeal.main_arg5))
    (a6 : m' ((c.tc : Thread Cert.SsmSRefIdeal.nD Cert.SsmSRefIdeal.τ).loc Cert.SsmSRefIdeal.main_arg6) = m ((c.tc : Thread Cert.SsmSIdeal.nD Cert.SsmSIdeal.τ).loc Cert.SsmSIdeal.main_arg6))
    (b : Fin 128) (n : Fin 2048) :
    ((Cert.SsmSRefIdeal.Pure.R4 m' c (ix3 b ⟨n.val / 64, by omega⟩ ⟨n.val % 64, by omega⟩), Cert.SsmSRefIdeal.Pure.I4 m' c (ix3 b ⟨n.val / 64, by omega⟩ ⟨n.val % 64, by omega⟩)) : EReal × EReal)
      = Cert.SsmSIdeal.Pure.fin4 m c b n := by
  refine (Cert.SsmSRefIdeal.Pure.four_at m' c b _ _).trans ?_
  unfold Cert.SsmSRefIdeal.Pure.X Cert.SsmSRefIdeal.Pure.Y
  rw [a0, a1, a2, a3, a4, a5, a6]
  unfold Cert.SsmSIdeal.Pure.fin4
  refine congr (congrArg (four _ _ _) ?_) ?_
  · funext t
    exact Cert.SsmSRefIdeal.Pure.xin_at _ _ t b _ _
  · funext t
    exact Cert.SsmSRefIdeal.Pure.xin_at _ _ t b _ _

/-- Over the same arguments the two programs return the same state. -/
theorem algebraic : Cert.algebraic_SsmSIdeal_SsmSRefIdeal := by
  intro m g m' g' hpre hagree
  refine ⟨fun c => Cert.SsmSIdeal.Pure.Hr m c, fun c => Cert.SsmSIdeal.Pure.Hi m c, ?_, ?_⟩
  · refine (θ_run Cert.SsmSIdeal.defs _ _).mono (fun r h c => ?_) (Cert.SsmSIdeal.Value.run_blocks m g)
    obtain ⟨_, h0, h1, ha⟩ := h c
    exact ⟨h0.trans (Cert.SsmSIdeal.Pure.final13 m c), h1.trans (Cert.SsmSIdeal.Pure.final14 m c), ha⟩
  · refine (θ_run Cert.SsmSRefIdeal.defs _ _).mono (fun r h c => ?_) (Cert.SsmSRefIdeal.Value.run m' g')
    obtain ⟨h0, h1, ha⟩ := h c
    obtain ⟨a0, a1, a2, a3, a4, a5, a6, _⟩ := hagree c
    refine ⟨h0.trans ?_, h1.trans ?_, ha⟩
    · funext i
      idx_vars i
      exact (Cert.SsmSRefIdeal.Pure.r_at m' c i0 i1).trans (congrArg Prod.fst (entry m c m' a0 a1 a2 a3 a4 a5 a6 i0 i1))
    · funext i
      idx_vars i
      exact (Cert.SsmSRefIdeal.Pure.i_at m' c i0 i1).trans (congrArg Prod.snd (entry m c m' a0 a1 a2 a3 a4 a5 a6 i0 i1))

end Cert.SsmSPair
-- ==== Proof.lean ====
/-
  The certificate: the frames of the programs, what their ideal versions preserve, and the value claims.
-/
module

public import proofs.«01_k».proof.Defs
public import proofs.«01_k».proof.Proof.Gen.Proj.Frame
public import proofs.«01_k».proof.Proof.Gen.ProjIdeal.Frame
public import proofs.«01_k».proof.Proof.ProjClaim
public import proofs.«01_k».proof.Proof.Gen.Post.Frame
public import proofs.«01_k».proof.Proof.Gen.PostIdeal.Frame
public import proofs.«01_k».proof.Proof.PostClaim
public import proofs.«01_k».proof.Proof.Gen.ProjS.Frame
public import proofs.«01_k».proof.Proof.Gen.ProjSIdeal.Frame
public import proofs.«01_k».proof.Proof.ProjSClaim
public import proofs.«01_k».proof.Proof.Gen.PostS.Frame
public import proofs.«01_k».proof.Proof.Gen.PostSIdeal.Frame
public import proofs.«01_k».proof.Proof.PostSClaim
public import proofs.«01_k».proof.Proof.Gen.SsmS.Frame
public import proofs.«01_k».proof.Proof.Gen.SsmSIdeal.Frame
public import proofs.«01_k».proof.Proof.SsmSClaim

@[expose] public section

noncomputable section

namespace Cert.Proof

open Idealize.ShloMosaic Idealize.SL.Sem

/-- Everything the certificate claims. -/
theorem claim : Cert.Claim := ⟨Cert.Proj.Gen.facts, Cert.ProjIdeal.Gen.facts, Cert.ProjRefIdeal.Gen.facts, Cert.Post.Gen.facts, Cert.PostIdeal.Gen.facts, Cert.PostRefIdeal.Gen.facts, Cert.ProjS.Gen.facts, Cert.ProjSIdeal.Gen.facts, Cert.ProjSRefIdeal.Gen.facts, Cert.PostS.Gen.facts, Cert.PostSIdeal.Gen.facts, Cert.PostSRefIdeal.Gen.facts, Cert.SsmS.Gen.facts, Cert.SsmSIdeal.Gen.facts, Cert.SsmSRefIdeal.Gen.facts,
  fun m ρ _ => Cert.Proj.Gen.frame m ρ, fun m ρ _ => Cert.ProjIdeal.Gen.frame m ρ, Cert.ProjPair.refFrame,
  fun m ρ _ => Cert.Post.Gen.frame m ρ, fun m ρ _ => Cert.PostIdeal.Gen.frame m ρ, Cert.PostPair.refFrame,
  fun m ρ _ => Cert.ProjS.Gen.frame m ρ, fun m ρ _ => Cert.ProjSIdeal.Gen.frame m ρ, Cert.ProjSPair.refFrame,
  fun m ρ _ => Cert.PostS.Gen.frame m ρ, fun m ρ _ => Cert.PostSIdeal.Gen.frame m ρ, Cert.PostSPair.refFrame,
  fun m ρ _ => Cert.SsmS.Gen.frame m ρ, fun m ρ _ => Cert.SsmSIdeal.Gen.frame m ρ, Cert.SsmSPair.refFrame,
  trivial, Cert.ProjPair.algebraic,
  trivial, Cert.PostPair.algebraic,
  trivial, Cert.ProjSPair.algebraic,
  trivial, Cert.PostSPair.algebraic,
  trivial, Cert.SsmSPair.algebraic⟩

end Cert.Proof

end
